-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelWDown (m : (ℓ : Loc Cert.KernelWDown.nD Cert.KernelWDown.τ Cert.KernelWDown.sig) → Buf (Elt Bits) ℓ) : Prop :=
  True

def Pre_KernelWDownIdeal (m : (ℓ : Loc Cert.KernelWDownIdeal.nD Cert.KernelWDownIdeal.τ Cert.KernelWDownIdeal.sig) → Buf (Elt Ideal) ℓ) : Prop :=
  True

def Pre_ReferenceWDownIdeal (m : (ℓ : Loc Cert.ReferenceWDownIdeal.nD Cert.ReferenceWDownIdeal.τ Cert.ReferenceWDownIdeal.sig) → Buf (Elt Ideal) ℓ) : Prop :=
  True

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_KernelActIdeal_finite_act [hPre_finite_act : Cert.Pre_finite_act.Facts] (m : (ℓ : Loc Cert.KernelActIdeal.nD Cert.KernelActIdeal.τ Cert.KernelActIdeal.sig) → Buf (Elt Ideal) ℓ) : Prop :=
  ∀ c : Dev Cert.KernelActIdeal.nD,
    (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))) = (fun _ => 1#1)

def Pre_ReferenceActIdeal (m : (ℓ : Loc Cert.ReferenceActIdeal.nD Cert.ReferenceActIdeal.τ Cert.ReferenceActIdeal.sig) → Buf (Elt Ideal) ℓ) : Prop :=
  True

def Pre_ReferenceActIdeal_finite_act [hPre_finite_act : Cert.Pre_finite_act.Facts] (m : (ℓ : Loc Cert.ReferenceActIdeal.nD Cert.ReferenceActIdeal.τ Cert.ReferenceActIdeal.sig) → Buf (Elt Ideal) ℓ) : Prop :=
  ∀ c : Dev Cert.ReferenceActIdeal.nD,
    (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))) = (fun _ => 1#1)

def Pre_KernelWGate (m : (ℓ : Loc Cert.KernelWGate.nD Cert.KernelWGate.τ Cert.KernelWGate.sig) → Buf (Elt Bits) ℓ) : Prop :=
  True

def Pre_KernelWGateIdeal (m : (ℓ : Loc Cert.KernelWGateIdeal.nD Cert.KernelWGateIdeal.τ Cert.KernelWGateIdeal.sig) → Buf (Elt Ideal) ℓ) : Prop :=
  True

def Pre_ReferenceWGateIdeal (m : (ℓ : Loc Cert.ReferenceWGateIdeal.nD Cert.ReferenceWGateIdeal.τ Cert.ReferenceWGateIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelWDil (m : (ℓ : Loc Cert.KernelWDil.nD Cert.KernelWDil.τ Cert.KernelWDil.sig) → Buf (Elt Bits) ℓ) : Prop :=
  True

def Pre_KernelWDilIdeal (m : (ℓ : Loc Cert.KernelWDilIdeal.nD Cert.KernelWDilIdeal.τ Cert.KernelWDilIdeal.sig) → Buf (Elt Ideal) ℓ) : Prop :=
  True

def Pre_ReferenceWDilIdeal (m : (ℓ : Loc Cert.ReferenceWDilIdeal.nD Cert.ReferenceWDilIdeal.τ Cert.ReferenceWDilIdeal.sig) → Buf (Elt Ideal) ℓ) : Prop :=
  True

def Pre_KernelHDil (m : (ℓ : Loc Cert.KernelHDil.nD Cert.KernelHDil.τ Cert.KernelHDil.sig) → Buf (Elt Bits) ℓ) : Prop :=
  True

def Pre_KernelHDilIdeal (m : (ℓ : Loc Cert.KernelHDilIdeal.nD Cert.KernelHDilIdeal.τ Cert.KernelHDilIdeal.sig) → Buf (Elt Ideal) ℓ) : Prop :=
  True

def Pre_ReferenceHDilIdeal (m : (ℓ : Loc Cert.ReferenceHDilIdeal.nD Cert.ReferenceHDilIdeal.τ Cert.ReferenceHDilIdeal.sig) → Buf (Elt Ideal) ℓ) : Prop :=
  True

def Pre_KernelPDil (m : (ℓ : Loc Cert.KernelPDil.nD Cert.KernelPDil.τ Cert.KernelPDil.sig) → Buf (Elt Bits) ℓ) : Prop :=
  True

def Pre_KernelPDilIdeal (m : (ℓ : Loc Cert.KernelPDilIdeal.nD Cert.KernelPDilIdeal.τ Cert.KernelPDilIdeal.sig) → Buf (Elt Ideal) ℓ) : Prop :=
  True

def Pre_ReferencePDilIdeal (m : (ℓ : Loc Cert.ReferencePDilIdeal.nD Cert.ReferencePDilIdeal.τ Cert.ReferencePDilIdeal.sig) → Buf (Elt Ideal) ℓ) : Prop :=
  True

def Pre_KernelWGin (m : (ℓ : Loc Cert.KernelWGin.nD Cert.KernelWGin.τ Cert.KernelWGin.sig) → Buf (Elt Bits) ℓ) : Prop :=
  True

def Pre_KernelWGinIdeal (m : (ℓ : Loc Cert.KernelWGinIdeal.nD Cert.KernelWGinIdeal.τ Cert.KernelWGinIdeal.sig) → Buf (Elt Ideal) ℓ) : Prop :=
  True

def Pre_ReferenceWGinIdeal (m : (ℓ : Loc Cert.ReferenceWGinIdeal.nD Cert.ReferenceWGinIdeal.τ Cert.ReferenceWGinIdeal.sig) → Buf (Elt Ideal) ℓ) : Prop :=
  True

def Pre_KernelHGate (m : (ℓ : Loc Cert.KernelHGate.nD Cert.KernelHGate.τ Cert.KernelHGate.sig) → Buf (Elt Bits) ℓ) : Prop :=
  True

def Pre_KernelHGateIdeal (m : (ℓ : Loc Cert.KernelHGateIdeal.nD Cert.KernelHGateIdeal.τ Cert.KernelHGateIdeal.sig) → Buf (Elt Ideal) ℓ) : Prop :=
  True

def Pre_ReferenceHGateIdeal (m : (ℓ : Loc Cert.ReferenceHGateIdeal.nD Cert.ReferenceHGateIdeal.τ Cert.ReferenceHGateIdeal.sig) → Buf (Elt Ideal) ℓ) : Prop :=
  True

def Pre_KernelPGate (m : (ℓ : Loc Cert.KernelPGate.nD Cert.KernelPGate.τ Cert.KernelPGate.sig) → Buf (Elt Bits) ℓ) : Prop :=
  True

def Pre_KernelPGateIdeal (m : (ℓ : Loc Cert.KernelPGateIdeal.nD Cert.KernelPGateIdeal.τ Cert.KernelPGateIdeal.sig) → Buf (Elt Ideal) ℓ) : Prop :=
  True

def Pre_ReferencePGateIdeal (m : (ℓ : Loc Cert.ReferencePGateIdeal.nD Cert.ReferencePGateIdeal.τ Cert.ReferencePGateIdeal.sig) → Buf (Elt Ideal) ℓ) : Prop :=
  True

def Pre_KernelWO (m : (ℓ : Loc Cert.KernelWO.nD Cert.KernelWO.τ Cert.KernelWO.sig) → Buf (Elt Bits) ℓ) : Prop :=
  True

def Pre_KernelWOIdeal (m : (ℓ : Loc Cert.KernelWOIdeal.nD Cert.KernelWOIdeal.τ Cert.KernelWOIdeal.sig) → Buf (Elt Ideal) ℓ) : Prop :=
  True

def Pre_ReferenceWOIdeal (m : (ℓ : Loc Cert.ReferenceWOIdeal.nD Cert.ReferenceWOIdeal.τ Cert.ReferenceWOIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelWBr (m : (ℓ : Loc Cert.KernelWBr.nD Cert.KernelWBr.τ Cert.KernelWBr.sig) → Buf (Elt Bits) ℓ) : Prop :=
  True

def Pre_KernelWBrIdeal (m : (ℓ : Loc Cert.KernelWBrIdeal.nD Cert.KernelWBrIdeal.τ Cert.KernelWBrIdeal.sig) → Buf (Elt Ideal) ℓ) : Prop :=
  True

def Pre_ReferenceWBrIdeal (m : (ℓ : Loc Cert.ReferenceWBrIdeal.nD Cert.ReferenceWBrIdeal.τ Cert.ReferenceWBrIdeal.sig) → Buf (Elt Ideal) ℓ) : Prop :=
  True

def Pre_KernelOBr (m : (ℓ : Loc Cert.KernelOBr.nD Cert.KernelOBr.τ Cert.KernelOBr.sig) → Buf (Elt Bits) ℓ) : Prop :=
  True

def Pre_KernelOBrIdeal (m : (ℓ : Loc Cert.KernelOBrIdeal.nD Cert.KernelOBrIdeal.τ Cert.KernelOBrIdeal.sig) → Buf (Elt Ideal) ℓ) : Prop :=
  True

def Pre_ReferenceOBrIdeal (m : (ℓ : Loc Cert.ReferenceOBrIdeal.nD Cert.ReferenceOBrIdeal.τ Cert.ReferenceOBrIdeal.sig) → Buf (Elt Ideal) ℓ) : Prop :=
  True

def Pre_KernelBr (m : (ℓ : Loc Cert.KernelBr.nD Cert.KernelBr.τ Cert.KernelBr.sig) → Buf (Elt Bits) ℓ) : Prop :=
  True

def Pre_KernelBrIdeal (m : (ℓ : Loc Cert.KernelBrIdeal.nD Cert.KernelBrIdeal.τ Cert.KernelBrIdeal.sig) → Buf (Elt Ideal) ℓ) : Prop :=
  True

def Pre_ReferenceBrIdeal (m : (ℓ : Loc Cert.ReferenceBrIdeal.nD Cert.ReferenceBrIdeal.τ Cert.ReferenceBrIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelPLat (m : (ℓ : Loc Cert.KernelPLat.nD Cert.KernelPLat.τ Cert.KernelPLat.sig) → Buf (Elt Bits) ℓ) : Prop :=
  True

def Pre_KernelPLatIdeal (m : (ℓ : Loc Cert.KernelPLatIdeal.nD Cert.KernelPLatIdeal.τ Cert.KernelPLatIdeal.sig) → Buf (Elt Ideal) ℓ) : Prop :=
  True

def Pre_ReferencePLatIdeal (m : (ℓ : Loc Cert.ReferencePLatIdeal.nD Cert.ReferencePLatIdeal.τ Cert.ReferencePLatIdeal.sig) → Buf (Elt Ideal) ℓ) : Prop :=
  True

def Pre_KernelQUp (m : (ℓ : Loc Cert.KernelQUp.nD Cert.KernelQUp.τ Cert.KernelQUp.sig) → Buf (Elt Bits) ℓ) : Prop :=
  True

def Pre_KernelQUpIdeal (m : (ℓ : Loc Cert.KernelQUpIdeal.nD Cert.KernelQUpIdeal.τ Cert.KernelQUpIdeal.sig) → Buf (Elt Ideal) ℓ) : Prop :=
  True

def Pre_ReferenceQUpIdeal (m : (ℓ : Loc Cert.ReferenceQUpIdeal.nD Cert.ReferenceQUpIdeal.τ Cert.ReferenceQUpIdeal.sig) → Buf (Elt Ideal) ℓ) : Prop :=
  True

def Pre_KernelKvUp (m : (ℓ : Loc Cert.KernelKvUp.nD Cert.KernelKvUp.τ Cert.KernelKvUp.sig) → Buf (Elt Bits) ℓ) : Prop :=
  True

def Pre_KernelKvUpIdeal (m : (ℓ : Loc Cert.KernelKvUpIdeal.nD Cert.KernelKvUpIdeal.τ Cert.KernelKvUpIdeal.sig) → Buf (Elt Ideal) ℓ) : Prop :=
  True

def Pre_ReferenceKvUpIdeal (m : (ℓ : Loc Cert.ReferenceKvUpIdeal.nD Cert.ReferenceKvUpIdeal.τ Cert.ReferenceKvUpIdeal.sig) → Buf (Elt Ideal) ℓ) : Prop :=
  True

def Pre_KernelPleG (m : (ℓ : Loc Cert.KernelPleG.nD Cert.KernelPleG.τ Cert.KernelPleG.sig) → Buf (Elt Bits) ℓ) : Prop :=
  True

def Pre_KernelPleGIdeal (m : (ℓ : Loc Cert.KernelPleGIdeal.nD Cert.KernelPleGIdeal.τ Cert.KernelPleGIdeal.sig) → Buf (Elt Ideal) ℓ) : Prop :=
  True

def Pre_ReferencePleGIdeal (m : (ℓ : Loc Cert.ReferencePleGIdeal.nD Cert.ReferencePleGIdeal.τ Cert.ReferencePleGIdeal.sig) → Buf (Elt Ideal) ℓ) : Prop :=
  True

def Pre_KernelPleN (m : (ℓ : Loc Cert.KernelPleN.nD Cert.KernelPleN.τ Cert.KernelPleN.sig) → Buf (Elt Bits) ℓ) : Prop :=
  True

def Pre_KernelPleNIdeal (m : (ℓ : Loc Cert.KernelPleNIdeal.nD Cert.KernelPleNIdeal.τ Cert.KernelPleNIdeal.sig) → Buf (Elt Ideal) ℓ) : Prop :=
  True

def Pre_ReferencePleNIdeal (m : (ℓ : Loc Cert.ReferencePleNIdeal.nD Cert.ReferencePleNIdeal.τ Cert.ReferencePleNIdeal.sig) → Buf (Elt Ideal) ℓ) : Prop :=
  True

def Pre_KernelWLat (m : (ℓ : Loc Cert.KernelWLat.nD Cert.KernelWLat.τ Cert.KernelWLat.sig) → Buf (Elt Bits) ℓ) : Prop :=
  True

def Pre_KernelWLatIdeal (m : (ℓ : Loc Cert.KernelWLatIdeal.nD Cert.KernelWLatIdeal.τ Cert.KernelWLatIdeal.sig) → Buf (Elt Ideal) ℓ) : Prop :=
  True

def Pre_ReferenceWLatIdeal (m : (ℓ : Loc Cert.ReferenceWLatIdeal.nD Cert.ReferenceWLatIdeal.τ Cert.ReferenceWLatIdeal.sig) → Buf (Elt Ideal) ℓ) : Prop :=
  True

def Pre_KernelWUq (m : (ℓ : Loc Cert.KernelWUq.nD Cert.KernelWUq.τ Cert.KernelWUq.sig) → Buf (Elt Bits) ℓ) : Prop :=
  True

def Pre_KernelWUqIdeal (m : (ℓ : Loc Cert.KernelWUqIdeal.nD Cert.KernelWUqIdeal.τ Cert.KernelWUqIdeal.sig) → Buf (Elt Ideal) ℓ) : Prop :=
  True

def Pre_ReferenceWUqIdeal (m : (ℓ : Loc Cert.ReferenceWUqIdeal.nD Cert.ReferenceWUqIdeal.τ Cert.ReferenceWUqIdeal.sig) → Buf (Elt Ideal) ℓ) : Prop :=
  True

def Pre_KernelWUkv (m : (ℓ : Loc Cert.KernelWUkv.nD Cert.KernelWUkv.τ Cert.KernelWUkv.sig) → Buf (Elt Bits) ℓ) : Prop :=
  True

def Pre_KernelWUkvIdeal (m : (ℓ : Loc Cert.KernelWUkvIdeal.nD Cert.KernelWUkvIdeal.τ Cert.KernelWUkvIdeal.sig) → Buf (Elt Ideal) ℓ) : Prop :=
  True

def Pre_ReferenceWUkvIdeal (m : (ℓ : Loc Cert.ReferenceWUkvIdeal.nD Cert.ReferenceWUkvIdeal.τ Cert.ReferenceWUkvIdeal.sig) → Buf (Elt Ideal) ℓ) : Prop :=
  True

def Pre_KernelCq (m : (ℓ : Loc Cert.KernelCq.nD Cert.KernelCq.τ Cert.KernelCq.sig) → Buf (Elt Bits) ℓ) : Prop :=
  True

def Pre_KernelCqIdeal (m : (ℓ : Loc Cert.KernelCqIdeal.nD Cert.KernelCqIdeal.τ Cert.KernelCqIdeal.sig) → Buf (Elt Ideal) ℓ) : Prop :=
  True

def Pre_ReferenceCqIdeal (m : (ℓ : Loc Cert.ReferenceCqIdeal.nD Cert.ReferenceCqIdeal.τ Cert.ReferenceCqIdeal.sig) → Buf (Elt Ideal) ℓ) : Prop :=
  True

def Pre_KernelCkv (m : (ℓ : Loc Cert.KernelCkv.nD Cert.KernelCkv.τ Cert.KernelCkv.sig) → Buf (Elt Bits) ℓ) : Prop :=
  True

def Pre_KernelCkvIdeal (m : (ℓ : Loc Cert.KernelCkvIdeal.nD Cert.KernelCkvIdeal.τ Cert.KernelCkvIdeal.sig) → Buf (Elt Ideal) ℓ) : Prop :=
  True

def Pre_ReferenceCkvIdeal (m : (ℓ : Loc Cert.ReferenceCkvIdeal.nD Cert.ReferenceCkvIdeal.τ Cert.ReferenceCkvIdeal.sig) → Buf (Elt Ideal) ℓ) : Prop :=
  True

def Pre_KernelOMla (m : (ℓ : Loc Cert.KernelOMla.nD Cert.KernelOMla.τ Cert.KernelOMla.sig) → Buf (Elt Bits) ℓ) : Prop :=
  True

def Pre_KernelOMlaIdeal (m : (ℓ : Loc Cert.KernelOMlaIdeal.nD Cert.KernelOMlaIdeal.τ Cert.KernelOMlaIdeal.sig) → Buf (Elt Ideal) ℓ) : Prop :=
  True

def Pre_ReferenceOMlaIdeal (m : (ℓ : Loc Cert.ReferenceOMlaIdeal.nD Cert.ReferenceOMlaIdeal.τ Cert.ReferenceOMlaIdeal.sig) → Buf (Elt Ideal) ℓ) : Prop :=
  True

def Pre_KernelRms (m : (ℓ : Loc Cert.KernelRms.nD Cert.KernelRms.τ Cert.KernelRms.sig) → Buf (Elt Bits) ℓ) : Prop :=
  True

def Pre_KernelRmsIdeal (m : (ℓ : Loc Cert.KernelRmsIdeal.nD Cert.KernelRmsIdeal.τ Cert.KernelRmsIdeal.sig) → Buf (Elt Ideal) ℓ) : Prop :=
  True

def Pre_ReferenceRmsIdeal (m : (ℓ : Loc Cert.ReferenceRmsIdeal.nD Cert.ReferenceRmsIdeal.τ Cert.ReferenceRmsIdeal.sig) → Buf (Elt Ideal) ℓ) : Prop :=
  True

def Pre_KernelGMerge (m : (ℓ : Loc Cert.KernelGMerge.nD Cert.KernelGMerge.τ Cert.KernelGMerge.sig) → Buf (Elt Bits) ℓ) : Prop :=
  True

def Pre_KernelGMergeIdeal (m : (ℓ : Loc Cert.KernelGMergeIdeal.nD Cert.KernelGMergeIdeal.τ Cert.KernelGMergeIdeal.sig) → Buf (Elt Ideal) ℓ) : Prop :=
  True

def Pre_ReferenceGMergeIdeal (m : (ℓ : Loc Cert.ReferenceGMergeIdeal.nD Cert.ReferenceGMergeIdeal.τ Cert.ReferenceGMergeIdeal.sig) → Buf (Elt Ideal) ℓ) : Prop :=
  True

def Pre_KernelGBwd (m : (ℓ : Loc Cert.KernelGBwd.nD Cert.KernelGBwd.τ Cert.KernelGBwd.sig) → Buf (Elt Bits) ℓ) : Prop :=
  True

def Pre_KernelGBwdIdeal (m : (ℓ : Loc Cert.KernelGBwdIdeal.nD Cert.KernelGBwdIdeal.τ Cert.KernelGBwdIdeal.sig) → Buf (Elt Ideal) ℓ) : Prop :=
  True

def Pre_ReferenceGBwdIdeal (m : (ℓ : Loc Cert.ReferenceGBwdIdeal.nD Cert.ReferenceGBwdIdeal.τ Cert.ReferenceGBwdIdeal.sig) → Buf (Elt Ideal) ℓ) : Prop :=
  True

def Pre_KernelRmsB (m : (ℓ : Loc Cert.KernelRmsB.nD Cert.KernelRmsB.τ Cert.KernelRmsB.sig) → Buf (Elt Bits) ℓ) : Prop :=
  True

def Pre_KernelRmsBIdeal (m : (ℓ : Loc Cert.KernelRmsBIdeal.nD Cert.KernelRmsBIdeal.τ Cert.KernelRmsBIdeal.sig) → Buf (Elt Ideal) ℓ) : Prop :=
  True

def Pre_ReferenceRmsBIdeal (m : (ℓ : Loc Cert.ReferenceRmsBIdeal.nD Cert.ReferenceRmsBIdeal.τ Cert.ReferenceRmsBIdeal.sig) → Buf (Elt Ideal) ℓ) : Prop :=
  True

def Pre_KernelLatF (m : (ℓ : Loc Cert.KernelLatF.nD Cert.KernelLatF.τ Cert.KernelLatF.sig) → Buf (Elt Bits) ℓ) : Prop :=
  True

def Pre_KernelLatFIdeal (m : (ℓ : Loc Cert.KernelLatFIdeal.nD Cert.KernelLatFIdeal.τ Cert.KernelLatFIdeal.sig) → Buf (Elt Ideal) ℓ) : Prop :=
  True

def Pre_ReferenceLatFIdeal (m : (ℓ : Loc Cert.ReferenceLatFIdeal.nD Cert.ReferenceLatFIdeal.τ Cert.ReferenceLatFIdeal.sig) → Buf (Elt Ideal) ℓ) : Prop :=
  True

def Pre_KernelLatB (m : (ℓ : Loc Cert.KernelLatB.nD Cert.KernelLatB.τ Cert.KernelLatB.sig) → Buf (Elt Bits) ℓ) : Prop :=
  True

def Pre_KernelLatBIdeal (m : (ℓ : Loc Cert.KernelLatBIdeal.nD Cert.KernelLatBIdeal.τ Cert.KernelLatBIdeal.sig) → Buf (Elt Ideal) ℓ) : Prop :=
  True

def Pre_ReferenceLatBIdeal (m : (ℓ : Loc Cert.ReferenceLatBIdeal.nD Cert.ReferenceLatBIdeal.τ Cert.ReferenceLatBIdeal.sig) → Buf (Elt Ideal) ℓ) : Prop :=
  True

def Pre_KernelPle (m : (ℓ : Loc Cert.KernelPle.nD Cert.KernelPle.τ Cert.KernelPle.sig) → Buf (Elt Bits) ℓ) : Prop :=
  True

def Pre_KernelPleIdeal (m : (ℓ : Loc Cert.KernelPleIdeal.nD Cert.KernelPleIdeal.τ Cert.KernelPleIdeal.sig) → Buf (Elt Ideal) ℓ) : Prop :=
  True

def Pre_ReferencePleIdeal (m : (ℓ : Loc Cert.ReferencePleIdeal.nD Cert.ReferencePleIdeal.τ Cert.ReferencePleIdeal.sig) → Buf (Elt Ideal) ℓ) : Prop :=
  True

def Pre_KernelDelta (m : (ℓ : Loc Cert.KernelDelta.nD Cert.KernelDelta.τ Cert.KernelDelta.sig) → Buf (Elt Bits) ℓ) : Prop :=
  True

def Pre_KernelDeltaIdeal (m : (ℓ : Loc Cert.KernelDeltaIdeal.nD Cert.KernelDeltaIdeal.τ Cert.KernelDeltaIdeal.sig) → Buf (Elt Ideal) ℓ) : Prop :=
  True

def Pre_ReferenceDeltaIdeal (m : (ℓ : Loc Cert.ReferenceDeltaIdeal.nD Cert.ReferenceDeltaIdeal.τ Cert.ReferenceDeltaIdeal.sig) → Buf (Elt Ideal) ℓ) : Prop :=
  True

def Pre_KernelDMerge (m : (ℓ : Loc Cert.KernelDMerge.nD Cert.KernelDMerge.τ Cert.KernelDMerge.sig) → Buf (Elt Bits) ℓ) : Prop :=
  True

def Pre_KernelDMergeIdeal (m : (ℓ : Loc Cert.KernelDMergeIdeal.nD Cert.KernelDMergeIdeal.τ Cert.KernelDMergeIdeal.sig) → Buf (Elt Ideal) ℓ) : Prop :=
  True

def Pre_ReferenceDMergeIdeal (m : (ℓ : Loc Cert.ReferenceDMergeIdeal.nD Cert.ReferenceDMergeIdeal.τ Cert.ReferenceDMergeIdeal.sig) → Buf (Elt Ideal) ℓ) : Prop :=
  True

def Pre_KernelGains (m : (ℓ : Loc Cert.KernelGains.nD Cert.KernelGains.τ Cert.KernelGains.sig) → Buf (Elt Bits) ℓ) : Prop :=
  True

def Pre_KernelGainsIdeal (m : (ℓ : Loc Cert.KernelGainsIdeal.nD Cert.KernelGainsIdeal.τ Cert.KernelGainsIdeal.sig) → Buf (Elt Ideal) ℓ) : Prop :=
  True

def Pre_ReferenceGainsIdeal (m : (ℓ : Loc Cert.ReferenceGainsIdeal.nD Cert.ReferenceGainsIdeal.τ Cert.ReferenceGainsIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelWDown [hKernelWDown : Cert.KernelWDown.Facts] : Prop :=
  ∀ (m : (ℓ : Loc Cert.KernelWDown.nD Cert.KernelWDown.τ Cert.KernelWDown.sig) → Buf (Elt Bits) ℓ) (g : Dev Cert.KernelWDown.nD → PrngReg), Pre_KernelWDown m →
    θ_run (Cert.KernelWDown.defs (F := Bits)) (onTc (τ := Cert.KernelWDown.τ) (Cert.KernelWDown.main (F := Bits))) ⟨m, fun _ => 0, g⟩ (fun r => (∀ c : Dev Cert.KernelWDown.nD,
      r.2.mem ((c.tc : Thread Cert.KernelWDown.nD Cert.KernelWDown.τ).loc Cert.KernelWDown.main_arg0) = m ((c.tc : Thread Cert.KernelWDown.nD Cert.KernelWDown.τ).loc Cert.KernelWDown.main_arg0)
      ∧ r.2.mem ((c.tc : Thread Cert.KernelWDown.nD Cert.KernelWDown.τ).loc Cert.KernelWDown.main_arg1) = m ((c.tc : Thread Cert.KernelWDown.nD Cert.KernelWDown.τ).loc Cert.KernelWDown.main_arg1))
      ∧ r.2.sem = fun _ => 0)

def quiescent_KernelWDownIdeal [hKernelWDownIdeal : Cert.KernelWDownIdeal.Facts] : Prop :=
  ∀ (m : (ℓ : Loc Cert.KernelWDownIdeal.nD Cert.KernelWDownIdeal.τ Cert.KernelWDownIdeal.sig) → Buf (Elt Ideal) ℓ) (g : Dev Cert.KernelWDownIdeal.nD → PrngReg), Pre_KernelWDownIdeal m →
    θ_run (Cert.KernelWDownIdeal.defs (F := Ideal)) (onTc (τ := Cert.KernelWDownIdeal.τ) (Cert.KernelWDownIdeal.main (F := Ideal))) ⟨m, fun _ => 0, g⟩ (fun r => (∀ c : Dev Cert.KernelWDownIdeal.nD,
      r.2.mem ((c.tc : Thread Cert.KernelWDownIdeal.nD Cert.KernelWDownIdeal.τ).loc Cert.KernelWDownIdeal.main_arg0) = m ((c.tc : Thread Cert.KernelWDownIdeal.nD Cert.KernelWDownIdeal.τ).loc Cert.KernelWDownIdeal.main_arg0)
      ∧ r.2.mem ((c.tc : Thread Cert.KernelWDownIdeal.nD Cert.KernelWDownIdeal.τ).loc Cert.KernelWDownIdeal.main_arg1) = m ((c.tc : Thread Cert.KernelWDownIdeal.nD Cert.KernelWDownIdeal.τ).loc Cert.KernelWDownIdeal.main_arg1))
      ∧ r.2.sem = fun _ => 0)

def quiescent_ReferenceWDownIdeal [hReferenceWDownIdeal : Cert.ReferenceWDownIdeal.Facts] : Prop :=
  ∀ (m : (ℓ : Loc Cert.ReferenceWDownIdeal.nD Cert.ReferenceWDownIdeal.τ Cert.ReferenceWDownIdeal.sig) → Buf (Elt Ideal) ℓ) (g : Dev Cert.ReferenceWDownIdeal.nD → PrngReg), Pre_ReferenceWDownIdeal m →
    θ_run (Cert.ReferenceWDownIdeal.defs (F := Ideal)) (onTc (τ := Cert.ReferenceWDownIdeal.τ) (Cert.ReferenceWDownIdeal.main (F := Ideal))) ⟨m, fun _ => 0, g⟩ (fun r => (∀ c : Dev Cert.ReferenceWDownIdeal.nD,
      r.2.mem ((c.tc : Thread Cert.ReferenceWDownIdeal.nD Cert.ReferenceWDownIdeal.τ).loc Cert.ReferenceWDownIdeal.main_arg0) = m ((c.tc : Thread Cert.ReferenceWDownIdeal.nD Cert.ReferenceWDownIdeal.τ).loc Cert.ReferenceWDownIdeal.main_arg0)
      ∧ r.2.mem ((c.tc : Thread Cert.ReferenceWDownIdeal.nD Cert.ReferenceWDownIdeal.τ).loc Cert.ReferenceWDownIdeal.main_arg1) = m ((c.tc : Thread Cert.ReferenceWDownIdeal.nD Cert.ReferenceWDownIdeal.τ).loc Cert.ReferenceWDownIdeal.main_arg1))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1)
      ∧ r.2.mem ((c.tc : Thread Cert.KernelAct.nD Cert.KernelAct.τ).loc Cert.KernelAct.main_arg2) = m ((c.tc : Thread Cert.KernelAct.nD Cert.KernelAct.τ).loc Cert.KernelAct.main_arg2)
      ∧ r.2.mem ((c.tc : Thread Cert.KernelAct.nD Cert.KernelAct.τ).loc Cert.KernelAct.main_arg3) = m ((c.tc : Thread Cert.KernelAct.nD Cert.KernelAct.τ).loc Cert.KernelAct.main_arg3))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_KernelActIdeal_pre_finite_act [hKernelActIdeal : Cert.KernelActIdeal.Facts] [hPre_finite_act : Cert.Pre_finite_act.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal_finite_act m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_ReferenceActIdeal_pre_finite_act [hReferenceActIdeal : Cert.ReferenceActIdeal.Facts] [hPre_finite_act : Cert.Pre_finite_act.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal_finite_act m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_KernelWGate [hKernelWGate : Cert.KernelWGate.Facts] : Prop :=
  ∀ (m : (ℓ : Loc Cert.KernelWGate.nD Cert.KernelWGate.τ Cert.KernelWGate.sig) → Buf (Elt Bits) ℓ) (g : Dev Cert.KernelWGate.nD → PrngReg), Pre_KernelWGate m →
    θ_run (Cert.KernelWGate.defs (F := Bits)) (onTc (τ := Cert.KernelWGate.τ) (Cert.KernelWGate.main (F := Bits))) ⟨m, fun _ => 0, g⟩ (fun r => (∀ c : Dev Cert.KernelWGate.nD,
      r.2.mem ((c.tc : Thread Cert.KernelWGate.nD Cert.KernelWGate.τ).loc Cert.KernelWGate.main_arg0) = m ((c.tc : Thread Cert.KernelWGate.nD Cert.KernelWGate.τ).loc Cert.KernelWGate.main_arg0)
      ∧ r.2.mem ((c.tc : Thread Cert.KernelWGate.nD Cert.KernelWGate.τ).loc Cert.KernelWGate.main_arg1) = m ((c.tc : Thread Cert.KernelWGate.nD Cert.KernelWGate.τ).loc Cert.KernelWGate.main_arg1))
      ∧ r.2.sem = fun _ => 0)

def quiescent_KernelWGateIdeal [hKernelWGateIdeal : Cert.KernelWGateIdeal.Facts] : Prop :=
  ∀ (m : (ℓ : Loc Cert.KernelWGateIdeal.nD Cert.KernelWGateIdeal.τ Cert.KernelWGateIdeal.sig) → Buf (Elt Ideal) ℓ) (g : Dev Cert.KernelWGateIdeal.nD → PrngReg), Pre_KernelWGateIdeal m →
    θ_run (Cert.KernelWGateIdeal.defs (F := Ideal)) (onTc (τ := Cert.KernelWGateIdeal.τ) (Cert.KernelWGateIdeal.main (F := Ideal))) ⟨m, fun _ => 0, g⟩ (fun r => (∀ c : Dev Cert.KernelWGateIdeal.nD,
      r.2.mem ((c.tc : Thread Cert.KernelWGateIdeal.nD Cert.KernelWGateIdeal.τ).loc Cert.KernelWGateIdeal.main_arg0) = m ((c.tc : Thread Cert.KernelWGateIdeal.nD Cert.KernelWGateIdeal.τ).loc Cert.KernelWGateIdeal.main_arg0)
      ∧ r.2.mem ((c.tc : Thread Cert.KernelWGateIdeal.nD Cert.KernelWGateIdeal.τ).loc Cert.KernelWGateIdeal.main_arg1) = m ((c.tc : Thread Cert.KernelWGateIdeal.nD Cert.KernelWGateIdeal.τ).loc Cert.KernelWGateIdeal.main_arg1))
      ∧ r.2.sem = fun _ => 0)

def quiescent_ReferenceWGateIdeal [hReferenceWGateIdeal : Cert.ReferenceWGateIdeal.Facts] : Prop :=
  ∀ (m : (ℓ : Loc Cert.ReferenceWGateIdeal.nD Cert.ReferenceWGateIdeal.τ Cert.ReferenceWGateIdeal.sig) → Buf (Elt Ideal) ℓ) (g : Dev Cert.ReferenceWGateIdeal.nD → PrngReg), Pre_ReferenceWGateIdeal m →
    θ_run (Cert.ReferenceWGateIdeal.defs (F := Ideal)) (onTc (τ := Cert.ReferenceWGateIdeal.τ) (Cert.ReferenceWGateIdeal.main (F := Ideal))) ⟨m, fun _ => 0, g⟩ (fun r => (∀ c : Dev Cert.ReferenceWGateIdeal.nD,
      r.2.mem ((c.tc : Thread Cert.ReferenceWGateIdeal.nD Cert.ReferenceWGateIdeal.τ).loc Cert.ReferenceWGateIdeal.main_arg0) = m ((c.tc : Thread Cert.ReferenceWGateIdeal.nD Cert.ReferenceWGateIdeal.τ).loc Cert.ReferenceWGateIdeal.main_arg0)
      ∧ r.2.mem ((c.tc : Thread Cert.ReferenceWGateIdeal.nD Cert.ReferenceWGateIdeal.τ).loc Cert.ReferenceWGateIdeal.main_arg1) = m ((c.tc : Thread Cert.ReferenceWGateIdeal.nD Cert.ReferenceWGateIdeal.τ).loc Cert.ReferenceWGateIdeal.main_arg1))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def quiescent_KernelWDil [hKernelWDil : Cert.KernelWDil.Facts] : Prop :=
  ∀ (m : (ℓ : Loc Cert.KernelWDil.nD Cert.KernelWDil.τ Cert.KernelWDil.sig) → Buf (Elt Bits) ℓ) (g : Dev Cert.KernelWDil.nD → PrngReg), Pre_KernelWDil m →
    θ_run (Cert.KernelWDil.defs (F := Bits)) (onTc (τ := Cert.KernelWDil.τ) (Cert.KernelWDil.main (F := Bits))) ⟨m, fun _ => 0, g⟩ (fun r => (∀ c : Dev Cert.KernelWDil.nD,
      r.2.mem ((c.tc : Thread Cert.KernelWDil.nD Cert.KernelWDil.τ).loc Cert.KernelWDil.main_arg0) = m ((c.tc : Thread Cert.KernelWDil.nD Cert.KernelWDil.τ).loc Cert.KernelWDil.main_arg0)
      ∧ r.2.mem ((c.tc : Thread Cert.KernelWDil.nD Cert.KernelWDil.τ).loc Cert.KernelWDil.main_arg1) = m ((c.tc : Thread Cert.KernelWDil.nD Cert.KernelWDil.τ).loc Cert.KernelWDil.main_arg1))
      ∧ r.2.sem = fun _ => 0)

def quiescent_KernelWDilIdeal [hKernelWDilIdeal : Cert.KernelWDilIdeal.Facts] : Prop :=
  ∀ (m : (ℓ : Loc Cert.KernelWDilIdeal.nD Cert.KernelWDilIdeal.τ Cert.KernelWDilIdeal.sig) → Buf (Elt Ideal) ℓ) (g : Dev Cert.KernelWDilIdeal.nD → PrngReg), Pre_KernelWDilIdeal m →
    θ_run (Cert.KernelWDilIdeal.defs (F := Ideal)) (onTc (τ := Cert.KernelWDilIdeal.τ) (Cert.KernelWDilIdeal.main (F := Ideal))) ⟨m, fun _ => 0, g⟩ (fun r => (∀ c : Dev Cert.KernelWDilIdeal.nD,
      r.2.mem ((c.tc : Thread Cert.KernelWDilIdeal.nD Cert.KernelWDilIdeal.τ).loc Cert.KernelWDilIdeal.main_arg0) = m ((c.tc : Thread Cert.KernelWDilIdeal.nD Cert.KernelWDilIdeal.τ).loc Cert.KernelWDilIdeal.main_arg0)
      ∧ r.2.mem ((c.tc : Thread Cert.KernelWDilIdeal.nD Cert.KernelWDilIdeal.τ).loc Cert.KernelWDilIdeal.main_arg1) = m ((c.tc : Thread Cert.KernelWDilIdeal.nD Cert.KernelWDilIdeal.τ).loc Cert.KernelWDilIdeal.main_arg1))
      ∧ r.2.sem = fun _ => 0)

def quiescent_ReferenceWDilIdeal [hReferenceWDilIdeal : Cert.ReferenceWDilIdeal.Facts] : Prop :=
  ∀ (m : (ℓ : Loc Cert.ReferenceWDilIdeal.nD Cert.ReferenceWDilIdeal.τ Cert.ReferenceWDilIdeal.sig) → Buf (Elt Ideal) ℓ) (g : Dev Cert.ReferenceWDilIdeal.nD → PrngReg), Pre_ReferenceWDilIdeal m →
    θ_run (Cert.ReferenceWDilIdeal.defs (F := Ideal)) (onTc (τ := Cert.ReferenceWDilIdeal.τ) (Cert.ReferenceWDilIdeal.main (F := Ideal))) ⟨m, fun _ => 0, g⟩ (fun r => (∀ c : Dev Cert.ReferenceWDilIdeal.nD,
      r.2.mem ((c.tc : Thread Cert.ReferenceWDilIdeal.nD Cert.ReferenceWDilIdeal.τ).loc Cert.ReferenceWDilIdeal.main_arg0) = m ((c.tc : Thread Cert.ReferenceWDilIdeal.nD Cert.ReferenceWDilIdeal.τ).loc Cert.ReferenceWDilIdeal.main_arg0)
      ∧ r.2.mem ((c.tc : Thread Cert.ReferenceWDilIdeal.nD Cert.ReferenceWDilIdeal.τ).loc Cert.ReferenceWDilIdeal.main_arg1) = m ((c.tc : Thread Cert.ReferenceWDilIdeal.nD Cert.ReferenceWDilIdeal.τ).loc Cert.ReferenceWDilIdeal.main_arg1))
      ∧ r.2.sem = fun _ => 0)

def quiescent_KernelHDil [hKernelHDil : Cert.KernelHDil.Facts] : Prop :=
  ∀ (m : (ℓ : Loc Cert.KernelHDil.nD Cert.KernelHDil.τ Cert.KernelHDil.sig) → Buf (Elt Bits) ℓ) (g : Dev Cert.KernelHDil.nD → PrngReg), Pre_KernelHDil m →
    θ_run (Cert.KernelHDil.defs (F := Bits)) (onTc (τ := Cert.KernelHDil.τ) (Cert.KernelHDil.main (F := Bits))) ⟨m, fun _ => 0, g⟩ (fun r => (∀ c : Dev Cert.KernelHDil.nD,
      r.2.mem ((c.tc : Thread Cert.KernelHDil.nD Cert.KernelHDil.τ).loc Cert.KernelHDil.main_arg0) = m ((c.tc : Thread Cert.KernelHDil.nD Cert.KernelHDil.τ).loc Cert.KernelHDil.main_arg0)
      ∧ r.2.mem ((c.tc : Thread Cert.KernelHDil.nD Cert.KernelHDil.τ).loc Cert.KernelHDil.main_arg1) = m ((c.tc : Thread Cert.KernelHDil.nD Cert.KernelHDil.τ).loc Cert.KernelHDil.main_arg1)
      ∧ r.2.mem ((c.tc : Thread Cert.KernelHDil.nD Cert.KernelHDil.τ).loc Cert.KernelHDil.main_arg2) = m ((c.tc : Thread Cert.KernelHDil.nD Cert.KernelHDil.τ).loc Cert.KernelHDil.main_arg2))
      ∧ r.2.sem = fun _ => 0)

def quiescent_KernelHDilIdeal [hKernelHDilIdeal : Cert.KernelHDilIdeal.Facts] : Prop :=
  ∀ (m : (ℓ : Loc Cert.KernelHDilIdeal.nD Cert.KernelHDilIdeal.τ Cert.KernelHDilIdeal.sig) → Buf (Elt Ideal) ℓ) (g : Dev Cert.KernelHDilIdeal.nD → PrngReg), Pre_KernelHDilIdeal m →
    θ_run (Cert.KernelHDilIdeal.defs (F := Ideal)) (onTc (τ := Cert.KernelHDilIdeal.τ) (Cert.KernelHDilIdeal.main (F := Ideal))) ⟨m, fun _ => 0, g⟩ (fun r => (∀ c : Dev Cert.KernelHDilIdeal.nD,
      r.2.mem ((c.tc : Thread Cert.KernelHDilIdeal.nD Cert.KernelHDilIdeal.τ).loc Cert.KernelHDilIdeal.main_arg0) = m ((c.tc : Thread Cert.KernelHDilIdeal.nD Cert.KernelHDilIdeal.τ).loc Cert.KernelHDilIdeal.main_arg0)
      ∧ r.2.mem ((c.tc : Thread Cert.KernelHDilIdeal.nD Cert.KernelHDilIdeal.τ).loc Cert.KernelHDilIdeal.main_arg1) = m ((c.tc : Thread Cert.KernelHDilIdeal.nD Cert.KernelHDilIdeal.τ).loc Cert.KernelHDilIdeal.main_arg1)
      ∧ r.2.mem ((c.tc : Thread Cert.KernelHDilIdeal.nD Cert.KernelHDilIdeal.τ).loc Cert.KernelHDilIdeal.main_arg2) = m ((c.tc : Thread Cert.KernelHDilIdeal.nD Cert.KernelHDilIdeal.τ).loc Cert.KernelHDilIdeal.main_arg2))
      ∧ r.2.sem = fun _ => 0)

def quiescent_ReferenceHDilIdeal [hReferenceHDilIdeal : Cert.ReferenceHDilIdeal.Facts] : Prop :=
  ∀ (m : (ℓ : Loc Cert.ReferenceHDilIdeal.nD Cert.ReferenceHDilIdeal.τ Cert.ReferenceHDilIdeal.sig) → Buf (Elt Ideal) ℓ) (g : Dev Cert.ReferenceHDilIdeal.nD → PrngReg), Pre_ReferenceHDilIdeal m →
    θ_run (Cert.ReferenceHDilIdeal.defs (F := Ideal)) (onTc (τ := Cert.ReferenceHDilIdeal.τ) (Cert.ReferenceHDilIdeal.main (F := Ideal))) ⟨m, fun _ => 0, g⟩ (fun r => (∀ c : Dev Cert.ReferenceHDilIdeal.nD,
      r.2.mem ((c.tc : Thread Cert.ReferenceHDilIdeal.nD Cert.ReferenceHDilIdeal.τ).loc Cert.ReferenceHDilIdeal.main_arg0) = m ((c.tc : Thread Cert.ReferenceHDilIdeal.nD Cert.ReferenceHDilIdeal.τ).loc Cert.ReferenceHDilIdeal.main_arg0)
      ∧ r.2.mem ((c.tc : Thread Cert.ReferenceHDilIdeal.nD Cert.ReferenceHDilIdeal.τ).loc Cert.ReferenceHDilIdeal.main_arg1) = m ((c.tc : Thread Cert.ReferenceHDilIdeal.nD Cert.ReferenceHDilIdeal.τ).loc Cert.ReferenceHDilIdeal.main_arg1)
      ∧ r.2.mem ((c.tc : Thread Cert.ReferenceHDilIdeal.nD Cert.ReferenceHDilIdeal.τ).loc Cert.ReferenceHDilIdeal.main_arg2) = m ((c.tc : Thread Cert.ReferenceHDilIdeal.nD Cert.ReferenceHDilIdeal.τ).loc Cert.ReferenceHDilIdeal.main_arg2))
      ∧ r.2.sem = fun _ => 0)

def quiescent_KernelPDil [hKernelPDil : Cert.KernelPDil.Facts] : Prop :=
  ∀ (m : (ℓ : Loc Cert.KernelPDil.nD Cert.KernelPDil.τ Cert.KernelPDil.sig) → Buf (Elt Bits) ℓ) (g : Dev Cert.KernelPDil.nD → PrngReg), Pre_KernelPDil m →
    θ_run (Cert.KernelPDil.defs (F := Bits)) (onTc (τ := Cert.KernelPDil.τ) (Cert.KernelPDil.main (F := Bits))) ⟨m, fun _ => 0, g⟩ (fun r => (∀ c : Dev Cert.KernelPDil.nD,
      r.2.mem ((c.tc : Thread Cert.KernelPDil.nD Cert.KernelPDil.τ).loc Cert.KernelPDil.main_arg0) = m ((c.tc : Thread Cert.KernelPDil.nD Cert.KernelPDil.τ).loc Cert.KernelPDil.main_arg0)
      ∧ r.2.mem ((c.tc : Thread Cert.KernelPDil.nD Cert.KernelPDil.τ).loc Cert.KernelPDil.main_arg1) = m ((c.tc : Thread Cert.KernelPDil.nD Cert.KernelPDil.τ).loc Cert.KernelPDil.main_arg1))
      ∧ r.2.sem = fun _ => 0)

def quiescent_KernelPDilIdeal [hKernelPDilIdeal : Cert.KernelPDilIdeal.Facts] : Prop :=
  ∀ (m : (ℓ : Loc Cert.KernelPDilIdeal.nD Cert.KernelPDilIdeal.τ Cert.KernelPDilIdeal.sig) → Buf (Elt Ideal) ℓ) (g : Dev Cert.KernelPDilIdeal.nD → PrngReg), Pre_KernelPDilIdeal m →
    θ_run (Cert.KernelPDilIdeal.defs (F := Ideal)) (onTc (τ := Cert.KernelPDilIdeal.τ) (Cert.KernelPDilIdeal.main (F := Ideal))) ⟨m, fun _ => 0, g⟩ (fun r => (∀ c : Dev Cert.KernelPDilIdeal.nD,
      r.2.mem ((c.tc : Thread Cert.KernelPDilIdeal.nD Cert.KernelPDilIdeal.τ).loc Cert.KernelPDilIdeal.main_arg0) = m ((c.tc : Thread Cert.KernelPDilIdeal.nD Cert.KernelPDilIdeal.τ).loc Cert.KernelPDilIdeal.main_arg0)
      ∧ r.2.mem ((c.tc : Thread Cert.KernelPDilIdeal.nD Cert.KernelPDilIdeal.τ).loc Cert.KernelPDilIdeal.main_arg1) = m ((c.tc : Thread Cert.KernelPDilIdeal.nD Cert.KernelPDilIdeal.τ).loc Cert.KernelPDilIdeal.main_arg1))
      ∧ r.2.sem = fun _ => 0)

def quiescent_ReferencePDilIdeal [hReferencePDilIdeal : Cert.ReferencePDilIdeal.Facts] : Prop :=
  ∀ (m : (ℓ : Loc Cert.ReferencePDilIdeal.nD Cert.ReferencePDilIdeal.τ Cert.ReferencePDilIdeal.sig) → Buf (Elt Ideal) ℓ) (g : Dev Cert.ReferencePDilIdeal.nD → PrngReg), Pre_ReferencePDilIdeal m →
    θ_run (Cert.ReferencePDilIdeal.defs (F := Ideal)) (onTc (τ := Cert.ReferencePDilIdeal.τ) (Cert.ReferencePDilIdeal.main (F := Ideal))) ⟨m, fun _ => 0, g⟩ (fun r => (∀ c : Dev Cert.ReferencePDilIdeal.nD,
      r.2.mem ((c.tc : Thread Cert.ReferencePDilIdeal.nD Cert.ReferencePDilIdeal.τ).loc Cert.ReferencePDilIdeal.main_arg0) = m ((c.tc : Thread Cert.ReferencePDilIdeal.nD Cert.ReferencePDilIdeal.τ).loc Cert.ReferencePDilIdeal.main_arg0)
      ∧ r.2.mem ((c.tc : Thread Cert.ReferencePDilIdeal.nD Cert.ReferencePDilIdeal.τ).loc Cert.ReferencePDilIdeal.main_arg1) = m ((c.tc : Thread Cert.ReferencePDilIdeal.nD Cert.ReferencePDilIdeal.τ).loc Cert.ReferencePDilIdeal.main_arg1))
      ∧ r.2.sem = fun _ => 0)

def quiescent_KernelWGin [hKernelWGin : Cert.KernelWGin.Facts] : Prop :=
  ∀ (m : (ℓ : Loc Cert.KernelWGin.nD Cert.KernelWGin.τ Cert.KernelWGin.sig) → Buf (Elt Bits) ℓ) (g : Dev Cert.KernelWGin.nD → PrngReg), Pre_KernelWGin m →
    θ_run (Cert.KernelWGin.defs (F := Bits)) (onTc (τ := Cert.KernelWGin.τ) (Cert.KernelWGin.main (F := Bits))) ⟨m, fun _ => 0, g⟩ (fun r => (∀ c : Dev Cert.KernelWGin.nD,
      r.2.mem ((c.tc : Thread Cert.KernelWGin.nD Cert.KernelWGin.τ).loc Cert.KernelWGin.main_arg0) = m ((c.tc : Thread Cert.KernelWGin.nD Cert.KernelWGin.τ).loc Cert.KernelWGin.main_arg0)
      ∧ r.2.mem ((c.tc : Thread Cert.KernelWGin.nD Cert.KernelWGin.τ).loc Cert.KernelWGin.main_arg1) = m ((c.tc : Thread Cert.KernelWGin.nD Cert.KernelWGin.τ).loc Cert.KernelWGin.main_arg1))
      ∧ r.2.sem = fun _ => 0)

def quiescent_KernelWGinIdeal [hKernelWGinIdeal : Cert.KernelWGinIdeal.Facts] : Prop :=
  ∀ (m : (ℓ : Loc Cert.KernelWGinIdeal.nD Cert.KernelWGinIdeal.τ Cert.KernelWGinIdeal.sig) → Buf (Elt Ideal) ℓ) (g : Dev Cert.KernelWGinIdeal.nD → PrngReg), Pre_KernelWGinIdeal m →
    θ_run (Cert.KernelWGinIdeal.defs (F := Ideal)) (onTc (τ := Cert.KernelWGinIdeal.τ) (Cert.KernelWGinIdeal.main (F := Ideal))) ⟨m, fun _ => 0, g⟩ (fun r => (∀ c : Dev Cert.KernelWGinIdeal.nD,
      r.2.mem ((c.tc : Thread Cert.KernelWGinIdeal.nD Cert.KernelWGinIdeal.τ).loc Cert.KernelWGinIdeal.main_arg0) = m ((c.tc : Thread Cert.KernelWGinIdeal.nD Cert.KernelWGinIdeal.τ).loc Cert.KernelWGinIdeal.main_arg0)
      ∧ r.2.mem ((c.tc : Thread Cert.KernelWGinIdeal.nD Cert.KernelWGinIdeal.τ).loc Cert.KernelWGinIdeal.main_arg1) = m ((c.tc : Thread Cert.KernelWGinIdeal.nD Cert.KernelWGinIdeal.τ).loc Cert.KernelWGinIdeal.main_arg1))
      ∧ r.2.sem = fun _ => 0)

def quiescent_ReferenceWGinIdeal [hReferenceWGinIdeal : Cert.ReferenceWGinIdeal.Facts] : Prop :=
  ∀ (m : (ℓ : Loc Cert.ReferenceWGinIdeal.nD Cert.ReferenceWGinIdeal.τ Cert.ReferenceWGinIdeal.sig) → Buf (Elt Ideal) ℓ) (g : Dev Cert.ReferenceWGinIdeal.nD → PrngReg), Pre_ReferenceWGinIdeal m →
    θ_run (Cert.ReferenceWGinIdeal.defs (F := Ideal)) (onTc (τ := Cert.ReferenceWGinIdeal.τ) (Cert.ReferenceWGinIdeal.main (F := Ideal))) ⟨m, fun _ => 0, g⟩ (fun r => (∀ c : Dev Cert.ReferenceWGinIdeal.nD,
      r.2.mem ((c.tc : Thread Cert.ReferenceWGinIdeal.nD Cert.ReferenceWGinIdeal.τ).loc Cert.ReferenceWGinIdeal.main_arg0) = m ((c.tc : Thread Cert.ReferenceWGinIdeal.nD Cert.ReferenceWGinIdeal.τ).loc Cert.ReferenceWGinIdeal.main_arg0)
      ∧ r.2.mem ((c.tc : Thread Cert.ReferenceWGinIdeal.nD Cert.ReferenceWGinIdeal.τ).loc Cert.ReferenceWGinIdeal.main_arg1) = m ((c.tc : Thread Cert.ReferenceWGinIdeal.nD Cert.ReferenceWGinIdeal.τ).loc Cert.ReferenceWGinIdeal.main_arg1))
      ∧ r.2.sem = fun _ => 0)

def quiescent_KernelHGate [hKernelHGate : Cert.KernelHGate.Facts] : Prop :=
  ∀ (m : (ℓ : Loc Cert.KernelHGate.nD Cert.KernelHGate.τ Cert.KernelHGate.sig) → Buf (Elt Bits) ℓ) (g : Dev Cert.KernelHGate.nD → PrngReg), Pre_KernelHGate m →
    θ_run (Cert.KernelHGate.defs (F := Bits)) (onTc (τ := Cert.KernelHGate.τ) (Cert.KernelHGate.main (F := Bits))) ⟨m, fun _ => 0, g⟩ (fun r => (∀ c : Dev Cert.KernelHGate.nD,
      r.2.mem ((c.tc : Thread Cert.KernelHGate.nD Cert.KernelHGate.τ).loc Cert.KernelHGate.main_arg0) = m ((c.tc : Thread Cert.KernelHGate.nD Cert.KernelHGate.τ).loc Cert.KernelHGate.main_arg0)
      ∧ r.2.mem ((c.tc : Thread Cert.KernelHGate.nD Cert.KernelHGate.τ).loc Cert.KernelHGate.main_arg1) = m ((c.tc : Thread Cert.KernelHGate.nD Cert.KernelHGate.τ).loc Cert.KernelHGate.main_arg1))
      ∧ r.2.sem = fun _ => 0)

def quiescent_KernelHGateIdeal [hKernelHGateIdeal : Cert.KernelHGateIdeal.Facts] : Prop :=
  ∀ (m : (ℓ : Loc Cert.KernelHGateIdeal.nD Cert.KernelHGateIdeal.τ Cert.KernelHGateIdeal.sig) → Buf (Elt Ideal) ℓ) (g : Dev Cert.KernelHGateIdeal.nD → PrngReg), Pre_KernelHGateIdeal m →
    θ_run (Cert.KernelHGateIdeal.defs (F := Ideal)) (onTc (τ := Cert.KernelHGateIdeal.τ) (Cert.KernelHGateIdeal.main (F := Ideal))) ⟨m, fun _ => 0, g⟩ (fun r => (∀ c : Dev Cert.KernelHGateIdeal.nD,
      r.2.mem ((c.tc : Thread Cert.KernelHGateIdeal.nD Cert.KernelHGateIdeal.τ).loc Cert.KernelHGateIdeal.main_arg0) = m ((c.tc : Thread Cert.KernelHGateIdeal.nD Cert.KernelHGateIdeal.τ).loc Cert.KernelHGateIdeal.main_arg0)
      ∧ r.2.mem ((c.tc : Thread Cert.KernelHGateIdeal.nD Cert.KernelHGateIdeal.τ).loc Cert.KernelHGateIdeal.main_arg1) = m ((c.tc : Thread Cert.KernelHGateIdeal.nD Cert.KernelHGateIdeal.τ).loc Cert.KernelHGateIdeal.main_arg1))
      ∧ r.2.sem = fun _ => 0)

def quiescent_ReferenceHGateIdeal [hReferenceHGateIdeal : Cert.ReferenceHGateIdeal.Facts] : Prop :=
  ∀ (m : (ℓ : Loc Cert.ReferenceHGateIdeal.nD Cert.ReferenceHGateIdeal.τ Cert.ReferenceHGateIdeal.sig) → Buf (Elt Ideal) ℓ) (g : Dev Cert.ReferenceHGateIdeal.nD → PrngReg), Pre_ReferenceHGateIdeal m →
    θ_run (Cert.ReferenceHGateIdeal.defs (F := Ideal)) (onTc (τ := Cert.ReferenceHGateIdeal.τ) (Cert.ReferenceHGateIdeal.main (F := Ideal))) ⟨m, fun _ => 0, g⟩ (fun r => (∀ c : Dev Cert.ReferenceHGateIdeal.nD,
      r.2.mem ((c.tc : Thread Cert.ReferenceHGateIdeal.nD Cert.ReferenceHGateIdeal.τ).loc Cert.ReferenceHGateIdeal.main_arg0) = m ((c.tc : Thread Cert.ReferenceHGateIdeal.nD Cert.ReferenceHGateIdeal.τ).loc Cert.ReferenceHGateIdeal.main_arg0)
      ∧ r.2.mem ((c.tc : Thread Cert.ReferenceHGateIdeal.nD Cert.ReferenceHGateIdeal.τ).loc Cert.ReferenceHGateIdeal.main_arg1) = m ((c.tc : Thread Cert.ReferenceHGateIdeal.nD Cert.ReferenceHGateIdeal.τ).loc Cert.ReferenceHGateIdeal.main_arg1))
      ∧ r.2.sem = fun _ => 0)

def quiescent_KernelPGate [hKernelPGate : Cert.KernelPGate.Facts] : Prop :=
  ∀ (m : (ℓ : Loc Cert.KernelPGate.nD Cert.KernelPGate.τ Cert.KernelPGate.sig) → Buf (Elt Bits) ℓ) (g : Dev Cert.KernelPGate.nD → PrngReg), Pre_KernelPGate m →
    θ_run (Cert.KernelPGate.defs (F := Bits)) (onTc (τ := Cert.KernelPGate.τ) (Cert.KernelPGate.main (F := Bits))) ⟨m, fun _ => 0, g⟩ (fun r => (∀ c : Dev Cert.KernelPGate.nD,
      r.2.mem ((c.tc : Thread Cert.KernelPGate.nD Cert.KernelPGate.τ).loc Cert.KernelPGate.main_arg0) = m ((c.tc : Thread Cert.KernelPGate.nD Cert.KernelPGate.τ).loc Cert.KernelPGate.main_arg0)
      ∧ r.2.mem ((c.tc : Thread Cert.KernelPGate.nD Cert.KernelPGate.τ).loc Cert.KernelPGate.main_arg1) = m ((c.tc : Thread Cert.KernelPGate.nD Cert.KernelPGate.τ).loc Cert.KernelPGate.main_arg1))
      ∧ r.2.sem = fun _ => 0)

def quiescent_KernelPGateIdeal [hKernelPGateIdeal : Cert.KernelPGateIdeal.Facts] : Prop :=
  ∀ (m : (ℓ : Loc Cert.KernelPGateIdeal.nD Cert.KernelPGateIdeal.τ Cert.KernelPGateIdeal.sig) → Buf (Elt Ideal) ℓ) (g : Dev Cert.KernelPGateIdeal.nD → PrngReg), Pre_KernelPGateIdeal m →
    θ_run (Cert.KernelPGateIdeal.defs (F := Ideal)) (onTc (τ := Cert.KernelPGateIdeal.τ) (Cert.KernelPGateIdeal.main (F := Ideal))) ⟨m, fun _ => 0, g⟩ (fun r => (∀ c : Dev Cert.KernelPGateIdeal.nD,
      r.2.mem ((c.tc : Thread Cert.KernelPGateIdeal.nD Cert.KernelPGateIdeal.τ).loc Cert.KernelPGateIdeal.main_arg0) = m ((c.tc : Thread Cert.KernelPGateIdeal.nD Cert.KernelPGateIdeal.τ).loc Cert.KernelPGateIdeal.main_arg0)
      ∧ r.2.mem ((c.tc : Thread Cert.KernelPGateIdeal.nD Cert.KernelPGateIdeal.τ).loc Cert.KernelPGateIdeal.main_arg1) = m ((c.tc : Thread Cert.KernelPGateIdeal.nD Cert.KernelPGateIdeal.τ).loc Cert.KernelPGateIdeal.main_arg1))
      ∧ r.2.sem = fun _ => 0)

def quiescent_ReferencePGateIdeal [hReferencePGateIdeal : Cert.ReferencePGateIdeal.Facts] : Prop :=
  ∀ (m : (ℓ : Loc Cert.ReferencePGateIdeal.nD Cert.ReferencePGateIdeal.τ Cert.ReferencePGateIdeal.sig) → Buf (Elt Ideal) ℓ) (g : Dev Cert.ReferencePGateIdeal.nD → PrngReg), Pre_ReferencePGateIdeal m →
    θ_run (Cert.ReferencePGateIdeal.defs (F := Ideal)) (onTc (τ := Cert.ReferencePGateIdeal.τ) (Cert.ReferencePGateIdeal.main (F := Ideal))) ⟨m, fun _ => 0, g⟩ (fun r => (∀ c : Dev Cert.ReferencePGateIdeal.nD,
      r.2.mem ((c.tc : Thread Cert.ReferencePGateIdeal.nD Cert.ReferencePGateIdeal.τ).loc Cert.ReferencePGateIdeal.main_arg0) = m ((c.tc : Thread Cert.ReferencePGateIdeal.nD Cert.ReferencePGateIdeal.τ).loc Cert.ReferencePGateIdeal.main_arg0)
      ∧ r.2.mem ((c.tc : Thread Cert.ReferencePGateIdeal.nD Cert.ReferencePGateIdeal.τ).loc Cert.ReferencePGateIdeal.main_arg1) = m ((c.tc : Thread Cert.ReferencePGateIdeal.nD Cert.ReferencePGateIdeal.τ).loc Cert.ReferencePGateIdeal.main_arg1))
      ∧ r.2.sem = fun _ => 0)

def quiescent_KernelWO [hKernelWO : Cert.KernelWO.Facts] : Prop :=
  ∀ (m : (ℓ : Loc Cert.KernelWO.nD Cert.KernelWO.τ Cert.KernelWO.sig) → Buf (Elt Bits) ℓ) (g : Dev Cert.KernelWO.nD → PrngReg), Pre_KernelWO m →
    θ_run (Cert.KernelWO.defs (F := Bits)) (onTc (τ := Cert.KernelWO.τ) (Cert.KernelWO.main (F := Bits))) ⟨m, fun _ => 0, g⟩ (fun r => (∀ c : Dev Cert.KernelWO.nD,
      r.2.mem ((c.tc : Thread Cert.KernelWO.nD Cert.KernelWO.τ).loc Cert.KernelWO.main_arg0) = m ((c.tc : Thread Cert.KernelWO.nD Cert.KernelWO.τ).loc Cert.KernelWO.main_arg0)
      ∧ r.2.mem ((c.tc : Thread Cert.KernelWO.nD Cert.KernelWO.τ).loc Cert.KernelWO.main_arg1) = m ((c.tc : Thread Cert.KernelWO.nD Cert.KernelWO.τ).loc Cert.KernelWO.main_arg1))
      ∧ r.2.sem = fun _ => 0)

def quiescent_KernelWOIdeal [hKernelWOIdeal : Cert.KernelWOIdeal.Facts] : Prop :=
  ∀ (m : (ℓ : Loc Cert.KernelWOIdeal.nD Cert.KernelWOIdeal.τ Cert.KernelWOIdeal.sig) → Buf (Elt Ideal) ℓ) (g : Dev Cert.KernelWOIdeal.nD → PrngReg), Pre_KernelWOIdeal m →
    θ_run (Cert.KernelWOIdeal.defs (F := Ideal)) (onTc (τ := Cert.KernelWOIdeal.τ) (Cert.KernelWOIdeal.main (F := Ideal))) ⟨m, fun _ => 0, g⟩ (fun r => (∀ c : Dev Cert.KernelWOIdeal.nD,
      r.2.mem ((c.tc : Thread Cert.KernelWOIdeal.nD Cert.KernelWOIdeal.τ).loc Cert.KernelWOIdeal.main_arg0) = m ((c.tc : Thread Cert.KernelWOIdeal.nD Cert.KernelWOIdeal.τ).loc Cert.KernelWOIdeal.main_arg0)
      ∧ r.2.mem ((c.tc : Thread Cert.KernelWOIdeal.nD Cert.KernelWOIdeal.τ).loc Cert.KernelWOIdeal.main_arg1) = m ((c.tc : Thread Cert.KernelWOIdeal.nD Cert.KernelWOIdeal.τ).loc Cert.KernelWOIdeal.main_arg1))
      ∧ r.2.sem = fun _ => 0)

def quiescent_ReferenceWOIdeal [hReferenceWOIdeal : Cert.ReferenceWOIdeal.Facts] : Prop :=
  ∀ (m : (ℓ : Loc Cert.ReferenceWOIdeal.nD Cert.ReferenceWOIdeal.τ Cert.ReferenceWOIdeal.sig) → Buf (Elt Ideal) ℓ) (g : Dev Cert.ReferenceWOIdeal.nD → PrngReg), Pre_ReferenceWOIdeal m →
    θ_run (Cert.ReferenceWOIdeal.defs (F := Ideal)) (onTc (τ := Cert.ReferenceWOIdeal.τ) (Cert.ReferenceWOIdeal.main (F := Ideal))) ⟨m, fun _ => 0, g⟩ (fun r => (∀ c : Dev Cert.ReferenceWOIdeal.nD,
      r.2.mem ((c.tc : Thread Cert.ReferenceWOIdeal.nD Cert.ReferenceWOIdeal.τ).loc Cert.ReferenceWOIdeal.main_arg0) = m ((c.tc : Thread Cert.ReferenceWOIdeal.nD Cert.ReferenceWOIdeal.τ).loc Cert.ReferenceWOIdeal.main_arg0)
      ∧ r.2.mem ((c.tc : Thread Cert.ReferenceWOIdeal.nD Cert.ReferenceWOIdeal.τ).loc Cert.ReferenceWOIdeal.main_arg1) = m ((c.tc : Thread Cert.ReferenceWOIdeal.nD Cert.ReferenceWOIdeal.τ).loc Cert.ReferenceWOIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelWBr [hKernelWBr : Cert.KernelWBr.Facts] : Prop :=
  ∀ (m : (ℓ : Loc Cert.KernelWBr.nD Cert.KernelWBr.τ Cert.KernelWBr.sig) → Buf (Elt Bits) ℓ) (g : Dev Cert.KernelWBr.nD → PrngReg), Pre_KernelWBr m →
    θ_run (Cert.KernelWBr.defs (F := Bits)) (onTc (τ := Cert.KernelWBr.τ) (Cert.KernelWBr.main (F := Bits))) ⟨m, fun _ => 0, g⟩ (fun r => (∀ c : Dev Cert.KernelWBr.nD,
      r.2.mem ((c.tc : Thread Cert.KernelWBr.nD Cert.KernelWBr.τ).loc Cert.KernelWBr.main_arg0) = m ((c.tc : Thread Cert.KernelWBr.nD Cert.KernelWBr.τ).loc Cert.KernelWBr.main_arg0)
      ∧ r.2.mem ((c.tc : Thread Cert.KernelWBr.nD Cert.KernelWBr.τ).loc Cert.KernelWBr.main_arg1) = m ((c.tc : Thread Cert.KernelWBr.nD Cert.KernelWBr.τ).loc Cert.KernelWBr.main_arg1))
      ∧ r.2.sem = fun _ => 0)

def quiescent_KernelWBrIdeal [hKernelWBrIdeal : Cert.KernelWBrIdeal.Facts] : Prop :=
  ∀ (m : (ℓ : Loc Cert.KernelWBrIdeal.nD Cert.KernelWBrIdeal.τ Cert.KernelWBrIdeal.sig) → Buf (Elt Ideal) ℓ) (g : Dev Cert.KernelWBrIdeal.nD → PrngReg), Pre_KernelWBrIdeal m →
    θ_run (Cert.KernelWBrIdeal.defs (F := Ideal)) (onTc (τ := Cert.KernelWBrIdeal.τ) (Cert.KernelWBrIdeal.main (F := Ideal))) ⟨m, fun _ => 0, g⟩ (fun r => (∀ c : Dev Cert.KernelWBrIdeal.nD,
      r.2.mem ((c.tc : Thread Cert.KernelWBrIdeal.nD Cert.KernelWBrIdeal.τ).loc Cert.KernelWBrIdeal.main_arg0) = m ((c.tc : Thread Cert.KernelWBrIdeal.nD Cert.KernelWBrIdeal.τ).loc Cert.KernelWBrIdeal.main_arg0)
      ∧ r.2.mem ((c.tc : Thread Cert.KernelWBrIdeal.nD Cert.KernelWBrIdeal.τ).loc Cert.KernelWBrIdeal.main_arg1) = m ((c.tc : Thread Cert.KernelWBrIdeal.nD Cert.KernelWBrIdeal.τ).loc Cert.KernelWBrIdeal.main_arg1))
      ∧ r.2.sem = fun _ => 0)

def quiescent_ReferenceWBrIdeal [hReferenceWBrIdeal : Cert.ReferenceWBrIdeal.Facts] : Prop :=
  ∀ (m : (ℓ : Loc Cert.ReferenceWBrIdeal.nD Cert.ReferenceWBrIdeal.τ Cert.ReferenceWBrIdeal.sig) → Buf (Elt Ideal) ℓ) (g : Dev Cert.ReferenceWBrIdeal.nD → PrngReg), Pre_ReferenceWBrIdeal m →
    θ_run (Cert.ReferenceWBrIdeal.defs (F := Ideal)) (onTc (τ := Cert.ReferenceWBrIdeal.τ) (Cert.ReferenceWBrIdeal.main (F := Ideal))) ⟨m, fun _ => 0, g⟩ (fun r => (∀ c : Dev Cert.ReferenceWBrIdeal.nD,
      r.2.mem ((c.tc : Thread Cert.ReferenceWBrIdeal.nD Cert.ReferenceWBrIdeal.τ).loc Cert.ReferenceWBrIdeal.main_arg0) = m ((c.tc : Thread Cert.ReferenceWBrIdeal.nD Cert.ReferenceWBrIdeal.τ).loc Cert.ReferenceWBrIdeal.main_arg0)
      ∧ r.2.mem ((c.tc : Thread Cert.ReferenceWBrIdeal.nD Cert.ReferenceWBrIdeal.τ).loc Cert.ReferenceWBrIdeal.main_arg1) = m ((c.tc : Thread Cert.ReferenceWBrIdeal.nD Cert.ReferenceWBrIdeal.τ).loc Cert.ReferenceWBrIdeal.main_arg1))
      ∧ r.2.sem = fun _ => 0)

def quiescent_KernelOBr [hKernelOBr : Cert.KernelOBr.Facts] : Prop :=
  ∀ (m : (ℓ : Loc Cert.KernelOBr.nD Cert.KernelOBr.τ Cert.KernelOBr.sig) → Buf (Elt Bits) ℓ) (g : Dev Cert.KernelOBr.nD → PrngReg), Pre_KernelOBr m →
    θ_run (Cert.KernelOBr.defs (F := Bits)) (onTc (τ := Cert.KernelOBr.τ) (Cert.KernelOBr.main (F := Bits))) ⟨m, fun _ => 0, g⟩ (fun r => (∀ c : Dev Cert.KernelOBr.nD,
      r.2.mem ((c.tc : Thread Cert.KernelOBr.nD Cert.KernelOBr.τ).loc Cert.KernelOBr.main_arg0) = m ((c.tc : Thread Cert.KernelOBr.nD Cert.KernelOBr.τ).loc Cert.KernelOBr.main_arg0)
      ∧ r.2.mem ((c.tc : Thread Cert.KernelOBr.nD Cert.KernelOBr.τ).loc Cert.KernelOBr.main_arg1) = m ((c.tc : Thread Cert.KernelOBr.nD Cert.KernelOBr.τ).loc Cert.KernelOBr.main_arg1))
      ∧ r.2.sem = fun _ => 0)

def quiescent_KernelOBrIdeal [hKernelOBrIdeal : Cert.KernelOBrIdeal.Facts] : Prop :=
  ∀ (m : (ℓ : Loc Cert.KernelOBrIdeal.nD Cert.KernelOBrIdeal.τ Cert.KernelOBrIdeal.sig) → Buf (Elt Ideal) ℓ) (g : Dev Cert.KernelOBrIdeal.nD → PrngReg), Pre_KernelOBrIdeal m →
    θ_run (Cert.KernelOBrIdeal.defs (F := Ideal)) (onTc (τ := Cert.KernelOBrIdeal.τ) (Cert.KernelOBrIdeal.main (F := Ideal))) ⟨m, fun _ => 0, g⟩ (fun r => (∀ c : Dev Cert.KernelOBrIdeal.nD,
      r.2.mem ((c.tc : Thread Cert.KernelOBrIdeal.nD Cert.KernelOBrIdeal.τ).loc Cert.KernelOBrIdeal.main_arg0) = m ((c.tc : Thread Cert.KernelOBrIdeal.nD Cert.KernelOBrIdeal.τ).loc Cert.KernelOBrIdeal.main_arg0)
      ∧ r.2.mem ((c.tc : Thread Cert.KernelOBrIdeal.nD Cert.KernelOBrIdeal.τ).loc Cert.KernelOBrIdeal.main_arg1) = m ((c.tc : Thread Cert.KernelOBrIdeal.nD Cert.KernelOBrIdeal.τ).loc Cert.KernelOBrIdeal.main_arg1))
      ∧ r.2.sem = fun _ => 0)

def quiescent_ReferenceOBrIdeal [hReferenceOBrIdeal : Cert.ReferenceOBrIdeal.Facts] : Prop :=
  ∀ (m : (ℓ : Loc Cert.ReferenceOBrIdeal.nD Cert.ReferenceOBrIdeal.τ Cert.ReferenceOBrIdeal.sig) → Buf (Elt Ideal) ℓ) (g : Dev Cert.ReferenceOBrIdeal.nD → PrngReg), Pre_ReferenceOBrIdeal m →
    θ_run (Cert.ReferenceOBrIdeal.defs (F := Ideal)) (onTc (τ := Cert.ReferenceOBrIdeal.τ) (Cert.ReferenceOBrIdeal.main (F := Ideal))) ⟨m, fun _ => 0, g⟩ (fun r => (∀ c : Dev Cert.ReferenceOBrIdeal.nD,
      r.2.mem ((c.tc : Thread Cert.ReferenceOBrIdeal.nD Cert.ReferenceOBrIdeal.τ).loc Cert.ReferenceOBrIdeal.main_arg0) = m ((c.tc : Thread Cert.ReferenceOBrIdeal.nD Cert.ReferenceOBrIdeal.τ).loc Cert.ReferenceOBrIdeal.main_arg0)
      ∧ r.2.mem ((c.tc : Thread Cert.ReferenceOBrIdeal.nD Cert.ReferenceOBrIdeal.τ).loc Cert.ReferenceOBrIdeal.main_arg1) = m ((c.tc : Thread Cert.ReferenceOBrIdeal.nD Cert.ReferenceOBrIdeal.τ).loc Cert.ReferenceOBrIdeal.main_arg1))
      ∧ r.2.sem = fun _ => 0)

def quiescent_KernelBr [hKernelBr : Cert.KernelBr.Facts] : Prop :=
  ∀ (m : (ℓ : Loc Cert.KernelBr.nD Cert.KernelBr.τ Cert.KernelBr.sig) → Buf (Elt Bits) ℓ) (g : Dev Cert.KernelBr.nD → PrngReg), Pre_KernelBr m →
    θ_run (Cert.KernelBr.defs (F := Bits)) (onTc (τ := Cert.KernelBr.τ) (Cert.KernelBr.main (F := Bits))) ⟨m, fun _ => 0, g⟩ (fun r => (∀ c : Dev Cert.KernelBr.nD,
      r.2.mem ((c.tc : Thread Cert.KernelBr.nD Cert.KernelBr.τ).loc Cert.KernelBr.main_arg0) = m ((c.tc : Thread Cert.KernelBr.nD Cert.KernelBr.τ).loc Cert.KernelBr.main_arg0)
      ∧ r.2.mem ((c.tc : Thread Cert.KernelBr.nD Cert.KernelBr.τ).loc Cert.KernelBr.main_arg1) = m ((c.tc : Thread Cert.KernelBr.nD Cert.KernelBr.τ).loc Cert.KernelBr.main_arg1))
      ∧ r.2.sem = fun _ => 0)

def quiescent_KernelBrIdeal [hKernelBrIdeal : Cert.KernelBrIdeal.Facts] : Prop :=
  ∀ (m : (ℓ : Loc Cert.KernelBrIdeal.nD Cert.KernelBrIdeal.τ Cert.KernelBrIdeal.sig) → Buf (Elt Ideal) ℓ) (g : Dev Cert.KernelBrIdeal.nD → PrngReg), Pre_KernelBrIdeal m →
    θ_run (Cert.KernelBrIdeal.defs (F := Ideal)) (onTc (τ := Cert.KernelBrIdeal.τ) (Cert.KernelBrIdeal.main (F := Ideal))) ⟨m, fun _ => 0, g⟩ (fun r => (∀ c : Dev Cert.KernelBrIdeal.nD,
      r.2.mem ((c.tc : Thread Cert.KernelBrIdeal.nD Cert.KernelBrIdeal.τ).loc Cert.KernelBrIdeal.main_arg0) = m ((c.tc : Thread Cert.KernelBrIdeal.nD Cert.KernelBrIdeal.τ).loc Cert.KernelBrIdeal.main_arg0)
      ∧ r.2.mem ((c.tc : Thread Cert.KernelBrIdeal.nD Cert.KernelBrIdeal.τ).loc Cert.KernelBrIdeal.main_arg1) = m ((c.tc : Thread Cert.KernelBrIdeal.nD Cert.KernelBrIdeal.τ).loc Cert.KernelBrIdeal.main_arg1))
      ∧ r.2.sem = fun _ => 0)

def quiescent_ReferenceBrIdeal [hReferenceBrIdeal : Cert.ReferenceBrIdeal.Facts] : Prop :=
  ∀ (m : (ℓ : Loc Cert.ReferenceBrIdeal.nD Cert.ReferenceBrIdeal.τ Cert.ReferenceBrIdeal.sig) → Buf (Elt Ideal) ℓ) (g : Dev Cert.ReferenceBrIdeal.nD → PrngReg), Pre_ReferenceBrIdeal m →
    θ_run (Cert.ReferenceBrIdeal.defs (F := Ideal)) (onTc (τ := Cert.ReferenceBrIdeal.τ) (Cert.ReferenceBrIdeal.main (F := Ideal))) ⟨m, fun _ => 0, g⟩ (fun r => (∀ c : Dev Cert.ReferenceBrIdeal.nD,
      r.2.mem ((c.tc : Thread Cert.ReferenceBrIdeal.nD Cert.ReferenceBrIdeal.τ).loc Cert.ReferenceBrIdeal.main_arg0) = m ((c.tc : Thread Cert.ReferenceBrIdeal.nD Cert.ReferenceBrIdeal.τ).loc Cert.ReferenceBrIdeal.main_arg0)
      ∧ r.2.mem ((c.tc : Thread Cert.ReferenceBrIdeal.nD Cert.ReferenceBrIdeal.τ).loc Cert.ReferenceBrIdeal.main_arg1) = m ((c.tc : Thread Cert.ReferenceBrIdeal.nD Cert.ReferenceBrIdeal.τ).loc Cert.ReferenceBrIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelPLat [hKernelPLat : Cert.KernelPLat.Facts] : Prop :=
  ∀ (m : (ℓ : Loc Cert.KernelPLat.nD Cert.KernelPLat.τ Cert.KernelPLat.sig) → Buf (Elt Bits) ℓ) (g : Dev Cert.KernelPLat.nD → PrngReg), Pre_KernelPLat m →
    θ_run (Cert.KernelPLat.defs (F := Bits)) (onTc (τ := Cert.KernelPLat.τ) (Cert.KernelPLat.main (F := Bits))) ⟨m, fun _ => 0, g⟩ (fun r => (∀ c : Dev Cert.KernelPLat.nD,
      r.2.mem ((c.tc : Thread Cert.KernelPLat.nD Cert.KernelPLat.τ).loc Cert.KernelPLat.main_arg0) = m ((c.tc : Thread Cert.KernelPLat.nD Cert.KernelPLat.τ).loc Cert.KernelPLat.main_arg0)
      ∧ r.2.mem ((c.tc : Thread Cert.KernelPLat.nD Cert.KernelPLat.τ).loc Cert.KernelPLat.main_arg1) = m ((c.tc : Thread Cert.KernelPLat.nD Cert.KernelPLat.τ).loc Cert.KernelPLat.main_arg1))
      ∧ r.2.sem = fun _ => 0)

def quiescent_KernelPLatIdeal [hKernelPLatIdeal : Cert.KernelPLatIdeal.Facts] : Prop :=
  ∀ (m : (ℓ : Loc Cert.KernelPLatIdeal.nD Cert.KernelPLatIdeal.τ Cert.KernelPLatIdeal.sig) → Buf (Elt Ideal) ℓ) (g : Dev Cert.KernelPLatIdeal.nD → PrngReg), Pre_KernelPLatIdeal m →
    θ_run (Cert.KernelPLatIdeal.defs (F := Ideal)) (onTc (τ := Cert.KernelPLatIdeal.τ) (Cert.KernelPLatIdeal.main (F := Ideal))) ⟨m, fun _ => 0, g⟩ (fun r => (∀ c : Dev Cert.KernelPLatIdeal.nD,
      r.2.mem ((c.tc : Thread Cert.KernelPLatIdeal.nD Cert.KernelPLatIdeal.τ).loc Cert.KernelPLatIdeal.main_arg0) = m ((c.tc : Thread Cert.KernelPLatIdeal.nD Cert.KernelPLatIdeal.τ).loc Cert.KernelPLatIdeal.main_arg0)
      ∧ r.2.mem ((c.tc : Thread Cert.KernelPLatIdeal.nD Cert.KernelPLatIdeal.τ).loc Cert.KernelPLatIdeal.main_arg1) = m ((c.tc : Thread Cert.KernelPLatIdeal.nD Cert.KernelPLatIdeal.τ).loc Cert.KernelPLatIdeal.main_arg1))
      ∧ r.2.sem = fun _ => 0)

def quiescent_ReferencePLatIdeal [hReferencePLatIdeal : Cert.ReferencePLatIdeal.Facts] : Prop :=
  ∀ (m : (ℓ : Loc Cert.ReferencePLatIdeal.nD Cert.ReferencePLatIdeal.τ Cert.ReferencePLatIdeal.sig) → Buf (Elt Ideal) ℓ) (g : Dev Cert.ReferencePLatIdeal.nD → PrngReg), Pre_ReferencePLatIdeal m →
    θ_run (Cert.ReferencePLatIdeal.defs (F := Ideal)) (onTc (τ := Cert.ReferencePLatIdeal.τ) (Cert.ReferencePLatIdeal.main (F := Ideal))) ⟨m, fun _ => 0, g⟩ (fun r => (∀ c : Dev Cert.ReferencePLatIdeal.nD,
      r.2.mem ((c.tc : Thread Cert.ReferencePLatIdeal.nD Cert.ReferencePLatIdeal.τ).loc Cert.ReferencePLatIdeal.main_arg0) = m ((c.tc : Thread Cert.ReferencePLatIdeal.nD Cert.ReferencePLatIdeal.τ).loc Cert.ReferencePLatIdeal.main_arg0)
      ∧ r.2.mem ((c.tc : Thread Cert.ReferencePLatIdeal.nD Cert.ReferencePLatIdeal.τ).loc Cert.ReferencePLatIdeal.main_arg1) = m ((c.tc : Thread Cert.ReferencePLatIdeal.nD Cert.ReferencePLatIdeal.τ).loc Cert.ReferencePLatIdeal.main_arg1))
      ∧ r.2.sem = fun _ => 0)

def quiescent_KernelQUp [hKernelQUp : Cert.KernelQUp.Facts] : Prop :=
  ∀ (m : (ℓ : Loc Cert.KernelQUp.nD Cert.KernelQUp.τ Cert.KernelQUp.sig) → Buf (Elt Bits) ℓ) (g : Dev Cert.KernelQUp.nD → PrngReg), Pre_KernelQUp m →
    θ_run (Cert.KernelQUp.defs (F := Bits)) (onTc (τ := Cert.KernelQUp.τ) (Cert.KernelQUp.main (F := Bits))) ⟨m, fun _ => 0, g⟩ (fun r => (∀ c : Dev Cert.KernelQUp.nD,
      r.2.mem ((c.tc : Thread Cert.KernelQUp.nD Cert.KernelQUp.τ).loc Cert.KernelQUp.main_arg0) = m ((c.tc : Thread Cert.KernelQUp.nD Cert.KernelQUp.τ).loc Cert.KernelQUp.main_arg0)
      ∧ r.2.mem ((c.tc : Thread Cert.KernelQUp.nD Cert.KernelQUp.τ).loc Cert.KernelQUp.main_arg1) = m ((c.tc : Thread Cert.KernelQUp.nD Cert.KernelQUp.τ).loc Cert.KernelQUp.main_arg1))
      ∧ r.2.sem = fun _ => 0)

def quiescent_KernelQUpIdeal [hKernelQUpIdeal : Cert.KernelQUpIdeal.Facts] : Prop :=
  ∀ (m : (ℓ : Loc Cert.KernelQUpIdeal.nD Cert.KernelQUpIdeal.τ Cert.KernelQUpIdeal.sig) → Buf (Elt Ideal) ℓ) (g : Dev Cert.KernelQUpIdeal.nD → PrngReg), Pre_KernelQUpIdeal m →
    θ_run (Cert.KernelQUpIdeal.defs (F := Ideal)) (onTc (τ := Cert.KernelQUpIdeal.τ) (Cert.KernelQUpIdeal.main (F := Ideal))) ⟨m, fun _ => 0, g⟩ (fun r => (∀ c : Dev Cert.KernelQUpIdeal.nD,
      r.2.mem ((c.tc : Thread Cert.KernelQUpIdeal.nD Cert.KernelQUpIdeal.τ).loc Cert.KernelQUpIdeal.main_arg0) = m ((c.tc : Thread Cert.KernelQUpIdeal.nD Cert.KernelQUpIdeal.τ).loc Cert.KernelQUpIdeal.main_arg0)
      ∧ r.2.mem ((c.tc : Thread Cert.KernelQUpIdeal.nD Cert.KernelQUpIdeal.τ).loc Cert.KernelQUpIdeal.main_arg1) = m ((c.tc : Thread Cert.KernelQUpIdeal.nD Cert.KernelQUpIdeal.τ).loc Cert.KernelQUpIdeal.main_arg1))
      ∧ r.2.sem = fun _ => 0)

def quiescent_ReferenceQUpIdeal [hReferenceQUpIdeal : Cert.ReferenceQUpIdeal.Facts] : Prop :=
  ∀ (m : (ℓ : Loc Cert.ReferenceQUpIdeal.nD Cert.ReferenceQUpIdeal.τ Cert.ReferenceQUpIdeal.sig) → Buf (Elt Ideal) ℓ) (g : Dev Cert.ReferenceQUpIdeal.nD → PrngReg), Pre_ReferenceQUpIdeal m →
    θ_run (Cert.ReferenceQUpIdeal.defs (F := Ideal)) (onTc (τ := Cert.ReferenceQUpIdeal.τ) (Cert.ReferenceQUpIdeal.main (F := Ideal))) ⟨m, fun _ => 0, g⟩ (fun r => (∀ c : Dev Cert.ReferenceQUpIdeal.nD,
      r.2.mem ((c.tc : Thread Cert.ReferenceQUpIdeal.nD Cert.ReferenceQUpIdeal.τ).loc Cert.ReferenceQUpIdeal.main_arg0) = m ((c.tc : Thread Cert.ReferenceQUpIdeal.nD Cert.ReferenceQUpIdeal.τ).loc Cert.ReferenceQUpIdeal.main_arg0)
      ∧ r.2.mem ((c.tc : Thread Cert.ReferenceQUpIdeal.nD Cert.ReferenceQUpIdeal.τ).loc Cert.ReferenceQUpIdeal.main_arg1) = m ((c.tc : Thread Cert.ReferenceQUpIdeal.nD Cert.ReferenceQUpIdeal.τ).loc Cert.ReferenceQUpIdeal.main_arg1))
      ∧ r.2.sem = fun _ => 0)

def quiescent_KernelKvUp [hKernelKvUp : Cert.KernelKvUp.Facts] : Prop :=
  ∀ (m : (ℓ : Loc Cert.KernelKvUp.nD Cert.KernelKvUp.τ Cert.KernelKvUp.sig) → Buf (Elt Bits) ℓ) (g : Dev Cert.KernelKvUp.nD → PrngReg), Pre_KernelKvUp m →
    θ_run (Cert.KernelKvUp.defs (F := Bits)) (onTc (τ := Cert.KernelKvUp.τ) (Cert.KernelKvUp.main (F := Bits))) ⟨m, fun _ => 0, g⟩ (fun r => (∀ c : Dev Cert.KernelKvUp.nD,
      r.2.mem ((c.tc : Thread Cert.KernelKvUp.nD Cert.KernelKvUp.τ).loc Cert.KernelKvUp.main_arg0) = m ((c.tc : Thread Cert.KernelKvUp.nD Cert.KernelKvUp.τ).loc Cert.KernelKvUp.main_arg0)
      ∧ r.2.mem ((c.tc : Thread Cert.KernelKvUp.nD Cert.KernelKvUp.τ).loc Cert.KernelKvUp.main_arg1) = m ((c.tc : Thread Cert.KernelKvUp.nD Cert.KernelKvUp.τ).loc Cert.KernelKvUp.main_arg1))
      ∧ r.2.sem = fun _ => 0)

def quiescent_KernelKvUpIdeal [hKernelKvUpIdeal : Cert.KernelKvUpIdeal.Facts] : Prop :=
  ∀ (m : (ℓ : Loc Cert.KernelKvUpIdeal.nD Cert.KernelKvUpIdeal.τ Cert.KernelKvUpIdeal.sig) → Buf (Elt Ideal) ℓ) (g : Dev Cert.KernelKvUpIdeal.nD → PrngReg), Pre_KernelKvUpIdeal m →
    θ_run (Cert.KernelKvUpIdeal.defs (F := Ideal)) (onTc (τ := Cert.KernelKvUpIdeal.τ) (Cert.KernelKvUpIdeal.main (F := Ideal))) ⟨m, fun _ => 0, g⟩ (fun r => (∀ c : Dev Cert.KernelKvUpIdeal.nD,
      r.2.mem ((c.tc : Thread Cert.KernelKvUpIdeal.nD Cert.KernelKvUpIdeal.τ).loc Cert.KernelKvUpIdeal.main_arg0) = m ((c.tc : Thread Cert.KernelKvUpIdeal.nD Cert.KernelKvUpIdeal.τ).loc Cert.KernelKvUpIdeal.main_arg0)
      ∧ r.2.mem ((c.tc : Thread Cert.KernelKvUpIdeal.nD Cert.KernelKvUpIdeal.τ).loc Cert.KernelKvUpIdeal.main_arg1) = m ((c.tc : Thread Cert.KernelKvUpIdeal.nD Cert.KernelKvUpIdeal.τ).loc Cert.KernelKvUpIdeal.main_arg1))
      ∧ r.2.sem = fun _ => 0)

def quiescent_ReferenceKvUpIdeal [hReferenceKvUpIdeal : Cert.ReferenceKvUpIdeal.Facts] : Prop :=
  ∀ (m : (ℓ : Loc Cert.ReferenceKvUpIdeal.nD Cert.ReferenceKvUpIdeal.τ Cert.ReferenceKvUpIdeal.sig) → Buf (Elt Ideal) ℓ) (g : Dev Cert.ReferenceKvUpIdeal.nD → PrngReg), Pre_ReferenceKvUpIdeal m →
    θ_run (Cert.ReferenceKvUpIdeal.defs (F := Ideal)) (onTc (τ := Cert.ReferenceKvUpIdeal.τ) (Cert.ReferenceKvUpIdeal.main (F := Ideal))) ⟨m, fun _ => 0, g⟩ (fun r => (∀ c : Dev Cert.ReferenceKvUpIdeal.nD,
      r.2.mem ((c.tc : Thread Cert.ReferenceKvUpIdeal.nD Cert.ReferenceKvUpIdeal.τ).loc Cert.ReferenceKvUpIdeal.main_arg0) = m ((c.tc : Thread Cert.ReferenceKvUpIdeal.nD Cert.ReferenceKvUpIdeal.τ).loc Cert.ReferenceKvUpIdeal.main_arg0)
      ∧ r.2.mem ((c.tc : Thread Cert.ReferenceKvUpIdeal.nD Cert.ReferenceKvUpIdeal.τ).loc Cert.ReferenceKvUpIdeal.main_arg1) = m ((c.tc : Thread Cert.ReferenceKvUpIdeal.nD Cert.ReferenceKvUpIdeal.τ).loc Cert.ReferenceKvUpIdeal.main_arg1))
      ∧ r.2.sem = fun _ => 0)

def quiescent_KernelPleG [hKernelPleG : Cert.KernelPleG.Facts] : Prop :=
  ∀ (m : (ℓ : Loc Cert.KernelPleG.nD Cert.KernelPleG.τ Cert.KernelPleG.sig) → Buf (Elt Bits) ℓ) (g : Dev Cert.KernelPleG.nD → PrngReg), Pre_KernelPleG m →
    θ_run (Cert.KernelPleG.defs (F := Bits)) (onTc (τ := Cert.KernelPleG.τ) (Cert.KernelPleG.main (F := Bits))) ⟨m, fun _ => 0, g⟩ (fun r => (∀ c : Dev Cert.KernelPleG.nD,
      r.2.mem ((c.tc : Thread Cert.KernelPleG.nD Cert.KernelPleG.τ).loc Cert.KernelPleG.main_arg0) = m ((c.tc : Thread Cert.KernelPleG.nD Cert.KernelPleG.τ).loc Cert.KernelPleG.main_arg0)
      ∧ r.2.mem ((c.tc : Thread Cert.KernelPleG.nD Cert.KernelPleG.τ).loc Cert.KernelPleG.main_arg1) = m ((c.tc : Thread Cert.KernelPleG.nD Cert.KernelPleG.τ).loc Cert.KernelPleG.main_arg1))
      ∧ r.2.sem = fun _ => 0)

def quiescent_KernelPleGIdeal [hKernelPleGIdeal : Cert.KernelPleGIdeal.Facts] : Prop :=
  ∀ (m : (ℓ : Loc Cert.KernelPleGIdeal.nD Cert.KernelPleGIdeal.τ Cert.KernelPleGIdeal.sig) → Buf (Elt Ideal) ℓ) (g : Dev Cert.KernelPleGIdeal.nD → PrngReg), Pre_KernelPleGIdeal m →
    θ_run (Cert.KernelPleGIdeal.defs (F := Ideal)) (onTc (τ := Cert.KernelPleGIdeal.τ) (Cert.KernelPleGIdeal.main (F := Ideal))) ⟨m, fun _ => 0, g⟩ (fun r => (∀ c : Dev Cert.KernelPleGIdeal.nD,
      r.2.mem ((c.tc : Thread Cert.KernelPleGIdeal.nD Cert.KernelPleGIdeal.τ).loc Cert.KernelPleGIdeal.main_arg0) = m ((c.tc : Thread Cert.KernelPleGIdeal.nD Cert.KernelPleGIdeal.τ).loc Cert.KernelPleGIdeal.main_arg0)
      ∧ r.2.mem ((c.tc : Thread Cert.KernelPleGIdeal.nD Cert.KernelPleGIdeal.τ).loc Cert.KernelPleGIdeal.main_arg1) = m ((c.tc : Thread Cert.KernelPleGIdeal.nD Cert.KernelPleGIdeal.τ).loc Cert.KernelPleGIdeal.main_arg1))
      ∧ r.2.sem = fun _ => 0)

def quiescent_ReferencePleGIdeal [hReferencePleGIdeal : Cert.ReferencePleGIdeal.Facts] : Prop :=
  ∀ (m : (ℓ : Loc Cert.ReferencePleGIdeal.nD Cert.ReferencePleGIdeal.τ Cert.ReferencePleGIdeal.sig) → Buf (Elt Ideal) ℓ) (g : Dev Cert.ReferencePleGIdeal.nD → PrngReg), Pre_ReferencePleGIdeal m →
    θ_run (Cert.ReferencePleGIdeal.defs (F := Ideal)) (onTc (τ := Cert.ReferencePleGIdeal.τ) (Cert.ReferencePleGIdeal.main (F := Ideal))) ⟨m, fun _ => 0, g⟩ (fun r => (∀ c : Dev Cert.ReferencePleGIdeal.nD,
      r.2.mem ((c.tc : Thread Cert.ReferencePleGIdeal.nD Cert.ReferencePleGIdeal.τ).loc Cert.ReferencePleGIdeal.main_arg0) = m ((c.tc : Thread Cert.ReferencePleGIdeal.nD Cert.ReferencePleGIdeal.τ).loc Cert.ReferencePleGIdeal.main_arg0)
      ∧ r.2.mem ((c.tc : Thread Cert.ReferencePleGIdeal.nD Cert.ReferencePleGIdeal.τ).loc Cert.ReferencePleGIdeal.main_arg1) = m ((c.tc : Thread Cert.ReferencePleGIdeal.nD Cert.ReferencePleGIdeal.τ).loc Cert.ReferencePleGIdeal.main_arg1))
      ∧ r.2.sem = fun _ => 0)

def quiescent_KernelPleN [hKernelPleN : Cert.KernelPleN.Facts] : Prop :=
  ∀ (m : (ℓ : Loc Cert.KernelPleN.nD Cert.KernelPleN.τ Cert.KernelPleN.sig) → Buf (Elt Bits) ℓ) (g : Dev Cert.KernelPleN.nD → PrngReg), Pre_KernelPleN m →
    θ_run (Cert.KernelPleN.defs (F := Bits)) (onTc (τ := Cert.KernelPleN.τ) (Cert.KernelPleN.main (F := Bits))) ⟨m, fun _ => 0, g⟩ (fun r => (∀ c : Dev Cert.KernelPleN.nD,
      r.2.mem ((c.tc : Thread Cert.KernelPleN.nD Cert.KernelPleN.τ).loc Cert.KernelPleN.main_arg0) = m ((c.tc : Thread Cert.KernelPleN.nD Cert.KernelPleN.τ).loc Cert.KernelPleN.main_arg0)
      ∧ r.2.mem ((c.tc : Thread Cert.KernelPleN.nD Cert.KernelPleN.τ).loc Cert.KernelPleN.main_arg1) = m ((c.tc : Thread Cert.KernelPleN.nD Cert.KernelPleN.τ).loc Cert.KernelPleN.main_arg1))
      ∧ r.2.sem = fun _ => 0)

def quiescent_KernelPleNIdeal [hKernelPleNIdeal : Cert.KernelPleNIdeal.Facts] : Prop :=
  ∀ (m : (ℓ : Loc Cert.KernelPleNIdeal.nD Cert.KernelPleNIdeal.τ Cert.KernelPleNIdeal.sig) → Buf (Elt Ideal) ℓ) (g : Dev Cert.KernelPleNIdeal.nD → PrngReg), Pre_KernelPleNIdeal m →
    θ_run (Cert.KernelPleNIdeal.defs (F := Ideal)) (onTc (τ := Cert.KernelPleNIdeal.τ) (Cert.KernelPleNIdeal.main (F := Ideal))) ⟨m, fun _ => 0, g⟩ (fun r => (∀ c : Dev Cert.KernelPleNIdeal.nD,
      r.2.mem ((c.tc : Thread Cert.KernelPleNIdeal.nD Cert.KernelPleNIdeal.τ).loc Cert.KernelPleNIdeal.main_arg0) = m ((c.tc : Thread Cert.KernelPleNIdeal.nD Cert.KernelPleNIdeal.τ).loc Cert.KernelPleNIdeal.main_arg0)
      ∧ r.2.mem ((c.tc : Thread Cert.KernelPleNIdeal.nD Cert.KernelPleNIdeal.τ).loc Cert.KernelPleNIdeal.main_arg1) = m ((c.tc : Thread Cert.KernelPleNIdeal.nD Cert.KernelPleNIdeal.τ).loc Cert.KernelPleNIdeal.main_arg1))
      ∧ r.2.sem = fun _ => 0)

def quiescent_ReferencePleNIdeal [hReferencePleNIdeal : Cert.ReferencePleNIdeal.Facts] : Prop :=
  ∀ (m : (ℓ : Loc Cert.ReferencePleNIdeal.nD Cert.ReferencePleNIdeal.τ Cert.ReferencePleNIdeal.sig) → Buf (Elt Ideal) ℓ) (g : Dev Cert.ReferencePleNIdeal.nD → PrngReg), Pre_ReferencePleNIdeal m →
    θ_run (Cert.ReferencePleNIdeal.defs (F := Ideal)) (onTc (τ := Cert.ReferencePleNIdeal.τ) (Cert.ReferencePleNIdeal.main (F := Ideal))) ⟨m, fun _ => 0, g⟩ (fun r => (∀ c : Dev Cert.ReferencePleNIdeal.nD,
      r.2.mem ((c.tc : Thread Cert.ReferencePleNIdeal.nD Cert.ReferencePleNIdeal.τ).loc Cert.ReferencePleNIdeal.main_arg0) = m ((c.tc : Thread Cert.ReferencePleNIdeal.nD Cert.ReferencePleNIdeal.τ).loc Cert.ReferencePleNIdeal.main_arg0)
      ∧ r.2.mem ((c.tc : Thread Cert.ReferencePleNIdeal.nD Cert.ReferencePleNIdeal.τ).loc Cert.ReferencePleNIdeal.main_arg1) = m ((c.tc : Thread Cert.ReferencePleNIdeal.nD Cert.ReferencePleNIdeal.τ).loc Cert.ReferencePleNIdeal.main_arg1))
      ∧ r.2.sem = fun _ => 0)

def quiescent_KernelWLat [hKernelWLat : Cert.KernelWLat.Facts] : Prop :=
  ∀ (m : (ℓ : Loc Cert.KernelWLat.nD Cert.KernelWLat.τ Cert.KernelWLat.sig) → Buf (Elt Bits) ℓ) (g : Dev Cert.KernelWLat.nD → PrngReg), Pre_KernelWLat m →
    θ_run (Cert.KernelWLat.defs (F := Bits)) (onTc (τ := Cert.KernelWLat.τ) (Cert.KernelWLat.main (F := Bits))) ⟨m, fun _ => 0, g⟩ (fun r => (∀ c : Dev Cert.KernelWLat.nD,
      r.2.mem ((c.tc : Thread Cert.KernelWLat.nD Cert.KernelWLat.τ).loc Cert.KernelWLat.main_arg0) = m ((c.tc : Thread Cert.KernelWLat.nD Cert.KernelWLat.τ).loc Cert.KernelWLat.main_arg0)
      ∧ r.2.mem ((c.tc : Thread Cert.KernelWLat.nD Cert.KernelWLat.τ).loc Cert.KernelWLat.main_arg1) = m ((c.tc : Thread Cert.KernelWLat.nD Cert.KernelWLat.τ).loc Cert.KernelWLat.main_arg1))
      ∧ r.2.sem = fun _ => 0)

def quiescent_KernelWLatIdeal [hKernelWLatIdeal : Cert.KernelWLatIdeal.Facts] : Prop :=
  ∀ (m : (ℓ : Loc Cert.KernelWLatIdeal.nD Cert.KernelWLatIdeal.τ Cert.KernelWLatIdeal.sig) → Buf (Elt Ideal) ℓ) (g : Dev Cert.KernelWLatIdeal.nD → PrngReg), Pre_KernelWLatIdeal m →
    θ_run (Cert.KernelWLatIdeal.defs (F := Ideal)) (onTc (τ := Cert.KernelWLatIdeal.τ) (Cert.KernelWLatIdeal.main (F := Ideal))) ⟨m, fun _ => 0, g⟩ (fun r => (∀ c : Dev Cert.KernelWLatIdeal.nD,
      r.2.mem ((c.tc : Thread Cert.KernelWLatIdeal.nD Cert.KernelWLatIdeal.τ).loc Cert.KernelWLatIdeal.main_arg0) = m ((c.tc : Thread Cert.KernelWLatIdeal.nD Cert.KernelWLatIdeal.τ).loc Cert.KernelWLatIdeal.main_arg0)
      ∧ r.2.mem ((c.tc : Thread Cert.KernelWLatIdeal.nD Cert.KernelWLatIdeal.τ).loc Cert.KernelWLatIdeal.main_arg1) = m ((c.tc : Thread Cert.KernelWLatIdeal.nD Cert.KernelWLatIdeal.τ).loc Cert.KernelWLatIdeal.main_arg1))
      ∧ r.2.sem = fun _ => 0)

def quiescent_ReferenceWLatIdeal [hReferenceWLatIdeal : Cert.ReferenceWLatIdeal.Facts] : Prop :=
  ∀ (m : (ℓ : Loc Cert.ReferenceWLatIdeal.nD Cert.ReferenceWLatIdeal.τ Cert.ReferenceWLatIdeal.sig) → Buf (Elt Ideal) ℓ) (g : Dev Cert.ReferenceWLatIdeal.nD → PrngReg), Pre_ReferenceWLatIdeal m →
    θ_run (Cert.ReferenceWLatIdeal.defs (F := Ideal)) (onTc (τ := Cert.ReferenceWLatIdeal.τ) (Cert.ReferenceWLatIdeal.main (F := Ideal))) ⟨m, fun _ => 0, g⟩ (fun r => (∀ c : Dev Cert.ReferenceWLatIdeal.nD,
      r.2.mem ((c.tc : Thread Cert.ReferenceWLatIdeal.nD Cert.ReferenceWLatIdeal.τ).loc Cert.ReferenceWLatIdeal.main_arg0) = m ((c.tc : Thread Cert.ReferenceWLatIdeal.nD Cert.ReferenceWLatIdeal.τ).loc Cert.ReferenceWLatIdeal.main_arg0)
      ∧ r.2.mem ((c.tc : Thread Cert.ReferenceWLatIdeal.nD Cert.ReferenceWLatIdeal.τ).loc Cert.ReferenceWLatIdeal.main_arg1) = m ((c.tc : Thread Cert.ReferenceWLatIdeal.nD Cert.ReferenceWLatIdeal.τ).loc Cert.ReferenceWLatIdeal.main_arg1))
      ∧ r.2.sem = fun _ => 0)

def quiescent_KernelWUq [hKernelWUq : Cert.KernelWUq.Facts] : Prop :=
  ∀ (m : (ℓ : Loc Cert.KernelWUq.nD Cert.KernelWUq.τ Cert.KernelWUq.sig) → Buf (Elt Bits) ℓ) (g : Dev Cert.KernelWUq.nD → PrngReg), Pre_KernelWUq m →
    θ_run (Cert.KernelWUq.defs (F := Bits)) (onTc (τ := Cert.KernelWUq.τ) (Cert.KernelWUq.main (F := Bits))) ⟨m, fun _ => 0, g⟩ (fun r => (∀ c : Dev Cert.KernelWUq.nD,
      r.2.mem ((c.tc : Thread Cert.KernelWUq.nD Cert.KernelWUq.τ).loc Cert.KernelWUq.main_arg0) = m ((c.tc : Thread Cert.KernelWUq.nD Cert.KernelWUq.τ).loc Cert.KernelWUq.main_arg0)
      ∧ r.2.mem ((c.tc : Thread Cert.KernelWUq.nD Cert.KernelWUq.τ).loc Cert.KernelWUq.main_arg1) = m ((c.tc : Thread Cert.KernelWUq.nD Cert.KernelWUq.τ).loc Cert.KernelWUq.main_arg1))
      ∧ r.2.sem = fun _ => 0)

def quiescent_KernelWUqIdeal [hKernelWUqIdeal : Cert.KernelWUqIdeal.Facts] : Prop :=
  ∀ (m : (ℓ : Loc Cert.KernelWUqIdeal.nD Cert.KernelWUqIdeal.τ Cert.KernelWUqIdeal.sig) → Buf (Elt Ideal) ℓ) (g : Dev Cert.KernelWUqIdeal.nD → PrngReg), Pre_KernelWUqIdeal m →
    θ_run (Cert.KernelWUqIdeal.defs (F := Ideal)) (onTc (τ := Cert.KernelWUqIdeal.τ) (Cert.KernelWUqIdeal.main (F := Ideal))) ⟨m, fun _ => 0, g⟩ (fun r => (∀ c : Dev Cert.KernelWUqIdeal.nD,
      r.2.mem ((c.tc : Thread Cert.KernelWUqIdeal.nD Cert.KernelWUqIdeal.τ).loc Cert.KernelWUqIdeal.main_arg0) = m ((c.tc : Thread Cert.KernelWUqIdeal.nD Cert.KernelWUqIdeal.τ).loc Cert.KernelWUqIdeal.main_arg0)
      ∧ r.2.mem ((c.tc : Thread Cert.KernelWUqIdeal.nD Cert.KernelWUqIdeal.τ).loc Cert.KernelWUqIdeal.main_arg1) = m ((c.tc : Thread Cert.KernelWUqIdeal.nD Cert.KernelWUqIdeal.τ).loc Cert.KernelWUqIdeal.main_arg1))
      ∧ r.2.sem = fun _ => 0)

def quiescent_ReferenceWUqIdeal [hReferenceWUqIdeal : Cert.ReferenceWUqIdeal.Facts] : Prop :=
  ∀ (m : (ℓ : Loc Cert.ReferenceWUqIdeal.nD Cert.ReferenceWUqIdeal.τ Cert.ReferenceWUqIdeal.sig) → Buf (Elt Ideal) ℓ) (g : Dev Cert.ReferenceWUqIdeal.nD → PrngReg), Pre_ReferenceWUqIdeal m →
    θ_run (Cert.ReferenceWUqIdeal.defs (F := Ideal)) (onTc (τ := Cert.ReferenceWUqIdeal.τ) (Cert.ReferenceWUqIdeal.main (F := Ideal))) ⟨m, fun _ => 0, g⟩ (fun r => (∀ c : Dev Cert.ReferenceWUqIdeal.nD,
      r.2.mem ((c.tc : Thread Cert.ReferenceWUqIdeal.nD Cert.ReferenceWUqIdeal.τ).loc Cert.ReferenceWUqIdeal.main_arg0) = m ((c.tc : Thread Cert.ReferenceWUqIdeal.nD Cert.ReferenceWUqIdeal.τ).loc Cert.ReferenceWUqIdeal.main_arg0)
      ∧ r.2.mem ((c.tc : Thread Cert.ReferenceWUqIdeal.nD Cert.ReferenceWUqIdeal.τ).loc Cert.ReferenceWUqIdeal.main_arg1) = m ((c.tc : Thread Cert.ReferenceWUqIdeal.nD Cert.ReferenceWUqIdeal.τ).loc Cert.ReferenceWUqIdeal.main_arg1))
      ∧ r.2.sem = fun _ => 0)

def quiescent_KernelWUkv [hKernelWUkv : Cert.KernelWUkv.Facts] : Prop :=
  ∀ (m : (ℓ : Loc Cert.KernelWUkv.nD Cert.KernelWUkv.τ Cert.KernelWUkv.sig) → Buf (Elt Bits) ℓ) (g : Dev Cert.KernelWUkv.nD → PrngReg), Pre_KernelWUkv m →
    θ_run (Cert.KernelWUkv.defs (F := Bits)) (onTc (τ := Cert.KernelWUkv.τ) (Cert.KernelWUkv.main (F := Bits))) ⟨m, fun _ => 0, g⟩ (fun r => (∀ c : Dev Cert.KernelWUkv.nD,
      r.2.mem ((c.tc : Thread Cert.KernelWUkv.nD Cert.KernelWUkv.τ).loc Cert.KernelWUkv.main_arg0) = m ((c.tc : Thread Cert.KernelWUkv.nD Cert.KernelWUkv.τ).loc Cert.KernelWUkv.main_arg0)
      ∧ r.2.mem ((c.tc : Thread Cert.KernelWUkv.nD Cert.KernelWUkv.τ).loc Cert.KernelWUkv.main_arg1) = m ((c.tc : Thread Cert.KernelWUkv.nD Cert.KernelWUkv.τ).loc Cert.KernelWUkv.main_arg1))
      ∧ r.2.sem = fun _ => 0)

def quiescent_KernelWUkvIdeal [hKernelWUkvIdeal : Cert.KernelWUkvIdeal.Facts] : Prop :=
  ∀ (m : (ℓ : Loc Cert.KernelWUkvIdeal.nD Cert.KernelWUkvIdeal.τ Cert.KernelWUkvIdeal.sig) → Buf (Elt Ideal) ℓ) (g : Dev Cert.KernelWUkvIdeal.nD → PrngReg), Pre_KernelWUkvIdeal m →
    θ_run (Cert.KernelWUkvIdeal.defs (F := Ideal)) (onTc (τ := Cert.KernelWUkvIdeal.τ) (Cert.KernelWUkvIdeal.main (F := Ideal))) ⟨m, fun _ => 0, g⟩ (fun r => (∀ c : Dev Cert.KernelWUkvIdeal.nD,
      r.2.mem ((c.tc : Thread Cert.KernelWUkvIdeal.nD Cert.KernelWUkvIdeal.τ).loc Cert.KernelWUkvIdeal.main_arg0) = m ((c.tc : Thread Cert.KernelWUkvIdeal.nD Cert.KernelWUkvIdeal.τ).loc Cert.KernelWUkvIdeal.main_arg0)
      ∧ r.2.mem ((c.tc : Thread Cert.KernelWUkvIdeal.nD Cert.KernelWUkvIdeal.τ).loc Cert.KernelWUkvIdeal.main_arg1) = m ((c.tc : Thread Cert.KernelWUkvIdeal.nD Cert.KernelWUkvIdeal.τ).loc Cert.KernelWUkvIdeal.main_arg1))
      ∧ r.2.sem = fun _ => 0)

def quiescent_ReferenceWUkvIdeal [hReferenceWUkvIdeal : Cert.ReferenceWUkvIdeal.Facts] : Prop :=
  ∀ (m : (ℓ : Loc Cert.ReferenceWUkvIdeal.nD Cert.ReferenceWUkvIdeal.τ Cert.ReferenceWUkvIdeal.sig) → Buf (Elt Ideal) ℓ) (g : Dev Cert.ReferenceWUkvIdeal.nD → PrngReg), Pre_ReferenceWUkvIdeal m →
    θ_run (Cert.ReferenceWUkvIdeal.defs (F := Ideal)) (onTc (τ := Cert.ReferenceWUkvIdeal.τ) (Cert.ReferenceWUkvIdeal.main (F := Ideal))) ⟨m, fun _ => 0, g⟩ (fun r => (∀ c : Dev Cert.ReferenceWUkvIdeal.nD,
      r.2.mem ((c.tc : Thread Cert.ReferenceWUkvIdeal.nD Cert.ReferenceWUkvIdeal.τ).loc Cert.ReferenceWUkvIdeal.main_arg0) = m ((c.tc : Thread Cert.ReferenceWUkvIdeal.nD Cert.ReferenceWUkvIdeal.τ).loc Cert.ReferenceWUkvIdeal.main_arg0)
      ∧ r.2.mem ((c.tc : Thread Cert.ReferenceWUkvIdeal.nD Cert.ReferenceWUkvIdeal.τ).loc Cert.ReferenceWUkvIdeal.main_arg1) = m ((c.tc : Thread Cert.ReferenceWUkvIdeal.nD Cert.ReferenceWUkvIdeal.τ).loc Cert.ReferenceWUkvIdeal.main_arg1))
      ∧ r.2.sem = fun _ => 0)

def quiescent_KernelCq [hKernelCq : Cert.KernelCq.Facts] : Prop :=
  ∀ (m : (ℓ : Loc Cert.KernelCq.nD Cert.KernelCq.τ Cert.KernelCq.sig) → Buf (Elt Bits) ℓ) (g : Dev Cert.KernelCq.nD → PrngReg), Pre_KernelCq m →
    θ_run (Cert.KernelCq.defs (F := Bits)) (onTc (τ := Cert.KernelCq.τ) (Cert.KernelCq.main (F := Bits))) ⟨m, fun _ => 0, g⟩ (fun r => (∀ c : Dev Cert.KernelCq.nD,
      r.2.mem ((c.tc : Thread Cert.KernelCq.nD Cert.KernelCq.τ).loc Cert.KernelCq.main_arg0) = m ((c.tc : Thread Cert.KernelCq.nD Cert.KernelCq.τ).loc Cert.KernelCq.main_arg0)
      ∧ r.2.mem ((c.tc : Thread Cert.KernelCq.nD Cert.KernelCq.τ).loc Cert.KernelCq.main_arg1) = m ((c.tc : Thread Cert.KernelCq.nD Cert.KernelCq.τ).loc Cert.KernelCq.main_arg1))
      ∧ r.2.sem = fun _ => 0)

def quiescent_KernelCqIdeal [hKernelCqIdeal : Cert.KernelCqIdeal.Facts] : Prop :=
  ∀ (m : (ℓ : Loc Cert.KernelCqIdeal.nD Cert.KernelCqIdeal.τ Cert.KernelCqIdeal.sig) → Buf (Elt Ideal) ℓ) (g : Dev Cert.KernelCqIdeal.nD → PrngReg), Pre_KernelCqIdeal m →
    θ_run (Cert.KernelCqIdeal.defs (F := Ideal)) (onTc (τ := Cert.KernelCqIdeal.τ) (Cert.KernelCqIdeal.main (F := Ideal))) ⟨m, fun _ => 0, g⟩ (fun r => (∀ c : Dev Cert.KernelCqIdeal.nD,
      r.2.mem ((c.tc : Thread Cert.KernelCqIdeal.nD Cert.KernelCqIdeal.τ).loc Cert.KernelCqIdeal.main_arg0) = m ((c.tc : Thread Cert.KernelCqIdeal.nD Cert.KernelCqIdeal.τ).loc Cert.KernelCqIdeal.main_arg0)
      ∧ r.2.mem ((c.tc : Thread Cert.KernelCqIdeal.nD Cert.KernelCqIdeal.τ).loc Cert.KernelCqIdeal.main_arg1) = m ((c.tc : Thread Cert.KernelCqIdeal.nD Cert.KernelCqIdeal.τ).loc Cert.KernelCqIdeal.main_arg1))
      ∧ r.2.sem = fun _ => 0)

def quiescent_ReferenceCqIdeal [hReferenceCqIdeal : Cert.ReferenceCqIdeal.Facts] : Prop :=
  ∀ (m : (ℓ : Loc Cert.ReferenceCqIdeal.nD Cert.ReferenceCqIdeal.τ Cert.ReferenceCqIdeal.sig) → Buf (Elt Ideal) ℓ) (g : Dev Cert.ReferenceCqIdeal.nD → PrngReg), Pre_ReferenceCqIdeal m →
    θ_run (Cert.ReferenceCqIdeal.defs (F := Ideal)) (onTc (τ := Cert.ReferenceCqIdeal.τ) (Cert.ReferenceCqIdeal.main (F := Ideal))) ⟨m, fun _ => 0, g⟩ (fun r => (∀ c : Dev Cert.ReferenceCqIdeal.nD,
      r.2.mem ((c.tc : Thread Cert.ReferenceCqIdeal.nD Cert.ReferenceCqIdeal.τ).loc Cert.ReferenceCqIdeal.main_arg0) = m ((c.tc : Thread Cert.ReferenceCqIdeal.nD Cert.ReferenceCqIdeal.τ).loc Cert.ReferenceCqIdeal.main_arg0)
      ∧ r.2.mem ((c.tc : Thread Cert.ReferenceCqIdeal.nD Cert.ReferenceCqIdeal.τ).loc Cert.ReferenceCqIdeal.main_arg1) = m ((c.tc : Thread Cert.ReferenceCqIdeal.nD Cert.ReferenceCqIdeal.τ).loc Cert.ReferenceCqIdeal.main_arg1))
      ∧ r.2.sem = fun _ => 0)

def quiescent_KernelCkv [hKernelCkv : Cert.KernelCkv.Facts] : Prop :=
  ∀ (m : (ℓ : Loc Cert.KernelCkv.nD Cert.KernelCkv.τ Cert.KernelCkv.sig) → Buf (Elt Bits) ℓ) (g : Dev Cert.KernelCkv.nD → PrngReg), Pre_KernelCkv m →
    θ_run (Cert.KernelCkv.defs (F := Bits)) (onTc (τ := Cert.KernelCkv.τ) (Cert.KernelCkv.main (F := Bits))) ⟨m, fun _ => 0, g⟩ (fun r => (∀ c : Dev Cert.KernelCkv.nD,
      r.2.mem ((c.tc : Thread Cert.KernelCkv.nD Cert.KernelCkv.τ).loc Cert.KernelCkv.main_arg0) = m ((c.tc : Thread Cert.KernelCkv.nD Cert.KernelCkv.τ).loc Cert.KernelCkv.main_arg0)
      ∧ r.2.mem ((c.tc : Thread Cert.KernelCkv.nD Cert.KernelCkv.τ).loc Cert.KernelCkv.main_arg1) = m ((c.tc : Thread Cert.KernelCkv.nD Cert.KernelCkv.τ).loc Cert.KernelCkv.main_arg1))
      ∧ r.2.sem = fun _ => 0)

def quiescent_KernelCkvIdeal [hKernelCkvIdeal : Cert.KernelCkvIdeal.Facts] : Prop :=
  ∀ (m : (ℓ : Loc Cert.KernelCkvIdeal.nD Cert.KernelCkvIdeal.τ Cert.KernelCkvIdeal.sig) → Buf (Elt Ideal) ℓ) (g : Dev Cert.KernelCkvIdeal.nD → PrngReg), Pre_KernelCkvIdeal m →
    θ_run (Cert.KernelCkvIdeal.defs (F := Ideal)) (onTc (τ := Cert.KernelCkvIdeal.τ) (Cert.KernelCkvIdeal.main (F := Ideal))) ⟨m, fun _ => 0, g⟩ (fun r => (∀ c : Dev Cert.KernelCkvIdeal.nD,
      r.2.mem ((c.tc : Thread Cert.KernelCkvIdeal.nD Cert.KernelCkvIdeal.τ).loc Cert.KernelCkvIdeal.main_arg0) = m ((c.tc : Thread Cert.KernelCkvIdeal.nD Cert.KernelCkvIdeal.τ).loc Cert.KernelCkvIdeal.main_arg0)
      ∧ r.2.mem ((c.tc : Thread Cert.KernelCkvIdeal.nD Cert.KernelCkvIdeal.τ).loc Cert.KernelCkvIdeal.main_arg1) = m ((c.tc : Thread Cert.KernelCkvIdeal.nD Cert.KernelCkvIdeal.τ).loc Cert.KernelCkvIdeal.main_arg1))
      ∧ r.2.sem = fun _ => 0)

def quiescent_ReferenceCkvIdeal [hReferenceCkvIdeal : Cert.ReferenceCkvIdeal.Facts] : Prop :=
  ∀ (m : (ℓ : Loc Cert.ReferenceCkvIdeal.nD Cert.ReferenceCkvIdeal.τ Cert.ReferenceCkvIdeal.sig) → Buf (Elt Ideal) ℓ) (g : Dev Cert.ReferenceCkvIdeal.nD → PrngReg), Pre_ReferenceCkvIdeal m →
    θ_run (Cert.ReferenceCkvIdeal.defs (F := Ideal)) (onTc (τ := Cert.ReferenceCkvIdeal.τ) (Cert.ReferenceCkvIdeal.main (F := Ideal))) ⟨m, fun _ => 0, g⟩ (fun r => (∀ c : Dev Cert.ReferenceCkvIdeal.nD,
      r.2.mem ((c.tc : Thread Cert.ReferenceCkvIdeal.nD Cert.ReferenceCkvIdeal.τ).loc Cert.ReferenceCkvIdeal.main_arg0) = m ((c.tc : Thread Cert.ReferenceCkvIdeal.nD Cert.ReferenceCkvIdeal.τ).loc Cert.ReferenceCkvIdeal.main_arg0)
      ∧ r.2.mem ((c.tc : Thread Cert.ReferenceCkvIdeal.nD Cert.ReferenceCkvIdeal.τ).loc Cert.ReferenceCkvIdeal.main_arg1) = m ((c.tc : Thread Cert.ReferenceCkvIdeal.nD Cert.ReferenceCkvIdeal.τ).loc Cert.ReferenceCkvIdeal.main_arg1))
      ∧ r.2.sem = fun _ => 0)

def quiescent_KernelOMla [hKernelOMla : Cert.KernelOMla.Facts] : Prop :=
  ∀ (m : (ℓ : Loc Cert.KernelOMla.nD Cert.KernelOMla.τ Cert.KernelOMla.sig) → Buf (Elt Bits) ℓ) (g : Dev Cert.KernelOMla.nD → PrngReg), Pre_KernelOMla m →
    θ_run (Cert.KernelOMla.defs (F := Bits)) (onTc (τ := Cert.KernelOMla.τ) (Cert.KernelOMla.main (F := Bits))) ⟨m, fun _ => 0, g⟩ (fun r => (∀ c : Dev Cert.KernelOMla.nD,
      r.2.mem ((c.tc : Thread Cert.KernelOMla.nD Cert.KernelOMla.τ).loc Cert.KernelOMla.main_arg0) = m ((c.tc : Thread Cert.KernelOMla.nD Cert.KernelOMla.τ).loc Cert.KernelOMla.main_arg0)
      ∧ r.2.mem ((c.tc : Thread Cert.KernelOMla.nD Cert.KernelOMla.τ).loc Cert.KernelOMla.main_arg1) = m ((c.tc : Thread Cert.KernelOMla.nD Cert.KernelOMla.τ).loc Cert.KernelOMla.main_arg1))
      ∧ r.2.sem = fun _ => 0)

def quiescent_KernelOMlaIdeal [hKernelOMlaIdeal : Cert.KernelOMlaIdeal.Facts] : Prop :=
  ∀ (m : (ℓ : Loc Cert.KernelOMlaIdeal.nD Cert.KernelOMlaIdeal.τ Cert.KernelOMlaIdeal.sig) → Buf (Elt Ideal) ℓ) (g : Dev Cert.KernelOMlaIdeal.nD → PrngReg), Pre_KernelOMlaIdeal m →
    θ_run (Cert.KernelOMlaIdeal.defs (F := Ideal)) (onTc (τ := Cert.KernelOMlaIdeal.τ) (Cert.KernelOMlaIdeal.main (F := Ideal))) ⟨m, fun _ => 0, g⟩ (fun r => (∀ c : Dev Cert.KernelOMlaIdeal.nD,
      r.2.mem ((c.tc : Thread Cert.KernelOMlaIdeal.nD Cert.KernelOMlaIdeal.τ).loc Cert.KernelOMlaIdeal.main_arg0) = m ((c.tc : Thread Cert.KernelOMlaIdeal.nD Cert.KernelOMlaIdeal.τ).loc Cert.KernelOMlaIdeal.main_arg0)
      ∧ r.2.mem ((c.tc : Thread Cert.KernelOMlaIdeal.nD Cert.KernelOMlaIdeal.τ).loc Cert.KernelOMlaIdeal.main_arg1) = m ((c.tc : Thread Cert.KernelOMlaIdeal.nD Cert.KernelOMlaIdeal.τ).loc Cert.KernelOMlaIdeal.main_arg1))
      ∧ r.2.sem = fun _ => 0)

def quiescent_ReferenceOMlaIdeal [hReferenceOMlaIdeal : Cert.ReferenceOMlaIdeal.Facts] : Prop :=
  ∀ (m : (ℓ : Loc Cert.ReferenceOMlaIdeal.nD Cert.ReferenceOMlaIdeal.τ Cert.ReferenceOMlaIdeal.sig) → Buf (Elt Ideal) ℓ) (g : Dev Cert.ReferenceOMlaIdeal.nD → PrngReg), Pre_ReferenceOMlaIdeal m →
    θ_run (Cert.ReferenceOMlaIdeal.defs (F := Ideal)) (onTc (τ := Cert.ReferenceOMlaIdeal.τ) (Cert.ReferenceOMlaIdeal.main (F := Ideal))) ⟨m, fun _ => 0, g⟩ (fun r => (∀ c : Dev Cert.ReferenceOMlaIdeal.nD,
      r.2.mem ((c.tc : Thread Cert.ReferenceOMlaIdeal.nD Cert.ReferenceOMlaIdeal.τ).loc Cert.ReferenceOMlaIdeal.main_arg0) = m ((c.tc : Thread Cert.ReferenceOMlaIdeal.nD Cert.ReferenceOMlaIdeal.τ).loc Cert.ReferenceOMlaIdeal.main_arg0)
      ∧ r.2.mem ((c.tc : Thread Cert.ReferenceOMlaIdeal.nD Cert.ReferenceOMlaIdeal.τ).loc Cert.ReferenceOMlaIdeal.main_arg1) = m ((c.tc : Thread Cert.ReferenceOMlaIdeal.nD Cert.ReferenceOMlaIdeal.τ).loc Cert.ReferenceOMlaIdeal.main_arg1))
      ∧ r.2.sem = fun _ => 0)

def quiescent_KernelRms [hKernelRms : Cert.KernelRms.Facts] : Prop :=
  ∀ (m : (ℓ : Loc Cert.KernelRms.nD Cert.KernelRms.τ Cert.KernelRms.sig) → Buf (Elt Bits) ℓ) (g : Dev Cert.KernelRms.nD → PrngReg), Pre_KernelRms m →
    θ_run (Cert.KernelRms.defs (F := Bits)) (onTc (τ := Cert.KernelRms.τ) (Cert.KernelRms.main (F := Bits))) ⟨m, fun _ => 0, g⟩ (fun r => (∀ c : Dev Cert.KernelRms.nD,
      r.2.mem ((c.tc : Thread Cert.KernelRms.nD Cert.KernelRms.τ).loc Cert.KernelRms.main_arg0) = m ((c.tc : Thread Cert.KernelRms.nD Cert.KernelRms.τ).loc Cert.KernelRms.main_arg0)
      ∧ r.2.mem ((c.tc : Thread Cert.KernelRms.nD Cert.KernelRms.τ).loc Cert.KernelRms.main_arg1) = m ((c.tc : Thread Cert.KernelRms.nD Cert.KernelRms.τ).loc Cert.KernelRms.main_arg1))
      ∧ r.2.sem = fun _ => 0)

def quiescent_KernelRmsIdeal [hKernelRmsIdeal : Cert.KernelRmsIdeal.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg), Pre_KernelRmsIdeal m →
    θ_run (Cert.KernelRmsIdeal.defs (F := Ideal)) (onTc (τ := Cert.KernelRmsIdeal.τ) (Cert.KernelRmsIdeal.main (F := Ideal))) ⟨m, fun _ => 0, g⟩ (fun r => (∀ c : Dev Cert.KernelRmsIdeal.nD,
      r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
      ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1))
      ∧ r.2.sem = fun _ => 0)

def quiescent_ReferenceRmsIdeal [hReferenceRmsIdeal : Cert.ReferenceRmsIdeal.Facts] : Prop :=
  ∀ (m : (ℓ : Loc Cert.ReferenceRmsIdeal.nD Cert.ReferenceRmsIdeal.τ Cert.ReferenceRmsIdeal.sig) → Buf (Elt Ideal) ℓ) (g : Dev Cert.ReferenceRmsIdeal.nD → PrngReg), Pre_ReferenceRmsIdeal m →
    θ_run (Cert.ReferenceRmsIdeal.defs (F := Ideal)) (onTc (τ := Cert.ReferenceRmsIdeal.τ) (Cert.ReferenceRmsIdeal.main (F := Ideal))) ⟨m, fun _ => 0, g⟩ (fun r => (∀ c : Dev Cert.ReferenceRmsIdeal.nD,
      r.2.mem ((c.tc : Thread Cert.ReferenceRmsIdeal.nD Cert.ReferenceRmsIdeal.τ).loc Cert.ReferenceRmsIdeal.main_arg0) = m ((c.tc : Thread Cert.ReferenceRmsIdeal.nD Cert.ReferenceRmsIdeal.τ).loc Cert.ReferenceRmsIdeal.main_arg0)
      ∧ r.2.mem ((c.tc : Thread Cert.ReferenceRmsIdeal.nD Cert.ReferenceRmsIdeal.τ).loc Cert.ReferenceRmsIdeal.main_arg1) = m ((c.tc : Thread Cert.ReferenceRmsIdeal.nD Cert.ReferenceRmsIdeal.τ).loc Cert.ReferenceRmsIdeal.main_arg1))
      ∧ r.2.sem = fun _ => 0)

def quiescent_KernelGMerge [hKernelGMerge : Cert.KernelGMerge.Facts] : Prop :=
  ∀ (m : (ℓ : Loc Cert.KernelGMerge.nD Cert.KernelGMerge.τ Cert.KernelGMerge.sig) → Buf (Elt Bits) ℓ) (g : Dev Cert.KernelGMerge.nD → PrngReg), Pre_KernelGMerge m →
    θ_run (Cert.KernelGMerge.defs (F := Bits)) (onTc (τ := Cert.KernelGMerge.τ) (Cert.KernelGMerge.main (F := Bits))) ⟨m, fun _ => 0, g⟩ (fun r => (∀ c : Dev Cert.KernelGMerge.nD,
      r.2.mem ((c.tc : Thread Cert.KernelGMerge.nD Cert.KernelGMerge.τ).loc Cert.KernelGMerge.main_arg0) = m ((c.tc : Thread Cert.KernelGMerge.nD Cert.KernelGMerge.τ).loc Cert.KernelGMerge.main_arg0)
      ∧ r.2.mem ((c.tc : Thread Cert.KernelGMerge.nD Cert.KernelGMerge.τ).loc Cert.KernelGMerge.main_arg1) = m ((c.tc : Thread Cert.KernelGMerge.nD Cert.KernelGMerge.τ).loc Cert.KernelGMerge.main_arg1)
      ∧ r.2.mem ((c.tc : Thread Cert.KernelGMerge.nD Cert.KernelGMerge.τ).loc Cert.KernelGMerge.main_arg2) = m ((c.tc : Thread Cert.KernelGMerge.nD Cert.KernelGMerge.τ).loc Cert.KernelGMerge.main_arg2))
      ∧ r.2.sem = fun _ => 0)

def quiescent_KernelGMergeIdeal [hKernelGMergeIdeal : Cert.KernelGMergeIdeal.Facts] : Prop :=
  ∀ (m : (ℓ : Loc Cert.KernelGMergeIdeal.nD Cert.KernelGMergeIdeal.τ Cert.KernelGMergeIdeal.sig) → Buf (Elt Ideal) ℓ) (g : Dev Cert.KernelGMergeIdeal.nD → PrngReg), Pre_KernelGMergeIdeal m →
    θ_run (Cert.KernelGMergeIdeal.defs (F := Ideal)) (onTc (τ := Cert.KernelGMergeIdeal.τ) (Cert.KernelGMergeIdeal.main (F := Ideal))) ⟨m, fun _ => 0, g⟩ (fun r => (∀ c : Dev Cert.KernelGMergeIdeal.nD,
      r.2.mem ((c.tc : Thread Cert.KernelGMergeIdeal.nD Cert.KernelGMergeIdeal.τ).loc Cert.KernelGMergeIdeal.main_arg0) = m ((c.tc : Thread Cert.KernelGMergeIdeal.nD Cert.KernelGMergeIdeal.τ).loc Cert.KernelGMergeIdeal.main_arg0)
      ∧ r.2.mem ((c.tc : Thread Cert.KernelGMergeIdeal.nD Cert.KernelGMergeIdeal.τ).loc Cert.KernelGMergeIdeal.main_arg1) = m ((c.tc : Thread Cert.KernelGMergeIdeal.nD Cert.KernelGMergeIdeal.τ).loc Cert.KernelGMergeIdeal.main_arg1)
      ∧ r.2.mem ((c.tc : Thread Cert.KernelGMergeIdeal.nD Cert.KernelGMergeIdeal.τ).loc Cert.KernelGMergeIdeal.main_arg2) = m ((c.tc : Thread Cert.KernelGMergeIdeal.nD Cert.KernelGMergeIdeal.τ).loc Cert.KernelGMergeIdeal.main_arg2))
      ∧ r.2.sem = fun _ => 0)

def quiescent_ReferenceGMergeIdeal [hReferenceGMergeIdeal : Cert.ReferenceGMergeIdeal.Facts] : Prop :=
  ∀ (m : (ℓ : Loc Cert.ReferenceGMergeIdeal.nD Cert.ReferenceGMergeIdeal.τ Cert.ReferenceGMergeIdeal.sig) → Buf (Elt Ideal) ℓ) (g : Dev Cert.ReferenceGMergeIdeal.nD → PrngReg), Pre_ReferenceGMergeIdeal m →
    θ_run (Cert.ReferenceGMergeIdeal.defs (F := Ideal)) (onTc (τ := Cert.ReferenceGMergeIdeal.τ) (Cert.ReferenceGMergeIdeal.main (F := Ideal))) ⟨m, fun _ => 0, g⟩ (fun r => (∀ c : Dev Cert.ReferenceGMergeIdeal.nD,
      r.2.mem ((c.tc : Thread Cert.ReferenceGMergeIdeal.nD Cert.ReferenceGMergeIdeal.τ).loc Cert.ReferenceGMergeIdeal.main_arg0) = m ((c.tc : Thread Cert.ReferenceGMergeIdeal.nD Cert.ReferenceGMergeIdeal.τ).loc Cert.ReferenceGMergeIdeal.main_arg0)
      ∧ r.2.mem ((c.tc : Thread Cert.ReferenceGMergeIdeal.nD Cert.ReferenceGMergeIdeal.τ).loc Cert.ReferenceGMergeIdeal.main_arg1) = m ((c.tc : Thread Cert.ReferenceGMergeIdeal.nD Cert.ReferenceGMergeIdeal.τ).loc Cert.ReferenceGMergeIdeal.main_arg1)
      ∧ r.2.mem ((c.tc : Thread Cert.ReferenceGMergeIdeal.nD Cert.ReferenceGMergeIdeal.τ).loc Cert.ReferenceGMergeIdeal.main_arg2) = m ((c.tc : Thread Cert.ReferenceGMergeIdeal.nD Cert.ReferenceGMergeIdeal.τ).loc Cert.ReferenceGMergeIdeal.main_arg2))
      ∧ r.2.sem = fun _ => 0)

def quiescent_KernelGBwd [hKernelGBwd : Cert.KernelGBwd.Facts] : Prop :=
  ∀ (m : (ℓ : Loc Cert.KernelGBwd.nD Cert.KernelGBwd.τ Cert.KernelGBwd.sig) → Buf (Elt Bits) ℓ) (g : Dev Cert.KernelGBwd.nD → PrngReg), Pre_KernelGBwd m →
    θ_run (Cert.KernelGBwd.defs (F := Bits)) (onTc (τ := Cert.KernelGBwd.τ) (Cert.KernelGBwd.main (F := Bits))) ⟨m, fun _ => 0, g⟩ (fun r => (∀ c : Dev Cert.KernelGBwd.nD,
      r.2.mem ((c.tc : Thread Cert.KernelGBwd.nD Cert.KernelGBwd.τ).loc Cert.KernelGBwd.main_arg0) = m ((c.tc : Thread Cert.KernelGBwd.nD Cert.KernelGBwd.τ).loc Cert.KernelGBwd.main_arg0)
      ∧ r.2.mem ((c.tc : Thread Cert.KernelGBwd.nD Cert.KernelGBwd.τ).loc Cert.KernelGBwd.main_arg1) = m ((c.tc : Thread Cert.KernelGBwd.nD Cert.KernelGBwd.τ).loc Cert.KernelGBwd.main_arg1)
      ∧ r.2.mem ((c.tc : Thread Cert.KernelGBwd.nD Cert.KernelGBwd.τ).loc Cert.KernelGBwd.main_arg2) = m ((c.tc : Thread Cert.KernelGBwd.nD Cert.KernelGBwd.τ).loc Cert.KernelGBwd.main_arg2)
      ∧ r.2.mem ((c.tc : Thread Cert.KernelGBwd.nD Cert.KernelGBwd.τ).loc Cert.KernelGBwd.main_arg3) = m ((c.tc : Thread Cert.KernelGBwd.nD Cert.KernelGBwd.τ).loc Cert.KernelGBwd.main_arg3))
      ∧ r.2.sem = fun _ => 0)

def quiescent_KernelGBwdIdeal [hKernelGBwdIdeal : Cert.KernelGBwdIdeal.Facts] : Prop :=
  ∀ (m : (ℓ : Loc Cert.KernelGBwdIdeal.nD Cert.KernelGBwdIdeal.τ Cert.KernelGBwdIdeal.sig) → Buf (Elt Ideal) ℓ) (g : Dev Cert.KernelGBwdIdeal.nD → PrngReg), Pre_KernelGBwdIdeal m →
    θ_run (Cert.KernelGBwdIdeal.defs (F := Ideal)) (onTc (τ := Cert.KernelGBwdIdeal.τ) (Cert.KernelGBwdIdeal.main (F := Ideal))) ⟨m, fun _ => 0, g⟩ (fun r => (∀ c : Dev Cert.KernelGBwdIdeal.nD,
      r.2.mem ((c.tc : Thread Cert.KernelGBwdIdeal.nD Cert.KernelGBwdIdeal.τ).loc Cert.KernelGBwdIdeal.main_arg0) = m ((c.tc : Thread Cert.KernelGBwdIdeal.nD Cert.KernelGBwdIdeal.τ).loc Cert.KernelGBwdIdeal.main_arg0)
      ∧ r.2.mem ((c.tc : Thread Cert.KernelGBwdIdeal.nD Cert.KernelGBwdIdeal.τ).loc Cert.KernelGBwdIdeal.main_arg1) = m ((c.tc : Thread Cert.KernelGBwdIdeal.nD Cert.KernelGBwdIdeal.τ).loc Cert.KernelGBwdIdeal.main_arg1)
      ∧ r.2.mem ((c.tc : Thread Cert.KernelGBwdIdeal.nD Cert.KernelGBwdIdeal.τ).loc Cert.KernelGBwdIdeal.main_arg2) = m ((c.tc : Thread Cert.KernelGBwdIdeal.nD Cert.KernelGBwdIdeal.τ).loc Cert.KernelGBwdIdeal.main_arg2)
      ∧ r.2.mem ((c.tc : Thread Cert.KernelGBwdIdeal.nD Cert.KernelGBwdIdeal.τ).loc Cert.KernelGBwdIdeal.main_arg3) = m ((c.tc : Thread Cert.KernelGBwdIdeal.nD Cert.KernelGBwdIdeal.τ).loc Cert.KernelGBwdIdeal.main_arg3))
      ∧ r.2.sem = fun _ => 0)

def quiescent_ReferenceGBwdIdeal [hReferenceGBwdIdeal : Cert.ReferenceGBwdIdeal.Facts] : Prop :=
  ∀ (m : (ℓ : Loc Cert.ReferenceGBwdIdeal.nD Cert.ReferenceGBwdIdeal.τ Cert.ReferenceGBwdIdeal.sig) → Buf (Elt Ideal) ℓ) (g : Dev Cert.ReferenceGBwdIdeal.nD → PrngReg), Pre_ReferenceGBwdIdeal m →
    θ_run (Cert.ReferenceGBwdIdeal.defs (F := Ideal)) (onTc (τ := Cert.ReferenceGBwdIdeal.τ) (Cert.ReferenceGBwdIdeal.main (F := Ideal))) ⟨m, fun _ => 0, g⟩ (fun r => (∀ c : Dev Cert.ReferenceGBwdIdeal.nD,
      r.2.mem ((c.tc : Thread Cert.ReferenceGBwdIdeal.nD Cert.ReferenceGBwdIdeal.τ).loc Cert.ReferenceGBwdIdeal.main_arg0) = m ((c.tc : Thread Cert.ReferenceGBwdIdeal.nD Cert.ReferenceGBwdIdeal.τ).loc Cert.ReferenceGBwdIdeal.main_arg0)
      ∧ r.2.mem ((c.tc : Thread Cert.ReferenceGBwdIdeal.nD Cert.ReferenceGBwdIdeal.τ).loc Cert.ReferenceGBwdIdeal.main_arg1) = m ((c.tc : Thread Cert.ReferenceGBwdIdeal.nD Cert.ReferenceGBwdIdeal.τ).loc Cert.ReferenceGBwdIdeal.main_arg1)
      ∧ r.2.mem ((c.tc : Thread Cert.ReferenceGBwdIdeal.nD Cert.ReferenceGBwdIdeal.τ).loc Cert.ReferenceGBwdIdeal.main_arg2) = m ((c.tc : Thread Cert.ReferenceGBwdIdeal.nD Cert.ReferenceGBwdIdeal.τ).loc Cert.ReferenceGBwdIdeal.main_arg2)
      ∧ r.2.mem ((c.tc : Thread Cert.ReferenceGBwdIdeal.nD Cert.ReferenceGBwdIdeal.τ).loc Cert.ReferenceGBwdIdeal.main_arg3) = m ((c.tc : Thread Cert.ReferenceGBwdIdeal.nD Cert.ReferenceGBwdIdeal.τ).loc Cert.ReferenceGBwdIdeal.main_arg3))
      ∧ r.2.sem = fun _ => 0)

def quiescent_KernelRmsB [hKernelRmsB : Cert.KernelRmsB.Facts] : Prop :=
  ∀ (m : (ℓ : Loc Cert.KernelRmsB.nD Cert.KernelRmsB.τ Cert.KernelRmsB.sig) → Buf (Elt Bits) ℓ) (g : Dev Cert.KernelRmsB.nD → PrngReg), Pre_KernelRmsB m →
    θ_run (Cert.KernelRmsB.defs (F := Bits)) (onTc (τ := Cert.KernelRmsB.τ) (Cert.KernelRmsB.main (F := Bits))) ⟨m, fun _ => 0, g⟩ (fun r => (∀ c : Dev Cert.KernelRmsB.nD,
      r.2.mem ((c.tc : Thread Cert.KernelRmsB.nD Cert.KernelRmsB.τ).loc Cert.KernelRmsB.main_arg0) = m ((c.tc : Thread Cert.KernelRmsB.nD Cert.KernelRmsB.τ).loc Cert.KernelRmsB.main_arg0)
      ∧ r.2.mem ((c.tc : Thread Cert.KernelRmsB.nD Cert.KernelRmsB.τ).loc Cert.KernelRmsB.main_arg1) = m ((c.tc : Thread Cert.KernelRmsB.nD Cert.KernelRmsB.τ).loc Cert.KernelRmsB.main_arg1)
      ∧ r.2.mem ((c.tc : Thread Cert.KernelRmsB.nD Cert.KernelRmsB.τ).loc Cert.KernelRmsB.main_arg2) = m ((c.tc : Thread Cert.KernelRmsB.nD Cert.KernelRmsB.τ).loc Cert.KernelRmsB.main_arg2)
      ∧ r.2.mem ((c.tc : Thread Cert.KernelRmsB.nD Cert.KernelRmsB.τ).loc Cert.KernelRmsB.main_arg3) = m ((c.tc : Thread Cert.KernelRmsB.nD Cert.KernelRmsB.τ).loc Cert.KernelRmsB.main_arg3))
      ∧ r.2.sem = fun _ => 0)

def quiescent_KernelRmsBIdeal [hKernelRmsBIdeal : Cert.KernelRmsBIdeal.Facts] : Prop :=
  ∀ (m : (ℓ : Loc Cert.KernelRmsBIdeal.nD Cert.KernelRmsBIdeal.τ Cert.KernelRmsBIdeal.sig) → Buf (Elt Ideal) ℓ) (g : Dev Cert.KernelRmsBIdeal.nD → PrngReg), Pre_KernelRmsBIdeal m →
    θ_run (Cert.KernelRmsBIdeal.defs (F := Ideal)) (onTc (τ := Cert.KernelRmsBIdeal.τ) (Cert.KernelRmsBIdeal.main (F := Ideal))) ⟨m, fun _ => 0, g⟩ (fun r => (∀ c : Dev Cert.KernelRmsBIdeal.nD,
      r.2.mem ((c.tc : Thread Cert.KernelRmsBIdeal.nD Cert.KernelRmsBIdeal.τ).loc Cert.KernelRmsBIdeal.main_arg0) = m ((c.tc : Thread Cert.KernelRmsBIdeal.nD Cert.KernelRmsBIdeal.τ).loc Cert.KernelRmsBIdeal.main_arg0)
      ∧ r.2.mem ((c.tc : Thread Cert.KernelRmsBIdeal.nD Cert.KernelRmsBIdeal.τ).loc Cert.KernelRmsBIdeal.main_arg1) = m ((c.tc : Thread Cert.KernelRmsBIdeal.nD Cert.KernelRmsBIdeal.τ).loc Cert.KernelRmsBIdeal.main_arg1)
      ∧ r.2.mem ((c.tc : Thread Cert.KernelRmsBIdeal.nD Cert.KernelRmsBIdeal.τ).loc Cert.KernelRmsBIdeal.main_arg2) = m ((c.tc : Thread Cert.KernelRmsBIdeal.nD Cert.KernelRmsBIdeal.τ).loc Cert.KernelRmsBIdeal.main_arg2)
      ∧ r.2.mem ((c.tc : Thread Cert.KernelRmsBIdeal.nD Cert.KernelRmsBIdeal.τ).loc Cert.KernelRmsBIdeal.main_arg3) = m ((c.tc : Thread Cert.KernelRmsBIdeal.nD Cert.KernelRmsBIdeal.τ).loc Cert.KernelRmsBIdeal.main_arg3))
      ∧ r.2.sem = fun _ => 0)

def quiescent_ReferenceRmsBIdeal [hReferenceRmsBIdeal : Cert.ReferenceRmsBIdeal.Facts] : Prop :=
  ∀ (m : (ℓ : Loc Cert.ReferenceRmsBIdeal.nD Cert.ReferenceRmsBIdeal.τ Cert.ReferenceRmsBIdeal.sig) → Buf (Elt Ideal) ℓ) (g : Dev Cert.ReferenceRmsBIdeal.nD → PrngReg), Pre_ReferenceRmsBIdeal m →
    θ_run (Cert.ReferenceRmsBIdeal.defs (F := Ideal)) (onTc (τ := Cert.ReferenceRmsBIdeal.τ) (Cert.ReferenceRmsBIdeal.main (F := Ideal))) ⟨m, fun _ => 0, g⟩ (fun r => (∀ c : Dev Cert.ReferenceRmsBIdeal.nD,
      r.2.mem ((c.tc : Thread Cert.ReferenceRmsBIdeal.nD Cert.ReferenceRmsBIdeal.τ).loc Cert.ReferenceRmsBIdeal.main_arg0) = m ((c.tc : Thread Cert.ReferenceRmsBIdeal.nD Cert.ReferenceRmsBIdeal.τ).loc Cert.ReferenceRmsBIdeal.main_arg0)
      ∧ r.2.mem ((c.tc : Thread Cert.ReferenceRmsBIdeal.nD Cert.ReferenceRmsBIdeal.τ).loc Cert.ReferenceRmsBIdeal.main_arg1) = m ((c.tc : Thread Cert.ReferenceRmsBIdeal.nD Cert.ReferenceRmsBIdeal.τ).loc Cert.ReferenceRmsBIdeal.main_arg1)
      ∧ r.2.mem ((c.tc : Thread Cert.ReferenceRmsBIdeal.nD Cert.ReferenceRmsBIdeal.τ).loc Cert.ReferenceRmsBIdeal.main_arg2) = m ((c.tc : Thread Cert.ReferenceRmsBIdeal.nD Cert.ReferenceRmsBIdeal.τ).loc Cert.ReferenceRmsBIdeal.main_arg2)
      ∧ r.2.mem ((c.tc : Thread Cert.ReferenceRmsBIdeal.nD Cert.ReferenceRmsBIdeal.τ).loc Cert.ReferenceRmsBIdeal.main_arg3) = m ((c.tc : Thread Cert.ReferenceRmsBIdeal.nD Cert.ReferenceRmsBIdeal.τ).loc Cert.ReferenceRmsBIdeal.main_arg3))
      ∧ r.2.sem = fun _ => 0)

def quiescent_KernelLatF [hKernelLatF : Cert.KernelLatF.Facts] : Prop :=
  ∀ (m : (ℓ : Loc Cert.KernelLatF.nD Cert.KernelLatF.τ Cert.KernelLatF.sig) → Buf (Elt Bits) ℓ) (g : Dev Cert.KernelLatF.nD → PrngReg), Pre_KernelLatF m →
    θ_run (Cert.KernelLatF.defs (F := Bits)) (onTc (τ := Cert.KernelLatF.τ) (Cert.KernelLatF.main (F := Bits))) ⟨m, fun _ => 0, g⟩ (fun r => (∀ c : Dev Cert.KernelLatF.nD,
      r.2.mem ((c.tc : Thread Cert.KernelLatF.nD Cert.KernelLatF.τ).loc Cert.KernelLatF.main_arg0) = m ((c.tc : Thread Cert.KernelLatF.nD Cert.KernelLatF.τ).loc Cert.KernelLatF.main_arg0)
      ∧ r.2.mem ((c.tc : Thread Cert.KernelLatF.nD Cert.KernelLatF.τ).loc Cert.KernelLatF.main_arg1) = m ((c.tc : Thread Cert.KernelLatF.nD Cert.KernelLatF.τ).loc Cert.KernelLatF.main_arg1)
      ∧ r.2.mem ((c.tc : Thread Cert.KernelLatF.nD Cert.KernelLatF.τ).loc Cert.KernelLatF.main_arg2) = m ((c.tc : Thread Cert.KernelLatF.nD Cert.KernelLatF.τ).loc Cert.KernelLatF.main_arg2))
      ∧ r.2.sem = fun _ => 0)

def quiescent_KernelLatFIdeal [hKernelLatFIdeal : Cert.KernelLatFIdeal.Facts] : Prop :=
  ∀ (m : (ℓ : Loc Cert.KernelLatFIdeal.nD Cert.KernelLatFIdeal.τ Cert.KernelLatFIdeal.sig) → Buf (Elt Ideal) ℓ) (g : Dev Cert.KernelLatFIdeal.nD → PrngReg), Pre_KernelLatFIdeal m →
    θ_run (Cert.KernelLatFIdeal.defs (F := Ideal)) (onTc (τ := Cert.KernelLatFIdeal.τ) (Cert.KernelLatFIdeal.main (F := Ideal))) ⟨m, fun _ => 0, g⟩ (fun r => (∀ c : Dev Cert.KernelLatFIdeal.nD,
      r.2.mem ((c.tc : Thread Cert.KernelLatFIdeal.nD Cert.KernelLatFIdeal.τ).loc Cert.KernelLatFIdeal.main_arg0) = m ((c.tc : Thread Cert.KernelLatFIdeal.nD Cert.KernelLatFIdeal.τ).loc Cert.KernelLatFIdeal.main_arg0)
      ∧ r.2.mem ((c.tc : Thread Cert.KernelLatFIdeal.nD Cert.KernelLatFIdeal.τ).loc Cert.KernelLatFIdeal.main_arg1) = m ((c.tc : Thread Cert.KernelLatFIdeal.nD Cert.KernelLatFIdeal.τ).loc Cert.KernelLatFIdeal.main_arg1)
      ∧ r.2.mem ((c.tc : Thread Cert.KernelLatFIdeal.nD Cert.KernelLatFIdeal.τ).loc Cert.KernelLatFIdeal.main_arg2) = m ((c.tc : Thread Cert.KernelLatFIdeal.nD Cert.KernelLatFIdeal.τ).loc Cert.KernelLatFIdeal.main_arg2))
      ∧ r.2.sem = fun _ => 0)

def quiescent_ReferenceLatFIdeal [hReferenceLatFIdeal : Cert.ReferenceLatFIdeal.Facts] : Prop :=
  ∀ (m : (ℓ : Loc Cert.ReferenceLatFIdeal.nD Cert.ReferenceLatFIdeal.τ Cert.ReferenceLatFIdeal.sig) → Buf (Elt Ideal) ℓ) (g : Dev Cert.ReferenceLatFIdeal.nD → PrngReg), Pre_ReferenceLatFIdeal m →
    θ_run (Cert.ReferenceLatFIdeal.defs (F := Ideal)) (onTc (τ := Cert.ReferenceLatFIdeal.τ) (Cert.ReferenceLatFIdeal.main (F := Ideal))) ⟨m, fun _ => 0, g⟩ (fun r => (∀ c : Dev Cert.ReferenceLatFIdeal.nD,
      r.2.mem ((c.tc : Thread Cert.ReferenceLatFIdeal.nD Cert.ReferenceLatFIdeal.τ).loc Cert.ReferenceLatFIdeal.main_arg0) = m ((c.tc : Thread Cert.ReferenceLatFIdeal.nD Cert.ReferenceLatFIdeal.τ).loc Cert.ReferenceLatFIdeal.main_arg0)
      ∧ r.2.mem ((c.tc : Thread Cert.ReferenceLatFIdeal.nD Cert.ReferenceLatFIdeal.τ).loc Cert.ReferenceLatFIdeal.main_arg1) = m ((c.tc : Thread Cert.ReferenceLatFIdeal.nD Cert.ReferenceLatFIdeal.τ).loc Cert.ReferenceLatFIdeal.main_arg1)
      ∧ r.2.mem ((c.tc : Thread Cert.ReferenceLatFIdeal.nD Cert.ReferenceLatFIdeal.τ).loc Cert.ReferenceLatFIdeal.main_arg2) = m ((c.tc : Thread Cert.ReferenceLatFIdeal.nD Cert.ReferenceLatFIdeal.τ).loc Cert.ReferenceLatFIdeal.main_arg2))
      ∧ r.2.sem = fun _ => 0)

def quiescent_KernelLatB [hKernelLatB : Cert.KernelLatB.Facts] : Prop :=
  ∀ (m : (ℓ : Loc Cert.KernelLatB.nD Cert.KernelLatB.τ Cert.KernelLatB.sig) → Buf (Elt Bits) ℓ) (g : Dev Cert.KernelLatB.nD → PrngReg), Pre_KernelLatB m →
    θ_run (Cert.KernelLatB.defs (F := Bits)) (onTc (τ := Cert.KernelLatB.τ) (Cert.KernelLatB.main (F := Bits))) ⟨m, fun _ => 0, g⟩ (fun r => (∀ c : Dev Cert.KernelLatB.nD,
      r.2.mem ((c.tc : Thread Cert.KernelLatB.nD Cert.KernelLatB.τ).loc Cert.KernelLatB.main_arg0) = m ((c.tc : Thread Cert.KernelLatB.nD Cert.KernelLatB.τ).loc Cert.KernelLatB.main_arg0)
      ∧ r.2.mem ((c.tc : Thread Cert.KernelLatB.nD Cert.KernelLatB.τ).loc Cert.KernelLatB.main_arg1) = m ((c.tc : Thread Cert.KernelLatB.nD Cert.KernelLatB.τ).loc Cert.KernelLatB.main_arg1)
      ∧ r.2.mem ((c.tc : Thread Cert.KernelLatB.nD Cert.KernelLatB.τ).loc Cert.KernelLatB.main_arg2) = m ((c.tc : Thread Cert.KernelLatB.nD Cert.KernelLatB.τ).loc Cert.KernelLatB.main_arg2)
      ∧ r.2.mem ((c.tc : Thread Cert.KernelLatB.nD Cert.KernelLatB.τ).loc Cert.KernelLatB.main_arg3) = m ((c.tc : Thread Cert.KernelLatB.nD Cert.KernelLatB.τ).loc Cert.KernelLatB.main_arg3)
      ∧ r.2.mem ((c.tc : Thread Cert.KernelLatB.nD Cert.KernelLatB.τ).loc Cert.KernelLatB.main_arg4) = m ((c.tc : Thread Cert.KernelLatB.nD Cert.KernelLatB.τ).loc Cert.KernelLatB.main_arg4)
      ∧ r.2.mem ((c.tc : Thread Cert.KernelLatB.nD Cert.KernelLatB.τ).loc Cert.KernelLatB.main_arg5) = m ((c.tc : Thread Cert.KernelLatB.nD Cert.KernelLatB.τ).loc Cert.KernelLatB.main_arg5))
      ∧ r.2.sem = fun _ => 0)

def quiescent_KernelLatBIdeal [hKernelLatBIdeal : Cert.KernelLatBIdeal.Facts] : Prop :=
  ∀ (m : (ℓ : Loc Cert.KernelLatBIdeal.nD Cert.KernelLatBIdeal.τ Cert.KernelLatBIdeal.sig) → Buf (Elt Ideal) ℓ) (g : Dev Cert.KernelLatBIdeal.nD → PrngReg), Pre_KernelLatBIdeal m →
    θ_run (Cert.KernelLatBIdeal.defs (F := Ideal)) (onTc (τ := Cert.KernelLatBIdeal.τ) (Cert.KernelLatBIdeal.main (F := Ideal))) ⟨m, fun _ => 0, g⟩ (fun r => (∀ c : Dev Cert.KernelLatBIdeal.nD,
      r.2.mem ((c.tc : Thread Cert.KernelLatBIdeal.nD Cert.KernelLatBIdeal.τ).loc Cert.KernelLatBIdeal.main_arg0) = m ((c.tc : Thread Cert.KernelLatBIdeal.nD Cert.KernelLatBIdeal.τ).loc Cert.KernelLatBIdeal.main_arg0)
      ∧ r.2.mem ((c.tc : Thread Cert.KernelLatBIdeal.nD Cert.KernelLatBIdeal.τ).loc Cert.KernelLatBIdeal.main_arg1) = m ((c.tc : Thread Cert.KernelLatBIdeal.nD Cert.KernelLatBIdeal.τ).loc Cert.KernelLatBIdeal.main_arg1)
      ∧ r.2.mem ((c.tc : Thread Cert.KernelLatBIdeal.nD Cert.KernelLatBIdeal.τ).loc Cert.KernelLatBIdeal.main_arg2) = m ((c.tc : Thread Cert.KernelLatBIdeal.nD Cert.KernelLatBIdeal.τ).loc Cert.KernelLatBIdeal.main_arg2)
      ∧ r.2.mem ((c.tc : Thread Cert.KernelLatBIdeal.nD Cert.KernelLatBIdeal.τ).loc Cert.KernelLatBIdeal.main_arg3) = m ((c.tc : Thread Cert.KernelLatBIdeal.nD Cert.KernelLatBIdeal.τ).loc Cert.KernelLatBIdeal.main_arg3)
      ∧ r.2.mem ((c.tc : Thread Cert.KernelLatBIdeal.nD Cert.KernelLatBIdeal.τ).loc Cert.KernelLatBIdeal.main_arg4) = m ((c.tc : Thread Cert.KernelLatBIdeal.nD Cert.KernelLatBIdeal.τ).loc Cert.KernelLatBIdeal.main_arg4)
      ∧ r.2.mem ((c.tc : Thread Cert.KernelLatBIdeal.nD Cert.KernelLatBIdeal.τ).loc Cert.KernelLatBIdeal.main_arg5) = m ((c.tc : Thread Cert.KernelLatBIdeal.nD Cert.KernelLatBIdeal.τ).loc Cert.KernelLatBIdeal.main_arg5))
      ∧ r.2.sem = fun _ => 0)

def quiescent_ReferenceLatBIdeal [hReferenceLatBIdeal : Cert.ReferenceLatBIdeal.Facts] : Prop :=
  ∀ (m : (ℓ : Loc Cert.ReferenceLatBIdeal.nD Cert.ReferenceLatBIdeal.τ Cert.ReferenceLatBIdeal.sig) → Buf (Elt Ideal) ℓ) (g : Dev Cert.ReferenceLatBIdeal.nD → PrngReg), Pre_ReferenceLatBIdeal m →
    θ_run (Cert.ReferenceLatBIdeal.defs (F := Ideal)) (onTc (τ := Cert.ReferenceLatBIdeal.τ) (Cert.ReferenceLatBIdeal.main (F := Ideal))) ⟨m, fun _ => 0, g⟩ (fun r => (∀ c : Dev Cert.ReferenceLatBIdeal.nD,
      r.2.mem ((c.tc : Thread Cert.ReferenceLatBIdeal.nD Cert.ReferenceLatBIdeal.τ).loc Cert.ReferenceLatBIdeal.main_arg0) = m ((c.tc : Thread Cert.ReferenceLatBIdeal.nD Cert.ReferenceLatBIdeal.τ).loc Cert.ReferenceLatBIdeal.main_arg0)
      ∧ r.2.mem ((c.tc : Thread Cert.ReferenceLatBIdeal.nD Cert.ReferenceLatBIdeal.τ).loc Cert.ReferenceLatBIdeal.main_arg1) = m ((c.tc : Thread Cert.ReferenceLatBIdeal.nD Cert.ReferenceLatBIdeal.τ).loc Cert.ReferenceLatBIdeal.main_arg1)
      ∧ r.2.mem ((c.tc : Thread Cert.ReferenceLatBIdeal.nD Cert.ReferenceLatBIdeal.τ).loc Cert.ReferenceLatBIdeal.main_arg2) = m ((c.tc : Thread Cert.ReferenceLatBIdeal.nD Cert.ReferenceLatBIdeal.τ).loc Cert.ReferenceLatBIdeal.main_arg2)
      ∧ r.2.mem ((c.tc : Thread Cert.ReferenceLatBIdeal.nD Cert.ReferenceLatBIdeal.τ).loc Cert.ReferenceLatBIdeal.main_arg3) = m ((c.tc : Thread Cert.ReferenceLatBIdeal.nD Cert.ReferenceLatBIdeal.τ).loc Cert.ReferenceLatBIdeal.main_arg3)
      ∧ r.2.mem ((c.tc : Thread Cert.ReferenceLatBIdeal.nD Cert.ReferenceLatBIdeal.τ).loc Cert.ReferenceLatBIdeal.main_arg4) = m ((c.tc : Thread Cert.ReferenceLatBIdeal.nD Cert.ReferenceLatBIdeal.τ).loc Cert.ReferenceLatBIdeal.main_arg4)
      ∧ r.2.mem ((c.tc : Thread Cert.ReferenceLatBIdeal.nD Cert.ReferenceLatBIdeal.τ).loc Cert.ReferenceLatBIdeal.main_arg5) = m ((c.tc : Thread Cert.ReferenceLatBIdeal.nD Cert.ReferenceLatBIdeal.τ).loc Cert.ReferenceLatBIdeal.main_arg5))
      ∧ r.2.sem = fun _ => 0)

def quiescent_KernelPle [hKernelPle : Cert.KernelPle.Facts] : Prop :=
  ∀ (m : (ℓ : Loc Cert.KernelPle.nD Cert.KernelPle.τ Cert.KernelPle.sig) → Buf (Elt Bits) ℓ) (g : Dev Cert.KernelPle.nD → PrngReg), Pre_KernelPle m →
    θ_run (Cert.KernelPle.defs (F := Bits)) (onTc (τ := Cert.KernelPle.τ) (Cert.KernelPle.main (F := Bits))) ⟨m, fun _ => 0, g⟩ (fun r => (∀ c : Dev Cert.KernelPle.nD,
      r.2.mem ((c.tc : Thread Cert.KernelPle.nD Cert.KernelPle.τ).loc Cert.KernelPle.main_arg0) = m ((c.tc : Thread Cert.KernelPle.nD Cert.KernelPle.τ).loc Cert.KernelPle.main_arg0)
      ∧ r.2.mem ((c.tc : Thread Cert.KernelPle.nD Cert.KernelPle.τ).loc Cert.KernelPle.main_arg1) = m ((c.tc : Thread Cert.KernelPle.nD Cert.KernelPle.τ).loc Cert.KernelPle.main_arg1)
      ∧ r.2.mem ((c.tc : Thread Cert.KernelPle.nD Cert.KernelPle.τ).loc Cert.KernelPle.main_arg2) = m ((c.tc : Thread Cert.KernelPle.nD Cert.KernelPle.τ).loc Cert.KernelPle.main_arg2)
      ∧ r.2.mem ((c.tc : Thread Cert.KernelPle.nD Cert.KernelPle.τ).loc Cert.KernelPle.main_arg3) = m ((c.tc : Thread Cert.KernelPle.nD Cert.KernelPle.τ).loc Cert.KernelPle.main_arg3))
      ∧ r.2.sem = fun _ => 0)

def quiescent_KernelPleIdeal [hKernelPleIdeal : Cert.KernelPleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg), Pre_KernelPleIdeal m →
    θ_run (Cert.KernelPleIdeal.defs (F := Ideal)) (onTc (τ := Cert.KernelPleIdeal.τ) (Cert.KernelPleIdeal.main (F := Ideal))) ⟨m, fun _ => 0, g⟩ (fun r => (∀ c : Dev Cert.KernelPleIdeal.nD,
      r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
      ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
      ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
      ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3))
      ∧ r.2.sem = fun _ => 0)

def quiescent_ReferencePleIdeal [hReferencePleIdeal : Cert.ReferencePleIdeal.Facts] : Prop :=
  ∀ (m : (ℓ : Loc Cert.ReferencePleIdeal.nD Cert.ReferencePleIdeal.τ Cert.ReferencePleIdeal.sig) → Buf (Elt Ideal) ℓ) (g : Dev Cert.ReferencePleIdeal.nD → PrngReg), Pre_ReferencePleIdeal m →
    θ_run (Cert.ReferencePleIdeal.defs (F := Ideal)) (onTc (τ := Cert.ReferencePleIdeal.τ) (Cert.ReferencePleIdeal.main (F := Ideal))) ⟨m, fun _ => 0, g⟩ (fun r => (∀ c : Dev Cert.ReferencePleIdeal.nD,
      r.2.mem ((c.tc : Thread Cert.ReferencePleIdeal.nD Cert.ReferencePleIdeal.τ).loc Cert.ReferencePleIdeal.main_arg0) = m ((c.tc : Thread Cert.ReferencePleIdeal.nD Cert.ReferencePleIdeal.τ).loc Cert.ReferencePleIdeal.main_arg0)
      ∧ r.2.mem ((c.tc : Thread Cert.ReferencePleIdeal.nD Cert.ReferencePleIdeal.τ).loc Cert.ReferencePleIdeal.main_arg1) = m ((c.tc : Thread Cert.ReferencePleIdeal.nD Cert.ReferencePleIdeal.τ).loc Cert.ReferencePleIdeal.main_arg1)
      ∧ r.2.mem ((c.tc : Thread Cert.ReferencePleIdeal.nD Cert.ReferencePleIdeal.τ).loc Cert.ReferencePleIdeal.main_arg2) = m ((c.tc : Thread Cert.ReferencePleIdeal.nD Cert.ReferencePleIdeal.τ).loc Cert.ReferencePleIdeal.main_arg2)
      ∧ r.2.mem ((c.tc : Thread Cert.ReferencePleIdeal.nD Cert.ReferencePleIdeal.τ).loc Cert.ReferencePleIdeal.main_arg3) = m ((c.tc : Thread Cert.ReferencePleIdeal.nD Cert.ReferencePleIdeal.τ).loc Cert.ReferencePleIdeal.main_arg3))
      ∧ r.2.sem = fun _ => 0)

def quiescent_KernelDelta [hKernelDelta : Cert.KernelDelta.Facts] : Prop :=
  ∀ (m : (ℓ : Loc Cert.KernelDelta.nD Cert.KernelDelta.τ Cert.KernelDelta.sig) → Buf (Elt Bits) ℓ) (g : Dev Cert.KernelDelta.nD → PrngReg), Pre_KernelDelta m →
    θ_run (Cert.KernelDelta.defs (F := Bits)) (onTc (τ := Cert.KernelDelta.τ) (Cert.KernelDelta.main (F := Bits))) ⟨m, fun _ => 0, g⟩ (fun r => (∀ c : Dev Cert.KernelDelta.nD,
      r.2.mem ((c.tc : Thread Cert.KernelDelta.nD Cert.KernelDelta.τ).loc Cert.KernelDelta.main_arg0) = m ((c.tc : Thread Cert.KernelDelta.nD Cert.KernelDelta.τ).loc Cert.KernelDelta.main_arg0)
      ∧ r.2.mem ((c.tc : Thread Cert.KernelDelta.nD Cert.KernelDelta.τ).loc Cert.KernelDelta.main_arg1) = m ((c.tc : Thread Cert.KernelDelta.nD Cert.KernelDelta.τ).loc Cert.KernelDelta.main_arg1))
      ∧ r.2.sem = fun _ => 0)

def quiescent_KernelDeltaIdeal [hKernelDeltaIdeal : Cert.KernelDeltaIdeal.Facts] : Prop :=
  ∀ (m : (ℓ : Loc Cert.KernelDeltaIdeal.nD Cert.KernelDeltaIdeal.τ Cert.KernelDeltaIdeal.sig) → Buf (Elt Ideal) ℓ) (g : Dev Cert.KernelDeltaIdeal.nD → PrngReg), Pre_KernelDeltaIdeal m →
    θ_run (Cert.KernelDeltaIdeal.defs (F := Ideal)) (onTc (τ := Cert.KernelDeltaIdeal.τ) (Cert.KernelDeltaIdeal.main (F := Ideal))) ⟨m, fun _ => 0, g⟩ (fun r => (∀ c : Dev Cert.KernelDeltaIdeal.nD,
      r.2.mem ((c.tc : Thread Cert.KernelDeltaIdeal.nD Cert.KernelDeltaIdeal.τ).loc Cert.KernelDeltaIdeal.main_arg0) = m ((c.tc : Thread Cert.KernelDeltaIdeal.nD Cert.KernelDeltaIdeal.τ).loc Cert.KernelDeltaIdeal.main_arg0)
      ∧ r.2.mem ((c.tc : Thread Cert.KernelDeltaIdeal.nD Cert.KernelDeltaIdeal.τ).loc Cert.KernelDeltaIdeal.main_arg1) = m ((c.tc : Thread Cert.KernelDeltaIdeal.nD Cert.KernelDeltaIdeal.τ).loc Cert.KernelDeltaIdeal.main_arg1))
      ∧ r.2.sem = fun _ => 0)

def quiescent_ReferenceDeltaIdeal [hReferenceDeltaIdeal : Cert.ReferenceDeltaIdeal.Facts] : Prop :=
  ∀ (m : (ℓ : Loc Cert.ReferenceDeltaIdeal.nD Cert.ReferenceDeltaIdeal.τ Cert.ReferenceDeltaIdeal.sig) → Buf (Elt Ideal) ℓ) (g : Dev Cert.ReferenceDeltaIdeal.nD → PrngReg), Pre_ReferenceDeltaIdeal m →
    θ_run (Cert.ReferenceDeltaIdeal.defs (F := Ideal)) (onTc (τ := Cert.ReferenceDeltaIdeal.τ) (Cert.ReferenceDeltaIdeal.main (F := Ideal))) ⟨m, fun _ => 0, g⟩ (fun r => (∀ c : Dev Cert.ReferenceDeltaIdeal.nD,
      r.2.mem ((c.tc : Thread Cert.ReferenceDeltaIdeal.nD Cert.ReferenceDeltaIdeal.τ).loc Cert.ReferenceDeltaIdeal.main_arg0) = m ((c.tc : Thread Cert.ReferenceDeltaIdeal.nD Cert.ReferenceDeltaIdeal.τ).loc Cert.ReferenceDeltaIdeal.main_arg0)
      ∧ r.2.mem ((c.tc : Thread Cert.ReferenceDeltaIdeal.nD Cert.ReferenceDeltaIdeal.τ).loc Cert.ReferenceDeltaIdeal.main_arg1) = m ((c.tc : Thread Cert.ReferenceDeltaIdeal.nD Cert.ReferenceDeltaIdeal.τ).loc Cert.ReferenceDeltaIdeal.main_arg1))
      ∧ r.2.sem = fun _ => 0)

def quiescent_KernelDMerge [hKernelDMerge : Cert.KernelDMerge.Facts] : Prop :=
  ∀ (m : (ℓ : Loc Cert.KernelDMerge.nD Cert.KernelDMerge.τ Cert.KernelDMerge.sig) → Buf (Elt Bits) ℓ) (g : Dev Cert.KernelDMerge.nD → PrngReg), Pre_KernelDMerge m →
    θ_run (Cert.KernelDMerge.defs (F := Bits)) (onTc (τ := Cert.KernelDMerge.τ) (Cert.KernelDMerge.main (F := Bits))) ⟨m, fun _ => 0, g⟩ (fun r => (∀ c : Dev Cert.KernelDMerge.nD,
      r.2.mem ((c.tc : Thread Cert.KernelDMerge.nD Cert.KernelDMerge.τ).loc Cert.KernelDMerge.main_arg0) = m ((c.tc : Thread Cert.KernelDMerge.nD Cert.KernelDMerge.τ).loc Cert.KernelDMerge.main_arg0)
      ∧ r.2.mem ((c.tc : Thread Cert.KernelDMerge.nD Cert.KernelDMerge.τ).loc Cert.KernelDMerge.main_arg1) = m ((c.tc : Thread Cert.KernelDMerge.nD Cert.KernelDMerge.τ).loc Cert.KernelDMerge.main_arg1)
      ∧ r.2.mem ((c.tc : Thread Cert.KernelDMerge.nD Cert.KernelDMerge.τ).loc Cert.KernelDMerge.main_arg2) = m ((c.tc : Thread Cert.KernelDMerge.nD Cert.KernelDMerge.τ).loc Cert.KernelDMerge.main_arg2)
      ∧ r.2.mem ((c.tc : Thread Cert.KernelDMerge.nD Cert.KernelDMerge.τ).loc Cert.KernelDMerge.main_arg3) = m ((c.tc : Thread Cert.KernelDMerge.nD Cert.KernelDMerge.τ).loc Cert.KernelDMerge.main_arg3)
      ∧ r.2.mem ((c.tc : Thread Cert.KernelDMerge.nD Cert.KernelDMerge.τ).loc Cert.KernelDMerge.main_arg4) = m ((c.tc : Thread Cert.KernelDMerge.nD Cert.KernelDMerge.τ).loc Cert.KernelDMerge.main_arg4)
      ∧ r.2.mem ((c.tc : Thread Cert.KernelDMerge.nD Cert.KernelDMerge.τ).loc Cert.KernelDMerge.main_arg5) = m ((c.tc : Thread Cert.KernelDMerge.nD Cert.KernelDMerge.τ).loc Cert.KernelDMerge.main_arg5))
      ∧ r.2.sem = fun _ => 0)

def quiescent_KernelDMergeIdeal [hKernelDMergeIdeal : Cert.KernelDMergeIdeal.Facts] : Prop :=
  ∀ (m : (ℓ : Loc Cert.KernelDMergeIdeal.nD Cert.KernelDMergeIdeal.τ Cert.KernelDMergeIdeal.sig) → Buf (Elt Ideal) ℓ) (g : Dev Cert.KernelDMergeIdeal.nD → PrngReg), Pre_KernelDMergeIdeal m →
    θ_run (Cert.KernelDMergeIdeal.defs (F := Ideal)) (onTc (τ := Cert.KernelDMergeIdeal.τ) (Cert.KernelDMergeIdeal.main (F := Ideal))) ⟨m, fun _ => 0, g⟩ (fun r => (∀ c : Dev Cert.KernelDMergeIdeal.nD,
      r.2.mem ((c.tc : Thread Cert.KernelDMergeIdeal.nD Cert.KernelDMergeIdeal.τ).loc Cert.KernelDMergeIdeal.main_arg0) = m ((c.tc : Thread Cert.KernelDMergeIdeal.nD Cert.KernelDMergeIdeal.τ).loc Cert.KernelDMergeIdeal.main_arg0)
      ∧ r.2.mem ((c.tc : Thread Cert.KernelDMergeIdeal.nD Cert.KernelDMergeIdeal.τ).loc Cert.KernelDMergeIdeal.main_arg1) = m ((c.tc : Thread Cert.KernelDMergeIdeal.nD Cert.KernelDMergeIdeal.τ).loc Cert.KernelDMergeIdeal.main_arg1)
      ∧ r.2.mem ((c.tc : Thread Cert.KernelDMergeIdeal.nD Cert.KernelDMergeIdeal.τ).loc Cert.KernelDMergeIdeal.main_arg2) = m ((c.tc : Thread Cert.KernelDMergeIdeal.nD Cert.KernelDMergeIdeal.τ).loc Cert.KernelDMergeIdeal.main_arg2)
      ∧ r.2.mem ((c.tc : Thread Cert.KernelDMergeIdeal.nD Cert.KernelDMergeIdeal.τ).loc Cert.KernelDMergeIdeal.main_arg3) = m ((c.tc : Thread Cert.KernelDMergeIdeal.nD Cert.KernelDMergeIdeal.τ).loc Cert.KernelDMergeIdeal.main_arg3)
      ∧ r.2.mem ((c.tc : Thread Cert.KernelDMergeIdeal.nD Cert.KernelDMergeIdeal.τ).loc Cert.KernelDMergeIdeal.main_arg4) = m ((c.tc : Thread Cert.KernelDMergeIdeal.nD Cert.KernelDMergeIdeal.τ).loc Cert.KernelDMergeIdeal.main_arg4)
      ∧ r.2.mem ((c.tc : Thread Cert.KernelDMergeIdeal.nD Cert.KernelDMergeIdeal.τ).loc Cert.KernelDMergeIdeal.main_arg5) = m ((c.tc : Thread Cert.KernelDMergeIdeal.nD Cert.KernelDMergeIdeal.τ).loc Cert.KernelDMergeIdeal.main_arg5))
      ∧ r.2.sem = fun _ => 0)

def quiescent_ReferenceDMergeIdeal [hReferenceDMergeIdeal : Cert.ReferenceDMergeIdeal.Facts] : Prop :=
  ∀ (m : (ℓ : Loc Cert.ReferenceDMergeIdeal.nD Cert.ReferenceDMergeIdeal.τ Cert.ReferenceDMergeIdeal.sig) → Buf (Elt Ideal) ℓ) (g : Dev Cert.ReferenceDMergeIdeal.nD → PrngReg), Pre_ReferenceDMergeIdeal m →
    θ_run (Cert.ReferenceDMergeIdeal.defs (F := Ideal)) (onTc (τ := Cert.ReferenceDMergeIdeal.τ) (Cert.ReferenceDMergeIdeal.main (F := Ideal))) ⟨m, fun _ => 0, g⟩ (fun r => (∀ c : Dev Cert.ReferenceDMergeIdeal.nD,
      r.2.mem ((c.tc : Thread Cert.ReferenceDMergeIdeal.nD Cert.ReferenceDMergeIdeal.τ).loc Cert.ReferenceDMergeIdeal.main_arg0) = m ((c.tc : Thread Cert.ReferenceDMergeIdeal.nD Cert.ReferenceDMergeIdeal.τ).loc Cert.ReferenceDMergeIdeal.main_arg0)
      ∧ r.2.mem ((c.tc : Thread Cert.ReferenceDMergeIdeal.nD Cert.ReferenceDMergeIdeal.τ).loc Cert.ReferenceDMergeIdeal.main_arg1) = m ((c.tc : Thread Cert.ReferenceDMergeIdeal.nD Cert.ReferenceDMergeIdeal.τ).loc Cert.ReferenceDMergeIdeal.main_arg1)
      ∧ r.2.mem ((c.tc : Thread Cert.ReferenceDMergeIdeal.nD Cert.ReferenceDMergeIdeal.τ).loc Cert.ReferenceDMergeIdeal.main_arg2) = m ((c.tc : Thread Cert.ReferenceDMergeIdeal.nD Cert.ReferenceDMergeIdeal.τ).loc Cert.ReferenceDMergeIdeal.main_arg2)
      ∧ r.2.mem ((c.tc : Thread Cert.ReferenceDMergeIdeal.nD Cert.ReferenceDMergeIdeal.τ).loc Cert.ReferenceDMergeIdeal.main_arg3) = m ((c.tc : Thread Cert.ReferenceDMergeIdeal.nD Cert.ReferenceDMergeIdeal.τ).loc Cert.ReferenceDMergeIdeal.main_arg3)
      ∧ r.2.mem ((c.tc : Thread Cert.ReferenceDMergeIdeal.nD Cert.ReferenceDMergeIdeal.τ).loc Cert.ReferenceDMergeIdeal.main_arg4) = m ((c.tc : Thread Cert.ReferenceDMergeIdeal.nD Cert.ReferenceDMergeIdeal.τ).loc Cert.ReferenceDMergeIdeal.main_arg4)
      ∧ r.2.mem ((c.tc : Thread Cert.ReferenceDMergeIdeal.nD Cert.ReferenceDMergeIdeal.τ).loc Cert.ReferenceDMergeIdeal.main_arg5) = m ((c.tc : Thread Cert.ReferenceDMergeIdeal.nD Cert.ReferenceDMergeIdeal.τ).loc Cert.ReferenceDMergeIdeal.main_arg5))
      ∧ r.2.sem = fun _ => 0)

def quiescent_KernelGains [hKernelGains : Cert.KernelGains.Facts] : Prop :=
  ∀ (m : (ℓ : Loc Cert.KernelGains.nD Cert.KernelGains.τ Cert.KernelGains.sig) → Buf (Elt Bits) ℓ) (g : Dev Cert.KernelGains.nD → PrngReg), Pre_KernelGains m →
    θ_run (Cert.KernelGains.defs (F := Bits)) (onTc (τ := Cert.KernelGains.τ) (Cert.KernelGains.main (F := Bits))) ⟨m, fun _ => 0, g⟩ (fun r => (∀ c : Dev Cert.KernelGains.nD,
      r.2.mem ((c.tc : Thread Cert.KernelGains.nD Cert.KernelGains.τ).loc Cert.KernelGains.main_arg0) = m ((c.tc : Thread Cert.KernelGains.nD Cert.KernelGains.τ).loc Cert.KernelGains.main_arg0)
      ∧ r.2.mem ((c.tc : Thread Cert.KernelGains.nD Cert.KernelGains.τ).loc Cert.KernelGains.main_arg1) = m ((c.tc : Thread Cert.KernelGains.nD Cert.KernelGains.τ).loc Cert.KernelGains.main_arg1)
      ∧ r.2.mem ((c.tc : Thread Cert.KernelGains.nD Cert.KernelGains.τ).loc Cert.KernelGains.main_arg2) = m ((c.tc : Thread Cert.KernelGains.nD Cert.KernelGains.τ).loc Cert.KernelGains.main_arg2)
      ∧ r.2.mem ((c.tc : Thread Cert.KernelGains.nD Cert.KernelGains.τ).loc Cert.KernelGains.main_arg3) = m ((c.tc : Thread Cert.KernelGains.nD Cert.KernelGains.τ).loc Cert.KernelGains.main_arg3))
      ∧ r.2.sem = fun _ => 0)

def quiescent_KernelGainsIdeal [hKernelGainsIdeal : Cert.KernelGainsIdeal.Facts] : Prop :=
  ∀ (m : (ℓ : Loc Cert.KernelGainsIdeal.nD Cert.KernelGainsIdeal.τ Cert.KernelGainsIdeal.sig) → Buf (Elt Ideal) ℓ) (g : Dev Cert.KernelGainsIdeal.nD → PrngReg), Pre_KernelGainsIdeal m →
    θ_run (Cert.KernelGainsIdeal.defs (F := Ideal)) (onTc (τ := Cert.KernelGainsIdeal.τ) (Cert.KernelGainsIdeal.main (F := Ideal))) ⟨m, fun _ => 0, g⟩ (fun r => (∀ c : Dev Cert.KernelGainsIdeal.nD,
      r.2.mem ((c.tc : Thread Cert.KernelGainsIdeal.nD Cert.KernelGainsIdeal.τ).loc Cert.KernelGainsIdeal.main_arg0) = m ((c.tc : Thread Cert.KernelGainsIdeal.nD Cert.KernelGainsIdeal.τ).loc Cert.KernelGainsIdeal.main_arg0)
      ∧ r.2.mem ((c.tc : Thread Cert.KernelGainsIdeal.nD Cert.KernelGainsIdeal.τ).loc Cert.KernelGainsIdeal.main_arg1) = m ((c.tc : Thread Cert.KernelGainsIdeal.nD Cert.KernelGainsIdeal.τ).loc Cert.KernelGainsIdeal.main_arg1)
      ∧ r.2.mem ((c.tc : Thread Cert.KernelGainsIdeal.nD Cert.KernelGainsIdeal.τ).loc Cert.KernelGainsIdeal.main_arg2) = m ((c.tc : Thread Cert.KernelGainsIdeal.nD Cert.KernelGainsIdeal.τ).loc Cert.KernelGainsIdeal.main_arg2)
      ∧ r.2.mem ((c.tc : Thread Cert.KernelGainsIdeal.nD Cert.KernelGainsIdeal.τ).loc Cert.KernelGainsIdeal.main_arg3) = m ((c.tc : Thread Cert.KernelGainsIdeal.nD Cert.KernelGainsIdeal.τ).loc Cert.KernelGainsIdeal.main_arg3))
      ∧ r.2.sem = fun _ => 0)

def quiescent_ReferenceGainsIdeal [hReferenceGainsIdeal : Cert.ReferenceGainsIdeal.Facts] : Prop :=
  ∀ (m : (ℓ : Loc Cert.ReferenceGainsIdeal.nD Cert.ReferenceGainsIdeal.τ Cert.ReferenceGainsIdeal.sig) → Buf (Elt Ideal) ℓ) (g : Dev Cert.ReferenceGainsIdeal.nD → PrngReg), Pre_ReferenceGainsIdeal m →
    θ_run (Cert.ReferenceGainsIdeal.defs (F := Ideal)) (onTc (τ := Cert.ReferenceGainsIdeal.τ) (Cert.ReferenceGainsIdeal.main (F := Ideal))) ⟨m, fun _ => 0, g⟩ (fun r => (∀ c : Dev Cert.ReferenceGainsIdeal.nD,
      r.2.mem ((c.tc : Thread Cert.ReferenceGainsIdeal.nD Cert.ReferenceGainsIdeal.τ).loc Cert.ReferenceGainsIdeal.main_arg0) = m ((c.tc : Thread Cert.ReferenceGainsIdeal.nD Cert.ReferenceGainsIdeal.τ).loc Cert.ReferenceGainsIdeal.main_arg0)
      ∧ r.2.mem ((c.tc : Thread Cert.ReferenceGainsIdeal.nD Cert.ReferenceGainsIdeal.τ).loc Cert.ReferenceGainsIdeal.main_arg1) = m ((c.tc : Thread Cert.ReferenceGainsIdeal.nD Cert.ReferenceGainsIdeal.τ).loc Cert.ReferenceGainsIdeal.main_arg1)
      ∧ r.2.mem ((c.tc : Thread Cert.ReferenceGainsIdeal.nD Cert.ReferenceGainsIdeal.τ).loc Cert.ReferenceGainsIdeal.main_arg2) = m ((c.tc : Thread Cert.ReferenceGainsIdeal.nD Cert.ReferenceGainsIdeal.τ).loc Cert.ReferenceGainsIdeal.main_arg2)
      ∧ r.2.mem ((c.tc : Thread Cert.ReferenceGainsIdeal.nD Cert.ReferenceGainsIdeal.τ).loc Cert.ReferenceGainsIdeal.main_arg3) = m ((c.tc : Thread Cert.ReferenceGainsIdeal.nD Cert.ReferenceGainsIdeal.τ).loc Cert.ReferenceGainsIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v82_0)) (v1 : (c : Dev Cert.KernelIdeal.nD) → Buf (Elt Ideal) ((c.tc : Thread Cert.KernelIdeal.nD Cert.KernelIdeal.τ).loc Cert.KernelIdeal.main_v82_1)) (v2 : (c : Dev Cert.KernelIdeal.nD) → Buf (Elt Ideal) ((c.tc : Thread Cert.KernelIdeal.nD Cert.KernelIdeal.τ).loc Cert.KernelIdeal.main_v82_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82_0) = v0 c
          ∧ r.2.mem ((c.tc : Thread Cert.KernelIdeal.nD Cert.KernelIdeal.τ).loc Cert.KernelIdeal.main_v82_1) = v1 c
          ∧ r.2.mem ((c.tc : Thread Cert.KernelIdeal.nD Cert.KernelIdeal.τ).loc Cert.KernelIdeal.main_v82_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v153) = v1 c
          ∧ r.2.mem ((c.tc : Thread Cert.ReferenceIdeal.nD Cert.ReferenceIdeal.τ).loc Cert.ReferenceIdeal.main_v154) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelWDown_KernelWDownIdeal : Prop :=
  True

def algebraic_KernelWDownIdeal_ReferenceWDownIdeal [hKernelWDownIdeal : Cert.KernelWDownIdeal.Facts] [hReferenceWDownIdeal : Cert.ReferenceWDownIdeal.Facts] : Prop :=
  ∀ (m : (ℓ : Loc Cert.KernelWDownIdeal.nD Cert.KernelWDownIdeal.τ Cert.KernelWDownIdeal.sig) → Buf (Elt Ideal) ℓ) (g : Dev Cert.KernelWDownIdeal.nD → PrngReg)
    (m' : (ℓ : Loc Cert.ReferenceWDownIdeal.nD Cert.ReferenceWDownIdeal.τ Cert.ReferenceWDownIdeal.sig) → Buf (Elt Ideal) ℓ) (g' : Dev Cert.ReferenceWDownIdeal.nD → PrngReg), Pre_KernelWDownIdeal m →
    (∀ c : Dev Cert.KernelWDownIdeal.nD,
      m' ((c.tc : Thread Cert.ReferenceWDownIdeal.nD Cert.ReferenceWDownIdeal.τ).loc Cert.ReferenceWDownIdeal.main_arg0) = m ((c.tc : Thread Cert.KernelWDownIdeal.nD Cert.KernelWDownIdeal.τ).loc Cert.KernelWDownIdeal.main_arg0)
      ∧ m' ((c.tc : Thread Cert.ReferenceWDownIdeal.nD Cert.ReferenceWDownIdeal.τ).loc Cert.ReferenceWDownIdeal.main_arg1) = m ((c.tc : Thread Cert.KernelWDownIdeal.nD Cert.KernelWDownIdeal.τ).loc Cert.KernelWDownIdeal.main_arg1)) →
    ∃ (v0 : (c : Dev Cert.KernelWDownIdeal.nD) → Buf (Elt Ideal) ((c.tc : Thread Cert.KernelWDownIdeal.nD Cert.KernelWDownIdeal.τ).loc Cert.KernelWDownIdeal.main_v2)),
      θ_run (Cert.KernelWDownIdeal.defs (F := Ideal)) (onTc (τ := Cert.KernelWDownIdeal.τ) (Cert.KernelWDownIdeal.main (F := Ideal))) ⟨m, fun _ => 0, g⟩ (fun r => ∀ c : Dev Cert.KernelWDownIdeal.nD,
          r.2.mem ((c.tc : Thread Cert.KernelWDownIdeal.nD Cert.KernelWDownIdeal.τ).loc Cert.KernelWDownIdeal.main_v2) = v0 c
          ∧ r.2.mem ((c.tc : Thread Cert.KernelWDownIdeal.nD Cert.KernelWDownIdeal.τ).loc Cert.KernelWDownIdeal.main_arg0) = m ((c.tc : Thread Cert.KernelWDownIdeal.nD Cert.KernelWDownIdeal.τ).loc Cert.KernelWDownIdeal.main_arg0)
          ∧ r.2.mem ((c.tc : Thread Cert.KernelWDownIdeal.nD Cert.KernelWDownIdeal.τ).loc Cert.KernelWDownIdeal.main_arg1) = m ((c.tc : Thread Cert.KernelWDownIdeal.nD Cert.KernelWDownIdeal.τ).loc Cert.KernelWDownIdeal.main_arg1))
      ∧ θ_run (Cert.ReferenceWDownIdeal.defs (F := Ideal)) (onTc (τ := Cert.ReferenceWDownIdeal.τ) (Cert.ReferenceWDownIdeal.main (F := Ideal))) ⟨m', fun _ => 0, g'⟩ (fun r => ∀ c : Dev Cert.ReferenceWDownIdeal.nD,
          r.2.mem ((c.tc : Thread Cert.ReferenceWDownIdeal.nD Cert.ReferenceWDownIdeal.τ).loc Cert.ReferenceWDownIdeal.main_v8) = v0 c
          ∧ r.2.mem ((c.tc : Thread Cert.ReferenceWDownIdeal.nD Cert.ReferenceWDownIdeal.τ).loc Cert.ReferenceWDownIdeal.main_arg0) = m' ((c.tc : Thread Cert.ReferenceWDownIdeal.nD Cert.ReferenceWDownIdeal.τ).loc Cert.ReferenceWDownIdeal.main_arg0)
          ∧ r.2.mem ((c.tc : Thread Cert.ReferenceWDownIdeal.nD Cert.ReferenceWDownIdeal.τ).loc Cert.ReferenceWDownIdeal.main_arg1) = m' ((c.tc : Thread Cert.ReferenceWDownIdeal.nD Cert.ReferenceWDownIdeal.τ).loc Cert.ReferenceWDownIdeal.main_arg1))

def preserves_KernelAct_KernelActIdeal : Prop :=
  True

def algebraic_KernelActIdeal_ReferenceActIdeal_pre_finite_act [hKernelActIdeal : Cert.KernelActIdeal.Facts] [hReferenceActIdeal : Cert.ReferenceActIdeal.Facts] [hPre_finite_act : Cert.Pre_finite_act.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal_finite_act m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)
      ∧ m' ((c.tc : Thread Cert.ReferenceActIdeal.nD Cert.ReferenceActIdeal.τ).loc Cert.ReferenceActIdeal.main_arg2) = m ((c.tc : Thread Cert.KernelActIdeal.nD Cert.KernelActIdeal.τ).loc Cert.KernelActIdeal.main_arg2)
      ∧ m' ((c.tc : Thread Cert.ReferenceActIdeal.nD Cert.ReferenceActIdeal.τ).loc Cert.ReferenceActIdeal.main_arg3) = m ((c.tc : Thread Cert.KernelActIdeal.nD Cert.KernelActIdeal.τ).loc Cert.KernelActIdeal.main_arg3)) →
    ∃ (v0 : (c : Dev Cert.KernelActIdeal.nD) → Buf (Elt Ideal) ((c.tc : Thread Cert.KernelActIdeal.nD Cert.KernelActIdeal.τ).loc Cert.KernelActIdeal.main_v4_0)) (v1 : (c : Dev Cert.KernelActIdeal.nD) → Buf (Elt Ideal) ((c.tc : Thread Cert.KernelActIdeal.nD Cert.KernelActIdeal.τ).loc Cert.KernelActIdeal.main_v4_1)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v4_0) = v0 c
          ∧ r.2.mem ((c.tc : Thread Cert.KernelActIdeal.nD Cert.KernelActIdeal.τ).loc Cert.KernelActIdeal.main_v4_1) = v1 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
          ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
          ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v11) = v0 c
          ∧ r.2.mem ((c.tc : Thread Cert.ReferenceActIdeal.nD Cert.ReferenceActIdeal.τ).loc Cert.ReferenceActIdeal.main_v12) = v1 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1)
          ∧ r.2.mem ((c.tc : Thread Cert.ReferenceActIdeal.nD Cert.ReferenceActIdeal.τ).loc Cert.ReferenceActIdeal.main_arg2) = m' ((c.tc : Thread Cert.ReferenceActIdeal.nD Cert.ReferenceActIdeal.τ).loc Cert.ReferenceActIdeal.main_arg2)
          ∧ r.2.mem ((c.tc : Thread Cert.ReferenceActIdeal.nD Cert.ReferenceActIdeal.τ).loc Cert.ReferenceActIdeal.main_arg3) = m' ((c.tc : Thread Cert.ReferenceActIdeal.nD Cert.ReferenceActIdeal.τ).loc Cert.ReferenceActIdeal.main_arg3))

def preserves_KernelWGate_KernelWGateIdeal : Prop :=
  True

def algebraic_KernelWGateIdeal_ReferenceWGateIdeal [hKernelWGateIdeal : Cert.KernelWGateIdeal.Facts] [hReferenceWGateIdeal : Cert.ReferenceWGateIdeal.Facts] : Prop :=
  ∀ (m : (ℓ : Loc Cert.KernelWGateIdeal.nD Cert.KernelWGateIdeal.τ Cert.KernelWGateIdeal.sig) → Buf (Elt Ideal) ℓ) (g : Dev Cert.KernelWGateIdeal.nD → PrngReg)
    (m' : (ℓ : Loc Cert.ReferenceWGateIdeal.nD Cert.ReferenceWGateIdeal.τ Cert.ReferenceWGateIdeal.sig) → Buf (Elt Ideal) ℓ) (g' : Dev Cert.ReferenceWGateIdeal.nD → PrngReg), Pre_KernelWGateIdeal m →
    (∀ c : Dev Cert.KernelWGateIdeal.nD,
      m' ((c.tc : Thread Cert.ReferenceWGateIdeal.nD Cert.ReferenceWGateIdeal.τ).loc Cert.ReferenceWGateIdeal.main_arg0) = m ((c.tc : Thread Cert.KernelWGateIdeal.nD Cert.KernelWGateIdeal.τ).loc Cert.KernelWGateIdeal.main_arg0)
      ∧ m' ((c.tc : Thread Cert.ReferenceWGateIdeal.nD Cert.ReferenceWGateIdeal.τ).loc Cert.ReferenceWGateIdeal.main_arg1) = m ((c.tc : Thread Cert.KernelWGateIdeal.nD Cert.KernelWGateIdeal.τ).loc Cert.KernelWGateIdeal.main_arg1)) →
    ∃ (v0 : (c : Dev Cert.KernelWGateIdeal.nD) → Buf (Elt Ideal) ((c.tc : Thread Cert.KernelWGateIdeal.nD Cert.KernelWGateIdeal.τ).loc Cert.KernelWGateIdeal.main_v2)),
      θ_run (Cert.KernelWGateIdeal.defs (F := Ideal)) (onTc (τ := Cert.KernelWGateIdeal.τ) (Cert.KernelWGateIdeal.main (F := Ideal))) ⟨m, fun _ => 0, g⟩ (fun r => ∀ c : Dev Cert.KernelWGateIdeal.nD,
          r.2.mem ((c.tc : Thread Cert.KernelWGateIdeal.nD Cert.KernelWGateIdeal.τ).loc Cert.KernelWGateIdeal.main_v2) = v0 c
          ∧ r.2.mem ((c.tc : Thread Cert.KernelWGateIdeal.nD Cert.KernelWGateIdeal.τ).loc Cert.KernelWGateIdeal.main_arg0) = m ((c.tc : Thread Cert.KernelWGateIdeal.nD Cert.KernelWGateIdeal.τ).loc Cert.KernelWGateIdeal.main_arg0)
          ∧ r.2.mem ((c.tc : Thread Cert.KernelWGateIdeal.nD Cert.KernelWGateIdeal.τ).loc Cert.KernelWGateIdeal.main_arg1) = m ((c.tc : Thread Cert.KernelWGateIdeal.nD Cert.KernelWGateIdeal.τ).loc Cert.KernelWGateIdeal.main_arg1))
      ∧ θ_run (Cert.ReferenceWGateIdeal.defs (F := Ideal)) (onTc (τ := Cert.ReferenceWGateIdeal.τ) (Cert.ReferenceWGateIdeal.main (F := Ideal))) ⟨m', fun _ => 0, g'⟩ (fun r => ∀ c : Dev Cert.ReferenceWGateIdeal.nD,
          r.2.mem ((c.tc : Thread Cert.ReferenceWGateIdeal.nD Cert.ReferenceWGateIdeal.τ).loc Cert.ReferenceWGateIdeal.main_v4) = v0 c
          ∧ r.2.mem ((c.tc : Thread Cert.ReferenceWGateIdeal.nD Cert.ReferenceWGateIdeal.τ).loc Cert.ReferenceWGateIdeal.main_arg0) = m' ((c.tc : Thread Cert.ReferenceWGateIdeal.nD Cert.ReferenceWGateIdeal.τ).loc Cert.ReferenceWGateIdeal.main_arg0)
          ∧ r.2.mem ((c.tc : Thread Cert.ReferenceWGateIdeal.nD Cert.ReferenceWGateIdeal.τ).loc Cert.ReferenceWGateIdeal.main_arg1) = m' ((c.tc : Thread Cert.ReferenceWGateIdeal.nD Cert.ReferenceWGateIdeal.τ).loc Cert.ReferenceWGateIdeal.main_arg1))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)) →
    ∃ (v0 : (c : Dev Cert.KernelNormIdeal.nD) → Buf (Elt Ideal) ((c.tc : Thread Cert.KernelNormIdeal.nD Cert.KernelNormIdeal.τ).loc Cert.KernelNormIdeal.main_v4)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v4) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v5) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3))

def preserves_KernelWDil_KernelWDilIdeal : Prop :=
  True

def algebraic_KernelWDilIdeal_ReferenceWDilIdeal [hKernelWDilIdeal : Cert.KernelWDilIdeal.Facts] [hReferenceWDilIdeal : Cert.ReferenceWDilIdeal.Facts] : Prop :=
  ∀ (m : (ℓ : Loc Cert.KernelWDilIdeal.nD Cert.KernelWDilIdeal.τ Cert.KernelWDilIdeal.sig) → Buf (Elt Ideal) ℓ) (g : Dev Cert.KernelWDilIdeal.nD → PrngReg)
    (m' : (ℓ : Loc Cert.ReferenceWDilIdeal.nD Cert.ReferenceWDilIdeal.τ Cert.ReferenceWDilIdeal.sig) → Buf (Elt Ideal) ℓ) (g' : Dev Cert.ReferenceWDilIdeal.nD → PrngReg), Pre_KernelWDilIdeal m →
    (∀ c : Dev Cert.KernelWDilIdeal.nD,
      m' ((c.tc : Thread Cert.ReferenceWDilIdeal.nD Cert.ReferenceWDilIdeal.τ).loc Cert.ReferenceWDilIdeal.main_arg0) = m ((c.tc : Thread Cert.KernelWDilIdeal.nD Cert.KernelWDilIdeal.τ).loc Cert.KernelWDilIdeal.main_arg0)
      ∧ m' ((c.tc : Thread Cert.ReferenceWDilIdeal.nD Cert.ReferenceWDilIdeal.τ).loc Cert.ReferenceWDilIdeal.main_arg1) = m ((c.tc : Thread Cert.KernelWDilIdeal.nD Cert.KernelWDilIdeal.τ).loc Cert.KernelWDilIdeal.main_arg1)) →
    ∃ (v0 : (c : Dev Cert.KernelWDilIdeal.nD) → Buf (Elt Ideal) ((c.tc : Thread Cert.KernelWDilIdeal.nD Cert.KernelWDilIdeal.τ).loc Cert.KernelWDilIdeal.main_v2)),
      θ_run (Cert.KernelWDilIdeal.defs (F := Ideal)) (onTc (τ := Cert.KernelWDilIdeal.τ) (Cert.KernelWDilIdeal.main (F := Ideal))) ⟨m, fun _ => 0, g⟩ (fun r => ∀ c : Dev Cert.KernelWDilIdeal.nD,
          r.2.mem ((c.tc : Thread Cert.KernelWDilIdeal.nD Cert.KernelWDilIdeal.τ).loc Cert.KernelWDilIdeal.main_v2) = v0 c
          ∧ r.2.mem ((c.tc : Thread Cert.KernelWDilIdeal.nD Cert.KernelWDilIdeal.τ).loc Cert.KernelWDilIdeal.main_arg0) = m ((c.tc : Thread Cert.KernelWDilIdeal.nD Cert.KernelWDilIdeal.τ).loc Cert.KernelWDilIdeal.main_arg0)
          ∧ r.2.mem ((c.tc : Thread Cert.KernelWDilIdeal.nD Cert.KernelWDilIdeal.τ).loc Cert.KernelWDilIdeal.main_arg1) = m ((c.tc : Thread Cert.KernelWDilIdeal.nD Cert.KernelWDilIdeal.τ).loc Cert.KernelWDilIdeal.main_arg1))
      ∧ θ_run (Cert.ReferenceWDilIdeal.defs (F := Ideal)) (onTc (τ := Cert.ReferenceWDilIdeal.τ) (Cert.ReferenceWDilIdeal.main (F := Ideal))) ⟨m', fun _ => 0, g'⟩ (fun r => ∀ c : Dev Cert.ReferenceWDilIdeal.nD,
          r.2.mem ((c.tc : Thread Cert.ReferenceWDilIdeal.nD Cert.ReferenceWDilIdeal.τ).loc Cert.ReferenceWDilIdeal.main_v4) = v0 c
          ∧ r.2.mem ((c.tc : Thread Cert.ReferenceWDilIdeal.nD Cert.ReferenceWDilIdeal.τ).loc Cert.ReferenceWDilIdeal.main_arg0) = m' ((c.tc : Thread Cert.ReferenceWDilIdeal.nD Cert.ReferenceWDilIdeal.τ).loc Cert.ReferenceWDilIdeal.main_arg0)
          ∧ r.2.mem ((c.tc : Thread Cert.ReferenceWDilIdeal.nD Cert.ReferenceWDilIdeal.τ).loc Cert.ReferenceWDilIdeal.main_arg1) = m' ((c.tc : Thread Cert.ReferenceWDilIdeal.nD Cert.ReferenceWDilIdeal.τ).loc Cert.ReferenceWDilIdeal.main_arg1))

def preserves_KernelHDil_KernelHDilIdeal : Prop :=
  True

def algebraic_KernelHDilIdeal_ReferenceHDilIdeal [hKernelHDilIdeal : Cert.KernelHDilIdeal.Facts] [hReferenceHDilIdeal : Cert.ReferenceHDilIdeal.Facts] : Prop :=
  ∀ (m : (ℓ : Loc Cert.KernelHDilIdeal.nD Cert.KernelHDilIdeal.τ Cert.KernelHDilIdeal.sig) → Buf (Elt Ideal) ℓ) (g : Dev Cert.KernelHDilIdeal.nD → PrngReg)
    (m' : (ℓ : Loc Cert.ReferenceHDilIdeal.nD Cert.ReferenceHDilIdeal.τ Cert.ReferenceHDilIdeal.sig) → Buf (Elt Ideal) ℓ) (g' : Dev Cert.ReferenceHDilIdeal.nD → PrngReg), Pre_KernelHDilIdeal m →
    (∀ c : Dev Cert.KernelHDilIdeal.nD,
      m' ((c.tc : Thread Cert.ReferenceHDilIdeal.nD Cert.ReferenceHDilIdeal.τ).loc Cert.ReferenceHDilIdeal.main_arg0) = m ((c.tc : Thread Cert.KernelHDilIdeal.nD Cert.KernelHDilIdeal.τ).loc Cert.KernelHDilIdeal.main_arg0)
      ∧ m' ((c.tc : Thread Cert.ReferenceHDilIdeal.nD Cert.ReferenceHDilIdeal.τ).loc Cert.ReferenceHDilIdeal.main_arg1) = m ((c.tc : Thread Cert.KernelHDilIdeal.nD Cert.KernelHDilIdeal.τ).loc Cert.KernelHDilIdeal.main_arg1)
      ∧ m' ((c.tc : Thread Cert.ReferenceHDilIdeal.nD Cert.ReferenceHDilIdeal.τ).loc Cert.ReferenceHDilIdeal.main_arg2) = m ((c.tc : Thread Cert.KernelHDilIdeal.nD Cert.KernelHDilIdeal.τ).loc Cert.KernelHDilIdeal.main_arg2)) →
    ∃ (v0 : (c : Dev Cert.KernelHDilIdeal.nD) → Buf (Elt Ideal) ((c.tc : Thread Cert.KernelHDilIdeal.nD Cert.KernelHDilIdeal.τ).loc Cert.KernelHDilIdeal.main_v2)),
      θ_run (Cert.KernelHDilIdeal.defs (F := Ideal)) (onTc (τ := Cert.KernelHDilIdeal.τ) (Cert.KernelHDilIdeal.main (F := Ideal))) ⟨m, fun _ => 0, g⟩ (fun r => ∀ c : Dev Cert.KernelHDilIdeal.nD,
          r.2.mem ((c.tc : Thread Cert.KernelHDilIdeal.nD Cert.KernelHDilIdeal.τ).loc Cert.KernelHDilIdeal.main_v2) = v0 c
          ∧ r.2.mem ((c.tc : Thread Cert.KernelHDilIdeal.nD Cert.KernelHDilIdeal.τ).loc Cert.KernelHDilIdeal.main_arg0) = m ((c.tc : Thread Cert.KernelHDilIdeal.nD Cert.KernelHDilIdeal.τ).loc Cert.KernelHDilIdeal.main_arg0)
          ∧ r.2.mem ((c.tc : Thread Cert.KernelHDilIdeal.nD Cert.KernelHDilIdeal.τ).loc Cert.KernelHDilIdeal.main_arg1) = m ((c.tc : Thread Cert.KernelHDilIdeal.nD Cert.KernelHDilIdeal.τ).loc Cert.KernelHDilIdeal.main_arg1)
          ∧ r.2.mem ((c.tc : Thread Cert.KernelHDilIdeal.nD Cert.KernelHDilIdeal.τ).loc Cert.KernelHDilIdeal.main_arg2) = m ((c.tc : Thread Cert.KernelHDilIdeal.nD Cert.KernelHDilIdeal.τ).loc Cert.KernelHDilIdeal.main_arg2))
      ∧ θ_run (Cert.ReferenceHDilIdeal.defs (F := Ideal)) (onTc (τ := Cert.ReferenceHDilIdeal.τ) (Cert.ReferenceHDilIdeal.main (F := Ideal))) ⟨m', fun _ => 0, g'⟩ (fun r => ∀ c : Dev Cert.ReferenceHDilIdeal.nD,
          r.2.mem ((c.tc : Thread Cert.ReferenceHDilIdeal.nD Cert.ReferenceHDilIdeal.τ).loc Cert.ReferenceHDilIdeal.main_v3) = v0 c
          ∧ r.2.mem ((c.tc : Thread Cert.ReferenceHDilIdeal.nD Cert.ReferenceHDilIdeal.τ).loc Cert.ReferenceHDilIdeal.main_arg0) = m' ((c.tc : Thread Cert.ReferenceHDilIdeal.nD Cert.ReferenceHDilIdeal.τ).loc Cert.ReferenceHDilIdeal.main_arg0)
          ∧ r.2.mem ((c.tc : Thread Cert.ReferenceHDilIdeal.nD Cert.ReferenceHDilIdeal.τ).loc Cert.ReferenceHDilIdeal.main_arg1) = m' ((c.tc : Thread Cert.ReferenceHDilIdeal.nD Cert.ReferenceHDilIdeal.τ).loc Cert.ReferenceHDilIdeal.main_arg1)
          ∧ r.2.mem ((c.tc : Thread Cert.ReferenceHDilIdeal.nD Cert.ReferenceHDilIdeal.τ).loc Cert.ReferenceHDilIdeal.main_arg2) = m' ((c.tc : Thread Cert.ReferenceHDilIdeal.nD Cert.ReferenceHDilIdeal.τ).loc Cert.ReferenceHDilIdeal.main_arg2))

def preserves_KernelPDil_KernelPDilIdeal : Prop :=
  True

def algebraic_KernelPDilIdeal_ReferencePDilIdeal [hKernelPDilIdeal : Cert.KernelPDilIdeal.Facts] [hReferencePDilIdeal : Cert.ReferencePDilIdeal.Facts] : Prop :=
  ∀ (m : (ℓ : Loc Cert.KernelPDilIdeal.nD Cert.KernelPDilIdeal.τ Cert.KernelPDilIdeal.sig) → Buf (Elt Ideal) ℓ) (g : Dev Cert.KernelPDilIdeal.nD → PrngReg)
    (m' : (ℓ : Loc Cert.ReferencePDilIdeal.nD Cert.ReferencePDilIdeal.τ Cert.ReferencePDilIdeal.sig) → Buf (Elt Ideal) ℓ) (g' : Dev Cert.ReferencePDilIdeal.nD → PrngReg), Pre_KernelPDilIdeal m →
    (∀ c : Dev Cert.KernelPDilIdeal.nD,
      m' ((c.tc : Thread Cert.ReferencePDilIdeal.nD Cert.ReferencePDilIdeal.τ).loc Cert.ReferencePDilIdeal.main_arg0) = m ((c.tc : Thread Cert.KernelPDilIdeal.nD Cert.KernelPDilIdeal.τ).loc Cert.KernelPDilIdeal.main_arg0)
      ∧ m' ((c.tc : Thread Cert.ReferencePDilIdeal.nD Cert.ReferencePDilIdeal.τ).loc Cert.ReferencePDilIdeal.main_arg1) = m ((c.tc : Thread Cert.KernelPDilIdeal.nD Cert.KernelPDilIdeal.τ).loc Cert.KernelPDilIdeal.main_arg1)) →
    ∃ (v0 : (c : Dev Cert.KernelPDilIdeal.nD) → Buf (Elt Ideal) ((c.tc : Thread Cert.KernelPDilIdeal.nD Cert.KernelPDilIdeal.τ).loc Cert.KernelPDilIdeal.main_v2)),
      θ_run (Cert.KernelPDilIdeal.defs (F := Ideal)) (onTc (τ := Cert.KernelPDilIdeal.τ) (Cert.KernelPDilIdeal.main (F := Ideal))) ⟨m, fun _ => 0, g⟩ (fun r => ∀ c : Dev Cert.KernelPDilIdeal.nD,
          r.2.mem ((c.tc : Thread Cert.KernelPDilIdeal.nD Cert.KernelPDilIdeal.τ).loc Cert.KernelPDilIdeal.main_v2) = v0 c
          ∧ r.2.mem ((c.tc : Thread Cert.KernelPDilIdeal.nD Cert.KernelPDilIdeal.τ).loc Cert.KernelPDilIdeal.main_arg0) = m ((c.tc : Thread Cert.KernelPDilIdeal.nD Cert.KernelPDilIdeal.τ).loc Cert.KernelPDilIdeal.main_arg0)
          ∧ r.2.mem ((c.tc : Thread Cert.KernelPDilIdeal.nD Cert.KernelPDilIdeal.τ).loc Cert.KernelPDilIdeal.main_arg1) = m ((c.tc : Thread Cert.KernelPDilIdeal.nD Cert.KernelPDilIdeal.τ).loc Cert.KernelPDilIdeal.main_arg1))
      ∧ θ_run (Cert.ReferencePDilIdeal.defs (F := Ideal)) (onTc (τ := Cert.ReferencePDilIdeal.τ) (Cert.ReferencePDilIdeal.main (F := Ideal))) ⟨m', fun _ => 0, g'⟩ (fun r => ∀ c : Dev Cert.ReferencePDilIdeal.nD,
          r.2.mem ((c.tc : Thread Cert.ReferencePDilIdeal.nD Cert.ReferencePDilIdeal.τ).loc Cert.ReferencePDilIdeal.main_v1) = v0 c
          ∧ r.2.mem ((c.tc : Thread Cert.ReferencePDilIdeal.nD Cert.ReferencePDilIdeal.τ).loc Cert.ReferencePDilIdeal.main_arg0) = m' ((c.tc : Thread Cert.ReferencePDilIdeal.nD Cert.ReferencePDilIdeal.τ).loc Cert.ReferencePDilIdeal.main_arg0)
          ∧ r.2.mem ((c.tc : Thread Cert.ReferencePDilIdeal.nD Cert.ReferencePDilIdeal.τ).loc Cert.ReferencePDilIdeal.main_arg1) = m' ((c.tc : Thread Cert.ReferencePDilIdeal.nD Cert.ReferencePDilIdeal.τ).loc Cert.ReferencePDilIdeal.main_arg1))

def preserves_KernelWGin_KernelWGinIdeal : Prop :=
  True

def algebraic_KernelWGinIdeal_ReferenceWGinIdeal [hKernelWGinIdeal : Cert.KernelWGinIdeal.Facts] [hReferenceWGinIdeal : Cert.ReferenceWGinIdeal.Facts] : Prop :=
  ∀ (m : (ℓ : Loc Cert.KernelWGinIdeal.nD Cert.KernelWGinIdeal.τ Cert.KernelWGinIdeal.sig) → Buf (Elt Ideal) ℓ) (g : Dev Cert.KernelWGinIdeal.nD → PrngReg)
    (m' : (ℓ : Loc Cert.ReferenceWGinIdeal.nD Cert.ReferenceWGinIdeal.τ Cert.ReferenceWGinIdeal.sig) → Buf (Elt Ideal) ℓ) (g' : Dev Cert.ReferenceWGinIdeal.nD → PrngReg), Pre_KernelWGinIdeal m →
    (∀ c : Dev Cert.KernelWGinIdeal.nD,
      m' ((c.tc : Thread Cert.ReferenceWGinIdeal.nD Cert.ReferenceWGinIdeal.τ).loc Cert.ReferenceWGinIdeal.main_arg0) = m ((c.tc : Thread Cert.KernelWGinIdeal.nD Cert.KernelWGinIdeal.τ).loc Cert.KernelWGinIdeal.main_arg0)
      ∧ m' ((c.tc : Thread Cert.ReferenceWGinIdeal.nD Cert.ReferenceWGinIdeal.τ).loc Cert.ReferenceWGinIdeal.main_arg1) = m ((c.tc : Thread Cert.KernelWGinIdeal.nD Cert.KernelWGinIdeal.τ).loc Cert.KernelWGinIdeal.main_arg1)) →
    ∃ (v0 : (c : Dev Cert.KernelWGinIdeal.nD) → Buf (Elt Ideal) ((c.tc : Thread Cert.KernelWGinIdeal.nD Cert.KernelWGinIdeal.τ).loc Cert.KernelWGinIdeal.main_v2)),
      θ_run (Cert.KernelWGinIdeal.defs (F := Ideal)) (onTc (τ := Cert.KernelWGinIdeal.τ) (Cert.KernelWGinIdeal.main (F := Ideal))) ⟨m, fun _ => 0, g⟩ (fun r => ∀ c : Dev Cert.KernelWGinIdeal.nD,
          r.2.mem ((c.tc : Thread Cert.KernelWGinIdeal.nD Cert.KernelWGinIdeal.τ).loc Cert.KernelWGinIdeal.main_v2) = v0 c
          ∧ r.2.mem ((c.tc : Thread Cert.KernelWGinIdeal.nD Cert.KernelWGinIdeal.τ).loc Cert.KernelWGinIdeal.main_arg0) = m ((c.tc : Thread Cert.KernelWGinIdeal.nD Cert.KernelWGinIdeal.τ).loc Cert.KernelWGinIdeal.main_arg0)
          ∧ r.2.mem ((c.tc : Thread Cert.KernelWGinIdeal.nD Cert.KernelWGinIdeal.τ).loc Cert.KernelWGinIdeal.main_arg1) = m ((c.tc : Thread Cert.KernelWGinIdeal.nD Cert.KernelWGinIdeal.τ).loc Cert.KernelWGinIdeal.main_arg1))
      ∧ θ_run (Cert.ReferenceWGinIdeal.defs (F := Ideal)) (onTc (τ := Cert.ReferenceWGinIdeal.τ) (Cert.ReferenceWGinIdeal.main (F := Ideal))) ⟨m', fun _ => 0, g'⟩ (fun r => ∀ c : Dev Cert.ReferenceWGinIdeal.nD,
          r.2.mem ((c.tc : Thread Cert.ReferenceWGinIdeal.nD Cert.ReferenceWGinIdeal.τ).loc Cert.ReferenceWGinIdeal.main_v4) = v0 c
          ∧ r.2.mem ((c.tc : Thread Cert.ReferenceWGinIdeal.nD Cert.ReferenceWGinIdeal.τ).loc Cert.ReferenceWGinIdeal.main_arg0) = m' ((c.tc : Thread Cert.ReferenceWGinIdeal.nD Cert.ReferenceWGinIdeal.τ).loc Cert.ReferenceWGinIdeal.main_arg0)
          ∧ r.2.mem ((c.tc : Thread Cert.ReferenceWGinIdeal.nD Cert.ReferenceWGinIdeal.τ).loc Cert.ReferenceWGinIdeal.main_arg1) = m' ((c.tc : Thread Cert.ReferenceWGinIdeal.nD Cert.ReferenceWGinIdeal.τ).loc Cert.ReferenceWGinIdeal.main_arg1))

def preserves_KernelHGate_KernelHGateIdeal : Prop :=
  True

def algebraic_KernelHGateIdeal_ReferenceHGateIdeal [hKernelHGateIdeal : Cert.KernelHGateIdeal.Facts] [hReferenceHGateIdeal : Cert.ReferenceHGateIdeal.Facts] : Prop :=
  ∀ (m : (ℓ : Loc Cert.KernelHGateIdeal.nD Cert.KernelHGateIdeal.τ Cert.KernelHGateIdeal.sig) → Buf (Elt Ideal) ℓ) (g : Dev Cert.KernelHGateIdeal.nD → PrngReg)
    (m' : (ℓ : Loc Cert.ReferenceHGateIdeal.nD Cert.ReferenceHGateIdeal.τ Cert.ReferenceHGateIdeal.sig) → Buf (Elt Ideal) ℓ) (g' : Dev Cert.ReferenceHGateIdeal.nD → PrngReg), Pre_KernelHGateIdeal m →
    (∀ c : Dev Cert.KernelHGateIdeal.nD,
      m' ((c.tc : Thread Cert.ReferenceHGateIdeal.nD Cert.ReferenceHGateIdeal.τ).loc Cert.ReferenceHGateIdeal.main_arg0) = m ((c.tc : Thread Cert.KernelHGateIdeal.nD Cert.KernelHGateIdeal.τ).loc Cert.KernelHGateIdeal.main_arg0)
      ∧ m' ((c.tc : Thread Cert.ReferenceHGateIdeal.nD Cert.ReferenceHGateIdeal.τ).loc Cert.ReferenceHGateIdeal.main_arg1) = m ((c.tc : Thread Cert.KernelHGateIdeal.nD Cert.KernelHGateIdeal.τ).loc Cert.KernelHGateIdeal.main_arg1)) →
    ∃ (v0 : (c : Dev Cert.KernelHGateIdeal.nD) → Buf (Elt Ideal) ((c.tc : Thread Cert.KernelHGateIdeal.nD Cert.KernelHGateIdeal.τ).loc Cert.KernelHGateIdeal.main_v2)),
      θ_run (Cert.KernelHGateIdeal.defs (F := Ideal)) (onTc (τ := Cert.KernelHGateIdeal.τ) (Cert.KernelHGateIdeal.main (F := Ideal))) ⟨m, fun _ => 0, g⟩ (fun r => ∀ c : Dev Cert.KernelHGateIdeal.nD,
          r.2.mem ((c.tc : Thread Cert.KernelHGateIdeal.nD Cert.KernelHGateIdeal.τ).loc Cert.KernelHGateIdeal.main_v2) = v0 c
          ∧ r.2.mem ((c.tc : Thread Cert.KernelHGateIdeal.nD Cert.KernelHGateIdeal.τ).loc Cert.KernelHGateIdeal.main_arg0) = m ((c.tc : Thread Cert.KernelHGateIdeal.nD Cert.KernelHGateIdeal.τ).loc Cert.KernelHGateIdeal.main_arg0)
          ∧ r.2.mem ((c.tc : Thread Cert.KernelHGateIdeal.nD Cert.KernelHGateIdeal.τ).loc Cert.KernelHGateIdeal.main_arg1) = m ((c.tc : Thread Cert.KernelHGateIdeal.nD Cert.KernelHGateIdeal.τ).loc Cert.KernelHGateIdeal.main_arg1))
      ∧ θ_run (Cert.ReferenceHGateIdeal.defs (F := Ideal)) (onTc (τ := Cert.ReferenceHGateIdeal.τ) (Cert.ReferenceHGateIdeal.main (F := Ideal))) ⟨m', fun _ => 0, g'⟩ (fun r => ∀ c : Dev Cert.ReferenceHGateIdeal.nD,
          r.2.mem ((c.tc : Thread Cert.ReferenceHGateIdeal.nD Cert.ReferenceHGateIdeal.τ).loc Cert.ReferenceHGateIdeal.main_v2) = v0 c
          ∧ r.2.mem ((c.tc : Thread Cert.ReferenceHGateIdeal.nD Cert.ReferenceHGateIdeal.τ).loc Cert.ReferenceHGateIdeal.main_arg0) = m' ((c.tc : Thread Cert.ReferenceHGateIdeal.nD Cert.ReferenceHGateIdeal.τ).loc Cert.ReferenceHGateIdeal.main_arg0)
          ∧ r.2.mem ((c.tc : Thread Cert.ReferenceHGateIdeal.nD Cert.ReferenceHGateIdeal.τ).loc Cert.ReferenceHGateIdeal.main_arg1) = m' ((c.tc : Thread Cert.ReferenceHGateIdeal.nD Cert.ReferenceHGateIdeal.τ).loc Cert.ReferenceHGateIdeal.main_arg1))

def preserves_KernelPGate_KernelPGateIdeal : Prop :=
  True

def algebraic_KernelPGateIdeal_ReferencePGateIdeal [hKernelPGateIdeal : Cert.KernelPGateIdeal.Facts] [hReferencePGateIdeal : Cert.ReferencePGateIdeal.Facts] : Prop :=
  ∀ (m : (ℓ : Loc Cert.KernelPGateIdeal.nD Cert.KernelPGateIdeal.τ Cert.KernelPGateIdeal.sig) → Buf (Elt Ideal) ℓ) (g : Dev Cert.KernelPGateIdeal.nD → PrngReg)
    (m' : (ℓ : Loc Cert.ReferencePGateIdeal.nD Cert.ReferencePGateIdeal.τ Cert.ReferencePGateIdeal.sig) → Buf (Elt Ideal) ℓ) (g' : Dev Cert.ReferencePGateIdeal.nD → PrngReg), Pre_KernelPGateIdeal m →
    (∀ c : Dev Cert.KernelPGateIdeal.nD,
      m' ((c.tc : Thread Cert.ReferencePGateIdeal.nD Cert.ReferencePGateIdeal.τ).loc Cert.ReferencePGateIdeal.main_arg0) = m ((c.tc : Thread Cert.KernelPGateIdeal.nD Cert.KernelPGateIdeal.τ).loc Cert.KernelPGateIdeal.main_arg0)
      ∧ m' ((c.tc : Thread Cert.ReferencePGateIdeal.nD Cert.ReferencePGateIdeal.τ).loc Cert.ReferencePGateIdeal.main_arg1) = m ((c.tc : Thread Cert.KernelPGateIdeal.nD Cert.KernelPGateIdeal.τ).loc Cert.KernelPGateIdeal.main_arg1)) →
    ∃ (v0 : (c : Dev Cert.KernelPGateIdeal.nD) → Buf (Elt Ideal) ((c.tc : Thread Cert.KernelPGateIdeal.nD Cert.KernelPGateIdeal.τ).loc Cert.KernelPGateIdeal.main_v2)),
      θ_run (Cert.KernelPGateIdeal.defs (F := Ideal)) (onTc (τ := Cert.KernelPGateIdeal.τ) (Cert.KernelPGateIdeal.main (F := Ideal))) ⟨m, fun _ => 0, g⟩ (fun r => ∀ c : Dev Cert.KernelPGateIdeal.nD,
          r.2.mem ((c.tc : Thread Cert.KernelPGateIdeal.nD Cert.KernelPGateIdeal.τ).loc Cert.KernelPGateIdeal.main_v2) = v0 c
          ∧ r.2.mem ((c.tc : Thread Cert.KernelPGateIdeal.nD Cert.KernelPGateIdeal.τ).loc Cert.KernelPGateIdeal.main_arg0) = m ((c.tc : Thread Cert.KernelPGateIdeal.nD Cert.KernelPGateIdeal.τ).loc Cert.KernelPGateIdeal.main_arg0)
          ∧ r.2.mem ((c.tc : Thread Cert.KernelPGateIdeal.nD Cert.KernelPGateIdeal.τ).loc Cert.KernelPGateIdeal.main_arg1) = m ((c.tc : Thread Cert.KernelPGateIdeal.nD Cert.KernelPGateIdeal.τ).loc Cert.KernelPGateIdeal.main_arg1))
      ∧ θ_run (Cert.ReferencePGateIdeal.defs (F := Ideal)) (onTc (τ := Cert.ReferencePGateIdeal.τ) (Cert.ReferencePGateIdeal.main (F := Ideal))) ⟨m', fun _ => 0, g'⟩ (fun r => ∀ c : Dev Cert.ReferencePGateIdeal.nD,
          r.2.mem ((c.tc : Thread Cert.ReferencePGateIdeal.nD Cert.ReferencePGateIdeal.τ).loc Cert.ReferencePGateIdeal.main_v1) = v0 c
          ∧ r.2.mem ((c.tc : Thread Cert.ReferencePGateIdeal.nD Cert.ReferencePGateIdeal.τ).loc Cert.ReferencePGateIdeal.main_arg0) = m' ((c.tc : Thread Cert.ReferencePGateIdeal.nD Cert.ReferencePGateIdeal.τ).loc Cert.ReferencePGateIdeal.main_arg0)
          ∧ r.2.mem ((c.tc : Thread Cert.ReferencePGateIdeal.nD Cert.ReferencePGateIdeal.τ).loc Cert.ReferencePGateIdeal.main_arg1) = m' ((c.tc : Thread Cert.ReferencePGateIdeal.nD Cert.ReferencePGateIdeal.τ).loc Cert.ReferencePGateIdeal.main_arg1))

def preserves_KernelWO_KernelWOIdeal : Prop :=
  True

def algebraic_KernelWOIdeal_ReferenceWOIdeal [hKernelWOIdeal : Cert.KernelWOIdeal.Facts] [hReferenceWOIdeal : Cert.ReferenceWOIdeal.Facts] : Prop :=
  ∀ (m : (ℓ : Loc Cert.KernelWOIdeal.nD Cert.KernelWOIdeal.τ Cert.KernelWOIdeal.sig) → Buf (Elt Ideal) ℓ) (g : Dev Cert.KernelWOIdeal.nD → PrngReg)
    (m' : (ℓ : Loc Cert.ReferenceWOIdeal.nD Cert.ReferenceWOIdeal.τ Cert.ReferenceWOIdeal.sig) → Buf (Elt Ideal) ℓ) (g' : Dev Cert.ReferenceWOIdeal.nD → PrngReg), Pre_KernelWOIdeal m →
    (∀ c : Dev Cert.KernelWOIdeal.nD,
      m' ((c.tc : Thread Cert.ReferenceWOIdeal.nD Cert.ReferenceWOIdeal.τ).loc Cert.ReferenceWOIdeal.main_arg0) = m ((c.tc : Thread Cert.KernelWOIdeal.nD Cert.KernelWOIdeal.τ).loc Cert.KernelWOIdeal.main_arg0)
      ∧ m' ((c.tc : Thread Cert.ReferenceWOIdeal.nD Cert.ReferenceWOIdeal.τ).loc Cert.ReferenceWOIdeal.main_arg1) = m ((c.tc : Thread Cert.KernelWOIdeal.nD Cert.KernelWOIdeal.τ).loc Cert.KernelWOIdeal.main_arg1)) →
    ∃ (v0 : (c : Dev Cert.KernelWOIdeal.nD) → Buf (Elt Ideal) ((c.tc : Thread Cert.KernelWOIdeal.nD Cert.KernelWOIdeal.τ).loc Cert.KernelWOIdeal.main_v2)),
      θ_run (Cert.KernelWOIdeal.defs (F := Ideal)) (onTc (τ := Cert.KernelWOIdeal.τ) (Cert.KernelWOIdeal.main (F := Ideal))) ⟨m, fun _ => 0, g⟩ (fun r => ∀ c : Dev Cert.KernelWOIdeal.nD,
          r.2.mem ((c.tc : Thread Cert.KernelWOIdeal.nD Cert.KernelWOIdeal.τ).loc Cert.KernelWOIdeal.main_v2) = v0 c
          ∧ r.2.mem ((c.tc : Thread Cert.KernelWOIdeal.nD Cert.KernelWOIdeal.τ).loc Cert.KernelWOIdeal.main_arg0) = m ((c.tc : Thread Cert.KernelWOIdeal.nD Cert.KernelWOIdeal.τ).loc Cert.KernelWOIdeal.main_arg0)
          ∧ r.2.mem ((c.tc : Thread Cert.KernelWOIdeal.nD Cert.KernelWOIdeal.τ).loc Cert.KernelWOIdeal.main_arg1) = m ((c.tc : Thread Cert.KernelWOIdeal.nD Cert.KernelWOIdeal.τ).loc Cert.KernelWOIdeal.main_arg1))
      ∧ θ_run (Cert.ReferenceWOIdeal.defs (F := Ideal)) (onTc (τ := Cert.ReferenceWOIdeal.τ) (Cert.ReferenceWOIdeal.main (F := Ideal))) ⟨m', fun _ => 0, g'⟩ (fun r => ∀ c : Dev Cert.ReferenceWOIdeal.nD,
          r.2.mem ((c.tc : Thread Cert.ReferenceWOIdeal.nD Cert.ReferenceWOIdeal.τ).loc Cert.ReferenceWOIdeal.main_v4) = v0 c
          ∧ r.2.mem ((c.tc : Thread Cert.ReferenceWOIdeal.nD Cert.ReferenceWOIdeal.τ).loc Cert.ReferenceWOIdeal.main_arg0) = m' ((c.tc : Thread Cert.ReferenceWOIdeal.nD Cert.ReferenceWOIdeal.τ).loc Cert.ReferenceWOIdeal.main_arg0)
          ∧ r.2.mem ((c.tc : Thread Cert.ReferenceWOIdeal.nD Cert.ReferenceWOIdeal.τ).loc Cert.ReferenceWOIdeal.main_arg1) = m' ((c.tc : Thread Cert.ReferenceWOIdeal.nD Cert.ReferenceWOIdeal.τ).loc Cert.ReferenceWOIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v1) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelWBr_KernelWBrIdeal : Prop :=
  True

def algebraic_KernelWBrIdeal_ReferenceWBrIdeal [hKernelWBrIdeal : Cert.KernelWBrIdeal.Facts] [hReferenceWBrIdeal : Cert.ReferenceWBrIdeal.Facts] : Prop :=
  ∀ (m : (ℓ : Loc Cert.KernelWBrIdeal.nD Cert.KernelWBrIdeal.τ Cert.KernelWBrIdeal.sig) → Buf (Elt Ideal) ℓ) (g : Dev Cert.KernelWBrIdeal.nD → PrngReg)
    (m' : (ℓ : Loc Cert.ReferenceWBrIdeal.nD Cert.ReferenceWBrIdeal.τ Cert.ReferenceWBrIdeal.sig) → Buf (Elt Ideal) ℓ) (g' : Dev Cert.ReferenceWBrIdeal.nD → PrngReg), Pre_KernelWBrIdeal m →
    (∀ c : Dev Cert.KernelWBrIdeal.nD,
      m' ((c.tc : Thread Cert.ReferenceWBrIdeal.nD Cert.ReferenceWBrIdeal.τ).loc Cert.ReferenceWBrIdeal.main_arg0) = m ((c.tc : Thread Cert.KernelWBrIdeal.nD Cert.KernelWBrIdeal.τ).loc Cert.KernelWBrIdeal.main_arg0)
      ∧ m' ((c.tc : Thread Cert.ReferenceWBrIdeal.nD Cert.ReferenceWBrIdeal.τ).loc Cert.ReferenceWBrIdeal.main_arg1) = m ((c.tc : Thread Cert.KernelWBrIdeal.nD Cert.KernelWBrIdeal.τ).loc Cert.KernelWBrIdeal.main_arg1)) →
    ∃ (v0 : (c : Dev Cert.KernelWBrIdeal.nD) → Buf (Elt Ideal) ((c.tc : Thread Cert.KernelWBrIdeal.nD Cert.KernelWBrIdeal.τ).loc Cert.KernelWBrIdeal.main_v2)),
      θ_run (Cert.KernelWBrIdeal.defs (F := Ideal)) (onTc (τ := Cert.KernelWBrIdeal.τ) (Cert.KernelWBrIdeal.main (F := Ideal))) ⟨m, fun _ => 0, g⟩ (fun r => ∀ c : Dev Cert.KernelWBrIdeal.nD,
          r.2.mem ((c.tc : Thread Cert.KernelWBrIdeal.nD Cert.KernelWBrIdeal.τ).loc Cert.KernelWBrIdeal.main_v2) = v0 c
          ∧ r.2.mem ((c.tc : Thread Cert.KernelWBrIdeal.nD Cert.KernelWBrIdeal.τ).loc Cert.KernelWBrIdeal.main_arg0) = m ((c.tc : Thread Cert.KernelWBrIdeal.nD Cert.KernelWBrIdeal.τ).loc Cert.KernelWBrIdeal.main_arg0)
          ∧ r.2.mem ((c.tc : Thread Cert.KernelWBrIdeal.nD Cert.KernelWBrIdeal.τ).loc Cert.KernelWBrIdeal.main_arg1) = m ((c.tc : Thread Cert.KernelWBrIdeal.nD Cert.KernelWBrIdeal.τ).loc Cert.KernelWBrIdeal.main_arg1))
      ∧ θ_run (Cert.ReferenceWBrIdeal.defs (F := Ideal)) (onTc (τ := Cert.ReferenceWBrIdeal.τ) (Cert.ReferenceWBrIdeal.main (F := Ideal))) ⟨m', fun _ => 0, g'⟩ (fun r => ∀ c : Dev Cert.ReferenceWBrIdeal.nD,
          r.2.mem ((c.tc : Thread Cert.ReferenceWBrIdeal.nD Cert.ReferenceWBrIdeal.τ).loc Cert.ReferenceWBrIdeal.main_v4) = v0 c
          ∧ r.2.mem ((c.tc : Thread Cert.ReferenceWBrIdeal.nD Cert.ReferenceWBrIdeal.τ).loc Cert.ReferenceWBrIdeal.main_arg0) = m' ((c.tc : Thread Cert.ReferenceWBrIdeal.nD Cert.ReferenceWBrIdeal.τ).loc Cert.ReferenceWBrIdeal.main_arg0)
          ∧ r.2.mem ((c.tc : Thread Cert.ReferenceWBrIdeal.nD Cert.ReferenceWBrIdeal.τ).loc Cert.ReferenceWBrIdeal.main_arg1) = m' ((c.tc : Thread Cert.ReferenceWBrIdeal.nD Cert.ReferenceWBrIdeal.τ).loc Cert.ReferenceWBrIdeal.main_arg1))

def preserves_KernelOBr_KernelOBrIdeal : Prop :=
  True

def algebraic_KernelOBrIdeal_ReferenceOBrIdeal [hKernelOBrIdeal : Cert.KernelOBrIdeal.Facts] [hReferenceOBrIdeal : Cert.ReferenceOBrIdeal.Facts] : Prop :=
  ∀ (m : (ℓ : Loc Cert.KernelOBrIdeal.nD Cert.KernelOBrIdeal.τ Cert.KernelOBrIdeal.sig) → Buf (Elt Ideal) ℓ) (g : Dev Cert.KernelOBrIdeal.nD → PrngReg)
    (m' : (ℓ : Loc Cert.ReferenceOBrIdeal.nD Cert.ReferenceOBrIdeal.τ Cert.ReferenceOBrIdeal.sig) → Buf (Elt Ideal) ℓ) (g' : Dev Cert.ReferenceOBrIdeal.nD → PrngReg), Pre_KernelOBrIdeal m →
    (∀ c : Dev Cert.KernelOBrIdeal.nD,
      m' ((c.tc : Thread Cert.ReferenceOBrIdeal.nD Cert.ReferenceOBrIdeal.τ).loc Cert.ReferenceOBrIdeal.main_arg0) = m ((c.tc : Thread Cert.KernelOBrIdeal.nD Cert.KernelOBrIdeal.τ).loc Cert.KernelOBrIdeal.main_arg0)
      ∧ m' ((c.tc : Thread Cert.ReferenceOBrIdeal.nD Cert.ReferenceOBrIdeal.τ).loc Cert.ReferenceOBrIdeal.main_arg1) = m ((c.tc : Thread Cert.KernelOBrIdeal.nD Cert.KernelOBrIdeal.τ).loc Cert.KernelOBrIdeal.main_arg1)) →
    ∃ (v0 : (c : Dev Cert.KernelOBrIdeal.nD) → Buf (Elt Ideal) ((c.tc : Thread Cert.KernelOBrIdeal.nD Cert.KernelOBrIdeal.τ).loc Cert.KernelOBrIdeal.main_v2)),
      θ_run (Cert.KernelOBrIdeal.defs (F := Ideal)) (onTc (τ := Cert.KernelOBrIdeal.τ) (Cert.KernelOBrIdeal.main (F := Ideal))) ⟨m, fun _ => 0, g⟩ (fun r => ∀ c : Dev Cert.KernelOBrIdeal.nD,
          r.2.mem ((c.tc : Thread Cert.KernelOBrIdeal.nD Cert.KernelOBrIdeal.τ).loc Cert.KernelOBrIdeal.main_v2) = v0 c
          ∧ r.2.mem ((c.tc : Thread Cert.KernelOBrIdeal.nD Cert.KernelOBrIdeal.τ).loc Cert.KernelOBrIdeal.main_arg0) = m ((c.tc : Thread Cert.KernelOBrIdeal.nD Cert.KernelOBrIdeal.τ).loc Cert.KernelOBrIdeal.main_arg0)
          ∧ r.2.mem ((c.tc : Thread Cert.KernelOBrIdeal.nD Cert.KernelOBrIdeal.τ).loc Cert.KernelOBrIdeal.main_arg1) = m ((c.tc : Thread Cert.KernelOBrIdeal.nD Cert.KernelOBrIdeal.τ).loc Cert.KernelOBrIdeal.main_arg1))
      ∧ θ_run (Cert.ReferenceOBrIdeal.defs (F := Ideal)) (onTc (τ := Cert.ReferenceOBrIdeal.τ) (Cert.ReferenceOBrIdeal.main (F := Ideal))) ⟨m', fun _ => 0, g'⟩ (fun r => ∀ c : Dev Cert.ReferenceOBrIdeal.nD,
          r.2.mem ((c.tc : Thread Cert.ReferenceOBrIdeal.nD Cert.ReferenceOBrIdeal.τ).loc Cert.ReferenceOBrIdeal.main_v2) = v0 c
          ∧ r.2.mem ((c.tc : Thread Cert.ReferenceOBrIdeal.nD Cert.ReferenceOBrIdeal.τ).loc Cert.ReferenceOBrIdeal.main_arg0) = m' ((c.tc : Thread Cert.ReferenceOBrIdeal.nD Cert.ReferenceOBrIdeal.τ).loc Cert.ReferenceOBrIdeal.main_arg0)
          ∧ r.2.mem ((c.tc : Thread Cert.ReferenceOBrIdeal.nD Cert.ReferenceOBrIdeal.τ).loc Cert.ReferenceOBrIdeal.main_arg1) = m' ((c.tc : Thread Cert.ReferenceOBrIdeal.nD Cert.ReferenceOBrIdeal.τ).loc Cert.ReferenceOBrIdeal.main_arg1))

def preserves_KernelBr_KernelBrIdeal : Prop :=
  True

def algebraic_KernelBrIdeal_ReferenceBrIdeal [hKernelBrIdeal : Cert.KernelBrIdeal.Facts] [hReferenceBrIdeal : Cert.ReferenceBrIdeal.Facts] : Prop :=
  ∀ (m : (ℓ : Loc Cert.KernelBrIdeal.nD Cert.KernelBrIdeal.τ Cert.KernelBrIdeal.sig) → Buf (Elt Ideal) ℓ) (g : Dev Cert.KernelBrIdeal.nD → PrngReg)
    (m' : (ℓ : Loc Cert.ReferenceBrIdeal.nD Cert.ReferenceBrIdeal.τ Cert.ReferenceBrIdeal.sig) → Buf (Elt Ideal) ℓ) (g' : Dev Cert.ReferenceBrIdeal.nD → PrngReg), Pre_KernelBrIdeal m →
    (∀ c : Dev Cert.KernelBrIdeal.nD,
      m' ((c.tc : Thread Cert.ReferenceBrIdeal.nD Cert.ReferenceBrIdeal.τ).loc Cert.ReferenceBrIdeal.main_arg0) = m ((c.tc : Thread Cert.KernelBrIdeal.nD Cert.KernelBrIdeal.τ).loc Cert.KernelBrIdeal.main_arg0)
      ∧ m' ((c.tc : Thread Cert.ReferenceBrIdeal.nD Cert.ReferenceBrIdeal.τ).loc Cert.ReferenceBrIdeal.main_arg1) = m ((c.tc : Thread Cert.KernelBrIdeal.nD Cert.KernelBrIdeal.τ).loc Cert.KernelBrIdeal.main_arg1)) →
    ∃ (v0 : (c : Dev Cert.KernelBrIdeal.nD) → Buf (Elt Ideal) ((c.tc : Thread Cert.KernelBrIdeal.nD Cert.KernelBrIdeal.τ).loc Cert.KernelBrIdeal.main_v2)),
      θ_run (Cert.KernelBrIdeal.defs (F := Ideal)) (onTc (τ := Cert.KernelBrIdeal.τ) (Cert.KernelBrIdeal.main (F := Ideal))) ⟨m, fun _ => 0, g⟩ (fun r => ∀ c : Dev Cert.KernelBrIdeal.nD,
          r.2.mem ((c.tc : Thread Cert.KernelBrIdeal.nD Cert.KernelBrIdeal.τ).loc Cert.KernelBrIdeal.main_v2) = v0 c
          ∧ r.2.mem ((c.tc : Thread Cert.KernelBrIdeal.nD Cert.KernelBrIdeal.τ).loc Cert.KernelBrIdeal.main_arg0) = m ((c.tc : Thread Cert.KernelBrIdeal.nD Cert.KernelBrIdeal.τ).loc Cert.KernelBrIdeal.main_arg0)
          ∧ r.2.mem ((c.tc : Thread Cert.KernelBrIdeal.nD Cert.KernelBrIdeal.τ).loc Cert.KernelBrIdeal.main_arg1) = m ((c.tc : Thread Cert.KernelBrIdeal.nD Cert.KernelBrIdeal.τ).loc Cert.KernelBrIdeal.main_arg1))
      ∧ θ_run (Cert.ReferenceBrIdeal.defs (F := Ideal)) (onTc (τ := Cert.ReferenceBrIdeal.τ) (Cert.ReferenceBrIdeal.main (F := Ideal))) ⟨m', fun _ => 0, g'⟩ (fun r => ∀ c : Dev Cert.ReferenceBrIdeal.nD,
          r.2.mem ((c.tc : Thread Cert.ReferenceBrIdeal.nD Cert.ReferenceBrIdeal.τ).loc Cert.ReferenceBrIdeal.main_v0) = v0 c
          ∧ r.2.mem ((c.tc : Thread Cert.ReferenceBrIdeal.nD Cert.ReferenceBrIdeal.τ).loc Cert.ReferenceBrIdeal.main_arg0) = m' ((c.tc : Thread Cert.ReferenceBrIdeal.nD Cert.ReferenceBrIdeal.τ).loc Cert.ReferenceBrIdeal.main_arg0)
          ∧ r.2.mem ((c.tc : Thread Cert.ReferenceBrIdeal.nD Cert.ReferenceBrIdeal.τ).loc Cert.ReferenceBrIdeal.main_arg1) = m' ((c.tc : Thread Cert.ReferenceBrIdeal.nD Cert.ReferenceBrIdeal.τ).loc Cert.ReferenceBrIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v3_0)) (v1 : (c : Dev Cert.KernelUpIdeal.nD) → Buf (Elt Ideal) ((c.tc : Thread Cert.KernelUpIdeal.nD Cert.KernelUpIdeal.τ).loc Cert.KernelUpIdeal.main_v3_1)) (v2 : (c : Dev Cert.KernelUpIdeal.nD) → Buf (Elt Ideal) ((c.tc : Thread Cert.KernelUpIdeal.nD Cert.KernelUpIdeal.τ).loc Cert.KernelUpIdeal.main_v3_2)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v3_0) = v0 c
          ∧ r.2.mem ((c.tc : Thread Cert.KernelUpIdeal.nD Cert.KernelUpIdeal.τ).loc Cert.KernelUpIdeal.main_v3_1) = v1 c
          ∧ r.2.mem ((c.tc : Thread Cert.KernelUpIdeal.nD Cert.KernelUpIdeal.τ).loc Cert.KernelUpIdeal.main_v3_2) = v2 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v2) = v0 c
          ∧ r.2.mem ((c.tc : Thread Cert.ReferenceUpIdeal.nD Cert.ReferenceUpIdeal.τ).loc Cert.ReferenceUpIdeal.main_v3) = v1 c
          ∧ r.2.mem ((c.tc : Thread Cert.ReferenceUpIdeal.nD Cert.ReferenceUpIdeal.τ).loc Cert.ReferenceUpIdeal.main_v6) = v2 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v2)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v2) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v3) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelPLat_KernelPLatIdeal : Prop :=
  True

def algebraic_KernelPLatIdeal_ReferencePLatIdeal [hKernelPLatIdeal : Cert.KernelPLatIdeal.Facts] [hReferencePLatIdeal : Cert.ReferencePLatIdeal.Facts] : Prop :=
  ∀ (m : (ℓ : Loc Cert.KernelPLatIdeal.nD Cert.KernelPLatIdeal.τ Cert.KernelPLatIdeal.sig) → Buf (Elt Ideal) ℓ) (g : Dev Cert.KernelPLatIdeal.nD → PrngReg)
    (m' : (ℓ : Loc Cert.ReferencePLatIdeal.nD Cert.ReferencePLatIdeal.τ Cert.ReferencePLatIdeal.sig) → Buf (Elt Ideal) ℓ) (g' : Dev Cert.ReferencePLatIdeal.nD → PrngReg), Pre_KernelPLatIdeal m →
    (∀ c : Dev Cert.KernelPLatIdeal.nD,
      m' ((c.tc : Thread Cert.ReferencePLatIdeal.nD Cert.ReferencePLatIdeal.τ).loc Cert.ReferencePLatIdeal.main_arg0) = m ((c.tc : Thread Cert.KernelPLatIdeal.nD Cert.KernelPLatIdeal.τ).loc Cert.KernelPLatIdeal.main_arg0)
      ∧ m' ((c.tc : Thread Cert.ReferencePLatIdeal.nD Cert.ReferencePLatIdeal.τ).loc Cert.ReferencePLatIdeal.main_arg1) = m ((c.tc : Thread Cert.KernelPLatIdeal.nD Cert.KernelPLatIdeal.τ).loc Cert.KernelPLatIdeal.main_arg1)) →
    ∃ (v0 : (c : Dev Cert.KernelPLatIdeal.nD) → Buf (Elt Ideal) ((c.tc : Thread Cert.KernelPLatIdeal.nD Cert.KernelPLatIdeal.τ).loc Cert.KernelPLatIdeal.main_v2)),
      θ_run (Cert.KernelPLatIdeal.defs (F := Ideal)) (onTc (τ := Cert.KernelPLatIdeal.τ) (Cert.KernelPLatIdeal.main (F := Ideal))) ⟨m, fun _ => 0, g⟩ (fun r => ∀ c : Dev Cert.KernelPLatIdeal.nD,
          r.2.mem ((c.tc : Thread Cert.KernelPLatIdeal.nD Cert.KernelPLatIdeal.τ).loc Cert.KernelPLatIdeal.main_v2) = v0 c
          ∧ r.2.mem ((c.tc : Thread Cert.KernelPLatIdeal.nD Cert.KernelPLatIdeal.τ).loc Cert.KernelPLatIdeal.main_arg0) = m ((c.tc : Thread Cert.KernelPLatIdeal.nD Cert.KernelPLatIdeal.τ).loc Cert.KernelPLatIdeal.main_arg0)
          ∧ r.2.mem ((c.tc : Thread Cert.KernelPLatIdeal.nD Cert.KernelPLatIdeal.τ).loc Cert.KernelPLatIdeal.main_arg1) = m ((c.tc : Thread Cert.KernelPLatIdeal.nD Cert.KernelPLatIdeal.τ).loc Cert.KernelPLatIdeal.main_arg1))
      ∧ θ_run (Cert.ReferencePLatIdeal.defs (F := Ideal)) (onTc (τ := Cert.ReferencePLatIdeal.τ) (Cert.ReferencePLatIdeal.main (F := Ideal))) ⟨m', fun _ => 0, g'⟩ (fun r => ∀ c : Dev Cert.ReferencePLatIdeal.nD,
          r.2.mem ((c.tc : Thread Cert.ReferencePLatIdeal.nD Cert.ReferencePLatIdeal.τ).loc Cert.ReferencePLatIdeal.main_v0) = v0 c
          ∧ r.2.mem ((c.tc : Thread Cert.ReferencePLatIdeal.nD Cert.ReferencePLatIdeal.τ).loc Cert.ReferencePLatIdeal.main_arg0) = m' ((c.tc : Thread Cert.ReferencePLatIdeal.nD Cert.ReferencePLatIdeal.τ).loc Cert.ReferencePLatIdeal.main_arg0)
          ∧ r.2.mem ((c.tc : Thread Cert.ReferencePLatIdeal.nD Cert.ReferencePLatIdeal.τ).loc Cert.ReferencePLatIdeal.main_arg1) = m' ((c.tc : Thread Cert.ReferencePLatIdeal.nD Cert.ReferencePLatIdeal.τ).loc Cert.ReferencePLatIdeal.main_arg1))

def preserves_KernelQUp_KernelQUpIdeal : Prop :=
  True

def algebraic_KernelQUpIdeal_ReferenceQUpIdeal [hKernelQUpIdeal : Cert.KernelQUpIdeal.Facts] [hReferenceQUpIdeal : Cert.ReferenceQUpIdeal.Facts] : Prop :=
  ∀ (m : (ℓ : Loc Cert.KernelQUpIdeal.nD Cert.KernelQUpIdeal.τ Cert.KernelQUpIdeal.sig) → Buf (Elt Ideal) ℓ) (g : Dev Cert.KernelQUpIdeal.nD → PrngReg)
    (m' : (ℓ : Loc Cert.ReferenceQUpIdeal.nD Cert.ReferenceQUpIdeal.τ Cert.ReferenceQUpIdeal.sig) → Buf (Elt Ideal) ℓ) (g' : Dev Cert.ReferenceQUpIdeal.nD → PrngReg), Pre_KernelQUpIdeal m →
    (∀ c : Dev Cert.KernelQUpIdeal.nD,
      m' ((c.tc : Thread Cert.ReferenceQUpIdeal.nD Cert.ReferenceQUpIdeal.τ).loc Cert.ReferenceQUpIdeal.main_arg0) = m ((c.tc : Thread Cert.KernelQUpIdeal.nD Cert.KernelQUpIdeal.τ).loc Cert.KernelQUpIdeal.main_arg0)
      ∧ m' ((c.tc : Thread Cert.ReferenceQUpIdeal.nD Cert.ReferenceQUpIdeal.τ).loc Cert.ReferenceQUpIdeal.main_arg1) = m ((c.tc : Thread Cert.KernelQUpIdeal.nD Cert.KernelQUpIdeal.τ).loc Cert.KernelQUpIdeal.main_arg1)) →
    ∃ (v0 : (c : Dev Cert.KernelQUpIdeal.nD) → Buf (Elt Ideal) ((c.tc : Thread Cert.KernelQUpIdeal.nD Cert.KernelQUpIdeal.τ).loc Cert.KernelQUpIdeal.main_v2)),
      θ_run (Cert.KernelQUpIdeal.defs (F := Ideal)) (onTc (τ := Cert.KernelQUpIdeal.τ) (Cert.KernelQUpIdeal.main (F := Ideal))) ⟨m, fun _ => 0, g⟩ (fun r => ∀ c : Dev Cert.KernelQUpIdeal.nD,
          r.2.mem ((c.tc : Thread Cert.KernelQUpIdeal.nD Cert.KernelQUpIdeal.τ).loc Cert.KernelQUpIdeal.main_v2) = v0 c
          ∧ r.2.mem ((c.tc : Thread Cert.KernelQUpIdeal.nD Cert.KernelQUpIdeal.τ).loc Cert.KernelQUpIdeal.main_arg0) = m ((c.tc : Thread Cert.KernelQUpIdeal.nD Cert.KernelQUpIdeal.τ).loc Cert.KernelQUpIdeal.main_arg0)
          ∧ r.2.mem ((c.tc : Thread Cert.KernelQUpIdeal.nD Cert.KernelQUpIdeal.τ).loc Cert.KernelQUpIdeal.main_arg1) = m ((c.tc : Thread Cert.KernelQUpIdeal.nD Cert.KernelQUpIdeal.τ).loc Cert.KernelQUpIdeal.main_arg1))
      ∧ θ_run (Cert.ReferenceQUpIdeal.defs (F := Ideal)) (onTc (τ := Cert.ReferenceQUpIdeal.τ) (Cert.ReferenceQUpIdeal.main (F := Ideal))) ⟨m', fun _ => 0, g'⟩ (fun r => ∀ c : Dev Cert.ReferenceQUpIdeal.nD,
          r.2.mem ((c.tc : Thread Cert.ReferenceQUpIdeal.nD Cert.ReferenceQUpIdeal.τ).loc Cert.ReferenceQUpIdeal.main_v0) = v0 c
          ∧ r.2.mem ((c.tc : Thread Cert.ReferenceQUpIdeal.nD Cert.ReferenceQUpIdeal.τ).loc Cert.ReferenceQUpIdeal.main_arg0) = m' ((c.tc : Thread Cert.ReferenceQUpIdeal.nD Cert.ReferenceQUpIdeal.τ).loc Cert.ReferenceQUpIdeal.main_arg0)
          ∧ r.2.mem ((c.tc : Thread Cert.ReferenceQUpIdeal.nD Cert.ReferenceQUpIdeal.τ).loc Cert.ReferenceQUpIdeal.main_arg1) = m' ((c.tc : Thread Cert.ReferenceQUpIdeal.nD Cert.ReferenceQUpIdeal.τ).loc Cert.ReferenceQUpIdeal.main_arg1))

def preserves_KernelKvUp_KernelKvUpIdeal : Prop :=
  True

def algebraic_KernelKvUpIdeal_ReferenceKvUpIdeal [hKernelKvUpIdeal : Cert.KernelKvUpIdeal.Facts] [hReferenceKvUpIdeal : Cert.ReferenceKvUpIdeal.Facts] : Prop :=
  ∀ (m : (ℓ : Loc Cert.KernelKvUpIdeal.nD Cert.KernelKvUpIdeal.τ Cert.KernelKvUpIdeal.sig) → Buf (Elt Ideal) ℓ) (g : Dev Cert.KernelKvUpIdeal.nD → PrngReg)
    (m' : (ℓ : Loc Cert.ReferenceKvUpIdeal.nD Cert.ReferenceKvUpIdeal.τ Cert.ReferenceKvUpIdeal.sig) → Buf (Elt Ideal) ℓ) (g' : Dev Cert.ReferenceKvUpIdeal.nD → PrngReg), Pre_KernelKvUpIdeal m →
    (∀ c : Dev Cert.KernelKvUpIdeal.nD,
      m' ((c.tc : Thread Cert.ReferenceKvUpIdeal.nD Cert.ReferenceKvUpIdeal.τ).loc Cert.ReferenceKvUpIdeal.main_arg0) = m ((c.tc : Thread Cert.KernelKvUpIdeal.nD Cert.KernelKvUpIdeal.τ).loc Cert.KernelKvUpIdeal.main_arg0)
      ∧ m' ((c.tc : Thread Cert.ReferenceKvUpIdeal.nD Cert.ReferenceKvUpIdeal.τ).loc Cert.ReferenceKvUpIdeal.main_arg1) = m ((c.tc : Thread Cert.KernelKvUpIdeal.nD Cert.KernelKvUpIdeal.τ).loc Cert.KernelKvUpIdeal.main_arg1)) →
    ∃ (v0 : (c : Dev Cert.KernelKvUpIdeal.nD) → Buf (Elt Ideal) ((c.tc : Thread Cert.KernelKvUpIdeal.nD Cert.KernelKvUpIdeal.τ).loc Cert.KernelKvUpIdeal.main_v2)),
      θ_run (Cert.KernelKvUpIdeal.defs (F := Ideal)) (onTc (τ := Cert.KernelKvUpIdeal.τ) (Cert.KernelKvUpIdeal.main (F := Ideal))) ⟨m, fun _ => 0, g⟩ (fun r => ∀ c : Dev Cert.KernelKvUpIdeal.nD,
          r.2.mem ((c.tc : Thread Cert.KernelKvUpIdeal.nD Cert.KernelKvUpIdeal.τ).loc Cert.KernelKvUpIdeal.main_v2) = v0 c
          ∧ r.2.mem ((c.tc : Thread Cert.KernelKvUpIdeal.nD Cert.KernelKvUpIdeal.τ).loc Cert.KernelKvUpIdeal.main_arg0) = m ((c.tc : Thread Cert.KernelKvUpIdeal.nD Cert.KernelKvUpIdeal.τ).loc Cert.KernelKvUpIdeal.main_arg0)
          ∧ r.2.mem ((c.tc : Thread Cert.KernelKvUpIdeal.nD Cert.KernelKvUpIdeal.τ).loc Cert.KernelKvUpIdeal.main_arg1) = m ((c.tc : Thread Cert.KernelKvUpIdeal.nD Cert.KernelKvUpIdeal.τ).loc Cert.KernelKvUpIdeal.main_arg1))
      ∧ θ_run (Cert.ReferenceKvUpIdeal.defs (F := Ideal)) (onTc (τ := Cert.ReferenceKvUpIdeal.τ) (Cert.ReferenceKvUpIdeal.main (F := Ideal))) ⟨m', fun _ => 0, g'⟩ (fun r => ∀ c : Dev Cert.ReferenceKvUpIdeal.nD,
          r.2.mem ((c.tc : Thread Cert.ReferenceKvUpIdeal.nD Cert.ReferenceKvUpIdeal.τ).loc Cert.ReferenceKvUpIdeal.main_v0) = v0 c
          ∧ r.2.mem ((c.tc : Thread Cert.ReferenceKvUpIdeal.nD Cert.ReferenceKvUpIdeal.τ).loc Cert.ReferenceKvUpIdeal.main_arg0) = m' ((c.tc : Thread Cert.ReferenceKvUpIdeal.nD Cert.ReferenceKvUpIdeal.τ).loc Cert.ReferenceKvUpIdeal.main_arg0)
          ∧ r.2.mem ((c.tc : Thread Cert.ReferenceKvUpIdeal.nD Cert.ReferenceKvUpIdeal.τ).loc Cert.ReferenceKvUpIdeal.main_arg1) = m' ((c.tc : Thread Cert.ReferenceKvUpIdeal.nD Cert.ReferenceKvUpIdeal.τ).loc Cert.ReferenceKvUpIdeal.main_arg1))

def preserves_KernelPleG_KernelPleGIdeal : Prop :=
  True

def algebraic_KernelPleGIdeal_ReferencePleGIdeal [hKernelPleGIdeal : Cert.KernelPleGIdeal.Facts] [hReferencePleGIdeal : Cert.ReferencePleGIdeal.Facts] : Prop :=
  ∀ (m : (ℓ : Loc Cert.KernelPleGIdeal.nD Cert.KernelPleGIdeal.τ Cert.KernelPleGIdeal.sig) → Buf (Elt Ideal) ℓ) (g : Dev Cert.KernelPleGIdeal.nD → PrngReg)
    (m' : (ℓ : Loc Cert.ReferencePleGIdeal.nD Cert.ReferencePleGIdeal.τ Cert.ReferencePleGIdeal.sig) → Buf (Elt Ideal) ℓ) (g' : Dev Cert.ReferencePleGIdeal.nD → PrngReg), Pre_KernelPleGIdeal m →
    (∀ c : Dev Cert.KernelPleGIdeal.nD,
      m' ((c.tc : Thread Cert.ReferencePleGIdeal.nD Cert.ReferencePleGIdeal.τ).loc Cert.ReferencePleGIdeal.main_arg0) = m ((c.tc : Thread Cert.KernelPleGIdeal.nD Cert.KernelPleGIdeal.τ).loc Cert.KernelPleGIdeal.main_arg0)
      ∧ m' ((c.tc : Thread Cert.ReferencePleGIdeal.nD Cert.ReferencePleGIdeal.τ).loc Cert.ReferencePleGIdeal.main_arg1) = m ((c.tc : Thread Cert.KernelPleGIdeal.nD Cert.KernelPleGIdeal.τ).loc Cert.KernelPleGIdeal.main_arg1)) →
    ∃ (v0 : (c : Dev Cert.KernelPleGIdeal.nD) → Buf (Elt Ideal) ((c.tc : Thread Cert.KernelPleGIdeal.nD Cert.KernelPleGIdeal.τ).loc Cert.KernelPleGIdeal.main_v2)),
      θ_run (Cert.KernelPleGIdeal.defs (F := Ideal)) (onTc (τ := Cert.KernelPleGIdeal.τ) (Cert.KernelPleGIdeal.main (F := Ideal))) ⟨m, fun _ => 0, g⟩ (fun r => ∀ c : Dev Cert.KernelPleGIdeal.nD,
          r.2.mem ((c.tc : Thread Cert.KernelPleGIdeal.nD Cert.KernelPleGIdeal.τ).loc Cert.KernelPleGIdeal.main_v2) = v0 c
          ∧ r.2.mem ((c.tc : Thread Cert.KernelPleGIdeal.nD Cert.KernelPleGIdeal.τ).loc Cert.KernelPleGIdeal.main_arg0) = m ((c.tc : Thread Cert.KernelPleGIdeal.nD Cert.KernelPleGIdeal.τ).loc Cert.KernelPleGIdeal.main_arg0)
          ∧ r.2.mem ((c.tc : Thread Cert.KernelPleGIdeal.nD Cert.KernelPleGIdeal.τ).loc Cert.KernelPleGIdeal.main_arg1) = m ((c.tc : Thread Cert.KernelPleGIdeal.nD Cert.KernelPleGIdeal.τ).loc Cert.KernelPleGIdeal.main_arg1))
      ∧ θ_run (Cert.ReferencePleGIdeal.defs (F := Ideal)) (onTc (τ := Cert.ReferencePleGIdeal.τ) (Cert.ReferencePleGIdeal.main (F := Ideal))) ⟨m', fun _ => 0, g'⟩ (fun r => ∀ c : Dev Cert.ReferencePleGIdeal.nD,
          r.2.mem ((c.tc : Thread Cert.ReferencePleGIdeal.nD Cert.ReferencePleGIdeal.τ).loc Cert.ReferencePleGIdeal.main_v0) = v0 c
          ∧ r.2.mem ((c.tc : Thread Cert.ReferencePleGIdeal.nD Cert.ReferencePleGIdeal.τ).loc Cert.ReferencePleGIdeal.main_arg0) = m' ((c.tc : Thread Cert.ReferencePleGIdeal.nD Cert.ReferencePleGIdeal.τ).loc Cert.ReferencePleGIdeal.main_arg0)
          ∧ r.2.mem ((c.tc : Thread Cert.ReferencePleGIdeal.nD Cert.ReferencePleGIdeal.τ).loc Cert.ReferencePleGIdeal.main_arg1) = m' ((c.tc : Thread Cert.ReferencePleGIdeal.nD Cert.ReferencePleGIdeal.τ).loc Cert.ReferencePleGIdeal.main_arg1))

def preserves_KernelPleN_KernelPleNIdeal : Prop :=
  True

def algebraic_KernelPleNIdeal_ReferencePleNIdeal [hKernelPleNIdeal : Cert.KernelPleNIdeal.Facts] [hReferencePleNIdeal : Cert.ReferencePleNIdeal.Facts] : Prop :=
  ∀ (m : (ℓ : Loc Cert.KernelPleNIdeal.nD Cert.KernelPleNIdeal.τ Cert.KernelPleNIdeal.sig) → Buf (Elt Ideal) ℓ) (g : Dev Cert.KernelPleNIdeal.nD → PrngReg)
    (m' : (ℓ : Loc Cert.ReferencePleNIdeal.nD Cert.ReferencePleNIdeal.τ Cert.ReferencePleNIdeal.sig) → Buf (Elt Ideal) ℓ) (g' : Dev Cert.ReferencePleNIdeal.nD → PrngReg), Pre_KernelPleNIdeal m →
    (∀ c : Dev Cert.KernelPleNIdeal.nD,
      m' ((c.tc : Thread Cert.ReferencePleNIdeal.nD Cert.ReferencePleNIdeal.τ).loc Cert.ReferencePleNIdeal.main_arg0) = m ((c.tc : Thread Cert.KernelPleNIdeal.nD Cert.KernelPleNIdeal.τ).loc Cert.KernelPleNIdeal.main_arg0)
      ∧ m' ((c.tc : Thread Cert.ReferencePleNIdeal.nD Cert.ReferencePleNIdeal.τ).loc Cert.ReferencePleNIdeal.main_arg1) = m ((c.tc : Thread Cert.KernelPleNIdeal.nD Cert.KernelPleNIdeal.τ).loc Cert.KernelPleNIdeal.main_arg1)) →
    ∃ (v0 : (c : Dev Cert.KernelPleNIdeal.nD) → Buf (Elt Ideal) ((c.tc : Thread Cert.KernelPleNIdeal.nD Cert.KernelPleNIdeal.τ).loc Cert.KernelPleNIdeal.main_v2)),
      θ_run (Cert.KernelPleNIdeal.defs (F := Ideal)) (onTc (τ := Cert.KernelPleNIdeal.τ) (Cert.KernelPleNIdeal.main (F := Ideal))) ⟨m, fun _ => 0, g⟩ (fun r => ∀ c : Dev Cert.KernelPleNIdeal.nD,
          r.2.mem ((c.tc : Thread Cert.KernelPleNIdeal.nD Cert.KernelPleNIdeal.τ).loc Cert.KernelPleNIdeal.main_v2) = v0 c
          ∧ r.2.mem ((c.tc : Thread Cert.KernelPleNIdeal.nD Cert.KernelPleNIdeal.τ).loc Cert.KernelPleNIdeal.main_arg0) = m ((c.tc : Thread Cert.KernelPleNIdeal.nD Cert.KernelPleNIdeal.τ).loc Cert.KernelPleNIdeal.main_arg0)
          ∧ r.2.mem ((c.tc : Thread Cert.KernelPleNIdeal.nD Cert.KernelPleNIdeal.τ).loc Cert.KernelPleNIdeal.main_arg1) = m ((c.tc : Thread Cert.KernelPleNIdeal.nD Cert.KernelPleNIdeal.τ).loc Cert.KernelPleNIdeal.main_arg1))
      ∧ θ_run (Cert.ReferencePleNIdeal.defs (F := Ideal)) (onTc (τ := Cert.ReferencePleNIdeal.τ) (Cert.ReferencePleNIdeal.main (F := Ideal))) ⟨m', fun _ => 0, g'⟩ (fun r => ∀ c : Dev Cert.ReferencePleNIdeal.nD,
          r.2.mem ((c.tc : Thread Cert.ReferencePleNIdeal.nD Cert.ReferencePleNIdeal.τ).loc Cert.ReferencePleNIdeal.main_v2) = v0 c
          ∧ r.2.mem ((c.tc : Thread Cert.ReferencePleNIdeal.nD Cert.ReferencePleNIdeal.τ).loc Cert.ReferencePleNIdeal.main_arg0) = m' ((c.tc : Thread Cert.ReferencePleNIdeal.nD Cert.ReferencePleNIdeal.τ).loc Cert.ReferencePleNIdeal.main_arg0)
          ∧ r.2.mem ((c.tc : Thread Cert.ReferencePleNIdeal.nD Cert.ReferencePleNIdeal.τ).loc Cert.ReferencePleNIdeal.main_arg1) = m' ((c.tc : Thread Cert.ReferencePleNIdeal.nD Cert.ReferencePleNIdeal.τ).loc Cert.ReferencePleNIdeal.main_arg1))

def preserves_KernelWLat_KernelWLatIdeal : Prop :=
  True

def algebraic_KernelWLatIdeal_ReferenceWLatIdeal [hKernelWLatIdeal : Cert.KernelWLatIdeal.Facts] [hReferenceWLatIdeal : Cert.ReferenceWLatIdeal.Facts] : Prop :=
  ∀ (m : (ℓ : Loc Cert.KernelWLatIdeal.nD Cert.KernelWLatIdeal.τ Cert.KernelWLatIdeal.sig) → Buf (Elt Ideal) ℓ) (g : Dev Cert.KernelWLatIdeal.nD → PrngReg)
    (m' : (ℓ : Loc Cert.ReferenceWLatIdeal.nD Cert.ReferenceWLatIdeal.τ Cert.ReferenceWLatIdeal.sig) → Buf (Elt Ideal) ℓ) (g' : Dev Cert.ReferenceWLatIdeal.nD → PrngReg), Pre_KernelWLatIdeal m →
    (∀ c : Dev Cert.KernelWLatIdeal.nD,
      m' ((c.tc : Thread Cert.ReferenceWLatIdeal.nD Cert.ReferenceWLatIdeal.τ).loc Cert.ReferenceWLatIdeal.main_arg0) = m ((c.tc : Thread Cert.KernelWLatIdeal.nD Cert.KernelWLatIdeal.τ).loc Cert.KernelWLatIdeal.main_arg0)
      ∧ m' ((c.tc : Thread Cert.ReferenceWLatIdeal.nD Cert.ReferenceWLatIdeal.τ).loc Cert.ReferenceWLatIdeal.main_arg1) = m ((c.tc : Thread Cert.KernelWLatIdeal.nD Cert.KernelWLatIdeal.τ).loc Cert.KernelWLatIdeal.main_arg1)) →
    ∃ (v0 : (c : Dev Cert.KernelWLatIdeal.nD) → Buf (Elt Ideal) ((c.tc : Thread Cert.KernelWLatIdeal.nD Cert.KernelWLatIdeal.τ).loc Cert.KernelWLatIdeal.main_v2)),
      θ_run (Cert.KernelWLatIdeal.defs (F := Ideal)) (onTc (τ := Cert.KernelWLatIdeal.τ) (Cert.KernelWLatIdeal.main (F := Ideal))) ⟨m, fun _ => 0, g⟩ (fun r => ∀ c : Dev Cert.KernelWLatIdeal.nD,
          r.2.mem ((c.tc : Thread Cert.KernelWLatIdeal.nD Cert.KernelWLatIdeal.τ).loc Cert.KernelWLatIdeal.main_v2) = v0 c
          ∧ r.2.mem ((c.tc : Thread Cert.KernelWLatIdeal.nD Cert.KernelWLatIdeal.τ).loc Cert.KernelWLatIdeal.main_arg0) = m ((c.tc : Thread Cert.KernelWLatIdeal.nD Cert.KernelWLatIdeal.τ).loc Cert.KernelWLatIdeal.main_arg0)
          ∧ r.2.mem ((c.tc : Thread Cert.KernelWLatIdeal.nD Cert.KernelWLatIdeal.τ).loc Cert.KernelWLatIdeal.main_arg1) = m ((c.tc : Thread Cert.KernelWLatIdeal.nD Cert.KernelWLatIdeal.τ).loc Cert.KernelWLatIdeal.main_arg1))
      ∧ θ_run (Cert.ReferenceWLatIdeal.defs (F := Ideal)) (onTc (τ := Cert.ReferenceWLatIdeal.τ) (Cert.ReferenceWLatIdeal.main (F := Ideal))) ⟨m', fun _ => 0, g'⟩ (fun r => ∀ c : Dev Cert.ReferenceWLatIdeal.nD,
          r.2.mem ((c.tc : Thread Cert.ReferenceWLatIdeal.nD Cert.ReferenceWLatIdeal.τ).loc Cert.ReferenceWLatIdeal.main_v4) = v0 c
          ∧ r.2.mem ((c.tc : Thread Cert.ReferenceWLatIdeal.nD Cert.ReferenceWLatIdeal.τ).loc Cert.ReferenceWLatIdeal.main_arg0) = m' ((c.tc : Thread Cert.ReferenceWLatIdeal.nD Cert.ReferenceWLatIdeal.τ).loc Cert.ReferenceWLatIdeal.main_arg0)
          ∧ r.2.mem ((c.tc : Thread Cert.ReferenceWLatIdeal.nD Cert.ReferenceWLatIdeal.τ).loc Cert.ReferenceWLatIdeal.main_arg1) = m' ((c.tc : Thread Cert.ReferenceWLatIdeal.nD Cert.ReferenceWLatIdeal.τ).loc Cert.ReferenceWLatIdeal.main_arg1))

def preserves_KernelWUq_KernelWUqIdeal : Prop :=
  True

def algebraic_KernelWUqIdeal_ReferenceWUqIdeal [hKernelWUqIdeal : Cert.KernelWUqIdeal.Facts] [hReferenceWUqIdeal : Cert.ReferenceWUqIdeal.Facts] : Prop :=
  ∀ (m : (ℓ : Loc Cert.KernelWUqIdeal.nD Cert.KernelWUqIdeal.τ Cert.KernelWUqIdeal.sig) → Buf (Elt Ideal) ℓ) (g : Dev Cert.KernelWUqIdeal.nD → PrngReg)
    (m' : (ℓ : Loc Cert.ReferenceWUqIdeal.nD Cert.ReferenceWUqIdeal.τ Cert.ReferenceWUqIdeal.sig) → Buf (Elt Ideal) ℓ) (g' : Dev Cert.ReferenceWUqIdeal.nD → PrngReg), Pre_KernelWUqIdeal m →
    (∀ c : Dev Cert.KernelWUqIdeal.nD,
      m' ((c.tc : Thread Cert.ReferenceWUqIdeal.nD Cert.ReferenceWUqIdeal.τ).loc Cert.ReferenceWUqIdeal.main_arg0) = m ((c.tc : Thread Cert.KernelWUqIdeal.nD Cert.KernelWUqIdeal.τ).loc Cert.KernelWUqIdeal.main_arg0)
      ∧ m' ((c.tc : Thread Cert.ReferenceWUqIdeal.nD Cert.ReferenceWUqIdeal.τ).loc Cert.ReferenceWUqIdeal.main_arg1) = m ((c.tc : Thread Cert.KernelWUqIdeal.nD Cert.KernelWUqIdeal.τ).loc Cert.KernelWUqIdeal.main_arg1)) →
    ∃ (v0 : (c : Dev Cert.KernelWUqIdeal.nD) → Buf (Elt Ideal) ((c.tc : Thread Cert.KernelWUqIdeal.nD Cert.KernelWUqIdeal.τ).loc Cert.KernelWUqIdeal.main_v2)),
      θ_run (Cert.KernelWUqIdeal.defs (F := Ideal)) (onTc (τ := Cert.KernelWUqIdeal.τ) (Cert.KernelWUqIdeal.main (F := Ideal))) ⟨m, fun _ => 0, g⟩ (fun r => ∀ c : Dev Cert.KernelWUqIdeal.nD,
          r.2.mem ((c.tc : Thread Cert.KernelWUqIdeal.nD Cert.KernelWUqIdeal.τ).loc Cert.KernelWUqIdeal.main_v2) = v0 c
          ∧ r.2.mem ((c.tc : Thread Cert.KernelWUqIdeal.nD Cert.KernelWUqIdeal.τ).loc Cert.KernelWUqIdeal.main_arg0) = m ((c.tc : Thread Cert.KernelWUqIdeal.nD Cert.KernelWUqIdeal.τ).loc Cert.KernelWUqIdeal.main_arg0)
          ∧ r.2.mem ((c.tc : Thread Cert.KernelWUqIdeal.nD Cert.KernelWUqIdeal.τ).loc Cert.KernelWUqIdeal.main_arg1) = m ((c.tc : Thread Cert.KernelWUqIdeal.nD Cert.KernelWUqIdeal.τ).loc Cert.KernelWUqIdeal.main_arg1))
      ∧ θ_run (Cert.ReferenceWUqIdeal.defs (F := Ideal)) (onTc (τ := Cert.ReferenceWUqIdeal.τ) (Cert.ReferenceWUqIdeal.main (F := Ideal))) ⟨m', fun _ => 0, g'⟩ (fun r => ∀ c : Dev Cert.ReferenceWUqIdeal.nD,
          r.2.mem ((c.tc : Thread Cert.ReferenceWUqIdeal.nD Cert.ReferenceWUqIdeal.τ).loc Cert.ReferenceWUqIdeal.main_v4) = v0 c
          ∧ r.2.mem ((c.tc : Thread Cert.ReferenceWUqIdeal.nD Cert.ReferenceWUqIdeal.τ).loc Cert.ReferenceWUqIdeal.main_arg0) = m' ((c.tc : Thread Cert.ReferenceWUqIdeal.nD Cert.ReferenceWUqIdeal.τ).loc Cert.ReferenceWUqIdeal.main_arg0)
          ∧ r.2.mem ((c.tc : Thread Cert.ReferenceWUqIdeal.nD Cert.ReferenceWUqIdeal.τ).loc Cert.ReferenceWUqIdeal.main_arg1) = m' ((c.tc : Thread Cert.ReferenceWUqIdeal.nD Cert.ReferenceWUqIdeal.τ).loc Cert.ReferenceWUqIdeal.main_arg1))

def preserves_KernelWUkv_KernelWUkvIdeal : Prop :=
  True

def algebraic_KernelWUkvIdeal_ReferenceWUkvIdeal [hKernelWUkvIdeal : Cert.KernelWUkvIdeal.Facts] [hReferenceWUkvIdeal : Cert.ReferenceWUkvIdeal.Facts] : Prop :=
  ∀ (m : (ℓ : Loc Cert.KernelWUkvIdeal.nD Cert.KernelWUkvIdeal.τ Cert.KernelWUkvIdeal.sig) → Buf (Elt Ideal) ℓ) (g : Dev Cert.KernelWUkvIdeal.nD → PrngReg)
    (m' : (ℓ : Loc Cert.ReferenceWUkvIdeal.nD Cert.ReferenceWUkvIdeal.τ Cert.ReferenceWUkvIdeal.sig) → Buf (Elt Ideal) ℓ) (g' : Dev Cert.ReferenceWUkvIdeal.nD → PrngReg), Pre_KernelWUkvIdeal m →
    (∀ c : Dev Cert.KernelWUkvIdeal.nD,
      m' ((c.tc : Thread Cert.ReferenceWUkvIdeal.nD Cert.ReferenceWUkvIdeal.τ).loc Cert.ReferenceWUkvIdeal.main_arg0) = m ((c.tc : Thread Cert.KernelWUkvIdeal.nD Cert.KernelWUkvIdeal.τ).loc Cert.KernelWUkvIdeal.main_arg0)
      ∧ m' ((c.tc : Thread Cert.ReferenceWUkvIdeal.nD Cert.ReferenceWUkvIdeal.τ).loc Cert.ReferenceWUkvIdeal.main_arg1) = m ((c.tc : Thread Cert.KernelWUkvIdeal.nD Cert.KernelWUkvIdeal.τ).loc Cert.KernelWUkvIdeal.main_arg1)) →
    ∃ (v0 : (c : Dev Cert.KernelWUkvIdeal.nD) → Buf (Elt Ideal) ((c.tc : Thread Cert.KernelWUkvIdeal.nD Cert.KernelWUkvIdeal.τ).loc Cert.KernelWUkvIdeal.main_v2)),
      θ_run (Cert.KernelWUkvIdeal.defs (F := Ideal)) (onTc (τ := Cert.KernelWUkvIdeal.τ) (Cert.KernelWUkvIdeal.main (F := Ideal))) ⟨m, fun _ => 0, g⟩ (fun r => ∀ c : Dev Cert.KernelWUkvIdeal.nD,
          r.2.mem ((c.tc : Thread Cert.KernelWUkvIdeal.nD Cert.KernelWUkvIdeal.τ).loc Cert.KernelWUkvIdeal.main_v2) = v0 c
          ∧ r.2.mem ((c.tc : Thread Cert.KernelWUkvIdeal.nD Cert.KernelWUkvIdeal.τ).loc Cert.KernelWUkvIdeal.main_arg0) = m ((c.tc : Thread Cert.KernelWUkvIdeal.nD Cert.KernelWUkvIdeal.τ).loc Cert.KernelWUkvIdeal.main_arg0)
          ∧ r.2.mem ((c.tc : Thread Cert.KernelWUkvIdeal.nD Cert.KernelWUkvIdeal.τ).loc Cert.KernelWUkvIdeal.main_arg1) = m ((c.tc : Thread Cert.KernelWUkvIdeal.nD Cert.KernelWUkvIdeal.τ).loc Cert.KernelWUkvIdeal.main_arg1))
      ∧ θ_run (Cert.ReferenceWUkvIdeal.defs (F := Ideal)) (onTc (τ := Cert.ReferenceWUkvIdeal.τ) (Cert.ReferenceWUkvIdeal.main (F := Ideal))) ⟨m', fun _ => 0, g'⟩ (fun r => ∀ c : Dev Cert.ReferenceWUkvIdeal.nD,
          r.2.mem ((c.tc : Thread Cert.ReferenceWUkvIdeal.nD Cert.ReferenceWUkvIdeal.τ).loc Cert.ReferenceWUkvIdeal.main_v4) = v0 c
          ∧ r.2.mem ((c.tc : Thread Cert.ReferenceWUkvIdeal.nD Cert.ReferenceWUkvIdeal.τ).loc Cert.ReferenceWUkvIdeal.main_arg0) = m' ((c.tc : Thread Cert.ReferenceWUkvIdeal.nD Cert.ReferenceWUkvIdeal.τ).loc Cert.ReferenceWUkvIdeal.main_arg0)
          ∧ r.2.mem ((c.tc : Thread Cert.ReferenceWUkvIdeal.nD Cert.ReferenceWUkvIdeal.τ).loc Cert.ReferenceWUkvIdeal.main_arg1) = m' ((c.tc : Thread Cert.ReferenceWUkvIdeal.nD Cert.ReferenceWUkvIdeal.τ).loc Cert.ReferenceWUkvIdeal.main_arg1))

def preserves_KernelCq_KernelCqIdeal : Prop :=
  True

def algebraic_KernelCqIdeal_ReferenceCqIdeal [hKernelCqIdeal : Cert.KernelCqIdeal.Facts] [hReferenceCqIdeal : Cert.ReferenceCqIdeal.Facts] : Prop :=
  ∀ (m : (ℓ : Loc Cert.KernelCqIdeal.nD Cert.KernelCqIdeal.τ Cert.KernelCqIdeal.sig) → Buf (Elt Ideal) ℓ) (g : Dev Cert.KernelCqIdeal.nD → PrngReg)
    (m' : (ℓ : Loc Cert.ReferenceCqIdeal.nD Cert.ReferenceCqIdeal.τ Cert.ReferenceCqIdeal.sig) → Buf (Elt Ideal) ℓ) (g' : Dev Cert.ReferenceCqIdeal.nD → PrngReg), Pre_KernelCqIdeal m →
    (∀ c : Dev Cert.KernelCqIdeal.nD,
      m' ((c.tc : Thread Cert.ReferenceCqIdeal.nD Cert.ReferenceCqIdeal.τ).loc Cert.ReferenceCqIdeal.main_arg0) = m ((c.tc : Thread Cert.KernelCqIdeal.nD Cert.KernelCqIdeal.τ).loc Cert.KernelCqIdeal.main_arg0)
      ∧ m' ((c.tc : Thread Cert.ReferenceCqIdeal.nD Cert.ReferenceCqIdeal.τ).loc Cert.ReferenceCqIdeal.main_arg1) = m ((c.tc : Thread Cert.KernelCqIdeal.nD Cert.KernelCqIdeal.τ).loc Cert.KernelCqIdeal.main_arg1)) →
    ∃ (v0 : (c : Dev Cert.KernelCqIdeal.nD) → Buf (Elt Ideal) ((c.tc : Thread Cert.KernelCqIdeal.nD Cert.KernelCqIdeal.τ).loc Cert.KernelCqIdeal.main_v2)),
      θ_run (Cert.KernelCqIdeal.defs (F := Ideal)) (onTc (τ := Cert.KernelCqIdeal.τ) (Cert.KernelCqIdeal.main (F := Ideal))) ⟨m, fun _ => 0, g⟩ (fun r => ∀ c : Dev Cert.KernelCqIdeal.nD,
          r.2.mem ((c.tc : Thread Cert.KernelCqIdeal.nD Cert.KernelCqIdeal.τ).loc Cert.KernelCqIdeal.main_v2) = v0 c
          ∧ r.2.mem ((c.tc : Thread Cert.KernelCqIdeal.nD Cert.KernelCqIdeal.τ).loc Cert.KernelCqIdeal.main_arg0) = m ((c.tc : Thread Cert.KernelCqIdeal.nD Cert.KernelCqIdeal.τ).loc Cert.KernelCqIdeal.main_arg0)
          ∧ r.2.mem ((c.tc : Thread Cert.KernelCqIdeal.nD Cert.KernelCqIdeal.τ).loc Cert.KernelCqIdeal.main_arg1) = m ((c.tc : Thread Cert.KernelCqIdeal.nD Cert.KernelCqIdeal.τ).loc Cert.KernelCqIdeal.main_arg1))
      ∧ θ_run (Cert.ReferenceCqIdeal.defs (F := Ideal)) (onTc (τ := Cert.ReferenceCqIdeal.τ) (Cert.ReferenceCqIdeal.main (F := Ideal))) ⟨m', fun _ => 0, g'⟩ (fun r => ∀ c : Dev Cert.ReferenceCqIdeal.nD,
          r.2.mem ((c.tc : Thread Cert.ReferenceCqIdeal.nD Cert.ReferenceCqIdeal.τ).loc Cert.ReferenceCqIdeal.main_v2) = v0 c
          ∧ r.2.mem ((c.tc : Thread Cert.ReferenceCqIdeal.nD Cert.ReferenceCqIdeal.τ).loc Cert.ReferenceCqIdeal.main_arg0) = m' ((c.tc : Thread Cert.ReferenceCqIdeal.nD Cert.ReferenceCqIdeal.τ).loc Cert.ReferenceCqIdeal.main_arg0)
          ∧ r.2.mem ((c.tc : Thread Cert.ReferenceCqIdeal.nD Cert.ReferenceCqIdeal.τ).loc Cert.ReferenceCqIdeal.main_arg1) = m' ((c.tc : Thread Cert.ReferenceCqIdeal.nD Cert.ReferenceCqIdeal.τ).loc Cert.ReferenceCqIdeal.main_arg1))

def preserves_KernelCkv_KernelCkvIdeal : Prop :=
  True

def algebraic_KernelCkvIdeal_ReferenceCkvIdeal [hKernelCkvIdeal : Cert.KernelCkvIdeal.Facts] [hReferenceCkvIdeal : Cert.ReferenceCkvIdeal.Facts] : Prop :=
  ∀ (m : (ℓ : Loc Cert.KernelCkvIdeal.nD Cert.KernelCkvIdeal.τ Cert.KernelCkvIdeal.sig) → Buf (Elt Ideal) ℓ) (g : Dev Cert.KernelCkvIdeal.nD → PrngReg)
    (m' : (ℓ : Loc Cert.ReferenceCkvIdeal.nD Cert.ReferenceCkvIdeal.τ Cert.ReferenceCkvIdeal.sig) → Buf (Elt Ideal) ℓ) (g' : Dev Cert.ReferenceCkvIdeal.nD → PrngReg), Pre_KernelCkvIdeal m →
    (∀ c : Dev Cert.KernelCkvIdeal.nD,
      m' ((c.tc : Thread Cert.ReferenceCkvIdeal.nD Cert.ReferenceCkvIdeal.τ).loc Cert.ReferenceCkvIdeal.main_arg0) = m ((c.tc : Thread Cert.KernelCkvIdeal.nD Cert.KernelCkvIdeal.τ).loc Cert.KernelCkvIdeal.main_arg0)
      ∧ m' ((c.tc : Thread Cert.ReferenceCkvIdeal.nD Cert.ReferenceCkvIdeal.τ).loc Cert.ReferenceCkvIdeal.main_arg1) = m ((c.tc : Thread Cert.KernelCkvIdeal.nD Cert.KernelCkvIdeal.τ).loc Cert.KernelCkvIdeal.main_arg1)) →
    ∃ (v0 : (c : Dev Cert.KernelCkvIdeal.nD) → Buf (Elt Ideal) ((c.tc : Thread Cert.KernelCkvIdeal.nD Cert.KernelCkvIdeal.τ).loc Cert.KernelCkvIdeal.main_v2)),
      θ_run (Cert.KernelCkvIdeal.defs (F := Ideal)) (onTc (τ := Cert.KernelCkvIdeal.τ) (Cert.KernelCkvIdeal.main (F := Ideal))) ⟨m, fun _ => 0, g⟩ (fun r => ∀ c : Dev Cert.KernelCkvIdeal.nD,
          r.2.mem ((c.tc : Thread Cert.KernelCkvIdeal.nD Cert.KernelCkvIdeal.τ).loc Cert.KernelCkvIdeal.main_v2) = v0 c
          ∧ r.2.mem ((c.tc : Thread Cert.KernelCkvIdeal.nD Cert.KernelCkvIdeal.τ).loc Cert.KernelCkvIdeal.main_arg0) = m ((c.tc : Thread Cert.KernelCkvIdeal.nD Cert.KernelCkvIdeal.τ).loc Cert.KernelCkvIdeal.main_arg0)
          ∧ r.2.mem ((c.tc : Thread Cert.KernelCkvIdeal.nD Cert.KernelCkvIdeal.τ).loc Cert.KernelCkvIdeal.main_arg1) = m ((c.tc : Thread Cert.KernelCkvIdeal.nD Cert.KernelCkvIdeal.τ).loc Cert.KernelCkvIdeal.main_arg1))
      ∧ θ_run (Cert.ReferenceCkvIdeal.defs (F := Ideal)) (onTc (τ := Cert.ReferenceCkvIdeal.τ) (Cert.ReferenceCkvIdeal.main (F := Ideal))) ⟨m', fun _ => 0, g'⟩ (fun r => ∀ c : Dev Cert.ReferenceCkvIdeal.nD,
          r.2.mem ((c.tc : Thread Cert.ReferenceCkvIdeal.nD Cert.ReferenceCkvIdeal.τ).loc Cert.ReferenceCkvIdeal.main_v2) = v0 c
          ∧ r.2.mem ((c.tc : Thread Cert.ReferenceCkvIdeal.nD Cert.ReferenceCkvIdeal.τ).loc Cert.ReferenceCkvIdeal.main_arg0) = m' ((c.tc : Thread Cert.ReferenceCkvIdeal.nD Cert.ReferenceCkvIdeal.τ).loc Cert.ReferenceCkvIdeal.main_arg0)
          ∧ r.2.mem ((c.tc : Thread Cert.ReferenceCkvIdeal.nD Cert.ReferenceCkvIdeal.τ).loc Cert.ReferenceCkvIdeal.main_arg1) = m' ((c.tc : Thread Cert.ReferenceCkvIdeal.nD Cert.ReferenceCkvIdeal.τ).loc Cert.ReferenceCkvIdeal.main_arg1))

def preserves_KernelOMla_KernelOMlaIdeal : Prop :=
  True

def algebraic_KernelOMlaIdeal_ReferenceOMlaIdeal [hKernelOMlaIdeal : Cert.KernelOMlaIdeal.Facts] [hReferenceOMlaIdeal : Cert.ReferenceOMlaIdeal.Facts] : Prop :=
  ∀ (m : (ℓ : Loc Cert.KernelOMlaIdeal.nD Cert.KernelOMlaIdeal.τ Cert.KernelOMlaIdeal.sig) → Buf (Elt Ideal) ℓ) (g : Dev Cert.KernelOMlaIdeal.nD → PrngReg)
    (m' : (ℓ : Loc Cert.ReferenceOMlaIdeal.nD Cert.ReferenceOMlaIdeal.τ Cert.ReferenceOMlaIdeal.sig) → Buf (Elt Ideal) ℓ) (g' : Dev Cert.ReferenceOMlaIdeal.nD → PrngReg), Pre_KernelOMlaIdeal m →
    (∀ c : Dev Cert.KernelOMlaIdeal.nD,
      m' ((c.tc : Thread Cert.ReferenceOMlaIdeal.nD Cert.ReferenceOMlaIdeal.τ).loc Cert.ReferenceOMlaIdeal.main_arg0) = m ((c.tc : Thread Cert.KernelOMlaIdeal.nD Cert.KernelOMlaIdeal.τ).loc Cert.KernelOMlaIdeal.main_arg0)
      ∧ m' ((c.tc : Thread Cert.ReferenceOMlaIdeal.nD Cert.ReferenceOMlaIdeal.τ).loc Cert.ReferenceOMlaIdeal.main_arg1) = m ((c.tc : Thread Cert.KernelOMlaIdeal.nD Cert.KernelOMlaIdeal.τ).loc Cert.KernelOMlaIdeal.main_arg1)) →
    ∃ (v0 : (c : Dev Cert.KernelOMlaIdeal.nD) → Buf (Elt Ideal) ((c.tc : Thread Cert.KernelOMlaIdeal.nD Cert.KernelOMlaIdeal.τ).loc Cert.KernelOMlaIdeal.main_v2)),
      θ_run (Cert.KernelOMlaIdeal.defs (F := Ideal)) (onTc (τ := Cert.KernelOMlaIdeal.τ) (Cert.KernelOMlaIdeal.main (F := Ideal))) ⟨m, fun _ => 0, g⟩ (fun r => ∀ c : Dev Cert.KernelOMlaIdeal.nD,
          r.2.mem ((c.tc : Thread Cert.KernelOMlaIdeal.nD Cert.KernelOMlaIdeal.τ).loc Cert.KernelOMlaIdeal.main_v2) = v0 c
          ∧ r.2.mem ((c.tc : Thread Cert.KernelOMlaIdeal.nD Cert.KernelOMlaIdeal.τ).loc Cert.KernelOMlaIdeal.main_arg0) = m ((c.tc : Thread Cert.KernelOMlaIdeal.nD Cert.KernelOMlaIdeal.τ).loc Cert.KernelOMlaIdeal.main_arg0)
          ∧ r.2.mem ((c.tc : Thread Cert.KernelOMlaIdeal.nD Cert.KernelOMlaIdeal.τ).loc Cert.KernelOMlaIdeal.main_arg1) = m ((c.tc : Thread Cert.KernelOMlaIdeal.nD Cert.KernelOMlaIdeal.τ).loc Cert.KernelOMlaIdeal.main_arg1))
      ∧ θ_run (Cert.ReferenceOMlaIdeal.defs (F := Ideal)) (onTc (τ := Cert.ReferenceOMlaIdeal.τ) (Cert.ReferenceOMlaIdeal.main (F := Ideal))) ⟨m', fun _ => 0, g'⟩ (fun r => ∀ c : Dev Cert.ReferenceOMlaIdeal.nD,
          r.2.mem ((c.tc : Thread Cert.ReferenceOMlaIdeal.nD Cert.ReferenceOMlaIdeal.τ).loc Cert.ReferenceOMlaIdeal.main_v3) = v0 c
          ∧ r.2.mem ((c.tc : Thread Cert.ReferenceOMlaIdeal.nD Cert.ReferenceOMlaIdeal.τ).loc Cert.ReferenceOMlaIdeal.main_arg0) = m' ((c.tc : Thread Cert.ReferenceOMlaIdeal.nD Cert.ReferenceOMlaIdeal.τ).loc Cert.ReferenceOMlaIdeal.main_arg0)
          ∧ r.2.mem ((c.tc : Thread Cert.ReferenceOMlaIdeal.nD Cert.ReferenceOMlaIdeal.τ).loc Cert.ReferenceOMlaIdeal.main_arg1) = m' ((c.tc : Thread Cert.ReferenceOMlaIdeal.nD Cert.ReferenceOMlaIdeal.τ).loc Cert.ReferenceOMlaIdeal.main_arg1))

def preserves_KernelRms_KernelRmsIdeal : Prop :=
  True

def algebraic_KernelRmsIdeal_ReferenceRmsIdeal [hKernelRmsIdeal : Cert.KernelRmsIdeal.Facts] [hReferenceRmsIdeal : Cert.ReferenceRmsIdeal.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg)
    (m' : (ℓ : Loc Cert.ReferenceRmsIdeal.nD Cert.ReferenceRmsIdeal.τ Cert.ReferenceRmsIdeal.sig) → Buf (Elt Ideal) ℓ) (g' : Dev Cert.ReferenceRmsIdeal.nD → PrngReg), Pre_KernelRmsIdeal m →
    (∀ c : Dev Cert.KernelRmsIdeal.nD,
      m' ((c.tc : Thread Cert.ReferenceRmsIdeal.nD Cert.ReferenceRmsIdeal.τ).loc Cert.ReferenceRmsIdeal.main_arg0) = m ((c.tc : Thread Cert.KernelRmsIdeal.nD Cert.KernelRmsIdeal.τ).loc Cert.KernelRmsIdeal.main_arg0)
      ∧ m' ((c.tc : Thread Cert.ReferenceRmsIdeal.nD Cert.ReferenceRmsIdeal.τ).loc Cert.ReferenceRmsIdeal.main_arg1) = m ((c.tc : Thread Cert.KernelRmsIdeal.nD Cert.KernelRmsIdeal.τ).loc Cert.KernelRmsIdeal.main_arg1)) →
    ∃ (v0 : (c : Dev Cert.KernelRmsIdeal.nD) → Buf (Elt Ideal) ((c.tc : Thread Cert.KernelRmsIdeal.nD Cert.KernelRmsIdeal.τ).loc Cert.KernelRmsIdeal.main_v0)),
      θ_run (Cert.KernelRmsIdeal.defs (F := Ideal)) (onTc (τ := Cert.KernelRmsIdeal.τ) (Cert.KernelRmsIdeal.main (F := Ideal))) ⟨m, fun _ => 0, g⟩ (fun r => ∀ c : Dev Cert.KernelRmsIdeal.nD,
          r.2.mem ((c.tc : Thread Cert.KernelRmsIdeal.nD Cert.KernelRmsIdeal.τ).loc Cert.KernelRmsIdeal.main_v0) = v0 c
          ∧ r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
          ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1))
      ∧ θ_run (Cert.ReferenceRmsIdeal.defs (F := Ideal)) (onTc (τ := Cert.ReferenceRmsIdeal.τ) (Cert.ReferenceRmsIdeal.main (F := Ideal))) ⟨m', fun _ => 0, g'⟩ (fun r => ∀ c : Dev Cert.ReferenceRmsIdeal.nD,
          r.2.mem ((c.tc : Thread Cert.ReferenceRmsIdeal.nD Cert.ReferenceRmsIdeal.τ).loc Cert.ReferenceRmsIdeal.main_v12) = v0 c
          ∧ r.2.mem ((c.tc : Thread Cert.ReferenceRmsIdeal.nD Cert.ReferenceRmsIdeal.τ).loc Cert.ReferenceRmsIdeal.main_arg0) = m' ((c.tc : Thread Cert.ReferenceRmsIdeal.nD Cert.ReferenceRmsIdeal.τ).loc Cert.ReferenceRmsIdeal.main_arg0)
          ∧ r.2.mem ((c.tc : Thread Cert.ReferenceRmsIdeal.nD Cert.ReferenceRmsIdeal.τ).loc Cert.ReferenceRmsIdeal.main_arg1) = m' ((c.tc : Thread Cert.ReferenceRmsIdeal.nD Cert.ReferenceRmsIdeal.τ).loc Cert.ReferenceRmsIdeal.main_arg1))

def preserves_KernelGMerge_KernelGMergeIdeal : Prop :=
  True

def algebraic_KernelGMergeIdeal_ReferenceGMergeIdeal [hKernelGMergeIdeal : Cert.KernelGMergeIdeal.Facts] [hReferenceGMergeIdeal : Cert.ReferenceGMergeIdeal.Facts] : Prop :=
  ∀ (m : (ℓ : Loc Cert.KernelGMergeIdeal.nD Cert.KernelGMergeIdeal.τ Cert.KernelGMergeIdeal.sig) → Buf (Elt Ideal) ℓ) (g : Dev Cert.KernelGMergeIdeal.nD → PrngReg)
    (m' : (ℓ : Loc Cert.ReferenceGMergeIdeal.nD Cert.ReferenceGMergeIdeal.τ Cert.ReferenceGMergeIdeal.sig) → Buf (Elt Ideal) ℓ) (g' : Dev Cert.ReferenceGMergeIdeal.nD → PrngReg), Pre_KernelGMergeIdeal m →
    (∀ c : Dev Cert.KernelGMergeIdeal.nD,
      m' ((c.tc : Thread Cert.ReferenceGMergeIdeal.nD Cert.ReferenceGMergeIdeal.τ).loc Cert.ReferenceGMergeIdeal.main_arg0) = m ((c.tc : Thread Cert.KernelGMergeIdeal.nD Cert.KernelGMergeIdeal.τ).loc Cert.KernelGMergeIdeal.main_arg0)
      ∧ m' ((c.tc : Thread Cert.ReferenceGMergeIdeal.nD Cert.ReferenceGMergeIdeal.τ).loc Cert.ReferenceGMergeIdeal.main_arg1) = m ((c.tc : Thread Cert.KernelGMergeIdeal.nD Cert.KernelGMergeIdeal.τ).loc Cert.KernelGMergeIdeal.main_arg1)
      ∧ m' ((c.tc : Thread Cert.ReferenceGMergeIdeal.nD Cert.ReferenceGMergeIdeal.τ).loc Cert.ReferenceGMergeIdeal.main_arg2) = m ((c.tc : Thread Cert.KernelGMergeIdeal.nD Cert.KernelGMergeIdeal.τ).loc Cert.KernelGMergeIdeal.main_arg2)) →
    ∃ (v0 : (c : Dev Cert.KernelGMergeIdeal.nD) → Buf (Elt Ideal) ((c.tc : Thread Cert.KernelGMergeIdeal.nD Cert.KernelGMergeIdeal.τ).loc Cert.KernelGMergeIdeal.main_v1)),
      θ_run (Cert.KernelGMergeIdeal.defs (F := Ideal)) (onTc (τ := Cert.KernelGMergeIdeal.τ) (Cert.KernelGMergeIdeal.main (F := Ideal))) ⟨m, fun _ => 0, g⟩ (fun r => ∀ c : Dev Cert.KernelGMergeIdeal.nD,
          r.2.mem ((c.tc : Thread Cert.KernelGMergeIdeal.nD Cert.KernelGMergeIdeal.τ).loc Cert.KernelGMergeIdeal.main_v1) = v0 c
          ∧ r.2.mem ((c.tc : Thread Cert.KernelGMergeIdeal.nD Cert.KernelGMergeIdeal.τ).loc Cert.KernelGMergeIdeal.main_arg0) = m ((c.tc : Thread Cert.KernelGMergeIdeal.nD Cert.KernelGMergeIdeal.τ).loc Cert.KernelGMergeIdeal.main_arg0)
          ∧ r.2.mem ((c.tc : Thread Cert.KernelGMergeIdeal.nD Cert.KernelGMergeIdeal.τ).loc Cert.KernelGMergeIdeal.main_arg1) = m ((c.tc : Thread Cert.KernelGMergeIdeal.nD Cert.KernelGMergeIdeal.τ).loc Cert.KernelGMergeIdeal.main_arg1)
          ∧ r.2.mem ((c.tc : Thread Cert.KernelGMergeIdeal.nD Cert.KernelGMergeIdeal.τ).loc Cert.KernelGMergeIdeal.main_arg2) = m ((c.tc : Thread Cert.KernelGMergeIdeal.nD Cert.KernelGMergeIdeal.τ).loc Cert.KernelGMergeIdeal.main_arg2))
      ∧ θ_run (Cert.ReferenceGMergeIdeal.defs (F := Ideal)) (onTc (τ := Cert.ReferenceGMergeIdeal.τ) (Cert.ReferenceGMergeIdeal.main (F := Ideal))) ⟨m', fun _ => 0, g'⟩ (fun r => ∀ c : Dev Cert.ReferenceGMergeIdeal.nD,
          r.2.mem ((c.tc : Thread Cert.ReferenceGMergeIdeal.nD Cert.ReferenceGMergeIdeal.τ).loc Cert.ReferenceGMergeIdeal.main_v14) = v0 c
          ∧ r.2.mem ((c.tc : Thread Cert.ReferenceGMergeIdeal.nD Cert.ReferenceGMergeIdeal.τ).loc Cert.ReferenceGMergeIdeal.main_arg0) = m' ((c.tc : Thread Cert.ReferenceGMergeIdeal.nD Cert.ReferenceGMergeIdeal.τ).loc Cert.ReferenceGMergeIdeal.main_arg0)
          ∧ r.2.mem ((c.tc : Thread Cert.ReferenceGMergeIdeal.nD Cert.ReferenceGMergeIdeal.τ).loc Cert.ReferenceGMergeIdeal.main_arg1) = m' ((c.tc : Thread Cert.ReferenceGMergeIdeal.nD Cert.ReferenceGMergeIdeal.τ).loc Cert.ReferenceGMergeIdeal.main_arg1)
          ∧ r.2.mem ((c.tc : Thread Cert.ReferenceGMergeIdeal.nD Cert.ReferenceGMergeIdeal.τ).loc Cert.ReferenceGMergeIdeal.main_arg2) = m' ((c.tc : Thread Cert.ReferenceGMergeIdeal.nD Cert.ReferenceGMergeIdeal.τ).loc Cert.ReferenceGMergeIdeal.main_arg2))

def preserves_KernelGBwd_KernelGBwdIdeal : Prop :=
  True

def algebraic_KernelGBwdIdeal_ReferenceGBwdIdeal [hKernelGBwdIdeal : Cert.KernelGBwdIdeal.Facts] [hReferenceGBwdIdeal : Cert.ReferenceGBwdIdeal.Facts] : Prop :=
  ∀ (m : (ℓ : Loc Cert.KernelGBwdIdeal.nD Cert.KernelGBwdIdeal.τ Cert.KernelGBwdIdeal.sig) → Buf (Elt Ideal) ℓ) (g : Dev Cert.KernelGBwdIdeal.nD → PrngReg)
    (m' : (ℓ : Loc Cert.ReferenceGBwdIdeal.nD Cert.ReferenceGBwdIdeal.τ Cert.ReferenceGBwdIdeal.sig) → Buf (Elt Ideal) ℓ) (g' : Dev Cert.ReferenceGBwdIdeal.nD → PrngReg), Pre_KernelGBwdIdeal m →
    (∀ c : Dev Cert.KernelGBwdIdeal.nD,
      m' ((c.tc : Thread Cert.ReferenceGBwdIdeal.nD Cert.ReferenceGBwdIdeal.τ).loc Cert.ReferenceGBwdIdeal.main_arg0) = m ((c.tc : Thread Cert.KernelGBwdIdeal.nD Cert.KernelGBwdIdeal.τ).loc Cert.KernelGBwdIdeal.main_arg0)
      ∧ m' ((c.tc : Thread Cert.ReferenceGBwdIdeal.nD Cert.ReferenceGBwdIdeal.τ).loc Cert.ReferenceGBwdIdeal.main_arg1) = m ((c.tc : Thread Cert.KernelGBwdIdeal.nD Cert.KernelGBwdIdeal.τ).loc Cert.KernelGBwdIdeal.main_arg1)
      ∧ m' ((c.tc : Thread Cert.ReferenceGBwdIdeal.nD Cert.ReferenceGBwdIdeal.τ).loc Cert.ReferenceGBwdIdeal.main_arg2) = m ((c.tc : Thread Cert.KernelGBwdIdeal.nD Cert.KernelGBwdIdeal.τ).loc Cert.KernelGBwdIdeal.main_arg2)
      ∧ m' ((c.tc : Thread Cert.ReferenceGBwdIdeal.nD Cert.ReferenceGBwdIdeal.τ).loc Cert.ReferenceGBwdIdeal.main_arg3) = m ((c.tc : Thread Cert.KernelGBwdIdeal.nD Cert.KernelGBwdIdeal.τ).loc Cert.KernelGBwdIdeal.main_arg3)) →
    ∃ (v0 : (c : Dev Cert.KernelGBwdIdeal.nD) → Buf (Elt Ideal) ((c.tc : Thread Cert.KernelGBwdIdeal.nD Cert.KernelGBwdIdeal.τ).loc Cert.KernelGBwdIdeal.main_v1_0)) (v1 : (c : Dev Cert.KernelGBwdIdeal.nD) → Buf (Elt Ideal) ((c.tc : Thread Cert.KernelGBwdIdeal.nD Cert.KernelGBwdIdeal.τ).loc Cert.KernelGBwdIdeal.main_v1_1)) (v2 : (c : Dev Cert.KernelGBwdIdeal.nD) → Buf (Elt Ideal) ((c.tc : Thread Cert.KernelGBwdIdeal.nD Cert.KernelGBwdIdeal.τ).loc Cert.KernelGBwdIdeal.main_v1_2)),
      θ_run (Cert.KernelGBwdIdeal.defs (F := Ideal)) (onTc (τ := Cert.KernelGBwdIdeal.τ) (Cert.KernelGBwdIdeal.main (F := Ideal))) ⟨m, fun _ => 0, g⟩ (fun r => ∀ c : Dev Cert.KernelGBwdIdeal.nD,
          r.2.mem ((c.tc : Thread Cert.KernelGBwdIdeal.nD Cert.KernelGBwdIdeal.τ).loc Cert.KernelGBwdIdeal.main_v1_0) = v0 c
          ∧ r.2.mem ((c.tc : Thread Cert.KernelGBwdIdeal.nD Cert.KernelGBwdIdeal.τ).loc Cert.KernelGBwdIdeal.main_v1_1) = v1 c
          ∧ r.2.mem ((c.tc : Thread Cert.KernelGBwdIdeal.nD Cert.KernelGBwdIdeal.τ).loc Cert.KernelGBwdIdeal.main_v1_2) = v2 c
          ∧ r.2.mem ((c.tc : Thread Cert.KernelGBwdIdeal.nD Cert.KernelGBwdIdeal.τ).loc Cert.KernelGBwdIdeal.main_arg0) = m ((c.tc : Thread Cert.KernelGBwdIdeal.nD Cert.KernelGBwdIdeal.τ).loc Cert.KernelGBwdIdeal.main_arg0)
          ∧ r.2.mem ((c.tc : Thread Cert.KernelGBwdIdeal.nD Cert.KernelGBwdIdeal.τ).loc Cert.KernelGBwdIdeal.main_arg1) = m ((c.tc : Thread Cert.KernelGBwdIdeal.nD Cert.KernelGBwdIdeal.τ).loc Cert.KernelGBwdIdeal.main_arg1)
          ∧ r.2.mem ((c.tc : Thread Cert.KernelGBwdIdeal.nD Cert.KernelGBwdIdeal.τ).loc Cert.KernelGBwdIdeal.main_arg2) = m ((c.tc : Thread Cert.KernelGBwdIdeal.nD Cert.KernelGBwdIdeal.τ).loc Cert.KernelGBwdIdeal.main_arg2)
          ∧ r.2.mem ((c.tc : Thread Cert.KernelGBwdIdeal.nD Cert.KernelGBwdIdeal.τ).loc Cert.KernelGBwdIdeal.main_arg3) = m ((c.tc : Thread Cert.KernelGBwdIdeal.nD Cert.KernelGBwdIdeal.τ).loc Cert.KernelGBwdIdeal.main_arg3))
      ∧ θ_run (Cert.ReferenceGBwdIdeal.defs (F := Ideal)) (onTc (τ := Cert.ReferenceGBwdIdeal.τ) (Cert.ReferenceGBwdIdeal.main (F := Ideal))) ⟨m', fun _ => 0, g'⟩ (fun r => ∀ c : Dev Cert.ReferenceGBwdIdeal.nD,
          r.2.mem ((c.tc : Thread Cert.ReferenceGBwdIdeal.nD Cert.ReferenceGBwdIdeal.τ).loc Cert.ReferenceGBwdIdeal.main_v30) = v0 c
          ∧ r.2.mem ((c.tc : Thread Cert.ReferenceGBwdIdeal.nD Cert.ReferenceGBwdIdeal.τ).loc Cert.ReferenceGBwdIdeal.main_v31) = v1 c
          ∧ r.2.mem ((c.tc : Thread Cert.ReferenceGBwdIdeal.nD Cert.ReferenceGBwdIdeal.τ).loc Cert.ReferenceGBwdIdeal.main_v32) = v2 c
          ∧ r.2.mem ((c.tc : Thread Cert.ReferenceGBwdIdeal.nD Cert.ReferenceGBwdIdeal.τ).loc Cert.ReferenceGBwdIdeal.main_arg0) = m' ((c.tc : Thread Cert.ReferenceGBwdIdeal.nD Cert.ReferenceGBwdIdeal.τ).loc Cert.ReferenceGBwdIdeal.main_arg0)
          ∧ r.2.mem ((c.tc : Thread Cert.ReferenceGBwdIdeal.nD Cert.ReferenceGBwdIdeal.τ).loc Cert.ReferenceGBwdIdeal.main_arg1) = m' ((c.tc : Thread Cert.ReferenceGBwdIdeal.nD Cert.ReferenceGBwdIdeal.τ).loc Cert.ReferenceGBwdIdeal.main_arg1)
          ∧ r.2.mem ((c.tc : Thread Cert.ReferenceGBwdIdeal.nD Cert.ReferenceGBwdIdeal.τ).loc Cert.ReferenceGBwdIdeal.main_arg2) = m' ((c.tc : Thread Cert.ReferenceGBwdIdeal.nD Cert.ReferenceGBwdIdeal.τ).loc Cert.ReferenceGBwdIdeal.main_arg2)
          ∧ r.2.mem ((c.tc : Thread Cert.ReferenceGBwdIdeal.nD Cert.ReferenceGBwdIdeal.τ).loc Cert.ReferenceGBwdIdeal.main_arg3) = m' ((c.tc : Thread Cert.ReferenceGBwdIdeal.nD Cert.ReferenceGBwdIdeal.τ).loc Cert.ReferenceGBwdIdeal.main_arg3))

def preserves_KernelRmsB_KernelRmsBIdeal : Prop :=
  True

def algebraic_KernelRmsBIdeal_ReferenceRmsBIdeal [hKernelRmsBIdeal : Cert.KernelRmsBIdeal.Facts] [hReferenceRmsBIdeal : Cert.ReferenceRmsBIdeal.Facts] : Prop :=
  ∀ (m : (ℓ : Loc Cert.KernelRmsBIdeal.nD Cert.KernelRmsBIdeal.τ Cert.KernelRmsBIdeal.sig) → Buf (Elt Ideal) ℓ) (g : Dev Cert.KernelRmsBIdeal.nD → PrngReg)
    (m' : (ℓ : Loc Cert.ReferenceRmsBIdeal.nD Cert.ReferenceRmsBIdeal.τ Cert.ReferenceRmsBIdeal.sig) → Buf (Elt Ideal) ℓ) (g' : Dev Cert.ReferenceRmsBIdeal.nD → PrngReg), Pre_KernelRmsBIdeal m →
    (∀ c : Dev Cert.KernelRmsBIdeal.nD,
      m' ((c.tc : Thread Cert.ReferenceRmsBIdeal.nD Cert.ReferenceRmsBIdeal.τ).loc Cert.ReferenceRmsBIdeal.main_arg0) = m ((c.tc : Thread Cert.KernelRmsBIdeal.nD Cert.KernelRmsBIdeal.τ).loc Cert.KernelRmsBIdeal.main_arg0)
      ∧ m' ((c.tc : Thread Cert.ReferenceRmsBIdeal.nD Cert.ReferenceRmsBIdeal.τ).loc Cert.ReferenceRmsBIdeal.main_arg1) = m ((c.tc : Thread Cert.KernelRmsBIdeal.nD Cert.KernelRmsBIdeal.τ).loc Cert.KernelRmsBIdeal.main_arg1)
      ∧ m' ((c.tc : Thread Cert.ReferenceRmsBIdeal.nD Cert.ReferenceRmsBIdeal.τ).loc Cert.ReferenceRmsBIdeal.main_arg2) = m ((c.tc : Thread Cert.KernelRmsBIdeal.nD Cert.KernelRmsBIdeal.τ).loc Cert.KernelRmsBIdeal.main_arg2)
      ∧ m' ((c.tc : Thread Cert.ReferenceRmsBIdeal.nD Cert.ReferenceRmsBIdeal.τ).loc Cert.ReferenceRmsBIdeal.main_arg3) = m ((c.tc : Thread Cert.KernelRmsBIdeal.nD Cert.KernelRmsBIdeal.τ).loc Cert.KernelRmsBIdeal.main_arg3)) →
    ∃ (v0 : (c : Dev Cert.KernelRmsBIdeal.nD) → Buf (Elt Ideal) ((c.tc : Thread Cert.KernelRmsBIdeal.nD Cert.KernelRmsBIdeal.τ).loc Cert.KernelRmsBIdeal.main_v0_0)) (v1 : (c : Dev Cert.KernelRmsBIdeal.nD) → Buf (Elt Ideal) ((c.tc : Thread Cert.KernelRmsBIdeal.nD Cert.KernelRmsBIdeal.τ).loc Cert.KernelRmsBIdeal.main_v0_1)) (v2 : (c : Dev Cert.KernelRmsBIdeal.nD) → Buf (Elt Ideal) ((c.tc : Thread Cert.KernelRmsBIdeal.nD Cert.KernelRmsBIdeal.τ).loc Cert.KernelRmsBIdeal.main_v0_2)),
      θ_run (Cert.KernelRmsBIdeal.defs (F := Ideal)) (onTc (τ := Cert.KernelRmsBIdeal.τ) (Cert.KernelRmsBIdeal.main (F := Ideal))) ⟨m, fun _ => 0, g⟩ (fun r => ∀ c : Dev Cert.KernelRmsBIdeal.nD,
          r.2.mem ((c.tc : Thread Cert.KernelRmsBIdeal.nD Cert.KernelRmsBIdeal.τ).loc Cert.KernelRmsBIdeal.main_v0_0) = v0 c
          ∧ r.2.mem ((c.tc : Thread Cert.KernelRmsBIdeal.nD Cert.KernelRmsBIdeal.τ).loc Cert.KernelRmsBIdeal.main_v0_1) = v1 c
          ∧ r.2.mem ((c.tc : Thread Cert.KernelRmsBIdeal.nD Cert.KernelRmsBIdeal.τ).loc Cert.KernelRmsBIdeal.main_v0_2) = v2 c
          ∧ r.2.mem ((c.tc : Thread Cert.KernelRmsBIdeal.nD Cert.KernelRmsBIdeal.τ).loc Cert.KernelRmsBIdeal.main_arg0) = m ((c.tc : Thread Cert.KernelRmsBIdeal.nD Cert.KernelRmsBIdeal.τ).loc Cert.KernelRmsBIdeal.main_arg0)
          ∧ r.2.mem ((c.tc : Thread Cert.KernelRmsBIdeal.nD Cert.KernelRmsBIdeal.τ).loc Cert.KernelRmsBIdeal.main_arg1) = m ((c.tc : Thread Cert.KernelRmsBIdeal.nD Cert.KernelRmsBIdeal.τ).loc Cert.KernelRmsBIdeal.main_arg1)
          ∧ r.2.mem ((c.tc : Thread Cert.KernelRmsBIdeal.nD Cert.KernelRmsBIdeal.τ).loc Cert.KernelRmsBIdeal.main_arg2) = m ((c.tc : Thread Cert.KernelRmsBIdeal.nD Cert.KernelRmsBIdeal.τ).loc Cert.KernelRmsBIdeal.main_arg2)
          ∧ r.2.mem ((c.tc : Thread Cert.KernelRmsBIdeal.nD Cert.KernelRmsBIdeal.τ).loc Cert.KernelRmsBIdeal.main_arg3) = m ((c.tc : Thread Cert.KernelRmsBIdeal.nD Cert.KernelRmsBIdeal.τ).loc Cert.KernelRmsBIdeal.main_arg3))
      ∧ θ_run (Cert.ReferenceRmsBIdeal.defs (F := Ideal)) (onTc (τ := Cert.ReferenceRmsBIdeal.τ) (Cert.ReferenceRmsBIdeal.main (F := Ideal))) ⟨m', fun _ => 0, g'⟩ (fun r => ∀ c : Dev Cert.ReferenceRmsBIdeal.nD,
          r.2.mem ((c.tc : Thread Cert.ReferenceRmsBIdeal.nD Cert.ReferenceRmsBIdeal.τ).loc Cert.ReferenceRmsBIdeal.main_v34) = v0 c
          ∧ r.2.mem ((c.tc : Thread Cert.ReferenceRmsBIdeal.nD Cert.ReferenceRmsBIdeal.τ).loc Cert.ReferenceRmsBIdeal.main_v35) = v1 c
          ∧ r.2.mem ((c.tc : Thread Cert.ReferenceRmsBIdeal.nD Cert.ReferenceRmsBIdeal.τ).loc Cert.ReferenceRmsBIdeal.main_v17) = v2 c
          ∧ r.2.mem ((c.tc : Thread Cert.ReferenceRmsBIdeal.nD Cert.ReferenceRmsBIdeal.τ).loc Cert.ReferenceRmsBIdeal.main_arg0) = m' ((c.tc : Thread Cert.ReferenceRmsBIdeal.nD Cert.ReferenceRmsBIdeal.τ).loc Cert.ReferenceRmsBIdeal.main_arg0)
          ∧ r.2.mem ((c.tc : Thread Cert.ReferenceRmsBIdeal.nD Cert.ReferenceRmsBIdeal.τ).loc Cert.ReferenceRmsBIdeal.main_arg1) = m' ((c.tc : Thread Cert.ReferenceRmsBIdeal.nD Cert.ReferenceRmsBIdeal.τ).loc Cert.ReferenceRmsBIdeal.main_arg1)
          ∧ r.2.mem ((c.tc : Thread Cert.ReferenceRmsBIdeal.nD Cert.ReferenceRmsBIdeal.τ).loc Cert.ReferenceRmsBIdeal.main_arg2) = m' ((c.tc : Thread Cert.ReferenceRmsBIdeal.nD Cert.ReferenceRmsBIdeal.τ).loc Cert.ReferenceRmsBIdeal.main_arg2)
          ∧ r.2.mem ((c.tc : Thread Cert.ReferenceRmsBIdeal.nD Cert.ReferenceRmsBIdeal.τ).loc Cert.ReferenceRmsBIdeal.main_arg3) = m' ((c.tc : Thread Cert.ReferenceRmsBIdeal.nD Cert.ReferenceRmsBIdeal.τ).loc Cert.ReferenceRmsBIdeal.main_arg3))

def preserves_KernelLatF_KernelLatFIdeal : Prop :=
  True

def algebraic_KernelLatFIdeal_ReferenceLatFIdeal [hKernelLatFIdeal : Cert.KernelLatFIdeal.Facts] [hReferenceLatFIdeal : Cert.ReferenceLatFIdeal.Facts] : Prop :=
  ∀ (m : (ℓ : Loc Cert.KernelLatFIdeal.nD Cert.KernelLatFIdeal.τ Cert.KernelLatFIdeal.sig) → Buf (Elt Ideal) ℓ) (g : Dev Cert.KernelLatFIdeal.nD → PrngReg)
    (m' : (ℓ : Loc Cert.ReferenceLatFIdeal.nD Cert.ReferenceLatFIdeal.τ Cert.ReferenceLatFIdeal.sig) → Buf (Elt Ideal) ℓ) (g' : Dev Cert.ReferenceLatFIdeal.nD → PrngReg), Pre_KernelLatFIdeal m →
    (∀ c : Dev Cert.KernelLatFIdeal.nD,
      m' ((c.tc : Thread Cert.ReferenceLatFIdeal.nD Cert.ReferenceLatFIdeal.τ).loc Cert.ReferenceLatFIdeal.main_arg0) = m ((c.tc : Thread Cert.KernelLatFIdeal.nD Cert.KernelLatFIdeal.τ).loc Cert.KernelLatFIdeal.main_arg0)
      ∧ m' ((c.tc : Thread Cert.ReferenceLatFIdeal.nD Cert.ReferenceLatFIdeal.τ).loc Cert.ReferenceLatFIdeal.main_arg1) = m ((c.tc : Thread Cert.KernelLatFIdeal.nD Cert.KernelLatFIdeal.τ).loc Cert.KernelLatFIdeal.main_arg1)
      ∧ m' ((c.tc : Thread Cert.ReferenceLatFIdeal.nD Cert.ReferenceLatFIdeal.τ).loc Cert.ReferenceLatFIdeal.main_arg2) = m ((c.tc : Thread Cert.KernelLatFIdeal.nD Cert.KernelLatFIdeal.τ).loc Cert.KernelLatFIdeal.main_arg2)) →
    ∃ (v0 : (c : Dev Cert.KernelLatFIdeal.nD) → Buf (Elt Ideal) ((c.tc : Thread Cert.KernelLatFIdeal.nD Cert.KernelLatFIdeal.τ).loc Cert.KernelLatFIdeal.main_v0_0)) (v1 : (c : Dev Cert.KernelLatFIdeal.nD) → Buf (Elt Ideal) ((c.tc : Thread Cert.KernelLatFIdeal.nD Cert.KernelLatFIdeal.τ).loc Cert.KernelLatFIdeal.main_v0_1)),
      θ_run (Cert.KernelLatFIdeal.defs (F := Ideal)) (onTc (τ := Cert.KernelLatFIdeal.τ) (Cert.KernelLatFIdeal.main (F := Ideal))) ⟨m, fun _ => 0, g⟩ (fun r => ∀ c : Dev Cert.KernelLatFIdeal.nD,
          r.2.mem ((c.tc : Thread Cert.KernelLatFIdeal.nD Cert.KernelLatFIdeal.τ).loc Cert.KernelLatFIdeal.main_v0_0) = v0 c
          ∧ r.2.mem ((c.tc : Thread Cert.KernelLatFIdeal.nD Cert.KernelLatFIdeal.τ).loc Cert.KernelLatFIdeal.main_v0_1) = v1 c
          ∧ r.2.mem ((c.tc : Thread Cert.KernelLatFIdeal.nD Cert.KernelLatFIdeal.τ).loc Cert.KernelLatFIdeal.main_arg0) = m ((c.tc : Thread Cert.KernelLatFIdeal.nD Cert.KernelLatFIdeal.τ).loc Cert.KernelLatFIdeal.main_arg0)
          ∧ r.2.mem ((c.tc : Thread Cert.KernelLatFIdeal.nD Cert.KernelLatFIdeal.τ).loc Cert.KernelLatFIdeal.main_arg1) = m ((c.tc : Thread Cert.KernelLatFIdeal.nD Cert.KernelLatFIdeal.τ).loc Cert.KernelLatFIdeal.main_arg1)
          ∧ r.2.mem ((c.tc : Thread Cert.KernelLatFIdeal.nD Cert.KernelLatFIdeal.τ).loc Cert.KernelLatFIdeal.main_arg2) = m ((c.tc : Thread Cert.KernelLatFIdeal.nD Cert.KernelLatFIdeal.τ).loc Cert.KernelLatFIdeal.main_arg2))
      ∧ θ_run (Cert.ReferenceLatFIdeal.defs (F := Ideal)) (onTc (τ := Cert.ReferenceLatFIdeal.τ) (Cert.ReferenceLatFIdeal.main (F := Ideal))) ⟨m', fun _ => 0, g'⟩ (fun r => ∀ c : Dev Cert.ReferenceLatFIdeal.nD,
          r.2.mem ((c.tc : Thread Cert.ReferenceLatFIdeal.nD Cert.ReferenceLatFIdeal.τ).loc Cert.ReferenceLatFIdeal.main_v27) = v0 c
          ∧ r.2.mem ((c.tc : Thread Cert.ReferenceLatFIdeal.nD Cert.ReferenceLatFIdeal.τ).loc Cert.ReferenceLatFIdeal.main_v28) = v1 c
          ∧ r.2.mem ((c.tc : Thread Cert.ReferenceLatFIdeal.nD Cert.ReferenceLatFIdeal.τ).loc Cert.ReferenceLatFIdeal.main_arg0) = m' ((c.tc : Thread Cert.ReferenceLatFIdeal.nD Cert.ReferenceLatFIdeal.τ).loc Cert.ReferenceLatFIdeal.main_arg0)
          ∧ r.2.mem ((c.tc : Thread Cert.ReferenceLatFIdeal.nD Cert.ReferenceLatFIdeal.τ).loc Cert.ReferenceLatFIdeal.main_arg1) = m' ((c.tc : Thread Cert.ReferenceLatFIdeal.nD Cert.ReferenceLatFIdeal.τ).loc Cert.ReferenceLatFIdeal.main_arg1)
          ∧ r.2.mem ((c.tc : Thread Cert.ReferenceLatFIdeal.nD Cert.ReferenceLatFIdeal.τ).loc Cert.ReferenceLatFIdeal.main_arg2) = m' ((c.tc : Thread Cert.ReferenceLatFIdeal.nD Cert.ReferenceLatFIdeal.τ).loc Cert.ReferenceLatFIdeal.main_arg2))

def preserves_KernelLatB_KernelLatBIdeal : Prop :=
  True

def algebraic_KernelLatBIdeal_ReferenceLatBIdeal [hKernelLatBIdeal : Cert.KernelLatBIdeal.Facts] [hReferenceLatBIdeal : Cert.ReferenceLatBIdeal.Facts] : Prop :=
  ∀ (m : (ℓ : Loc Cert.KernelLatBIdeal.nD Cert.KernelLatBIdeal.τ Cert.KernelLatBIdeal.sig) → Buf (Elt Ideal) ℓ) (g : Dev Cert.KernelLatBIdeal.nD → PrngReg)
    (m' : (ℓ : Loc Cert.ReferenceLatBIdeal.nD Cert.ReferenceLatBIdeal.τ Cert.ReferenceLatBIdeal.sig) → Buf (Elt Ideal) ℓ) (g' : Dev Cert.ReferenceLatBIdeal.nD → PrngReg), Pre_KernelLatBIdeal m →
    (∀ c : Dev Cert.KernelLatBIdeal.nD,
      m' ((c.tc : Thread Cert.ReferenceLatBIdeal.nD Cert.ReferenceLatBIdeal.τ).loc Cert.ReferenceLatBIdeal.main_arg0) = m ((c.tc : Thread Cert.KernelLatBIdeal.nD Cert.KernelLatBIdeal.τ).loc Cert.KernelLatBIdeal.main_arg0)
      ∧ m' ((c.tc : Thread Cert.ReferenceLatBIdeal.nD Cert.ReferenceLatBIdeal.τ).loc Cert.ReferenceLatBIdeal.main_arg1) = m ((c.tc : Thread Cert.KernelLatBIdeal.nD Cert.KernelLatBIdeal.τ).loc Cert.KernelLatBIdeal.main_arg1)
      ∧ m' ((c.tc : Thread Cert.ReferenceLatBIdeal.nD Cert.ReferenceLatBIdeal.τ).loc Cert.ReferenceLatBIdeal.main_arg2) = m ((c.tc : Thread Cert.KernelLatBIdeal.nD Cert.KernelLatBIdeal.τ).loc Cert.KernelLatBIdeal.main_arg2)
      ∧ m' ((c.tc : Thread Cert.ReferenceLatBIdeal.nD Cert.ReferenceLatBIdeal.τ).loc Cert.ReferenceLatBIdeal.main_arg3) = m ((c.tc : Thread Cert.KernelLatBIdeal.nD Cert.KernelLatBIdeal.τ).loc Cert.KernelLatBIdeal.main_arg3)
      ∧ m' ((c.tc : Thread Cert.ReferenceLatBIdeal.nD Cert.ReferenceLatBIdeal.τ).loc Cert.ReferenceLatBIdeal.main_arg4) = m ((c.tc : Thread Cert.KernelLatBIdeal.nD Cert.KernelLatBIdeal.τ).loc Cert.KernelLatBIdeal.main_arg4)
      ∧ m' ((c.tc : Thread Cert.ReferenceLatBIdeal.nD Cert.ReferenceLatBIdeal.τ).loc Cert.ReferenceLatBIdeal.main_arg5) = m ((c.tc : Thread Cert.KernelLatBIdeal.nD Cert.KernelLatBIdeal.τ).loc Cert.KernelLatBIdeal.main_arg5)) →
    ∃ (v0 : (c : Dev Cert.KernelLatBIdeal.nD) → Buf (Elt Ideal) ((c.tc : Thread Cert.KernelLatBIdeal.nD Cert.KernelLatBIdeal.τ).loc Cert.KernelLatBIdeal.main_v0_0)) (v1 : (c : Dev Cert.KernelLatBIdeal.nD) → Buf (Elt Ideal) ((c.tc : Thread Cert.KernelLatBIdeal.nD Cert.KernelLatBIdeal.τ).loc Cert.KernelLatBIdeal.main_v0_1)) (v2 : (c : Dev Cert.KernelLatBIdeal.nD) → Buf (Elt Ideal) ((c.tc : Thread Cert.KernelLatBIdeal.nD Cert.KernelLatBIdeal.τ).loc Cert.KernelLatBIdeal.main_v0_2)),
      θ_run (Cert.KernelLatBIdeal.defs (F := Ideal)) (onTc (τ := Cert.KernelLatBIdeal.τ) (Cert.KernelLatBIdeal.main (F := Ideal))) ⟨m, fun _ => 0, g⟩ (fun r => ∀ c : Dev Cert.KernelLatBIdeal.nD,
          r.2.mem ((c.tc : Thread Cert.KernelLatBIdeal.nD Cert.KernelLatBIdeal.τ).loc Cert.KernelLatBIdeal.main_v0_0) = v0 c
          ∧ r.2.mem ((c.tc : Thread Cert.KernelLatBIdeal.nD Cert.KernelLatBIdeal.τ).loc Cert.KernelLatBIdeal.main_v0_1) = v1 c
          ∧ r.2.mem ((c.tc : Thread Cert.KernelLatBIdeal.nD Cert.KernelLatBIdeal.τ).loc Cert.KernelLatBIdeal.main_v0_2) = v2 c
          ∧ r.2.mem ((c.tc : Thread Cert.KernelLatBIdeal.nD Cert.KernelLatBIdeal.τ).loc Cert.KernelLatBIdeal.main_arg0) = m ((c.tc : Thread Cert.KernelLatBIdeal.nD Cert.KernelLatBIdeal.τ).loc Cert.KernelLatBIdeal.main_arg0)
          ∧ r.2.mem ((c.tc : Thread Cert.KernelLatBIdeal.nD Cert.KernelLatBIdeal.τ).loc Cert.KernelLatBIdeal.main_arg1) = m ((c.tc : Thread Cert.KernelLatBIdeal.nD Cert.KernelLatBIdeal.τ).loc Cert.KernelLatBIdeal.main_arg1)
          ∧ r.2.mem ((c.tc : Thread Cert.KernelLatBIdeal.nD Cert.KernelLatBIdeal.τ).loc Cert.KernelLatBIdeal.main_arg2) = m ((c.tc : Thread Cert.KernelLatBIdeal.nD Cert.KernelLatBIdeal.τ).loc Cert.KernelLatBIdeal.main_arg2)
          ∧ r.2.mem ((c.tc : Thread Cert.KernelLatBIdeal.nD Cert.KernelLatBIdeal.τ).loc Cert.KernelLatBIdeal.main_arg3) = m ((c.tc : Thread Cert.KernelLatBIdeal.nD Cert.KernelLatBIdeal.τ).loc Cert.KernelLatBIdeal.main_arg3)
          ∧ r.2.mem ((c.tc : Thread Cert.KernelLatBIdeal.nD Cert.KernelLatBIdeal.τ).loc Cert.KernelLatBIdeal.main_arg4) = m ((c.tc : Thread Cert.KernelLatBIdeal.nD Cert.KernelLatBIdeal.τ).loc Cert.KernelLatBIdeal.main_arg4)
          ∧ r.2.mem ((c.tc : Thread Cert.KernelLatBIdeal.nD Cert.KernelLatBIdeal.τ).loc Cert.KernelLatBIdeal.main_arg5) = m ((c.tc : Thread Cert.KernelLatBIdeal.nD Cert.KernelLatBIdeal.τ).loc Cert.KernelLatBIdeal.main_arg5))
      ∧ θ_run (Cert.ReferenceLatBIdeal.defs (F := Ideal)) (onTc (τ := Cert.ReferenceLatBIdeal.τ) (Cert.ReferenceLatBIdeal.main (F := Ideal))) ⟨m', fun _ => 0, g'⟩ (fun r => ∀ c : Dev Cert.ReferenceLatBIdeal.nD,
          r.2.mem ((c.tc : Thread Cert.ReferenceLatBIdeal.nD Cert.ReferenceLatBIdeal.τ).loc Cert.ReferenceLatBIdeal.main_v76) = v0 c
          ∧ r.2.mem ((c.tc : Thread Cert.ReferenceLatBIdeal.nD Cert.ReferenceLatBIdeal.τ).loc Cert.ReferenceLatBIdeal.main_v57) = v1 c
          ∧ r.2.mem ((c.tc : Thread Cert.ReferenceLatBIdeal.nD Cert.ReferenceLatBIdeal.τ).loc Cert.ReferenceLatBIdeal.main_v36) = v2 c
          ∧ r.2.mem ((c.tc : Thread Cert.ReferenceLatBIdeal.nD Cert.ReferenceLatBIdeal.τ).loc Cert.ReferenceLatBIdeal.main_arg0) = m' ((c.tc : Thread Cert.ReferenceLatBIdeal.nD Cert.ReferenceLatBIdeal.τ).loc Cert.ReferenceLatBIdeal.main_arg0)
          ∧ r.2.mem ((c.tc : Thread Cert.ReferenceLatBIdeal.nD Cert.ReferenceLatBIdeal.τ).loc Cert.ReferenceLatBIdeal.main_arg1) = m' ((c.tc : Thread Cert.ReferenceLatBIdeal.nD Cert.ReferenceLatBIdeal.τ).loc Cert.ReferenceLatBIdeal.main_arg1)
          ∧ r.2.mem ((c.tc : Thread Cert.ReferenceLatBIdeal.nD Cert.ReferenceLatBIdeal.τ).loc Cert.ReferenceLatBIdeal.main_arg2) = m' ((c.tc : Thread Cert.ReferenceLatBIdeal.nD Cert.ReferenceLatBIdeal.τ).loc Cert.ReferenceLatBIdeal.main_arg2)
          ∧ r.2.mem ((c.tc : Thread Cert.ReferenceLatBIdeal.nD Cert.ReferenceLatBIdeal.τ).loc Cert.ReferenceLatBIdeal.main_arg3) = m' ((c.tc : Thread Cert.ReferenceLatBIdeal.nD Cert.ReferenceLatBIdeal.τ).loc Cert.ReferenceLatBIdeal.main_arg3)
          ∧ r.2.mem ((c.tc : Thread Cert.ReferenceLatBIdeal.nD Cert.ReferenceLatBIdeal.τ).loc Cert.ReferenceLatBIdeal.main_arg4) = m' ((c.tc : Thread Cert.ReferenceLatBIdeal.nD Cert.ReferenceLatBIdeal.τ).loc Cert.ReferenceLatBIdeal.main_arg4)
          ∧ r.2.mem ((c.tc : Thread Cert.ReferenceLatBIdeal.nD Cert.ReferenceLatBIdeal.τ).loc Cert.ReferenceLatBIdeal.main_arg5) = m' ((c.tc : Thread Cert.ReferenceLatBIdeal.nD Cert.ReferenceLatBIdeal.τ).loc Cert.ReferenceLatBIdeal.main_arg5))

def preserves_KernelPle_KernelPleIdeal : Prop :=
  True

def algebraic_KernelPleIdeal_ReferencePleIdeal [hKernelPleIdeal : Cert.KernelPleIdeal.Facts] [hReferencePleIdeal : Cert.ReferencePleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg)
    (m' : (ℓ : Loc Cert.ReferencePleIdeal.nD Cert.ReferencePleIdeal.τ Cert.ReferencePleIdeal.sig) → Buf (Elt Ideal) ℓ) (g' : Dev Cert.ReferencePleIdeal.nD → PrngReg), Pre_KernelPleIdeal m →
    (∀ c : Dev Cert.KernelPleIdeal.nD,
      m' ((c.tc : Thread Cert.ReferencePleIdeal.nD Cert.ReferencePleIdeal.τ).loc Cert.ReferencePleIdeal.main_arg0) = m ((c.tc : Thread Cert.KernelPleIdeal.nD Cert.KernelPleIdeal.τ).loc Cert.KernelPleIdeal.main_arg0)
      ∧ m' ((c.tc : Thread Cert.ReferencePleIdeal.nD Cert.ReferencePleIdeal.τ).loc Cert.ReferencePleIdeal.main_arg1) = m ((c.tc : Thread Cert.KernelPleIdeal.nD Cert.KernelPleIdeal.τ).loc Cert.KernelPleIdeal.main_arg1)
      ∧ m' ((c.tc : Thread Cert.ReferencePleIdeal.nD Cert.ReferencePleIdeal.τ).loc Cert.ReferencePleIdeal.main_arg2) = m ((c.tc : Thread Cert.KernelPleIdeal.nD Cert.KernelPleIdeal.τ).loc Cert.KernelPleIdeal.main_arg2)
      ∧ m' ((c.tc : Thread Cert.ReferencePleIdeal.nD Cert.ReferencePleIdeal.τ).loc Cert.ReferencePleIdeal.main_arg3) = m ((c.tc : Thread Cert.KernelPleIdeal.nD Cert.KernelPleIdeal.τ).loc Cert.KernelPleIdeal.main_arg3)) →
    ∃ (v0 : (c : Dev Cert.KernelPleIdeal.nD) → Buf (Elt Ideal) ((c.tc : Thread Cert.KernelPleIdeal.nD Cert.KernelPleIdeal.τ).loc Cert.KernelPleIdeal.main_v0_0)) (v1 : (c : Dev Cert.KernelPleIdeal.nD) → Buf (Elt Ideal) ((c.tc : Thread Cert.KernelPleIdeal.nD Cert.KernelPleIdeal.τ).loc Cert.KernelPleIdeal.main_v0_1)) (v2 : (c : Dev Cert.KernelPleIdeal.nD) → Buf (Elt Ideal) ((c.tc : Thread Cert.KernelPleIdeal.nD Cert.KernelPleIdeal.τ).loc Cert.KernelPleIdeal.main_v0_2)) (v3 : (c : Dev Cert.KernelPleIdeal.nD) → Buf (Elt Ideal) ((c.tc : Thread Cert.KernelPleIdeal.nD Cert.KernelPleIdeal.τ).loc Cert.KernelPleIdeal.main_v0_3)),
      θ_run (Cert.KernelPleIdeal.defs (F := Ideal)) (onTc (τ := Cert.KernelPleIdeal.τ) (Cert.KernelPleIdeal.main (F := Ideal))) ⟨m, fun _ => 0, g⟩ (fun r => ∀ c : Dev Cert.KernelPleIdeal.nD,
          r.2.mem ((c.tc : Thread Cert.KernelPleIdeal.nD Cert.KernelPleIdeal.τ).loc Cert.KernelPleIdeal.main_v0_0) = v0 c
          ∧ r.2.mem ((c.tc : Thread Cert.KernelPleIdeal.nD Cert.KernelPleIdeal.τ).loc Cert.KernelPleIdeal.main_v0_1) = v1 c
          ∧ r.2.mem ((c.tc : Thread Cert.KernelPleIdeal.nD Cert.KernelPleIdeal.τ).loc Cert.KernelPleIdeal.main_v0_2) = v2 c
          ∧ r.2.mem ((c.tc : Thread Cert.KernelPleIdeal.nD Cert.KernelPleIdeal.τ).loc Cert.KernelPleIdeal.main_v0_3) = v3 c
          ∧ r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
          ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
          ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
          ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3))
      ∧ θ_run (Cert.ReferencePleIdeal.defs (F := Ideal)) (onTc (τ := Cert.ReferencePleIdeal.τ) (Cert.ReferencePleIdeal.main (F := Ideal))) ⟨m', fun _ => 0, g'⟩ (fun r => ∀ c : Dev Cert.ReferencePleIdeal.nD,
          r.2.mem ((c.tc : Thread Cert.ReferencePleIdeal.nD Cert.ReferencePleIdeal.τ).loc Cert.ReferencePleIdeal.main_v25) = v0 c
          ∧ r.2.mem ((c.tc : Thread Cert.ReferencePleIdeal.nD Cert.ReferencePleIdeal.τ).loc Cert.ReferencePleIdeal.main_v29) = v1 c
          ∧ r.2.mem ((c.tc : Thread Cert.ReferencePleIdeal.nD Cert.ReferencePleIdeal.τ).loc Cert.ReferencePleIdeal.main_v30) = v2 c
          ∧ r.2.mem ((c.tc : Thread Cert.ReferencePleIdeal.nD Cert.ReferencePleIdeal.τ).loc Cert.ReferencePleIdeal.main_v31) = v3 c
          ∧ r.2.mem ((c.tc : Thread Cert.ReferencePleIdeal.nD Cert.ReferencePleIdeal.τ).loc Cert.ReferencePleIdeal.main_arg0) = m' ((c.tc : Thread Cert.ReferencePleIdeal.nD Cert.ReferencePleIdeal.τ).loc Cert.ReferencePleIdeal.main_arg0)
          ∧ r.2.mem ((c.tc : Thread Cert.ReferencePleIdeal.nD Cert.ReferencePleIdeal.τ).loc Cert.ReferencePleIdeal.main_arg1) = m' ((c.tc : Thread Cert.ReferencePleIdeal.nD Cert.ReferencePleIdeal.τ).loc Cert.ReferencePleIdeal.main_arg1)
          ∧ r.2.mem ((c.tc : Thread Cert.ReferencePleIdeal.nD Cert.ReferencePleIdeal.τ).loc Cert.ReferencePleIdeal.main_arg2) = m' ((c.tc : Thread Cert.ReferencePleIdeal.nD Cert.ReferencePleIdeal.τ).loc Cert.ReferencePleIdeal.main_arg2)
          ∧ r.2.mem ((c.tc : Thread Cert.ReferencePleIdeal.nD Cert.ReferencePleIdeal.τ).loc Cert.ReferencePleIdeal.main_arg3) = m' ((c.tc : Thread Cert.ReferencePleIdeal.nD Cert.ReferencePleIdeal.τ).loc Cert.ReferencePleIdeal.main_arg3))

def preserves_KernelDelta_KernelDeltaIdeal : Prop :=
  True

def algebraic_KernelDeltaIdeal_ReferenceDeltaIdeal [hKernelDeltaIdeal : Cert.KernelDeltaIdeal.Facts] [hReferenceDeltaIdeal : Cert.ReferenceDeltaIdeal.Facts] : Prop :=
  ∀ (m : (ℓ : Loc Cert.KernelDeltaIdeal.nD Cert.KernelDeltaIdeal.τ Cert.KernelDeltaIdeal.sig) → Buf (Elt Ideal) ℓ) (g : Dev Cert.KernelDeltaIdeal.nD → PrngReg)
    (m' : (ℓ : Loc Cert.ReferenceDeltaIdeal.nD Cert.ReferenceDeltaIdeal.τ Cert.ReferenceDeltaIdeal.sig) → Buf (Elt Ideal) ℓ) (g' : Dev Cert.ReferenceDeltaIdeal.nD → PrngReg), Pre_KernelDeltaIdeal m →
    (∀ c : Dev Cert.KernelDeltaIdeal.nD,
      m' ((c.tc : Thread Cert.ReferenceDeltaIdeal.nD Cert.ReferenceDeltaIdeal.τ).loc Cert.ReferenceDeltaIdeal.main_arg0) = m ((c.tc : Thread Cert.KernelDeltaIdeal.nD Cert.KernelDeltaIdeal.τ).loc Cert.KernelDeltaIdeal.main_arg0)
      ∧ m' ((c.tc : Thread Cert.ReferenceDeltaIdeal.nD Cert.ReferenceDeltaIdeal.τ).loc Cert.ReferenceDeltaIdeal.main_arg1) = m ((c.tc : Thread Cert.KernelDeltaIdeal.nD Cert.KernelDeltaIdeal.τ).loc Cert.KernelDeltaIdeal.main_arg1)) →
    ∃ (v0 : (c : Dev Cert.KernelDeltaIdeal.nD) → Buf (Elt Ideal) ((c.tc : Thread Cert.KernelDeltaIdeal.nD Cert.KernelDeltaIdeal.τ).loc Cert.KernelDeltaIdeal.main_v1)),
      θ_run (Cert.KernelDeltaIdeal.defs (F := Ideal)) (onTc (τ := Cert.KernelDeltaIdeal.τ) (Cert.KernelDeltaIdeal.main (F := Ideal))) ⟨m, fun _ => 0, g⟩ (fun r => ∀ c : Dev Cert.KernelDeltaIdeal.nD,
          r.2.mem ((c.tc : Thread Cert.KernelDeltaIdeal.nD Cert.KernelDeltaIdeal.τ).loc Cert.KernelDeltaIdeal.main_v1) = v0 c
          ∧ r.2.mem ((c.tc : Thread Cert.KernelDeltaIdeal.nD Cert.KernelDeltaIdeal.τ).loc Cert.KernelDeltaIdeal.main_arg0) = m ((c.tc : Thread Cert.KernelDeltaIdeal.nD Cert.KernelDeltaIdeal.τ).loc Cert.KernelDeltaIdeal.main_arg0)
          ∧ r.2.mem ((c.tc : Thread Cert.KernelDeltaIdeal.nD Cert.KernelDeltaIdeal.τ).loc Cert.KernelDeltaIdeal.main_arg1) = m ((c.tc : Thread Cert.KernelDeltaIdeal.nD Cert.KernelDeltaIdeal.τ).loc Cert.KernelDeltaIdeal.main_arg1))
      ∧ θ_run (Cert.ReferenceDeltaIdeal.defs (F := Ideal)) (onTc (τ := Cert.ReferenceDeltaIdeal.τ) (Cert.ReferenceDeltaIdeal.main (F := Ideal))) ⟨m', fun _ => 0, g'⟩ (fun r => ∀ c : Dev Cert.ReferenceDeltaIdeal.nD,
          r.2.mem ((c.tc : Thread Cert.ReferenceDeltaIdeal.nD Cert.ReferenceDeltaIdeal.τ).loc Cert.ReferenceDeltaIdeal.main_v12) = v0 c
          ∧ r.2.mem ((c.tc : Thread Cert.ReferenceDeltaIdeal.nD Cert.ReferenceDeltaIdeal.τ).loc Cert.ReferenceDeltaIdeal.main_arg0) = m' ((c.tc : Thread Cert.ReferenceDeltaIdeal.nD Cert.ReferenceDeltaIdeal.τ).loc Cert.ReferenceDeltaIdeal.main_arg0)
          ∧ r.2.mem ((c.tc : Thread Cert.ReferenceDeltaIdeal.nD Cert.ReferenceDeltaIdeal.τ).loc Cert.ReferenceDeltaIdeal.main_arg1) = m' ((c.tc : Thread Cert.ReferenceDeltaIdeal.nD Cert.ReferenceDeltaIdeal.τ).loc Cert.ReferenceDeltaIdeal.main_arg1))

def preserves_KernelDMerge_KernelDMergeIdeal : Prop :=
  True

def algebraic_KernelDMergeIdeal_ReferenceDMergeIdeal [hKernelDMergeIdeal : Cert.KernelDMergeIdeal.Facts] [hReferenceDMergeIdeal : Cert.ReferenceDMergeIdeal.Facts] : Prop :=
  ∀ (m : (ℓ : Loc Cert.KernelDMergeIdeal.nD Cert.KernelDMergeIdeal.τ Cert.KernelDMergeIdeal.sig) → Buf (Elt Ideal) ℓ) (g : Dev Cert.KernelDMergeIdeal.nD → PrngReg)
    (m' : (ℓ : Loc Cert.ReferenceDMergeIdeal.nD Cert.ReferenceDMergeIdeal.τ Cert.ReferenceDMergeIdeal.sig) → Buf (Elt Ideal) ℓ) (g' : Dev Cert.ReferenceDMergeIdeal.nD → PrngReg), Pre_KernelDMergeIdeal m →
    (∀ c : Dev Cert.KernelDMergeIdeal.nD,
      m' ((c.tc : Thread Cert.ReferenceDMergeIdeal.nD Cert.ReferenceDMergeIdeal.τ).loc Cert.ReferenceDMergeIdeal.main_arg0) = m ((c.tc : Thread Cert.KernelDMergeIdeal.nD Cert.KernelDMergeIdeal.τ).loc Cert.KernelDMergeIdeal.main_arg0)
      ∧ m' ((c.tc : Thread Cert.ReferenceDMergeIdeal.nD Cert.ReferenceDMergeIdeal.τ).loc Cert.ReferenceDMergeIdeal.main_arg1) = m ((c.tc : Thread Cert.KernelDMergeIdeal.nD Cert.KernelDMergeIdeal.τ).loc Cert.KernelDMergeIdeal.main_arg1)
      ∧ m' ((c.tc : Thread Cert.ReferenceDMergeIdeal.nD Cert.ReferenceDMergeIdeal.τ).loc Cert.ReferenceDMergeIdeal.main_arg2) = m ((c.tc : Thread Cert.KernelDMergeIdeal.nD Cert.KernelDMergeIdeal.τ).loc Cert.KernelDMergeIdeal.main_arg2)
      ∧ m' ((c.tc : Thread Cert.ReferenceDMergeIdeal.nD Cert.ReferenceDMergeIdeal.τ).loc Cert.ReferenceDMergeIdeal.main_arg3) = m ((c.tc : Thread Cert.KernelDMergeIdeal.nD Cert.KernelDMergeIdeal.τ).loc Cert.KernelDMergeIdeal.main_arg3)
      ∧ m' ((c.tc : Thread Cert.ReferenceDMergeIdeal.nD Cert.ReferenceDMergeIdeal.τ).loc Cert.ReferenceDMergeIdeal.main_arg4) = m ((c.tc : Thread Cert.KernelDMergeIdeal.nD Cert.KernelDMergeIdeal.τ).loc Cert.KernelDMergeIdeal.main_arg4)
      ∧ m' ((c.tc : Thread Cert.ReferenceDMergeIdeal.nD Cert.ReferenceDMergeIdeal.τ).loc Cert.ReferenceDMergeIdeal.main_arg5) = m ((c.tc : Thread Cert.KernelDMergeIdeal.nD Cert.KernelDMergeIdeal.τ).loc Cert.KernelDMergeIdeal.main_arg5)) →
    ∃ (v0 : (c : Dev Cert.KernelDMergeIdeal.nD) → Buf (Elt Ideal) ((c.tc : Thread Cert.KernelDMergeIdeal.nD Cert.KernelDMergeIdeal.τ).loc Cert.KernelDMergeIdeal.main_v0_0)) (v1 : (c : Dev Cert.KernelDMergeIdeal.nD) → Buf (Elt Ideal) ((c.tc : Thread Cert.KernelDMergeIdeal.nD Cert.KernelDMergeIdeal.τ).loc Cert.KernelDMergeIdeal.main_v0_1)),
      θ_run (Cert.KernelDMergeIdeal.defs (F := Ideal)) (onTc (τ := Cert.KernelDMergeIdeal.τ) (Cert.KernelDMergeIdeal.main (F := Ideal))) ⟨m, fun _ => 0, g⟩ (fun r => ∀ c : Dev Cert.KernelDMergeIdeal.nD,
          r.2.mem ((c.tc : Thread Cert.KernelDMergeIdeal.nD Cert.KernelDMergeIdeal.τ).loc Cert.KernelDMergeIdeal.main_v0_0) = v0 c
          ∧ r.2.mem ((c.tc : Thread Cert.KernelDMergeIdeal.nD Cert.KernelDMergeIdeal.τ).loc Cert.KernelDMergeIdeal.main_v0_1) = v1 c
          ∧ r.2.mem ((c.tc : Thread Cert.KernelDMergeIdeal.nD Cert.KernelDMergeIdeal.τ).loc Cert.KernelDMergeIdeal.main_arg0) = m ((c.tc : Thread Cert.KernelDMergeIdeal.nD Cert.KernelDMergeIdeal.τ).loc Cert.KernelDMergeIdeal.main_arg0)
          ∧ r.2.mem ((c.tc : Thread Cert.KernelDMergeIdeal.nD Cert.KernelDMergeIdeal.τ).loc Cert.KernelDMergeIdeal.main_arg1) = m ((c.tc : Thread Cert.KernelDMergeIdeal.nD Cert.KernelDMergeIdeal.τ).loc Cert.KernelDMergeIdeal.main_arg1)
          ∧ r.2.mem ((c.tc : Thread Cert.KernelDMergeIdeal.nD Cert.KernelDMergeIdeal.τ).loc Cert.KernelDMergeIdeal.main_arg2) = m ((c.tc : Thread Cert.KernelDMergeIdeal.nD Cert.KernelDMergeIdeal.τ).loc Cert.KernelDMergeIdeal.main_arg2)
          ∧ r.2.mem ((c.tc : Thread Cert.KernelDMergeIdeal.nD Cert.KernelDMergeIdeal.τ).loc Cert.KernelDMergeIdeal.main_arg3) = m ((c.tc : Thread Cert.KernelDMergeIdeal.nD Cert.KernelDMergeIdeal.τ).loc Cert.KernelDMergeIdeal.main_arg3)
          ∧ r.2.mem ((c.tc : Thread Cert.KernelDMergeIdeal.nD Cert.KernelDMergeIdeal.τ).loc Cert.KernelDMergeIdeal.main_arg4) = m ((c.tc : Thread Cert.KernelDMergeIdeal.nD Cert.KernelDMergeIdeal.τ).loc Cert.KernelDMergeIdeal.main_arg4)
          ∧ r.2.mem ((c.tc : Thread Cert.KernelDMergeIdeal.nD Cert.KernelDMergeIdeal.τ).loc Cert.KernelDMergeIdeal.main_arg5) = m ((c.tc : Thread Cert.KernelDMergeIdeal.nD Cert.KernelDMergeIdeal.τ).loc Cert.KernelDMergeIdeal.main_arg5))
      ∧ θ_run (Cert.ReferenceDMergeIdeal.defs (F := Ideal)) (onTc (τ := Cert.ReferenceDMergeIdeal.τ) (Cert.ReferenceDMergeIdeal.main (F := Ideal))) ⟨m', fun _ => 0, g'⟩ (fun r => ∀ c : Dev Cert.ReferenceDMergeIdeal.nD,
          r.2.mem ((c.tc : Thread Cert.ReferenceDMergeIdeal.nD Cert.ReferenceDMergeIdeal.τ).loc Cert.ReferenceDMergeIdeal.main_v17) = v0 c
          ∧ r.2.mem ((c.tc : Thread Cert.ReferenceDMergeIdeal.nD Cert.ReferenceDMergeIdeal.τ).loc Cert.ReferenceDMergeIdeal.main_v19) = v1 c
          ∧ r.2.mem ((c.tc : Thread Cert.ReferenceDMergeIdeal.nD Cert.ReferenceDMergeIdeal.τ).loc Cert.ReferenceDMergeIdeal.main_arg0) = m' ((c.tc : Thread Cert.ReferenceDMergeIdeal.nD Cert.ReferenceDMergeIdeal.τ).loc Cert.ReferenceDMergeIdeal.main_arg0)
          ∧ r.2.mem ((c.tc : Thread Cert.ReferenceDMergeIdeal.nD Cert.ReferenceDMergeIdeal.τ).loc Cert.ReferenceDMergeIdeal.main_arg1) = m' ((c.tc : Thread Cert.ReferenceDMergeIdeal.nD Cert.ReferenceDMergeIdeal.τ).loc Cert.ReferenceDMergeIdeal.main_arg1)
          ∧ r.2.mem ((c.tc : Thread Cert.ReferenceDMergeIdeal.nD Cert.ReferenceDMergeIdeal.τ).loc Cert.ReferenceDMergeIdeal.main_arg2) = m' ((c.tc : Thread Cert.ReferenceDMergeIdeal.nD Cert.ReferenceDMergeIdeal.τ).loc Cert.ReferenceDMergeIdeal.main_arg2)
          ∧ r.2.mem ((c.tc : Thread Cert.ReferenceDMergeIdeal.nD Cert.ReferenceDMergeIdeal.τ).loc Cert.ReferenceDMergeIdeal.main_arg3) = m' ((c.tc : Thread Cert.ReferenceDMergeIdeal.nD Cert.ReferenceDMergeIdeal.τ).loc Cert.ReferenceDMergeIdeal.main_arg3)
          ∧ r.2.mem ((c.tc : Thread Cert.ReferenceDMergeIdeal.nD Cert.ReferenceDMergeIdeal.τ).loc Cert.ReferenceDMergeIdeal.main_arg4) = m' ((c.tc : Thread Cert.ReferenceDMergeIdeal.nD Cert.ReferenceDMergeIdeal.τ).loc Cert.ReferenceDMergeIdeal.main_arg4)
          ∧ r.2.mem ((c.tc : Thread Cert.ReferenceDMergeIdeal.nD Cert.ReferenceDMergeIdeal.τ).loc Cert.ReferenceDMergeIdeal.main_arg5) = m' ((c.tc : Thread Cert.ReferenceDMergeIdeal.nD Cert.ReferenceDMergeIdeal.τ).loc Cert.ReferenceDMergeIdeal.main_arg5))

def preserves_KernelGains_KernelGainsIdeal : Prop :=
  True

def algebraic_KernelGainsIdeal_ReferenceGainsIdeal [hKernelGainsIdeal : Cert.KernelGainsIdeal.Facts] [hReferenceGainsIdeal : Cert.ReferenceGainsIdeal.Facts] : Prop :=
  ∀ (m : (ℓ : Loc Cert.KernelGainsIdeal.nD Cert.KernelGainsIdeal.τ Cert.KernelGainsIdeal.sig) → Buf (Elt Ideal) ℓ) (g : Dev Cert.KernelGainsIdeal.nD → PrngReg)
    (m' : (ℓ : Loc Cert.ReferenceGainsIdeal.nD Cert.ReferenceGainsIdeal.τ Cert.ReferenceGainsIdeal.sig) → Buf (Elt Ideal) ℓ) (g' : Dev Cert.ReferenceGainsIdeal.nD → PrngReg), Pre_KernelGainsIdeal m →
    (∀ c : Dev Cert.KernelGainsIdeal.nD,
      m' ((c.tc : Thread Cert.ReferenceGainsIdeal.nD Cert.ReferenceGainsIdeal.τ).loc Cert.ReferenceGainsIdeal.main_arg0) = m ((c.tc : Thread Cert.KernelGainsIdeal.nD Cert.KernelGainsIdeal.τ).loc Cert.KernelGainsIdeal.main_arg0)
      ∧ m' ((c.tc : Thread Cert.ReferenceGainsIdeal.nD Cert.ReferenceGainsIdeal.τ).loc Cert.ReferenceGainsIdeal.main_arg1) = m ((c.tc : Thread Cert.KernelGainsIdeal.nD Cert.KernelGainsIdeal.τ).loc Cert.KernelGainsIdeal.main_arg1)
      ∧ m' ((c.tc : Thread Cert.ReferenceGainsIdeal.nD Cert.ReferenceGainsIdeal.τ).loc Cert.ReferenceGainsIdeal.main_arg2) = m ((c.tc : Thread Cert.KernelGainsIdeal.nD Cert.KernelGainsIdeal.τ).loc Cert.KernelGainsIdeal.main_arg2)
      ∧ m' ((c.tc : Thread Cert.ReferenceGainsIdeal.nD Cert.ReferenceGainsIdeal.τ).loc Cert.ReferenceGainsIdeal.main_arg3) = m ((c.tc : Thread Cert.KernelGainsIdeal.nD Cert.KernelGainsIdeal.τ).loc Cert.KernelGainsIdeal.main_arg3)) →
    ∃ (v0 : (c : Dev Cert.KernelGainsIdeal.nD) → Buf (Elt Ideal) ((c.tc : Thread Cert.KernelGainsIdeal.nD Cert.KernelGainsIdeal.τ).loc Cert.KernelGainsIdeal.main_v0_0)) (v1 : (c : Dev Cert.KernelGainsIdeal.nD) → Buf (Elt Ideal) ((c.tc : Thread Cert.KernelGainsIdeal.nD Cert.KernelGainsIdeal.τ).loc Cert.KernelGainsIdeal.main_v0_1)) (v2 : (c : Dev Cert.KernelGainsIdeal.nD) → Buf (Elt Ideal) ((c.tc : Thread Cert.KernelGainsIdeal.nD Cert.KernelGainsIdeal.τ).loc Cert.KernelGainsIdeal.main_v0_2)),
      θ_run (Cert.KernelGainsIdeal.defs (F := Ideal)) (onTc (τ := Cert.KernelGainsIdeal.τ) (Cert.KernelGainsIdeal.main (F := Ideal))) ⟨m, fun _ => 0, g⟩ (fun r => ∀ c : Dev Cert.KernelGainsIdeal.nD,
          r.2.mem ((c.tc : Thread Cert.KernelGainsIdeal.nD Cert.KernelGainsIdeal.τ).loc Cert.KernelGainsIdeal.main_v0_0) = v0 c
          ∧ r.2.mem ((c.tc : Thread Cert.KernelGainsIdeal.nD Cert.KernelGainsIdeal.τ).loc Cert.KernelGainsIdeal.main_v0_1) = v1 c
          ∧ r.2.mem ((c.tc : Thread Cert.KernelGainsIdeal.nD Cert.KernelGainsIdeal.τ).loc Cert.KernelGainsIdeal.main_v0_2) = v2 c
          ∧ r.2.mem ((c.tc : Thread Cert.KernelGainsIdeal.nD Cert.KernelGainsIdeal.τ).loc Cert.KernelGainsIdeal.main_arg0) = m ((c.tc : Thread Cert.KernelGainsIdeal.nD Cert.KernelGainsIdeal.τ).loc Cert.KernelGainsIdeal.main_arg0)
          ∧ r.2.mem ((c.tc : Thread Cert.KernelGainsIdeal.nD Cert.KernelGainsIdeal.τ).loc Cert.KernelGainsIdeal.main_arg1) = m ((c.tc : Thread Cert.KernelGainsIdeal.nD Cert.KernelGainsIdeal.τ).loc Cert.KernelGainsIdeal.main_arg1)
          ∧ r.2.mem ((c.tc : Thread Cert.KernelGainsIdeal.nD Cert.KernelGainsIdeal.τ).loc Cert.KernelGainsIdeal.main_arg2) = m ((c.tc : Thread Cert.KernelGainsIdeal.nD Cert.KernelGainsIdeal.τ).loc Cert.KernelGainsIdeal.main_arg2)
          ∧ r.2.mem ((c.tc : Thread Cert.KernelGainsIdeal.nD Cert.KernelGainsIdeal.τ).loc Cert.KernelGainsIdeal.main_arg3) = m ((c.tc : Thread Cert.KernelGainsIdeal.nD Cert.KernelGainsIdeal.τ).loc Cert.KernelGainsIdeal.main_arg3))
      ∧ θ_run (Cert.ReferenceGainsIdeal.defs (F := Ideal)) (onTc (τ := Cert.ReferenceGainsIdeal.τ) (Cert.ReferenceGainsIdeal.main (F := Ideal))) ⟨m', fun _ => 0, g'⟩ (fun r => ∀ c : Dev Cert.ReferenceGainsIdeal.nD,
          r.2.mem ((c.tc : Thread Cert.ReferenceGainsIdeal.nD Cert.ReferenceGainsIdeal.τ).loc Cert.ReferenceGainsIdeal.main_v23) = v0 c
          ∧ r.2.mem ((c.tc : Thread Cert.ReferenceGainsIdeal.nD Cert.ReferenceGainsIdeal.τ).loc Cert.ReferenceGainsIdeal.main_v4) = v1 c
          ∧ r.2.mem ((c.tc : Thread Cert.ReferenceGainsIdeal.nD Cert.ReferenceGainsIdeal.τ).loc Cert.ReferenceGainsIdeal.main_v10) = v2 c
          ∧ r.2.mem ((c.tc : Thread Cert.ReferenceGainsIdeal.nD Cert.ReferenceGainsIdeal.τ).loc Cert.ReferenceGainsIdeal.main_arg0) = m' ((c.tc : Thread Cert.ReferenceGainsIdeal.nD Cert.ReferenceGainsIdeal.τ).loc Cert.ReferenceGainsIdeal.main_arg0)
          ∧ r.2.mem ((c.tc : Thread Cert.ReferenceGainsIdeal.nD Cert.ReferenceGainsIdeal.τ).loc Cert.ReferenceGainsIdeal.main_arg1) = m' ((c.tc : Thread Cert.ReferenceGainsIdeal.nD Cert.ReferenceGainsIdeal.τ).loc Cert.ReferenceGainsIdeal.main_arg1)
          ∧ r.2.mem ((c.tc : Thread Cert.ReferenceGainsIdeal.nD Cert.ReferenceGainsIdeal.τ).loc Cert.ReferenceGainsIdeal.main_arg2) = m' ((c.tc : Thread Cert.ReferenceGainsIdeal.nD Cert.ReferenceGainsIdeal.τ).loc Cert.ReferenceGainsIdeal.main_arg2)
          ∧ r.2.mem ((c.tc : Thread Cert.ReferenceGainsIdeal.nD Cert.ReferenceGainsIdeal.τ).loc Cert.ReferenceGainsIdeal.main_arg3) = m' ((c.tc : Thread Cert.ReferenceGainsIdeal.nD Cert.ReferenceGainsIdeal.τ).loc Cert.ReferenceGainsIdeal.main_arg3))

def Claim : Prop :=
  ∃ (hKernel : Cert.Kernel.Facts) (hKernelIdeal : Cert.KernelIdeal.Facts) (hReferenceIdeal : Cert.ReferenceIdeal.Facts) (hKernelWDown : Cert.KernelWDown.Facts) (hKernelWDownIdeal : Cert.KernelWDownIdeal.Facts) (hReferenceWDownIdeal : Cert.ReferenceWDownIdeal.Facts) (hKernelAct : Cert.KernelAct.Facts) (hKernelActIdeal : Cert.KernelActIdeal.Facts) (hReferenceActIdeal : Cert.ReferenceActIdeal.Facts) (hKernelWGate : Cert.KernelWGate.Facts) (hKernelWGateIdeal : Cert.KernelWGateIdeal.Facts) (hReferenceWGateIdeal : Cert.ReferenceWGateIdeal.Facts) (hKernelNorm : Cert.KernelNorm.Facts) (hKernelNormIdeal : Cert.KernelNormIdeal.Facts) (hReferenceNormIdeal : Cert.ReferenceNormIdeal.Facts) (hKernelWDil : Cert.KernelWDil.Facts) (hKernelWDilIdeal : Cert.KernelWDilIdeal.Facts) (hReferenceWDilIdeal : Cert.ReferenceWDilIdeal.Facts) (hKernelHDil : Cert.KernelHDil.Facts) (hKernelHDilIdeal : Cert.KernelHDilIdeal.Facts) (hReferenceHDilIdeal : Cert.ReferenceHDilIdeal.Facts) (hKernelPDil : Cert.KernelPDil.Facts) (hKernelPDilIdeal : Cert.KernelPDilIdeal.Facts) (hReferencePDilIdeal : Cert.ReferencePDilIdeal.Facts) (hKernelWGin : Cert.KernelWGin.Facts) (hKernelWGinIdeal : Cert.KernelWGinIdeal.Facts) (hReferenceWGinIdeal : Cert.ReferenceWGinIdeal.Facts) (hKernelHGate : Cert.KernelHGate.Facts) (hKernelHGateIdeal : Cert.KernelHGateIdeal.Facts) (hReferenceHGateIdeal : Cert.ReferenceHGateIdeal.Facts) (hKernelPGate : Cert.KernelPGate.Facts) (hKernelPGateIdeal : Cert.KernelPGateIdeal.Facts) (hReferencePGateIdeal : Cert.ReferencePGateIdeal.Facts) (hKernelWO : Cert.KernelWO.Facts) (hKernelWOIdeal : Cert.KernelWOIdeal.Facts) (hReferenceWOIdeal : Cert.ReferenceWOIdeal.Facts) (hKernelOut : Cert.KernelOut.Facts) (hKernelOutIdeal : Cert.KernelOutIdeal.Facts) (hReferenceOutIdeal : Cert.ReferenceOutIdeal.Facts) (hKernelWBr : Cert.KernelWBr.Facts) (hKernelWBrIdeal : Cert.KernelWBrIdeal.Facts) (hReferenceWBrIdeal : Cert.ReferenceWBrIdeal.Facts) (hKernelOBr : Cert.KernelOBr.Facts) (hKernelOBrIdeal : Cert.KernelOBrIdeal.Facts) (hReferenceOBrIdeal : Cert.ReferenceOBrIdeal.Facts) (hKernelBr : Cert.KernelBr.Facts) (hKernelBrIdeal : Cert.KernelBrIdeal.Facts) (hReferenceBrIdeal : Cert.ReferenceBrIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelPLat : Cert.KernelPLat.Facts) (hKernelPLatIdeal : Cert.KernelPLatIdeal.Facts) (hReferencePLatIdeal : Cert.ReferencePLatIdeal.Facts) (hKernelQUp : Cert.KernelQUp.Facts) (hKernelQUpIdeal : Cert.KernelQUpIdeal.Facts) (hReferenceQUpIdeal : Cert.ReferenceQUpIdeal.Facts) (hKernelKvUp : Cert.KernelKvUp.Facts) (hKernelKvUpIdeal : Cert.KernelKvUpIdeal.Facts) (hReferenceKvUpIdeal : Cert.ReferenceKvUpIdeal.Facts) (hKernelPleG : Cert.KernelPleG.Facts) (hKernelPleGIdeal : Cert.KernelPleGIdeal.Facts) (hReferencePleGIdeal : Cert.ReferencePleGIdeal.Facts) (hKernelPleN : Cert.KernelPleN.Facts) (hKernelPleNIdeal : Cert.KernelPleNIdeal.Facts) (hReferencePleNIdeal : Cert.ReferencePleNIdeal.Facts) (hKernelWLat : Cert.KernelWLat.Facts) (hKernelWLatIdeal : Cert.KernelWLatIdeal.Facts) (hReferenceWLatIdeal : Cert.ReferenceWLatIdeal.Facts) (hKernelWUq : Cert.KernelWUq.Facts) (hKernelWUqIdeal : Cert.KernelWUqIdeal.Facts) (hReferenceWUqIdeal : Cert.ReferenceWUqIdeal.Facts) (hKernelWUkv : Cert.KernelWUkv.Facts) (hKernelWUkvIdeal : Cert.KernelWUkvIdeal.Facts) (hReferenceWUkvIdeal : Cert.ReferenceWUkvIdeal.Facts) (hKernelCq : Cert.KernelCq.Facts) (hKernelCqIdeal : Cert.KernelCqIdeal.Facts) (hReferenceCqIdeal : Cert.ReferenceCqIdeal.Facts) (hKernelCkv : Cert.KernelCkv.Facts) (hKernelCkvIdeal : Cert.KernelCkvIdeal.Facts) (hReferenceCkvIdeal : Cert.ReferenceCkvIdeal.Facts) (hKernelOMla : Cert.KernelOMla.Facts) (hKernelOMlaIdeal : Cert.KernelOMlaIdeal.Facts) (hReferenceOMlaIdeal : Cert.ReferenceOMlaIdeal.Facts) (hKernelRms : Cert.KernelRms.Facts) (hKernelRmsIdeal : Cert.KernelRmsIdeal.Facts) (hReferenceRmsIdeal : Cert.ReferenceRmsIdeal.Facts) (hKernelGMerge : Cert.KernelGMerge.Facts) (hKernelGMergeIdeal : Cert.KernelGMergeIdeal.Facts) (hReferenceGMergeIdeal : Cert.ReferenceGMergeIdeal.Facts) (hKernelGBwd : Cert.KernelGBwd.Facts) (hKernelGBwdIdeal : Cert.KernelGBwdIdeal.Facts) (hReferenceGBwdIdeal : Cert.ReferenceGBwdIdeal.Facts) (hKernelRmsB : Cert.KernelRmsB.Facts) (hKernelRmsBIdeal : Cert.KernelRmsBIdeal.Facts) (hReferenceRmsBIdeal : Cert.ReferenceRmsBIdeal.Facts) (hKernelLatF : Cert.KernelLatF.Facts) (hKernelLatFIdeal : Cert.KernelLatFIdeal.Facts) (hReferenceLatFIdeal : Cert.ReferenceLatFIdeal.Facts) (hKernelLatB : Cert.KernelLatB.Facts) (hKernelLatBIdeal : Cert.KernelLatBIdeal.Facts) (hReferenceLatBIdeal : Cert.ReferenceLatBIdeal.Facts) (hKernelPle : Cert.KernelPle.Facts) (hKernelPleIdeal : Cert.KernelPleIdeal.Facts) (hReferencePleIdeal : Cert.ReferencePleIdeal.Facts) (hKernelDelta : Cert.KernelDelta.Facts) (hKernelDeltaIdeal : Cert.KernelDeltaIdeal.Facts) (hReferenceDeltaIdeal : Cert.ReferenceDeltaIdeal.Facts) (hKernelDMerge : Cert.KernelDMerge.Facts) (hKernelDMergeIdeal : Cert.KernelDMergeIdeal.Facts) (hReferenceDMergeIdeal : Cert.ReferenceDMergeIdeal.Facts) (hKernelGains : Cert.KernelGains.Facts) (hKernelGainsIdeal : Cert.KernelGainsIdeal.Facts) (hReferenceGainsIdeal : Cert.ReferenceGainsIdeal.Facts) (hPre_finite : Cert.Pre_finite.Facts) (hPre_finite_act : Cert.Pre_finite_act.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelWDown (hKernelWDown := hKernelWDown)
    ∧ quiescent_KernelWDownIdeal (hKernelWDownIdeal := hKernelWDownIdeal)
    ∧ quiescent_ReferenceWDownIdeal (hReferenceWDownIdeal := hReferenceWDownIdeal)
    ∧ quiescent_KernelAct (hKernelAct := hKernelAct)
    ∧ quiescent_KernelActIdeal (hKernelActIdeal := hKernelActIdeal)
    ∧ quiescent_KernelActIdeal_pre_finite_act (hKernelActIdeal := hKernelActIdeal) (hPre_finite_act := hPre_finite_act)
    ∧ quiescent_ReferenceActIdeal (hReferenceActIdeal := hReferenceActIdeal)
    ∧ quiescent_ReferenceActIdeal_pre_finite_act (hReferenceActIdeal := hReferenceActIdeal) (hPre_finite_act := hPre_finite_act)
    ∧ quiescent_KernelWGate (hKernelWGate := hKernelWGate)
    ∧ quiescent_KernelWGateIdeal (hKernelWGateIdeal := hKernelWGateIdeal)
    ∧ quiescent_ReferenceWGateIdeal (hReferenceWGateIdeal := hReferenceWGateIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelWDil (hKernelWDil := hKernelWDil)
    ∧ quiescent_KernelWDilIdeal (hKernelWDilIdeal := hKernelWDilIdeal)
    ∧ quiescent_ReferenceWDilIdeal (hReferenceWDilIdeal := hReferenceWDilIdeal)
    ∧ quiescent_KernelHDil (hKernelHDil := hKernelHDil)
    ∧ quiescent_KernelHDilIdeal (hKernelHDilIdeal := hKernelHDilIdeal)
    ∧ quiescent_ReferenceHDilIdeal (hReferenceHDilIdeal := hReferenceHDilIdeal)
    ∧ quiescent_KernelPDil (hKernelPDil := hKernelPDil)
    ∧ quiescent_KernelPDilIdeal (hKernelPDilIdeal := hKernelPDilIdeal)
    ∧ quiescent_ReferencePDilIdeal (hReferencePDilIdeal := hReferencePDilIdeal)
    ∧ quiescent_KernelWGin (hKernelWGin := hKernelWGin)
    ∧ quiescent_KernelWGinIdeal (hKernelWGinIdeal := hKernelWGinIdeal)
    ∧ quiescent_ReferenceWGinIdeal (hReferenceWGinIdeal := hReferenceWGinIdeal)
    ∧ quiescent_KernelHGate (hKernelHGate := hKernelHGate)
    ∧ quiescent_KernelHGateIdeal (hKernelHGateIdeal := hKernelHGateIdeal)
    ∧ quiescent_ReferenceHGateIdeal (hReferenceHGateIdeal := hReferenceHGateIdeal)
    ∧ quiescent_KernelPGate (hKernelPGate := hKernelPGate)
    ∧ quiescent_KernelPGateIdeal (hKernelPGateIdeal := hKernelPGateIdeal)
    ∧ quiescent_ReferencePGateIdeal (hReferencePGateIdeal := hReferencePGateIdeal)
    ∧ quiescent_KernelWO (hKernelWO := hKernelWO)
    ∧ quiescent_KernelWOIdeal (hKernelWOIdeal := hKernelWOIdeal)
    ∧ quiescent_ReferenceWOIdeal (hReferenceWOIdeal := hReferenceWOIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelWBr (hKernelWBr := hKernelWBr)
    ∧ quiescent_KernelWBrIdeal (hKernelWBrIdeal := hKernelWBrIdeal)
    ∧ quiescent_ReferenceWBrIdeal (hReferenceWBrIdeal := hReferenceWBrIdeal)
    ∧ quiescent_KernelOBr (hKernelOBr := hKernelOBr)
    ∧ quiescent_KernelOBrIdeal (hKernelOBrIdeal := hKernelOBrIdeal)
    ∧ quiescent_ReferenceOBrIdeal (hReferenceOBrIdeal := hReferenceOBrIdeal)
    ∧ quiescent_KernelBr (hKernelBr := hKernelBr)
    ∧ quiescent_KernelBrIdeal (hKernelBrIdeal := hKernelBrIdeal)
    ∧ quiescent_ReferenceBrIdeal (hReferenceBrIdeal := hReferenceBrIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelPLat (hKernelPLat := hKernelPLat)
    ∧ quiescent_KernelPLatIdeal (hKernelPLatIdeal := hKernelPLatIdeal)
    ∧ quiescent_ReferencePLatIdeal (hReferencePLatIdeal := hReferencePLatIdeal)
    ∧ quiescent_KernelQUp (hKernelQUp := hKernelQUp)
    ∧ quiescent_KernelQUpIdeal (hKernelQUpIdeal := hKernelQUpIdeal)
    ∧ quiescent_ReferenceQUpIdeal (hReferenceQUpIdeal := hReferenceQUpIdeal)
    ∧ quiescent_KernelKvUp (hKernelKvUp := hKernelKvUp)
    ∧ quiescent_KernelKvUpIdeal (hKernelKvUpIdeal := hKernelKvUpIdeal)
    ∧ quiescent_ReferenceKvUpIdeal (hReferenceKvUpIdeal := hReferenceKvUpIdeal)
    ∧ quiescent_KernelPleG (hKernelPleG := hKernelPleG)
    ∧ quiescent_KernelPleGIdeal (hKernelPleGIdeal := hKernelPleGIdeal)
    ∧ quiescent_ReferencePleGIdeal (hReferencePleGIdeal := hReferencePleGIdeal)
    ∧ quiescent_KernelPleN (hKernelPleN := hKernelPleN)
    ∧ quiescent_KernelPleNIdeal (hKernelPleNIdeal := hKernelPleNIdeal)
    ∧ quiescent_ReferencePleNIdeal (hReferencePleNIdeal := hReferencePleNIdeal)
    ∧ quiescent_KernelWLat (hKernelWLat := hKernelWLat)
    ∧ quiescent_KernelWLatIdeal (hKernelWLatIdeal := hKernelWLatIdeal)
    ∧ quiescent_ReferenceWLatIdeal (hReferenceWLatIdeal := hReferenceWLatIdeal)
    ∧ quiescent_KernelWUq (hKernelWUq := hKernelWUq)
    ∧ quiescent_KernelWUqIdeal (hKernelWUqIdeal := hKernelWUqIdeal)
    ∧ quiescent_ReferenceWUqIdeal (hReferenceWUqIdeal := hReferenceWUqIdeal)
    ∧ quiescent_KernelWUkv (hKernelWUkv := hKernelWUkv)
    ∧ quiescent_KernelWUkvIdeal (hKernelWUkvIdeal := hKernelWUkvIdeal)
    ∧ quiescent_ReferenceWUkvIdeal (hReferenceWUkvIdeal := hReferenceWUkvIdeal)
    ∧ quiescent_KernelCq (hKernelCq := hKernelCq)
    ∧ quiescent_KernelCqIdeal (hKernelCqIdeal := hKernelCqIdeal)
    ∧ quiescent_ReferenceCqIdeal (hReferenceCqIdeal := hReferenceCqIdeal)
    ∧ quiescent_KernelCkv (hKernelCkv := hKernelCkv)
    ∧ quiescent_KernelCkvIdeal (hKernelCkvIdeal := hKernelCkvIdeal)
    ∧ quiescent_ReferenceCkvIdeal (hReferenceCkvIdeal := hReferenceCkvIdeal)
    ∧ quiescent_KernelOMla (hKernelOMla := hKernelOMla)
    ∧ quiescent_KernelOMlaIdeal (hKernelOMlaIdeal := hKernelOMlaIdeal)
    ∧ quiescent_ReferenceOMlaIdeal (hReferenceOMlaIdeal := hReferenceOMlaIdeal)
    ∧ quiescent_KernelRms (hKernelRms := hKernelRms)
    ∧ quiescent_KernelRmsIdeal (hKernelRmsIdeal := hKernelRmsIdeal)
    ∧ quiescent_ReferenceRmsIdeal (hReferenceRmsIdeal := hReferenceRmsIdeal)
    ∧ quiescent_KernelGMerge (hKernelGMerge := hKernelGMerge)
    ∧ quiescent_KernelGMergeIdeal (hKernelGMergeIdeal := hKernelGMergeIdeal)
    ∧ quiescent_ReferenceGMergeIdeal (hReferenceGMergeIdeal := hReferenceGMergeIdeal)
    ∧ quiescent_KernelGBwd (hKernelGBwd := hKernelGBwd)
    ∧ quiescent_KernelGBwdIdeal (hKernelGBwdIdeal := hKernelGBwdIdeal)
    ∧ quiescent_ReferenceGBwdIdeal (hReferenceGBwdIdeal := hReferenceGBwdIdeal)
    ∧ quiescent_KernelRmsB (hKernelRmsB := hKernelRmsB)
    ∧ quiescent_KernelRmsBIdeal (hKernelRmsBIdeal := hKernelRmsBIdeal)
    ∧ quiescent_ReferenceRmsBIdeal (hReferenceRmsBIdeal := hReferenceRmsBIdeal)
    ∧ quiescent_KernelLatF (hKernelLatF := hKernelLatF)
    ∧ quiescent_KernelLatFIdeal (hKernelLatFIdeal := hKernelLatFIdeal)
    ∧ quiescent_ReferenceLatFIdeal (hReferenceLatFIdeal := hReferenceLatFIdeal)
    ∧ quiescent_KernelLatB (hKernelLatB := hKernelLatB)
    ∧ quiescent_KernelLatBIdeal (hKernelLatBIdeal := hKernelLatBIdeal)
    ∧ quiescent_ReferenceLatBIdeal (hReferenceLatBIdeal := hReferenceLatBIdeal)
    ∧ quiescent_KernelPle (hKernelPle := hKernelPle)
    ∧ quiescent_KernelPleIdeal (hKernelPleIdeal := hKernelPleIdeal)
    ∧ quiescent_ReferencePleIdeal (hReferencePleIdeal := hReferencePleIdeal)
    ∧ quiescent_KernelDelta (hKernelDelta := hKernelDelta)
    ∧ quiescent_KernelDeltaIdeal (hKernelDeltaIdeal := hKernelDeltaIdeal)
    ∧ quiescent_ReferenceDeltaIdeal (hReferenceDeltaIdeal := hReferenceDeltaIdeal)
    ∧ quiescent_KernelDMerge (hKernelDMerge := hKernelDMerge)
    ∧ quiescent_KernelDMergeIdeal (hKernelDMergeIdeal := hKernelDMergeIdeal)
    ∧ quiescent_ReferenceDMergeIdeal (hReferenceDMergeIdeal := hReferenceDMergeIdeal)
    ∧ quiescent_KernelGains (hKernelGains := hKernelGains)
    ∧ quiescent_KernelGainsIdeal (hKernelGainsIdeal := hKernelGainsIdeal)
    ∧ quiescent_ReferenceGainsIdeal (hReferenceGainsIdeal := hReferenceGainsIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelWDown_KernelWDownIdeal
    ∧ algebraic_KernelWDownIdeal_ReferenceWDownIdeal (hKernelWDownIdeal := hKernelWDownIdeal) (hReferenceWDownIdeal := hReferenceWDownIdeal)
    ∧ preserves_KernelAct_KernelActIdeal
    ∧ algebraic_KernelActIdeal_ReferenceActIdeal_pre_finite_act (hKernelActIdeal := hKernelActIdeal) (hReferenceActIdeal := hReferenceActIdeal) (hPre_finite_act := hPre_finite_act)
    ∧ preserves_KernelWGate_KernelWGateIdeal
    ∧ algebraic_KernelWGateIdeal_ReferenceWGateIdeal (hKernelWGateIdeal := hKernelWGateIdeal) (hReferenceWGateIdeal := hReferenceWGateIdeal)
    ∧ preserves_KernelNorm_KernelNormIdeal
    ∧ algebraic_KernelNormIdeal_ReferenceNormIdeal (hKernelNormIdeal := hKernelNormIdeal) (hReferenceNormIdeal := hReferenceNormIdeal)
    ∧ preserves_KernelWDil_KernelWDilIdeal
    ∧ algebraic_KernelWDilIdeal_ReferenceWDilIdeal (hKernelWDilIdeal := hKernelWDilIdeal) (hReferenceWDilIdeal := hReferenceWDilIdeal)
    ∧ preserves_KernelHDil_KernelHDilIdeal
    ∧ algebraic_KernelHDilIdeal_ReferenceHDilIdeal (hKernelHDilIdeal := hKernelHDilIdeal) (hReferenceHDilIdeal := hReferenceHDilIdeal)
    ∧ preserves_KernelPDil_KernelPDilIdeal
    ∧ algebraic_KernelPDilIdeal_ReferencePDilIdeal (hKernelPDilIdeal := hKernelPDilIdeal) (hReferencePDilIdeal := hReferencePDilIdeal)
    ∧ preserves_KernelWGin_KernelWGinIdeal
    ∧ algebraic_KernelWGinIdeal_ReferenceWGinIdeal (hKernelWGinIdeal := hKernelWGinIdeal) (hReferenceWGinIdeal := hReferenceWGinIdeal)
    ∧ preserves_KernelHGate_KernelHGateIdeal
    ∧ algebraic_KernelHGateIdeal_ReferenceHGateIdeal (hKernelHGateIdeal := hKernelHGateIdeal) (hReferenceHGateIdeal := hReferenceHGateIdeal)
    ∧ preserves_KernelPGate_KernelPGateIdeal
    ∧ algebraic_KernelPGateIdeal_ReferencePGateIdeal (hKernelPGateIdeal := hKernelPGateIdeal) (hReferencePGateIdeal := hReferencePGateIdeal)
    ∧ preserves_KernelWO_KernelWOIdeal
    ∧ algebraic_KernelWOIdeal_ReferenceWOIdeal (hKernelWOIdeal := hKernelWOIdeal) (hReferenceWOIdeal := hReferenceWOIdeal)
    ∧ preserves_KernelOut_KernelOutIdeal
    ∧ algebraic_KernelOutIdeal_ReferenceOutIdeal (hKernelOutIdeal := hKernelOutIdeal) (hReferenceOutIdeal := hReferenceOutIdeal)
    ∧ preserves_KernelWBr_KernelWBrIdeal
    ∧ algebraic_KernelWBrIdeal_ReferenceWBrIdeal (hKernelWBrIdeal := hKernelWBrIdeal) (hReferenceWBrIdeal := hReferenceWBrIdeal)
    ∧ preserves_KernelOBr_KernelOBrIdeal
    ∧ algebraic_KernelOBrIdeal_ReferenceOBrIdeal (hKernelOBrIdeal := hKernelOBrIdeal) (hReferenceOBrIdeal := hReferenceOBrIdeal)
    ∧ preserves_KernelBr_KernelBrIdeal
    ∧ algebraic_KernelBrIdeal_ReferenceBrIdeal (hKernelBrIdeal := hKernelBrIdeal) (hReferenceBrIdeal := hReferenceBrIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelPLat_KernelPLatIdeal
    ∧ algebraic_KernelPLatIdeal_ReferencePLatIdeal (hKernelPLatIdeal := hKernelPLatIdeal) (hReferencePLatIdeal := hReferencePLatIdeal)
    ∧ preserves_KernelQUp_KernelQUpIdeal
    ∧ algebraic_KernelQUpIdeal_ReferenceQUpIdeal (hKernelQUpIdeal := hKernelQUpIdeal) (hReferenceQUpIdeal := hReferenceQUpIdeal)
    ∧ preserves_KernelKvUp_KernelKvUpIdeal
    ∧ algebraic_KernelKvUpIdeal_ReferenceKvUpIdeal (hKernelKvUpIdeal := hKernelKvUpIdeal) (hReferenceKvUpIdeal := hReferenceKvUpIdeal)
    ∧ preserves_KernelPleG_KernelPleGIdeal
    ∧ algebraic_KernelPleGIdeal_ReferencePleGIdeal (hKernelPleGIdeal := hKernelPleGIdeal) (hReferencePleGIdeal := hReferencePleGIdeal)
    ∧ preserves_KernelPleN_KernelPleNIdeal
    ∧ algebraic_KernelPleNIdeal_ReferencePleNIdeal (hKernelPleNIdeal := hKernelPleNIdeal) (hReferencePleNIdeal := hReferencePleNIdeal)
    ∧ preserves_KernelWLat_KernelWLatIdeal
    ∧ algebraic_KernelWLatIdeal_ReferenceWLatIdeal (hKernelWLatIdeal := hKernelWLatIdeal) (hReferenceWLatIdeal := hReferenceWLatIdeal)
    ∧ preserves_KernelWUq_KernelWUqIdeal
    ∧ algebraic_KernelWUqIdeal_ReferenceWUqIdeal (hKernelWUqIdeal := hKernelWUqIdeal) (hReferenceWUqIdeal := hReferenceWUqIdeal)
    ∧ preserves_KernelWUkv_KernelWUkvIdeal
    ∧ algebraic_KernelWUkvIdeal_ReferenceWUkvIdeal (hKernelWUkvIdeal := hKernelWUkvIdeal) (hReferenceWUkvIdeal := hReferenceWUkvIdeal)
    ∧ preserves_KernelCq_KernelCqIdeal
    ∧ algebraic_KernelCqIdeal_ReferenceCqIdeal (hKernelCqIdeal := hKernelCqIdeal) (hReferenceCqIdeal := hReferenceCqIdeal)
    ∧ preserves_KernelCkv_KernelCkvIdeal
    ∧ algebraic_KernelCkvIdeal_ReferenceCkvIdeal (hKernelCkvIdeal := hKernelCkvIdeal) (hReferenceCkvIdeal := hReferenceCkvIdeal)
    ∧ preserves_KernelOMla_KernelOMlaIdeal
    ∧ algebraic_KernelOMlaIdeal_ReferenceOMlaIdeal (hKernelOMlaIdeal := hKernelOMlaIdeal) (hReferenceOMlaIdeal := hReferenceOMlaIdeal)
    ∧ preserves_KernelRms_KernelRmsIdeal
    ∧ algebraic_KernelRmsIdeal_ReferenceRmsIdeal (hKernelRmsIdeal := hKernelRmsIdeal) (hReferenceRmsIdeal := hReferenceRmsIdeal)
    ∧ preserves_KernelGMerge_KernelGMergeIdeal
    ∧ algebraic_KernelGMergeIdeal_ReferenceGMergeIdeal (hKernelGMergeIdeal := hKernelGMergeIdeal) (hReferenceGMergeIdeal := hReferenceGMergeIdeal)
    ∧ preserves_KernelGBwd_KernelGBwdIdeal
    ∧ algebraic_KernelGBwdIdeal_ReferenceGBwdIdeal (hKernelGBwdIdeal := hKernelGBwdIdeal) (hReferenceGBwdIdeal := hReferenceGBwdIdeal)
    ∧ preserves_KernelRmsB_KernelRmsBIdeal
    ∧ algebraic_KernelRmsBIdeal_ReferenceRmsBIdeal (hKernelRmsBIdeal := hKernelRmsBIdeal) (hReferenceRmsBIdeal := hReferenceRmsBIdeal)
    ∧ preserves_KernelLatF_KernelLatFIdeal
    ∧ algebraic_KernelLatFIdeal_ReferenceLatFIdeal (hKernelLatFIdeal := hKernelLatFIdeal) (hReferenceLatFIdeal := hReferenceLatFIdeal)
    ∧ preserves_KernelLatB_KernelLatBIdeal
    ∧ algebraic_KernelLatBIdeal_ReferenceLatBIdeal (hKernelLatBIdeal := hKernelLatBIdeal) (hReferenceLatBIdeal := hReferenceLatBIdeal)
    ∧ preserves_KernelPle_KernelPleIdeal
    ∧ algebraic_KernelPleIdeal_ReferencePleIdeal (hKernelPleIdeal := hKernelPleIdeal) (hReferencePleIdeal := hReferencePleIdeal)
    ∧ preserves_KernelDelta_KernelDeltaIdeal
    ∧ algebraic_KernelDeltaIdeal_ReferenceDeltaIdeal (hKernelDeltaIdeal := hKernelDeltaIdeal) (hReferenceDeltaIdeal := hReferenceDeltaIdeal)
    ∧ preserves_KernelDMerge_KernelDMergeIdeal
    ∧ algebraic_KernelDMergeIdeal_ReferenceDMergeIdeal (hKernelDMergeIdeal := hKernelDMergeIdeal) (hReferenceDMergeIdeal := hReferenceDMergeIdeal)
    ∧ preserves_KernelGains_KernelGainsIdeal
    ∧ algebraic_KernelGainsIdeal_ReferenceGainsIdeal (hKernelGainsIdeal := hKernelGainsIdeal) (hReferenceGainsIdeal := hReferenceGainsIdeal)
-- ==== Pre_finite.lean ====
abbrev S8192x3072 : Shape := ⟨2, ![8192, 3072]⟩
abbrev S8192x1024 : Shape := ⟨2, ![8192, 1024]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x3072 .f32) (main_arg1 : FVec F S8192x3072 .f32) (main_arg2 : FVec F S8192x3072 .f32) (main_arg3 : FVec F S8192x1024 .f32) : IVec S_ 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S8192x3072 .f32 := Host.absf main_arg1
  let main_cst_0 : FVec F S_ .f32 := constant S_ .f32 0x7F800000#32
  let main_v5 : FVec F S8192x3072 .f32 := broadcastInDim S8192x3072 ![] bcast_S_S8192x3072 main_cst_0
  let main_v6 : IVec S8192x3072 1 := cmpf .olt main_v4 main_v5
  let main_c_1 : IVec S_ 1 := constantI S_ 1 1#1
  let main_v7 : IVec S_ 1 := (fun x v => Host.reduce IntOp.andi x v reducesTo_S8192x3072_S_d0_1 h_S_) main_v6 main_c_1
  let main_v8 : IVec S_ 1 := andi main_v3 main_v7
  let main_v9 : FVec F S8192x3072 .f32 := Host.absf main_arg2
  let main_cst_2 : FVec F S_ .f32 := constant S_ .f32 0x7F800000#32
  let main_v10 : FVec F S8192x3072 .f32 := broadcastInDim S8192x3072 ![] bcast_S_S8192x3072 main_cst_2
  let main_v11 : IVec S8192x3072 1 := cmpf .olt main_v9 main_v10
  let main_c_3 : IVec S_ 1 := constantI S_ 1 1#1
  let main_v12 : IVec S_ 1 := (fun x v => Host.reduce IntOp.andi x v reducesTo_S8192x3072_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_finite_act.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S8192x5632 : S_.BroadcastsInDim S8192x5632 (![] : Fin 0 → Fin S8192x5632.rank)
  reducesTo_S8192x5632_S_d0_1 : S8192x5632.ReducesTo [0, 1] S_

variable [Facts]

def fn {F : FTy → Type} [FloatOps F] (main_arg0 : FVec F S8192x2048 .f32) (main_arg1 : FVec F S5632x2048 .f32) (main_arg2 : FVec F S8192x5632 .f32) (main_arg3 : FVec F S8192x5632 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S5632x2048 .f32 := Host.absf main_arg1
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S8192x5632 .f32 := Host.absf main_arg3
  let main_cst_2 : FVec F S_ .f32 := constant S_ .f32 0x7F800000#32
  let main_v10 : FVec F S8192x5632 .f32 := broadcastInDim S8192x5632 ![] bcast_S_S8192x5632 main_cst_2
  let main_v11 : IVec S8192x5632 1 := cmpf .olt main_v9 main_v10
  let main_c_3 : IVec S_ 1 := constantI S_ 1 1#1
  let main_v12 : IVec S_ 1 := (fun x v => Host.reduce IntOp.andi x v reducesTo_S8192x5632_S_d0_1 h_S_) main_v11 main_c_3
  let main_v13 : IVec S_ 1 := andi main_v8 main_v12
  main_v13
-- ==== Kernel.lean ====
abbrev S8192x3072 : Shape := ⟨2, ![8192, 3072]⟩
abbrev S8192x1024 : Shape := ⟨2, ![8192, 1024]⟩
abbrev S8192x8192 : Shape := ⟨2, ![8192, 8192]⟩
abbrev S_ : Shape := ⟨0, ![]⟩
abbrev S8192x8x128 : Shape := ⟨3, ![8192, 8, 128]⟩
abbrev S8x8192x8192 : Shape := ⟨3, ![8, 8192, 8192]⟩
abbrev S8x8192x24576 : Shape := ⟨3, ![8, 8192, 24576]⟩
abbrev S8x8192 : Shape := ⟨2, ![8, 8192]⟩
abbrev S8x8192x1 : Shape := ⟨3, ![8, 8192, 1]⟩
abbrev S24576x8x128 : Shape := ⟨3, ![24576, 8, 128]⟩
abbrev S8x128x8192 : Shape := ⟨3, ![8, 128, 8192]⟩
abbrev S8192x8 : Shape := ⟨2, ![8192, 8]⟩
abbrev S8192x8x1 : Shape := ⟨3, ![8192, 8, 1]⟩
abbrev S1024x128 : Shape := ⟨2, ![1024, 128]⟩
abbrev S128x256 : Shape := ⟨2, ![128, 256]⟩
abbrev S128x128 : Shape := ⟨2, ![128, 128]⟩
abbrev S256x128 : Shape := ⟨2, ![256, 128]⟩

abbrev nBuf : Space → Nat
  | .hbm => 116
  | .vmem => 30
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .f32⟩
  | .hbm, ⟨3, _⟩ => ⟨S8192x1024, .f32⟩
  | .hbm, ⟨4, _⟩ => ⟨S8192x8192, .i32⟩
  | .hbm, ⟨5, _⟩ => ⟨S8192x8192, .i32⟩
  | .hbm, ⟨6, _⟩ => ⟨S8192x8192, .i32⟩
  | .hbm, ⟨7, _⟩ => ⟨S_, .i32⟩
  | .hbm, ⟨8, _⟩ => ⟨S8192x8192, .i32⟩
  | .hbm, ⟨9, _⟩ => ⟨S8192x8192, .i1⟩
  | .hbm, ⟨10, _⟩ => ⟨S_, .i32⟩
  | .hbm, ⟨11, _⟩ => ⟨S8192x8192, .i32⟩
  | .hbm, ⟨12, _⟩ => ⟨S8192x8192, .i1⟩
  | .hbm, ⟨13, _⟩ => ⟨S8192x8192, .i1⟩
  | .hbm, ⟨14, _⟩ => ⟨S_, .i32⟩
  | .hbm, ⟨15, _⟩ => ⟨S8192x8192, .i32⟩
  | .hbm, ⟨16, _⟩ => ⟨S8192x8192, .i32⟩
  | .hbm, ⟨17, _⟩ => ⟨S_, .i32⟩
  | .hbm, ⟨18, _⟩ => ⟨S8192x8192, .i32⟩
  | .hbm, ⟨19, _⟩ => ⟨S8192x8192, .i1⟩
  | .hbm, ⟨20, _⟩ => ⟨S8192x8192, .i1⟩
  | .hbm, ⟨21, _⟩ => ⟨S8192x1024, .f32⟩
  | .hbm, ⟨22, _⟩ => ⟨S8192x8x128, .f32⟩
  | .hbm, ⟨23, _⟩ => ⟨S8192x1024, .f32⟩
  | .hbm, ⟨24, _⟩ => ⟨S8192x8x128, .f32⟩
  | .hbm, ⟨25, _⟩ => ⟨S8x8192x8192, .f32⟩
  | .hbm, ⟨26, _⟩ => ⟨S_, .f32⟩
  | .hbm, ⟨27, _⟩ => ⟨S_, .f32⟩
  | .hbm, ⟨28, _⟩ => ⟨S8x8192x8192, .i1⟩
  | .hbm, ⟨29, _⟩ => ⟨S8x8192x8192, .f32⟩
  | .hbm, ⟨30, _⟩ => ⟨S8x8192x8192, .f32⟩
  | .hbm, ⟨31, _⟩ => ⟨S_, .i32⟩
  | .hbm, ⟨32, _⟩ => ⟨S8192x8192, .i32⟩
  | .hbm, ⟨33, _⟩ => ⟨S8192x8192, .i1⟩
  | .hbm, ⟨34, _⟩ => ⟨S_, .i32⟩
  | .hbm, ⟨35, _⟩ => ⟨S8192x8192, .i32⟩
  | .hbm, ⟨36, _⟩ => ⟨S8192x8192, .i1⟩
  | .hbm, ⟨37, _⟩ => ⟨S8192x8192, .i1⟩
  | .hbm, ⟨38, _⟩ => ⟨S_, .i32⟩
  | .hbm, ⟨39, _⟩ => ⟨S8192x8192, .i32⟩
  | .hbm, ⟨40, _⟩ => ⟨S8192x8192, .i32⟩
  | .hbm, ⟨41, _⟩ => ⟨S_, .i32⟩
  | .hbm, ⟨42, _⟩ => ⟨S8192x8192, .i32⟩
  | .hbm, ⟨43, _⟩ => ⟨S8192x8192, .i1⟩
  | .hbm, ⟨44, _⟩ => ⟨S8192x8192, .i1⟩
  | .hbm, ⟨45, _⟩ => ⟨S8192x1024, .f32⟩
  | .hbm, ⟨46, _⟩ => ⟨S8192x8x128, .f32⟩
  | .hbm, ⟨47, _⟩ => ⟨S8192x1024, .f32⟩
  | .hbm, ⟨48, _⟩ => ⟨S8192x8x128, .f32⟩
  | .hbm, ⟨49, _⟩ => ⟨S8x8192x8192, .f32⟩
  | .hbm, ⟨50, _⟩ => ⟨S_, .f32⟩
  | .hbm, ⟨51, _⟩ => ⟨S_, .f32⟩
  | .hbm, ⟨52, _⟩ => ⟨S8x8192x8192, .i1⟩
  | .hbm, ⟨53, _⟩ => ⟨S8x8192x8192, .f32⟩
  | .hbm, ⟨54, _⟩ => ⟨S8x8192x8192, .f32⟩
  | .hbm, ⟨55, _⟩ => ⟨S_, .i32⟩
  | .hbm, ⟨56, _⟩ => ⟨S8192x8192, .i32⟩
  | .hbm, ⟨57, _⟩ => ⟨S8192x8192, .i1⟩
  | .hbm, ⟨58, _⟩ => ⟨S_, .i32⟩
  | .hbm, ⟨59, _⟩ => ⟨S8192x8192, .i32⟩
  | .hbm, ⟨60, _⟩ => ⟨S8192x8192, .i1⟩
  | .hbm, ⟨61, _⟩ => ⟨S8192x8192, .i1⟩
  | .hbm, ⟨62, _⟩ => ⟨S_, .i32⟩
  | .hbm, ⟨63, _⟩ => ⟨S8192x8192, .i32⟩
  | .hbm, ⟨64, _⟩ => ⟨S8192x8192, .i32⟩
  | .hbm, ⟨65, _⟩ => ⟨S_, .i32⟩
  | .hbm, ⟨66, _⟩ => ⟨S8192x8192, .i32⟩
  | .hbm, ⟨67, _⟩ => ⟨S8192x8192, .i1⟩
  | .hbm, ⟨68, _⟩ => ⟨S8192x8192, .i1⟩
  | .hbm, ⟨69, _⟩ => ⟨S8192x1024, .f32⟩
  | .hbm, ⟨70, _⟩ => ⟨S8192x8x128, .f32⟩
  | .hbm, ⟨71, _⟩ => ⟨S8192x1024, .f32⟩
  | .hbm, ⟨72, _⟩ => ⟨S8192x8x128, .f32⟩
  | .hbm, ⟨73, _⟩ => ⟨S8x8192x8192, .f32⟩
  | .hbm, ⟨74, _⟩ => ⟨S_, .f32⟩
  | .hbm, ⟨75, _⟩ => ⟨S_, .f32⟩
  | .hbm, ⟨76, _⟩ => ⟨S8x8192x8192, .i1⟩
  | .hbm, ⟨77, _⟩ => ⟨S8x8192x8192, .f32⟩
  | .hbm, ⟨78, _⟩ => ⟨S8x8192x8192, .f32⟩
  | .hbm, ⟨79, _⟩ => ⟨S8x8192x24576, .f32⟩
  | .hbm, ⟨80, _⟩ => ⟨S_, .f32⟩
  | .hbm, ⟨81, _⟩ => ⟨S8x8192, .f32⟩
  | .hbm, ⟨82, _⟩ => ⟨S8x8192x1, .f32⟩
  | .hbm, ⟨83, _⟩ => ⟨S8x8192x24576, .f32⟩
  | .hbm, ⟨84, _⟩ => ⟨S8x8192x24576, .f32⟩
  | .hbm, ⟨85, _⟩ => ⟨S8x8192x24576, .f32⟩
  | .hbm, ⟨86, _⟩ => ⟨S_, .f32⟩
  | .hbm, ⟨87, _⟩ => ⟨S8x8192, .f32⟩
  | .hbm, ⟨88, _⟩ => ⟨S8x8192x1, .f32⟩
  | .hbm, ⟨89, _⟩ => ⟨S8x8192x24576, .f32⟩
  | .hbm, ⟨90, _⟩ => ⟨S8x8192x24576, .f32⟩
  | .hbm, ⟨91, _⟩ => ⟨S8192x1024, .f32⟩
  | .hbm, ⟨92, _⟩ => ⟨S8192x8x128, .f32⟩
  | .hbm, ⟨93, _⟩ => ⟨S8192x1024, .f32⟩
  | .hbm, ⟨94, _⟩ => ⟨S8192x8x128, .f32⟩
  | .hbm, ⟨95, _⟩ => ⟨S8192x1024, .f32⟩
  | .hbm, ⟨96, _⟩ => ⟨S8192x8x128, .f32⟩
  | .hbm, ⟨97, _⟩ => ⟨S24576x8x128, .f32⟩
  | .hbm, ⟨98, _⟩ => ⟨S8x128x8192, .f32⟩
  | .hbm, ⟨99, _⟩ => ⟨S8192x8x128, .f32⟩
  | .hbm, ⟨100, _⟩ => ⟨S8192x8x128, .f32⟩
  | .hbm, ⟨101, _⟩ => ⟨S8192x8x128, .f32⟩
  | .hbm, ⟨102, _⟩ => ⟨S_, .f32⟩
  | .hbm, ⟨103, _⟩ => ⟨S8192x8, .f32⟩
  | .hbm, ⟨104, _⟩ => ⟨S8192x8x1, .f32⟩
  | .hbm, ⟨105, _⟩ => ⟨S8192x8x128, .f32⟩
  | .hbm, ⟨106, _⟩ => ⟨S8192x1024, .f32⟩
  | .hbm, ⟨107, _⟩ => ⟨S8x8192, .f32⟩
  | .hbm, ⟨108, _⟩ => ⟨S8x8192, .f32⟩
  | .hbm, ⟨109, _⟩ => ⟨S8192x8, .f32⟩
  | .hbm, ⟨110, _⟩ => ⟨S8192x8x1, .f32⟩
  | .hbm, ⟨111, _⟩ => ⟨S8192x8x128, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_10 : Ref sig .tc := ⟨.hbm, 62, rfl⟩
abbrev main_v40 : Ref sig .tc := ⟨.hbm, 63, rfl⟩
abbrev main_v41 : Ref sig .tc := ⟨.hbm, 64, rfl⟩
abbrev main_c_11 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_12 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v50 : Ref sig .tc := ⟨.hbm, 78, rfl⟩
abbrev main_v51 : Ref sig .tc := ⟨.hbm, 79, rfl⟩
abbrev main_cst_13 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_14 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_15 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82_0 : Ref sig .tc := ⟨.hbm, 113, rfl⟩
abbrev main_v82_1 : Ref sig .tc := ⟨.hbm, 114, rfl⟩
abbrev main_v82_2 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 32 := Scalar.addi c0_i32_0 arg1
  let c0_i32_1 : BitVec 32 := 0#32
  ![v1.toNat, v2.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 32 := Scalar.addi c0_i32_0 arg1
  let c0_i32_1 : BitVec 32 := 0#32
  ![v1.toNat, v2.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c7_i32 : BitVec 32 := 7#32
  let v1 : BitVec 32 := Scalar.minsi v0 c7_i32
  let c0_i32 : BitVec 32 := 0#32
  let v2 : BitVec 32 := Scalar.addi c0_i32 arg1
  let c0_i32_0 : BitVec 32 := 0#32
  ![v1.toNat, v2.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c7_i32 : BitVec 32 := 7#32
  let v1 : BitVec 32 := Scalar.minsi v0 c7_i32
  let c0_i32 : BitVec 32 := 0#32
  ![v1.toNat, arg1.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c7_i32 : BitVec 32 := 7#32
  let v1 : BitVec 32 := Scalar.minsi v0 c7_i32
  let c0_i32 : BitVec 32 := 0#32
  ![v1.toNat, arg1.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c7_i32 : BitVec 32 := 7#32
  let v1 : BitVec 32 := Scalar.minsi v0 c7_i32
  let c0_i32 : BitVec 32 := 0#32
  ![v1.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x3072 : Shape := ⟨2, ![8192, 3072]⟩
abbrev S8192x1024 : Shape := ⟨2, ![8192, 1024]⟩
abbrev S8192x8192 : Shape := ⟨2, ![8192, 8192]⟩
abbrev S_ : Shape := ⟨0, ![]⟩
abbrev S8192x8x128 : Shape := ⟨3, ![8192, 8, 128]⟩
abbrev S8x8192x8192 : Shape := ⟨3, ![8, 8192, 8192]⟩
abbrev S8x8192x24576 : Shape := ⟨3, ![8, 8192, 24576]⟩
abbrev S8x8192 : Shape := ⟨2, ![8, 8192]⟩
abbrev S8x8192x1 : Shape := ⟨3, ![8, 8192, 1]⟩
abbrev S24576x8x128 : Shape := ⟨3, ![24576, 8, 128]⟩
abbrev S8x128x8192 : Shape := ⟨3, ![8, 128, 8192]⟩
abbrev S8x128x24576 : Shape := ⟨3, ![8, 128, 24576]⟩
abbrev S8x8192x128 : Shape := ⟨3, ![8, 8192, 128]⟩

abbrev nBuf : Space → Nat
  | .hbm => 216
  | .vmem => 0
  | .smem => 0
  | _ => 0

abbrev hbmTy0_0 (i : Nat) : BufTy := match i % 128 with
  | 0 => ⟨S8192x3072, .f32⟩
  | 1 => ⟨S8192x3072, .f32⟩
  | 2 => ⟨S8192x3072, .f32⟩
  | 3 => ⟨S8192x1024, .f32⟩
  | 4 => ⟨S8192x8192, .i32⟩
  | 5 => ⟨S8192x8192, .i32⟩
  | 6 => ⟨S8192x8192, .i32⟩
  | 7 => ⟨S_, .i32⟩
  | 8 => ⟨S8192x8192, .i32⟩
  | 9 => ⟨S8192x8192, .i1⟩
  | 10 => ⟨S_, .i32⟩
  | 11 => ⟨S8192x8192, .i32⟩
  | 12 => ⟨S8192x8192, .i1⟩
  | 13 => ⟨S8192x8192, .i1⟩
  | 14 => ⟨S_, .i32⟩
  | 15 => ⟨S8192x8192, .i32⟩
  | 16 => ⟨S8192x8192, .i32⟩
  | 17 => ⟨S_, .i32⟩
  | 18 => ⟨S8192x8192, .i32⟩
  | 19 => ⟨S8192x8192, .i1⟩
  | 20 => ⟨S8192x8192, .i1⟩
  | 21 => ⟨S8192x1024, .f32⟩
  | 22 => ⟨S8192x8x128, .f32⟩
  | 23 => ⟨S8192x1024, .f32⟩
  | 24 => ⟨S8192x8x128, .f32⟩
  | 25 => ⟨S8x8192x8192, .f32⟩
  | 26 => ⟨S_, .f32⟩
  | 27 => ⟨S_, .f32⟩
  | 28 => ⟨S8x8192x8192, .i1⟩
  | 29 => ⟨S8x8192x8192, .f32⟩
  | 30 => ⟨S8x8192x8192, .f32⟩
  | 31 => ⟨S_, .f32⟩
  | 32 => ⟨S8x8192x8192, .f32⟩
  | 33 => ⟨S_, .i32⟩
  | 34 => ⟨S8192x8192, .i32⟩
  | 35 => ⟨S8192x8192, .i1⟩
  | 36 => ⟨S_, .i32⟩
  | 37 => ⟨S8192x8192, .i32⟩
  | 38 => ⟨S8192x8192, .i1⟩
  | 39 => ⟨S8192x8192, .i1⟩
  | 40 => ⟨S_, .i32⟩
  | 41 => ⟨S8192x8192, .i32⟩
  | 42 => ⟨S8192x8192, .i32⟩
  | 43 => ⟨S_, .i32⟩
  | 44 => ⟨S8192x8192, .i32⟩
  | 45 => ⟨S8192x8192, .i1⟩
  | 46 => ⟨S8192x8192, .i1⟩
  | 47 => ⟨S8192x1024, .f32⟩
  | 48 => ⟨S8192x8x128, .f32⟩
  | 49 => ⟨S8192x1024, .f32⟩
  | 50 => ⟨S8192x8x128, .f32⟩
  | 51 => ⟨S8x8192x8192, .f32⟩
  | 52 => ⟨S_, .f32⟩
  | 53 => ⟨S_, .f32⟩
  | 54 => ⟨S8x8192x8192, .i1⟩
  | 55 => ⟨S8x8192x8192, .f32⟩
  | 56 => ⟨S8x8192x8192, .f32⟩
  | 57 => ⟨S_, .f32⟩
  | 58 => ⟨S8x8192x8192, .f32⟩
  | 59 => ⟨S_, .i32⟩
  | 60 => ⟨S8192x8192, .i32⟩
  | 61 => ⟨S8192x8192, .i1⟩
  | 62 => ⟨S_, .i32⟩
  | 63 => ⟨S8192x8192, .i32⟩
  | 64 => ⟨S8192x8192, .i1⟩
  | 65 => ⟨S8192x8192, .i1⟩
  | 66 => ⟨S_, .i32⟩
  | 67 => ⟨S8192x8192, .i32⟩
  | 68 => ⟨S8192x8192, .i32⟩
  | 69 => ⟨S_, .i32⟩
  | 70 => ⟨S8192x8192, .i32⟩
  | 71 => ⟨S8192x8192, .i1⟩
  | 72 => ⟨S8192x8192, .i1⟩
  | 73 => ⟨S8192x1024, .f32⟩
  | 74 => ⟨S8192x8x128, .f32⟩
  | 75 => ⟨S8192x1024, .f32⟩
  | 76 => ⟨S8192x8x128, .f32⟩
  | 77 => ⟨S8x8192x8192, .f32⟩
  | 78 => ⟨S_, .f32⟩
  | 79 => ⟨S_, .f32⟩
  | 80 => ⟨S8x8192x8192, .i1⟩
  | 81 => ⟨S8x8192x8192, .f32⟩
  | 82 => ⟨S8x8192x8192, .f32⟩
  | 83 => ⟨S_, .f32⟩
  | 84 => ⟨S8x8192x8192, .f32⟩
  | 85 => ⟨S8x8192x24576, .f32⟩
  | 86 => ⟨S_, .f32⟩
  | 87 => ⟨S8x8192, .f32⟩
  | 88 => ⟨S8x8192x1, .f32⟩
  | 89 => ⟨S8x8192x24576, .f32⟩
  | 90 => ⟨S8x8192x24576, .i1⟩
  | 91 => ⟨S8x8192x24576, .f32⟩
  | 92 => ⟨S_, .f32⟩
  | 93 => ⟨S8x8192, .f32⟩
  | 94 => ⟨S_, .f32⟩
  | 95 => ⟨S8x8192, .f32⟩
  | 96 => ⟨S8x8192, .f32⟩
  | 97 => ⟨S_, .f32⟩
  | 98 => ⟨S8x8192, .f32⟩
  | 99 => ⟨S8x8192, .i1⟩
  | 100 => ⟨S_, .f32⟩
  | 101 => ⟨S8x8192, .f32⟩
  | 102 => ⟨S8x8192, .i1⟩
  | 103 => ⟨S_, .f32⟩
  | 104 => ⟨S8x8192, .f32⟩
  | 105 => ⟨S_, .f32⟩
  | 106 => ⟨S8x8192, .f32⟩
  | 107 => ⟨S_, .f32⟩
  | 108 => ⟨S8x8192, .f32⟩
  | 109 => ⟨S8x8192, .f32⟩
  | 110 => ⟨S8x8192, .f32⟩
  | 111 => ⟨S8x8192x1, .f32⟩
  | 112 => ⟨S8x8192x24576, .f32⟩
  | 113 => ⟨S8x8192x24576, .f32⟩
  | 114 => ⟨S8x8192x24576, .f32⟩
  | 115 => ⟨S_, .f32⟩
  | 116 => ⟨S8x8192, .f32⟩
  | 117 => ⟨S8x8192x1, .f32⟩
  | 118 => ⟨S8x8192x24576, .f32⟩
  | 119 => ⟨S8x8192x24576, .f32⟩
  | 120 => ⟨S8x8192x1, .f32⟩
  | 121 => ⟨S_, .f32⟩
  | 122 => ⟨S8x8192x1, .f32⟩
  | 123 => ⟨S8x8192x1, .f32⟩
  | 124 => ⟨S8192x1024, .f32⟩
  | 125 => ⟨S8192x8x128, .f32⟩
  | 126 => ⟨S8192x1024, .f32⟩
  | 127 => ⟨S8192x8x128, .f32⟩
  | _ => ⟨S8192x3072, .f32⟩

abbrev hbmTy0_1 (i : Nat) : BufTy := match i % 128 with
  | 0 => ⟨S8192x1024, .f32⟩
  | 1 => ⟨S8192x8x128, .f32⟩
  | 2 => ⟨S24576x8x128, .f32⟩
  | 3 => ⟨S8x128x8192, .f32⟩
  | 4 => ⟨S8192x8x128, .f32⟩
  | 5 => ⟨S8192x1024, .f32⟩
  | 6 => ⟨S8192x8x128, .f32⟩
  | 7 => ⟨S8x128x8192, .f32⟩
  | 8 => ⟨S8x8192x24576, .f32⟩
  | 9 => ⟨S8x128x24576, .f32⟩
  | 10 => ⟨S24576x8x128, .f32⟩
  | 11 => ⟨S8192x8x128, .f32⟩
  | 12 => ⟨S8192x8x128, .f32⟩
  | 13 => ⟨S8192x8x128, .f32⟩
  | 14 => ⟨S8192x1024, .f32⟩
  | 15 => ⟨S_, .f32⟩
  | 16 => ⟨S8192x3072, .f32⟩
  | 17 => ⟨S8192x1024, .f32⟩
  | 18 => ⟨S_, .f32⟩
  | 19 => ⟨S8192x3072, .f32⟩
  | 20 => ⟨S8192x3072, .f32⟩
  | 21 => ⟨S8192x1024, .f32⟩
  | 22 => ⟨S_, .f32⟩
  | 23 => ⟨S8192x3072, .f32⟩
  | 24 => ⟨S8192x3072, .f32⟩
  | 25 => ⟨S8x8192x24576, .f32⟩
  | 26 => ⟨S8x8192x24576, .f32⟩
  | 27 => ⟨S8x8192x24576, .f32⟩
  | 28 => ⟨S_, .f32⟩
  | 29 => ⟨S8x8192, .f32⟩
  | 30 => ⟨S8x8192x1, .f32⟩
  | 31 => ⟨S8x8192x1, .f32⟩
  | 32 => ⟨S8x8192x24576, .f32⟩
  | 33 => ⟨S8x8192x24576, .f32⟩
  | 34 => ⟨S_, .f32⟩
  | 35 => ⟨S8x8192, .f32⟩
  | 36 => ⟨S8x8192x24576, .f32⟩
  | 37 => ⟨S8x8192x24576, .f32⟩
  | 38 => ⟨S8x8192x24576, .f32⟩
  | 39 => ⟨S8x8192x8192, .f32⟩
  | 40 => ⟨S8x8192x8192, .f32⟩
  | 41 => ⟨S8x8192x8192, .f32⟩
  | 42 => ⟨S_, .f32⟩
  | 43 => ⟨S8x8192x8192, .f32⟩
  | 44 => ⟨S8x8192x8192, .f32⟩
  | 45 => ⟨S8x8192x128, .f32⟩
  | 46 => ⟨S8192x8x128, .f32⟩
  | 47 => ⟨S8x8192x128, .f32⟩
  | 48 => ⟨S8192x8x128, .f32⟩
  | 49 => ⟨S8192x1024, .f32⟩
  | 50 => ⟨S_, .f32⟩
  | 51 => ⟨S8192x3072, .f32⟩
  | 52 => ⟨S8192x1024, .f32⟩
  | 53 => ⟨S_, .f32⟩
  | 54 => ⟨S8192x3072, .f32⟩
  | 55 => ⟨S_, .f32⟩
  | 56 => ⟨S8x8192x8192, .f32⟩
  | 57 => ⟨S8x8192x8192, .f32⟩
  | 58 => ⟨S8x8192x128, .f32⟩
  | 59 => ⟨S8192x8x128, .f32⟩
  | 60 => ⟨S8x8192x128, .f32⟩
  | 61 => ⟨S8192x8x128, .f32⟩
  | 62 => ⟨S8192x1024, .f32⟩
  | 63 => ⟨S_, .f32⟩
  | 64 => ⟨S8192x3072, .f32⟩
  | 65 => ⟨S8192x3072, .f32⟩
  | 66 => ⟨S8192x1024, .f32⟩
  | 67 => ⟨S_, .f32⟩
  | 68 => ⟨S8192x3072, .f32⟩
  | 69 => ⟨S8192x3072, .f32⟩
  | 70 => ⟨S_, .f32⟩
  | 71 => ⟨S8x8192x8192, .f32⟩
  | 72 => ⟨S8x8192x8192, .f32⟩
  | 73 => ⟨S8x8192x128, .f32⟩
  | 74 => ⟨S8192x8x128, .f32⟩
  | 75 => ⟨S8x8192x128, .f32⟩
  | 76 => ⟨S8192x8x128, .f32⟩
  | 77 => ⟨S8192x1024, .f32⟩
  | 78 => ⟨S_, .f32⟩
  | 79 => ⟨S8192x3072, .f32⟩
  | 80 => ⟨S8192x3072, .f32⟩
  | 81 => ⟨S8192x1024, .f32⟩
  | 82 => ⟨S_, .f32⟩
  | 83 => ⟨S8192x3072, .f32⟩
  | 84 => ⟨S8192x3072, .f32⟩
  | 85 => ⟨S8192x1024, .f32⟩
  | 86 => ⟨S8192x1024, .f32⟩
  | 87 => ⟨S8192x1024, .f32⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_call0_v0 : Ref sig .tc := ⟨.hbm, 27, rfl⟩
abbrev main_v18_1 : Ref sig .tc := ⟨.hbm, 28, rfl⟩
abbrev main_call0_v2 : Ref sig .tc := ⟨.hbm, 29, rfl⟩
abbrev main_v18_0 : Ref sig .tc := ⟨.hbm, 30, rfl⟩
abbrev main_call0_cst : Ref sig .tc := ⟨.hbm, 31, rfl⟩
abbrev main_v18_2 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_call1_v0 : Ref sig .tc := ⟨.hbm, 53, rfl⟩
abbrev main_v34_1 : Ref sig .tc := ⟨.hbm, 54, rfl⟩
abbrev main_call1_v2 : Ref sig .tc := ⟨.hbm, 55, rfl⟩
abbrev main_v34_0 : Ref sig .tc := ⟨.hbm, 56, rfl⟩
abbrev main_call1_cst : Ref sig .tc := ⟨.hbm, 57, rfl⟩
abbrev main_v34_2 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_c_9 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_10 : Ref sig .tc := ⟨.hbm, 66, rfl⟩
abbrev main_v40 : Ref sig .tc := ⟨.hbm, 67, rfl⟩
abbrev main_v41 : Ref sig .tc := ⟨.hbm, 68, rfl⟩
abbrev main_c_11 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_12 : Ref sig .tc := ⟨.hbm, 78, rfl⟩
abbrev main_call2_v0 : Ref sig .tc := ⟨.hbm, 79, rfl⟩
abbrev main_v50_1 : Ref sig .tc := ⟨.hbm, 80, rfl⟩
abbrev main_call2_v2 : Ref sig .tc := ⟨.hbm, 81, rfl⟩
abbrev main_v50_0 : Ref sig .tc := ⟨.hbm, 82, rfl⟩
abbrev main_call2_cst : Ref sig .tc := ⟨.hbm, 83, rfl⟩
abbrev main_v50_2 : Ref sig .tc := ⟨.hbm, 84, rfl⟩
abbrev main_v51 : Ref sig .tc := ⟨.hbm, 85, rfl⟩
abbrev main_cst_13 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_14 : Ref sig .tc := ⟨.hbm, 92, rfl⟩
abbrev main_v57 : Ref sig .tc := ⟨.hbm, 93, rfl⟩
abbrev main_cst_15 : Ref sig .tc := ⟨.hbm, 94, rfl⟩
abbrev main_v58 : Ref sig .tc := ⟨.hbm, 95, rfl⟩
abbrev main_v59 : Ref sig .tc := ⟨.hbm, 96, rfl⟩
abbrev main_cst_16 : Ref sig .tc := ⟨.hbm, 97, rfl⟩
abbrev main_v60 : Ref sig .tc := ⟨.hbm, 98, rfl⟩
abbrev main_v61 : Ref sig .tc := ⟨.hbm, 99, rfl⟩
abbrev main_cst_17 : Ref sig .tc := ⟨.hbm, 100, rfl⟩
abbrev main_v62 : Ref sig .tc := ⟨.hbm, 101, rfl⟩
abbrev main_v63 : Ref sig .tc := ⟨.hbm, 102, rfl⟩
abbrev main_cst_18 : Ref sig .tc := ⟨.hbm, 103, rfl⟩
abbrev main_v64 : Ref sig .tc := ⟨.hbm, 104, rfl⟩
abbrev main_cst_19 : Ref sig .tc := ⟨.hbm, 105, rfl⟩
abbrev main_v65 : Ref sig .tc := ⟨.hbm, 106, rfl⟩
abbrev main_cst_20 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_21 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_22 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_23 : Ref sig .tc := ⟨.hbm, 143, rfl⟩
abbrev main_v99 : Ref sig .tc := ⟨.hbm, 144, rfl⟩
abbrev main_v100 : Ref sig .tc := ⟨.hbm, 145, rfl⟩
abbrev main_cst_24 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_25 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_26 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_27 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_call3_cst : Ref sig .tc := ⟨.hbm, 170, rfl⟩
abbrev main_call3_v0 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_28 : Ref sig .tc := ⟨.hbm, 178, rfl⟩
abbrev main_v127 : Ref sig .tc := ⟨.hbm, 179, rfl⟩
abbrev main_v128 : Ref sig .tc := ⟨.hbm, 180, rfl⟩
abbrev main_cst_29 : Ref sig .tc := ⟨.hbm, 181, rfl⟩
abbrev main_v129 : Ref sig .tc := ⟨.hbm, 182, rfl⟩
abbrev main_call4_cst : Ref sig .tc := ⟨.hbm, 183, rfl⟩
abbrev main_call4_v0 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_cst_30 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_cst_31 : Ref sig .tc := ⟨.hbm, 195, rfl⟩
abbrev main_v139 : Ref sig .tc := ⟨.hbm, 196, rfl⟩
abbrev main_v140 : Ref sig .tc := ⟨.hbm, 197, rfl⟩
abbrev main_call5_cst : Ref sig .tc := ⟨.hbm, 198, rfl⟩
abbrev main_call5_v0 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_cst_32 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_cst_33 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩

abbrev nD : Nat := 1
abbrev τ : Topo := Topo.v7x

variable {F : FTy → Type} [FloatOps F]

def κ : String → Option EReal := fun
  | "mask" => some ⊥
  | _ => none
-- ==== KernelWDown.lean ====
abbrev S8192x5632 : Shape := ⟨2, ![8192, 5632]⟩
abbrev S8192x2048 : Shape := ⟨2, ![8192, 2048]⟩
abbrev S5632x2048 : Shape := ⟨2, ![5632, 2048]⟩
abbrev S8192x512 : Shape := ⟨2, ![8192, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S8192x5632, .bf16⟩
  | .hbm, ⟨3, _⟩ => ⟨S8192x2048, .bf16⟩
  | .hbm, ⟨4, _⟩ => ⟨S5632x2048, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWDownIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 14
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S_, .f32⟩
  | .hbm, ⟨3, _⟩ => ⟨S5632x2048, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S2048x5632, .f32⟩
  | .hbm, ⟨12, _⟩ => ⟨S5632x2048, .f32⟩
  | .hbm, ⟨13, _⟩ => ⟨S5632x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== KernelAct.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S8192x5632, .f32⟩
  | .hbm, ⟨3, _⟩ => ⟨S8192x5632, .f32⟩
  | .hbm, ⟨4, _⟩ => ⟨S8192x2048, .bf16⟩
  | .hbm, ⟨5, _⟩ => ⟨S5632x2048, .bf16⟩
  | .hbm, ⟨6, _⟩ => ⟨S8192x5632, .bf16⟩
  | .hbm, ⟨7, _⟩ => ⟨S8192x5632, .bf16⟩
  | .hbm, ⟨8, _⟩ => ⟨S8192x5632, .bf16⟩
  | .hbm, ⟨9, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceActIdeal.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S8192x5632, .f32⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .bf16⟩
  | .hbm, ⟨33, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== KernelWGate.lean ====
abbrev S8192x2048 : Shape := ⟨2, ![8192, 2048]⟩
abbrev S8192x5632 : Shape := ⟨2, ![8192, 5632]⟩
abbrev S2048x5632 : Shape := ⟨2, ![2048, 5632]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8192x2048, .bf16⟩
  | .hbm, ⟨3, _⟩ => ⟨S8192x5632, .bf16⟩
  | .hbm, ⟨4, _⟩ => ⟨S2048x5632, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWGateIdeal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S_, .f32⟩
  | .hbm, ⟨3, _⟩ => ⟨S2048x5632, .f32⟩
  | .hbm, ⟨4, _⟩ => ⟨S8192x5632, .f32⟩
  | .hbm, ⟨5, _⟩ => ⟨S5632x2048, .f32⟩
  | .hbm, ⟨6, _⟩ => ⟨S2048x5632, .f32⟩
  | .hbm, ⟨7, _⟩ => ⟨S2048x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelNorm.lean ====
abbrev S8192x5632 : Shape := ⟨2, ![8192, 5632]⟩
abbrev S2048x5632 : Shape := ⟨2, ![2048, 5632]⟩
abbrev S2048x11264 : Shape := ⟨2, ![2048, 11264]⟩
abbrev S8192x2048 : Shape := ⟨2, ![8192, 2048]⟩
abbrev S1024x2816 : Shape := ⟨2, ![1024, 2816]⟩
abbrev S512x2816 : Shape := ⟨2, ![512, 2816]⟩
abbrev S1024x512 : Shape := ⟨2, ![1024, 512]⟩

abbrev nBuf : Space → Nat
  | .hbm => 9
  | .vmem => 11
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S2048x5632, .f32⟩
  | .hbm, ⟨3, _⟩ => ⟨S2048x5632, .f32⟩
  | .hbm, ⟨4, _⟩ => ⟨S2048x11264, .f32⟩
  | .hbm, ⟨5, _⟩ => ⟨S2048x11264, .bf16⟩
  | .hbm, ⟨6, _⟩ => ⟨S8192x5632, .bf16⟩
  | .hbm, ⟨7, _⟩ => ⟨S8192x5632, .bf16⟩
  | .hbm, ⟨8, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x2816, .bf16⟩
  | .local _ .vmem, ⟨5, _⟩ => ⟨S1024x2816, .bf16⟩
  | .local _ .vmem, ⟨6, _⟩ => ⟨S512x2816, .bf16⟩
  | .local _ .vmem, ⟨7, _⟩ => ⟨S512x2816, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 2], ![false, false, false]⟩

def k0_cond3 (i : grid0.Coords) : BitVec 1 :=
  let arg2 : BitVec 32 := BitVec.ofNat 32 (i 2).val
  let c1_i32 : BitVec 32 := 1#32
  let v17 : BitVec 1 := Scalar.cmpi .eq arg2 c1_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceNormIdeal.lean ====
abbrev S8192x5632 : Shape := ⟨2, ![8192, 5632]⟩
abbrev S2048x5632 : Shape := ⟨2, ![2048, 5632]⟩
abbrev S_ : Shape := ⟨0, ![]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S8192x2048, .f32⟩
  | .hbm, ⟨6, _⟩ => ⟨S8192x5632, .f32⟩
  | .hbm, ⟨7, _⟩ => ⟨S8192x5632, .f32⟩
  | .hbm, ⟨8, _⟩ => ⟨S8192x2048, .f32⟩
  | .hbm, ⟨9, _⟩ => ⟨S8192x2048, .f32⟩
  | .hbm, ⟨10, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== KernelWDil.lean ====
abbrev S8192x2048 : Shape := ⟨2, ![8192, 2048]⟩
abbrev S8192x9216 : Shape := ⟨2, ![8192, 9216]⟩
abbrev S2048x9216 : Shape := ⟨2, ![2048, 9216]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x9216, .f32⟩
  | .hbm, ⟨2, _⟩ => ⟨S8192x2048, .bf16⟩
  | .hbm, ⟨3, _⟩ => ⟨S8192x9216, .bf16⟩
  | .hbm, ⟨4, _⟩ => ⟨S2048x9216, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWDilIdeal.lean ====
abbrev S8192x2048 : Shape := ⟨2, ![8192, 2048]⟩
abbrev S8192x9216 : Shape := ⟨2, ![8192, 9216]⟩
abbrev S_ : Shape := ⟨0, ![]⟩
abbrev S2048x9216 : Shape := ⟨2, ![2048, 9216]⟩
abbrev S9216x2048 : Shape := ⟨2, ![9216, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x9216, .f32⟩
  | .hbm, ⟨2, _⟩ => ⟨S_, .f32⟩
  | .hbm, ⟨3, _⟩ => ⟨S2048x9216, .f32⟩
  | .hbm, ⟨4, _⟩ => ⟨S8192x9216, .f32⟩
  | .hbm, ⟨5, _⟩ => ⟨S9216x2048, .f32⟩
  | .hbm, ⟨6, _⟩ => ⟨S2048x9216, .f32⟩
  | .hbm, ⟨7, _⟩ => ⟨S2048x9216, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelHDil.lean ====
abbrev S8192x9216 : Shape := ⟨2, ![8192, 9216]⟩
abbrev S2048x9216 : Shape := ⟨2, ![2048, 9216]⟩
abbrev S8192x2048 : Shape := ⟨2, ![8192, 2048]⟩
abbrev S1024x4608 : Shape := ⟨2, ![1024, 4608]⟩
abbrev S512x4608 : Shape := ⟨2, ![512, 4608]⟩
abbrev S1024x512 : Shape := ⟨2, ![1024, 512]⟩

abbrev nBuf : Space → Nat
  | .hbm => 6
  | .vmem => 9
  | .smem => 0
  | _ => 0

abbrev bufTy : (tb : Table) → Fin (tcTables nBuf tb) → BufTy
  | .hbm, ⟨0, _⟩ => ⟨S8192x9216, .f32⟩
  | .hbm, ⟨1, _⟩ => ⟨S2048x9216, .f32⟩
  | .hbm, ⟨2, _⟩ => ⟨S8192x2048, .f32⟩
  | .hbm, ⟨3, _⟩ => ⟨S8192x9216, .bf16⟩
  | .hbm, ⟨4, _⟩ => ⟨S2048x9216, .bf16⟩
  | .hbm, ⟨5, _⟩ => ⟨S8192x2048, .f32⟩
  | .local _ .vmem, ⟨0, _⟩ => ⟨S1024x4608, .bf16⟩
  | .local _ .vmem, ⟨1, _⟩ => ⟨S1024x4608, .bf16⟩
  | .local _ .vmem, ⟨2, _⟩ => ⟨S512x4608, .bf16⟩
  | .local _ .vmem, ⟨3, _⟩ => ⟨S512x4608, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S8192x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceHDilIdeal.lean ====
abbrev S8192x9216 : Shape := ⟨2, ![8192, 9216]⟩
abbrev S2048x9216 : Shape := ⟨2, ![2048, 9216]⟩
abbrev S8192x2048 : Shape := ⟨2, ![8192, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x9216, .f32⟩
  | .hbm, ⟨1, _⟩ => ⟨S2048x9216, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x9216, .f32⟩
  | .hbm, ⟨6, _⟩ => ⟨S8192x2048, .f32⟩
  | .hbm, ⟨7, _⟩ => ⟨S8192x2048, .f32⟩
  | _, _ => ⟨S8192x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KernelPDil.lean ====
abbrev S8192x2048 : Shape := ⟨2, ![8192, 2048]⟩
abbrev S2048x9216 : Shape := ⟨2, ![2048, 9216]⟩
abbrev S8192x9216 : Shape := ⟨2, ![8192, 9216]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x9216, .f32⟩
  | .hbm, ⟨2, _⟩ => ⟨S8192x2048, .bf16⟩
  | .hbm, ⟨3, _⟩ => ⟨S2048x9216, .bf16⟩
  | .hbm, ⟨4, _⟩ => ⟨S8192x9216, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferencePDilIdeal.lean ====
abbrev S8192x2048 : Shape := ⟨2, ![8192, 2048]⟩
abbrev S2048x9216 : Shape := ⟨2, ![2048, 9216]⟩
abbrev S8192x9216 : Shape := ⟨2, ![8192, 9216]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x9216, .f32⟩
  | .hbm, ⟨2, _⟩ => ⟨S8192x9216, .f32⟩
  | .hbm, ⟨3, _⟩ => ⟨S8192x9216, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelWGin.lean ====
abbrev S8192x2048 : Shape := ⟨2, ![8192, 2048]⟩
abbrev S8192x4096 : Shape := ⟨2, ![8192, 4096]⟩
abbrev S2048x4096 : Shape := ⟨2, ![2048, 4096]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S8192x2048, .bf16⟩
  | .hbm, ⟨3, _⟩ => ⟨S8192x4096, .bf16⟩
  | .hbm, ⟨4, _⟩ => ⟨S2048x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWGinIdeal.lean ====
abbrev S8192x2048 : Shape := ⟨2, ![8192, 2048]⟩
abbrev S8192x4096 : Shape := ⟨2, ![8192, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S_, .f32⟩
  | .hbm, ⟨3, _⟩ => ⟨S2048x4096, .f32⟩
  | .hbm, ⟨4, _⟩ => ⟨S8192x4096, .f32⟩
  | .hbm, ⟨5, _⟩ => ⟨S4096x2048, .f32⟩
  | .hbm, ⟨6, _⟩ => ⟨S2048x4096, .f32⟩
  | .hbm, ⟨7, _⟩ => ⟨S2048x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelHGate.lean ====
abbrev S8192x4096 : Shape := ⟨2, ![8192, 4096]⟩
abbrev S2048x4096 : Shape := ⟨2, ![2048, 4096]⟩
abbrev S8192x2048 : Shape := ⟨2, ![8192, 2048]⟩
abbrev S1024x4096 : Shape := ⟨2, ![1024, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S2048x4096, .f32⟩
  | .hbm, ⟨2, _⟩ => ⟨S8192x4096, .bf16⟩
  | .hbm, ⟨3, _⟩ => ⟨S2048x4096, .bf16⟩
  | .hbm, ⟨4, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceHGateIdeal.lean ====
abbrev S8192x4096 : Shape := ⟨2, ![8192, 4096]⟩
abbrev S2048x4096 : Shape := ⟨2, ![2048, 4096]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2048x4096, .f32⟩
  | .hbm, ⟨2, _⟩ => ⟨S_, .f32⟩
  | .hbm, ⟨3, _⟩ => ⟨S8192x2048, .f32⟩
  | .hbm, ⟨4, _⟩ => ⟨S8192x4096, .f32⟩
  | .hbm, ⟨5, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelPGate.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x2048, .bf16⟩
  | .hbm, ⟨3, _⟩ => ⟨S2048x4096, .bf16⟩
  | .hbm, ⟨4, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferencePGateIdeal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | .hbm, ⟨3, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelWO.lean ====
abbrev S8192x2048 : Shape := ⟨2, ![8192, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWOIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelOut.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceOutIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== KernelWBr.lean ====
abbrev S8192x1024 : Shape := ⟨2, ![8192, 1024]⟩
abbrev S8192x2048 : Shape := ⟨2, ![8192, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S1024x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWBrIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelOBr.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S8192x2048, .bf16⟩
  | .hbm, ⟨3, _⟩ => ⟨S1024x2048, .bf16⟩
  | .hbm, ⟨4, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOBrIdeal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S_, .f32⟩
  | .hbm, ⟨3, _⟩ => ⟨S8192x1024, .f32⟩
  | .hbm, ⟨4, _⟩ => ⟨S8192x2048, .f32⟩
  | .hbm, ⟨5, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelBr.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .bf16⟩
  | .hbm, ⟨3, _⟩ => ⟨S1024x2048, .bf16⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceBrIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelUp.lean ====
abbrev S8192x2048 : Shape := ⟨2, ![8192, 2048]⟩
abbrev S2048x5632 : Shape := ⟨2, ![2048, 5632]⟩
abbrev S2048x11264 : Shape := ⟨2, ![2048, 11264]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S8192x2048, .bf16⟩
  | .hbm, ⟨4, _⟩ => ⟨S2048x11264, .f32⟩
  | .hbm, ⟨5, _⟩ => ⟨S2048x11264, .bf16⟩
  | .hbm, ⟨6, _⟩ => ⟨S8192x5632, .bf16⟩
  | .hbm, ⟨7, _⟩ => ⟨S8192x5632, .bf16⟩
  | .hbm, ⟨8, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceUpIdeal.lean ====
abbrev S8192x2048 : Shape := ⟨2, ![8192, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S8192x5632, .f32⟩
  | .hbm, ⟨4, _⟩ => ⟨S8192x5632, .f32⟩
  | .hbm, ⟨5, _⟩ => ⟨S8192x5632, .bf16⟩
  | .hbm, ⟨6, _⟩ => ⟨S8192x5632, .bf16⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== KernelDown.lean ====
abbrev S8192x5632 : Shape := ⟨2, ![8192, 5632]⟩
abbrev S5632x2048 : Shape := ⟨2, ![5632, 2048]⟩
abbrev S8192x2048 : Shape := ⟨2, ![8192, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x5632, .bf16⟩
  | .hbm, ⟨4, _⟩ => ⟨S5632x2048, .bf16⟩
  | .hbm, ⟨5, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownIdeal.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KernelPLat.lean ====
abbrev S8192x2048 : Shape := ⟨2, ![8192, 2048]⟩
abbrev S2048x896 : Shape := ⟨2, ![2048, 896]⟩
abbrev S8192x896 : Shape := ⟨2, ![8192, 896]⟩
abbrev S1024x2048 : Shape := ⟨2, ![1024, 2048]⟩
abbrev S1024x896 : Shape := ⟨2, ![1024, 896]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x896, .f32⟩
  | .hbm, ⟨2, _⟩ => ⟨S8192x2048, .bf16⟩
  | .hbm, ⟨3, _⟩ => ⟨S2048x896, .bf16⟩
  | .hbm, ⟨4, _⟩ => ⟨S8192x896, .f32⟩
  | .local _ .vmem, ⟨0, _⟩ => ⟨S1024x2048, .bf16⟩
  | .local _ .vmem, ⟨1, _⟩ => ⟨S1024x2048, .bf16⟩
  | .local _ .vmem, ⟨2, _⟩ => ⟨S2048x896, .bf16⟩
  | .local _ .vmem, ⟨3, _⟩ => ⟨S1024x896, .f32⟩
  | .local _ .vmem, ⟨4, _⟩ => ⟨S1024x896, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferencePLatIdeal.lean ====
abbrev S8192x2048 : Shape := ⟨2, ![8192, 2048]⟩
abbrev S2048x896 : Shape := ⟨2, ![2048, 896]⟩
abbrev S8192x896 : Shape := ⟨2, ![8192, 896]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x896, .f32⟩
  | .hbm, ⟨2, _⟩ => ⟨S8192x896, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelQUp.lean ====
abbrev S8192x512 : Shape := ⟨2, ![8192, 512]⟩
abbrev S512x2048 : Shape := ⟨2, ![512, 2048]⟩
abbrev S8192x2048 : Shape := ⟨2, ![8192, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x512, .bf16⟩
  | .hbm, ⟨3, _⟩ => ⟨S512x2048, .bf16⟩
  | .hbm, ⟨4, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQUpIdeal.lean ====
abbrev S8192x512 : Shape := ⟨2, ![8192, 512]⟩
abbrev S512x2048 : Shape := ⟨2, ![512, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelKvUp.lean ====
abbrev S8192x256 : Shape := ⟨2, ![8192, 256]⟩
abbrev S256x2048 : Shape := ⟨2, ![256, 2048]⟩
abbrev S8192x2048 : Shape := ⟨2, ![8192, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x256, .bf16⟩
  | .hbm, ⟨3, _⟩ => ⟨S256x2048, .bf16⟩
  | .hbm, ⟨4, _⟩ => ⟨S8192x2048, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceKvUpIdeal.lean ====
abbrev S8192x256 : Shape := ⟨2, ![8192, 256]⟩
abbrev S256x2048 : Shape := ⟨2, ![256, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelPleG.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferencePleGIdeal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelPleN.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferencePleNIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelWLat.lean ====
abbrev S8192x2048 : Shape := ⟨2, ![8192, 2048]⟩
abbrev S8192x896 : Shape := ⟨2, ![8192, 896]⟩
abbrev S2048x896 : Shape := ⟨2, ![2048, 896]⟩
abbrev S8192x1024 : Shape := ⟨2, ![8192, 1024]⟩
abbrev S8192x128 : Shape := ⟨2, ![8192, 128]⟩
abbrev S1024x128 : Shape := ⟨2, ![1024, 128]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x896, .f32⟩
  | .hbm, ⟨2, _⟩ => ⟨S8192x2048, .bf16⟩
  | .hbm, ⟨3, _⟩ => ⟨S8192x896, .bf16⟩
  | .hbm, ⟨4, _⟩ => ⟨S2048x896, .bf16⟩
  | .local _ .vmem, ⟨0, _⟩ => ⟨S8192x1024, .bf16⟩
  | .local _ .vmem, ⟨1, _⟩ => ⟨S8192x1024, .bf16⟩
  | .local _ .vmem, ⟨2, _⟩ => ⟨S8192x128, .bf16⟩
  | .local _ .vmem, ⟨3, _⟩ => ⟨S8192x128, .bf16⟩
  | .local _ .vmem, ⟨4, _⟩ => ⟨S1024x128, .bf16⟩
  | .local _ .vmem, ⟨5, _⟩ => ⟨S1024x128, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWLatIdeal.lean ====
abbrev S8192x2048 : Shape := ⟨2, ![8192, 2048]⟩
abbrev S8192x896 : Shape := ⟨2, ![8192, 896]⟩
abbrev S_ : Shape := ⟨0, ![]⟩
abbrev S2048x896 : Shape := ⟨2, ![2048, 896]⟩
abbrev S896x2048 : Shape := ⟨2, ![896, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x896, .f32⟩
  | .hbm, ⟨2, _⟩ => ⟨S_, .f32⟩
  | .hbm, ⟨3, _⟩ => ⟨S2048x896, .f32⟩
  | .hbm, ⟨4, _⟩ => ⟨S8192x896, .f32⟩
  | .hbm, ⟨5, _⟩ => ⟨S896x2048, .f32⟩
  | .hbm, ⟨6, _⟩ => ⟨S2048x896, .f32⟩
  | .hbm, ⟨7, _⟩ => ⟨S2048x896, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelWUq.lean ====
abbrev S8192x512 : Shape := ⟨2, ![8192, 512]⟩
abbrev S8192x2048 : Shape := ⟨2, ![8192, 2048]⟩
abbrev S512x2048 : Shape := ⟨2, ![512, 2048]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S8192x512, .bf16⟩
  | .hbm, ⟨3, _⟩ => ⟨S8192x2048, .bf16⟩
  | .hbm, ⟨4, _⟩ => ⟨S512x2048, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S512x512, .bf16⟩
  | .local _ .vmem, ⟨4, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWUqIdeal.lean ====
abbrev S8192x512 : Shape := ⟨2, ![8192, 512]⟩
abbrev S8192x2048 : Shape := ⟨2, ![8192, 2048]⟩
abbrev S_ : Shape := ⟨0, ![]⟩
abbrev S512x2048 : Shape := ⟨2, ![512, 2048]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S_, .f32⟩
  | .hbm, ⟨3, _⟩ => ⟨S512x2048, .f32⟩
  | .hbm, ⟨4, _⟩ => ⟨S8192x2048, .f32⟩
  | .hbm, ⟨5, _⟩ => ⟨S2048x512, .f32⟩
  | .hbm, ⟨6, _⟩ => ⟨S512x2048, .f32⟩
  | .hbm, ⟨7, _⟩ => ⟨S512x2048, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelWUkv.lean ====
abbrev S8192x256 : Shape := ⟨2, ![8192, 256]⟩
abbrev S8192x2048 : Shape := ⟨2, ![8192, 2048]⟩
abbrev S256x2048 : Shape := ⟨2, ![256, 2048]⟩
abbrev S8192x1024 : Shape := ⟨2, ![8192, 1024]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x2048, .f32⟩
  | .hbm, ⟨2, _⟩ => ⟨S8192x256, .bf16⟩
  | .hbm, ⟨3, _⟩ => ⟨S8192x2048, .bf16⟩
  | .hbm, ⟨4, _⟩ => ⟨S256x2048, .bf16⟩
  | .local _ .vmem, ⟨0, _⟩ => ⟨S8192x256, .bf16⟩
  | .local _ .vmem, ⟨1, _⟩ => ⟨S8192x1024, .bf16⟩
  | .local _ .vmem, ⟨2, _⟩ => ⟨S8192x1024, .bf16⟩
  | .local _ .vmem, ⟨3, _⟩ => ⟨S256x1024, .bf16⟩
  | .local _ .vmem, ⟨4, _⟩ => ⟨S256x1024, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8192x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWUkvIdeal.lean ====
abbrev S8192x256 : Shape := ⟨2, ![8192, 256]⟩
abbrev S8192x2048 : Shape := ⟨2, ![8192, 2048]⟩
abbrev S_ : Shape := ⟨0, ![]⟩
abbrev S256x2048 : Shape := ⟨2, ![256, 2048]⟩
abbrev S2048x256 : Shape := ⟨2, ![2048, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x2048, .f32⟩
  | .hbm, ⟨2, _⟩ => ⟨S_, .f32⟩
  | .hbm, ⟨3, _⟩ => ⟨S256x2048, .f32⟩
  | .hbm, ⟨4, _⟩ => ⟨S8192x2048, .f32⟩
  | .hbm, ⟨5, _⟩ => ⟨S2048x256, .f32⟩
  | .hbm, ⟨6, _⟩ => ⟨S256x2048, .f32⟩
  | .hbm, ⟨7, _⟩ => ⟨S256x2048, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelCq.lean ====
abbrev S8192x2048 : Shape := ⟨2, ![8192, 2048]⟩
abbrev S512x2048 : Shape := ⟨2, ![512, 2048]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S8192x2048, .bf16⟩
  | .hbm, ⟨3, _⟩ => ⟨S512x2048, .bf16⟩
  | .hbm, ⟨4, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceCqIdeal.lean ====
abbrev S8192x2048 : Shape := ⟨2, ![8192, 2048]⟩
abbrev S512x2048 : Shape := ⟨2, ![512, 2048]⟩
abbrev S_ : Shape := ⟨0, ![]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S_, .f32⟩
  | .hbm, ⟨3, _⟩ => ⟨S8192x512, .f32⟩
  | .hbm, ⟨4, _⟩ => ⟨S8192x2048, .f32⟩
  | .hbm, ⟨5, _⟩ => ⟨S8192x512, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelCkv.lean ====
abbrev S8192x2048 : Shape := ⟨2, ![8192, 2048]⟩
abbrev S256x2048 : Shape := ⟨2, ![256, 2048]⟩
abbrev S8192x256 : Shape := ⟨2, ![8192, 256]⟩
abbrev S1024x2048 : Shape := ⟨2, ![1024, 2048]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S256x2048, .f32⟩
  | .hbm, ⟨2, _⟩ => ⟨S8192x2048, .bf16⟩
  | .hbm, ⟨3, _⟩ => ⟨S256x2048, .bf16⟩
  | .hbm, ⟨4, _⟩ => ⟨S8192x256, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceCkvIdeal.lean ====
abbrev S8192x2048 : Shape := ⟨2, ![8192, 2048]⟩
abbrev S256x2048 : Shape := ⟨2, ![256, 2048]⟩
abbrev S_ : Shape := ⟨0, ![]⟩
abbrev S8192x256 : Shape := ⟨2, ![8192, 256]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S256x2048, .f32⟩
  | .hbm, ⟨2, _⟩ => ⟨S_, .f32⟩
  | .hbm, ⟨3, _⟩ => ⟨S8192x256, .f32⟩
  | .hbm, ⟨4, _⟩ => ⟨S8192x2048, .f32⟩
  | .hbm, ⟨5, _⟩ => ⟨S8192x256, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelOMla.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S8192x2048, .bf16⟩
  | .hbm, ⟨3, _⟩ => ⟨S1024x2048, .bf16⟩
  | .hbm, ⟨4, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOMlaIdeal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S_, .f32⟩
  | .hbm, ⟨3, _⟩ => ⟨S8192x1024, .f32⟩
  | .hbm, ⟨4, _⟩ => ⟨S8192x2048, .f32⟩
  | .hbm, ⟨5, _⟩ => ⟨S8192x1024, .f32⟩
  | .hbm, ⟨6, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelRms.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceRmsIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelGMerge.lean ====
abbrev S8192x4096 : Shape := ⟨2, ![8192, 4096]⟩
abbrev S8192x2048 : Shape := ⟨2, ![8192, 2048]⟩
abbrev S256x4096 : Shape := ⟨2, ![256, 4096]⟩
abbrev S256x2048 : Shape := ⟨2, ![256, 2048]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .f32⟩
  | .hbm, ⟨3, _⟩ => ⟨S8192x4096, .bf16⟩
  | .hbm, ⟨4, _⟩ => ⟨S8192x2048, .bf16⟩
  | .local _ .vmem, ⟨0, _⟩ => ⟨S256x4096, .bf16⟩
  | .local _ .vmem, ⟨1, _⟩ => ⟨S256x4096, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceGMergeIdeal.lean ====
abbrev S8192x4096 : Shape := ⟨2, ![8192, 4096]⟩
abbrev S8192x2048 : Shape := ⟨2, ![8192, 2048]⟩
abbrev S8192x2x2048 : Shape := ⟨3, ![8192, 2, 2048]⟩
abbrev S_ : Shape := ⟨0, ![]⟩
abbrev S8192x1x2048 : Shape := ⟨3, ![8192, 1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .f32⟩
  | .hbm, ⟨3, _⟩ => ⟨S8192x2x2048, .f32⟩
  | .hbm, ⟨4, _⟩ => ⟨S8192x2x2048, .f32⟩
  | .hbm, ⟨5, _⟩ => ⟨S8192x2x2048, .f32⟩
  | .hbm, ⟨6, _⟩ => ⟨S_, .f32⟩
  | .hbm, ⟨7, _⟩ => ⟨S8192x2x2048, .f32⟩
  | .hbm, ⟨8, _⟩ => ⟨S8192x2x2048, .f32⟩
  | .hbm, ⟨9, _⟩ => ⟨S_, .f32⟩
  | .hbm, ⟨10, _⟩ => ⟨S8192x2x2048, .f32⟩
  | .hbm, ⟨11, _⟩ => ⟨S8192x2x2048, .f32⟩
  | .hbm, ⟨12, _⟩ => ⟨S8192x1x2048, .f32⟩
  | .hbm, ⟨13, _⟩ => ⟨S8192x2048, .f32⟩
  | .hbm, ⟨14, _⟩ => ⟨S8192x2048, .f32⟩
  | .hbm, ⟨15, _⟩ => ⟨S8192x1x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== KernelGBwd.lean ====
abbrev S8192x2048 : Shape := ⟨2, ![8192, 2048]⟩
abbrev S8192x4096 : Shape := ⟨2, ![8192, 4096]⟩
abbrev S256x2048 : Shape := ⟨2, ![256, 2048]⟩
abbrev S256x4096 : Shape := ⟨2, ![256, 4096]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S8192x2048, .f32⟩
  | .hbm, ⟨3, _⟩ => ⟨S8192x2048, .f32⟩
  | .hbm, ⟨4, _⟩ => ⟨S8192x4096, .bf16⟩
  | .hbm, ⟨5, _⟩ => ⟨S8192x2048, .bf16⟩
  | .hbm, ⟨6, _⟩ => ⟨S8192x2048, .bf16⟩
  | .hbm, ⟨7, _⟩ => ⟨S8192x4096, .bf16⟩
  | .local _ .vmem, ⟨0, _⟩ => ⟨S256x2048, .f32⟩
  | .local _ .vmem, ⟨1, _⟩ => ⟨S256x2048, .f32⟩
  | .local _ .vmem, ⟨2, _⟩ => ⟨S256x4096, .bf16⟩
  | .local _ .vmem, ⟨3, _⟩ => ⟨S256x4096, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x4096, .bf16⟩
  | .local _ .vmem, ⟨13, _⟩ => ⟨S256x4096, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceGBwdIdeal.lean ====
abbrev S8192x2048 : Shape := ⟨2, ![8192, 2048]⟩
abbrev S8192x4096 : Shape := ⟨2, ![8192, 4096]⟩
abbrev S8192x2x2048 : Shape := ⟨3, ![8192, 2, 2048]⟩
abbrev S_ : Shape := ⟨0, ![]⟩
abbrev S8192x1x2048 : Shape := ⟨3, ![8192, 1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S8192x2048, .f32⟩
  | .hbm, ⟨3, _⟩ => ⟨S8192x2048, .f32⟩
  | .hbm, ⟨4, _⟩ => ⟨S8192x2x2048, .f32⟩
  | .hbm, ⟨5, _⟩ => ⟨S8192x2x2048, .f32⟩
  | .hbm, ⟨6, _⟩ => ⟨S8192x2x2048, .f32⟩
  | .hbm, ⟨7, _⟩ => ⟨S_, .f32⟩
  | .hbm, ⟨8, _⟩ => ⟨S8192x2x2048, .f32⟩
  | .hbm, ⟨9, _⟩ => ⟨S8192x2x2048, .f32⟩
  | .hbm, ⟨10, _⟩ => ⟨S_, .f32⟩
  | .hbm, ⟨11, _⟩ => ⟨S8192x2x2048, .f32⟩
  | .hbm, ⟨12, _⟩ => ⟨S8192x2x2048, .f32⟩
  | .hbm, ⟨13, _⟩ => ⟨S_, .f32⟩
  | .hbm, ⟨14, _⟩ => ⟨S8192x2x2048, .f32⟩
  | .hbm, ⟨15, _⟩ => ⟨S8192x2x2048, .f32⟩
  | .hbm, ⟨16, _⟩ => ⟨S8192x2x2048, .f32⟩
  | .hbm, ⟨17, _⟩ => ⟨S8192x1x2048, .f32⟩
  | .hbm, ⟨18, _⟩ => ⟨S8192x2048, .f32⟩
  | .hbm, ⟨19, _⟩ => ⟨S8192x2048, .f32⟩
  | .hbm, ⟨20, _⟩ => ⟨S8192x1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x1x2048, .f32⟩
  | .hbm, ⟨29, _⟩ => ⟨S_, .f32⟩
  | .hbm, ⟨30, _⟩ => ⟨S8192x2x2048, .f32⟩
  | .hbm, ⟨31, _⟩ => ⟨S8192x2048, .f32⟩
  | .hbm, ⟨32, _⟩ => ⟨S8192x2048, .f32⟩
  | .hbm, ⟨33, _⟩ => ⟨S8192x1x2048, .f32⟩
  | .hbm, ⟨34, _⟩ => ⟨S_, .f32⟩
  | .hbm, ⟨35, _⟩ => ⟨S8192x2x2048, .f32⟩
  | .hbm, ⟨36, _⟩ => ⟨S8192x2x2048, .f32⟩
  | .hbm, ⟨37, _⟩ => ⟨S8192x2x2048, .f32⟩
  | .hbm, ⟨38, _⟩ => ⟨S8192x4096, .f32⟩
  | .hbm, ⟨39, _⟩ => ⟨S8192x2048, .bf16⟩
  | .hbm, ⟨40, _⟩ => ⟨S8192x2048, .bf16⟩
  | .hbm, ⟨41, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== KernelRmsB.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v34 : BitVec 32 := Scalar.extui v30
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32 : BitVec 32 := 0#32
  let v30 : BitVec 1 := Scalar.cmpi .eq arg0 c0_i32
  let v_true : BitVec 1 := 1#1
  let v36 : BitVec 1 := Scalar.xori v30 v_true
  let v37 : BitVec 32 := Scalar.extui v36
  let c0_i32_17 : BitVec 32 := 0#32
  let v38 : BitVec 1 := Scalar.cmpi .ne v37 c0_i32_17
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceRmsBIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== KernelLatF.lean ====
abbrev S8192x896 : Shape := ⟨2, ![8192, 896]⟩
abbrev S1x512 : Shape := ⟨2, ![1, 512]⟩
abbrev S1x256 : Shape := ⟨2, ![1, 256]⟩
abbrev S8192x512 : Shape := ⟨2, ![8192, 512]⟩
abbrev S8192x256 : Shape := ⟨2, ![8192, 256]⟩
abbrev S512x896 : Shape := ⟨2, ![512, 896]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x896, .f32⟩
  | .hbm, ⟨1, _⟩ => ⟨S1x512, .f32⟩
  | .hbm, ⟨2, _⟩ => ⟨S1x256, .f32⟩
  | .hbm, ⟨3, _⟩ => ⟨S8192x512, .bf16⟩
  | .hbm, ⟨4, _⟩ => ⟨S8192x256, .bf16⟩
  | .local _ .vmem, ⟨0, _⟩ => ⟨S512x896, .f32⟩
  | .local _ .vmem, ⟨1, _⟩ => ⟨S512x896, .f32⟩
  | .local _ .vmem, ⟨2, _⟩ => ⟨S1x512, .f32⟩
  | .local _ .vmem, ⟨3, _⟩ => ⟨S1x256, .f32⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | _, _ => ⟨S8192x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceLatFIdeal.lean ====
abbrev S8192x896 : Shape := ⟨2, ![8192, 896]⟩
abbrev S1x512 : Shape := ⟨2, ![1, 512]⟩
abbrev S1x256 : Shape := ⟨2, ![1, 256]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x256 : Shape := ⟨2, ![8192, 256]⟩
abbrev S8192x128 : Shape := ⟨2, ![8192, 128]⟩

abbrev nBuf : Space → Nat
  | .hbm => 38
  | .vmem => 0
  | .smem => 0
  | _ => 0

abbrev bufTy : (tb : Table) → Fin (tcTables nBuf tb) → BufTy
  | .hbm, ⟨0, _⟩ => ⟨S8192x896, .f32⟩
  | .hbm, ⟨1, _⟩ => ⟨S1x512, .f32⟩
  | .hbm, ⟨2, _⟩ => ⟨S1x256, .f32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x256, .f32⟩
  | .hbm, ⟨20, _⟩ => ⟨S8192x256, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S8192x128, .f32⟩
  | .hbm, ⟨36, _⟩ => ⟨S8192x512, .bf16⟩
  | .hbm, ⟨37, _⟩ => ⟨S8192x256, .bf16⟩
  | _, _ => ⟨S8192x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== KernelLatB.lean ====
abbrev S8192x512 : Shape := ⟨2, ![8192, 512]⟩
abbrev S8192x256 : Shape := ⟨2, ![8192, 256]⟩
abbrev S8192x128 : Shape := ⟨2, ![8192, 128]⟩
abbrev S8192x896 : Shape := ⟨2, ![8192, 896]⟩
abbrev S1x512 : Shape := ⟨2, ![1, 512]⟩
abbrev S1x256 : Shape := ⟨2, ![1, 256]⟩
abbrev S512x512 : Shape := ⟨2, ![512, 512]⟩
abbrev S512x256 : Shape := ⟨2, ![512, 256]⟩
abbrev S512x128 : Shape := ⟨2, ![512, 128]⟩
abbrev S512x896 : Shape := ⟨2, ![512, 896]⟩
abbrev S512 : Shape := ⟨1, ![512]⟩
abbrev S512x1 : Shape := ⟨2, ![512, 1]⟩
abbrev S256 : Shape := ⟨1, ![256]⟩

abbrev nBuf : Space → Nat
  | .hbm => 9
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S8192x128, .f32⟩
  | .hbm, ⟨3, _⟩ => ⟨S8192x896, .f32⟩
  | .hbm, ⟨4, _⟩ => ⟨S1x512, .f32⟩
  | .hbm, ⟨5, _⟩ => ⟨S1x256, .f32⟩
  | .hbm, ⟨6, _⟩ => ⟨S8192x896, .bf16⟩
  | .hbm, ⟨7, _⟩ => ⟨S1x512, .f32⟩
  | .hbm, ⟨8, _⟩ => ⟨S1x256, .f32⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S512x896, .f32⟩
  | .local _ .vmem, ⟨7, _⟩ => ⟨S512x896, .f32⟩
  | .local _ .vmem, ⟨8, _⟩ => ⟨S1x512, .f32⟩
  | .local _ .vmem, ⟨9, _⟩ => ⟨S1x256, .f32⟩
  | .local _ .vmem, ⟨10, _⟩ => ⟨S512x896, .bf16⟩
  | .local _ .vmem, ⟨11, _⟩ => ⟨S512x896, .bf16⟩
  | .local _ .vmem, ⟨12, _⟩ => ⟨S1x512, .f32⟩
  | .local _ .vmem, ⟨13, _⟩ => ⟨S1x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v59 : BitVec 1 := Scalar.cmpi .eq arg0 c0_i32
  let v62 : BitVec 32 := Scalar.extui v59
  let c0_i32_24 : BitVec 32 := 0#32
  let v63 : BitVec 1 := Scalar.cmpi .ne v62 c0_i32_24
  v63

def k0_cond2 (i : grid0.Coords) : BitVec 1 :=
  let arg0 : BitVec 32 := BitVec.ofNat 32 (i 0).val
  let c0_i32 : BitVec 32 := 0#32
  let v59 : BitVec 1 := Scalar.cmpi .eq arg0 c0_i32
  let v_true : BitVec 1 := 1#1
  let v64 : BitVec 1 := Scalar.xori v59 v_true
  let v65 : BitVec 32 := Scalar.extui v64
  let c0_i32_25 : BitVec 32 := 0#32
  let v66 : BitVec 1 := Scalar.cmpi .ne v65 c0_i32_25
  v66

def k0_cond3 (i : grid0.Coords) : BitVec 1 :=
  let arg0 : BitVec 32 := BitVec.ofNat 32 (i 0).val
  let c0_i32 : BitVec 32 := 0#32
  let v59 : BitVec 1 := Scalar.cmpi .eq arg0 c0_i32
  let v67 : BitVec 32 := Scalar.extui v59
  let c0_i32_26 : BitVec 32 := 0#32
  let v68 : BitVec 1 := Scalar.cmpi .ne v67 c0_i32_26
  v68

def k0_cond4 (i : grid0.Coords) : BitVec 1 :=
  let arg0 : BitVec 32 := BitVec.ofNat 32 (i 0).val
  let c0_i32 : BitVec 32 := 0#32
  let v59 : BitVec 1 := Scalar.cmpi .eq arg0 c0_i32
  let true_27 : BitVec 1 := 1#1
  let v69 : BitVec 1 := Scalar.xori v59 true_27
  let v70 : BitVec 32 := Scalar.extui v69
  let c0_i32_28 : BitVec 32 := 0#32
  let v71 : BitVec 1 := Scalar.cmpi .ne v70 c0_i32_28
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x896 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceLatBIdeal.lean ====
abbrev S8192x512 : Shape := ⟨2, ![8192, 512]⟩
abbrev S8192x256 : Shape := ⟨2, ![8192, 256]⟩
abbrev S8192x128 : Shape := ⟨2, ![8192, 128]⟩
abbrev S8192x896 : Shape := ⟨2, ![8192, 896]⟩
abbrev S1x512 : Shape := ⟨2, ![1, 512]⟩
abbrev S1x256 : Shape := ⟨2, ![1, 256]⟩
abbrev S_ : Shape := ⟨0, ![]⟩
abbrev S8192 : Shape := ⟨1, ![8192]⟩
abbrev S8192x1 : Shape := ⟨2, ![8192, 1]⟩
abbrev S256 : Shape := ⟨1, ![256]⟩
abbrev S512 : Shape := ⟨1, ![512]⟩

abbrev nBuf : Space → Nat
  | .hbm => 102
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S8192x128, .f32⟩
  | .hbm, ⟨3, _⟩ => ⟨S8192x896, .f32⟩
  | .hbm, ⟨4, _⟩ => ⟨S1x512, .f32⟩
  | .hbm, ⟨5, _⟩ => ⟨S1x256, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x256, .f32⟩
  | .hbm, ⟨27, _⟩ => ⟨S8192x256, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x256, .f32⟩
  | .hbm, ⟨43, _⟩ => ⟨S8192x256, .f32⟩
  | .hbm, ⟨44, _⟩ => ⟨S8192x256, .f32⟩
  | .hbm, ⟨45, _⟩ => ⟨S8192x256, .f32⟩
  | .hbm, ⟨46, _⟩ => ⟨S8192x128, .f32⟩
  | .hbm, ⟨47, _⟩ => ⟨S_, .f32⟩
  | .hbm, ⟨48, _⟩ => ⟨S8192x896, .f32⟩
  | .hbm, ⟨49, _⟩ => ⟨S8192x256, .f32⟩
  | .hbm, ⟨50, _⟩ => ⟨S_, .f32⟩
  | .hbm, ⟨51, _⟩ => ⟨S256, .f32⟩
  | .hbm, ⟨52, _⟩ => ⟨S1x256, .f32⟩
  | .hbm, ⟨53, _⟩ => ⟨S8192x256, .f32⟩
  | .hbm, ⟨54, _⟩ => ⟨S8192x256, .f32⟩
  | .hbm, ⟨55, _⟩ => ⟨S8192x256, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x256, .f32⟩
  | .hbm, ⟨60, _⟩ => ⟨S8192x256, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x256, .f32⟩
  | .hbm, ⟨68, _⟩ => ⟨S8192x256, .f32⟩
  | .hbm, ⟨69, _⟩ => ⟨S8192x256, .f32⟩
  | .hbm, ⟨70, _⟩ => ⟨S8192x256, .f32⟩
  | .hbm, ⟨71, _⟩ => ⟨S8192x256, .f32⟩
  | .hbm, ⟨72, _⟩ => ⟨S_, .f32⟩
  | .hbm, ⟨73, _⟩ => ⟨S8192x896, .f32⟩
  | .hbm, ⟨74, _⟩ => ⟨S8192x896, .f32⟩
  | .hbm, ⟨75, _⟩ => ⟨S8192x512, .f32⟩
  | .hbm, ⟨76, _⟩ => ⟨S_, .f32⟩
  | .hbm, ⟨77, _⟩ => ⟨S512, .f32⟩
  | .hbm, ⟨78, _⟩ => ⟨S1x512, .f32⟩
  | .hbm, ⟨79, _⟩ => ⟨S8192x512, .f32⟩
  | .hbm, ⟨80, _⟩ => ⟨S8192x512, .f32⟩
  | .hbm, ⟨81, _⟩ => ⟨S8192x512, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S8192x512, .f32⟩
  | .hbm, ⟨86, _⟩ => ⟨S8192x512, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S_, .f32⟩
  | .hbm, ⟨92, _⟩ => ⟨S8192, .f32⟩
  | .hbm, ⟨93, _⟩ => ⟨S8192x512, .f32⟩
  | .hbm, ⟨94, _⟩ => ⟨S8192x512, .f32⟩
  | .hbm, ⟨95, _⟩ => ⟨S8192x512, .f32⟩
  | .hbm, ⟨96, _⟩ => ⟨S8192x512, .f32⟩
  | .hbm, ⟨97, _⟩ => ⟨S8192x512, .f32⟩
  | .hbm, ⟨98, _⟩ => ⟨S_, .f32⟩
  | .hbm, ⟨99, _⟩ => ⟨S8192x896, .f32⟩
  | .hbm, ⟨100, _⟩ => ⟨S8192x896, .f32⟩
  | .hbm, ⟨101, _⟩ => ⟨S8192x896, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_15 : Ref sig .tc := ⟨.hbm, 88, rfl⟩
abbrev main_v66 : Ref sig .tc := ⟨.hbm, 89, rfl⟩
abbrev main_v67 : Ref sig .tc := ⟨.hbm, 90, rfl⟩
abbrev main_cst_16 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_17 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩

abbrev nD : Nat := 1
abbrev τ : Topo := Topo.v7x

variable {F : FTy → Type} [FloatOps F]
-- ==== KernelPle.lean ====
abbrev S8192x2048 : Shape := ⟨2, ![8192, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 8
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S8192x2048, .bf16⟩
  | .hbm, ⟨7, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S1x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v39 : BitVec 32 := Scalar.extui v33
  let c0_i32_21 : BitVec 32 := 0#32
  let v40 : BitVec 1 := Scalar.cmpi .ne v39 c0_i32_21
  v40

def k0_cond2 (i : grid0.Coords) : BitVec 1 :=
  let arg0 : BitVec 32 := BitVec.ofNat 32 (i 0).val
  let c0_i32 : BitVec 32 := 0#32
  let v33 : BitVec 1 := Scalar.cmpi .eq arg0 c0_i32
  let v_true : BitVec 1 := 1#1
  let v41 : BitVec 1 := Scalar.xori v33 v_true
  let v42 : BitVec 32 := Scalar.extui v41
  let c0_i32_22 : BitVec 32 := 0#32
  let v43 : BitVec 1 := Scalar.cmpi .ne v42 c0_i32_22
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferencePleIdeal.lean ====
abbrev S8192x2048 : Shape := ⟨2, ![8192, 2048]⟩
abbrev S_ : Shape := ⟨0, ![]⟩
abbrev S8192 : Shape := ⟨1, ![8192]⟩
abbrev S1x128 : Shape := ⟨2, ![1, 128]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .bf16⟩
  | .hbm, ⟨45, _⟩ => ⟨S8192x2048, .bf16⟩
  | .hbm, ⟨46, _⟩ => ⟨S1x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_cst_8 : Ref sig .tc := ⟨.hbm, 33, rfl⟩
abbrev main_v20 : Ref sig .tc := ⟨.hbm, 34, rfl⟩
abbrev main_v21 : Ref sig .tc := ⟨.hbm, 35, rfl⟩
abbrev main_cst_9 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== KernelDelta.lean ====
abbrev S8192x1024 : Shape := ⟨2, ![8192, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceDeltaIdeal.lean ====
abbrev S8192x1024 : Shape := ⟨2, ![8192, 1024]⟩
abbrev S_ : Shape := ⟨0, ![]⟩
abbrev S8192x8 : Shape := ⟨2, ![8192, 8]⟩
abbrev S8192x8x128 : Shape := ⟨3, ![8192, 8, 128]⟩
abbrev S8192x8x1 : Shape := ⟨3, ![8192, 8, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S8192x8, .f32⟩
  | .hbm, ⟨4, _⟩ => ⟨S8192x8x128, .f32⟩
  | .hbm, ⟨5, _⟩ => ⟨S8192x8x1, .f32⟩
  | .hbm, ⟨6, _⟩ => ⟨S8192x8x128, .f32⟩
  | .hbm, ⟨7, _⟩ => ⟨S8192x8x128, .f32⟩
  | .hbm, ⟨8, _⟩ => ⟨S8192x8x128, .f32⟩
  | .hbm, ⟨9, _⟩ => ⟨S8192x8x128, .f32⟩
  | .hbm, ⟨10, _⟩ => ⟨S_, .f32⟩
  | .hbm, ⟨11, _⟩ => ⟨S8192x8, .f32⟩
  | .hbm, ⟨12, _⟩ => ⟨S8192x8x1, .f32⟩
  | .hbm, ⟨13, _⟩ => ⟨S_, .f32⟩
  | .hbm, ⟨14, _⟩ => ⟨S8192x8, .f32⟩
  | .hbm, ⟨15, _⟩ => ⟨S8192x8x1, .f32⟩
  | .hbm, ⟨16, _⟩ => ⟨S8192x8x128, .f32⟩
  | .hbm, ⟨17, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelDMerge.lean ====
abbrev S8192x1024 : Shape := ⟨2, ![8192, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceDMergeIdeal.lean ====
abbrev S8192x1024 : Shape := ⟨2, ![8192, 1024]⟩
abbrev S1x8192x1024 : Shape := ⟨3, ![1, 8192, 1024]⟩
abbrev S3x8192x1024 : Shape := ⟨3, ![3, 8192, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1x8192x1024, .f32⟩
  | .hbm, ⟨7, _⟩ => ⟨S1x8192x1024, .f32⟩
  | .hbm, ⟨8, _⟩ => ⟨S1x8192x1024, .f32⟩
  | .hbm, ⟨9, _⟩ => ⟨S3x8192x1024, .f32⟩
  | .hbm, ⟨10, _⟩ => ⟨S_, .f32⟩
  | .hbm, ⟨11, _⟩ => ⟨S8192x1024, .f32⟩
  | .hbm, ⟨12, _⟩ => ⟨S1x8192x1024, .f32⟩
  | .hbm, ⟨13, _⟩ => ⟨S3x8192x1024, .f32⟩
  | .hbm, ⟨14, _⟩ => ⟨S3x8192x1024, .f32⟩
  | .hbm, ⟨15, _⟩ => ⟨S3x8192x1024, .f32⟩
  | .hbm, ⟨16, _⟩ => ⟨S_, .f32⟩
  | .hbm, ⟨17, _⟩ => ⟨S8192x1024, .f32⟩
  | .hbm, ⟨18, _⟩ => ⟨S1x8192x1024, .f32⟩
  | .hbm, ⟨19, _⟩ => ⟨S1x8192x1024, .f32⟩
  | .hbm, ⟨20, _⟩ => ⟨S1x8192x1024, .f32⟩
  | .hbm, ⟨21, _⟩ => ⟨S3x8192x1024, .f32⟩
  | .hbm, ⟨22, _⟩ => ⟨S3x8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .bf16⟩
  | .hbm, ⟨27, _⟩ => ⟨S8192x1024, .f32⟩
  | .hbm, ⟨28, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== KernelGains.lean ====
abbrev S1x10240 : Shape := ⟨2, ![1, 10240]⟩

abbrev nBuf : Space → Nat
  | .hbm => 7
  | .vmem => 7
  | .smem => 0
  | _ => 0

abbrev bufTy : (tb : Table) → Fin (tcTables nBuf tb) → BufTy
  | .hbm, ⟨0, _⟩ => ⟨S1x10240, .f32⟩
  | .hbm, ⟨1, _⟩ => ⟨S1x10240, .f32⟩
  | .hbm, ⟨2, _⟩ => ⟨S1x10240, .f32⟩
  | .hbm, ⟨3, _⟩ => ⟨S1x10240, .f32⟩
  | .hbm, ⟨4, _⟩ => ⟨S1x10240, .f32⟩
  | .hbm, ⟨5, _⟩ => ⟨S1x10240, .f32⟩
  | .hbm, ⟨6, _⟩ => ⟨S1x10240, .f32⟩
  | .local _ .vmem, ⟨0, _⟩ => ⟨S1x10240, .f32⟩
  | .local _ .vmem, ⟨1, _⟩ => ⟨S1x10240, .f32⟩
  | .local _ .vmem, ⟨2, _⟩ => ⟨S1x10240, .f32⟩
  | .local _ .vmem, ⟨3, _⟩ => ⟨S1x10240, .f32⟩
  | .local _ .vmem, ⟨4, _⟩ => ⟨S1x10240, .f32⟩
  | .local _ .vmem, ⟨5, _⟩ => ⟨S1x10240, .f32⟩
  | .local _ .vmem, ⟨6, _⟩ => ⟨S1x10240, .f32⟩
  | _, _ => ⟨S1x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x10240 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x10240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x10240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x10240 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x10240 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceGainsIdeal.lean ====
abbrev S1x10240 : Shape := ⟨2, ![1, 10240]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x10240, .f32⟩
  | .hbm, ⟨1, _⟩ => ⟨S1x10240, .f32⟩
  | .hbm, ⟨2, _⟩ => ⟨S1x10240, .f32⟩
  | .hbm, ⟨3, _⟩ => ⟨S1x10240, .f32⟩
  | .hbm, ⟨4, _⟩ => ⟨S_, .f32⟩
  | .hbm, ⟨5, _⟩ => ⟨S1x10240, .f32⟩
  | .hbm, ⟨6, _⟩ => ⟨S1x10240, .f32⟩
  | .hbm, ⟨7, _⟩ => ⟨S_, .f32⟩
  | .hbm, ⟨8, _⟩ => ⟨S1x10240, .f32⟩
  | .hbm, ⟨9, _⟩ => ⟨S1x10240, .f32⟩
  | .hbm, ⟨10, _⟩ => ⟨S1x10240, .f32⟩
  | .hbm, ⟨11, _⟩ => ⟨S_, .f32⟩
  | .hbm, ⟨12, _⟩ => ⟨S1x10240, .f32⟩
  | .hbm, ⟨13, _⟩ => ⟨S1x10240, .f32⟩
  | .hbm, ⟨14, _⟩ => ⟨S1x10240, .f32⟩
  | .hbm, ⟨15, _⟩ => ⟨S_, .f32⟩
  | .hbm, ⟨16, _⟩ => ⟨S1x10240, .f32⟩
  | .hbm, ⟨17, _⟩ => ⟨S1x10240, .f32⟩
  | .hbm, ⟨18, _⟩ => ⟨S1x10240, .f32⟩
  | .hbm, ⟨19, _⟩ => ⟨S_, .f32⟩
  | .hbm, ⟨20, _⟩ => ⟨S1x10240, .f32⟩
  | .hbm, ⟨21, _⟩ => ⟨S1x10240, .f32⟩
  | .hbm, ⟨22, _⟩ => ⟨S_, .f32⟩
  | .hbm, ⟨23, _⟩ => ⟨S1x10240, .f32⟩
  | .hbm, ⟨24, _⟩ => ⟨S1x10240, .f32⟩
  | .hbm, ⟨25, _⟩ => ⟨S1x10240, .f32⟩
  | .hbm, ⟨26, _⟩ => ⟨S_, .f32⟩
  | .hbm, ⟨27, _⟩ => ⟨S1x10240, .f32⟩
  | .hbm, ⟨28, _⟩ => ⟨S1x10240, .f32⟩
  | .hbm, ⟨29, _⟩ => ⟨S1x10240, .f32⟩
  | .hbm, ⟨30, _⟩ => ⟨S_, .f32⟩
  | .hbm, ⟨31, _⟩ => ⟨S1x10240, .f32⟩
  | .hbm, ⟨32, _⟩ => ⟨S1x10240, .f32⟩
  | .hbm, ⟨33, _⟩ => ⟨S1x10240, .f32⟩
  | .hbm, ⟨34, _⟩ => ⟨S_, .f32⟩
  | .hbm, ⟨35, _⟩ => ⟨S1x10240, .f32⟩
  | .hbm, ⟨36, _⟩ => ⟨S1x10240, .f32⟩
  | _, _ => ⟨S1x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Terms.lean ====
module

public import proofs.«01_k».proof.Proof.Gen.KernelIdeal.Frame

@[expose] public section

set_option maxRecDepth 16384

noncomputable section

namespace Cert.KernelIdeal.Dil

open Cert.KernelIdeal Cert.KernelIdeal.Gen Idealize.ShloMosaic Idealize.ShloMosaic.TcCoe Idealize.SL.Sem Idealize.ShloMosaic.StableHlo

variable {F : FTy → Type} [FloatOps F] [Named F]

/-- The mask of a group with window `w` and dilation `d`: the key is not after the query, at most `w` before it, and at a distance `d` divides. -/
def msk (w d : BitVec 32) : IVec S8x8192x8192 1 :=
  broadcastInDim S8x8192x8192 ![1, 2] bcast_S8192x8192_S8x8192x8192_1_2 (andi (andi (cmpi .sge (subi (iotaInDim S8192x8192 32 0) (iotaInDim S8192x8192 32 1)) (broadcastInDim S8192x8192 ![] bcast_S_S8192x8192 (constantI S_ 32 0#32))) (cmpi .sle (subi (iotaInDim S8192x8192 32 0) (iotaInDim S8192x8192 32 1)) (broadcastInDim S8192x8192 ![] bcast_S_S8192x8192 (constantI S_ 32 w)))) (cmpi .eq (Host.remsi (subi (iotaInDim S8192x8192 32 0) (iotaInDim S8192x8192 32 1)) (broadcastInDim S8192x8192 ![] bcast_S_S8192x8192 (constantI S_ 32 d))) (broadcastInDim S8192x8192 ![] bcast_S_S8192x8192 (constantI S_ 32 0#32))))

/-- Head group 0 of an array of all heads, as tokens by heads by channels. -/
def hd0 (x : FVec F S8192x3072 .f32) : FVec F S8192x8x128 .f32 :=
  shapeCast S8192x8x128 (extractStridedSlice S8192x1024 ![0, 0] x slices_S8192x3072_S8192x1024_0_0) shapeCasts_S8192x1024_S8192x8x128

/-- Head group 1 of an array of all heads, as tokens by heads by channels. -/
def hd1 (x : FVec F S8192x3072 .f32) : FVec F S8192x8x128 .f32 :=
  shapeCast S8192x8x128 (extractStridedSlice S8192x1024 ![0, 1024] x slices_S8192x3072_S8192x1024_0_1024) shapeCasts_S8192x1024_S8192x8x128

/-- Head group 2 of an array of all heads, as tokens by heads by channels. -/
def hd2 (x : FVec F S8192x3072 .f32) : FVec F S8192x8x128 .f32 :=
  shapeCast S8192x8x128 (extractStridedSlice S8192x1024 ![0, 2048] x slices_S8192x3072_S8192x1024_0_2048) shapeCasts_S8192x1024_S8192x8x128

/-- The masked scores of one group: −∞ where the mask is off. -/
def sco (w d : BitVec 32) (a b : FVec F S8192x8x128 .f32) : FVec F S8x8192x8192 .f32 :=
  select (msk w d) (Host.dotGeneral dot_S8192x8x128_S8192x8x128_S8x8192x8192_2_2_0_0_1_1 none a b) (broadcastInDim S8x8192x8192 ![] bcast_S_S8x8192x8192 (constant S_ .f32 0xFF800000#32))

/-- Three groups' scores side by side along the keys. -/
def catS (a b c : FVec F S8x8192x8192 .f32) : FVec F S8x8192x24576 .f32 :=
  concatenate S8x8192x24576 2 [⟨S8x8192x8192, a⟩, ⟨S8x8192x8192, b⟩, ⟨S8x8192x8192, c⟩] concatenates_S8x8192x8192_S8x8192x8192_S8x8192x8192_S8x8192x24576_d2

/-- Three groups' values one after the other along the keys. -/
def catV (a b c : FVec F S8192x8x128 .f32) : FVec F S24576x8x128 .f32 :=
  concatenate S24576x8x128 0 [⟨S8192x8x128, a⟩, ⟨S8192x8x128, b⟩, ⟨S8192x8x128, c⟩] concatenates_S8192x8x128_S8192x8x128_S8192x8x128_S24576x8x128_d0

/-- All masked scores: heads by queries by the keys of the three groups. -/
def SC (q k : FVec F S8192x3072 .f32) : FVec F S8x8192x24576 .f32 :=
  catS (sco 128#32 1#32 (hd0 q) (hd0 k)) (sco 512#32 4#32 (hd1 q) (hd1 k)) (sco 2048#32 16#32 (hd2 q) (hd2 k))

/-- All values: the keys of the three groups by heads by channels. -/
def VC (v : FVec F S8192x3072 .f32) : FVec F S24576x8x128 .f32 := catV (hd0 v) (hd1 v) (hd2 v)

/-- The largest score of each head and query. -/
def MX (s : FVec F S8x8192x24576 .f32) : FVec F S8x8192 .f32 :=
  Host.reduce FloatOps.maximumf s (constant S_ .f32 0xFF800000#32) reducesTo_S8x8192x24576_S8x8192_d2 h_S_

/-- One number per head and query, repeated along the keys. -/
def rep (x : FVec F S8x8192 .f32) : FVec F S8x8192x24576 .f32 :=
  broadcastInDim S8x8192x24576 ![0, 1, 2] bcast_S8x8192x1_S8x8192x24576_0_1_2 (broadcastInDim S8x8192x1 ![0, 1] bcast_S8x8192_S8x8192x1_0_1 x)

/-- The exponentials of the scores less the largest. -/
def EX (s : FVec F S8x8192x24576 .f32) : FVec F S8x8192x24576 .f32 := Host.exp (subf s (rep (MX s)))

/-- Their sums along the keys. -/
def ZZ (s : FVec F S8x8192x24576 .f32) : FVec F S8x8192 .f32 :=
  Host.reduceAdd (EX s) (constant S_ .f32 0x00000000#32) reducesTo_S8x8192x24576_S8x8192_d2 h_S_

/-- The forward's output, tokens by heads by channels. -/
def OO (s : FVec F S8x8192x24576 .f32) (v : FVec F S24576x8x128 .f32) : FVec F S8192x8x128 .f32 :=
  transpose S8192x8x128 [2, 0, 1] (Host.dotGeneral dot_S24576x8x128_S8x8192x24576_S8x128x8192_0_2_2_1_1_0 none v (Host.divf (EX s) (rep (ZZ s)))) transposes_S8x128x8192_S8192x8x128_2_0_1

/-- One number per token and head, repeated over the head's 128 channels. -/
def lanes (x : FVec F S8192x8 .f32) : FVec F S8192x1024 .f32 :=
  shapeCast S8192x1024 (broadcastInDim S8192x8x128 ![0, 1, 2] bcast_S8192x8x1_S8192x8x128_0_1_2 (broadcastInDim S8192x8x1 ![0, 1] bcast_S8192x8_S8192x8x1_0_1 x)) shapeCasts_S8192x8x128_S8192x1024

/-- The rows' inner products of the output with its cotangent. -/
def dlt (s : FVec F S8x8192x24576 .f32) (v : FVec F S24576x8x128 .f32) (d : FVec F S8192x1024 .f32) : FVec F S8192x1024 .f32 :=
  lanes (Host.reduceAdd (mulf (shapeCast S8192x8x128 d shapeCasts_S8192x1024_S8192x8x128) (OO s v)) (constant S_ .f32 0x00000000#32) reducesTo_S8192x8x128_S8192x8_d2 h_S_)

/-- The rows' logarithms of the sums of exponentials of the scores. -/
def lsx (s : FVec F S8x8192x24576 .f32) : FVec F S8192x1024 .f32 :=
  lanes (transpose S8192x8 [1, 0] (addf (MX s) (Host.log (ZZ s))) transposes_S8x8192_S8192x8_1_0)

end Cert.KernelIdeal.Dil
end
-- ==== Proof.Soft.lean ====
module

public import proofs.«01_k».proof.Proof.Terms

@[expose] public section

set_option maxRecDepth 16384

noncomputable section

namespace Cert.KernelIdeal.Dil

open Idealize.ShloMosaic

/-- The word of −∞ read as an extended real. -/
theorem neg_inf : Ideal.ofBits FTy.f32 4286578688#32 = ⊥ := by
  simp [Ideal.ofBits, Ideal.ieee]

/-- The softmax of a row of real or −∞ scores, at least one of them real: its largest score is real, its exponentials
    are real, zero at −∞, and their sum is positive. -/
theorem soft_row {n : ℕ} (f : Fin n → EReal) (hf : ∀ u, f u = ⊥ ∨ ∃ r : ℝ, f u = r) (hx : ∃ u, ∃ r : ℝ, f u = r) :
    ∃ (M : ℝ) (e : Fin n → ℝ), Finset.fold max ⊥ f Finset.univ = (M : EReal) ∧ (∀ u, Ideal.exp (f u - M) = e u)
      ∧ (∀ u, f u = ⊥ → e u = 0) ∧ (∀ u (r : ℝ), f u = r → e u = Real.exp (r - M)) ∧ 0 < ∑ u, e u := by
  obtain ⟨u₀, r₀, h₀⟩ := hx
  have hM : ∃ M : ℝ, Finset.fold max ⊥ f Finset.univ = (M : EReal) := by
    have h1 : Finset.fold max ⊥ f Finset.univ ≠ ⊥ := by
      intro h
      have : f u₀ ≤ Finset.fold max ⊥ f Finset.univ := (Finset.le_fold_max _).2 (Or.inr ⟨u₀, Finset.mem_univ _, le_rfl⟩)
      rw [h, h₀] at this
      exact absurd (le_bot_iff.1 this) (EReal.coe_ne_bot _)
    have h2 : Finset.fold max ⊥ f Finset.univ < ⊤ := by
      rw [Finset.fold_max_lt]
      refine ⟨bot_lt_top, fun u _ => ?_⟩
      rcases hf u with h | ⟨r, h⟩ <;> rw [h]
      · exact bot_lt_top
      · exact EReal.coe_lt_top r
    exact ⟨_, (EReal.coe_toReal h2.ne h1).symm⟩
  obtain ⟨M, hM⟩ := hM
  have key : ∀ u, ∃ e : ℝ, Ideal.exp (f u - M) = e ∧ (f u = ⊥ → e = 0) ∧ (∀ r : ℝ, f u = r → e = Real.exp (r - M)) := by
    intro u
    rcases hf u with h | ⟨r, h⟩
    · refine ⟨0, ?_, fun _ => rfl, fun r h' => ?_⟩
      · rw [h, EReal.bot_sub]; rfl
      · rw [h] at h'; exact absurd h'.symm (EReal.coe_ne_bot r)
    · refine ⟨Real.exp (r - M), ?_, fun h' => ?_, fun r' h' => ?_⟩
      · rw [h, ← EReal.coe_sub, Ideal.exp_coe]
      · rw [h] at h'; exact absurd h' (EReal.coe_ne_bot r)
      · rw [h] at h'; rw [EReal.coe_injective h']
  choose e he using key
  refine ⟨M, e, hM, fun u => (he u).1, fun u => (he u).2.1, fun u => (he u).2.2, ?_⟩
  refine Finset.sum_pos' (fun u _ => ?_) ⟨u₀, Finset.mem_univ _, ?_⟩
  · rcases hf u with h | ⟨r, h⟩
    · rw [(he u).2.1 h]
    · rw [(he u).2.2 r h]; exact (Real.exp_pos _).le
  · rw [(he u₀).2.2 r₀ h₀]; exact Real.exp_pos _

end Cert.KernelIdeal.Dil
end
-- ==== Proof.Tile.lean ====
module

public import proofs.«01_k».proof.Proof.Gen.KernelIdeal.Value
public import Idealize.ShloMosaic.Lib.Pipeline.ReadBack
public import Idealize.ShloMosaic.Lib.Pointwise
public import Idealize.ShloMosaic.Lib.Tactic.WordOmega

@[expose] public section

set_option maxRecDepth 16384

noncomputable section

namespace Cert.KernelIdeal.Dil

open Cert.KernelIdeal Cert.KernelIdeal.Gen Idealize.ShloMosaic Idealize.ShloMosaic.TcCoe Idealize.SL.Sem

section
variable {F : FTy → Type} [FloatOps F] [Named F]

/-- The weights of one tile: the exponential of the masked scores less the row's log-sum-exp. -/
def tW (ok : IVec S128x256 1) (q : Vec F S128x128 .f32) (kk : Vec F S256x128 .f32) (ls : Vec F S128x128 .f32) : FVec F S128x256 .f32 :=
  exp (subf (select ok (matmul dot_S128x128_S256x128_S128x256_1_1_0_0_n_n none (truncf .bf16 q bitsLt_bf16_f32) (truncf .bf16 kk bitsLt_bf16_f32) (constant S128x256 .f32 0x00000000#32)) (broadcast S128x256 (Named.named κ "mask" 0xF149F2CA#32)))
    (concatenate S128x256 1 [⟨S128x128, shapeCast S128x128 ls shapeCasts_S128x128_S128x128⟩, ⟨S128x128, shapeCast S128x128 ls shapeCasts_S128x128_S128x128⟩] concatenates_S128x128_S128x128_S128x256_d1))

/-- The gradient of one tile's scores. -/
def tDs (ok : IVec S128x256 1) (q dO : Vec F S128x128 .f32) (kk vv : Vec F S256x128 .f32) (dl ls : Vec F S128x128 .f32) : FVec F S128x256 .f32 :=
  mulf (tW ok q kk ls) (subf (matmul dot_S128x128_S256x128_S128x256_1_1_0_0_n_n none (truncf .bf16 dO bitsLt_bf16_f32) (truncf .bf16 vv bitsLt_bf16_f32) (constant S128x256 .f32 0x00000000#32))
    (concatenate S128x256 1 [⟨S128x128, shapeCast S128x128 dl shapeCasts_S128x128_S128x128⟩, ⟨S128x128, shapeCast S128x128 dl shapeCasts_S128x128_S128x128⟩] concatenates_S128x128_S128x128_S128x256_d1))

/-- One tile's gradient of the queries. -/
def tQ (ok : IVec S128x256 1) (q dO : Vec F S128x128 .f32) (kk vv : Vec F S256x128 .f32) (dl ls : Vec F S128x128 .f32) : FVec F S128x128 .f32 :=
  matmul dot_S128x256_S256x128_S128x128_1_0_0_1_n_n none (truncf .bf16 (tDs ok q dO kk vv dl ls) bitsLt_bf16_f32) (truncf .bf16 kk bitsLt_bf16_f32) (constant S128x128 .f32 0x00000000#32)

/-- One tile's addition to the gradient of the keys. -/
def tK (ok : IVec S128x256 1) (q dO : Vec F S128x128 .f32) (kk vv : Vec F S256x128 .f32) (dl ls : Vec F S128x128 .f32) : FVec F S256x128 .f32 :=
  matmul dot_S128x256_S128x128_S256x128_0_0_1_1_n_n none (truncf .bf16 (tDs ok q dO kk vv dl ls) bitsLt_bf16_f32) (truncf .bf16 q bitsLt_bf16_f32) (constant S256x128 .f32 0x00000000#32)

/-- One tile's addition to the gradient of the values. -/
def tV (ok : IVec S128x256 1) (q dO : Vec F S128x128 .f32) (kk : Vec F S256x128 .f32) (ls : Vec F S128x128 .f32) : FVec F S256x128 .f32 :=
  matmul dot_S128x256_S128x128_S256x128_0_0_1_1_n_n none (truncf .bf16 (tW ok q kk ls) bitsLt_bf16_f32) (truncf .bf16 dO bitsLt_bf16_f32) (constant S256x128 .f32 0x00000000#32)

end

/-- The band of a tile that lies inside its block of rows. -/
theorem k4_at (r : Fin 128) (j : Fin 256) : k0_pay4 (ix2 r j) = 1#1 ↔ (r.val ≤ j.val ∧ j.val ≤ r.val + 128) := by
  pointwise [k0_pay4]
  word_omega

/-- The band of a block's first tile: the rows of the block before count only where there is one. -/
theorem k5_at (i : grid0.Coords) (r : Fin 128) (j : Fin 256) :
    k0_pay5 i (ix2 r j) = 1#1 ↔ ((r.val ≤ j.val ∧ j.val ≤ r.val + 128) ∧ ((i 0).val = 0 → 128 ≤ j.val)) := by
  have h8 : (i 0).val < 8 := (i 0).isLt
  have h4 := k4_at r j
  pointwise [k0_pay5]
  rw [← h4]
  generalize k0_pay4 (ix2 r j) = b
  have ha : ∀ x y : BitVec 1, IntOp.andi x y = 1#1 ↔ x = 1#1 ∧ y = 1#1 := by decide
  rw [ha]
  refine and_congr_right fun _ => ?_
  generalize (i 0).val = n at *
  simp only [Scalar.cmpi]
  clear ha h4
  word_omega

/-- The band of the next block's first tile against a block's last rows. -/
theorem k6_at (i : grid0.Coords) (r : Fin 128) (j : Fin 128) :
    k0_pay6 i (ix2 r j) = 1#1 ↔ (r.val ≤ j.val ∧ (i 0).val < 7) := by
  have h8 : (i 0).val < 8 := (i 0).isLt
  pointwise [k0_pay6]
  generalize (i 0).val = n at *
  simp only [Scalar.cmpi, Scalar.addi]
  word_omega

/-- The named mask is −∞. -/
theorem mask_bot : (Named.named (F := Ideal) κ "mask" 0xF149F2CA#32 : Ideal .f32) = ⊥ :=
  IdealRules.named_const.ideal_named_scalar _ _ _ _ rfl

/-- Key `s` lies in query `t`'s window. -/
def band (t s : ℕ) : Prop := s ≤ t ∧ t ≤ s + 128
instance (t s : ℕ) : Decidable (band t s) := inferInstanceAs (Decidable (_ ∧ _))

/-- The weight that query `t` gives key `s`: zero outside the window. -/
def wt (Q K : ℕ → ℕ → ℝ) (L : ℕ → ℝ) (t s : ℕ) : ℝ :=
  if band t s then Real.exp ((∑ c : Fin 128, Q t c * K s c) - L t) else 0

/-- The gradient of the score of query `t` and key `s`. -/
def sg (Q K V DO : ℕ → ℕ → ℝ) (L D : ℕ → ℝ) (t s : ℕ) : ℝ :=
  wt Q K L t s * ((∑ c : Fin 128, DO t c * V s c) - D t)

theorem coe_sum {ι : Type*} (s : Finset ι) (f : ι → ℝ) : ((∑ x ∈ s, f x : ℝ) : EReal) = ∑ x ∈ s, (f x : EReal) := by
  classical
  induction s using Finset.induction_on with
  | empty => simp
  | insert a s h ih => rw [Finset.sum_insert h, Finset.sum_insert h, EReal.coe_add, ih]

section
variable {Q K V DO : ℕ → ℕ → ℝ} {L D : ℕ → ℝ}

/-- A tile's weights: for query row `r` standing at `t r` and key row `j` at `s j`, wherever the tile's mask is the window. -/
theorem tW_at {ok : IVec S128x256 1} {q : Vec Ideal S128x128 .f32} {kk : Vec Ideal S256x128 .f32} {ls : Vec Ideal S128x128 .f32}
    {t : ℕ} {s : Fin 256 → ℕ} {live : Fin 256 → Prop} [DecidablePred live]
    (hq : ∀ r c : Fin 128, q (ix2 r c) = (Q (t + r) c : EReal))
    (hk : ∀ (j : Fin 256) (c : Fin 128), live j → kk (ix2 j c) = (K (s j) c : EReal))
    (hl : ∀ r c : Fin 128, ls (ix2 r c) = (L (t + r) : EReal))
    (hok : ∀ (r : Fin 128) (j : Fin 256), ok (ix2 r j) = 1#1 ↔ (live j ∧ band (t + r) (s j)))
    (r : Fin 128) (j : Fin 256) :
    tW ok q kk ls (ix2 r j) = ((if live j then wt Q K L (t + r) (s j) else 0 : ℝ) : EReal) := by
  pointwise [tW]
  rw [mask_bot]
  simp only [hq, hl, dite_eq_ite, ite_self]
  by_cases h : ok (ix2 r j) = 1#1
  · obtain ⟨h1, h2⟩ := (hok r j).1 h
    rw [h]
    simp only [hk j _ h1, if_pos h1, wt, if_pos h2, ← EReal.coe_mul, ← coe_sum]
    change Ideal.exp (((∑ c : Fin 128, Q (t + r) c * K (s j) c : ℝ) : EReal) - ((L (t + r) : ℝ) : EReal)) = _
    rw [← EReal.coe_sub]; rfl
  · have h0 : ok (ix2 r j) = 0#1 := by
      generalize ok (ix2 r j) = b at h
      revert h; revert b; decide
    rw [h0]
    have : (if live j then wt Q K L (t + r) (s j) else 0 : ℝ) = 0 := by
      by_cases h1 : live j
      · rw [if_pos h1, wt, if_neg]; exact fun h2 => h ((hok r j).2 ⟨h1, h2⟩)
      · rw [if_neg h1]
    rw [this]
    change Ideal.exp ((⊥ : EReal) - _) = _
    rw [EReal.bot_sub]; rfl

/-- A tile's score gradients likewise. -/
theorem tDs_at {ok : IVec S128x256 1} {q dO : Vec Ideal S128x128 .f32} {kk vv : Vec Ideal S256x128 .f32} {dl ls : Vec Ideal S128x128 .f32}
    {t : ℕ} {s : Fin 256 → ℕ} {live : Fin 256 → Prop} [DecidablePred live]
    (hq : ∀ r c : Fin 128, q (ix2 r c) = (Q (t + r) c : EReal))
    (ho : ∀ r c : Fin 128, dO (ix2 r c) = (DO (t + r) c : EReal))
    (hk : ∀ (j : Fin 256) (c : Fin 128), live j → kk (ix2 j c) = (K (s j) c : EReal))
    (hv : ∀ (j : Fin 256) (c : Fin 128), live j → vv (ix2 j c) = (V (s j) c : EReal))
    (hd : ∀ r c : Fin 128, dl (ix2 r c) = (D (t + r) : EReal))
    (hl : ∀ r c : Fin 128, ls (ix2 r c) = (L (t + r) : EReal))
    (hok : ∀ (r : Fin 128) (j : Fin 256), ok (ix2 r j) = 1#1 ↔ (live j ∧ band (t + r) (s j)))
    (r : Fin 128) (j : Fin 256) :
    tDs ok q dO kk vv dl ls (ix2 r j) = ((if live j then sg Q K V DO L D (t + r) (s j) else 0 : ℝ) : EReal) := by
  pointwise [tDs]
  rw [tW_at hq hk hl hok]
  simp only [ho, hd, dite_eq_ite, ite_self]
  by_cases h1 : live j
  · simp only [if_pos h1, hv j _ h1, sg, ← EReal.coe_mul, ← coe_sum, ← EReal.coe_sub]
  · simp only [if_neg h1]
    show ((0 : ℝ) : EReal) * _ = _
    rw [EReal.coe_zero, zero_mul]

/-- A tile's gradient of its queries is the sum over the live keys. -/
theorem tQ_at {ok : IVec S128x256 1} {q dO : Vec Ideal S128x128 .f32} {kk vv : Vec Ideal S256x128 .f32} {dl ls : Vec Ideal S128x128 .f32}
    {t : ℕ} {s : Fin 256 → ℕ} {live : Fin 256 → Prop} [DecidablePred live]
    (hq : ∀ r c : Fin 128, q (ix2 r c) = (Q (t + r) c : EReal))
    (ho : ∀ r c : Fin 128, dO (ix2 r c) = (DO (t + r) c : EReal))
    (hk : ∀ (j : Fin 256) (c : Fin 128), live j → kk (ix2 j c) = (K (s j) c : EReal))
    (hv : ∀ (j : Fin 256) (c : Fin 128), live j → vv (ix2 j c) = (V (s j) c : EReal))
    (hd : ∀ r c : Fin 128, dl (ix2 r c) = (D (t + r) : EReal))
    (hl : ∀ r c : Fin 128, ls (ix2 r c) = (L (t + r) : EReal))
    (hok : ∀ (r : Fin 128) (j : Fin 256), ok (ix2 r j) = 1#1 ↔ (live j ∧ band (t + r) (s j)))
    (r c : Fin 128) :
    tQ ok q dO kk vv dl ls (ix2 r c) = ((∑ j : Fin 256, if live j then sg Q K V DO L D (t + r) (s j) * K (s j) c else 0 : ℝ) : EReal) := by
  pointwise [tQ]
  rw [coe_sum]
  refine Finset.sum_congr rfl fun j _ => ?_
  rw [tDs_at hq ho hk hv hd hl hok]
  by_cases h1 : live j
  · simp only [if_pos h1, hk j _ h1, ← EReal.coe_mul]
  · simp only [if_neg h1, EReal.coe_zero, zero_mul]

/-- A tile's addition to the gradient of a key is the sum over the tile's queries. -/
theorem tK_at {ok : IVec S128x256 1} {q dO : Vec Ideal S128x128 .f32} {kk vv : Vec Ideal S256x128 .f32} {dl ls : Vec Ideal S128x128 .f32}
    {t : ℕ} {s : Fin 256 → ℕ} {live : Fin 256 → Prop} [DecidablePred live]
    (hq : ∀ r c : Fin 128, q (ix2 r c) = (Q (t + r) c : EReal))
    (ho : ∀ r c : Fin 128, dO (ix2 r c) = (DO (t + r) c : EReal))
    (hk : ∀ (j : Fin 256) (c : Fin 128), live j → kk (ix2 j c) = (K (s j) c : EReal))
    (hv : ∀ (j : Fin 256) (c : Fin 128), live j → vv (ix2 j c) = (V (s j) c : EReal))
    (hd : ∀ r c : Fin 128, dl (ix2 r c) = (D (t + r) : EReal))
    (hl : ∀ r c : Fin 128, ls (ix2 r c) = (L (t + r) : EReal))
    (hok : ∀ (r : Fin 128) (j : Fin 256), ok (ix2 r j) = 1#1 ↔ (live j ∧ band (t + r) (s j)))
    (j : Fin 256) (c : Fin 128) :
    tK ok q dO kk vv dl ls (ix2 j c) = ((if live j then ∑ r : Fin 128, sg Q K V DO L D (t + r) (s j) * Q (t + r) c else 0 : ℝ) : EReal) := by
  pointwise [tK]
  have : ∀ r : Fin 128, tDs ok q dO kk vv dl ls (ix2 r j) * q (ix2 r c) = (((if live j then sg Q K V DO L D (t + r) (s j) else 0) * Q (t + r) c : ℝ) : EReal) := fun r => by
    rw [tDs_at hq ho hk hv hd hl hok, hq, ← EReal.coe_mul]
  simp only [this, ← coe_sum]
  by_cases h1 : live j
  · simp only [if_pos h1]
  · simp only [if_neg h1, zero_mul, Finset.sum_const_zero]

/-- A tile's addition to the gradient of a value is the sum over the tile's queries. -/
theorem tV_at {ok : IVec S128x256 1} {q dO : Vec Ideal S128x128 .f32} {kk : Vec Ideal S256x128 .f32} {ls : Vec Ideal S128x128 .f32}
    {t : ℕ} {s : Fin 256 → ℕ} {live : Fin 256 → Prop} [DecidablePred live]
    (hq : ∀ r c : Fin 128, q (ix2 r c) = (Q (t + r) c : EReal))
    (ho : ∀ r c : Fin 128, dO (ix2 r c) = (DO (t + r) c : EReal))
    (hk : ∀ (j : Fin 256) (c : Fin 128), live j → kk (ix2 j c) = (K (s j) c : EReal))
    (hl : ∀ r c : Fin 128, ls (ix2 r c) = (L (t + r) : EReal))
    (hok : ∀ (r : Fin 128) (j : Fin 256), ok (ix2 r j) = 1#1 ↔ (live j ∧ band (t + r) (s j)))
    (j : Fin 256) (c : Fin 128) :
    tV ok q dO kk ls (ix2 j c) = ((if live j then ∑ r : Fin 128, wt Q K L (t + r) (s j) * DO (t + r) c else 0 : ℝ) : EReal) := by
  pointwise [tV]
  have : ∀ r : Fin 128, tW ok q kk ls (ix2 r j) * dO (ix2 r c) = (((if live j then wt Q K L (t + r) (s j) else 0) * DO (t + r) c : ℝ) : EReal) := fun r => by
    rw [tW_at hq hk hl hok, ho, ← EReal.coe_mul]
  simp only [this, ← coe_sum]
  by_cases h1 : live j
  · simp only [if_pos h1]
  · simp only [if_neg h1, zero_mul, Finset.sum_const_zero]

end

/-- The sum over one tile's 256 key rows, of which the first 128 stand before the tile, is the sum over all keys of a
    function that vanishes outside the windows of the tile's queries. -/
theorem sum_keys (f : ℕ → ℝ) (t0 r n : ℕ) (hr : r < 128) (hn : t0 + 128 ≤ n) (h0 : ∀ s, ¬ band (t0 + r) s → f s = 0) :
    (∑ j : Fin 256, if 128 ≤ t0 + j then f (t0 + j - 128) else 0) = ∑ s ∈ Finset.range n, f s := by
  rw [Fin.sum_univ_eq_sum_range (fun j => if 128 ≤ t0 + j then f (t0 + j - 128) else 0) 256]
  refine Finset.sum_bij_ne_zero (fun j _ _ => t0 + j - 128) ?_ ?_ ?_ ?_
  · intro j hj _
    rw [Finset.mem_range] at *; omega
  · intro a ha ha' b hb hb' hab
    have h1 : 128 ≤ t0 + a := by by_contra h; exact ha' (if_neg h)
    have h2 : 128 ≤ t0 + b := by by_contra h; exact hb' (if_neg h)
    omega
  · intro s hs hs'
    have hb : band (t0 + r) s := by by_contra h; exact hs' (h0 s h)
    obtain ⟨h1, h2⟩ := hb
    refine ⟨s + 128 - t0, ?_, ?_, ?_⟩
    · rw [Finset.mem_range]; omega
    · rw [if_pos (by omega)]; rwa [show t0 + (s + 128 - t0) - 128 = s by omega]
    · omega
  · intro j _ hj
    have h1 : 128 ≤ t0 + j := by by_contra h; exact hj (if_neg h)
    rw [if_pos h1]

/-- The sum over nine runs of 128 queries from a block's first row, the ninth only where the next block exists, is the
    sum over all queries of a function that vanishes outside the windows that hold the key. -/
theorem sum_queries (f : ℕ → ℝ) (i r : ℕ) (hi : i < 8) (hr : r < 1024) (h0 : ∀ t, ¬ band t (1024 * i + r) → f t = 0) :
    (∑ b ∈ Finset.range 8, ∑ x : Fin 128, f (1024 * i + 128 * b + x)) + (if i < 7 then ∑ x : Fin 128, f (1024 * i + 1024 + x) else 0)
      = ∑ t ∈ Finset.range 8192, f t := by
  have hA : ∀ b, (∑ x : Fin 128, f (1024 * i + 128 * b + x)) = ∑ x ∈ Finset.range 128, f (1024 * i + (128 * b + x)) := fun b => by
    rw [← Fin.sum_univ_eq_sum_range (fun x => f (1024 * i + (128 * b + x))) 128]
    exact Finset.sum_congr rfl fun x _ => by rw [Nat.add_assoc]
  have hB : (∑ x : Fin 128, f (1024 * i + 1024 + x)) = ∑ x ∈ Finset.range 128, f (1024 * i + (1024 + x)) := by
    rw [← Fin.sum_univ_eq_sum_range (fun x => f (1024 * i + (1024 + x))) 128]
    exact Finset.sum_congr rfl fun x _ => by rw [Nat.add_assoc]
  have hC : (∑ b ∈ Finset.range 8, ∑ x ∈ Finset.range 128, f (1024 * i + (128 * b + x))) = ∑ y ∈ Finset.range 1024, f (1024 * i + y) := by
    simp only [Finset.sum_range_succ (n := 7), Finset.sum_range_succ (n := 6), Finset.sum_range_succ (n := 5), Finset.sum_range_succ (n := 4),
      Finset.sum_range_succ (n := 3), Finset.sum_range_succ (n := 2), Finset.sum_range_succ (n := 1), Finset.sum_range_one]
    rw [show 1024 = 128 + 128 + 128 + 128 + 128 + 128 + 128 + 128 by norm_num]
    simp only [Finset.sum_range_add, Nat.mul_zero, Nat.zero_add, Nat.mul_one]
  simp only [hA, hB, hC]
  have hD : (∑ y ∈ Finset.range 1024, f (1024 * i + y)) + (if i < 7 then ∑ x ∈ Finset.range 128, f (1024 * i + (1024 + x)) else 0)
      = ∑ y ∈ Finset.range 1152, (if 1024 * i + y < 8192 then f (1024 * i + y) else 0) := by
    rw [show 1152 = 1024 + 128 by norm_num, Finset.sum_range_add]
    congr 1
    · refine Finset.sum_congr rfl fun y hy => ?_
      rw [Finset.mem_range] at hy
      rw [if_pos (by omega)]
    · by_cases h : i < 7
      · rw [if_pos h]
        refine Finset.sum_congr rfl fun y hy => ?_
        rw [Finset.mem_range] at hy
        rw [if_pos (by omega)]
      · rw [if_neg h]
        refine (Finset.sum_eq_zero fun y hy => ?_).symm
        rw [if_neg (by omega)]
  rw [hD]
  refine Finset.sum_bij_ne_zero (fun y _ _ => 1024 * i + y) ?_ ?_ ?_ ?_
  · intro y hy h
    rw [Finset.mem_range]; by_contra h'; exact h (if_neg h')
  · intro a _ _ b _ _ h; omega
  · intro t ht ht'
    rw [Finset.mem_range] at ht
    have hb : band t (1024 * i + r) := by by_contra h; exact ht' (h0 t h)
    obtain ⟨h1, h2⟩ := hb
    refine ⟨t - 1024 * i, ?_, ?_, ?_⟩
    · rw [Finset.mem_range]; omega
    · rw [if_pos (by omega)]; rwa [show 1024 * i + (t - 1024 * i) = t by omega]
    · omega
  · intro y _ h
    rw [if_pos (by by_contra h'; exact h (if_neg h'))]

/-- A load of `n` rows from row `o`, at a row and lane, reads what the stores left there. -/
theorem readCov_at {κ' : Kind} {sp : Space} (v : View sig κ' sp S1024x128 .f32) (L : List (View.Piece (Elt Ideal) S1024x128 .f32)) (o n : ℕ)
    (inb : ∀ a, (![o, 0] : Fin 2 → ℕ) a + (![n, 128] : Fin 2 → ℕ) a ≤ S1024x128.size a) (hn : o + n ≤ 1024) (a : Fin n) (l : Fin 128) :
    v.readCov L (Rect.unit (s := S1024x128) ![o, 0] ![n, 128] inb).toLoadRect (ix2 a l) = View.canon L (ix2 ⟨o + a.val, by omega⟩ l) := by
  rw [View.readCov_eq_canon']
  refine congrArg (View.canon L) ?_
  funext d
  refine Fin.ext ?_
  match d with
  | ⟨0, _⟩ => show o + 1 * a.val = o + a.val; omega
  | ⟨1, _⟩ => show 0 + 1 * l.val = l.val; omega

/-- What a list of stores leaves at a row and lane, the last of them an addition to `n` rows from row `o`: the earlier
    stores' contents, and the addition where the row is one of these. -/
theorem step_at (L : List (View.Piece (Elt Ideal) S1024x128 .f32)) (o n : ℕ)
    (inb : ∀ a, (![o, 0] : Fin 2 → ℕ) a + (![n, 128] : Fin 2 → ℕ) a ≤ S1024x128.size a) (hn : o + n ≤ 1024)
    (w : (Rect.unit (s := S1024x128) ![o, 0] ![n, 128] inb).shape.Idx → Elt Ideal .f32) (X : Fin n → Fin 128 → EReal)
    (hw : ∀ (a : Fin n) (l : Fin 128), w (ix2 a l) = View.canon L (ix2 ⟨o + a.val, by omega⟩ l) + X a l) (r : Fin 1024) (l : Fin 128) :
    View.canon (⟨Rect.unit ![o, 0] ![n, 128] inb, w⟩ :: L) (ix2 r l)
      = View.canon L (ix2 r l) + (if h : o ≤ r.val ∧ r.val < o + n then X ⟨r.val - o, by omega⟩ l else (0 : EReal)) := by
  by_cases h : o ≤ r.val ∧ r.val < o + n
  · rw [dif_pos h]
    have e : (ix2 r l : S1024x128.Idx) = (Rect.unit (s := S1024x128) ![o, 0] ![n, 128] inb).emb (ix2 (⟨r.val - o, by omega⟩ : Fin n) l) := by
      funext d
      refine Fin.ext ?_
      match d with
      | ⟨0, _⟩ => show r.val = o + 1 * (r.val - o); omega
      | ⟨1, _⟩ => show l.val = 0 + 1 * l.val; omega
    conv_lhs => rw [e]
    rw [View.canon_cons_emb, hw]
    have e2 : (⟨o + (r.val - o), by omega⟩ : Fin 1024) = r := Fin.ext (by show o + (r.val - o) = r.val; omega)
    rw [e2]
  · rw [dif_neg h, add_zero]
    refine View.canon_cons_of_not_mem _ _ ?_
    intro hm
    rw [Rect.mem_set_unit] at hm
    exact h (hm 0)

/-- The same where the last store replaces the rows. -/
theorem put_at (L : List (View.Piece (Elt Ideal) S1024x128 .f32)) (o n : ℕ)
    (inb : ∀ a, (![o, 0] : Fin 2 → ℕ) a + (![n, 128] : Fin 2 → ℕ) a ≤ S1024x128.size a)
    (w : (Rect.unit (s := S1024x128) ![o, 0] ![n, 128] inb).shape.Idx → Elt Ideal .f32) (r : Fin 1024) (l : Fin 128) :
    View.canon (⟨Rect.unit ![o, 0] ![n, 128] inb, w⟩ :: L) (ix2 r l)
      = (if h : o ≤ r.val ∧ r.val < o + n then w (ix2 ⟨r.val - o, by omega⟩ l) else View.canon L (ix2 r l)) := by
  by_cases h : o ≤ r.val ∧ r.val < o + n
  · rw [dif_pos h]
    have e : (ix2 r l : S1024x128.Idx) = (Rect.unit (s := S1024x128) ![o, 0] ![n, 128] inb).emb (ix2 (⟨r.val - o, by omega⟩ : Fin n) l) := by
      funext d
      refine Fin.ext ?_
      match d with
      | ⟨0, _⟩ => show r.val = o + 1 * (r.val - o); omega
      | ⟨1, _⟩ => show l.val = 0 + 1 * l.val; omega
    conv_lhs => rw [e]
    rw [View.canon_cons_emb]
  · rw [dif_neg h]
    refine View.canon_cons_of_not_mem _ _ ?_
    intro hm
    rw [Rect.mem_set_unit] at hm
    exact h (hm 0)

/-- A load of `n` rows from row `o` of a block, at a row and lane. -/
theorem ld_at (x : Vec Ideal S1024x128 .f32) (o n : ℕ)
    (inb : ∀ a, (![o, 0] : Fin 2 → ℕ) a + (![n, 128] : Fin 2 → ℕ) a ≤ S1024x128.size a) (hn : o + n ≤ 1024) (a : Fin n) (l : Fin 128) :
    View.ld (Val := Elt Ideal) (e' := .f32) x (Rect.unit (s := S1024x128) ![o, 0] ![n, 128] inb) (ix2 a l) = x (ix2 ⟨o + a.val, by omega⟩ l) := by
  refine congrArg x ?_
  funext d
  refine Fin.ext ?_
  match d with
  | ⟨0, _⟩ => show o + 1 * a.val = o + a.val; omega
  | ⟨1, _⟩ => show 0 + 1 * l.val = l.val; omega

end Cert.KernelIdeal.Dil
end
-- ==== Proof.Reads.lean ====
module

public import proofs.«01_k».proof.Proof.Soft
public import proofs.«01_k».proof.Proof.Tile

@[expose] public section

set_option maxRecDepth 16384

noncomputable section

namespace Cert.KernelIdeal.Dil

open Cert.KernelIdeal Cert.KernelIdeal.Gen Idealize.ShloMosaic Idealize.ShloMosaic.TcCoe

/-- The real entry of an array of all heads at a token and a channel; 0 outside. -/
def rd (x : FVec Ideal S8192x3072 .f32) (t c : ℕ) : ℝ :=
  if h : t < 8192 ∧ c < 3072 then (x (ix2 ⟨t, h.1⟩ ⟨c, h.2⟩)).toReal else 0

/-- The real entry of a cotangent at a token and a channel; 0 outside. -/
def rc (x : FVec Ideal S8192x1024 .f32) (t c : ℕ) : ℝ :=
  if h : t < 8192 ∧ c < 1024 then (x (ix2 ⟨t, h.1⟩ ⟨c, h.2⟩)).toReal else 0

/-- A real array of all heads is its real entries. -/
theorem rd_eq {x : FVec Ideal S8192x3072 .f32} (hx : ∀ i, ∃ r : ℝ, x i = (r : EReal)) (t : Fin 8192) (c : Fin 3072) : x (ix2 t c) = (rd x t c : EReal) := by
  obtain ⟨r, hr⟩ := hx (ix2 t c)
  rw [rd, dif_pos ⟨t.isLt, c.isLt⟩]
  show x (ix2 t c) = ((x (ix2 t c)).toReal : EReal)
  rw [hr]; rfl

/-- A real cotangent is its real entries. -/
theorem rc_eq {x : FVec Ideal S8192x1024 .f32} (hx : ∀ i, ∃ r : ℝ, x i = (r : EReal)) (t : Fin 8192) (c : Fin 1024) : x (ix2 t c) = (rc x t c : EReal) := by
  obtain ⟨r, hr⟩ := hx (ix2 t c)
  rw [rc, dif_pos ⟨t.isLt, c.isLt⟩]
  show x (ix2 t c) = ((x (ix2 t c)).toReal : EReal)
  rw [hr]; rfl

section
variable {x : FVec Ideal S8192x3072 .f32} (hx : ∀ i, ∃ r : ℝ, x i = (r : EReal))
include hx

/-- Group 0 of a real array. -/
theorem hd0_at (t : Fin 8192) (h : Fin 8) (c : Fin 128) : hd0 x (ix3 t h c) = (rd x t (128 * h + c) : EReal) := by
  pointwise [hd0]
  rw [rd_eq hx]
  congr 2
  show h.val * 128 + c.val = 128 * h.val + c.val
  omega

/-- Group 1 of a real array. -/
theorem hd1_at (t : Fin 8192) (h : Fin 8) (c : Fin 128) : hd1 x (ix3 t h c) = (rd x t (1024 + (128 * h + c)) : EReal) := by
  pointwise [hd1]
  rw [rd_eq hx]
  congr 2
  show 1024 + (h.val * 128 + c.val) = 1024 + (128 * h.val + c.val)
  omega

/-- Group 2 of a real array. -/
theorem hd2_at (t : Fin 8192) (h : Fin 8) (c : Fin 128) : hd2 x (ix3 t h c) = (rd x t (2048 + (128 * h + c)) : EReal) := by
  pointwise [hd2]
  rw [rd_eq hx]
  congr 2
  show 2048 + (h.val * 128 + c.val) = 2048 + (128 * h.val + c.val)
  omega
end

/-- A word's remainder by one is zero. -/
theorem rem_one (x : BitVec 32) : IntOp.remsi ArithUnit.host x 1#32 = 0#32 := by
  rw [IntOp.remsi, if_neg]
  · apply BitVec.eq_of_toInt_eq
    rw [BitVec.toInt_srem]
    simp
  · rintro (h | ⟨_, h⟩)
    · exact absurd h (by decide)
    · exact absurd h (by decide)

/-- The first group's mask: on exactly where the key is at most 128 tokens before the query. -/
theorem mask0 (t s : Fin 8192) : IntOp.andi (IntOp.andi (IntOp.cmpi CmpIPredicate.sge (IntOp.subi (BitVec.ofNat 32 t) (BitVec.ofNat 32 s)) 0#32)
    (IntOp.cmpi CmpIPredicate.sle (IntOp.subi (BitVec.ofNat 32 t) (BitVec.ofNat 32 s)) 128#32))
    (IntOp.cmpi CmpIPredicate.eq (IntOp.remsi ArithUnit.host (IntOp.subi (BitVec.ofNat 32 t) (BitVec.ofNat 32 s)) 1#32) 0#32) = 1 ↔ band t s := by
  rw [rem_one]
  simp only [IntOp.subi]
  have ht := t.isLt
  have hs := s.isLt
  generalize t.val = a at *
  generalize s.val = b at *
  unfold band
  word_omega

/-- A group's scores are real or −∞. -/
theorem sco_or {a b : FVec Ideal S8192x8x128 .f32} {A B : Fin 8192 → Fin 8 → Fin 128 → ℝ} (ha : ∀ t h c, a (ix3 t h c) = (A t h c : EReal))
    (hb : ∀ t h c, b (ix3 t h c) = (B t h c : EReal)) (w d : BitVec 32) (h : Fin 8) (t s : Fin 8192) :
    sco w d a b (ix3 h t s) = ⊥ ∨ ∃ r : ℝ, sco w d a b (ix3 h t s) = r := by
  pointwise [sco, msk]
  simp only [ha, hb, neg_inf, ← EReal.coe_mul, ← coe_sum]
  unfold Scalar.select
  split
  · exact Or.inr ⟨_, rfl⟩
  · exact Or.inl rfl

/-- The first group's scores: the inner products within the window, −∞ outside. -/
theorem sco0_at {a b : FVec Ideal S8192x8x128 .f32} {A B : Fin 8192 → Fin 8 → Fin 128 → ℝ} (ha : ∀ t h c, a (ix3 t h c) = (A t h c : EReal))
    (hb : ∀ t h c, b (ix3 t h c) = (B t h c : EReal)) (h : Fin 8) (t s : Fin 8192) :
    sco 128#32 1#32 a b (ix3 h t s) = if band t s then ((∑ c, A t h c * B s h c : ℝ) : EReal) else ⊥ := by
  pointwise [sco, msk]
  simp only [ha, hb, neg_inf, ← EReal.coe_mul, ← coe_sum]
  unfold Scalar.select
  by_cases hb : band t s
  · rw [if_pos hb, if_pos ((mask0 t s).2 hb)]
  · rw [if_neg hb, if_neg (fun h => hb ((mask0 t s).1 h))]

end Cert.KernelIdeal.Dil
end
-- ==== Proof.Rows.lean ====
module

public import proofs.«01_k».proof.Proof.Reads

@[expose] public section

set_option maxRecDepth 16384

noncomputable section

namespace Cert.KernelIdeal.Dil

open Cert.KernelIdeal Cert.KernelIdeal.Gen Idealize.ShloMosaic Idealize.ShloMosaic.TcCoe

/-- A sum with a logarithm, entry by entry. -/
theorem addlog_at (a z : FVec Ideal S8x8192 .f32) (h : Fin 8) (t : Fin 8192) : addf a (Host.log z) (ix2 h t) = a (ix2 h t) + Ideal.log (z (ix2 h t)) := by
  pointwise []

/-- One number per token and head, at a channel of the head. -/
theorem lanes_at (x : FVec Ideal S8192x8 .f32) (t : Fin 8192) (h : Fin 8) (c : Fin 128) (hc : 128 * h.val + c.val < 1024) :
    lanes x (ix2 t ⟨128 * h.val + c.val, hc⟩) = x (ix2 t h) := by
  pointwise [lanes]

/-- Heads by tokens read as tokens by heads. -/
theorem swap_at (x : FVec Ideal S8x8192 .f32) (t : Fin 8192) (h : Fin 8) :
    transpose S8192x8 [1, 0] x transposes_S8x8192_S8192x8_1_0 (ix2 t h) = x (ix2 h t) := by
  pointwise []

/-- The logarithms the kernel takes, at a token and a channel of a head. -/
theorem lsx_at (s : FVec Ideal S8x8192x24576 .f32) (t : Fin 8192) (h : Fin 8) (c : Fin 128) (hc : 128 * h.val + c.val < 1024) :
    lsx s (ix2 t ⟨128 * h.val + c.val, hc⟩) = MX s (ix2 h t) + Ideal.log (ZZ s (ix2 h t)) := by
  rw [lsx, lanes_at, swap_at, addlog_at]

/-- The scores of three groups, at a key. -/
theorem catS_at (a b d : FVec Ideal S8x8192x8192 .f32) (h : Fin 8) (t : Fin 8192) (c : Fin 24576) :
    catS a b d (ix3 h t c) = if h1 : c.val < 8192 then a (ix3 h t ⟨c.val, h1⟩) else if h2 : c.val - 8192 < 8192 then b (ix3 h t ⟨c.val - 8192, h2⟩)
      else d (ix3 h t ⟨c.val - 8192 - 8192, by have := c.isLt; omega⟩) := by
  pointwise [catS]

/-- The values of three groups, at a key. -/
theorem catV_at (a b d : FVec Ideal S8192x8x128 .f32) (u : Fin 24576) (h : Fin 8) (c : Fin 128) :
    catV a b d (ix3 u h c) = if h1 : u.val < 8192 then a (ix3 ⟨u.val, h1⟩ h c) else if h2 : u.val - 8192 < 8192 then b (ix3 ⟨u.val - 8192, h2⟩ h c)
      else d (ix3 ⟨u.val - 8192 - 8192, by have := u.isLt; omega⟩ h c) := by
  pointwise [catV]

/-- The largest score, as a fold. -/
theorem MX_at (s : FVec Ideal S8x8192x24576 .f32) (h : Fin 8) (t : Fin 8192) :
    MX s (ix2 h t) = Finset.fold max ⊥ (fun x => s (ix3 h t x)) Finset.univ := by
  pointwise [MX]
  rw [neg_inf]

/-- A repeated number's difference, exponentiated. -/
theorem expsub_at (s : FVec Ideal S8x8192x24576 .f32) (x : FVec Ideal S8x8192 .f32) (h : Fin 8) (t : Fin 8192) (u : Fin 24576) :
    Host.exp (subf s (rep x)) (ix3 h t u) = Ideal.exp (s (ix3 h t u) - x (ix2 h t)) := by
  pointwise [rep]

/-- The sum of a row. -/
theorem rowsum_at (e : FVec Ideal S8x8192x24576 .f32) (h : Fin 8) (t : Fin 8192) :
    Host.reduceAdd e (constant S_ .f32 0x00000000#32) reducesTo_S8x8192x24576_S8x8192_d2 h_S_ (ix2 h t) = ∑ x, e (ix3 h t x) := by
  pointwise []

/-- The weighted sum of values. -/
theorem wsum_at (v : FVec Ideal S24576x8x128 .f32) (e : FVec Ideal S8x8192x24576 .f32) (z : FVec Ideal S8x8192 .f32) (t : Fin 8192) (h : Fin 8) (c : Fin 128) :
    transpose S8192x8x128 [2, 0, 1] (Host.dotGeneral dot_S24576x8x128_S8x8192x24576_S8x128x8192_0_2_2_1_1_0 none v (Host.divf e (rep z))) transposes_S8x128x8192_S8192x8x128_2_0_1 (ix3 t h c)
      = ∑ x, v (ix3 x h c) * Ideal.div (e (ix3 h t x)) (z (ix2 h t)) := by
  pointwise [rep]

/-- The row's inner product of a cotangent with an output. -/
theorem inner_at (o : FVec Ideal S8192x8x128 .f32) (d : FVec Ideal S8192x1024 .f32) (t : Fin 8192) (h : Fin 8) :
    Host.reduceAdd (mulf (shapeCast S8192x8x128 d shapeCasts_S8192x1024_S8192x8x128) o) (constant S_ .f32 0x00000000#32) reducesTo_S8192x8x128_S8192x8_d2 h_S_ (ix2 t h)
      = ∑ x : Fin 128, d (ix2 t ⟨128 * h.val + x.val, by have := h.isLt; have := x.isLt; omega⟩) * o (ix3 t h x) := by
  pointwise []
  refine Finset.sum_congr rfl fun x _ => ?_
  congr 3
  refine Fin.ext ?_
  show h.val * 128 + x.val = 128 * h.val + x.val
  omega

section
variable {q k : FVec Ideal S8192x3072 .f32} (hq : ∀ i, ∃ r : ℝ, q i = (r : EReal)) (hk : ∀ i, ∃ r : ℝ, k i = (r : EReal))
include hq hk

/-- Every score is real or −∞. -/
theorem SC_or (h : Fin 8) (t : Fin 8192) (u : Fin 24576) : SC q k (ix3 h t u) = ⊥ ∨ ∃ r : ℝ, SC q k (ix3 h t u) = r := by
  rw [SC, catS_at]
  split
  · exact sco_or (hd0_at hq) (hd0_at hk) _ _ _ _ _
  · split
    · exact sco_or (hd1_at hq) (hd1_at hk) _ _ _ _ _
    · exact sco_or (hd2_at hq) (hd2_at hk) _ _ _ _ _

/-- The first group's scores. -/
theorem SC_at (h : Fin 8) (t s : Fin 8192) (hs : s.val < 24576) : SC q k (ix3 h t ⟨s, hs⟩)
    = if band t s then ((∑ c : Fin 128, rd q t (128 * h + c) * rd k s (128 * h + c) : ℝ) : EReal) else ⊥ := by
  rw [SC, catS_at, dif_pos (show (⟨s.val, hs⟩ : Fin 24576).val < 8192 from s.isLt)]
  exact sco0_at (hd0_at hq) (hd0_at hk) h t s

end

/-- The largest score of a head and query, as a real number. -/
def mx (q k : FVec Ideal S8192x3072 .f32) (h : Fin 8) (t : Fin 8192) : ℝ := (MX (SC q k) (ix2 h t)).toReal

/-- The exponential of a score less the largest, as a real number. -/
def ex (q k : FVec Ideal S8192x3072 .f32) (h : Fin 8) (t : Fin 8192) (u : Fin 24576) : ℝ := (EX (SC q k) (ix3 h t u)).toReal

/-- The sum of a row's exponentials. -/
def zz (q k : FVec Ideal S8192x3072 .f32) (h : Fin 8) (t : Fin 8192) : ℝ := ∑ u, ex q k h t u

section
variable {q k : FVec Ideal S8192x3072 .f32} (hq : ∀ i, ∃ r : ℝ, q i = (r : EReal)) (hk : ∀ i, ∃ r : ℝ, k i = (r : EReal))
include hq hk

/-- The softmax rows of the forward are real. -/
theorem rows (h : Fin 8) (t : Fin 8192) : MX (SC q k) (ix2 h t) = (mx q k h t : EReal) ∧ (∀ u, EX (SC q k) (ix3 h t u) = (ex q k h t u : EReal))
    ∧ (∀ u, SC q k (ix3 h t u) = ⊥ → ex q k h t u = 0) ∧ (∀ u (r : ℝ), SC q k (ix3 h t u) = r → ex q k h t u = Real.exp (r - mx q k h t)) ∧ 0 < zz q k h t := by
  obtain ⟨M, e, hM, he, h0, hr, hz⟩ := soft_row (fun u => SC q k (ix3 h t u)) (SC_or hq hk h t) ⟨⟨t, by have := t.isLt; omega⟩, by
    rw [SC_at hq hk h t t, if_pos (show band t t from ⟨le_rfl, by omega⟩)]; exact ⟨_, rfl⟩⟩
  have hM' : MX (SC q k) (ix2 h t) = (M : EReal) := (MX_at _ h t).trans hM
  have hm : mx q k h t = M := by rw [mx, hM']; rfl
  have he' : ∀ u, EX (SC q k) (ix3 h t u) = (e u : EReal) := fun u => by
    rw [EX, expsub_at, hM']; exact he u
  have hx : ∀ u, ex q k h t u = e u := fun u => by rw [ex, he']; rfl
  refine ⟨by rw [hM', hm], fun u => by rw [he', hx], fun u hu => by rw [hx, h0 u hu], fun u r hu => by rw [hx, hr u r hu, hm], ?_⟩
  rw [zz]
  simp only [hx]
  exact hz

/-- The sum of a row's exponentials is real. -/
theorem ZZ_at (h : Fin 8) (t : Fin 8192) : ZZ (SC q k) (ix2 h t) = (zz q k h t : EReal) := by
  rw [ZZ, rowsum_at, zz, coe_sum]
  exact Finset.sum_congr rfl fun u _ => (rows hq hk h t).2.1 u

end

end Cert.KernelIdeal.Dil
end
-- ==== Proof.Weights.lean ====
module

public import proofs.«01_k».proof.Proof.Rows

@[expose] public section

set_option maxRecDepth 16384

noncomputable section

namespace Cert.KernelIdeal.Dil

open Cert.KernelIdeal Cert.KernelIdeal.Gen Idealize.ShloMosaic Idealize.ShloMosaic.TcCoe

/-- A real quotient by a positive number. -/
theorem div_real (x : ℝ) {z : ℝ} (hz : 0 < z) : Ideal.div (x : EReal) (z : EReal) = ((x / z : ℝ) : EReal) := by
  rw [Ideal.div_coe hz.ne', ← EReal.coe_mul, mul_one_div]

/-- A row's inner product with a weighted sum of values is the weighted sum of its inner products with the values. -/
theorem exchange {ι κ : Type*} [Fintype ι] [Fintype κ] (a : ι → ℝ) (b : κ → ι → ℝ) (p : κ → ℝ) :
    ∑ x, a x * ∑ u, b u x * p u = ∑ u, (∑ x, a x * b u x) * p u := by
  simp only [Finset.mul_sum, Finset.sum_mul]
  rw [Finset.sum_comm]
  exact Finset.sum_congr rfl fun u _ => Finset.sum_congr rfl fun x _ => (mul_assoc _ _ _).symm

/-- A value of some group, as a real number. -/
def vr (v : FVec Ideal S8192x3072 .f32) (u : Fin 24576) (h : Fin 8) (c : Fin 128) : ℝ := (VC v (ix3 u h c)).toReal

/-- The cotangent of a probability: the inner product of the cotangent's row with the key's value. -/
def dp (v : FVec Ideal S8192x3072 .f32) (d : FVec Ideal S8192x1024 .f32) (h : Fin 8) (t : Fin 8192) (u : Fin 24576) : ℝ :=
  ∑ c : Fin 128, rc d t (128 * h + c) * vr v u h c

/-- The mean of a row's cotangents under its probabilities. -/
def dl (q k v : FVec Ideal S8192x3072 .f32) (d : FVec Ideal S8192x1024 .f32) (h : Fin 8) (t : Fin 8192) : ℝ :=
  ∑ u, dp v d h t u * (ex q k h t u / zz q k h t)

/-- A head's channels of the first group, by token and channel. -/
def hq (x : FVec Ideal S8192x3072 .f32) (h : Fin 8) (t c : ℕ) : ℝ := rd x t (128 * h + c)
/-- A head's channels of a cotangent, by token and channel. -/
def hc (x : FVec Ideal S8192x1024 .f32) (h : Fin 8) (t c : ℕ) : ℝ := rc x t (128 * h + c)
/-- A head's logarithms of sums of exponentials, by token. -/
def hl (q k : FVec Ideal S8192x3072 .f32) (h : Fin 8) (t : ℕ) : ℝ := if ht : t < 8192 then mx q k h ⟨t, ht⟩ + Real.log (zz q k h ⟨t, ht⟩) else 0
/-- A head's means of cotangents, by token. -/
def hd (q k v : FVec Ideal S8192x3072 .f32) (d : FVec Ideal S8192x1024 .f32) (h : Fin 8) (t : ℕ) : ℝ := if ht : t < 8192 then dl q k v d h ⟨t, ht⟩ else 0

/-- All values are real. -/
theorem VC_real {v : FVec Ideal S8192x3072 .f32} (hv : ∀ i, ∃ r : ℝ, v i = (r : EReal)) (u : Fin 24576) (h : Fin 8) (c : Fin 128) : VC v (ix3 u h c) = (vr v u h c : EReal) := by
  have : ∃ r : ℝ, VC v (ix3 u h c) = (r : EReal) := by
    rw [VC, catV_at]
    split
    · exact ⟨_, hd0_at hv _ _ _⟩
    · split
      · exact ⟨_, hd1_at hv _ _ _⟩
      · exact ⟨_, hd2_at hv _ _ _⟩
  obtain ⟨r, hr⟩ := this
  rw [vr, hr]; rfl

/-- The first group's values. -/
theorem vr_at {v : FVec Ideal S8192x3072 .f32} (hv : ∀ i, ∃ r : ℝ, v i = (r : EReal)) (s : Fin 8192) (hs : s.val < 24576) (h : Fin 8) (c : Fin 128) :
    vr v ⟨s, hs⟩ h c = rd v s (128 * h + c) := by
  rw [vr, VC, catV_at, dif_pos (show (⟨s.val, hs⟩ : Fin 24576).val < 8192 from s.isLt), hd0_at hv]
  rfl

section
variable {q k v : FVec Ideal S8192x3072 .f32} {d : FVec Ideal S8192x1024 .f32} (hq' : ∀ i, ∃ r : ℝ, q i = (r : EReal)) (hk : ∀ i, ∃ r : ℝ, k i = (r : EReal))
  (hv : ∀ i, ∃ r : ℝ, v i = (r : EReal)) (hd' : ∀ i, ∃ r : ℝ, d i = (r : EReal))
include hq' hk

/-- The logarithms the kernel takes. -/
theorem lse_at (h : Fin 8) (t : Fin 8192) (c : Fin 128) (hc : 128 * h.val + c.val < 1024) : lsx (SC q k) (ix2 t ⟨128 * h.val + c.val, hc⟩) = (hl q k h t : EReal) := by
  rw [lsx_at, ZZ_at hq' hk, (rows hq' hk h t).1, Ideal.log_coe, if_neg (rows hq' hk h t).2.2.2.2.not_ge, ← EReal.coe_add, hl, dif_pos t.isLt]

/-- A weight within the first group is the softmax probability. -/
theorem wt_eq (h : Fin 8) (t s : Fin 8192) (hs : s.val < 24576) : wt (hq q h) (hq k h) (hl q k h) t s = ex q k h t ⟨s, hs⟩ / zz q k h t := by
  obtain ⟨-, -, h0, h1, hz⟩ := rows hq' hk h t
  have hS := SC_at hq' hk h t s hs
  rw [wt]
  by_cases hb : band t s
  · rw [if_pos hb] at hS ⊢
    rw [h1 _ _ hS, hl, dif_pos t.isLt]
    rw [← sub_sub, Real.exp_sub _ (Real.log _), Real.exp_log hz]
    rfl
  · rw [if_neg hb] at hS ⊢
    rw [h0 _ hS, zero_div]

include hv hd'

/-- The inner products the kernel takes. -/
theorem delta_at (h : Fin 8) (t : Fin 8192) (c : Fin 128) (hc : 128 * h.val + c.val < 1024) :
    dlt (SC q k) (VC v) d (ix2 t ⟨128 * h.val + c.val, hc⟩) = (hd q k v d h t : EReal) := by
  have hz := (rows hq' hk h t).2.2.2.2
  have ho : ∀ x : Fin 128, OO (SC q k) (VC v) (ix3 t h x) = ((∑ u, vr v u h x * (ex q k h t u / zz q k h t) : ℝ) : EReal) := fun x => by
    rw [OO, wsum_at, coe_sum]
    refine Finset.sum_congr rfl fun u _ => ?_
    rw [VC_real hv, (rows hq' hk h t).2.1, ZZ_at hq' hk, div_real _ hz, EReal.coe_mul]
  rw [dlt, lanes_at, inner_at]
  simp only [ho, rc_eq hd', ← EReal.coe_mul, ← coe_sum]
  rw [hd, dif_pos t.isLt, dl]
  refine congrArg Real.toEReal ?_
  exact exchange (fun x : Fin 128 => rc d t (128 * h + x)) (fun u x => vr v u h x) (fun u => ex q k h t u / zz q k h t)

/-- A score's gradient within the first group. -/
theorem sg_eq (h : Fin 8) (t s : Fin 8192) (hs : s.val < 24576) : sg (hq q h) (hq k h) (hq v h) (hc d h) (hl q k h) (hd q k v d h) t s
    = ex q k h t ⟨s, hs⟩ / zz q k h t * (dp v d h t ⟨s, hs⟩ - dl q k v d h t) := by
  rw [sg, wt_eq hq' hk h t s hs, hd, dif_pos t.isLt, dp]
  simp only [vr_at hv]
  rfl

end

end Cert.KernelIdeal.Dil
end
-- ==== Proof.Block.lean ====
module

public import proofs.«01_k».proof.Proof.Tile

@[expose] public section

set_option maxRecDepth 16384

noncomputable section

namespace Cert.KernelIdeal.Dil

open Cert.KernelIdeal Cert.KernelIdeal.Gen Idealize.ShloMosaic Idealize.ShloMosaic.TcCoe Idealize.SL.Sem

/-- `n` rows of a block from row `o`. -/
abbrev rowsAt (x : Vec Ideal S1024x128 .f32) (o n : ℕ) (inb : ∀ a, (![o, 0] : Fin 2 → ℕ) a + (![n, 128] : Fin 2 → ℕ) a ≤ S1024x128.size a) : Vec Ideal ⟨2, ![n, 128]⟩ .f32 :=
  View.ld (Val := Elt Ideal) (e' := .f32) x (Rect.unit (s := S1024x128) ![o, 0] ![n, 128] inb)

/-- The weights, score gradients and additions of the next block's first tile against this block's last 128 rows. -/
def nW (ok : IVec S128x128 1) (q kk ls : Vec Ideal S128x128 .f32) : FVec Ideal S128x128 .f32 :=
  exp (subf (select ok (matmul dot_S128x128_S128x128_S128x128_1_1_0_0_n_n none (truncf .bf16 q bitsLt_bf16_f32) (truncf .bf16 kk bitsLt_bf16_f32) (constant S128x128 .f32 0x00000000#32)) (broadcast S128x128 (Named.named κ "mask" 0xF149F2CA#32)))
    (shapeCast S128x128 ls shapeCasts_S128x128_S128x128))
def nDs (ok : IVec S128x128 1) (q dO kk vv dl ls : Vec Ideal S128x128 .f32) : FVec Ideal S128x128 .f32 :=
  mulf (nW ok q kk ls) (subf (matmul dot_S128x128_S128x128_S128x128_1_1_0_0_n_n none (truncf .bf16 dO bitsLt_bf16_f32) (truncf .bf16 vv bitsLt_bf16_f32) (constant S128x128 .f32 0x00000000#32))
    (shapeCast S128x128 dl shapeCasts_S128x128_S128x128))
def nK (ok : IVec S128x128 1) (q dO kk vv dl ls : Vec Ideal S128x128 .f32) : FVec Ideal S128x128 .f32 :=
  matmul dot_S128x128_S128x128_S128x128_0_0_1_1_n_n none (truncf .bf16 (nDs ok q dO kk vv dl ls) bitsLt_bf16_f32) (truncf .bf16 q bitsLt_bf16_f32) (constant S128x128 .f32 0x00000000#32)
def nV (ok : IVec S128x128 1) (q dO kk ls : Vec Ideal S128x128 .f32) : FVec Ideal S128x128 .f32 :=
  matmul dot_S128x128_S128x128_S128x128_0_0_1_1_n_n none (truncf .bf16 (nW ok q kk ls) bitsLt_bf16_f32) (truncf .bf16 dO bitsLt_bf16_f32) (constant S128x128 .f32 0x00000000#32)

/-- What the twelve blocks of a grid point hold: the rows of the block, the last rows of the block before where there is
    one, and the rows `1024 * T` on of some block, the next where there is one. -/
structure Blocks (n T : ℕ) (Q K V DO : ℕ → ℕ → ℝ) (L D : ℕ → ℝ) (x0 x1 x2 x3 x4 x5 x6 x7 x8 x9 x10 x11 : Vec Ideal S1024x128 .f32) : Prop where
  lt : n < 8
  nx : n < 7 → T = n + 1
  h0 : ∀ (r : Fin 1024) (l : Fin 128), x0 (ix2 r l) = (Q (1024 * n + r) l : EReal)
  h1 : ∀ (r : Fin 1024) (l : Fin 128), x1 (ix2 r l) = (K (1024 * n + r) l : EReal)
  h2 : ∀ (r : Fin 1024) (l : Fin 128), x2 (ix2 r l) = (V (1024 * n + r) l : EReal)
  h3 : ∀ (r : Fin 1024) (l : Fin 128), x3 (ix2 r l) = (DO (1024 * n + r) l : EReal)
  h4 : ∀ (r : Fin 1024) (l : Fin 128), x4 (ix2 r l) = (D (1024 * n + r) : EReal)
  h5 : ∀ (r : Fin 1024) (l : Fin 128), x5 (ix2 r l) = (L (1024 * n + r) : EReal)
  h6 : n ≠ 0 → ∀ (r : Fin 1024) (l : Fin 128), x6 (ix2 r l) = (K (1024 * (n - 1) + r) l : EReal)
  h7 : n ≠ 0 → ∀ (r : Fin 1024) (l : Fin 128), x7 (ix2 r l) = (V (1024 * (n - 1) + r) l : EReal)
  h8 : ∀ (r : Fin 1024) (l : Fin 128), x8 (ix2 r l) = (Q (1024 * T + r) l : EReal)
  h9 : ∀ (r : Fin 1024) (l : Fin 128), x9 (ix2 r l) = (DO (1024 * T + r) l : EReal)
  h10 : ∀ (r : Fin 1024) (l : Fin 128), x10 (ix2 r l) = (D (1024 * T + r) : EReal)
  h11 : ∀ (r : Fin 1024) (l : Fin 128), x11 (ix2 r l) = (L (1024 * T + r) : EReal)

section
variable {n T : ℕ} {Q K V DO : ℕ → ℕ → ℝ} {L D : ℕ → ℝ} {x0 x1 x2 x3 x4 x5 x6 x7 x8 x9 x10 x11 : Vec Ideal S1024x128 .f32}

/-- Rows of a block from row `o`, read at a row and lane. -/
theorem rows_at {x : Vec Ideal S1024x128 .f32} {A : ℕ → ℕ → ℝ} {u : ℕ} (hx : ∀ (r : Fin 1024) (l : Fin 128), x (ix2 r l) = (A (u + r) l : EReal))
    (o m : ℕ) (inb : ∀ a, (![o, 0] : Fin 2 → ℕ) a + (![m, 128] : Fin 2 → ℕ) a ≤ S1024x128.size a) (hm : o + m ≤ 1024) (a : Fin m) (l : Fin 128) :
    rowsAt x o m inb (ix2 a l) = (A (u + o + a) l : EReal) := by
  refine (ld_at x o m inb hm a l).trans ?_
  rw [hx]
  show (A (u + (o + a.val)) l : EReal) = _
  rw [Nat.add_assoc]

variable (B : Blocks n T Q K V DO L D x0 x1 x2 x3 x4 x5 x6 x7 x8 x9 x10 x11)
include B

theorem ok4 (t : ℕ) (ht : 128 ≤ t) (r : Fin 128) (j : Fin 256) : k0_pay4 (ix2 r j) = 1#1 ↔ (128 ≤ t + j.val ∧ band (t + r) (t + j - 128)) := by
  rw [k4_at, band]; omega

variable (o o' : ℕ) (ho : o = o' + 128) (ho2 : o + 128 ≤ 1024)
  (inb : ∀ a, (![o, 0] : Fin 2 → ℕ) a + (![128, 128] : Fin 2 → ℕ) a ≤ S1024x128.size a)
  (inb' : ∀ a, (![o', 0] : Fin 2 → ℕ) a + (![256, 128] : Fin 2 → ℕ) a ≤ S1024x128.size a)
include ho ho2

/-- The queries' gradient of a tile that is not a block's first. -/
theorem tile_q (a : Fin 128) (l : Fin 128) :
    tQ k0_pay4 (rowsAt x0 o 128 inb) (rowsAt x3 o 128 inb) (rowsAt x1 o' 256 inb') (rowsAt x2 o' 256 inb') (rowsAt x4 o 128 inb) (rowsAt x5 o 128 inb) (ix2 a l)
      = ((∑ s ∈ Finset.range 8192, sg Q K V DO L D (1024 * n + o + a) s * K s l : ℝ) : EReal) := by
  have h8 := B.lt
  refine (tQ_at (Q := Q) (K := K) (V := V) (DO := DO) (L := L) (D := D) (t := 1024 * n + o) (s := fun j => 1024 * n + o + j - 128) (live := fun j => 128 ≤ 1024 * n + o + j.val)
    (rows_at B.h0 o 128 inb (by omega)) (rows_at B.h3 o 128 inb (by omega))
    (fun j c _ => (rows_at B.h1 o' 256 inb' (by omega) j c).trans (by congr 2; omega))
    (fun j c _ => (rows_at B.h2 o' 256 inb' (by omega) j c).trans (by congr 2; omega))
    (rows_at (A := fun t _ => D t) B.h4 o 128 inb (by omega)) (rows_at (A := fun t _ => L t) B.h5 o 128 inb (by omega))
    (ok4 B (1024 * n + o) (by omega)) a l).trans ?_
  refine congrArg _ ?_
  exact sum_keys (fun s => sg Q K V DO L D (1024 * n + o + a) s * K s l) (1024 * n + o) a.val 8192 a.isLt (by omega)
    (fun s hs => by simp only [sg, wt, if_neg hs, zero_mul])

/-- One store of a tile that is not a block's first into the keys' gradient: what was there and the tile's queries' part. -/
theorem kstep {κ' : Kind} {sp : Space} (v : View sig κ' sp S1024x128 .f32) (L' : List (View.Piece (Elt Ideal) S1024x128 .f32)) (r : Fin 1024) (l : Fin 128) (S : ℝ)
    (hL : View.canon L' (ix2 r l) = (S : EReal)) :
    View.canon (⟨Rect.unit ![o', 0] ![256, 128] inb', addf (F := Ideal) (s := S256x128) (φ := .f32) (shapeCast S256x128 (s := S256x128) (v.readCov L' (Rect.unit (s := S1024x128) ![o', 0] ![256, 128] inb').toLoadRect) shapeCasts_S256x128_S256x128)
        (tK k0_pay4 (rowsAt x0 o 128 inb) (rowsAt x3 o 128 inb) (rowsAt x1 o' 256 inb') (rowsAt x2 o' 256 inb') (rowsAt x4 o 128 inb) (rowsAt x5 o 128 inb))⟩ :: L') (ix2 r l)
      = ((S + ∑ x : Fin 128, sg Q K V DO L D (1024 * n + o + x) (1024 * n + r) * Q (1024 * n + o + x) l : ℝ) : EReal) := by
  have h8 := B.lt
  rw [step_at L' o' 256 inb' (by omega) _ (fun a l => tK k0_pay4 (rowsAt x0 o 128 inb) (rowsAt x3 o 128 inb) (rowsAt x1 o' 256 inb') (rowsAt x2 o' 256 inb') (rowsAt x4 o 128 inb) (rowsAt x5 o 128 inb) (ix2 a l)) ?_ r l, hL, EReal.coe_add]
  · congr 1
    by_cases h : o' ≤ r.val ∧ r.val < o' + 256
    · rw [dif_pos h]
      rw [tK_at (Q := Q) (K := K) (V := V) (DO := DO) (L := L) (D := D) (t := 1024 * n + o) (s := fun j => 1024 * n + o + j - 128) (live := fun j => 128 ≤ 1024 * n + o + j.val)
        (rows_at B.h0 o 128 inb (by omega)) (rows_at B.h3 o 128 inb (by omega))
        (fun j c _ => (rows_at B.h1 o' 256 inb' (by omega) j c).trans (by congr 2; omega))
        (fun j c _ => (rows_at B.h2 o' 256 inb' (by omega) j c).trans (by congr 2; omega))
        (rows_at (A := fun t _ => D t) B.h4 o 128 inb (by omega)) (rows_at (A := fun t _ => L t) B.h5 o 128 inb (by omega))
        (ok4 B (1024 * n + o) (by omega))]
      rw [if_pos (by show 128 ≤ 1024 * n + o + (r.val - o'); omega)]
      rw [show 1024 * n + o + (r.val - o') - 128 = 1024 * n + r.val by omega]
    · rw [dif_neg h, Finset.sum_eq_zero, EReal.coe_zero]
      intro x _
      rw [sg, wt, if_neg, zero_mul, zero_mul]
      have := x.isLt
      rw [band]; omega
  · intro a l
    rw [← readCov_at v L' o' 256 inb' (by omega)]
    pointwise

/-- One store of a tile that is not a block's first into the values' gradient. -/
theorem vstep {κ' : Kind} {sp : Space} (v : View sig κ' sp S1024x128 .f32) (L' : List (View.Piece (Elt Ideal) S1024x128 .f32)) (r : Fin 1024) (l : Fin 128) (S : ℝ)
    (hL : View.canon L' (ix2 r l) = (S : EReal)) :
    View.canon (⟨Rect.unit ![o', 0] ![256, 128] inb', addf (F := Ideal) (s := S256x128) (φ := .f32) (shapeCast S256x128 (s := S256x128) (v.readCov L' (Rect.unit (s := S1024x128) ![o', 0] ![256, 128] inb').toLoadRect) shapeCasts_S256x128_S256x128)
        (tV k0_pay4 (rowsAt x0 o 128 inb) (rowsAt x3 o 128 inb) (rowsAt x1 o' 256 inb') (rowsAt x5 o 128 inb))⟩ :: L') (ix2 r l)
      = ((S + ∑ x : Fin 128, wt Q K L (1024 * n + o + x) (1024 * n + r) * DO (1024 * n + o + x) l : ℝ) : EReal) := by
  have h8 := B.lt
  rw [step_at L' o' 256 inb' (by omega) _ (fun a l => tV k0_pay4 (rowsAt x0 o 128 inb) (rowsAt x3 o 128 inb) (rowsAt x1 o' 256 inb') (rowsAt x5 o 128 inb) (ix2 a l)) ?_ r l, hL, EReal.coe_add]
  · congr 1
    by_cases h : o' ≤ r.val ∧ r.val < o' + 256
    · rw [dif_pos h]
      rw [tV_at (Q := Q) (K := K) (DO := DO) (L := L) (t := 1024 * n + o) (s := fun j => 1024 * n + o + j - 128) (live := fun j => 128 ≤ 1024 * n + o + j.val)
        (rows_at B.h0 o 128 inb (by omega)) (rows_at B.h3 o 128 inb (by omega))
        (fun j c _ => (rows_at B.h1 o' 256 inb' (by omega) j c).trans (by congr 2; omega))
        (rows_at (A := fun t _ => L t) B.h5 o 128 inb (by omega))
        (ok4 B (1024 * n + o) (by omega))]
      rw [if_pos (by show 128 ≤ 1024 * n + o + (r.val - o'); omega)]
      rw [show 1024 * n + o + (r.val - o') - 128 = 1024 * n + r.val by omega]
    · rw [dif_neg h, Finset.sum_eq_zero, EReal.coe_zero]
      intro x _
      rw [wt, if_neg, zero_mul]
      have := x.isLt
      rw [band]; omega
  · intro a l
    rw [← readCov_at v L' o' 256 inb' (by omega)]
    pointwise

omit ho ho2

/-! ### A block's first tile, whose first 128 key rows are the last of the block before -/

/-- The 256 key rows of a block's first tile. -/
abbrev key0 (p x : Vec Ideal S1024x128 .f32) : Vec Ideal S256x128 .f32 :=
  concatenate S256x128 0 [⟨S128x128, rowsAt p 896 128 inb_S1024x128_S128x128_896_0⟩, ⟨S128x128, rowsAt x 0 128 inb_S1024x128_S128x128_0_0⟩] concatenates_S128x128_S128x128_S256x128_d0

omit B in
theorem key0_at {p x : Vec Ideal S1024x128 .f32} {A : ℕ → ℕ → ℝ} (hx : ∀ (r : Fin 1024) (l : Fin 128), x (ix2 r l) = (A (1024 * n + r) l : EReal))
    (hp : n ≠ 0 → ∀ (r : Fin 1024) (l : Fin 128), p (ix2 r l) = (A (1024 * (n - 1) + r) l : EReal)) (j : Fin 256) (l : Fin 128)
    (hj : 128 ≤ 1024 * n + j.val) : key0 p x (ix2 j l) = (A (1024 * n + j - 128) l : EReal) := by
  have hj2 := j.isLt
  pointwise [key0]
  by_cases h : j.val < 128
  · rw [dif_pos h]
    refine (rows_at (hp (by omega)) 896 128 _ (by omega) _ l).trans ?_
    congr 2
    show 1024 * (n - 1) + 896 + j.val = _
    omega
  · rw [dif_neg h]
    refine (rows_at hx 0 128 _ (by omega) _ l).trans ?_
    congr 2
    show 1024 * n + 0 + (j.val - 128) = _
    omega

variable (i : grid0.Coords) (hi : (i 0).val = n)
include hi

theorem ok5 (r : Fin 128) (j : Fin 256) : k0_pay5 i (ix2 r j) = 1#1 ↔ (128 ≤ 1024 * n + j.val ∧ band (1024 * n + r) (1024 * n + j - 128)) := by
  rw [k5_at, band, hi]; omega

/-- The queries' gradient of a block's first tile. -/
theorem tile0_q (a : Fin 128) (l : Fin 128) :
    tQ (k0_pay5 i) (rowsAt x0 0 128 inb_S1024x128_S128x128_0_0) (rowsAt x3 0 128 inb_S1024x128_S128x128_0_0) (key0 x6 x1) (key0 x7 x2) (rowsAt x4 0 128 inb_S1024x128_S128x128_0_0) (rowsAt x5 0 128 inb_S1024x128_S128x128_0_0) (ix2 a l)
      = ((∑ s ∈ Finset.range 8192, sg Q K V DO L D (1024 * n + a) s * K s l : ℝ) : EReal) := by
  have h8 := B.lt
  refine (tQ_at (Q := Q) (K := K) (V := V) (DO := DO) (L := L) (D := D) (t := 1024 * n) (s := fun j => 1024 * n + j - 128) (live := fun j => 128 ≤ 1024 * n + j.val)
    (rows_at B.h0 0 128 _ (by omega)) (rows_at B.h3 0 128 _ (by omega))
    (fun j c h => key0_at B.h1 B.h6 j c h) (fun j c h => key0_at B.h2 B.h7 j c h)
    (rows_at (A := fun t _ => D t) B.h4 0 128 _ (by omega)) (rows_at (A := fun t _ => L t) B.h5 0 128 _ (by omega))
    (ok5 B i hi) a l).trans ?_
  refine congrArg _ ?_
  exact sum_keys (fun s => sg Q K V DO L D (1024 * n + a) s * K s l) (1024 * n) a.val 8192 a.isLt (by omega)
    (fun s hs => by simp only [sg, wt, if_neg hs, zero_mul])

/-- Its store into the keys' gradient. -/
theorem kstep0 {κ' : Kind} {sp : Space} (v : View sig κ' sp S1024x128 .f32) (L' : List (View.Piece (Elt Ideal) S1024x128 .f32)) (r : Fin 1024) (l : Fin 128) (S : ℝ)
    (hL : View.canon L' (ix2 r l) = (S : EReal)) :
    View.canon (⟨Rect.unit ![0, 0] ![128, 128] inb_S1024x128_S128x128_0_0, addf (F := Ideal) (s := S128x128) (φ := .f32) (shapeCast S128x128 (s := S128x128) (v.readCov L' (Rect.unit (s := S1024x128) ![0, 0] ![128, 128] inb_S1024x128_S128x128_0_0).toLoadRect) shapeCasts_S128x128_S128x128)
        (extractStridedSlice S128x128 ![128, 0] (tK (k0_pay5 i) (rowsAt x0 0 128 inb_S1024x128_S128x128_0_0) (rowsAt x3 0 128 inb_S1024x128_S128x128_0_0) (key0 x6 x1) (key0 x7 x2) (rowsAt x4 0 128 inb_S1024x128_S128x128_0_0) (rowsAt x5 0 128 inb_S1024x128_S128x128_0_0)) slices_S256x128_o128_0_S128x128)⟩ :: L') (ix2 r l)
      = ((S + ∑ x : Fin 128, sg Q K V DO L D (1024 * n + x) (1024 * n + r) * Q (1024 * n + x) l : ℝ) : EReal) := by
  have h8 := B.lt
  rw [step_at L' 0 128 inb_S1024x128_S128x128_0_0 (by omega) _ (fun a l => tK (k0_pay5 i) (rowsAt x0 0 128 inb_S1024x128_S128x128_0_0) (rowsAt x3 0 128 inb_S1024x128_S128x128_0_0) (key0 x6 x1) (key0 x7 x2) (rowsAt x4 0 128 inb_S1024x128_S128x128_0_0) (rowsAt x5 0 128 inb_S1024x128_S128x128_0_0) (ix2 (⟨128 + a.val, by omega⟩ : Fin 256) l)) ?_ r l, hL, EReal.coe_add]
  · congr 1
    by_cases h : 0 ≤ r.val ∧ r.val < 0 + 128
    · rw [dif_pos h]
      rw [tK_at (Q := Q) (K := K) (V := V) (DO := DO) (L := L) (D := D) (t := 1024 * n) (s := fun j => 1024 * n + j - 128) (live := fun j => 128 ≤ 1024 * n + j.val)
        (rows_at B.h0 0 128 _ (by omega)) (rows_at B.h3 0 128 _ (by omega))
        (fun j c h => key0_at B.h1 B.h6 j c h) (fun j c h => key0_at B.h2 B.h7 j c h)
        (rows_at (A := fun t _ => D t) B.h4 0 128 _ (by omega)) (rows_at (A := fun t _ => L t) B.h5 0 128 _ (by omega))
        (ok5 B i hi)]
      rw [if_pos (by show 128 ≤ 1024 * n + (128 + (r.val - 0)); omega)]
      rw [show 1024 * n + (128 + (r.val - 0)) - 128 = 1024 * n + r.val by omega]
    · rw [dif_neg h, Finset.sum_eq_zero, EReal.coe_zero]
      intro x _
      rw [sg, wt, if_neg, zero_mul, zero_mul]
      have := x.isLt
      rw [band]; omega
  · intro a l
    rw [← readCov_at v L' 0 128 inb_S1024x128_S128x128_0_0 (by omega)]
    pointwise

/-- Its store into the values' gradient. -/
theorem vstep0 {κ' : Kind} {sp : Space} (v : View sig κ' sp S1024x128 .f32) (L' : List (View.Piece (Elt Ideal) S1024x128 .f32)) (r : Fin 1024) (l : Fin 128) (S : ℝ)
    (hL : View.canon L' (ix2 r l) = (S : EReal)) :
    View.canon (⟨Rect.unit ![0, 0] ![128, 128] inb_S1024x128_S128x128_0_0, addf (F := Ideal) (s := S128x128) (φ := .f32) (shapeCast S128x128 (s := S128x128) (v.readCov L' (Rect.unit (s := S1024x128) ![0, 0] ![128, 128] inb_S1024x128_S128x128_0_0).toLoadRect) shapeCasts_S128x128_S128x128)
        (extractStridedSlice S128x128 ![128, 0] (tV (k0_pay5 i) (rowsAt x0 0 128 inb_S1024x128_S128x128_0_0) (rowsAt x3 0 128 inb_S1024x128_S128x128_0_0) (key0 x6 x1) (rowsAt x5 0 128 inb_S1024x128_S128x128_0_0)) slices_S256x128_o128_0_S128x128)⟩ :: L') (ix2 r l)
      = ((S + ∑ x : Fin 128, wt Q K L (1024 * n + x) (1024 * n + r) * DO (1024 * n + x) l : ℝ) : EReal) := by
  have h8 := B.lt
  rw [step_at L' 0 128 inb_S1024x128_S128x128_0_0 (by omega) _ (fun a l => tV (k0_pay5 i) (rowsAt x0 0 128 inb_S1024x128_S128x128_0_0) (rowsAt x3 0 128 inb_S1024x128_S128x128_0_0) (key0 x6 x1) (rowsAt x5 0 128 inb_S1024x128_S128x128_0_0) (ix2 (⟨128 + a.val, by omega⟩ : Fin 256) l)) ?_ r l, hL, EReal.coe_add]
  · congr 1
    by_cases h : 0 ≤ r.val ∧ r.val < 0 + 128
    · rw [dif_pos h]
      rw [tV_at (Q := Q) (K := K) (DO := DO) (L := L) (t := 1024 * n) (s := fun j => 1024 * n + j - 128) (live := fun j => 128 ≤ 1024 * n + j.val)
        (rows_at B.h0 0 128 _ (by omega)) (rows_at B.h3 0 128 _ (by omega))
        (fun j c h => key0_at B.h1 B.h6 j c h)
        (rows_at (A := fun t _ => L t) B.h5 0 128 _ (by omega))
        (ok5 B i hi)]
      rw [if_pos (by show 128 ≤ 1024 * n + (128 + (r.val - 0)); omega)]
      rw [show 1024 * n + (128 + (r.val - 0)) - 128 = 1024 * n + r.val by omega]
    · rw [dif_neg h, Finset.sum_eq_zero, EReal.coe_zero]
      intro x _
      rw [wt, if_neg, zero_mul]
      have := x.isLt
      rw [band]; omega
  · intro a l
    rw [← readCov_at v L' 0 128 inb_S1024x128_S128x128_0_0 (by omega)]
    pointwise

/-! ### The next block's first tile -/

theorem nW_at (r j : Fin 128) :
    nW (k0_pay6 i) (rowsAt x8 0 128 inb_S1024x128_S128x128_0_0) (rowsAt x1 896 128 inb_S1024x128_S128x128_896_0) (rowsAt x11 0 128 inb_S1024x128_S128x128_0_0) (ix2 r j)
      = ((if n < 7 then wt Q K L (1024 * n + 1024 + r) (1024 * n + 896 + j) else 0 : ℝ) : EReal) := by
  have hok := k6_at i r j
  rw [hi] at hok
  pointwise [nW]
  rw [mask_bot]
  simp only [rows_at B.h8 0 128 inb_S1024x128_S128x128_0_0 (by omega), rows_at B.h1 896 128 inb_S1024x128_S128x128_896_0 (by omega),
    rows_at (A := fun t _ => L t) B.h11 0 128 inb_S1024x128_S128x128_0_0 (by omega)]
  by_cases h : k0_pay6 i (ix2 r j) = 1#1
  · obtain ⟨h1, h2⟩ := hok.1 h
    have hT := B.nx h2
    rw [h, if_pos h2, wt, if_pos (by rw [band]; omega), show 1024 * T + 0 + r.val = 1024 * n + 1024 + r by omega]
    simp only [← EReal.coe_mul, ← coe_sum]
    change Ideal.exp (((∑ c : Fin 128, Q (1024 * n + 1024 + r) c * K (1024 * n + 896 + j) c : ℝ) : EReal) - ((L (1024 * n + 1024 + r) : ℝ) : EReal)) = _
    rw [← EReal.coe_sub]; rfl
  · have h0 : k0_pay6 i (ix2 r j) = 0#1 := by
      generalize k0_pay6 i (ix2 r j) = b at h
      revert h; revert b; decide
    rw [h0]
    have : (if n < 7 then wt Q K L (1024 * n + 1024 + r) (1024 * n + 896 + j) else 0 : ℝ) = 0 := by
      by_cases h1 : n < 7
      · rw [if_pos h1, wt, if_neg]
        intro h2
        rw [band] at h2
        exact h (hok.2 ⟨by omega, h1⟩)
      · rw [if_neg h1]
    rw [this]
    change Ideal.exp ((⊥ : EReal) - _) = _
    rw [EReal.bot_sub]; rfl

theorem nDs_at (r j : Fin 128) :
    nDs (k0_pay6 i) (rowsAt x8 0 128 inb_S1024x128_S128x128_0_0) (rowsAt x9 0 128 inb_S1024x128_S128x128_0_0) (rowsAt x1 896 128 inb_S1024x128_S128x128_896_0) (rowsAt x2 896 128 inb_S1024x128_S128x128_896_0) (rowsAt x10 0 128 inb_S1024x128_S128x128_0_0) (rowsAt x11 0 128 inb_S1024x128_S128x128_0_0) (ix2 r j)
      = ((if n < 7 then sg Q K V DO L D (1024 * n + 1024 + r) (1024 * n + 896 + j) else 0 : ℝ) : EReal) := by
  pointwise [nDs]
  rw [nW_at B i hi]
  simp only [rows_at B.h9 0 128 inb_S1024x128_S128x128_0_0 (by omega), rows_at B.h2 896 128 inb_S1024x128_S128x128_896_0 (by omega),
    rows_at (A := fun t _ => D t) B.h10 0 128 inb_S1024x128_S128x128_0_0 (by omega)]
  by_cases h1 : n < 7
  · have hT := B.nx h1
    simp only [if_pos h1, sg, ← EReal.coe_mul, ← coe_sum, ← EReal.coe_sub]
    rw [show 1024 * T + 0 + r.val = 1024 * n + 1024 + r by omega]
  · simp only [if_neg h1]
    rw [EReal.coe_zero, zero_mul]

/-- The last store into the keys' gradient: the next block's first tile's part. -/
theorem kstepN {κ' : Kind} {sp : Space} (v : View sig κ' sp S1024x128 .f32) (L' : List (View.Piece (Elt Ideal) S1024x128 .f32)) (r : Fin 1024) (l : Fin 128) (S : ℝ)
    (hL : View.canon L' (ix2 r l) = (S : EReal)) :
    View.canon (⟨Rect.unit ![896, 0] ![128, 128] inb_S1024x128_S128x128_896_0, addf (F := Ideal) (s := S128x128) (φ := .f32) (shapeCast S128x128 (s := S128x128) (v.readCov L' (Rect.unit (s := S1024x128) ![896, 0] ![128, 128] inb_S1024x128_S128x128_896_0).toLoadRect) shapeCasts_S128x128_S128x128)
        (nK (k0_pay6 i) (rowsAt x8 0 128 inb_S1024x128_S128x128_0_0) (rowsAt x9 0 128 inb_S1024x128_S128x128_0_0) (rowsAt x1 896 128 inb_S1024x128_S128x128_896_0) (rowsAt x2 896 128 inb_S1024x128_S128x128_896_0) (rowsAt x10 0 128 inb_S1024x128_S128x128_0_0) (rowsAt x11 0 128 inb_S1024x128_S128x128_0_0))⟩ :: L') (ix2 r l)
      = ((S + (if n < 7 then ∑ x : Fin 128, sg Q K V DO L D (1024 * n + 1024 + x) (1024 * n + r) * Q (1024 * n + 1024 + x) l else 0) : ℝ) : EReal) := by
  rw [step_at L' 896 128 inb_S1024x128_S128x128_896_0 (by omega) _ (fun a l => nK (k0_pay6 i) (rowsAt x8 0 128 inb_S1024x128_S128x128_0_0) (rowsAt x9 0 128 inb_S1024x128_S128x128_0_0) (rowsAt x1 896 128 inb_S1024x128_S128x128_896_0) (rowsAt x2 896 128 inb_S1024x128_S128x128_896_0) (rowsAt x10 0 128 inb_S1024x128_S128x128_0_0) (rowsAt x11 0 128 inb_S1024x128_S128x128_0_0) (ix2 a l)) ?_ r l, hL, EReal.coe_add]
  · congr 1
    by_cases h : 896 ≤ r.val ∧ r.val < 896 + 128
    · rw [dif_pos h]
      pointwise [nK]
      simp only [nDs_at B i hi, rows_at B.h8 0 128 inb_S1024x128_S128x128_0_0 (by omega)]
      by_cases h1 : n < 7
      · have hT := B.nx h1
        simp only [if_pos h1, ← EReal.coe_mul, ← coe_sum]
        refine congrArg _ (Finset.sum_congr rfl fun x _ => ?_)
        rw [show 1024 * T + 0 + x.val = 1024 * n + 1024 + x by omega, show 1024 * n + 896 + (r.val - 896) = 1024 * n + r by omega]
      · simp only [if_neg h1, EReal.coe_zero, zero_mul, Finset.sum_const_zero]
    · rw [dif_neg h]
      by_cases h1 : n < 7
      · rw [if_pos h1, Finset.sum_eq_zero, EReal.coe_zero]
        intro x _
        rw [sg, wt, if_neg, zero_mul, zero_mul]
        have := x.isLt
        rw [band]; omega
      · rw [if_neg h1, EReal.coe_zero]
  · intro a l
    rw [← readCov_at v L' 896 128 inb_S1024x128_S128x128_896_0 (by omega)]
    pointwise

/-- The last store into the values' gradient. -/
theorem vstepN {κ' : Kind} {sp : Space} (v : View sig κ' sp S1024x128 .f32) (L' : List (View.Piece (Elt Ideal) S1024x128 .f32)) (r : Fin 1024) (l : Fin 128) (S : ℝ)
    (hL : View.canon L' (ix2 r l) = (S : EReal)) :
    View.canon (⟨Rect.unit ![896, 0] ![128, 128] inb_S1024x128_S128x128_896_0, addf (F := Ideal) (s := S128x128) (φ := .f32) (shapeCast S128x128 (s := S128x128) (v.readCov L' (Rect.unit (s := S1024x128) ![896, 0] ![128, 128] inb_S1024x128_S128x128_896_0).toLoadRect) shapeCasts_S128x128_S128x128)
        (nV (k0_pay6 i) (rowsAt x8 0 128 inb_S1024x128_S128x128_0_0) (rowsAt x9 0 128 inb_S1024x128_S128x128_0_0) (rowsAt x1 896 128 inb_S1024x128_S128x128_896_0) (rowsAt x11 0 128 inb_S1024x128_S128x128_0_0))⟩ :: L') (ix2 r l)
      = ((S + (if n < 7 then ∑ x : Fin 128, wt Q K L (1024 * n + 1024 + x) (1024 * n + r) * DO (1024 * n + 1024 + x) l else 0) : ℝ) : EReal) := by
  rw [step_at L' 896 128 inb_S1024x128_S128x128_896_0 (by omega) _ (fun a l => nV (k0_pay6 i) (rowsAt x8 0 128 inb_S1024x128_S128x128_0_0) (rowsAt x9 0 128 inb_S1024x128_S128x128_0_0) (rowsAt x1 896 128 inb_S1024x128_S128x128_896_0) (rowsAt x11 0 128 inb_S1024x128_S128x128_0_0) (ix2 a l)) ?_ r l, hL, EReal.coe_add]
  · congr 1
    by_cases h : 896 ≤ r.val ∧ r.val < 896 + 128
    · rw [dif_pos h]
      pointwise [nV]
      simp only [nW_at B i hi, rows_at B.h9 0 128 inb_S1024x128_S128x128_0_0 (by omega)]
      by_cases h1 : n < 7
      · have hT := B.nx h1
        simp only [if_pos h1, ← EReal.coe_mul, ← coe_sum]
        refine congrArg _ (Finset.sum_congr rfl fun x _ => ?_)
        rw [show 1024 * T + 0 + x.val = 1024 * n + 1024 + x by omega, show 1024 * n + 896 + (r.val - 896) = 1024 * n + r by omega]
      · simp only [if_neg h1, EReal.coe_zero, zero_mul, Finset.sum_const_zero]
    · rw [dif_neg h]
      by_cases h1 : n < 7
      · rw [if_pos h1, Finset.sum_eq_zero, EReal.coe_zero]
        intro x _
        rw [wt, if_neg, zero_mul]
        have := x.isLt
        rw [band]; omega
      · rw [if_neg h1, EReal.coe_zero]
  · intro a l
    rw [← readCov_at v L' 896 128 inb_S1024x128_S128x128_896_0 (by omega)]
    pointwise

end

set_option maxHeartbeats 4000000 in
/-- What a grid point leaves in the queries' gradient: at each row the sum over all keys. -/
theorem out12_at (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (x0 : Vec Ideal S1024x128 .f32) (x1 : Vec Ideal S1024x128 .f32) (x2 : Vec Ideal S1024x128 .f32) (x3 : Vec Ideal S1024x128 .f32) (x4 : Vec Ideal S1024x128 .f32) (x5 : Vec Ideal S1024x128 .f32) (x6 : Vec Ideal S1024x128 .f32) (x7 : Vec Ideal S1024x128 .f32) (x8 : Vec Ideal S1024x128 .f32) (x9 : Vec Ideal S1024x128 .f32) (x10 : Vec Ideal S1024x128 .f32) (x11 : Vec Ideal S1024x128 .f32) {n T : ℕ} {Q K V DO : ℕ → ℕ → ℝ} {L D : ℕ → ℝ}
    (B : Blocks n T Q K V DO L D x0 x1 x2 x3 x4 x5 x6 x7 x8 x9 x10 x11) (hi : (i 0).val = n) (r : Fin 1024) (l : Fin 128) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 (ix2 r l) = ((∑ s ∈ Finset.range 8192, sg Q K V DO L D (1024 * n + r) s * K s l : ℝ) : EReal) := by
  unfold out0_A_12
  rw [View.read_writes_junk_eq_canon]
  unfold kernelRun0_A
  dsimp only
  sl_unfold_words
  simp only [View.readAt_eq_ld, Memref.IsWhole.read_unread]
  have hlt := r.isLt
  rw [put_at]; split_ifs with h7
  · refine (tile_q B 896 768 (by omega) (by omega) inb_S1024x128_S128x128_896_0 inb_S1024x128_S256x128_768_0 ⟨r.val - 896, by omega⟩ l).trans ?_
    rw [show 1024 * n + 896 + (r.val - 896) = 1024 * n + r by omega]
  rw [put_at]; split_ifs with h6
  · refine (tile_q B 768 640 (by omega) (by omega) inb_S1024x128_S128x128_768_0 inb_S1024x128_S256x128_640_0 ⟨r.val - 768, by omega⟩ l).trans ?_
    rw [show 1024 * n + 768 + (r.val - 768) = 1024 * n + r by omega]
  rw [put_at]; split_ifs with h5
  · refine (tile_q B 640 512 (by omega) (by omega) inb_S1024x128_S128x128_640_0 inb_S1024x128_S256x128_512_0 ⟨r.val - 640, by omega⟩ l).trans ?_
    rw [show 1024 * n + 640 + (r.val - 640) = 1024 * n + r by omega]
  rw [put_at]; split_ifs with h4
  · refine (tile_q B 512 384 (by omega) (by omega) inb_S1024x128_S128x128_512_0 inb_S1024x128_S256x128_384_0 ⟨r.val - 512, by omega⟩ l).trans ?_
    rw [show 1024 * n + 512 + (r.val - 512) = 1024 * n + r by omega]
  rw [put_at]; split_ifs with h3
  · refine (tile_q B 384 256 (by omega) (by omega) inb_S1024x128_S128x128_384_0 inb_S1024x128_S256x128_256_0 ⟨r.val - 384, by omega⟩ l).trans ?_
    rw [show 1024 * n + 384 + (r.val - 384) = 1024 * n + r by omega]
  rw [put_at]; split_ifs with h2
  · refine (tile_q B 256 128 (by omega) (by omega) inb_S1024x128_S128x128_256_0 inb_S1024x128_S256x128_128_0 ⟨r.val - 256, by omega⟩ l).trans ?_
    rw [show 1024 * n + 256 + (r.val - 256) = 1024 * n + r by omega]
  rw [put_at]; split_ifs with h1
  · refine (tile_q B 128 0 (by omega) (by omega) inb_S1024x128_S128x128_128_0 inb_S1024x128_S256x128_0_0 ⟨r.val - 128, by omega⟩ l).trans ?_
    rw [show 1024 * n + 128 + (r.val - 128) = 1024 * n + r by omega]
  rw [put_at, dif_pos (by omega)]
  exact tile0_q B i hi ⟨r.val - 0, by omega⟩ l

set_option maxHeartbeats 4000000 in
/-- What a grid point leaves in the keys' gradient: at each row the sum over all queries. -/
theorem out13_at (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (x0 : Vec Ideal S1024x128 .f32) (x1 : Vec Ideal S1024x128 .f32) (x2 : Vec Ideal S1024x128 .f32) (x3 : Vec Ideal S1024x128 .f32) (x4 : Vec Ideal S1024x128 .f32) (x5 : Vec Ideal S1024x128 .f32) (x6 : Vec Ideal S1024x128 .f32) (x7 : Vec Ideal S1024x128 .f32) (x8 : Vec Ideal S1024x128 .f32) (x9 : Vec Ideal S1024x128 .f32) (x10 : Vec Ideal S1024x128 .f32) (x11 : Vec Ideal S1024x128 .f32) {n T : ℕ} {Q K V DO : ℕ → ℕ → ℝ} {L D : ℕ → ℝ}
    (B : Blocks n T Q K V DO L D x0 x1 x2 x3 x4 x5 x6 x7 x8 x9 x10 x11) (hi : (i 0).val = n) (r : Fin 1024) (l : Fin 128) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 (ix2 r l) = ((∑ t ∈ Finset.range 8192, sg Q K V DO L D t (1024 * n + r) * Q t l : ℝ) : EReal) := by
  unfold out0_A_13
  rw [View.read_writes_junk_eq_canon]
  unfold kernelRun0_A
  dsimp only
  unfold kernelRun0_A.sl.v340
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, View.readAt_eq_ld, Memref.IsWhole.read_unread]
  refine Eq.trans (kstepN B i hi arg15.view _ r l (((((((((0 + ∑ x : Fin 128, sg Q K V DO L D (1024 * n +  x) (1024 * n + r) * Q (1024 * n +  x) l) + ∑ x : Fin 128, sg Q K V DO L D (1024 * n + 128 + x) (1024 * n + r) * Q (1024 * n + 128 + x) l) + ∑ x : Fin 128, sg Q K V DO L D (1024 * n + 256 + x) (1024 * n + r) * Q (1024 * n + 256 + x) l) + ∑ x : Fin 128, sg Q K V DO L D (1024 * n + 384 + x) (1024 * n + r) * Q (1024 * n + 384 + x) l) + ∑ x : Fin 128, sg Q K V DO L D (1024 * n + 512 + x) (1024 * n + r) * Q (1024 * n + 512 + x) l) + ∑ x : Fin 128, sg Q K V DO L D (1024 * n + 640 + x) (1024 * n + r) * Q (1024 * n + 640 + x) l) + ∑ x : Fin 128, sg Q K V DO L D (1024 * n + 768 + x) (1024 * n + r) * Q (1024 * n + 768 + x) l) + ∑ x : Fin 128, sg Q K V DO L D (1024 * n + 896 + x) (1024 * n + r) * Q (1024 * n + 896 + x) l)) ?_) ?_
  · unfold kernelRun0_A.sl.H13_9
    simp only [kernelRun0_A.sl.v310, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, View.readAt_eq_ld, Memref.IsWhole.read_unread]
    refine kstep B 896 768 (by omega) (by omega) inb_S1024x128_S128x128_896_0 inb_S1024x128_S256x128_768_0 arg15.view _ r l _ ?_
    unfold kernelRun0_A.sl.H13_8
    simp only [kernelRun0_A.sl.v274, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, View.readAt_eq_ld, Memref.IsWhole.read_unread]
    refine kstep B 768 640 (by omega) (by omega) inb_S1024x128_S128x128_768_0 inb_S1024x128_S256x128_640_0 arg15.view _ r l _ ?_
    unfold kernelRun0_A.sl.H13_7
    simp only [kernelRun0_A.sl.v238, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, View.readAt_eq_ld, Memref.IsWhole.read_unread]
    refine kstep B 640 512 (by omega) (by omega) inb_S1024x128_S128x128_640_0 inb_S1024x128_S256x128_512_0 arg15.view _ r l _ ?_
    unfold kernelRun0_A.sl.H13_6
    simp only [kernelRun0_A.sl.v202, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, View.readAt_eq_ld, Memref.IsWhole.read_unread]
    refine kstep B 512 384 (by omega) (by omega) inb_S1024x128_S128x128_512_0 inb_S1024x128_S256x128_384_0 arg15.view _ r l _ ?_
    unfold kernelRun0_A.sl.H13_5
    simp only [kernelRun0_A.sl.v166, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, View.readAt_eq_ld, Memref.IsWhole.read_unread]
    refine kstep B 384 256 (by omega) (by omega) inb_S1024x128_S128x128_384_0 inb_S1024x128_S256x128_256_0 arg15.view _ r l _ ?_
    unfold kernelRun0_A.sl.H13_4
    simp only [kernelRun0_A.sl.v130, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, View.readAt_eq_ld, Memref.IsWhole.read_unread]
    refine kstep B 256 128 (by omega) (by omega) inb_S1024x128_S128x128_256_0 inb_S1024x128_S256x128_128_0 arg15.view _ r l _ ?_
    unfold kernelRun0_A.sl.H13_3
    simp only [kernelRun0_A.sl.v94, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, View.readAt_eq_ld, Memref.IsWhole.read_unread]
    refine kstep B 128 0 (by omega) (by omega) inb_S1024x128_S128x128_128_0 inb_S1024x128_S256x128_0_0 arg15.view _ r l _ ?_
    unfold kernelRun0_A.sl.H13_2
    simp only [kernelRun0_A.sl.v56, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, View.readAt_eq_ld, Memref.IsWhole.read_unread]
    refine kstep0 B i hi arg15.view _ r l _ ?_
    unfold kernelRun0_A.sl.H13_1
    refine (put_at _ 0 1024 inb_S1024x128_S1024x128_0_0 _ r l).trans ?_
    rw [dif_pos (by have := r.isLt; omega)]
    pointwise [k0_pay7, k0_pay8]
    rfl
  · refine congrArg _ ?_
    rw [← sum_queries (fun t => sg Q K V DO L D t (1024 * n + r) * Q t l) n r B.lt r.isLt (fun t ht => by simp only [sg, wt, if_neg ht, zero_mul])]
    simp only [Finset.sum_range_succ, Finset.sum_range_zero]
    rfl

set_option maxHeartbeats 4000000 in
/-- What a grid point leaves in the values' gradient: at each row the sum over all queries. -/
theorem out14_at (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (x0 : Vec Ideal S1024x128 .f32) (x1 : Vec Ideal S1024x128 .f32) (x2 : Vec Ideal S1024x128 .f32) (x3 : Vec Ideal S1024x128 .f32) (x4 : Vec Ideal S1024x128 .f32) (x5 : Vec Ideal S1024x128 .f32) (x6 : Vec Ideal S1024x128 .f32) (x7 : Vec Ideal S1024x128 .f32) (x8 : Vec Ideal S1024x128 .f32) (x9 : Vec Ideal S1024x128 .f32) (x10 : Vec Ideal S1024x128 .f32) (x11 : Vec Ideal S1024x128 .f32) {n T : ℕ} {Q K V DO : ℕ → ℕ → ℝ} {L D : ℕ → ℝ}
    (B : Blocks n T Q K V DO L D x0 x1 x2 x3 x4 x5 x6 x7 x8 x9 x10 x11) (hi : (i 0).val = n) (r : Fin 1024) (l : Fin 128) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 (ix2 r l) = ((∑ t ∈ Finset.range 8192, wt Q K L t (1024 * n + r) * DO t l : ℝ) : EReal) := by
  unfold out0_A_14
  rw [View.read_writes_junk_eq_canon]
  unfold kernelRun0_A
  dsimp only
  unfold kernelRun0_A.sl.v345
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, View.readAt_eq_ld, Memref.IsWhole.read_unread]
  refine Eq.trans (vstepN B i hi arg16.view _ r l (((((((((0 + ∑ x : Fin 128, wt Q K L (1024 * n +  x) (1024 * n + r) * DO (1024 * n +  x) l) + ∑ x : Fin 128, wt Q K L (1024 * n + 128 + x) (1024 * n + r) * DO (1024 * n + 128 + x) l) + ∑ x : Fin 128, wt Q K L (1024 * n + 256 + x) (1024 * n + r) * DO (1024 * n + 256 + x) l) + ∑ x : Fin 128, wt Q K L (1024 * n + 384 + x) (1024 * n + r) * DO (1024 * n + 384 + x) l) + ∑ x : Fin 128, wt Q K L (1024 * n + 512 + x) (1024 * n + r) * DO (1024 * n + 512 + x) l) + ∑ x : Fin 128, wt Q K L (1024 * n + 640 + x) (1024 * n + r) * DO (1024 * n + 640 + x) l) + ∑ x : Fin 128, wt Q K L (1024 * n + 768 + x) (1024 * n + r) * DO (1024 * n + 768 + x) l) + ∑ x : Fin 128, wt Q K L (1024 * n + 896 + x) (1024 * n + r) * DO (1024 * n + 896 + x) l)) ?_) ?_
  · unfold kernelRun0_A.sl.H14_9
    simp only [kernelRun0_A.sl.v314, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, View.readAt_eq_ld, Memref.IsWhole.read_unread]
    refine vstep B 896 768 (by omega) (by omega) inb_S1024x128_S128x128_896_0 inb_S1024x128_S256x128_768_0 arg16.view _ r l _ ?_
    unfold kernelRun0_A.sl.H14_8
    simp only [kernelRun0_A.sl.v278, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, View.readAt_eq_ld, Memref.IsWhole.read_unread]
    refine vstep B 768 640 (by omega) (by omega) inb_S1024x128_S128x128_768_0 inb_S1024x128_S256x128_640_0 arg16.view _ r l _ ?_
    unfold kernelRun0_A.sl.H14_7
    simp only [kernelRun0_A.sl.v242, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, View.readAt_eq_ld, Memref.IsWhole.read_unread]
    refine vstep B 640 512 (by omega) (by omega) inb_S1024x128_S128x128_640_0 inb_S1024x128_S256x128_512_0 arg16.view _ r l _ ?_
    unfold kernelRun0_A.sl.H14_6
    simp only [kernelRun0_A.sl.v206, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, View.readAt_eq_ld, Memref.IsWhole.read_unread]
    refine vstep B 512 384 (by omega) (by omega) inb_S1024x128_S128x128_512_0 inb_S1024x128_S256x128_384_0 arg16.view _ r l _ ?_
    unfold kernelRun0_A.sl.H14_5
    simp only [kernelRun0_A.sl.v170, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, View.readAt_eq_ld, Memref.IsWhole.read_unread]
    refine vstep B 384 256 (by omega) (by omega) inb_S1024x128_S128x128_384_0 inb_S1024x128_S256x128_256_0 arg16.view _ r l _ ?_
    unfold kernelRun0_A.sl.H14_4
    simp only [kernelRun0_A.sl.v134, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, View.readAt_eq_ld, Memref.IsWhole.read_unread]
    refine vstep B 256 128 (by omega) (by omega) inb_S1024x128_S128x128_256_0 inb_S1024x128_S256x128_128_0 arg16.view _ r l _ ?_
    unfold kernelRun0_A.sl.H14_3
    simp only [kernelRun0_A.sl.v98, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, View.readAt_eq_ld, Memref.IsWhole.read_unread]
    refine vstep B 128 0 (by omega) (by omega) inb_S1024x128_S128x128_128_0 inb_S1024x128_S256x128_0_0 arg16.view _ r l _ ?_
    unfold kernelRun0_A.sl.H14_2
    simp only [kernelRun0_A.sl.v61, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, View.readAt_eq_ld, Memref.IsWhole.read_unread]
    refine vstep0 B i hi arg16.view _ r l _ ?_
    unfold kernelRun0_A.sl.H14_1
    refine (put_at _ 0 1024 inb_S1024x128_S1024x128_0_0 _ r l).trans ?_
    rw [dif_pos (by have := r.isLt; omega)]
    pointwise [k0_pay7, k0_pay8]
    rfl
  · refine congrArg _ ?_
    rw [← sum_queries (fun t => wt Q K L t (1024 * n + r) * DO t l) n r B.lt r.isLt (fun t ht => by simp only [sg, wt, if_neg ht, zero_mul])]
    simp only [Finset.sum_range_succ, Finset.sum_range_zero]
    rfl

end Cert.KernelIdeal.Dil
end
-- ==== Proof.Arrays.lean ====
module

public import proofs.«01_k».proof.Proof.Weights
public import proofs.«01_k».proof.Proof.Block
public import proofs.«01_k».proof.Proof.Gen.KernelIdeal.Value
public import Idealize.ShloMosaic.Lib.Pipeline.ValueKit

@[expose] public section

set_option maxRecDepth 16384

noncomputable section

namespace Cert.KernelIdeal.Dil

open Cert.KernelIdeal Cert.KernelIdeal.Gen Idealize.ShloMosaic Idealize.ShloMosaic.TcCoe
open Idealize.ShloMosaic.Pipeline (Dat)

/-- The block of rows that a grid point works on. -/
abbrev bn (t : Fin cfg0.N) : ℕ := (grid0.coords t 0).val
/-- The head that a grid point works on. -/
abbrev bh (t : Fin cfg0.N) : ℕ := (grid0.coords t 1).val

theorem bn_lt (t : Fin cfg0.N) : bn t < 8 := (grid0.coords t 0).isLt
theorem bh_lt (t : Fin cfg0.N) : bh t < 8 := (grid0.coords t 1).isLt

theorem idx0 : ∀ t : Fin cfg0.N, (cfg0.win 0).index t = ![bn t, bh t] := by decide +kernel
theorem idx1 : ∀ t : Fin cfg0.N, (cfg0.win 1).index t = ![bn t, bh t] := by decide +kernel
theorem idx2 : ∀ t : Fin cfg0.N, (cfg0.win 2).index t = ![bn t, bh t] := by decide +kernel
theorem idx3 : ∀ t : Fin cfg0.N, (cfg0.win 3).index t = ![bn t, bh t] := by decide +kernel
theorem idx4 : ∀ t : Fin cfg0.N, (cfg0.win 4).index t = ![bn t, bh t] := by decide +kernel
theorem idx5 : ∀ t : Fin cfg0.N, (cfg0.win 5).index t = ![bn t, bh t] := by decide +kernel
theorem idx6 : ∀ t : Fin cfg0.N, (cfg0.win 6).index t = ![bn t - 1, bh t] := by decide +kernel
theorem idx7 : ∀ t : Fin cfg0.N, (cfg0.win 7).index t = ![bn t - 1, bh t] := by decide +kernel
theorem idx8 : ∀ t : Fin cfg0.N, (cfg0.win 8).index t = ![min (bn t + 1) 7, bh t] := by decide +kernel
theorem idx9 : ∀ t : Fin cfg0.N, (cfg0.win 9).index t = ![min (bn t + 1) 7, bh t] := by decide +kernel
theorem idx10 : ∀ t : Fin cfg0.N, (cfg0.win 10).index t = ![min (bn t + 1) 7, bh t] := by decide +kernel
theorem idx11 : ∀ t : Fin cfg0.N, (cfg0.win 11).index t = ![min (bn t + 1) 7, bh t] := by decide +kernel
theorem idx12 : ∀ t : Fin cfg0.N, (cfg0.win 12).index t = ![bn t, bh t] := by decide +kernel
theorem idx13 : ∀ t : Fin cfg0.N, (cfg0.win 13).index t = ![bn t, bh t] := by decide +kernel
theorem idx14 : ∀ t : Fin cfg0.N, (cfg0.win 14).index t = ![bn t, bh t] := by decide +kernel

theorem rb0 (X : FVec Ideal S8192x3072 .f32) (t : Fin cfg0.N) (r : Fin 1024) (l : Fin 128) (a : Fin 8192) (b : Fin 3072) (ha : a.val = 1024 * bn t + r) (hb : b.val = 128 * bh t + l) :
    ((cfg0.win 0).blk t).view.read (Elt Ideal) X (ix2 r l) = X (ix2 a b) := by
  have e := idx0 t
  blk_simp [e]
  refine congrArg X ?_
  blk_ext [e]

theorem rb1 (X : FVec Ideal S8192x3072 .f32) (t : Fin cfg0.N) (r : Fin 1024) (l : Fin 128) (a : Fin 8192) (b : Fin 3072) (ha : a.val = 1024 * bn t + r) (hb : b.val = 128 * bh t + l) :
    ((cfg0.win 1).blk t).view.read (Elt Ideal) X (ix2 r l) = X (ix2 a b) := by
  have e := idx1 t
  blk_simp [e]
  refine congrArg X ?_
  blk_ext [e]

theorem rb2 (X : FVec Ideal S8192x3072 .f32) (t : Fin cfg0.N) (r : Fin 1024) (l : Fin 128) (a : Fin 8192) (b : Fin 3072) (ha : a.val = 1024 * bn t + r) (hb : b.val = 128 * bh t + l) :
    ((cfg0.win 2).blk t).view.read (Elt Ideal) X (ix2 r l) = X (ix2 a b) := by
  have e := idx2 t
  blk_simp [e]
  refine congrArg X ?_
  blk_ext [e]

theorem rb3 (X : FVec Ideal S8192x1024 .f32) (t : Fin cfg0.N) (r : Fin 1024) (l : Fin 128) (a : Fin 8192) (b : Fin 1024) (ha : a.val = 1024 * bn t + r) (hb : b.val = 128 * bh t + l) :
    ((cfg0.win 3).blk t).view.read (Elt Ideal) X (ix2 r l) = X (ix2 a b) := by
  have e := idx3 t
  blk_simp [e]
  refine congrArg X ?_
  blk_ext [e]

theorem rb4 (X : FVec Ideal S8192x1024 .f32) (t : Fin cfg0.N) (r : Fin 1024) (l : Fin 128) (a : Fin 8192) (b : Fin 1024) (ha : a.val = 1024 * bn t + r) (hb : b.val = 128 * bh t + l) :
    ((cfg0.win 4).blk t).view.read (Elt Ideal) X (ix2 r l) = X (ix2 a b) := by
  have e := idx4 t
  blk_simp [e]
  refine congrArg X ?_
  blk_ext [e]

theorem rb5 (X : FVec Ideal S8192x1024 .f32) (t : Fin cfg0.N) (r : Fin 1024) (l : Fin 128) (a : Fin 8192) (b : Fin 1024) (ha : a.val = 1024 * bn t + r) (hb : b.val = 128 * bh t + l) :
    ((cfg0.win 5).blk t).view.read (Elt Ideal) X (ix2 r l) = X (ix2 a b) := by
  have e := idx5 t
  blk_simp [e]
  refine congrArg X ?_
  blk_ext [e]

theorem rb6 (X : FVec Ideal S8192x3072 .f32) (t : Fin cfg0.N) (r : Fin 1024) (l : Fin 128) (a : Fin 8192) (b : Fin 3072) (ha : a.val = 1024 * (bn t - 1) + r) (hb : b.val = 128 * bh t + l) :
    ((cfg0.win 6).blk t).view.read (Elt Ideal) X (ix2 r l) = X (ix2 a b) := by
  have e := idx6 t
  blk_simp [e]
  refine congrArg X ?_
  blk_ext [e]

theorem rb7 (X : FVec Ideal S8192x3072 .f32) (t : Fin cfg0.N) (r : Fin 1024) (l : Fin 128) (a : Fin 8192) (b : Fin 3072) (ha : a.val = 1024 * (bn t - 1) + r) (hb : b.val = 128 * bh t + l) :
    ((cfg0.win 7).blk t).view.read (Elt Ideal) X (ix2 r l) = X (ix2 a b) := by
  have e := idx7 t
  blk_simp [e]
  refine congrArg X ?_
  blk_ext [e]

theorem rb8 (X : FVec Ideal S8192x3072 .f32) (t : Fin cfg0.N) (r : Fin 1024) (l : Fin 128) (a : Fin 8192) (b : Fin 3072) (ha : a.val = 1024 * min (bn t + 1) 7 + r) (hb : b.val = 128 * bh t + l) :
    ((cfg0.win 8).blk t).view.read (Elt Ideal) X (ix2 r l) = X (ix2 a b) := by
  have e := idx8 t
  blk_simp [e]
  refine congrArg X ?_
  blk_ext [e]

theorem rb9 (X : FVec Ideal S8192x1024 .f32) (t : Fin cfg0.N) (r : Fin 1024) (l : Fin 128) (a : Fin 8192) (b : Fin 1024) (ha : a.val = 1024 * min (bn t + 1) 7 + r) (hb : b.val = 128 * bh t + l) :
    ((cfg0.win 9).blk t).view.read (Elt Ideal) X (ix2 r l) = X (ix2 a b) := by
  have e := idx9 t
  blk_simp [e]
  refine congrArg X ?_
  blk_ext [e]

theorem rb10 (X : FVec Ideal S8192x1024 .f32) (t : Fin cfg0.N) (r : Fin 1024) (l : Fin 128) (a : Fin 8192) (b : Fin 1024) (ha : a.val = 1024 * min (bn t + 1) 7 + r) (hb : b.val = 128 * bh t + l) :
    ((cfg0.win 10).blk t).view.read (Elt Ideal) X (ix2 r l) = X (ix2 a b) := by
  have e := idx10 t
  blk_simp [e]
  refine congrArg X ?_
  blk_ext [e]

theorem rb11 (X : FVec Ideal S8192x1024 .f32) (t : Fin cfg0.N) (r : Fin 1024) (l : Fin 128) (a : Fin 8192) (b : Fin 1024) (ha : a.val = 1024 * min (bn t + 1) 7 + r) (hb : b.val = 128 * bh t + l) :
    ((cfg0.win 11).blk t).view.read (Elt Ideal) X (ix2 r l) = X (ix2 a b) := by
  have e := idx11 t
  blk_simp [e]
  refine congrArg X ?_
  blk_ext [e]

/-- Every grid point writes back its block of the three results. -/
theorem fl12 : ∀ t : Fin cfg0.N, (cfg0.win 12).flush t = true := by decide +kernel
theorem fl13 : ∀ t : Fin cfg0.N, (cfg0.win 13).flush t = true := by decide +kernel
theorem fl14 : ∀ t : Fin cfg0.N, (cfg0.win 14).flush t = true := by decide +kernel

theorem rb12 (X : FVec Ideal S8192x1024 .f32) (t : Fin cfg0.N) (r : Fin 1024) (l : Fin 128) (a : Fin 8192) (b : Fin 1024) (ha : a.val = 1024 * bn t + r) (hb : b.val = 128 * bh t + l) :
    ((cfg0.win 12).blk t).view.read (Elt Ideal) X (ix2 r l) = X (ix2 a b) := by
  have e := idx12 t
  blk_simp [e]
  refine congrArg X ?_
  blk_ext [e]
theorem rb13 (X : FVec Ideal S8192x1024 .f32) (t : Fin cfg0.N) (r : Fin 1024) (l : Fin 128) (a : Fin 8192) (b : Fin 1024) (ha : a.val = 1024 * bn t + r) (hb : b.val = 128 * bh t + l) :
    ((cfg0.win 13).blk t).view.read (Elt Ideal) X (ix2 r l) = X (ix2 a b) := by
  have e := idx13 t
  blk_simp [e]
  refine congrArg X ?_
  blk_ext [e]
theorem rb14 (X : FVec Ideal S8192x1024 .f32) (t : Fin cfg0.N) (r : Fin 1024) (l : Fin 128) (a : Fin 8192) (b : Fin 1024) (ha : a.val = 1024 * bn t + r) (hb : b.val = 128 * bh t + l) :
    ((cfg0.win 14).blk t).view.read (Elt Ideal) X (ix2 r l) = X (ix2 a b) := by
  have e := idx14 t
  blk_simp [e]
  refine congrArg X ?_
  blk_ext [e]

/-- The whole block is written back. -/
theorem ct12 (X : Vec Ideal S1024x128 .f32) (t : Fin cfg0.N) (r : Fin 1024) (l : Fin 128) : (cfg0.win 12).cut (grid0.coords t) X (ix2 r l) = X (ix2 r l) := by
  rfl
theorem ct13 (X : Vec Ideal S1024x128 .f32) (t : Fin cfg0.N) (r : Fin 1024) (l : Fin 128) : (cfg0.win 13).cut (grid0.coords t) X (ix2 r l) = X (ix2 r l) := by
  rfl
theorem ct14 (X : Vec Ideal S1024x128 .f32) (t : Fin cfg0.N) (r : Fin 1024) (l : Fin 128) : (cfg0.win 14).cut (grid0.coords t) X (ix2 r l) = X (ix2 r l) := by
  rfl

/-- The grid point that works on a block of rows and a head. -/
theorem point (n h : ℕ) (hn : n < 8) (hh : h < 8) : ∃ t : Fin cfg0.N, bn t = n ∧ bh t = h := by
  have H : ∀ (n h : Fin 8), ∃ t : Fin cfg0.N, bn t = n.val ∧ bh t = h.val := by decide +kernel
  exact H ⟨n, hn⟩ ⟨h, hh⟩

section
variable {q k v : FVec Ideal S8192x3072 .f32} {d : FVec Ideal S8192x1024 .f32}
  (hqr : ∀ i, ∃ r : ℝ, q i = (r : EReal)) (hkr : ∀ i, ∃ r : ℝ, k i = (r : EReal)) (hvr : ∀ i, ∃ r : ℝ, v i = (r : EReal)) (hdr : ∀ i, ∃ r : ℝ, d i = (r : EReal))
include hqr hkr hvr hdr

/-- The twelve blocks of a grid point, cut from the four arguments and the two rows that the host prepared. -/
theorem cuts (t : Fin cfg0.N) :
    Blocks (bn t) (min (bn t + 1) 7) (hq q ⟨bh t, bh_lt t⟩) (hq k ⟨bh t, bh_lt t⟩) (hq v ⟨bh t, bh_lt t⟩) (hc d ⟨bh t, bh_lt t⟩) (hl q k ⟨bh t, bh_lt t⟩) (hd q k v d ⟨bh t, bh_lt t⟩)
      (((cfg0.win 0).blk t).view.read (Elt Ideal) q) (((cfg0.win 1).blk t).view.read (Elt Ideal) k) (((cfg0.win 2).blk t).view.read (Elt Ideal) v)
      (((cfg0.win 3).blk t).view.read (Elt Ideal) d) (((cfg0.win 4).blk t).view.read (Elt Ideal) (dlt (SC q k) (VC v) d)) (((cfg0.win 5).blk t).view.read (Elt Ideal) (lsx (SC q k)))
      (((cfg0.win 6).blk t).view.read (Elt Ideal) k) (((cfg0.win 7).blk t).view.read (Elt Ideal) v)
      (((cfg0.win 8).blk t).view.read (Elt Ideal) q) (((cfg0.win 9).blk t).view.read (Elt Ideal) d) (((cfg0.win 10).blk t).view.read (Elt Ideal) (dlt (SC q k) (VC v) d)) (((cfg0.win 11).blk t).view.read (Elt Ideal) (lsx (SC q k))) := by
  have hn := bn_lt t
  have hh := bh_lt t
  have R3 : ∀ (n : ℕ) (hn : n < 8) (x : FVec Ideal S8192x3072 .f32) (hx : ∀ i, ∃ r : ℝ, x i = (r : EReal)) (r : Fin 1024) (l : Fin 128),
      x (ix2 ⟨1024 * n + r.val, by omega⟩ ⟨128 * bh t + l.val, by omega⟩) = ((hq x ⟨bh t, bh_lt t⟩ (1024 * n + r) l : ℝ) : EReal) := fun n hn x hx r l => rd_eq hx _ _
  have R1 : ∀ (n : ℕ) (hn : n < 8) (r : Fin 1024) (l : Fin 128),
      d (ix2 ⟨1024 * n + r.val, by omega⟩ ⟨128 * bh t + l.val, by omega⟩) = ((hc d ⟨bh t, bh_lt t⟩ (1024 * n + r) l : ℝ) : EReal) := fun n hn r l => rc_eq hdr _ _
  have RL : ∀ (n : ℕ) (hn : n < 8) (r : Fin 1024) (l : Fin 128),
      lsx (SC q k) (ix2 ⟨1024 * n + r.val, by omega⟩ ⟨128 * bh t + l.val, by omega⟩) = ((hl q k ⟨bh t, bh_lt t⟩ (1024 * n + r) : ℝ) : EReal) :=
    fun n hn r l => lse_at hqr hkr ⟨bh t, bh_lt t⟩ ⟨1024 * n + r.val, by omega⟩ l (by show 128 * bh t + l.val < 1024; omega)
  have RD : ∀ (n : ℕ) (hn : n < 8) (r : Fin 1024) (l : Fin 128),
      dlt (SC q k) (VC v) d (ix2 ⟨1024 * n + r.val, by omega⟩ ⟨128 * bh t + l.val, by omega⟩) = ((hd q k v d ⟨bh t, bh_lt t⟩ (1024 * n + r) : ℝ) : EReal) :=
    fun n hn r l => delta_at hqr hkr hvr hdr ⟨bh t, bh_lt t⟩ ⟨1024 * n + r.val, by omega⟩ l (by show 128 * bh t + l.val < 1024; omega)
  have hT : min (bn t + 1) 7 < 8 := by omega
  have hp : bn t - 1 < 8 := by omega
  exact {
    lt := hn
    nx := fun h => by omega
    h0 := fun r l => (rb0 q t r l _ _ rfl rfl).trans (R3 _ hn q hqr r l)
    h1 := fun r l => (rb1 k t r l _ _ rfl rfl).trans (R3 _ hn k hkr r l)
    h2 := fun r l => (rb2 v t r l _ _ rfl rfl).trans (R3 _ hn v hvr r l)
    h3 := fun r l => (rb3 d t r l _ _ rfl rfl).trans (R1 _ hn r l)
    h4 := fun r l => (rb4 _ t r l _ _ rfl rfl).trans (RD _ hn r l)
    h5 := fun r l => (rb5 _ t r l _ _ rfl rfl).trans (RL _ hn r l)
    h6 := fun _ r l => (rb6 k t r l _ _ rfl rfl).trans (R3 _ hp k hkr r l)
    h7 := fun _ r l => (rb7 v t r l _ _ rfl rfl).trans (R3 _ hp v hvr r l)
    h8 := fun r l => (rb8 q t r l _ _ rfl rfl).trans (R3 _ hT q hqr r l)
    h9 := fun r l => (rb9 d t r l _ _ rfl rfl).trans (R1 _ hT r l)
    h10 := fun r l => (rb10 _ t r l _ _ rfl rfl).trans (RD _ hT r l)
    h11 := fun r l => (rb11 _ t r l _ _ rfl rfl).trans (RL _ hT r l) }

end

end Cert.KernelIdeal.Dil

end
-- ==== Proof.Host.lean ====
module

public import proofs.«01_k».proof.Proof.Terms
public import Idealize.ShloMosaic.Lib.StableHlo.RunRead

@[expose] public section

set_option maxRecDepth 16384

noncomputable section

namespace Cert.KernelIdeal.Dil

open Cert.KernelIdeal Cert.KernelIdeal.Gen Idealize.ShloMosaic Idealize.ShloMosaic.TcCoe Idealize.SL.Sem Idealize.ShloMosaic.StableHlo

variable {F : FTy → Type} [FloatOps F] [Named F]
variable (m : (ℓ : Loc nD τ sig) → Buf (Elt F) ℓ)

/-- The list of host operations before the kernel's launch, as one list. -/
abbrev allOps : List (HloOp τ sig (Elt F)) := List.flatten [hostOps0, hostOps0_1, hostOps0_2, hostOps0_3, hostOps0_4, hostOps0_5, hostOps0_6]

set_option maxHeartbeats 4000000 in
/-- Before they are joined, the scores of group 0. -/
theorem up18 (c : Dev nD) : upto allOps (fun b => m (c, b)) 75 (Proc.devRef .tc main_v18) = sco 128#32 1#32 (hd0 (m (c, Proc.devRef .tc main_arg0))) (hd0 (m (c, Proc.devRef .tc main_arg1))) := by
  unfold_abbrev_sides
  simp only [List.flatten_cons, List.flatten_nil, List.append_nil, List.cons_append, List.nil_append]
  after_reads_simp
  rfl

set_option maxHeartbeats 4000000 in
/-- Before they are joined, the scores of group 1. -/
theorem up34 (c : Dev nD) : upto allOps (fun b => m (c, b)) 75 (Proc.devRef .tc main_v34) = sco 512#32 4#32 (hd1 (m (c, Proc.devRef .tc main_arg0))) (hd1 (m (c, Proc.devRef .tc main_arg1))) := by
  unfold_abbrev_sides
  simp only [List.flatten_cons, List.flatten_nil, List.append_nil, List.cons_append, List.nil_append]
  after_reads_simp
  rfl

set_option maxHeartbeats 4000000 in
/-- Before they are joined, the scores of group 2. -/
theorem up50 (c : Dev nD) : upto allOps (fun b => m (c, b)) 75 (Proc.devRef .tc main_v50) = sco 2048#32 16#32 (hd2 (m (c, Proc.devRef .tc main_arg0))) (hd2 (m (c, Proc.devRef .tc main_arg1))) := by
  unfold_abbrev_sides
  simp only [List.flatten_cons, List.flatten_nil, List.append_nil, List.cons_append, List.nil_append]
  after_reads_simp
  rfl

set_option maxHeartbeats 4000000 in
/-- Before they are joined, the values of group 0. -/
theorem up62 (c : Dev nD) : upto allOps (fun b => m (c, b)) 93 (Proc.devRef .tc main_v62) = hd0 (m (c, Proc.devRef .tc main_arg2)) := by
  unfold_abbrev_sides
  simp only [List.flatten_cons, List.flatten_nil, List.append_nil, List.cons_append, List.nil_append]
  after_reads_simp
  rfl

set_option maxHeartbeats 4000000 in
/-- Before they are joined, the values of group 1. -/
theorem up64 (c : Dev nD) : upto allOps (fun b => m (c, b)) 93 (Proc.devRef .tc main_v64) = hd1 (m (c, Proc.devRef .tc main_arg2)) := by
  unfold_abbrev_sides
  simp only [List.flatten_cons, List.flatten_nil, List.append_nil, List.cons_append, List.nil_append]
  after_reads_simp
  rfl

set_option maxHeartbeats 4000000 in
/-- Before they are joined, the values of group 2. -/
theorem up66 (c : Dev nD) : upto allOps (fun b => m (c, b)) 93 (Proc.devRef .tc main_v66) = hd2 (m (c, Proc.devRef .tc main_arg2)) := by
  unfold_abbrev_sides
  simp only [List.flatten_cons, List.flatten_nil, List.append_nil, List.cons_append, List.nil_append]
  after_reads_simp
  rfl

set_option maxHeartbeats 4000000 in
/-- The kernel's sixth argument: the rows' logarithms. -/
theorem V81 (c : Dev nD) : V m c main_v81 = lsx (SC (m (c, Proc.devRef .tc main_arg0)) (m (c, Proc.devRef .tc main_arg1))) := by
  rw [SC, ← up18, ← up34, ← up50]
  unfold_abbrev_sides
  simp only [List.flatten_cons, List.flatten_nil, List.append_nil, List.cons_append, List.nil_append]
  after_reads_simp
  rfl

set_option maxHeartbeats 4000000 in
/-- The kernel's fifth argument: the rows' inner products. -/
theorem V75 (c : Dev nD) : V m c main_v75 = dlt (SC (m (c, Proc.devRef .tc main_arg0)) (m (c, Proc.devRef .tc main_arg1))) (VC (m (c, Proc.devRef .tc main_arg2))) (m (c, Proc.devRef .tc main_arg3)) := by
  rw [SC, VC, ← up18, ← up34, ← up50, ← up62, ← up64, ← up66]
  unfold_abbrev_sides
  simp only [List.flatten_cons, List.flatten_nil, List.append_nil, List.cons_append, List.nil_append]
  after_reads_simp
  rfl

end Cert.KernelIdeal.Dil
end
-- ==== Proof.Final.lean ====
module

public import proofs.«01_k».proof.Proof.Arrays
public import proofs.«01_k».proof.Proof.Host

@[expose] public section

set_option maxRecDepth 16384

noncomputable section

namespace Cert.KernelIdeal.Dil

open Cert.KernelIdeal Cert.KernelIdeal.Gen Idealize.ShloMosaic Idealize.ShloMosaic.TcCoe
open Idealize.ShloMosaic.Pipeline (Dat)

variable (m : (ℓ : Loc nD τ sig) → Buf (Elt Ideal) ℓ) (c : Dev nD)

/-- The first argument of a device. -/
abbrev mq : FVec Ideal S8192x3072 .f32 := m (c, Proc.devRef .tc main_arg0)
/-- The second argument of a device. -/
abbrev mk : FVec Ideal S8192x3072 .f32 := m (c, Proc.devRef .tc main_arg1)
/-- The third argument of a device. -/
abbrev mv : FVec Ideal S8192x3072 .f32 := m (c, Proc.devRef .tc main_arg2)
/-- The fourth argument of a device. -/
abbrev md : FVec Ideal S8192x1024 .f32 := m (c, Proc.devRef .tc main_arg3)

theorem ia0 (t : Fin cfg0.N) : iblk m c 0 t = ((cfg0.win 0).blk t).view.read (Elt Ideal) (mq m c) :=
  congrArg (fun X => ((cfg0.win 0).blk t).view.read (Elt Ideal) X) (V_main_arg0 m c)
theorem ia1 (t : Fin cfg0.N) : iblk m c 1 t = ((cfg0.win 1).blk t).view.read (Elt Ideal) (mk m c) :=
  congrArg (fun X => ((cfg0.win 1).blk t).view.read (Elt Ideal) X) (V_main_arg1 m c)
theorem ia2 (t : Fin cfg0.N) : iblk m c 2 t = ((cfg0.win 2).blk t).view.read (Elt Ideal) (mv m c) :=
  congrArg (fun X => ((cfg0.win 2).blk t).view.read (Elt Ideal) X) (V_main_arg2 m c)
theorem ia3 (t : Fin cfg0.N) : iblk m c 3 t = ((cfg0.win 3).blk t).view.read (Elt Ideal) (md m c) :=
  congrArg (fun X => ((cfg0.win 3).blk t).view.read (Elt Ideal) X) (V_main_arg3 m c)
theorem ia4 (t : Fin cfg0.N) : iblk m c 4 t = ((cfg0.win 4).blk t).view.read (Elt Ideal) (dlt (SC (mq m c) (mk m c)) (VC (mv m c)) (md m c)) :=
  congrArg (fun X => ((cfg0.win 4).blk t).view.read (Elt Ideal) X) (V75 m c)
theorem ia5 (t : Fin cfg0.N) : iblk m c 5 t = ((cfg0.win 5).blk t).view.read (Elt Ideal) (lsx (SC (mq m c) (mk m c))) :=
  congrArg (fun X => ((cfg0.win 5).blk t).view.read (Elt Ideal) X) (V81 m c)
theorem ia6 (t : Fin cfg0.N) : iblk m c 6 t = ((cfg0.win 6).blk t).view.read (Elt Ideal) (mk m c) :=
  congrArg (fun X => ((cfg0.win 6).blk t).view.read (Elt Ideal) X) (V_main_arg1 m c)
theorem ia7 (t : Fin cfg0.N) : iblk m c 7 t = ((cfg0.win 7).blk t).view.read (Elt Ideal) (mv m c) :=
  congrArg (fun X => ((cfg0.win 7).blk t).view.read (Elt Ideal) X) (V_main_arg2 m c)
theorem ia8 (t : Fin cfg0.N) : iblk m c 8 t = ((cfg0.win 8).blk t).view.read (Elt Ideal) (mq m c) :=
  congrArg (fun X => ((cfg0.win 8).blk t).view.read (Elt Ideal) X) (V_main_arg0 m c)
theorem ia9 (t : Fin cfg0.N) : iblk m c 9 t = ((cfg0.win 9).blk t).view.read (Elt Ideal) (md m c) :=
  congrArg (fun X => ((cfg0.win 9).blk t).view.read (Elt Ideal) X) (V_main_arg3 m c)
theorem ia10 (t : Fin cfg0.N) : iblk m c 10 t = ((cfg0.win 10).blk t).view.read (Elt Ideal) (dlt (SC (mq m c) (mk m c)) (VC (mv m c)) (md m c)) :=
  congrArg (fun X => ((cfg0.win 10).blk t).view.read (Elt Ideal) X) (V75 m c)
theorem ia11 (t : Fin cfg0.N) : iblk m c 11 t = ((cfg0.win 11).blk t).view.read (Elt Ideal) (lsx (SC (mq m c) (mk m c))) :=
  congrArg (fun X => ((cfg0.win 11).blk t).view.read (Elt Ideal) X) (V81 m c)

variable (hqr : ∀ i, ∃ r : ℝ, mq m c i = (r : EReal)) (hkr : ∀ i, ∃ r : ℝ, mk m c i = (r : EReal)) (hvr : ∀ i, ∃ r : ℝ, mv m c i = (r : EReal)) (hdr : ∀ i, ∃ r : ℝ, md m c i = (r : EReal))
include hqr hkr hvr hdr

/-- The twelve blocks of a grid point. -/
theorem blks (t : Fin cfg0.N) (h : Fin 8) (hh : bh t = h.val) :
    Blocks (bn t) (min (bn t + 1) 7) (hq (mq m c) h) (hq (mk m c) h) (hq (mv m c) h) (hc (md m c) h) (hl (mq m c) (mk m c) h) (hd (mq m c) (mk m c) (mv m c) (md m c) h)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  have e : (⟨bh t, bh_lt t⟩ : Fin 8) = h := Fin.ext hh
  have B := cuts hqr hkr hvr hdr t
  rw [e] at B
  rw [ia0, ia1, ia2, ia3, ia4, ia5, ia6, ia7, ia8, ia9, ia10, ia11]
  exact B

/-- An entry of the queries' gradient after the run. -/
theorem arr12 (t : Fin 8192) (h : Fin 8) (l : Fin 128) (hb : 128 * h.val + l.val < 1024) :
    (dats m 0 c).arrAt 12 cfg0.N (ix2 t ⟨128 * h.val + l.val, hb⟩) = ((∑ s ∈ Finset.range 8192, sg (hq (mq m c) h) (hq (mk m c) h) (hq (mv m c) h) (hc (md m c) h) (hl (mq m c) (mk m c) h) (hd (mq m c) (mk m c) (mv m c) (md m c) h) t s * hq (mk m c) h s l : ℝ) : EReal) := by
  obtain ⟨p, hn, hh⟩ := point (t.val / 1024) h.val (by omega) h.isLt
  have ht : 1024 * bn p + t.val % 1024 = t.val := by rw [hn]; omega
  have e := congrFun (Value.blocks12 m c p (fl12 p)) (ix2 ⟨t.val % 1024, by omega⟩ l)
  rw [rb12 _ p _ l t ⟨128 * h.val + l.val, hb⟩ ht.symm (by rw [hh]), Value.flushed12_A, ct12] at e
  refine e.trans ((out12_at _ _ _ _ _ _ _ _ _ _ _ _ _ _ _ _ _ _ _ _ _ _ _ _ _ _ _ _ _ _ _ _ _ _ _ _ _ _ _ _ _ _ _ _ (blks m c hqr hkr hvr hdr p h hh) rfl _ l).trans ?_)
  rw [ht]

/-- An entry of the keys' gradient after the run. -/
theorem arr13 (t : Fin 8192) (h : Fin 8) (l : Fin 128) (hb : 128 * h.val + l.val < 1024) :
    (dats m 0 c).arrAt 13 cfg0.N (ix2 t ⟨128 * h.val + l.val, hb⟩) = ((∑ s ∈ Finset.range 8192, sg (hq (mq m c) h) (hq (mk m c) h) (hq (mv m c) h) (hc (md m c) h) (hl (mq m c) (mk m c) h) (hd (mq m c) (mk m c) (mv m c) (md m c) h) s t * hq (mq m c) h s l : ℝ) : EReal) := by
  obtain ⟨p, hn, hh⟩ := point (t.val / 1024) h.val (by omega) h.isLt
  have ht : 1024 * bn p + t.val % 1024 = t.val := by rw [hn]; omega
  have e := congrFun (Value.blocks13 m c p (fl13 p)) (ix2 ⟨t.val % 1024, by omega⟩ l)
  rw [rb13 _ p _ l t ⟨128 * h.val + l.val, hb⟩ ht.symm (by rw [hh]), Value.flushed13_A, ct13] at e
  refine e.trans ((out13_at _ _ _ _ _ _ _ _ _ _ _ _ _ _ _ _ _ _ _ _ _ _ _ _ _ _ _ _ _ _ _ _ _ _ _ _ _ _ _ _ _ _ _ _ (blks m c hqr hkr hvr hdr p h hh) rfl _ l).trans ?_)
  rw [ht]

/-- An entry of the values' gradient after the run. -/
theorem arr14 (t : Fin 8192) (h : Fin 8) (l : Fin 128) (hb : 128 * h.val + l.val < 1024) :
    (dats m 0 c).arrAt 14 cfg0.N (ix2 t ⟨128 * h.val + l.val, hb⟩) = ((∑ s ∈ Finset.range 8192, wt (hq (mq m c) h) (hq (mk m c) h) (hl (mq m c) (mk m c) h) s t * hc (md m c) h s l : ℝ) : EReal) := by
  obtain ⟨p, hn, hh⟩ := point (t.val / 1024) h.val (by omega) h.isLt
  have ht : 1024 * bn p + t.val % 1024 = t.val := by rw [hn]; omega
  have e := congrFun (Value.blocks14 m c p (fl14 p)) (ix2 ⟨t.val % 1024, by omega⟩ l)
  rw [rb14 _ p _ l t ⟨128 * h.val + l.val, hb⟩ ht.symm (by rw [hh]), Value.flushed14_A, ct14] at e
  refine e.trans ((out14_at _ _ _ _ _ _ _ _ _ _ _ _ _ _ _ _ _ _ _ _ _ _ _ _ _ _ _ _ _ _ _ _ _ _ _ _ _ _ _ _ _ _ _ _ (blks m c hqr hkr hvr hdr p h hh) rfl _ l).trans ?_)
  rw [ht]

end Cert.KernelIdeal.Dil

end
-- ==== Proof.RefReads.lean ====
module

public import proofs.«01_k».proof.Proof.Weights
public import proofs.«01_k».proof.Proof.Gen.ReferenceIdeal.Run

@[expose] public section

set_option maxRecDepth 16384

noncomputable section

namespace Cert.ReferenceIdeal.Dil

open Cert.ReferenceIdeal Cert.ReferenceIdeal.Gen Cert.ReferenceIdeal.Value Idealize.ShloMosaic Idealize.ShloMosaic.TcCoe Idealize.SL.Sem Idealize.ShloMosaic.StableHlo
open Cert.KernelIdeal.Dil (neg_inf coe_sum)

/-- The first group's columns of the three groups' gradients joined by padding. -/
theorem first_at (x y z : FVec Ideal S8192x1024 .f32) (t : Fin 8192) (c : Fin 1024) :
    extractStridedSlice S8192x1024 ![0, 0] (addf (addf (pad S8192x3072 ![0, 2048] ![0, 0] ![0, 0] x (constant S_ .f32 0x00000000#32) pads_S8192x1024_S8192x3072_000_204800 h_S_)
      (pad S8192x3072 ![0, 1024] ![0, 1024] ![0, 0] y (constant S_ .f32 0x00000000#32) pads_S8192x1024_S8192x3072_000_102410240 h_S_))
      (pad S8192x3072 ![0, 0] ![0, 2048] ![0, 0] z (constant S_ .f32 0x00000000#32) pads_S8192x1024_S8192x3072_000_020480 h_S_)) slices_S8192x3072_S8192x1024_0_0 (ix2 t c)
    = z (ix2 t c) := by
  pointwise []
  rw [dif_neg (by have := c.isLt; omega), dif_neg (fun h => h.1), zero_add, zero_add]

/-- The queries' gradient. -/
theorem gq_at (a : FVec Ideal S8x8192x8192 .f32) (b : FVec Ideal S8192x8x128 .f32) (t : Fin 8192) (h : Fin 8) (c : Fin 128) (hc : 128 * h.val + c.val < 1024) :
    shapeCast S8192x1024 (transpose S8192x8x128 [1, 0, 2] (Host.dotGeneral dot_S8x8192x8192_S8192x8x128_S8x8192x128_2_0_1_2_0_1 none a b) transposes_S8x8192x128_S8192x8x128_1_0_2)
      shapeCasts_S8192x8x128_S8192x1024 (ix2 t ⟨128 * h.val + c.val, hc⟩) = ∑ s, a (ix3 h t s) * b (ix3 s h c) := by
  pointwise []

/-- The keys' gradient. -/
theorem gk_at (a : FVec Ideal S8x8192x8192 .f32) (b : FVec Ideal S8192x8x128 .f32) (s : Fin 8192) (h : Fin 8) (c : Fin 128) (hc : 128 * h.val + c.val < 1024) :
    shapeCast S8192x1024 (transpose S8192x8x128 [1, 0, 2] (Host.dotGeneral dot_S8x8192x8192_S8192x8x128_S8x8192x128_1_0_2_2_0_1 none a b) transposes_S8x8192x128_S8192x8x128_1_0_2)
      shapeCasts_S8192x8x128_S8192x1024 (ix2 s ⟨128 * h.val + c.val, hc⟩) = ∑ t, a (ix3 h t s) * b (ix3 t h c) := by
  pointwise []

/-- The values' gradient. -/
theorem gv_at (d : FVec Ideal S8192x1024 .f32) (p : FVec Ideal S8x8192x24576 .f32) (s : Fin 8192) (hs : s.val < 24576) (h : Fin 8) (c : Fin 128) (hc : 128 * h.val + c.val < 1024) :
    shapeCast S8192x1024 (extractStridedSlice S8192x8x128 ![0, 0, 0] (transpose S24576x8x128 [2, 0, 1] (Host.dotGeneral dot_S8x128x8192_S8x8192x24576_S8x128x24576_2_1_1_2_0_0 none
      (transpose S8x128x8192 [1, 2, 0] (shapeCast S8192x8x128 d shapeCasts_S8192x1024_S8192x8x128) transposes_S8192x8x128_S8x128x8192_1_2_0) p) transposes_S8x128x24576_S24576x8x128_2_0_1)
      slices_S24576x8x128_S8192x8x128_0_0_0) shapeCasts_S8192x8x128_S8192x1024 (ix2 s ⟨128 * h.val + c.val, hc⟩)
    = ∑ t, d (ix2 t ⟨128 * h.val + c.val, hc⟩) * p (ix3 h t ⟨s, hs⟩) := by
  pointwise []
  refine Finset.sum_congr rfl fun x _ => ?_
  congr 3
  refine Fin.ext ?_
  show h.val * 128 + c.val = 128 * h.val + c.val
  omega

/-- The probabilities' cotangents. -/
theorem dp_at (d : FVec Ideal S8192x1024 .f32) (v : FVec Ideal S24576x8x128 .f32) (h : Fin 8) (t : Fin 8192) (u : Fin 24576) :
    Host.dotGeneral dot_S8x128x8192_S24576x8x128_S8x8192x24576_1_2_2_0_0_1 none
      (transpose S8x128x8192 [1, 2, 0] (shapeCast S8192x8x128 d shapeCasts_S8192x1024_S8192x8x128) transposes_S8192x8x128_S8x128x8192_1_2_0) v (ix3 h t u)
    = ∑ c : Fin 128, d (ix2 t ⟨128 * h.val + c.val, by have := h.isLt; have := c.isLt; omega⟩) * v (ix3 u h c) := by
  pointwise []
  refine Finset.sum_congr rfl fun x _ => ?_
  congr 3
  refine Fin.ext ?_
  show h.val * 128 + x.val = 128 * h.val + x.val
  omega

/-- A row's sum, kept with a last axis of one. -/
theorem keep_at (x : FVec Ideal S8x8192 .f32) (h : Fin 8) (t : Fin 8192) (a : Fin 1) : broadcastInDim S8x8192x1 ![0, 1] bcast_S8x8192_S8x8192x1_0_1 x (ix3 h t a) = x (ix2 h t) := by
  pointwise []

/-- A quotient by a row's number. -/
theorem quot_at (e : FVec Ideal S8x8192x24576 .f32) (z : FVec Ideal S8x8192x1 .f32) (h : Fin 8) (t : Fin 8192) (u : Fin 24576) :
    Host.divf e (broadcastInDim S8x8192x24576 ![0, 1, 2] bcast_S8x8192x1_S8x8192x24576_0_1_2 z) (ix3 h t u) = Ideal.div (e (ix3 h t u)) (z (ix3 h t 0)) := by
  pointwise []

/-- The scores' cotangents before the mask. -/
theorem ds_at (g e : FVec Ideal S8x8192x24576 .f32) (z : FVec Ideal S8x8192x1 .f32) (h : Fin 8) (t : Fin 8192) (u : Fin 24576) :
    mulf (addf (Host.divf g (broadcastInDim S8x8192x24576 ![0, 1, 2] bcast_S8x8192x1_S8x8192x24576_0_1_2 z)) (broadcastInDim S8x8192x24576 ![0, 1] bcast_S8x8192_S8x8192x24576_0_1
      (Host.reduceAdd (Host.negf (shapeCast _ (Host.reduceAdd (mulf (mulf g (broadcastInDim S8x8192x24576 ![0, 1, 2] bcast_S8x8192x1_S8x8192x24576_0_1_2
        (Host.divf (broadcastInDim S8x8192x1 ![] bcast_S_S8x8192x1 (constant S_ .f32 0x3F800000#32)) (mulf z z)))) e) (constant S_ .f32 0x00000000#32) reducesTo_S8x8192x24576_S8x8192_d2 h_S_)
        shapeCasts_S8x8192_S8x8192x1)) (constant S_ .f32 0x00000000#32) reducesTo_S8x8192x1_S8x8192_d2 h_S_))) e (ix3 h t u)
    = (Ideal.div (g (ix3 h t u)) (z (ix3 h t 0)) + -(∑ x, g (ix3 h t x) * Ideal.div 1 (z (ix3 h t 0) * z (ix3 h t 0)) * e (ix3 h t x))) * e (ix3 h t u) := by
  pointwise []
  simp only [Finset.sum_const, Finset.card_univ, Fintype.card_fin, one_smul]

end Cert.ReferenceIdeal.Dil
end
-- ==== Proof.RefVal.lean ====
module

public import proofs.«01_k».proof.Proof.RefReads

@[expose] public section

set_option maxRecDepth 16384

noncomputable section

namespace Cert.ReferenceIdeal.Dil

open Cert.ReferenceIdeal Cert.ReferenceIdeal.Gen Cert.ReferenceIdeal.Value Idealize.ShloMosaic Idealize.ShloMosaic.TcCoe Idealize.SL.Sem Idealize.ShloMosaic.StableHlo
open Cert.KernelIdeal.Dil

/-- The larger of −∞ and a number is the number. -/
theorem max_bot (x : FVec Ideal S8x8192 .f32) : maximumf (broadcastInDim S8x8192 ![] bcast_S_S8x8192 (constant S_ .f32 0xFF800000#32)) x = x := by
  funext i
  obtain ⟨h, t, rfl⟩ : ∃ h t, i = ix2 h t := ⟨i 0, i 1, by funext a; fin_cases a <;> rfl⟩
  pointwise []
  rw [neg_inf]
  exact bot_sup_eq _

/-- The first group's mask over an array, 0 outside. -/
theorem mask_at (V0 : Valuation τ sig (Elt Ideal)) (x : FVec Ideal S8x8192x8192 .f32) (h : Fin 8) (t s : Fin 8192) :
    select (res_main_v18_1 V0) x (broadcastInDim S8x8192x8192 ![] bcast_S_S8x8192x8192 (constant S_ .f32 0x00000000#32)) (ix3 h t s) = if band t s then x (ix3 h t s) else 0 := by
  pointwise [res_main_v18_1, res_main_v2]
  unfold Scalar.select
  by_cases hb : band t s
  · rw [if_pos hb, if_pos ((mask0 t s).2 hb)]
  · rw [if_neg hb, if_neg (fun h => hb ((mask0 t s).1 h))]

section
variable (V0 : Valuation τ sig (Elt Ideal))

/-- The queries, keys, values and cotangent. -/
abbrev aq : FVec Ideal S8192x3072 .f32 := V0 (Proc.devRef .tc main_arg0)
abbrev ak : FVec Ideal S8192x3072 .f32 := V0 (Proc.devRef .tc main_arg1)
abbrev av : FVec Ideal S8192x3072 .f32 := V0 (Proc.devRef .tc main_arg2)
abbrev ad : FVec Ideal S8192x1024 .f32 := V0 (Proc.devRef .tc main_arg3)

/-- The reference's masked scores. -/
theorem v51_eq : res_main_v51 V0 = SC (aq V0) (ak V0) := rfl

/-- The reference's row maxima. -/
theorem v52_eq : res_main_v52 V0 = MX (SC (aq V0) (ak V0)) := by
  rw [res_main_v52, v51_eq]; rfl

/-- The reference's exponentials. -/
theorem v72_eq : res_main_v72 V0 = EX (SC (aq V0) (ak V0)) := by
  rw [res_main_v72, max_bot, v52_eq, v51_eq]; rfl

/-- The reference's row sums, kept with a last axis of one. -/
theorem v74_at (h : Fin 8) (t : Fin 8192) (a : Fin 1) : res_main_v74 V0 (ix3 h t a) = ZZ (SC (aq V0) (ak V0)) (ix2 h t) := by
  rw [res_main_v74, v72_eq, keep_at]; rfl

/-- The reference's values of all groups. -/
theorem v86_eq : res_main_v86 V0 = VC (av V0) := rfl

end

/-- A score's cotangent in real numbers: the probability times the difference of its cotangent from the row's mean. -/
theorem ds_real {ι : Type*} [Fintype ι] (g e : ι → ℝ) {z : ℝ} (hz : 0 < z) (u : ι) :
    (Ideal.div (g u : EReal) (z : EReal) + -(∑ x, (g x : EReal) * Ideal.div 1 ((z : EReal) * (z : EReal)) * (e x : EReal))) * (e u : EReal)
      = ((e u / z * (g u - ∑ x, g x * (e x / z)) : ℝ) : EReal) := by
  have h1 : Ideal.div 1 ((z : EReal) * (z : EReal)) = ((1 / (z * z) : ℝ) : EReal) := by
    rw [← EReal.coe_mul, ← EReal.coe_one, div_real _ (mul_pos hz hz)]
  rw [h1, div_real _ hz]
  simp only [← EReal.coe_mul, ← coe_sum, ← EReal.coe_neg, ← EReal.coe_add]
  refine congrArg Real.toEReal ?_
  have h2 : ∑ x, g x * (1 / (z * z)) * e x = (∑ x, g x * (e x / z)) / z := by
    rw [Finset.sum_div]
    refine Finset.sum_congr rfl fun x _ => ?_
    field_simp
  rw [h2]
  field_simp
  ring

section
variable {V0 : Valuation τ sig (Elt Ideal)} (hq' : ∀ i, ∃ r : ℝ, aq V0 i = (r : EReal)) (hk : ∀ i, ∃ r : ℝ, ak V0 i = (r : EReal))
  (hv : ∀ i, ∃ r : ℝ, av V0 i = (r : EReal)) (hd' : ∀ i, ∃ r : ℝ, ad V0 i = (r : EReal))
include hq' hk

/-- The reference's probabilities. -/
theorem v76_at (h : Fin 8) (t : Fin 8192) (u : Fin 24576) : res_main_v76 V0 (ix3 h t u) = ((ex (aq V0) (ak V0) h t u / zz (aq V0) (ak V0) h t : ℝ) : EReal) := by
  rw [res_main_v76, quot_at, v74_at, v72_eq, (rows hq' hk h t).2.1, ZZ_at hq' hk, div_real _ (rows hq' hk h t).2.2.2.2]

include hv hd'

/-- The reference's probabilities' cotangents. -/
theorem v92_at (h : Fin 8) (t : Fin 8192) (u : Fin 24576) : res_main_v92 V0 (ix3 h t u) = (dp (av V0) (ad V0) h t u : EReal) := by
  rw [res_main_v92, v86_eq, res_main_v91]
  refine (dp_at _ _ h t u).trans ?_
  rw [dp, coe_sum]
  refine Finset.sum_congr rfl fun c _ => ?_
  rw [VC_real hv, EReal.coe_mul]
  exact congrArg (· * _) (rc_eq hd' _ _)

/-- The reference's scores' cotangents before the mask. -/
theorem v117_at (h : Fin 8) (t : Fin 8192) (u : Fin 24576) : res_main_v117 V0 (ix3 h t u)
    = ((ex (aq V0) (ak V0) h t u / zz (aq V0) (ak V0) h t * (dp (av V0) (ad V0) h t u - dl (aq V0) (ak V0) (av V0) (ad V0) h t) : ℝ) : EReal) := by
  rw [res_main_v117]
  refine (ds_at _ _ _ h t u).trans ?_
  rw [v74_at, ZZ_at hq' hk]
  simp only [v92_at hq' hk hv hd', v72_eq, (rows hq' hk h t).2.1]
  exact ds_real (dp (av V0) (ad V0) h t) (ex (aq V0) (ak V0) h t) (rows hq' hk h t).2.2.2.2 u

/-- The reference's scores' cotangents of the first group. -/
theorem v141_at (h : Fin 8) (t s : Fin 8192) : res_main_v141 V0 (ix3 h t s)
    = (sg (Cert.KernelIdeal.Dil.hq (aq V0) h) (Cert.KernelIdeal.Dil.hq (ak V0) h) (Cert.KernelIdeal.Dil.hq (av V0) h) (Cert.KernelIdeal.Dil.hc (ad V0) h)
        (hl (aq V0) (ak V0) h) (Cert.KernelIdeal.Dil.hd (aq V0) (ak V0) (av V0) (ad V0) h) t s : EReal) := by
  have hs : s.val < 24576 := by have := s.isLt; omega
  have hcut : extractStridedSlice S8x8192x8192 ![0, 0, 0] (res_main_v117 V0) slices_S8x8192x24576_S8x8192x8192_0_0_0 (ix3 h t s)
      = (sg (Cert.KernelIdeal.Dil.hq (aq V0) h) (Cert.KernelIdeal.Dil.hq (ak V0) h) (Cert.KernelIdeal.Dil.hq (av V0) h) (Cert.KernelIdeal.Dil.hc (ad V0) h)
        (hl (aq V0) (ak V0) h) (Cert.KernelIdeal.Dil.hd (aq V0) (ak V0) (av V0) (ad V0) h) t s : EReal) := by
    rw [sg_eq hq' hk hv hd' h t s hs, ← v117_at hq' hk hv hd' h t ⟨s, hs⟩]
    pointwise []
  rw [res_main_v141]
  refine (mask_at _ _ h t s).trans ?_
  by_cases hb : band t s
  · rw [if_pos hb, hcut]
  · rw [if_neg hb, sg, wt, if_neg hb, zero_mul]; rfl

/-- The reference's gradient of the queries. -/
theorem refQ (t : Fin 8192) (h : Fin 8) (c : Fin 128) (hc : 128 * h.val + c.val < 1024) :
    shapeCast S8192x1024 (transpose S8192x8x128 [1, 0, 2] (Host.dotGeneral (F := Ideal) (φ₁ := .f32) (φ₂ := .f32) dot_S8x8192x8192_S8192x8x128_S8x8192x128_2_0_1_2_0_1 none (res_main_v141 V0) (res_main_v16 V0)) transposes_S8x8192x128_S8192x8x128_1_0_2)
      shapeCasts_S8192x8x128_S8192x1024 (ix2 t ⟨128 * h.val + c.val, hc⟩)
    = ((∑ s ∈ Finset.range 8192, sg (Cert.KernelIdeal.Dil.hq (aq V0) h) (Cert.KernelIdeal.Dil.hq (ak V0) h) (Cert.KernelIdeal.Dil.hq (av V0) h) (Cert.KernelIdeal.Dil.hc (ad V0) h)
        (hl (aq V0) (ak V0) h) (Cert.KernelIdeal.Dil.hd (aq V0) (ak V0) (av V0) (ad V0) h) t s * Cert.KernelIdeal.Dil.hq (ak V0) h s c : ℝ) : EReal) := by
  rw [gq_at, Finset.sum_range, coe_sum]
  refine Finset.sum_congr rfl fun s _ => ?_
  rw [v141_at hq' hk hv hd', EReal.coe_mul]
  exact congrArg (_ * ·) (hd0_at hk s h c)

/-- The reference's gradient of the keys. -/
theorem refK (s : Fin 8192) (h : Fin 8) (c : Fin 128) (hc : 128 * h.val + c.val < 1024) :
    shapeCast S8192x1024 (transpose S8192x8x128 [1, 0, 2] (Host.dotGeneral (F := Ideal) (φ₁ := .f32) (φ₂ := .f32) dot_S8x8192x8192_S8192x8x128_S8x8192x128_1_0_2_2_0_1 none (res_main_v141 V0) (res_main_v14 V0)) transposes_S8x8192x128_S8192x8x128_1_0_2)
      shapeCasts_S8192x8x128_S8192x1024 (ix2 s ⟨128 * h.val + c.val, hc⟩)
    = ((∑ t ∈ Finset.range 8192, sg (Cert.KernelIdeal.Dil.hq (aq V0) h) (Cert.KernelIdeal.Dil.hq (ak V0) h) (Cert.KernelIdeal.Dil.hq (av V0) h) (Cert.KernelIdeal.Dil.hc (ad V0) h)
        (hl (aq V0) (ak V0) h) (Cert.KernelIdeal.Dil.hd (aq V0) (ak V0) (av V0) (ad V0) h) t s * Cert.KernelIdeal.Dil.hq (aq V0) h t c : ℝ) : EReal) := by
  rw [gk_at, Finset.sum_range, coe_sum]
  refine Finset.sum_congr rfl fun t _ => ?_
  rw [v141_at hq' hk hv hd', EReal.coe_mul]
  exact congrArg (_ * ·) (hd0_at hq' t h c)

/-- The reference's gradient of the values. -/
theorem refV (s : Fin 8192) (h : Fin 8) (c : Fin 128) (hc : 128 * h.val + c.val < 1024) :
    shapeCast S8192x1024 (extractStridedSlice S8192x8x128 ![0, 0, 0] (res_main_v94 V0) slices_S24576x8x128_S8192x8x128_0_0_0) shapeCasts_S8192x8x128_S8192x1024 (ix2 s ⟨128 * h.val + c.val, hc⟩)
    = ((∑ t ∈ Finset.range 8192, wt (Cert.KernelIdeal.Dil.hq (aq V0) h) (Cert.KernelIdeal.Dil.hq (ak V0) h) (hl (aq V0) (ak V0) h) t s * Cert.KernelIdeal.Dil.hc (ad V0) h t c : ℝ) : EReal) := by
  have hs : s.val < 24576 := by have := s.isLt; omega
  rw [res_main_v94, res_main_v91]
  refine (gv_at _ _ s hs h c hc).trans ?_
  rw [Finset.sum_range, coe_sum]
  refine Finset.sum_congr rfl fun t _ => ?_
  rw [v76_at hq' hk, wt_eq hq' hk h t s hs, EReal.coe_mul, mul_comm]
  exact congrArg (_ * ·) (rc_eq hd' t _)

end

end Cert.ReferenceIdeal.Dil
end
-- ==== Proof.Real.lean ====
module

public import proofs.«01_k».proof.Proof.Gen.Pre_finite
public import Idealize.ShloMosaic.Lib.ReduceAll
public import Idealize.ShloMosaic.Lib.Pointwise

@[expose] public section

noncomputable section

namespace Cert.Pre_finite.Real

open Cert.Pre_finite Idealize.ShloMosaic

/-- A number whose absolute value is below infinity is real. -/
theorem real_of_lt (x : Ideal .f32) (h : FloatOps.cmpf .olt (FloatOps.hostAbsf x) (FloatOps.ofBits (F := Ideal) .f32 0x7F800000#32) = 1#1) : ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    by_contra hn
    rw [Ideal.cmp_olt, decide_eq_false hn] at h'
    exact absurd h' (by decide)
  rw [max_lt_iff] at hlt
  have h1 : x ≠ (⊤ : EReal) := hlt.1.ne
  have h2 : x ≠ (⊥ : EReal) := fun e => by
    have h3 := hlt.2
    rw [e] at h3
    simp at h3
  exact ⟨EReal.toReal x, (EReal.coe_toReal h1 h2).symm⟩

/-- Two flags that hold together both hold. -/
theorem both {a b : BitVec 1} (h : IntOp.andi a b = 1#1) : a = 1#1 ∧ b = 1#1 := by
  revert a b; decide

/-- Where the stated check holds, every entry of the four arrays is a real number. -/
theorem reals [hf : Facts] {q k v : FVec Ideal S8192x3072 .f32} {d : FVec Ideal S8192x1024 .f32} (h : fn (F := Ideal) q k v d = fun _ => 1#1) :
    (∀ i, ∃ r : ℝ, q i = (r : EReal)) ∧ (∀ i, ∃ r : ℝ, k i = (r : EReal)) ∧ (∀ i, ∃ r : ℝ, v i = (r : EReal)) ∧ (∀ i, ∃ r : ℝ, d i = (r : EReal)) := by
  have e := congrFun h (fun a => a.elim0)
  dsimp only [fn, fn_part1] at e
  obtain ⟨e, h3⟩ := both e
  obtain ⟨e, h2⟩ := both e
  obtain ⟨h0, h1⟩ := both e
  haveI : Subsingleton S_.Idx := ⟨fun a b => funext fun x => x.elim0⟩
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i)⟩

end Cert.Pre_finite.Real

end
-- ==== Proof.Tie.lean ====
module

public import proofs.«01_k».proof.Proof.Final
public import proofs.«01_k».proof.Proof.RefVal
public import proofs.«01_k».proof.Proof.Real
public import proofs.«01_k».proof.Defs
public import proofs.«01_k».proof.Proof.Gen.Kernel
public import proofs.«01_k».proof.Proof.Gen.Pre_finite

@[expose] public section

set_option maxRecDepth 16384

noncomputable section

namespace Cert.Tie

open Idealize.ShloMosaic Idealize.SL.Sem Idealize.ShloMosaic.StableHlo Cert.KernelIdeal.Dil

/-- Two arrays that agree at every token, head and channel are equal. -/
theorem by_head {X Y : FVec Ideal (⟨2, ![8192, 1024]⟩ : Shape) .f32}
    (h : ∀ (t : Fin 8192) (g : Fin 8) (l : Fin 128) (hb : 128 * g.val + l.val < 1024), X (ix2 t ⟨128 * g.val + l.val, hb⟩) = Y (ix2 t ⟨128 * g.val + l.val, hb⟩)) : X = Y := by
  funext i
  have hb : (i 1).val < 1024 := (i 1).isLt
  have e : 128 * ((i 1).val / 128) + (i 1).val % 128 = (i 1).val := by omega
  have k := h (i 0) ⟨(i 1).val / 128, by omega⟩ ⟨(i 1).val % 128, by omega⟩ (by show 128 * ((i 1).val / 128) + (i 1).val % 128 < 1024; omega)
  have f : (⟨128 * ((i 1).val / 128) + (i 1).val % 128, by omega⟩ : Fin 1024) = i 1 := Fin.ext e
  simp only [f] at k
  rw [eq_ix2 i]
  exact k

attribute [local instance] Cert.Kernel.Gen.facts Cert.KernelIdeal.Gen.facts Cert.ReferenceIdeal.Gen.facts Cert.Pre_finite.Gen.facts

set_option maxHeartbeats 2000000 in
/-- The ideal kernel and the ideal reference return the same three arrays. -/
theorem algebraic : Cert.algebraic_KernelIdeal_ReferenceIdeal_pre_finite := by
  intro m g m' g' hp ha
  refine ⟨fun c => (Cert.KernelIdeal.Gen.dats m 0 c).arrAt 12 Cert.KernelIdeal.cfg0.N, fun c => (Cert.KernelIdeal.Gen.dats m 0 c).arrAt 13 Cert.KernelIdeal.cfg0.N,
    fun c => (Cert.KernelIdeal.Gen.dats m 0 c).arrAt 14 Cert.KernelIdeal.cfg0.N, Cert.KernelIdeal.Value.run_blocks m g, ?_⟩
  refine (θ_run _ _ _).mono (fun r h c => ?_) (Cert.ReferenceIdeal.Value.run m' g')
  obtain ⟨h1, h2, h3, hk⟩ := h c
  obtain ⟨rq, rk, rv, rd⟩ := Cert.Pre_finite.Real.reals (hp c)
  obtain ⟨eq, ek, ev, ed⟩ := ha c
  have eq' : Cert.ReferenceIdeal.Dil.aq (launchContents m' c) = mq m c := eq
  have ek' : Cert.ReferenceIdeal.Dil.ak (launchContents m' c) = mk m c := ek
  have ev' : Cert.ReferenceIdeal.Dil.av (launchContents m' c) = mv m c := ev
  have ed' : Cert.ReferenceIdeal.Dil.ad (launchContents m' c) = md m c := ed
  have sq : ∀ i, ∃ r : ℝ, Cert.ReferenceIdeal.Dil.aq (launchContents m' c) i = (r : EReal) := by rw [eq']; exact rq
  have sk : ∀ i, ∃ r : ℝ, Cert.ReferenceIdeal.Dil.ak (launchContents m' c) i = (r : EReal) := by rw [ek']; exact rk
  have sv : ∀ i, ∃ r : ℝ, Cert.ReferenceIdeal.Dil.av (launchContents m' c) i = (r : EReal) := by rw [ev']; exact rv
  have sd : ∀ i, ∃ r : ℝ, Cert.ReferenceIdeal.Dil.ad (launchContents m' c) i = (r : EReal) := by rw [ed']; exact rd
  have t1 := h1.trans (by_head (Y := (Cert.KernelIdeal.Gen.dats m 0 c).arrAt 12 Cert.KernelIdeal.cfg0.N) fun t g l hb =>
    ((Cert.ReferenceIdeal.Dil.first_at _ _ _ t ⟨128 * g.val + l.val, hb⟩).trans (Cert.ReferenceIdeal.Dil.refQ sq sk sv sd t g l hb)).trans (by
      rw [eq', ek', ev', ed']; exact (arr12 m c rq rk rv rd t g l hb).symm))
  have t2 := h2.trans (by_head (Y := (Cert.KernelIdeal.Gen.dats m 0 c).arrAt 13 Cert.KernelIdeal.cfg0.N) fun t g l hb =>
    ((Cert.ReferenceIdeal.Dil.first_at _ _ _ t ⟨128 * g.val + l.val, hb⟩).trans (Cert.ReferenceIdeal.Dil.refK sq sk sv sd t g l hb)).trans (by
      rw [eq', ek', ev', ed']; exact (arr13 m c rq rk rv rd t g l hb).symm))
  have t3 := h3.trans (by_head (Y := (Cert.KernelIdeal.Gen.dats m 0 c).arrAt 14 Cert.KernelIdeal.cfg0.N) fun t g l hb =>
    ((Cert.ReferenceIdeal.Dil.first_at _ _ _ t ⟨128 * g.val + l.val, hb⟩).trans (Cert.ReferenceIdeal.Dil.refV sq sk sv sd t g l hb)).trans (by
      rw [eq', ek', ed']; exact (arr14 m c rq rk rv rd t g l hb).symm))
  exact ⟨t1, t2, t3, hk⟩

/-- The ideal reference keeps its arguments; it declares no semaphore. -/
theorem frameR : Cert.quiescent_ReferenceIdeal := fun m g _ =>
  (θ_run _ _ _).mono (fun r h => ⟨fun c => (h c).2.2.2, sem_eq_zero_of_no_sems (by decide) r.2⟩) (Cert.ReferenceIdeal.Value.run m g)

/-- The constant read as −∞ stands for the mask. -/
theorem mask : Cert.preserves_Kernel_KernelIdeal := IdealRules.named_const.statement Cert.KernelIdeal.κ "mask" .f32 0xF149F2CA#32 ⊥ rfl

end Cert.Tie

end
-- ==== Proof.Dot.lean ====
module

public import Idealize.ShloMosaic.Lib.Pointwise

@[expose] public section

noncomputable section

namespace Cert.Dot

open Idealize.ShloMosaic

/-- The constant one half. -/
theorem half : Ideal.ofBits .f32 0x3F000000#32 = ((1 / 2 : ℝ) : EReal) := by
  simp [Ideal.ofBits, Ideal.ieee]
  rw [← EReal.coe_mul]
  norm_num

/-- A positive finite factor moves into a sum. -/
theorem sum_mul {n : ℕ} (f : Fin n → EReal) (h : ℝ) (hh : 0 ≤ h) :
    (∑ k, f k) * (h : EReal) = ∑ k, f k * (h : EReal) := by
  classical
  have : ∀ s : Finset (Fin n), (∑ k ∈ s, f k) * (h : EReal) = ∑ k ∈ s, f k * (h : EReal) := by
    intro s
    induction s using Finset.induction_on with
    | empty => simp
    | insert a s ha ih =>
      rw [Finset.sum_insert ha, Finset.sum_insert ha, EReal.right_distrib_of_nonneg_of_ne_top (EReal.coe_nonneg.mpr hh) (EReal.coe_ne_top h), ih]
  exact this Finset.univ

/-- One half moves into a sum of products. -/
theorem sum_scale {n : ℕ} (f : Fin n → EReal) :
    (∑ k, f k) * Ideal.ofBits .f32 0x3F000000#32 = ∑ k, f k * Ideal.ofBits .f32 0x3F000000#32 := by
  rw [half]
  exact sum_mul f _ (by norm_num)

/-- The factors of a product of three in the reverse order. -/
theorem swap (a b c : EReal) : a * b * c = c * b * a := by
  rw [mul_comm (a * b) c, mul_comm a b, mul_assoc]

/-- A sum over `2 n` terms in two halves. -/
theorem two_halves {n N : ℕ} (hN : N = 2 * n) (f : Fin N → EReal) :
    (∑ k : Fin n, f ⟨k.val, by omega⟩) + ∑ k : Fin n, f ⟨n + k.val, by omega⟩ = ∑ k : Fin N, f k := by
  obtain rfl : N = n + n := by omega
  rw [Fin.sum_univ_add]
  rfl

end Cert.Dot
end
-- ==== Proof.Sig.lean ====
module

public import proofs.«01_k».proof.Proof.Dot

@[expose] public section

noncomputable section

namespace Cert.Dot

open Idealize.ShloMosaic

/-- The constant one. -/
theorem one : Ideal.ofBits .f32 0x3F800000#32 = 1 := by
  simp [Ideal.ofBits, Ideal.ieee]
  rw [← EReal.coe_mul]
  norm_num

/-- The logistic function of a real number through the hyperbolic tangent of its half. -/
theorem sig_real (r : ℝ) : 1 / 2 * Real.tanh (1 / 2 * r) + 1 / 2 = (1 + Real.exp (-r))⁻¹ := by
  have e : Real.exp (-r) = Real.exp (-(1 / 2 * r)) * Real.exp (-(1 / 2 * r)) := by
    rw [← Real.exp_add]; congr 1; ring
  have h1 : Real.exp (1 / 2 * r) * Real.exp (-(1 / 2 * r)) = 1 := by
    rw [← Real.exp_add]; simp
  have p := Real.exp_pos (1 / 2 * r)
  have q := Real.exp_pos (-(1 / 2 * r))
  rw [Real.tanh_eq_sinh_div_cosh, Real.sinh_eq, Real.cosh_eq, e]
  generalize Real.exp (1 / 2 * r) = u at *
  generalize Real.exp (-(1 / 2 * r)) = v at *
  have hv : u = v⁻¹ := by field_simp; linarith
  subst hv
  field_simp
  ring

/-- The logistic function of any extended real through the hyperbolic tangent of its half. -/
theorem sig (x : EReal) :
    ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot, mul_neg, mul_one, ← EReal.coe_neg, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add, sig_real]

/-- The same with the constants as the programs write them. -/
theorem sig_bits (x : EReal) :
    Ideal.ofBits .f32 0x3F000000#32 * Ideal.tanh (Ideal.ofBits .f32 0x3F000000#32 * x) + Ideal.ofBits .f32 0x3F000000#32 = Ideal.logistic x := by
  rw [half, sig]

/-- The quotient that the logistic function is. -/
theorem logistic_bits (x : EReal) :
    Ideal.div (Ideal.ofBits .f32 0x3F800000#32) (Ideal.ofBits .f32 0x3F800000#32 + Ideal.exp (-x)) = Ideal.logistic x := by
  rw [one]
  rfl

/-- The logistic function is a real number everywhere. -/
theorem logistic_real (x : EReal) : ∃ s : ℝ, Ideal.logistic x = (s : EReal) := by
  induction x with
  | bot => exact ⟨0, by rw [Ideal.logistic_bot, EReal.coe_zero]⟩
  | top => exact ⟨1, by rw [Ideal.logistic_top, EReal.coe_one]⟩
  | coe r => exact ⟨_, Ideal.logistic_coe r⟩

/-- The derivative of `x` times its logistic function, with a real factor, in two ways of writing it. -/
theorem silu_slope (x : EReal) (z : ℝ) :
    (z : EReal) * (Ideal.logistic x * (1 + x * (1 - Ideal.logistic x)))
      = (z : EReal) * Ideal.logistic x + x * (z : EReal) * (Ideal.logistic x * (1 - Ideal.logistic x)) := by
  induction x with
  | bot => rw [Ideal.logistic_bot]; simp
  | top =>
    have e : (1 : EReal) - 1 = 0 := by rw [← EReal.coe_one, ← EReal.coe_sub]; simp
    rw [Ideal.logistic_top, e]; simp
  | coe r =>
    obtain ⟨s, hs⟩ := logistic_real (r : EReal)
    rw [hs, ← EReal.coe_one]
    norm_cast
    ring

/-- A sum of products of real numbers is real. -/
theorem sum_real {n : ℕ} (f g : Fin n → EReal) (hf : ∀ k, ∃ r : ℝ, f k = (r : EReal)) (hg : ∀ k, ∃ r : ℝ, g k = (r : EReal)) :
    ∃ r : ℝ, ∑ k, f k * g k = (r : EReal) := by
  choose u hu using hf
  choose v hv using hg
  refine ⟨∑ k, u k * v k, ?_⟩
  refine (Finset.sum_congr rfl fun k _ => ?_).trans (map_sum (⟨⟨Real.toEReal, EReal.coe_zero⟩, EReal.coe_add⟩ : ℝ →+ EReal) (fun k => u k * v k) Finset.univ).symm
  rw [hu, hv]
  exact (EReal.coe_mul _ _).symm

end Cert.Dot
end
-- ==== Proof.Gains.lean ====
module

public import proofs.«01_k».proof.Proof.Gen.KernelGainsIdeal.Value
public import proofs.«01_k».proof.Proof.Gen.ReferenceGainsIdeal.Run
public import proofs.«01_k».proof.Proof.Gen.KernelGains.Frame
public import proofs.«01_k».proof.Defs
public import proofs.«01_k».proof.Proof.Sig
public import Idealize.ShloMosaic.Lib.Pipeline.ReadBack
public import Idealize.ShloMosaic.Lib.Pipeline.ValueKit

@[expose] public section

set_option maxRecDepth 16384

noncomputable section

namespace Cert.Gains
open Idealize.ShloMosaic Idealize.SL.Sem Idealize.ShloMosaic.StableHlo

attribute [local instance] Cert.KernelGains.Gen.facts Cert.KernelGainsIdeal.Gen.facts Cert.ReferenceGainsIdeal.Gen.facts

/-- The three expressions the ideal call computes at an entry are the reference's: the same constants in the same places. -/
theorem algebraic : Cert.algebraic_KernelGainsIdeal_ReferenceGainsIdeal := by
  intro m g m' g' _ ha
  refine ⟨_, _, _, Cert.KernelGainsIdeal.Value.run m g, ?_⟩
  refine (θ_run _ _ _).mono (fun r h c => ?_) (Cert.ReferenceGainsIdeal.Value.run m' g')
  obtain ⟨h1, h2, h3, hk⟩ := h c
  obtain ⟨e0, e1, e2, e3⟩ := ha c
  rw [e0, e1, e2, e3] at h1
  rw [e1, e2] at h2
  rw [e1, e3] at h3
  exact ⟨h1.trans (funext fun i => rfl), h2.trans (funext fun i => rfl), h3.trans (funext fun i => rfl), hk⟩

/-- The ideal reference keeps its arguments; it declares no semaphore. -/
theorem frameR : Cert.quiescent_ReferenceGainsIdeal := fun m g _ =>
  (θ_run _ _ _).mono (fun r h => ⟨fun c => (h c).2.2.2, sem_eq_zero_of_no_sems (by decide) r.2⟩) (Cert.ReferenceGainsIdeal.Value.run m g)

end Cert.Gains
end
-- ==== Proof.DMerge.lean ====
module

public import proofs.«01_k».proof.Proof.Gen.KernelDMergeIdeal.Value
public import proofs.«01_k».proof.Proof.Gen.ReferenceDMergeIdeal.Run
public import proofs.«01_k».proof.Proof.Gen.KernelDMerge.Frame
public import proofs.«01_k».proof.Defs
public import proofs.«01_k».proof.Proof.Sig
public import Idealize.ShloMosaic.Lib.Pipeline.ReadBack
public import Idealize.ShloMosaic.Lib.Pipeline.ValueKit

@[expose] public section

set_option maxRecDepth 16384

noncomputable section

namespace Cert.ReferenceDMergeIdeal.Prod
open Cert.ReferenceDMergeIdeal Cert.ReferenceDMergeIdeal.Gen Idealize.ShloMosaic Idealize.ShloMosaic.TcCoe Idealize.SL.Sem

theorem neg_inf : Ideal.ofBits .f32 0xFF800000#32 = ⊥ := by
  simp [Ideal.ofBits, Ideal.ieee]

/-- The three arrays as one. -/
abbrev stack (u v w : FVec Ideal S8192x1024 .f32) : FVec Ideal S3x8192x1024 .f32 := ((concatenate S3x8192x1024 0 [⟨S1x8192x1024, ((broadcastInDim S1x8192x1024 ![1, 2] bcast_S8192x1024_S1x8192x1024_1_2 u) : (⟨S1x8192x1024, .f32⟩ : BufTy).Contents (Elt Ideal))⟩, ⟨S1x8192x1024, ((broadcastInDim S1x8192x1024 ![1, 2] bcast_S8192x1024_S1x8192x1024_1_2 v) : (⟨S1x8192x1024, .f32⟩ : BufTy).Contents (Elt Ideal))⟩, ⟨S1x8192x1024, ((broadcastInDim S1x8192x1024 ![1, 2] bcast_S8192x1024_S1x8192x1024_1_2 w) : (⟨S1x8192x1024, .f32⟩ : BufTy).Contents (Elt Ideal))⟩] concatenates_S1x8192x1024_S1x8192x1024_S1x8192x1024_S3x8192x1024_d0 : (⟨S3x8192x1024, .f32⟩ : BufTy).Contents (Elt Ideal)))
/-- The largest of the stacked entries. -/
abbrev top (s : FVec Ideal S3x8192x1024 .f32) : FVec Ideal S8192x1024 .f32 := (Host.reduce FloatOps.maximumf s (constant S_ .f32 0xFF800000#32) reducesTo_S3x8192x1024_S8192x1024_d0 h_S_)
/-- The merged entry from the stacked log-sums, their largest and the stacked heads. -/
abbrev headOf (s : FVec Ideal S3x8192x1024 .f32) (t : FVec Ideal S8192x1024 .f32) (z : FVec Ideal S3x8192x1024 .f32) : FVec Ideal S8192x1024 .bf16 := truncf .bf16 (Host.divf (Host.reduceAdd (mulf (Host.exp (subf s (broadcastInDim S3x8192x1024 ![0, 1, 2] bcast_S1x8192x1024_S3x8192x1024_0_1_2 (broadcastInDim S1x8192x1024 ![1, 2] bcast_S8192x1024_S1x8192x1024_1_2 t)))) z) (constant S_ .f32 0x00000000#32) reducesTo_S3x8192x1024_S8192x1024_d0 h_S_) (Host.reduceAdd (Host.exp (subf s (broadcastInDim S3x8192x1024 ![0, 1, 2] bcast_S1x8192x1024_S3x8192x1024_0_1_2 (broadcastInDim S1x8192x1024 ![1, 2] bcast_S8192x1024_S1x8192x1024_1_2 t)))) (constant S_ .f32 0x00000000#32) reducesTo_S3x8192x1024_S8192x1024_d0 h_S_)) bitsLt_bf16_f32
/-- The merged log-sum from the stacked log-sums and their largest. -/
abbrev lseOf (s : FVec Ideal S3x8192x1024 .f32) (t : FVec Ideal S8192x1024 .f32) : FVec Ideal S8192x1024 .f32 := addf t (Host.log (Host.reduceAdd (Host.exp (subf s (broadcastInDim S3x8192x1024 ![0, 1, 2] bcast_S1x8192x1024_S3x8192x1024_0_1_2 (broadcastInDim S1x8192x1024 ![1, 2] bcast_S8192x1024_S1x8192x1024_1_2 t)))) (constant S_ .f32 0x00000000#32) reducesTo_S3x8192x1024_S8192x1024_d0 h_S_))

theorem stack0 (u v w : FVec Ideal S8192x1024 .f32) (a : Fin 8192) (b : Fin 1024) : stack u v w (ix3 0 a b) = u (ix2 a b) := by pointwise []
theorem stack1 (u v w : FVec Ideal S8192x1024 .f32) (a : Fin 8192) (b : Fin 1024) : stack u v w (ix3 1 a b) = v (ix2 a b) := by pointwise []
theorem stack2 (u v w : FVec Ideal S8192x1024 .f32) (a : Fin 8192) (b : Fin 1024) : stack u v w (ix3 2 a b) = w (ix2 a b) := by pointwise []

/-- The largest of three stacked entries, over any two widths. -/
theorem max3 {n k : ℕ} (s : FVec Ideal ⟨3, ![3, n, k]⟩ .f32) (h' : (⟨3, ![3, n, k]⟩ : Shape).ReducesTo [0] (⟨2, ![n, k]⟩ : Shape))
    (h : (⟨3, ![3, n, k]⟩ : Shape).Reduces [0] (⟨2, ![n, k]⟩ : Shape)) (hu : 0 < (⟨0, ![]⟩ : Shape).numel) (a : Fin n) (b : Fin k) :
    Host.reduce FloatOps.maximumf s (constant (⟨0, ![]⟩ : Shape) .f32 0xFF800000#32) h' hu (ix2 a b) = max (max (s (ix3 0 a b)) (s (ix3 1 a b))) (s (ix3 2 a b)) := by
  rw [Host.reduce_eq_fold_single FloatOps.maximumf s _ h' h hu]
  have hf : (s ∘ h.lift (ix2 a b)) = fun r : Fin 3 => s (ix3 r a b) := funext fun r => congrArg s (funext fun d => by
    match d with
    | ⟨0, _⟩ => rfl
    | ⟨1, _⟩ => rfl
    | ⟨2, _⟩ => rfl)
  refine (congrArg (fun f => Finset.fold (max : Ideal .f32 → Ideal .f32 → Ideal .f32) (Ideal.ofBits .f32 0xFF800000#32) f (Finset.univ : Finset (Fin 3))) hf).trans ?_
  rw [show (Finset.univ : Finset (Fin 3)) = {0, 1, 2} from rfl, Finset.fold_insert (by decide), Finset.fold_insert (by decide), Finset.fold_singleton, neg_inf]
  show max (s (ix3 0 a b)) (max (s (ix3 1 a b)) (max (s (ix3 2 a b)) (⊥ : EReal))) = _
  rw [max_bot_right]
  exact (max_assoc _ _ _).symm

/-- The largest of three stacked entries. -/
theorem top_at (s : FVec Ideal S3x8192x1024 .f32) (a : Fin 8192) (b : Fin 1024) : top s (ix2 a b) = max (max (s (ix3 0 a b)) (s (ix3 1 a b))) (s (ix3 2 a b)) :=
  max3 s _ (by decide) _ a b

/-- The merged entry, written out. -/
theorem head_at (s : FVec Ideal S3x8192x1024 .f32) (t : FVec Ideal S8192x1024 .f32) (z : FVec Ideal S3x8192x1024 .f32) (a : Fin 8192) (b : Fin 1024) :
    headOf s t z (ix2 a b) = Ideal.div (∑ k : Fin 3, Ideal.exp (s (ix3 k a b) - t (ix2 a b)) * z (ix3 k a b)) (∑ k : Fin 3, Ideal.exp (s (ix3 k a b) - t (ix2 a b))) := by
  pointwise []

/-- The merged log-sum, written out. -/
theorem lse_at (s : FVec Ideal S3x8192x1024 .f32) (t : FVec Ideal S8192x1024 .f32) (a : Fin 8192) (b : Fin 1024) :
    lseOf s t (ix2 a b) = t (ix2 a b) + Ideal.log (∑ k : Fin 3, Ideal.exp (s (ix3 k a b) - t (ix2 a b))) := by
  pointwise []

end Cert.ReferenceDMergeIdeal.Prod

namespace Cert.DMerge
open Idealize.ShloMosaic Idealize.SL.Sem Idealize.ShloMosaic.StableHlo

attribute [local instance] Cert.KernelDMerge.Gen.facts Cert.KernelDMergeIdeal.Gen.facts Cert.ReferenceDMergeIdeal.Gen.facts

open Cert.ReferenceDMergeIdeal.Prod in
/-- The ideal call and the ideal reference return the same two arrays, for all inputs. -/
theorem algebraic : Cert.algebraic_KernelDMergeIdeal_ReferenceDMergeIdeal := by
  intro m g m' g' _ ha
  refine ⟨_, _, Cert.KernelDMergeIdeal.Value.run m g, ?_⟩
  refine (θ_run _ _ _).mono (fun r h c => ?_) (Cert.ReferenceDMergeIdeal.Value.run m' g')
  obtain ⟨h1, h2, hk⟩ := h c
  obtain ⟨e0, e1, e2, e3, e4, e5⟩ := ha c
  unfold Cert.ReferenceDMergeIdeal.Value.res_main_v17 at h1
  rw [e0, e1, e2, e3, e4, e5] at h1
  rw [e3, e4, e5] at h2
  refine ⟨h1.trans (funext fun i => ?_), h2.trans (funext fun i => ?_), hk⟩
  · obtain ⟨a, b, rfl⟩ : ∃ (a : Fin 8192) (b : Fin 1024), i = ix2 a b := ⟨i 0, i 1, eq_ix2 i⟩
    refine (head_at (stack _ _ _) (top (stack _ _ _)) (stack _ _ _) a b).trans ?_
    simp only [Fin.sum_univ_three, top_at, stack0, stack1, stack2]
    rfl
  · obtain ⟨a, b, rfl⟩ : ∃ (a : Fin 8192) (b : Fin 1024), i = ix2 a b := ⟨i 0, i 1, eq_ix2 i⟩
    refine (lse_at (stack _ _ _) (top (stack _ _ _)) a b).trans ?_
    simp only [Fin.sum_univ_three, top_at, stack0, stack1, stack2]
    rfl

/-- The ideal reference keeps its arguments; it declares no semaphore. -/
theorem frameR : Cert.quiescent_ReferenceDMergeIdeal := fun m g _ =>
  (θ_run _ _ _).mono (fun r h => ⟨fun c => (h c).2.2, sem_eq_zero_of_no_sems (by decide) r.2⟩) (Cert.ReferenceDMergeIdeal.Value.run m g)

end Cert.DMerge
end
-- ==== Proof.Delta.lean ====
module

public import proofs.«01_k».proof.Proof.Gen.KernelDeltaIdeal.Value
public import proofs.«01_k».proof.Proof.Gen.ReferenceDeltaIdeal.Run
public import proofs.«01_k».proof.Proof.Gen.KernelDelta.Frame
public import proofs.«01_k».proof.Defs
public import proofs.«01_k».proof.Proof.Sig
public import Idealize.ShloMosaic.Lib.Pipeline.ReadBack
public import Idealize.ShloMosaic.Lib.Pipeline.ValueKit

@[expose] public section

set_option maxRecDepth 16384

noncomputable section

namespace Cert.KernelDeltaIdeal.Prod

open Cert.KernelDeltaIdeal Cert.KernelDeltaIdeal.Gen Idealize.ShloMosaic Idealize.ShloMosaic.TcCoe Idealize.SL.Sem

theorem idx0 : ∀ t : Fin cfg0.N, (cfg0.win 0).index t = ![t.val, 0] := by decide +kernel
theorem idx1 : ∀ t : Fin cfg0.N, (cfg0.win 1).index t = ![t.val, 0] := by decide +kernel
theorem idx2 : ∀ t : Fin cfg0.N, (cfg0.win 2).index t = ![t.val, 0] := by decide +kernel
theorem rb0 (X : FVec Ideal S8192x1024 .f32) (t : Fin cfg0.N) (r : Fin 512) (l : Fin 1024) (a : Fin 8192) (b : Fin 1024) (ha : a.val = 512 * (t.val) + r) (hb : b.val = 1024 * (0) + l) :
    ((cfg0.win 0).blk t).view.read (Elt Ideal) X (ix2 r l) = X (ix2 a b) := by
  have e := idx0 t
  blk_simp [e]
  refine congrArg X ?_
  blk_ext [e]
theorem rb1 (X : FVec Ideal S8192x1024 .bf16) (t : Fin cfg0.N) (r : Fin 512) (l : Fin 1024) (a : Fin 8192) (b : Fin 1024) (ha : a.val = 512 * (t.val) + r) (hb : b.val = 1024 * (0) + l) :
    ((cfg0.win 1).blk t).view.read (Elt Ideal) X (ix2 r l) = X (ix2 a b) := by
  have e := idx1 t
  blk_simp [e]
  refine congrArg X ?_
  blk_ext [e]
theorem rb2 (X : FVec Ideal S8192x1024 .f32) (t : Fin cfg0.N) (r : Fin 512) (l : Fin 1024) (a : Fin 8192) (b : Fin 1024) (ha : a.val = 512 * (t.val) + r) (hb : b.val = 1024 * (0) + l) :
    ((cfg0.win 2).blk t).view.read (Elt Ideal) X (ix2 r l) = X (ix2 a b) := by
  have e := idx2 t
  blk_simp [e]
  refine congrArg X ?_
  blk_ext [e]
theorem fl2 : ∀ t : Fin cfg0.N, (cfg0.win 2).flush t = true := by decide +kernel
theorem ct2 (X : Vec Ideal S512x1024 .f32) (t : Fin cfg0.N) (r : Fin 512) (l : Fin 1024) : (cfg0.win 2).cut (grid0.coords t) X (ix2 r l) = X (ix2 r l) := rfl

/-- One head's columns of a block: every column carries the row's sum over the head. -/
theorem cat (x : Vec Ideal S512x1024 .f32) (o : Vec Ideal S512x1024 .bf16) (n : Fin 8) (r : Fin 512) (j : Fin 128) :
    Value.Cat2_0 x o n (ix2 r j) = ∑ k : Fin 128, x (ix2 r ⟨128 * n.val + k.val, by omega⟩) * o (ix2 r ⟨128 * n.val + k.val, by omega⟩) := by
  match n with
  | ⟨0, _⟩ => pointwise []
  | ⟨1, _⟩ => pointwise []
  | ⟨2, _⟩ => pointwise []
  | ⟨3, _⟩ => pointwise []
  | ⟨4, _⟩ => pointwise []
  | ⟨5, _⟩ => pointwise []
  | ⟨6, _⟩ => pointwise []
  | ⟨7, _⟩ => pointwise []

/-- A block of the result from the input blocks. -/
theorem out2 (x : Vec Ideal S512x1024 .f32) (o : Vec Ideal S512x1024 .bf16) (r : Fin 512) (l : Fin 1024) :
    out0_2 x o (ix2 r l) = ∑ k : Fin 128, x (ix2 r ⟨128 * (l.val / 128) + k.val, by omega⟩) * o (ix2 r ⟨128 * (l.val / 128) + k.val, by omega⟩) := by
  have e : out0_2 x o = k0_pay1 x o := by
    unfold out0_2
    frame_out
  have q : r0_0.idx (ix2 r l) = ix2 r l := funext fun a => by
    match a with
    | ⟨0, _⟩ => exact Fin.ext (by show 0 + 1 * r.val = r.val; omega)
    | ⟨1, _⟩ => exact Fin.ext (by show 0 + 1 * l.val = l.val; omega)
  have q1 : Value.ix2_0 (ix2 r l) = ix2 r ⟨l.val % 128, by omega⟩ := funext fun a => by
    match a with
    | ⟨0, _⟩ => rfl
    | ⟨1, _⟩ => rfl
  have p := Value.piece2_0 x o (ix2 r l)
  rw [q] at p
  rw [e, p]
  show Value.Cat2_0 x o (Value.csel2_0 (ix2 r l)) (Value.ix2_0 (ix2 r l)) = _
  rw [q1, cat]
  rfl

/-- A block of the result from the arrays that its input blocks are cut from. -/
theorem blk2 (X : FVec Ideal S8192x1024 .f32) (O : FVec Ideal S8192x1024 .bf16) (t : Fin cfg0.N) (r : Fin 512) (a : Fin 8192) (b : Fin 1024) (ha : a.val = 512 * t.val + r.val) :
    out0_2 (((cfg0.win 0).blk t).view.read (Elt Ideal) X : Vec Ideal S512x1024 .f32) (((cfg0.win 1).blk t).view.read (Elt Ideal) O : Vec Ideal S512x1024 .bf16) (ix2 r b) = ∑ k : Fin 128, X (ix2 a ⟨128 * (b.val / 128) + k.val, by omega⟩) * O (ix2 a ⟨128 * (b.val / 128) + k.val, by omega⟩) := by
  rw [out2]
  refine Finset.sum_congr rfl fun k _ => ?_
  rw [rb0 X t r _ a ⟨128 * (b.val / 128) + k.val, by omega⟩ ha (by simp), rb1 O t r _ a ⟨128 * (b.val / 128) + k.val, by omega⟩ ha (by simp)]

variable (m : (ℓ : Loc nD τ sig) → Buf (Elt Ideal) ℓ) (c : Dev nD)

/-- The gradient of the merged heads on a device. -/
abbrev mx : FVec Ideal S8192x1024 .f32 := m (c, Proc.devRef .tc main_arg0)
/-- The merged heads of a device. -/
abbrev mo : FVec Ideal S8192x1024 .f32 := m (c, Proc.devRef .tc main_arg1)
theorem v0 : V m c main_v0 = truncf .bf16 (mo m c) bitsLt_bf16_f32 := by
  unfold_abbrev_sides
  after_results
theorem ia0 (t : Fin cfg0.N) : iblk m c 0 t = ((cfg0.win 0).blk t).view.read (Elt Ideal) (mx m c) :=
  congrArg (fun X => ((cfg0.win 0).blk t).view.read (Elt Ideal) X) (V_main_arg0 m c)
theorem ia1 (t : Fin cfg0.N) : iblk m c 1 t = ((cfg0.win 1).blk t).view.read (Elt Ideal) (truncf .bf16 (mo m c) bitsLt_bf16_f32) :=
  congrArg (fun X => ((cfg0.win 1).blk t).view.read (Elt Ideal) X) (v0 m c)

/-- An entry of the result after the run. -/
theorem arr2 (a : Fin 8192) (b : Fin 1024) : (dats m 0 c).arrAt 2 cfg0.N (ix2 a b) = ∑ k : Fin 128, mx m c (ix2 a ⟨128 * (b.val / 128) + k.val, by omega⟩) * mo m c (ix2 a ⟨128 * (b.val / 128) + k.val, by omega⟩) := by
  have hp : a.val / 512 < cfg0.N := by rw [show cfg0.N = 16 from N_0]; omega
  have ha : a.val = 512 * (a.val / 512) + a.val % 512 := by omega
  have e := congrFun (Value.blocks2 m c ⟨_, hp⟩ (fl2 _)) (ix2 ⟨a.val % 512, by omega⟩ b)
  rw [rb2 _ _ _ _ a b ha (by omega), Value.flushed2, ct2, ia0, ia1] at e
  refine e.trans ((blk2 _ _ _ _ a b ha).trans ?_)
  rfl

end Cert.KernelDeltaIdeal.Prod

namespace Cert.ReferenceDeltaIdeal.Prod
open Cert.ReferenceDeltaIdeal Cert.ReferenceDeltaIdeal.Gen Idealize.ShloMosaic Idealize.ShloMosaic.TcCoe Idealize.SL.Sem

/-- An entry of the reference's result. -/
theorem ref_at (x y : FVec Ideal S8192x1024 .f32) (a : Fin 8192) (b : Fin 1024) :
    (shapeCast _ (broadcastInDim S8192x8x128 ![0, 1, 2] bcast_S8192x8x1_S8192x8x128_0_1_2 (broadcastInDim S8192x8x1 ![0, 1] bcast_S8192x8_S8192x8x1_0_1 (Host.reduceAdd (shapeCast _ (Host.reduceAdd (mulf (shapeCast _ y shapeCasts_S8192x1024_S8192x8x128) (shapeCast _ x shapeCasts_S8192x1024_S8192x8x128)) (constant S_ .f32 0x00000000#32) reducesTo_S8192x8x128_S8192x8_d2 h_S_) shapeCasts_S8192x8_S8192x8x1) (constant S_ .f32 0x00000000#32) reducesTo_S8192x8x1_S8192x8_d2 h_S_))) shapeCasts_S8192x8x128_S8192x1024 : FVec Ideal S8192x1024 .f32) (ix2 a b) = ∑ k : Fin 128, x (ix2 a ⟨128 * (b.val / 128) + k.val, by omega⟩) * y (ix2 a ⟨128 * (b.val / 128) + k.val, by omega⟩) := by
  simp only [mul_comm (x _)]
  pointwise []
  rw [Finset.univ_unique, Finset.sum_singleton]
  simp only [mul_comm (b.val / 128) 128]

end Cert.ReferenceDeltaIdeal.Prod

namespace Cert.Delta
open Idealize.ShloMosaic Idealize.SL.Sem Idealize.ShloMosaic.StableHlo Cert.KernelDeltaIdeal.Prod

attribute [local instance] Cert.KernelDelta.Gen.facts Cert.KernelDeltaIdeal.Gen.facts Cert.ReferenceDeltaIdeal.Gen.facts

set_option maxHeartbeats 2000000 in
/-- The ideal call and the ideal reference return the same array, for all inputs. -/
theorem algebraic : Cert.algebraic_KernelDeltaIdeal_ReferenceDeltaIdeal := by
  intro m g m' g' _ ha
  refine ⟨fun c => (Cert.KernelDeltaIdeal.Gen.dats m 0 c).arrAt 2 Cert.KernelDeltaIdeal.cfg0.N, Cert.KernelDeltaIdeal.Value.run_blocks m g, ?_⟩
  refine (θ_run _ _ _).mono (fun r h c => ?_) (Cert.ReferenceDeltaIdeal.Value.run m' g')
  obtain ⟨h1, hk⟩ := h c
  obtain ⟨e0, e1⟩ := ha c
  rw [e0, e1] at h1
  refine ⟨h1.trans (funext fun i => ?_), hk⟩
  rw [eq_ix2 i]
  exact (Cert.ReferenceDeltaIdeal.Prod.ref_at (mx m c) (mo m c) (i 0) (i 1)).trans (arr2 m c (i 0) (i 1)).symm

/-- The ideal reference keeps its arguments; it declares no semaphore. -/
theorem frameR : Cert.quiescent_ReferenceDeltaIdeal := fun m g _ =>
  (θ_run _ _ _).mono (fun r h => ⟨fun c => (h c).2, sem_eq_zero_of_no_sems (by decide) r.2⟩) (Cert.ReferenceDeltaIdeal.Value.run m g)

end Cert.Delta
end
-- ==== Proof.Mean.lean ====
module

public import proofs.«01_k».proof.Proof.Sig

@[expose] public section

noncomputable section

namespace Cert.Dot

open Idealize.ShloMosaic

/-- The constant that multiplies a row's sum in the call. -/
theorem inv_width : Ideal.ofBits .f32 0x3A000000#32 = ((1 / 2048 : ℝ) : EReal) := by
  simp [Ideal.ofBits, Ideal.ieee]
  rw [← EReal.coe_mul]
  norm_num

/-- The constant that divides a row's sum in the reference. -/
theorem width : Ideal.ofBits .f32 0x45000000#32 = ((2048 : ℝ) : EReal) := by
  simp [Ideal.ofBits, Ideal.ieee]
  rw [← EReal.coe_mul]
  norm_num

/-- The division by the row's length is the product with its inverse. -/
theorem mean (x : EReal) : Ideal.div x (Ideal.ofBits .f32 0x45000000#32) = x * Ideal.ofBits .f32 0x3A000000#32 := by
  rw [width, inv_width, Ideal.div_coe (by norm_num)]

end Cert.Dot
end
-- ==== Proof.Grad.lean ====
module

public import proofs.«01_k».proof.Proof.Mean
public import proofs.«01_k».proof.Proof.Dot

@[expose] public section

noncomputable section

namespace Cert.Dot

open Idealize.ShloMosaic

/-- The constant under the root is a positive real number. -/
theorem eps : ∃ e : ℝ, 0 < e ∧ Ideal.ofBits .f32 0x358637BD#32 = (e : EReal) := by
  refine ⟨8796093 * (2 : ℝ) ^ (-43 : ℤ), by positivity, ?_⟩
  simp [Ideal.ofBits, Ideal.ieee]

/-- The constant minus one half. -/
theorem neg_half : Ideal.ofBits .f32 0xBF000000#32 = ((-1 / 2 : ℝ) : EReal) := by
  simp [Ideal.ofBits, Ideal.ieee]
  rw [← EReal.coe_mul, ← EReal.coe_neg]
  norm_num

/-- The constant that a sum over 512 columns is divided by. -/
theorem width512 : Ideal.ofBits .f32 0x44000000#32 = ((512 : ℝ) : EReal) := by
  simp [Ideal.ofBits, Ideal.ieee]
  rw [← EReal.coe_mul]
  norm_num
/-- Its inverse as a constant. -/
theorem inv_width512 : Ideal.ofBits .f32 0x3B000000#32 = ((1 / 512 : ℝ) : EReal) := by
  simp [Ideal.ofBits, Ideal.ieee]
  rw [← EReal.coe_mul]
  norm_num
/-- Dividing by the width is multiplying by its inverse. -/
theorem mean512 (x : EReal) : Ideal.div x (Ideal.ofBits .f32 0x44000000#32) = x * Ideal.ofBits .f32 0x3B000000#32 := by
  rw [width512, Ideal.div_coe (by norm_num), inv_width512]

/-- The constant that a sum over 256 columns is divided by. -/
theorem width256 : Ideal.ofBits .f32 0x43800000#32 = ((256 : ℝ) : EReal) := by
  simp [Ideal.ofBits, Ideal.ieee]
  rw [← EReal.coe_mul]
  norm_num
/-- Its inverse as a constant. -/
theorem inv_width256 : Ideal.ofBits .f32 0x3B800000#32 = ((1 / 256 : ℝ) : EReal) := by
  simp [Ideal.ofBits, Ideal.ieee]
  rw [← EReal.coe_mul]
  norm_num
/-- Dividing by the width is multiplying by its inverse. -/
theorem mean256 (x : EReal) : Ideal.div x (Ideal.ofBits .f32 0x43800000#32) = x * Ideal.ofBits .f32 0x3B800000#32 := by
  rw [width256, Ideal.div_coe (by norm_num), inv_width256]

/-- A sum of real numbers is the sum as extended reals. -/
theorem coe_sum {n : ℕ} (f : Fin n → ℝ) : ∑ k, ((f k : ℝ) : EReal) = ((∑ k, f k : ℝ) : EReal) :=
  (map_sum (⟨⟨Real.toEReal, EReal.coe_zero⟩, EReal.coe_add⟩ : ℝ →+ EReal) f Finset.univ).symm

/-- The sum over one more tile of rows. -/
theorem tiles (f : ℕ → EReal) (p n : ℕ) : ∑ a ∈ Finset.range (p * (n + 1)), f a = ∑ a ∈ Finset.range (p * n), f a + ∑ r : Fin p, f (p * n + r) := by
  rw [Nat.mul_succ, Finset.sum_range_add, Finset.sum_range (fun r => f (p * n + r))]

/-- The inverse root of a row's mean square. -/
abbrev rOf (C E S : EReal) : EReal := Ideal.rsqrt (S * C + E)

/-- The common factor of the two terms that the square of the row contributes to the gradient. -/
abbrev qOf (W C E S T : EReal) : EReal := Ideal.div (T * (Ideal.ofBits .f32 0xBF000000#32 * Ideal.div (rOf C E S) (S * C + E))) W

/-- A square is not negative. -/
theorem sq_nonneg (x : EReal) : 0 ≤ x * x := by
  induction x with
  | bot => simp
  | top => simp
  | coe r =>
    rw [← EReal.coe_mul]
    exact EReal.coe_nonneg.2 (mul_self_nonneg r)

/-- Zero divided by infinity is zero. -/
theorem div_top_zero : Ideal.div 0 ⊤ = 0 := by
  simp [Ideal.div]

/-- Twice a number. -/
theorem twice (y : EReal) : y + y = y * ((2 : ℝ) : EReal) := by
  induction y with
  | bot => rw [EReal.bot_mul_coe_of_pos (by norm_num)]; rfl
  | top => rw [EReal.top_mul_coe_of_pos (by norm_num)]; rfl
  | coe r =>
    rw [← EReal.coe_mul, ← EReal.coe_add]
    congr 1
    ring

/-- A row with an infinite entry has an infinite sum of squares. -/
theorem row_top {n : ℕ} (x : Fin n → EReal) (k : Fin n) (h : x k = ⊤ ∨ x k = ⊥) : ∑ k, x k * x k = ⊤ := by
  have e : x k * x k = ⊤ := by rcases h with h | h <;> rw [h] <;> rfl
  exact top_le_iff.1 (e ▸ Finset.single_le_sum (f := fun k => x k * x k) (fun k _ => sq_nonneg (x k)) (Finset.mem_univ k))

/-- One entry of the gradient of a normalised row, as the derivative of the root's argument gives it and in closed form. -/
theorem grad_row {n : ℕ} (w : ℝ) (hw : 0 < w) (W C : EReal) (hW : W = (w : EReal)) (hC : C = ((1 / w : ℝ) : EReal)) (x g d : Fin n → EReal) (l : Fin n) :
    d l * g l * rOf C (Ideal.ofBits .f32 0x358637BD#32) (∑ k, x k * x k)
        + x l * qOf W C (Ideal.ofBits .f32 0x358637BD#32) (∑ k, x k * x k) (∑ k, x k * (d k * g k))
        + qOf W C (Ideal.ofBits .f32 0x358637BD#32) (∑ k, x k * x k) (∑ k, x k * (d k * g k)) * x l
      = rOf C (Ideal.ofBits .f32 0x358637BD#32) (∑ k, x k * x k)
        * (d l * g l - x l * rOf C (Ideal.ofBits .f32 0x358637BD#32) (∑ k, x k * x k)
          * ((∑ k, x k * rOf C (Ideal.ofBits .f32 0x358637BD#32) (∑ k, x k * x k) * (d k * g k)) * C)) := by
  obtain ⟨e, he, hE⟩ := eps
  by_cases hx : ∃ k, x k = ⊤ ∨ x k = ⊥
  · obtain ⟨k, hk⟩ := hx
    have hv : (∑ k, x k * x k) * C + Ideal.ofBits .f32 0x358637BD#32 = ⊤ := by
      rw [row_top x k hk, hC, hE, EReal.top_mul_coe_of_pos (by positivity), EReal.top_add_coe]
    have hR : rOf C (Ideal.ofBits .f32 0x358637BD#32) (∑ k, x k * x k) = 0 := by
      rw [rOf, hv, Ideal.rsqrt_top]
    rw [qOf, hR, hv, div_top_zero, hW, Ideal.div_coe hw.ne']
    simp only [mul_zero, zero_mul, add_zero]
  · have hx' : ∀ k, ∃ r : ℝ, x k = (r : EReal) := fun k => ⟨(x k).toReal, (EReal.coe_toReal (fun h => hx ⟨k, .inl h⟩) (fun h => hx ⟨k, .inr h⟩)).symm⟩
    choose X hX using hx'
    have hs : 0 ≤ ∑ k, X k * X k := Finset.sum_nonneg fun k _ => mul_self_nonneg _
    have hv : 0 < (∑ k, X k * X k) * (1 / w) + e := by positivity
    have hR : rOf C (Ideal.ofBits .f32 0x358637BD#32) (∑ k, x k * x k) = (((Real.sqrt ((∑ k, X k * X k) * (1 / w) + e))⁻¹ : ℝ) : EReal) := by
      simp only [rOf, hX, hC, hE, ← EReal.coe_mul, coe_sum, ← EReal.coe_add]
      rw [Ideal.rsqrt_coe, if_neg (not_lt.2 hv.le), if_neg hv.ne']
    have hρ : ((∑ k, X k * X k) * (1 / w) + e)⁻¹ = (Real.sqrt ((∑ k, X k * X k) * (1 / w) + e))⁻¹ * (Real.sqrt ((∑ k, X k * X k) * (1 / w) + e))⁻¹ := by
      rw [← mul_inv, Real.mul_self_sqrt hv.le]
    have h0 : 0 ≤ (Real.sqrt ((∑ k, X k * X k) * (1 / w) + e))⁻¹ := by positivity
    unfold qOf
    rw [hR]
    have hV : (∑ k, x k * x k) * C + Ideal.ofBits .f32 0x358637BD#32 = (((∑ k, X k * X k) * (1 / w) + e : ℝ) : EReal) := by
      simp only [hX, hC, hE, ← EReal.coe_mul, coe_sum, ← EReal.coe_add]
    rw [hV, Ideal.div_coe hv.ne', hW, Ideal.div_coe hw.ne', hC, neg_half]
    generalize (Real.sqrt ((∑ k, X k * X k) * (1 / w) + e))⁻¹ = ρ at *
    generalize (∑ k, X k * X k) * (1 / w) + e = v at *
    have hT : ∑ k, x k * (ρ : EReal) * (d k * g k) = (∑ k, x k * (d k * g k)) * (ρ : EReal) := by
      rw [sum_mul _ _ h0]
      exact Finset.sum_congr rfl fun k _ => mul_right_comm _ _ _
    rw [hT, one_div v, hρ, hX l]
    generalize ∑ k, x k * (d k * g k) = T
    generalize d l * g l = p
    generalize X l = r
    have hL : (r : EReal) * (T * (((-1 / 2 : ℝ) : EReal) * ((ρ : EReal) * ((ρ * ρ : ℝ) : EReal))) * ((1 / w : ℝ) : EReal)) = T * ((-1 / 2 * (r * (ρ * (ρ * ρ)) * (1 / w)) : ℝ) : EReal) := by
      rw [mul_comm (r : EReal), mul_assoc, mul_assoc, ← EReal.coe_mul, ← EReal.coe_mul, ← EReal.coe_mul, ← EReal.coe_mul]
      congr 2
      ring
    have hN : (r : EReal) * (ρ : EReal) * (T * (ρ : EReal) * ((1 / w : ℝ) : EReal)) * (ρ : EReal) = T * ((r * (ρ * (ρ * ρ)) * (1 / w) : ℝ) : EReal) := by
      rw [mul_comm ((r : EReal) * (ρ : EReal)), mul_assoc, mul_assoc, mul_assoc, ← EReal.coe_mul, ← EReal.coe_mul, ← EReal.coe_mul, ← EReal.coe_mul]
      congr 2
      ring
    rw [mul_comm (ρ : EReal) (p - _), sub_eq_add_neg, EReal.right_distrib_of_nonneg_of_ne_top (EReal.coe_nonneg.mpr h0) (EReal.coe_ne_top ρ), EReal.neg_mul, hN,
      mul_comm _ (r : EReal), hL, add_assoc, twice, mul_assoc, ← EReal.coe_mul, ← mul_neg, ← EReal.coe_neg]
    congr 3
    ring

end Cert.Dot
end
-- ==== Proof.Ple.lean ====
module

public import proofs.«01_k».proof.Proof.Gen.KernelPleIdeal.Value
public import proofs.«01_k».proof.Proof.Gen.ReferencePleIdeal.Run
public import proofs.«01_k».proof.Proof.Gen.KernelPle.Frame
public import proofs.«01_k».proof.Defs
public import proofs.«01_k».proof.Proof.Sig
public import proofs.«01_k».proof.Proof.Grad
public import Idealize.ShloMosaic.Lib.Pipeline.ReadBack
public import Idealize.ShloMosaic.Lib.Pipeline.ValueKit

@[expose] public section

set_option maxRecDepth 16384

noncomputable section

namespace Cert.KernelPleIdeal.Prod

open Cert.KernelPleIdeal Cert.KernelPleIdeal.Gen Idealize.ShloMosaic Idealize.ShloMosaic.TcCoe Idealize.SL.Sem

theorem idx0 : ∀ t : Fin cfg0.N, (cfg0.win 0).index t = ![t.val, 0] := by decide +kernel
theorem idx1 : ∀ t : Fin cfg0.N, (cfg0.win 1).index t = ![t.val, 0] := by decide +kernel
theorem idx2 : ∀ t : Fin cfg0.N, (cfg0.win 2).index t = ![t.val, 0] := by decide +kernel
theorem idx3 : ∀ t : Fin cfg0.N, (cfg0.win 3).index t = ![t.val, 0] := by decide +kernel
theorem idx4 : ∀ t : Fin cfg0.N, (cfg0.win 4).index t = ![t.val, 0] := by decide +kernel
theorem idx5 : ∀ t : Fin cfg0.N, (cfg0.win 5).index t = ![t.val, 0] := by decide +kernel
theorem idx6 : ∀ t : Fin cfg0.N, (cfg0.win 6).index t = ![t.val, 0] := by decide +kernel
theorem idx7 : ∀ t : Fin cfg0.N, (cfg0.win 7).index t = ![0, 0] := by decide +kernel
theorem rb0 (X : FVec Ideal S8192x2048 .f32) (t : Fin cfg0.N) (r : Fin 256) (l : Fin 2048) (a : Fin 8192) (b : Fin 2048) (ha : a.val = 256 * (t.val) + r) (hb : b.val = 2048 * (0) + l) :
    ((cfg0.win 0).blk t).view.read (Elt Ideal) X (ix2 r l) = X (ix2 a b) := by
  have e := idx0 t
  blk_simp [e]
  refine congrArg X ?_
  blk_ext [e]
theorem rb1 (X : FVec Ideal S8192x2048 .f32) (t : Fin cfg0.N) (r : Fin 256) (l : Fin 2048) (a : Fin 8192) (b : Fin 2048) (ha : a.val = 256 * (t.val) + r) (hb : b.val = 2048 * (0) + l) :
    ((cfg0.win 1).blk t).view.read (Elt Ideal) X (ix2 r l) = X (ix2 a b) := by
  have e := idx1 t
  blk_simp [e]
  refine congrArg X ?_
  blk_ext [e]
theorem rb2 (X : FVec Ideal S8192x2048 .f32) (t : Fin cfg0.N) (r : Fin 256) (l : Fin 2048) (a : Fin 8192) (b : Fin 2048) (ha : a.val = 256 * (t.val) + r) (hb : b.val = 2048 * (0) + l) :
    ((cfg0.win 2).blk t).view.read (Elt Ideal) X (ix2 r l) = X (ix2 a b) := by
  have e := idx2 t
  blk_simp [e]
  refine congrArg X ?_
  blk_ext [e]
theorem rb3 (X : FVec Ideal S8192x2048 .f32) (t : Fin cfg0.N) (r : Fin 256) (l : Fin 2048) (a : Fin 8192) (b : Fin 2048) (ha : a.val = 256 * (t.val) + r) (hb : b.val = 2048 * (0) + l) :
    ((cfg0.win 3).blk t).view.read (Elt Ideal) X (ix2 r l) = X (ix2 a b) := by
  have e := idx3 t
  blk_simp [e]
  refine congrArg X ?_
  blk_ext [e]
theorem rb4 (X : FVec Ideal S8192x2048 .f32) (t : Fin cfg0.N) (r : Fin 256) (l : Fin 2048) (a : Fin 8192) (b : Fin 2048) (ha : a.val = 256 * (t.val) + r) (hb : b.val = 2048 * (0) + l) :
    ((cfg0.win 4).blk t).view.read (Elt Ideal) X (ix2 r l) = X (ix2 a b) := by
  have e := idx4 t
  blk_simp [e]
  refine congrArg X ?_
  blk_ext [e]
theorem rb5 (X : FVec Ideal S8192x2048 .bf16) (t : Fin cfg0.N) (r : Fin 256) (l : Fin 2048) (a : Fin 8192) (b : Fin 2048) (ha : a.val = 256 * (t.val) + r) (hb : b.val = 2048 * (0) + l) :
    ((cfg0.win 5).blk t).view.read (Elt Ideal) X (ix2 r l) = X (ix2 a b) := by
  have e := idx5 t
  blk_simp [e]
  refine congrArg X ?_
  blk_ext [e]
theorem rb6 (X : FVec Ideal S8192x2048 .bf16) (t : Fin cfg0.N) (r : Fin 256) (l : Fin 2048) (a : Fin 8192) (b : Fin 2048) (ha : a.val = 256 * (t.val) + r) (hb : b.val = 2048 * (0) + l) :
    ((cfg0.win 6).blk t).view.read (Elt Ideal) X (ix2 r l) = X (ix2 a b) := by
  have e := idx6 t
  blk_simp [e]
  refine congrArg X ?_
  blk_ext [e]
theorem rb7 (X : FVec Ideal S1x128 .f32) (t : Fin cfg0.N) (r : Fin 1) (l : Fin 128) (a : Fin 1) (b : Fin 128) (ha : a.val = 1 * (0) + r) (hb : b.val = 128 * (0) + l) :
    ((cfg0.win 7).blk t).view.read (Elt Ideal) X (ix2 r l) = X (ix2 a b) := by
  have e := idx7 t
  blk_simp [e]
  refine congrArg X ?_
  blk_ext [e]
theorem fl4 : ∀ t : Fin cfg0.N, (cfg0.win 4).flush t = true := by decide +kernel
theorem ct4 (X : Vec Ideal S256x2048 .f32) (t : Fin cfg0.N) (r : Fin 256) (l : Fin 2048) : (cfg0.win 4).cut (grid0.coords t) X (ix2 r l) = X (ix2 r l) := rfl
theorem fl5 : ∀ t : Fin cfg0.N, (cfg0.win 5).flush t = true := by decide +kernel
theorem ct5 (X : Vec Ideal S256x2048 .bf16) (t : Fin cfg0.N) (r : Fin 256) (l : Fin 2048) : (cfg0.win 5).cut (grid0.coords t) X (ix2 r l) = X (ix2 r l) := rfl
theorem fl6 : ∀ t : Fin cfg0.N, (cfg0.win 6).flush t = true := by decide +kernel
theorem ct6 (X : Vec Ideal S256x2048 .bf16) (t : Fin cfg0.N) (r : Fin 256) (l : Fin 2048) : (cfg0.win 6).cut (grid0.coords t) X (ix2 r l) = X (ix2 r l) := rfl
theorem ct7 (X : Vec Ideal S1x128 .f32) (t : Fin cfg0.N) (r : Fin 1) (l : Fin 128) : (cfg0.win 7).cut (grid0.coords t) X (ix2 r l) = X (ix2 r l) := rfl
theorem last7 : ∀ t : Fin cfg0.N, (cfg0.win 7).flush t = true → t.val = 31 := by decide +kernel
theorem fl7 : ∀ t : Fin cfg0.N, t.val = 31 → (cfg0.win 7).flush t = true := by decide +kernel

/-- The error of one entry of the step's output. -/
abbrev er (x y u v : EReal) : EReal := x + Ideal.logistic y * u - v
/-- The gradient of the output, of the projected embedding and of its gate, at one entry. -/
abbrev dyOf (x y u v : EReal) : EReal := er x y u v * Ideal.ofBits .f32 0x3A000000#32
abbrev dpOf (x y u v : EReal) : EReal := dyOf x y u v * Ideal.logistic y
abbrev dzOf (x y u v : EReal) : EReal := dyOf x y u v * u * Ideal.logistic y * (1 - Ideal.logistic y)

theorem pay3_at (y : Vec Ideal S256x2048 .f32) (r : Fin 256) (l : Fin 2048) : k0_pay3 y (ix2 r l) = Ideal.logistic (y (ix2 r l)) := by
  rw [← Cert.Dot.sig_bits]
  pointwise [k0_pay3]
theorem pay4_at (x y u v : Vec Ideal S256x2048 .f32) (r : Fin 256) (l : Fin 2048) : k0_pay4 x y u v (ix2 r l) = er (x (ix2 r l)) (y (ix2 r l)) (u (ix2 r l)) (v (ix2 r l)) := by
  pointwise [k0_pay4, pay3_at]
theorem pay5_at (x y u v : Vec Ideal S256x2048 .f32) (r : Fin 256) (l : Fin 2048) : k0_pay5 x y u v (ix2 r l) = dyOf (x (ix2 r l)) (y (ix2 r l)) (u (ix2 r l)) (v (ix2 r l)) := by
  pointwise [k0_pay5, pay4_at]
theorem pay8_at (x y u v : Vec Ideal S256x2048 .f32) (r : Fin 256) (l : Fin 2048) : k0_pay8 x y u v (ix2 r l) = dpOf (x (ix2 r l)) (y (ix2 r l)) (u (ix2 r l)) (v (ix2 r l)) := by
  pointwise [k0_pay8, pay5_at, pay3_at]
theorem pay6_at (x y u v : Vec Ideal S256x2048 .f32) (r : Fin 256) (l : Fin 2048) : k0_pay1 (k0_pay6 x y u v) (ix2 r l) = dzOf (x (ix2 r l)) (y (ix2 r l)) (u (ix2 r l)) (v (ix2 r l)) := by
  pointwise [k0_pay1, k0_pay6, pay5_at, pay3_at]
/-- A tile's share of the loss. -/
theorem pay7_at (x y u v : Vec Ideal S256x2048 .f32) (l : Fin 128) :
    k0_pay7 x y u v (ix2 0 l) = Ideal.ofBits .f32 0x3F000000#32 * (∑ r : Fin 256, ∑ k : Fin 2048, er (x (ix2 r k)) (y (ix2 r k)) (u (ix2 r k)) (v (ix2 r k)) * er (x (ix2 r k)) (y (ix2 r k)) (u (ix2 r k)) (v (ix2 r k))) * Ideal.ofBits .f32 0x3A000000#32 := by
  pointwise [k0_pay7, pay4_at]
theorem pay2_at (v p : Vec Ideal S1x128 .f32) (l : Fin 128) : k0_pay2 v p (ix2 0 l) = p (ix2 0 l) + v (ix2 0 l) := by
  pointwise [k0_pay2]
/-- The two constants of the loss move into a sum. -/
theorem scale {n : ℕ} (f : Fin n → EReal) : Ideal.ofBits .f32 0x3F000000#32 * (∑ k, f k) * Ideal.ofBits .f32 0x3A000000#32 = ∑ k, f k * Ideal.ofBits .f32 0x3F000000#32 * Ideal.ofBits .f32 0x3A000000#32 := by
  rw [mul_comm (Ideal.ofBits .f32 0x3F000000#32), Cert.Dot.sum_scale, Cert.Dot.inv_width, Cert.Dot.sum_mul _ _ (by norm_num)]

variable (m : (ℓ : Loc nD τ sig) → Buf (Elt Ideal) ℓ) (c : Dev nD)

/-- The residual that the head starts from. -/
abbrev mx : FVec Ideal S8192x2048 .f32 := m (c, Proc.devRef .tc main_arg0)
/-- The gate before its logistic function. -/
abbrev mz : FVec Ideal S8192x2048 .f32 := m (c, Proc.devRef .tc main_arg1)
/-- The projected embedding. -/
abbrev mp : FVec Ideal S8192x2048 .f32 := m (c, Proc.devRef .tc main_arg2)
/-- The target. -/
abbrev mt : FVec Ideal S8192x2048 .f32 := m (c, Proc.devRef .tc main_arg3)
theorem ia0 (t : Fin cfg0.N) : iblk m c 0 t = ((cfg0.win 0).blk t).view.read (Elt Ideal) (mx m c) :=
  congrArg (fun X => ((cfg0.win 0).blk t).view.read (Elt Ideal) X) (V_main_arg0 m c)
theorem ia1 (t : Fin cfg0.N) : iblk m c 1 t = ((cfg0.win 1).blk t).view.read (Elt Ideal) (mz m c) :=
  congrArg (fun X => ((cfg0.win 1).blk t).view.read (Elt Ideal) X) (V_main_arg1 m c)
theorem ia2 (t : Fin cfg0.N) : iblk m c 2 t = ((cfg0.win 2).blk t).view.read (Elt Ideal) (mp m c) :=
  congrArg (fun X => ((cfg0.win 2).blk t).view.read (Elt Ideal) X) (V_main_arg2 m c)
theorem ia3 (t : Fin cfg0.N) : iblk m c 3 t = ((cfg0.win 3).blk t).view.read (Elt Ideal) (mt m c) :=
  congrArg (fun X => ((cfg0.win 3).blk t).view.read (Elt Ideal) X) (V_main_arg3 m c)

/-- What a grid point leaves in a tile of a gradient. -/
theorem tile4 (t : Fin cfg0.N) : (outsAt0 m c t.val t.isLt).1 = k0_pay5 (iblk m c 0 t) (iblk m c 1 t) (iblk m c 2 t) (iblk m c 3 t) := by
  have hN : t.val < 32 := lt_of_lt_of_eq t.isLt N_0
  by_cases h : t.val = 0
  · rw [outsAt0_A m c t (by omega) (by omega)]
    dsimp only
    unfold out0_A_4
    frame_out
  · rw [outsAt0_B m c t (by omega) (by omega)]
    dsimp only
    unfold out0_B_4
    frame_out

/-- What a grid point leaves in a tile of a gradient. -/
theorem tile5 (t : Fin cfg0.N) : (outsAt0 m c t.val t.isLt).2.1 = k0_pay8 (iblk m c 0 t) (iblk m c 1 t) (iblk m c 2 t) (iblk m c 3 t) := by
  have hN : t.val < 32 := lt_of_lt_of_eq t.isLt N_0
  by_cases h : t.val = 0
  · rw [outsAt0_A m c t (by omega) (by omega)]
    dsimp only
    unfold out0_A_5
    frame_out
  · rw [outsAt0_B m c t (by omega) (by omega)]
    dsimp only
    unfold out0_B_5
    frame_out

/-- What a grid point leaves in a tile of a gradient. -/
theorem tile6 (t : Fin cfg0.N) : (outsAt0 m c t.val t.isLt).2.2.1 = k0_pay1 (k0_pay6 (iblk m c 0 t) (iblk m c 1 t) (iblk m c 2 t) (iblk m c 3 t)) := by
  have hN : t.val < 32 := lt_of_lt_of_eq t.isLt N_0
  by_cases h : t.val = 0
  · rw [outsAt0_A m c t (by omega) (by omega)]
    dsimp only
    unfold out0_A_6
    frame_out
  · rw [outsAt0_B m c t (by omega) (by omega)]
    dsimp only
    unfold out0_B_6
    frame_out

/-- What the first grid point leaves in the loss. -/
theorem acc_zero (t : Fin cfg0.N) (h : t.val = 0) : (outsAt0 m c t.val t.isLt).2.2.2 = k0_pay7 (iblk m c 0 t) (iblk m c 1 t) (iblk m c 2 t) (iblk m c 3 t) := by
  rw [outsAt0_A m c t (by omega) (by omega)]
  dsimp only
  unfold out0_A_7
  frame_out
/-- What a later grid point leaves there. -/
theorem acc_succ (t : Fin cfg0.N) (h : 1 ≤ t.val) : (outsAt0 m c t.val t.isLt).2.2.2 = k0_pay2 (k0_pay7 (iblk m c 0 t) (iblk m c 1 t) (iblk m c 2 t) (iblk m c 3 t)) (outsAt0 m c (t.val - 1) (Nat.lt_of_le_of_lt (Nat.sub_le _ _) t.isLt)).2.2.2 := by
  have hN : t.val < 32 := lt_of_lt_of_eq t.isLt N_0
  rw [outsAt0_B m c t (by omega) h]
  dsimp only
  unfold out0_B_7
  frame_out
/-- One row's share of the loss. -/
abbrev lrow (a : ℕ) : EReal := if h : a < 8192 then (∑ k : Fin 2048, er (mx m c (ix2 ⟨a, h⟩ k)) (mz m c (ix2 ⟨a, h⟩ k)) (mp m c (ix2 ⟨a, h⟩ k)) (mt m c (ix2 ⟨a, h⟩ k)) * er (mx m c (ix2 ⟨a, h⟩ k)) (mz m c (ix2 ⟨a, h⟩ k)) (mp m c (ix2 ⟨a, h⟩ k)) (mt m c (ix2 ⟨a, h⟩ k))) * Ideal.ofBits .f32 0x3F000000#32 * Ideal.ofBits .f32 0x3A000000#32 else 0
theorem tile_sum (t : Fin cfg0.N) (l : Fin 128) : k0_pay7 (iblk m c 0 t) (iblk m c 1 t) (iblk m c 2 t) (iblk m c 3 t) (ix2 0 l) = ∑ r : Fin 256, lrow m c (256 * t.val + r.val) := by
  have hN : t.val < 32 := lt_of_lt_of_eq t.isLt N_0
  rw [pay7_at, scale]
  refine Finset.sum_congr rfl fun r _ => ?_
  have hr : 256 * t.val + r.val < 8192 := by omega
  rw [lrow, dif_pos hr]
  refine congrArg (fun s => s * Ideal.ofBits .f32 0x3F000000#32 * Ideal.ofBits .f32 0x3A000000#32) (Finset.sum_congr rfl fun k _ => ?_)
  rw [ia0, ia1, ia2, ia3, rb0 _ t r k ⟨_, hr⟩ k rfl (by omega), rb1 _ t r k ⟨_, hr⟩ k rfl (by omega), rb2 _ t r k ⟨_, hr⟩ k rfl (by omega), rb3 _ t r k ⟨_, hr⟩ k rfl (by omega)]
/-- The loss after a number of tiles is the sum over their rows. -/
theorem acc_at (l : Fin 128) : ∀ (n : ℕ) (hn : n < cfg0.N), (outsAt0 m c n hn).2.2.2 (ix2 0 l) = ∑ a ∈ Finset.range (256 * (n + 1)), lrow m c a := by
  intro n
  induction n with
  | zero =>
    intro hn
    rw [acc_zero m c ⟨0, hn⟩ rfl, tile_sum, Cert.Dot.tiles]
    simp only [Nat.mul_zero, Finset.range_zero, Finset.sum_empty, zero_add]
  | succ n ih =>
    intro hn
    rw [acc_succ m c ⟨n + 1, hn⟩ (by dsimp only; omega), Cert.Dot.tiles _ _ (n + 1), ← ih (by omega), ← tile_sum m c ⟨n + 1, hn⟩ l]
    exact pay2_at _ _ l

/-- An entry of a gradient after the run. -/
theorem arr4 (a : Fin 8192) (b : Fin 2048) : (dats m 0 c).arrAt 4 cfg0.N (ix2 a b) = dyOf (mx m c (ix2 a b)) (mz m c (ix2 a b)) (mp m c (ix2 a b)) (mt m c (ix2 a b)) := by
  have hp : a.val / 256 < cfg0.N := by rw [show cfg0.N = 32 from N_0]; omega
  have ha : a.val = 256 * (a.val / 256) + a.val % 256 := by omega
  have e := congrFun (Value.blocks4 m c ⟨_, hp⟩ (fl4 _)) (ix2 ⟨a.val % 256, by omega⟩ b)
  rw [rb4 _ _ _ _ a b ha (by omega), Value.flushed4, ct4, tile4, pay5_at, ia0, ia1, ia2, ia3,
    rb0 _ _ _ _ a b ha (by omega), rb1 _ _ _ _ a b ha (by omega), rb2 _ _ _ _ a b ha (by omega), rb3 _ _ _ _ a b ha (by omega)] at e
  exact e

/-- An entry of a gradient after the run. -/
theorem arr5 (a : Fin 8192) (b : Fin 2048) : (dats m 0 c).arrAt 5 cfg0.N (ix2 a b) = dpOf (mx m c (ix2 a b)) (mz m c (ix2 a b)) (mp m c (ix2 a b)) (mt m c (ix2 a b)) := by
  have hp : a.val / 256 < cfg0.N := by rw [show cfg0.N = 32 from N_0]; omega
  have ha : a.val = 256 * (a.val / 256) + a.val % 256 := by omega
  have e := congrFun (Value.blocks5 m c ⟨_, hp⟩ (fl5 _)) (ix2 ⟨a.val % 256, by omega⟩ b)
  rw [rb5 _ _ _ _ a b ha (by omega), Value.flushed5, ct5, tile5, pay8_at, ia0, ia1, ia2, ia3,
    rb0 _ _ _ _ a b ha (by omega), rb1 _ _ _ _ a b ha (by omega), rb2 _ _ _ _ a b ha (by omega), rb3 _ _ _ _ a b ha (by omega)] at e
  exact e

/-- An entry of a gradient after the run. -/
theorem arr6 (a : Fin 8192) (b : Fin 2048) : (dats m 0 c).arrAt 6 cfg0.N (ix2 a b) = dzOf (mx m c (ix2 a b)) (mz m c (ix2 a b)) (mp m c (ix2 a b)) (mt m c (ix2 a b)) := by
  have hp : a.val / 256 < cfg0.N := by rw [show cfg0.N = 32 from N_0]; omega
  have ha : a.val = 256 * (a.val / 256) + a.val % 256 := by omega
  have e := congrFun (Value.blocks6 m c ⟨_, hp⟩ (fl6 _)) (ix2 ⟨a.val % 256, by omega⟩ b)
  rw [rb6 _ _ _ _ a b ha (by omega), Value.flushed6, ct6, tile6, pay6_at, ia0, ia1, ia2, ia3,
    rb0 _ _ _ _ a b ha (by omega), rb1 _ _ _ _ a b ha (by omega), rb2 _ _ _ _ a b ha (by omega), rb3 _ _ _ _ a b ha (by omega)] at e
  exact e

/-- Every lane of the loss after the run. -/
theorem arr7 (b : Fin 128) : (dats m 0 c).arrAt 7 cfg0.N (ix2 0 b) = ∑ a : Fin 8192, (∑ k : Fin 2048, er (mx m c (ix2 a k)) (mz m c (ix2 a k)) (mp m c (ix2 a k)) (mt m c (ix2 a k)) * er (mx m c (ix2 a k)) (mz m c (ix2 a k)) (mp m c (ix2 a k)) (mt m c (ix2 a k))) * Ideal.ofBits .f32 0x3F000000#32 * Ideal.ofBits .f32 0x3A000000#32 := by
  have hp : 31 < cfg0.N := by rw [show cfg0.N = 32 from N_0]; omega
  have e := congrFun ((dats m 0 c).read_blk_arrAt_eq_flushed 7 (fun t t' h h' hne => absurd (Fin.ext ((last7 t h).trans (last7 t' h').symm)) hne) cfg0.N ⟨31, hp⟩ hp (fl7 _ rfl)) (ix2 0 b)
  rw [rb7 _ _ _ _ 0 b (by simp) (by omega), Value.flushed7, ct7, acc_at] at e
  have s : ∑ a ∈ Finset.range 8192, lrow m c a = ∑ a : Fin 8192, (∑ k : Fin 2048, er (mx m c (ix2 a k)) (mz m c (ix2 a k)) (mp m c (ix2 a k)) (mt m c (ix2 a k)) * er (mx m c (ix2 a k)) (mz m c (ix2 a k)) (mp m c (ix2 a k)) (mt m c (ix2 a k))) * Ideal.ofBits .f32 0x3F000000#32 * Ideal.ofBits .f32 0x3A000000#32 :=
    (Finset.sum_range _).trans (Finset.sum_congr rfl fun a _ => dif_pos a.isLt)
  exact e.trans s

end Cert.KernelPleIdeal.Prod

namespace Cert.ReferencePleIdeal.Prod
open Cert.ReferencePleIdeal Cert.ReferencePleIdeal.Gen Idealize.ShloMosaic Idealize.ShloMosaic.TcCoe Idealize.SL.Sem

/-- The reference's logistic function. -/
theorem sig_at (y : FVec Ideal S8192x2048 .f32) (i : S8192x2048.Idx) : ((Host.divf (broadcastInDim S8192x2048 ![] bcast_S_S8192x2048 (constant S_ .f32 0x3F800000#32)) (addf (broadcastInDim S8192x2048 ![] bcast_S_S8192x2048 (constant S_ .f32 0x3F800000#32)) (Host.exp (Host.negf y)))) : FVec Ideal S8192x2048 .f32) i = Ideal.logistic (y i) := by
  rw [← Cert.Dot.logistic_bits]
  rfl
/-- The constants of the loss and of the square's derivative together. -/
theorem consts (e : EReal) : Ideal.div (Ideal.ofBits .f32 0x3F000000#32 * Ideal.ofBits .f32 0x3F800000#32) (Ideal.ofBits .f32 0x45000000#32) * (Ideal.ofBits .f32 0x40000000#32 * e) = e * Ideal.ofBits .f32 0x3A000000#32 := by
  have two : Ideal.ofBits .f32 0x40000000#32 = ((2 : ℝ) : EReal) := by
    simp [Ideal.ofBits, Ideal.ieee]
    rw [← EReal.coe_mul]
    norm_num
  rw [Cert.Dot.one, mul_one, Cert.Dot.half, Cert.Dot.width, Ideal.div_coe (by norm_num), two, Cert.Dot.inv_width, ← mul_assoc, ← EReal.coe_mul, ← EReal.coe_mul, mul_comm]
  norm_num

theorem raw0 (x u v s : FVec Ideal S8192x2048 .f32) (a : Fin 8192) (b : Fin 2048) : (mulf (broadcastInDim S8192x2048 ![0] bcast_S8192_S8192x2048_0 (Host.divf (broadcastInDim S8192 ![] bcast_S_S8192 (mulf (constant S_ .f32 0x3F000000#32) (constant S_ .f32 0x3F800000#32))) (broadcastInDim S8192 ![] bcast_S_S8192 (constant S_ .f32 0x45000000#32)))) (mulf (broadcastInDim S8192x2048 ![] bcast_S_S8192x2048 (constant S_ .f32 0x40000000#32)) (subf (addf x (mulf s u)) v)) : FVec Ideal S8192x2048 .f32) (ix2 a b) = (Ideal.div (Ideal.ofBits .f32 0x3F000000#32 * Ideal.ofBits .f32 0x3F800000#32) (Ideal.ofBits .f32 0x45000000#32) * (Ideal.ofBits .f32 0x40000000#32 * (x (ix2 a b) + s (ix2 a b) * u (ix2 a b) - v (ix2 a b)))) := by
  pointwise []
/-- An entry of one of the reference's gradients. -/
theorem ref0 (x y u v : FVec Ideal S8192x2048 .f32) (a : Fin 8192) (b : Fin 2048) : (mulf (broadcastInDim S8192x2048 ![0] bcast_S8192_S8192x2048_0 (Host.divf (broadcastInDim S8192 ![] bcast_S_S8192 (mulf (constant S_ .f32 0x3F000000#32) (constant S_ .f32 0x3F800000#32))) (broadcastInDim S8192 ![] bcast_S_S8192 (constant S_ .f32 0x45000000#32)))) (mulf (broadcastInDim S8192x2048 ![] bcast_S_S8192x2048 (constant S_ .f32 0x40000000#32)) (subf (addf x (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf y)))) u)) v)) : FVec Ideal S8192x2048 .f32) (ix2 a b) = Cert.KernelPleIdeal.Prod.dyOf (x (ix2 a b)) (y (ix2 a b)) (u (ix2 a b)) (v (ix2 a b)) := by
  rw [raw0 x u v (Host.divf (broadcastInDim S8192x2048 ![] bcast_S_S8192x2048 (constant S_ .f32 0x3F800000#32)) (addf (broadcastInDim S8192x2048 ![] bcast_S_S8192x2048 (constant S_ .f32 0x3F800000#32)) (Host.exp (Host.negf y)))) a b, sig_at, consts]

theorem raw1 (x u v s : FVec Ideal S8192x2048 .f32) (a : Fin 8192) (b : Fin 2048) : (truncf .bf16 (mulf s (mulf (broadcastInDim S8192x2048 ![0] bcast_S8192_S8192x2048_0 (Host.divf (broadcastInDim S8192 ![] bcast_S_S8192 (mulf (constant S_ .f32 0x3F000000#32) (constant S_ .f32 0x3F800000#32))) (broadcastInDim S8192 ![] bcast_S_S8192 (constant S_ .f32 0x45000000#32)))) (mulf (broadcastInDim S8192x2048 ![] bcast_S_S8192x2048 (constant S_ .f32 0x40000000#32)) (subf (addf x (mulf s u)) v)))) bitsLt_bf16_f32 : FVec Ideal S8192x2048 .bf16) (ix2 a b) = s (ix2 a b) * (Ideal.div (Ideal.ofBits .f32 0x3F000000#32 * Ideal.ofBits .f32 0x3F800000#32) (Ideal.ofBits .f32 0x45000000#32) * (Ideal.ofBits .f32 0x40000000#32 * (x (ix2 a b) + s (ix2 a b) * u (ix2 a b) - v (ix2 a b)))) := by
  pointwise []
/-- An entry of one of the reference's gradients. -/
theorem ref1 (x y u v : FVec Ideal S8192x2048 .f32) (a : Fin 8192) (b : Fin 2048) : (truncf .bf16 (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf y)))) (mulf (broadcastInDim S8192x2048 ![0] bcast_S8192_S8192x2048_0 (Host.divf (broadcastInDim S8192 ![] bcast_S_S8192 (mulf (constant S_ .f32 0x3F000000#32) (constant S_ .f32 0x3F800000#32))) (broadcastInDim S8192 ![] bcast_S_S8192 (constant S_ .f32 0x45000000#32)))) (mulf (broadcastInDim S8192x2048 ![] bcast_S_S8192x2048 (constant S_ .f32 0x40000000#32)) (subf (addf x (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf y)))) u)) v)))) bitsLt_bf16_f32 : FVec Ideal S8192x2048 .bf16) (ix2 a b) = Cert.KernelPleIdeal.Prod.dpOf (x (ix2 a b)) (y (ix2 a b)) (u (ix2 a b)) (v (ix2 a b)) := by
  rw [raw1 x u v (Host.divf (broadcastInDim S8192x2048 ![] bcast_S_S8192x2048 (constant S_ .f32 0x3F800000#32)) (addf (broadcastInDim S8192x2048 ![] bcast_S_S8192x2048 (constant S_ .f32 0x3F800000#32)) (Host.exp (Host.negf y)))) a b, sig_at, consts]
  exact mul_comm _ _

theorem raw2 (x u v s : FVec Ideal S8192x2048 .f32) (a : Fin 8192) (b : Fin 2048) : (truncf .bf16 (mulf (mulf (mulf (broadcastInDim S8192x2048 ![0] bcast_S8192_S8192x2048_0 (Host.divf (broadcastInDim S8192 ![] bcast_S_S8192 (mulf (constant S_ .f32 0x3F000000#32) (constant S_ .f32 0x3F800000#32))) (broadcastInDim S8192 ![] bcast_S_S8192 (constant S_ .f32 0x45000000#32)))) (mulf (broadcastInDim S8192x2048 ![] bcast_S_S8192x2048 (constant S_ .f32 0x40000000#32)) (subf (addf x (mulf s u)) v))) u) (mulf s (subf (broadcastInDim S8192x2048 ![] bcast_S_S8192x2048 (constant S_ .f32 0x3F800000#32)) s))) bitsLt_bf16_f32 : FVec Ideal S8192x2048 .bf16) (ix2 a b) = (Ideal.div (Ideal.ofBits .f32 0x3F000000#32 * Ideal.ofBits .f32 0x3F800000#32) (Ideal.ofBits .f32 0x45000000#32) * (Ideal.ofBits .f32 0x40000000#32 * (x (ix2 a b) + s (ix2 a b) * u (ix2 a b) - v (ix2 a b)))) * u (ix2 a b) * (s (ix2 a b) * (Ideal.ofBits .f32 0x3F800000#32 - s (ix2 a b))) := by
  pointwise []
/-- An entry of one of the reference's gradients. -/
theorem ref2 (x y u v : FVec Ideal S8192x2048 .f32) (a : Fin 8192) (b : Fin 2048) : (truncf .bf16 (mulf (mulf (mulf (broadcastInDim S8192x2048 ![0] bcast_S8192_S8192x2048_0 (Host.divf (broadcastInDim S8192 ![] bcast_S_S8192 (mulf (constant S_ .f32 0x3F000000#32) (constant S_ .f32 0x3F800000#32))) (broadcastInDim S8192 ![] bcast_S_S8192 (constant S_ .f32 0x45000000#32)))) (mulf (broadcastInDim S8192x2048 ![] bcast_S_S8192x2048 (constant S_ .f32 0x40000000#32)) (subf (addf x (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf y)))) u)) v))) u) (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf y)))) (subf (broadcastInDim S8192x2048 ![] bcast_S_S8192x2048 (constant S_ .f32 0x3F800000#32)) (Host.divf (broadcastInDim S8192x2048 ![] bcast_S_S8192x2048 (constant S_ .f32 0x3F800000#32)) (addf (broadcastInDim S8192x2048 ![] bcast_S_S8192x2048 (constant S_ .f32 0x3F800000#32)) (Host.exp (Host.negf y))))))) bitsLt_bf16_f32 : FVec Ideal S8192x2048 .bf16) (ix2 a b) = Cert.KernelPleIdeal.Prod.dzOf (x (ix2 a b)) (y (ix2 a b)) (u (ix2 a b)) (v (ix2 a b)) := by
  rw [raw2 x u v (Host.divf (broadcastInDim S8192x2048 ![] bcast_S_S8192x2048 (constant S_ .f32 0x3F800000#32)) (addf (broadcastInDim S8192x2048 ![] bcast_S_S8192x2048 (constant S_ .f32 0x3F800000#32)) (Host.exp (Host.negf y)))) a b, sig_at, consts]
  rw [← mul_assoc, Cert.Dot.one]

theorem raw3 (x u v s : FVec Ideal S8192x2048 .f32) (b : Fin 128) : (broadcastInDim S1x128 ![] bcast_S_S1x128 (mulf (constant S_ .f32 0x3F000000#32) (Host.reduceAdd (Host.divf (Host.reduceAdd (mulf (subf (addf x (mulf s u)) v) (subf (addf x (mulf s u)) v)) (constant S_ .f32 0x00000000#32) reducesTo_S8192x2048_S8192_d1 h_S_) (broadcastInDim S8192 ![] bcast_S_S8192 (constant S_ .f32 0x45000000#32))) (constant S_ .f32 0x00000000#32) reducesTo_S8192_S_d0 h_S_)) : FVec Ideal S1x128 .f32) (ix2 0 b) = Ideal.ofBits .f32 0x3F000000#32 * ∑ a : Fin 8192, Ideal.div (∑ k : Fin 2048, (x (ix2 a k) + s (ix2 a k) * u (ix2 a k) - v (ix2 a k)) * (x (ix2 a k) + s (ix2 a k) * u (ix2 a k) - v (ix2 a k))) (Ideal.ofBits .f32 0x45000000#32) := by
  pointwise []
/-- Every lane of the reference's loss. -/
theorem ref3 (x y u v : FVec Ideal S8192x2048 .f32) (b : Fin 128) : (broadcastInDim S1x128 ![] bcast_S_S1x128 (mulf (constant S_ .f32 0x3F000000#32) (Host.reduceAdd (Host.divf (Host.reduceAdd (mulf (subf (addf x (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf y)))) u)) v) (subf (addf x (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf y)))) u)) v)) (constant S_ .f32 0x00000000#32) reducesTo_S8192x2048_S8192_d1 h_S_) (broadcastInDim S8192 ![] bcast_S_S8192 (constant S_ .f32 0x45000000#32))) (constant S_ .f32 0x00000000#32) reducesTo_S8192_S_d0 h_S_)) : FVec Ideal S1x128 .f32) (ix2 0 b) = ∑ a : Fin 8192, (∑ k : Fin 2048, Cert.KernelPleIdeal.Prod.er (x (ix2 a k)) (y (ix2 a k)) (u (ix2 a k)) (v (ix2 a k)) * Cert.KernelPleIdeal.Prod.er (x (ix2 a k)) (y (ix2 a k)) (u (ix2 a k)) (v (ix2 a k))) * Ideal.ofBits .f32 0x3F000000#32 * Ideal.ofBits .f32 0x3A000000#32 := by
  rw [raw3 x u v (Host.divf (broadcastInDim S8192x2048 ![] bcast_S_S8192x2048 (constant S_ .f32 0x3F800000#32)) (addf (broadcastInDim S8192x2048 ![] bcast_S_S8192x2048 (constant S_ .f32 0x3F800000#32)) (Host.exp (Host.negf y)))) b, mul_comm, Cert.Dot.sum_scale]
  refine Finset.sum_congr rfl fun a _ => ?_
  rw [Cert.Dot.mean, mul_right_comm]
  refine congrArg (fun s => s * Ideal.ofBits .f32 0x3F000000#32 * Ideal.ofBits .f32 0x3A000000#32) (Finset.sum_congr rfl fun k _ => ?_)
  rw [sig_at]

end Cert.ReferencePleIdeal.Prod

namespace Cert.Ple
open Idealize.ShloMosaic Idealize.SL.Sem Idealize.ShloMosaic.StableHlo Cert.KernelPleIdeal.Prod

attribute [local instance] Cert.KernelPle.Gen.facts Cert.KernelPleIdeal.Gen.facts Cert.ReferencePleIdeal.Gen.facts

set_option maxHeartbeats 2000000 in
/-- The ideal call and the ideal reference return the same four arrays, for all inputs. -/
theorem algebraic : Cert.algebraic_KernelPleIdeal_ReferencePleIdeal := by
  intro m g m' g' _ ha
  refine ⟨fun c => (Cert.KernelPleIdeal.Gen.dats m 0 c).arrAt 4 Cert.KernelPleIdeal.cfg0.N, fun c => (Cert.KernelPleIdeal.Gen.dats m 0 c).arrAt 5 Cert.KernelPleIdeal.cfg0.N,
    fun c => (Cert.KernelPleIdeal.Gen.dats m 0 c).arrAt 6 Cert.KernelPleIdeal.cfg0.N, fun c => (Cert.KernelPleIdeal.Gen.dats m 0 c).arrAt 7 Cert.KernelPleIdeal.cfg0.N, Cert.KernelPleIdeal.Value.run_blocks m g, ?_⟩
  refine (θ_run _ _ _).mono (fun r h c => ?_) (Cert.ReferencePleIdeal.Value.run m' g')
  obtain ⟨h1, h2, h3, h4, hk⟩ := h c
  obtain ⟨e0, e1, e2, e3⟩ := ha c
  rw [e0, e1, e2, e3] at h1 h2 h3 h4
  refine ⟨h1.trans (funext fun i => ?_), h2.trans (funext fun i => ?_), h3.trans (funext fun i => ?_), h4.trans (funext fun i => ?_), hk⟩
  · rw [eq_ix2 i]
    exact (Cert.ReferencePleIdeal.Prod.ref0 (mx m c) (mz m c) (mp m c) (mt m c) (i 0) (i 1)).trans (arr4 m c (i 0) (i 1)).symm
  · rw [eq_ix2 i]
    exact (Cert.ReferencePleIdeal.Prod.ref1 (mx m c) (mz m c) (mp m c) (mt m c) (i 0) (i 1)).trans (arr5 m c (i 0) (i 1)).symm
  · rw [eq_ix2 i]
    exact (Cert.ReferencePleIdeal.Prod.ref2 (mx m c) (mz m c) (mp m c) (mt m c) (i 0) (i 1)).trans (arr6 m c (i 0) (i 1)).symm
  · have h0 : i 0 = (0 : Fin 1) := Subsingleton.elim (α := Fin 1) _ _
    rw [eq_ix2 i, h0]
    exact (Cert.ReferencePleIdeal.Prod.ref3 (mx m c) (mz m c) (mp m c) (mt m c) (i 1)).trans (arr7 m c (i 1)).symm

/-- The ideal reference keeps its arguments; it declares no semaphore. -/
theorem frameR : Cert.quiescent_ReferencePleIdeal := fun m g _ =>
  (θ_run _ _ _).mono (fun r h => ⟨fun c => (h c).2.2.2.2, sem_eq_zero_of_no_sems (by decide) r.2⟩) (Cert.ReferencePleIdeal.Value.run m g)

end Cert.Ple
end
-- ==== Proof.LatB.lean ====
module

public import proofs.«01_k».proof.Proof.Gen.KernelLatBIdeal.Value
public import proofs.«01_k».proof.Proof.Gen.ReferenceLatBIdeal.Run
public import proofs.«01_k».proof.Proof.Gen.KernelLatB.Frame
public import proofs.«01_k».proof.Defs
public import proofs.«01_k».proof.Proof.Grad
public import Idealize.ShloMosaic.Lib.Pipeline.ReadBack
public import Idealize.ShloMosaic.Lib.Pipeline.ValueKit

@[expose] public section

set_option maxRecDepth 16384

noncomputable section

namespace Cert.KernelLatBIdeal.Prod

open Cert.KernelLatBIdeal Cert.KernelLatBIdeal.Gen Idealize.ShloMosaic Idealize.ShloMosaic.TcCoe Idealize.SL.Sem

theorem idx0 : ∀ t : Fin cfg0.N, (cfg0.win 0).index t = ![t.val, 0] := by decide +kernel
theorem idx1 : ∀ t : Fin cfg0.N, (cfg0.win 1).index t = ![t.val, 0] := by decide +kernel
theorem idx2 : ∀ t : Fin cfg0.N, (cfg0.win 2).index t = ![t.val, 0] := by decide +kernel
theorem idx3 : ∀ t : Fin cfg0.N, (cfg0.win 3).index t = ![t.val, 0] := by decide +kernel
theorem idx6 : ∀ t : Fin cfg0.N, (cfg0.win 6).index t = ![t.val, 0] := by decide +kernel
theorem idx4 : ∀ t : Fin cfg0.N, (cfg0.win 4).index t = ![0, 0] := by decide +kernel
theorem idx5 : ∀ t : Fin cfg0.N, (cfg0.win 5).index t = ![0, 0] := by decide +kernel
theorem idx7 : ∀ t : Fin cfg0.N, (cfg0.win 7).index t = ![0, 0] := by decide +kernel
theorem idx8 : ∀ t : Fin cfg0.N, (cfg0.win 8).index t = ![0, 0] := by decide +kernel
theorem rb0 (X : FVec Ideal S8192x512 .f32) (t : Fin cfg0.N) (r : Fin 512) (l : Fin 512) (a : Fin 8192) (b : Fin 512) (ha : a.val = 512 * (t.val) + r) (hb : b.val = 512 * (0) + l) :
    ((cfg0.win 0).blk t).view.read (Elt Ideal) X (ix2 r l) = X (ix2 a b) := by
  have e := idx0 t
  blk_simp [e]
  refine congrArg X ?_
  blk_ext [e]
theorem rb1 (X : FVec Ideal S8192x256 .f32) (t : Fin cfg0.N) (r : Fin 512) (l : Fin 256) (a : Fin 8192) (b : Fin 256) (ha : a.val = 512 * (t.val) + r) (hb : b.val = 256 * (0) + l) :
    ((cfg0.win 1).blk t).view.read (Elt Ideal) X (ix2 r l) = X (ix2 a b) := by
  have e := idx1 t
  blk_simp [e]
  refine congrArg X ?_
  blk_ext [e]
theorem rb2 (X : FVec Ideal S8192x128 .f32) (t : Fin cfg0.N) (r : Fin 512) (l : Fin 128) (a : Fin 8192) (b : Fin 128) (ha : a.val = 512 * (t.val) + r) (hb : b.val = 128 * (0) + l) :
    ((cfg0.win 2).blk t).view.read (Elt Ideal) X (ix2 r l) = X (ix2 a b) := by
  have e := idx2 t
  blk_simp [e]
  refine congrArg X ?_
  blk_ext [e]
theorem rb3 (X : FVec Ideal S8192x896 .f32) (t : Fin cfg0.N) (r : Fin 512) (l : Fin 896) (a : Fin 8192) (b : Fin 896) (ha : a.val = 512 * (t.val) + r) (hb : b.val = 896 * (0) + l) :
    ((cfg0.win 3).blk t).view.read (Elt Ideal) X (ix2 r l) = X (ix2 a b) := by
  have e := idx3 t
  blk_simp [e]
  refine congrArg X ?_
  blk_ext [e]
theorem rb6 (X : FVec Ideal S8192x896 .bf16) (t : Fin cfg0.N) (r : Fin 512) (l : Fin 896) (a : Fin 8192) (b : Fin 896) (ha : a.val = 512 * (t.val) + r) (hb : b.val = 896 * (0) + l) :
    ((cfg0.win 6).blk t).view.read (Elt Ideal) X (ix2 r l) = X (ix2 a b) := by
  have e := idx6 t
  blk_simp [e]
  refine congrArg X ?_
  blk_ext [e]
theorem rb4 (X : FVec Ideal S1x512 .f32) (t : Fin cfg0.N) (r : Fin 1) (l : Fin 512) (a : Fin 1) (b : Fin 512) (ha : a.val = 1 * (0) + r) (hb : b.val = 512 * (0) + l) :
    ((cfg0.win 4).blk t).view.read (Elt Ideal) X (ix2 r l) = X (ix2 a b) := by
  have e := idx4 t
  blk_simp [e]
  refine congrArg X ?_
  blk_ext [e]
theorem rb5 (X : FVec Ideal S1x256 .f32) (t : Fin cfg0.N) (r : Fin 1) (l : Fin 256) (a : Fin 1) (b : Fin 256) (ha : a.val = 1 * (0) + r) (hb : b.val = 256 * (0) + l) :
    ((cfg0.win 5).blk t).view.read (Elt Ideal) X (ix2 r l) = X (ix2 a b) := by
  have e := idx5 t
  blk_simp [e]
  refine congrArg X ?_
  blk_ext [e]
theorem rb7 (X : FVec Ideal S1x512 .f32) (t : Fin cfg0.N) (r : Fin 1) (l : Fin 512) (a : Fin 1) (b : Fin 512) (ha : a.val = 1 * (0) + r) (hb : b.val = 512 * (0) + l) :
    ((cfg0.win 7).blk t).view.read (Elt Ideal) X (ix2 r l) = X (ix2 a b) := by
  have e := idx7 t
  blk_simp [e]
  refine congrArg X ?_
  blk_ext [e]
theorem rb8 (X : FVec Ideal S1x256 .f32) (t : Fin cfg0.N) (r : Fin 1) (l : Fin 256) (a : Fin 1) (b : Fin 256) (ha : a.val = 1 * (0) + r) (hb : b.val = 256 * (0) + l) :
    ((cfg0.win 8).blk t).view.read (Elt Ideal) X (ix2 r l) = X (ix2 a b) := by
  have e := idx8 t
  blk_simp [e]
  refine congrArg X ?_
  blk_ext [e]
theorem fl6 : ∀ t : Fin cfg0.N, (cfg0.win 6).flush t = true := by decide +kernel
theorem ct6 (X : Vec Ideal S512x896 .bf16) (t : Fin cfg0.N) (r : Fin 512) (l : Fin 896) : (cfg0.win 6).cut (grid0.coords t) X (ix2 r l) = X (ix2 r l) := rfl
theorem ct7 (X : Vec Ideal S1x512 .f32) (t : Fin cfg0.N) (r : Fin 1) (l : Fin 512) : (cfg0.win 7).cut (grid0.coords t) X (ix2 r l) = X (ix2 r l) := rfl
theorem last7 : ∀ t : Fin cfg0.N, (cfg0.win 7).flush t = true → t.val = 15 := by decide +kernel
theorem fl7 : ∀ t : Fin cfg0.N, t.val = 15 → (cfg0.win 7).flush t = true := by decide +kernel
theorem ct8 (X : Vec Ideal S1x256 .f32) (t : Fin cfg0.N) (r : Fin 1) (l : Fin 256) : (cfg0.win 8).cut (grid0.coords t) X (ix2 r l) = X (ix2 r l) := rfl
theorem last8 : ∀ t : Fin cfg0.N, (cfg0.win 8).flush t = true → t.val = 15 := by decide +kernel
theorem fl8 : ∀ t : Fin cfg0.N, t.val = 15 → (cfg0.win 8).flush t = true := by decide +kernel

/-- The column of the query's part of the latent. -/
abbrev lo (k : Fin 512) : Fin 896 := ⟨k.val, by omega⟩
/-- The column of the key's part of the latent. -/
abbrev hi (k : Fin 256) : Fin 896 := ⟨512 + k.val, by omega⟩
/-- The column of the rotated key's part of the latent. -/
abbrev kr (k : Fin 128) : Fin 896 := ⟨768 + k.val, by omega⟩
/-- The inverse root of a row's mean square. -/
abbrev rs {w : ℕ} (C : EReal) (x : Fin w → EReal) : EReal := Cert.Dot.rOf C (Ideal.ofBits .f32 0x358637BD#32) (∑ k, x k * x k)
/-- One entry of the gradient of a row in closed form. -/
abbrev gr {w : ℕ} (C : EReal) (x g d : Fin w → EReal) (l : Fin w) : EReal := rs C x * (d l * g l - x l * rs C x * ((∑ k, x k * rs C x * (d k * g k)) * C))

theorem pay8_at (x : Vec Ideal S512x896 .f32) (r : Fin 512) (l : Fin 256) : k0_pay8 x (ix2 r l) = x (ix2 r (hi l)) := by
  pointwise [k0_pay8]
theorem pay7_at (x : Vec Ideal S512x896 .f32) (r : Fin 512) (l : Fin 512) : k0_pay7 x (ix2 r l) = x (ix2 r (lo l)) := by
  pointwise [k0_pay7]
theorem pay9_at (x : Vec Ideal S512x896 .f32) (r : Fin 512) : k0_pay9 x (ix2 r 0) = rs (Ideal.ofBits .f32 0x3B000000#32) (fun k => x (ix2 r (lo k))) := by
  pointwise [k0_pay9, pay7_at]
theorem pay10_at (x : Vec Ideal S512x896 .f32) (r : Fin 512) : k0_pay10 x (ix2 r 0) = rs (Ideal.ofBits .f32 0x3B800000#32) (fun k => x (ix2 r (hi k))) := by
  pointwise [k0_pay10, pay8_at]
theorem pay11_at (x : Vec Ideal S512x896 .f32) (r : Fin 512) (l : Fin 512) : k0_pay11 x (ix2 r l) = x (ix2 r (lo l)) * rs (Ideal.ofBits .f32 0x3B000000#32) (fun k => x (ix2 r (lo k))) := by
  pointwise [k0_pay11, pay7_at, pay9_at]
theorem pay12_at (d : Vec Ideal S512x512 .f32) (x : Vec Ideal S512x896 .f32) (g : Vec Ideal S1x512 .f32) (r : Fin 512) (l : Fin 512) :
    k0_pay12 d x g (ix2 r l) = gr (Ideal.ofBits .f32 0x3B000000#32) (fun k => x (ix2 r (lo k))) (fun k => g (ix2 0 k)) (fun k => d (ix2 r k)) l := by
  pointwise [k0_pay12, pay11_at, pay9_at]
theorem pay2_at (x : Vec Ideal S512x896 .f32) (r : Fin 512) (l : Fin 256) : k0_pay2 (k0_pay8 x) (k0_pay10 x) (ix2 r l) = x (ix2 r (hi l)) * rs (Ideal.ofBits .f32 0x3B800000#32) (fun k => x (ix2 r (hi k))) := by
  pointwise [k0_pay2, pay8_at, pay10_at]
/-- A tile's gradient on the query's columns, the key's and the rotated key's. -/
theorem pay4_lo (d : Vec Ideal S512x256 .f32) (p : Vec Ideal S512x128 .f32) (g : Vec Ideal S1x256 .f32) (x : Vec Ideal S512x896 .f32) (q : FVec Ideal S512x512 .f32) (r : Fin 512) (l : Fin 512) :
    k0_pay4 d p g (k0_pay8 x) (k0_pay10 x) q (ix2 r (lo l)) = q (ix2 r l) := by
  pointwise [k0_pay4]
theorem pay4_hi (d : Vec Ideal S512x256 .f32) (p : Vec Ideal S512x128 .f32) (g : Vec Ideal S1x256 .f32) (x : Vec Ideal S512x896 .f32) (q : FVec Ideal S512x512 .f32) (r : Fin 512) (l : Fin 256) :
    k0_pay4 d p g (k0_pay8 x) (k0_pay10 x) q (ix2 r (hi l)) = gr (Ideal.ofBits .f32 0x3B800000#32) (fun k => x (ix2 r (hi k))) (fun k => g (ix2 0 k)) (fun k => d (ix2 r k)) l := by
  pointwise [k0_pay4, pay2_at, pay10_at]
theorem pay4_kr (d : Vec Ideal S512x256 .f32) (p : Vec Ideal S512x128 .f32) (g : Vec Ideal S1x256 .f32) (x : Vec Ideal S512x896 .f32) (q : FVec Ideal S512x512 .f32) (r : Fin 512) (l : Fin 128) :
    k0_pay4 d p g (k0_pay8 x) (k0_pay10 x) q (ix2 r (kr l)) = p (ix2 r l) := by
  pointwise [k0_pay4]
  rw [dif_neg (by omega), dif_neg (by omega)]
  exact congrArg (fun k => p (ix2 r k)) (Fin.ext (by simp only []; omega))
/-- A tile's share of the two weights' gradients. -/
theorem share7 (d : Vec Ideal S512x512 .f32) (x : Vec Ideal S512x896 .f32) (l : Fin 512) :
    k0_pay1 (k0_pay13 d x) (ix2 0 l) = ∑ r : Fin 512, d (ix2 r l) * (x (ix2 r (lo l)) * rs (Ideal.ofBits .f32 0x3B000000#32) (fun k => x (ix2 r (lo k)))) := by
  pointwise [k0_pay1, k0_pay13, pay11_at]
theorem share8 (d : Vec Ideal S512x256 .f32) (x : Vec Ideal S512x896 .f32) (l : Fin 256) :
    k0_pay3 d (k0_pay8 x) (k0_pay10 x) (ix2 0 l) = ∑ r : Fin 512, d (ix2 r l) * (x (ix2 r (hi l)) * rs (Ideal.ofBits .f32 0x3B800000#32) (fun k => x (ix2 r (hi k)))) := by
  pointwise [k0_pay3, pay2_at]
theorem pay5_at (q : FVec Ideal S512x512 .f32) (p : Vec Ideal S1x512 .f32) (l : Fin 512) : k0_pay5 q p (ix2 0 l) = p (ix2 0 l) + k0_pay1 q (ix2 0 l) := by
  pointwise [k0_pay5]
theorem pay6_at (d : Vec Ideal S512x256 .f32) (q : FVec Ideal S512x256 .f32) (s : FVec Ideal S512x1 .f32) (p : Vec Ideal S1x256 .f32) (l : Fin 256) : k0_pay6 d q s p (ix2 0 l) = p (ix2 0 l) + k0_pay3 d q s (ix2 0 l) := by
  pointwise [k0_pay6]

variable (m : (ℓ : Loc nD τ sig) → Buf (Elt Ideal) ℓ) (c : Dev nD)

/-- The gradient of the query's normalised part. -/
abbrev mdq : FVec Ideal S8192x512 .f32 := m (c, Proc.devRef .tc main_arg0)
/-- The gradient of the key's normalised part. -/
abbrev mdk : FVec Ideal S8192x256 .f32 := m (c, Proc.devRef .tc main_arg1)
/-- The gradient of the rotated key's part. -/
abbrev mdr : FVec Ideal S8192x128 .f32 := m (c, Proc.devRef .tc main_arg2)
/-- The latent. -/
abbrev mx : FVec Ideal S8192x896 .f32 := m (c, Proc.devRef .tc main_arg3)
/-- The weight of the query's norm. -/
abbrev mgq : FVec Ideal S1x512 .f32 := m (c, Proc.devRef .tc main_arg4)
/-- The weight of the key's norm. -/
abbrev mgk : FVec Ideal S1x256 .f32 := m (c, Proc.devRef .tc main_arg5)
theorem ia0 (t : Fin cfg0.N) : iblk m c 0 t = ((cfg0.win 0).blk t).view.read (Elt Ideal) (mdq m c) :=
  congrArg (fun X => ((cfg0.win 0).blk t).view.read (Elt Ideal) X) (V_main_arg0 m c)
theorem ia1 (t : Fin cfg0.N) : iblk m c 1 t = ((cfg0.win 1).blk t).view.read (Elt Ideal) (mdk m c) :=
  congrArg (fun X => ((cfg0.win 1).blk t).view.read (Elt Ideal) X) (V_main_arg1 m c)
theorem ia2 (t : Fin cfg0.N) : iblk m c 2 t = ((cfg0.win 2).blk t).view.read (Elt Ideal) (mdr m c) :=
  congrArg (fun X => ((cfg0.win 2).blk t).view.read (Elt Ideal) X) (V_main_arg2 m c)
theorem ia3 (t : Fin cfg0.N) : iblk m c 3 t = ((cfg0.win 3).blk t).view.read (Elt Ideal) (mx m c) :=
  congrArg (fun X => ((cfg0.win 3).blk t).view.read (Elt Ideal) X) (V_main_arg3 m c)
theorem ia4 (t : Fin cfg0.N) : iblk m c 4 t = ((cfg0.win 4).blk t).view.read (Elt Ideal) (mgq m c) :=
  congrArg (fun X => ((cfg0.win 4).blk t).view.read (Elt Ideal) X) (V_main_arg4 m c)
theorem ia5 (t : Fin cfg0.N) : iblk m c 5 t = ((cfg0.win 5).blk t).view.read (Elt Ideal) (mgk m c) :=
  congrArg (fun X => ((cfg0.win 5).blk t).view.read (Elt Ideal) X) (V_main_arg5 m c)

/-- What a grid point leaves in the tile of the latent's gradient. -/
theorem tile6 (t : Fin cfg0.N) : (outsAt0 m c t.val t.isLt).1 = k0_pay4 (iblk m c 1 t) (iblk m c 2 t) (iblk m c 5 t) (k0_pay8 (iblk m c 3 t)) (k0_pay10 (iblk m c 3 t)) (k0_pay12 (iblk m c 0 t) (iblk m c 3 t) (iblk m c 4 t)) := by
  have hN : t.val < 16 := lt_of_lt_of_eq t.isLt N_0
  by_cases h : t.val = 0
  · rw [outsAt0_A m c t (by omega) (by omega) (by omega) (by omega)]
    dsimp only
    unfold out0_A_6
    frame_out
  · rw [outsAt0_B m c t (by omega) (by omega) (by omega) (by omega)]
    dsimp only
    unfold out0_B_6
    frame_out

/-- What the first grid point leaves in a weight's gradient. -/
theorem zero7 (t : Fin cfg0.N) (h : t.val = 0) : (outsAt0 m c t.val t.isLt).2.1 = k0_pay1 (k0_pay13 (iblk m c 0 t) (iblk m c 3 t)) := by
  rw [outsAt0_A m c t (by omega) (by omega) (by omega) (by omega)]
  dsimp only
  unfold out0_A_7
  frame_out
/-- What a later grid point leaves there. -/
theorem succ7 (t : Fin cfg0.N) (h : 1 ≤ t.val) : (outsAt0 m c t.val t.isLt).2.1 = k0_pay5 (k0_pay13 (iblk m c 0 t) (iblk m c 3 t)) (outsAt0 m c (t.val - 1) (Nat.lt_of_le_of_lt (Nat.sub_le _ _) t.isLt)).2.1 := by
  have hN : t.val < 16 := lt_of_lt_of_eq t.isLt N_0
  rw [outsAt0_B m c t (by omega) h (by omega) h]
  dsimp only
  unfold out0_B_7
  frame_out
/-- One row's share of a weight's gradient. -/
abbrev wrow7 (l : Fin 512) (a : ℕ) : EReal := if h : a < 8192 then mdq m c (ix2 ⟨a, h⟩ l) * (mx m c (ix2 ⟨a, h⟩ (lo l)) * rs (Ideal.ofBits .f32 0x3B000000#32) (fun k => mx m c (ix2 ⟨a, h⟩ (lo k)))) else 0
theorem sum7 (t : Fin cfg0.N) (l : Fin 512) : k0_pay1 (k0_pay13 (iblk m c 0 t) (iblk m c 3 t)) (ix2 0 l) = ∑ r : Fin 512, wrow7 m c l (512 * t.val + r.val) := by
  have hN : t.val < 16 := lt_of_lt_of_eq t.isLt N_0
  rw [share7]
  refine Finset.sum_congr rfl fun r _ => ?_
  have hr : 512 * t.val + r.val < 8192 := by omega
  have e0 : (fun k : Fin 512 => (iblk m c 3 t : Vec Ideal S512x896 .f32) (ix2 r (lo k))) = fun k => mx m c (ix2 ⟨_, hr⟩ (lo k)) := by
    rw [ia3]
    exact funext fun k => rb3 _ t r _ ⟨_, hr⟩ _ rfl (by simp)
  rw [wrow7, dif_pos hr, e0, ia0, ia3, rb0 _ t r l ⟨_, hr⟩ l rfl (by omega), rb3 _ t r (lo l) ⟨_, hr⟩ (lo l) rfl (by simp)]
/-- A weight's gradient after a number of tiles is the sum over their rows. -/
theorem acc7 (l : Fin 512) : ∀ (n : ℕ) (hn : n < cfg0.N), (outsAt0 m c n hn).2.1 (ix2 0 l) = ∑ a ∈ Finset.range (512 * (n + 1)), wrow7 m c l a := by
  intro n
  induction n with
  | zero =>
    intro hn
    rw [zero7 m c ⟨0, hn⟩ rfl, sum7, Cert.Dot.tiles]
    simp only [Nat.mul_zero, Finset.range_zero, Finset.sum_empty, zero_add]
  | succ n ih =>
    intro hn
    rw [succ7 m c ⟨n + 1, hn⟩ (by dsimp only; omega), Cert.Dot.tiles _ _ (n + 1), ← ih (by omega), ← sum7 m c ⟨n + 1, hn⟩]
    exact pay5_at _ _ l
/-- An entry of a weight's gradient after the run. -/
theorem arr7 (b : Fin 512) : (dats m 0 c).arrAt 7 cfg0.N (ix2 0 b) = ∑ a : Fin 8192, mdq m c (ix2 a b) * (mx m c (ix2 a (lo b)) * rs (Ideal.ofBits .f32 0x3B000000#32) (fun k => mx m c (ix2 a (lo k)))) := by
  have hp : 15 < cfg0.N := by rw [show cfg0.N = 16 from N_0]; omega
  have e := congrFun ((dats m 0 c).read_blk_arrAt_eq_flushed 7 (fun t t' h h' hne => absurd (Fin.ext ((last7 t h).trans (last7 t' h').symm)) hne) cfg0.N ⟨15, hp⟩ hp (fl7 _ rfl)) (ix2 0 b)
  rw [rb7 _ _ _ _ 0 b (by simp) (by omega), Value.flushed7, ct7, acc7] at e
  have s : ∑ a ∈ Finset.range 8192, wrow7 m c b a = ∑ a : Fin 8192, mdq m c (ix2 a b) * (mx m c (ix2 a (lo b)) * rs (Ideal.ofBits .f32 0x3B000000#32) (fun k => mx m c (ix2 a (lo k)))) :=
    (Finset.sum_range _).trans (Finset.sum_congr rfl fun a _ => dif_pos a.isLt)
  exact e.trans s

/-- What the first grid point leaves in a weight's gradient. -/
theorem zero8 (t : Fin cfg0.N) (h : t.val = 0) : (outsAt0 m c t.val t.isLt).2.2 = k0_pay3 (iblk m c 1 t) (k0_pay8 (iblk m c 3 t)) (k0_pay10 (iblk m c 3 t)) := by
  rw [outsAt0_A m c t (by omega) (by omega) (by omega) (by omega)]
  dsimp only
  unfold out0_A_8
  frame_out
/-- What a later grid point leaves there. -/
theorem succ8 (t : Fin cfg0.N) (h : 1 ≤ t.val) : (outsAt0 m c t.val t.isLt).2.2 = k0_pay6 (iblk m c 1 t) (k0_pay8 (iblk m c 3 t)) (k0_pay10 (iblk m c 3 t)) (outsAt0 m c (t.val - 1) (Nat.lt_of_le_of_lt (Nat.sub_le _ _) t.isLt)).2.2 := by
  have hN : t.val < 16 := lt_of_lt_of_eq t.isLt N_0
  rw [outsAt0_B m c t (by omega) h (by omega) h]
  dsimp only
  unfold out0_B_8
  frame_out
/-- One row's share of a weight's gradient. -/
abbrev wrow8 (l : Fin 256) (a : ℕ) : EReal := if h : a < 8192 then mdk m c (ix2 ⟨a, h⟩ l) * (mx m c (ix2 ⟨a, h⟩ (hi l)) * rs (Ideal.ofBits .f32 0x3B800000#32) (fun k => mx m c (ix2 ⟨a, h⟩ (hi k)))) else 0
theorem sum8 (t : Fin cfg0.N) (l : Fin 256) : k0_pay3 (iblk m c 1 t) (k0_pay8 (iblk m c 3 t)) (k0_pay10 (iblk m c 3 t)) (ix2 0 l) = ∑ r : Fin 512, wrow8 m c l (512 * t.val + r.val) := by
  have hN : t.val < 16 := lt_of_lt_of_eq t.isLt N_0
  rw [share8]
  refine Finset.sum_congr rfl fun r _ => ?_
  have hr : 512 * t.val + r.val < 8192 := by omega
  have e0 : (fun k : Fin 256 => (iblk m c 3 t : Vec Ideal S512x896 .f32) (ix2 r (hi k))) = fun k => mx m c (ix2 ⟨_, hr⟩ (hi k)) := by
    rw [ia3]
    exact funext fun k => rb3 _ t r _ ⟨_, hr⟩ _ rfl (by simp)
  rw [wrow8, dif_pos hr, e0, ia1, ia3, rb1 _ t r l ⟨_, hr⟩ l rfl (by omega), rb3 _ t r (hi l) ⟨_, hr⟩ (hi l) rfl (by simp)]
/-- A weight's gradient after a number of tiles is the sum over their rows. -/
theorem acc8 (l : Fin 256) : ∀ (n : ℕ) (hn : n < cfg0.N), (outsAt0 m c n hn).2.2 (ix2 0 l) = ∑ a ∈ Finset.range (512 * (n + 1)), wrow8 m c l a := by
  intro n
  induction n with
  | zero =>
    intro hn
    rw [zero8 m c ⟨0, hn⟩ rfl, sum8, Cert.Dot.tiles]
    simp only [Nat.mul_zero, Finset.range_zero, Finset.sum_empty, zero_add]
  | succ n ih =>
    intro hn
    rw [succ8 m c ⟨n + 1, hn⟩ (by dsimp only; omega), Cert.Dot.tiles _ _ (n + 1), ← ih (by omega), ← sum8 m c ⟨n + 1, hn⟩]
    exact pay6_at _ _ _ _ l
/-- An entry of a weight's gradient after the run. -/
theorem arr8 (b : Fin 256) : (dats m 0 c).arrAt 8 cfg0.N (ix2 0 b) = ∑ a : Fin 8192, mdk m c (ix2 a b) * (mx m c (ix2 a (hi b)) * rs (Ideal.ofBits .f32 0x3B800000#32) (fun k => mx m c (ix2 a (hi k)))) := by
  have hp : 15 < cfg0.N := by rw [show cfg0.N = 16 from N_0]; omega
  have e := congrFun ((dats m 0 c).read_blk_arrAt_eq_flushed 8 (fun t t' h h' hne => absurd (Fin.ext ((last8 t h).trans (last8 t' h').symm)) hne) cfg0.N ⟨15, hp⟩ hp (fl8 _ rfl)) (ix2 0 b)
  rw [rb8 _ _ _ _ 0 b (by simp) (by omega), Value.flushed8, ct8, acc8] at e
  have s : ∑ a ∈ Finset.range 8192, wrow8 m c b a = ∑ a : Fin 8192, mdk m c (ix2 a b) * (mx m c (ix2 a (hi b)) * rs (Ideal.ofBits .f32 0x3B800000#32) (fun k => mx m c (ix2 a (hi k)))) :=
    (Finset.sum_range _).trans (Finset.sum_congr rfl fun a _ => dif_pos a.isLt)
  exact e.trans s

/-- An entry of the latent's gradient after the run. -/
theorem arr_lo (a : Fin 8192) (b : Fin 512) : (dats m 0 c).arrAt 6 cfg0.N (ix2 a (lo b)) = gr (Ideal.ofBits .f32 0x3B000000#32) (fun k => mx m c (ix2 a (lo k))) (fun k => mgq m c (ix2 0 k)) (fun k => mdq m c (ix2 a k)) b := by
  have hp : a.val / 512 < cfg0.N := by rw [show cfg0.N = 16 from N_0]; omega
  have ha : a.val = 512 * (a.val / 512) + a.val % 512 := by omega
  have e := congrFun (Value.blocks6 m c ⟨_, hp⟩ (fl6 _)) (ix2 ⟨a.val % 512, by omega⟩ (lo b))
  rw [rb6 _ _ _ _ a (lo b) ha (by simp), Value.flushed6, ct6, tile6, pay4_lo, pay12_at, ia0, ia3, ia4] at e
  have e0 : (fun k : Fin 512 => ((cfg0.win 3).blk ⟨_, hp⟩).view.read (Elt Ideal) (mx m c) (ix2 (⟨a.val % 512, by omega⟩ : Fin 512) (lo k))) = fun k => mx m c (ix2 a (lo k)) := funext fun k => rb3 _ _ _ _ a _ ha (by simp)
  have e1 : (fun k : Fin 512 => ((cfg0.win 4).blk ⟨_, hp⟩).view.read (Elt Ideal) (mgq m c) (ix2 (0 : Fin 1) k)) = fun k => mgq m c (ix2 0 k) := funext fun k => rb4 _ _ _ _ 0 k (by simp) (by omega)
  have e2 : (fun k : Fin 512 => ((cfg0.win 0).blk ⟨_, hp⟩).view.read (Elt Ideal) (mdq m c) (ix2 (⟨a.val % 512, by omega⟩ : Fin 512) k)) = fun k => mdq m c (ix2 a k) := funext fun k => rb0 _ _ _ _ a k ha (by omega)
  rw [e, e0, e1, e2]

/-- An entry of the latent's gradient after the run. -/
theorem arr_hi (a : Fin 8192) (b : Fin 256) : (dats m 0 c).arrAt 6 cfg0.N (ix2 a (hi b)) = gr (Ideal.ofBits .f32 0x3B800000#32) (fun k => mx m c (ix2 a (hi k))) (fun k => mgk m c (ix2 0 k)) (fun k => mdk m c (ix2 a k)) b := by
  have hp : a.val / 512 < cfg0.N := by rw [show cfg0.N = 16 from N_0]; omega
  have ha : a.val = 512 * (a.val / 512) + a.val % 512 := by omega
  have e := congrFun (Value.blocks6 m c ⟨_, hp⟩ (fl6 _)) (ix2 ⟨a.val % 512, by omega⟩ (hi b))
  rw [rb6 _ _ _ _ a (hi b) ha (by simp), Value.flushed6, ct6, tile6, pay4_hi, ia1, ia3, ia5] at e
  have e0 : (fun k : Fin 256 => ((cfg0.win 3).blk ⟨_, hp⟩).view.read (Elt Ideal) (mx m c) (ix2 (⟨a.val % 512, by omega⟩ : Fin 512) (hi k))) = fun k => mx m c (ix2 a (hi k)) := funext fun k => rb3 _ _ _ _ a _ ha (by simp)
  have e1 : (fun k : Fin 256 => ((cfg0.win 5).blk ⟨_, hp⟩).view.read (Elt Ideal) (mgk m c) (ix2 (0 : Fin 1) k)) = fun k => mgk m c (ix2 0 k) := funext fun k => rb5 _ _ _ _ 0 k (by simp) (by omega)
  have e2 : (fun k : Fin 256 => ((cfg0.win 1).blk ⟨_, hp⟩).view.read (Elt Ideal) (mdk m c) (ix2 (⟨a.val % 512, by omega⟩ : Fin 512) k)) = fun k => mdk m c (ix2 a k) := funext fun k => rb1 _ _ _ _ a k ha (by omega)
  rw [e, e0, e1, e2]

/-- An entry of the latent's gradient after the run. -/
theorem arr_kr (a : Fin 8192) (b : Fin 128) : (dats m 0 c).arrAt 6 cfg0.N (ix2 a (kr b)) = mdr m c (ix2 a b) := by
  have hp : a.val / 512 < cfg0.N := by rw [show cfg0.N = 16 from N_0]; omega
  have ha : a.val = 512 * (a.val / 512) + a.val % 512 := by omega
  have e := congrFun (Value.blocks6 m c ⟨_, hp⟩ (fl6 _)) (ix2 ⟨a.val % 512, by omega⟩ (kr b))
  rw [rb6 _ _ _ _ a (kr b) ha (by simp), Value.flushed6, ct6, tile6, pay4_kr, ia2, rb2 _ _ _ _ a b ha (by omega)] at e
  exact e

end Cert.KernelLatBIdeal.Prod

namespace Cert.ReferenceLatBIdeal.Prod
open Cert.ReferenceLatBIdeal Cert.ReferenceLatBIdeal.Gen Idealize.ShloMosaic Idealize.ShloMosaic.TcCoe Idealize.SL.Sem

/-- The latent's gradient is put together from its three parts. -/
theorem part_lo (A : FVec Ideal S8192x512 .f32) (B : FVec Ideal S8192x256 .f32) (u : FVec Ideal S8192x128 .f32) (a : Fin 8192) (b : Fin 512) : (truncf .bf16 (addf (addf (pad S8192x896 ![0, 768] ![0, 0] ![0, 0] u (constant S_ .f32 0x00000000#32) pads_S8192x128_S8192x896_000_76800 h_S_) (pad S8192x896 ![0, 512] ![0, 128] ![0, 0] B (constant S_ .f32 0x00000000#32) pads_S8192x256_S8192x896_000_5121280 h_S_)) (pad S8192x896 ![0, 0] ![0, 384] ![0, 0] A (constant S_ .f32 0x00000000#32) pads_S8192x512_S8192x896_000_03840 h_S_)) bitsLt_bf16_f32 : FVec Ideal S8192x896 .bf16) (ix2 a (Cert.KernelLatBIdeal.Prod.lo b)) = A (ix2 a b) := by
  pointwise []
  rw [dif_neg (by omega), dif_neg (by simp)]
  exact (congrArg (fun s : EReal => s + A (ix2 a b)) (zero_add (0 : EReal))).trans (zero_add _)
theorem part_hi (A : FVec Ideal S8192x512 .f32) (B : FVec Ideal S8192x256 .f32) (u : FVec Ideal S8192x128 .f32) (a : Fin 8192) (b : Fin 256) : (truncf .bf16 (addf (addf (pad S8192x896 ![0, 768] ![0, 0] ![0, 0] u (constant S_ .f32 0x00000000#32) pads_S8192x128_S8192x896_000_76800 h_S_) (pad S8192x896 ![0, 512] ![0, 128] ![0, 0] B (constant S_ .f32 0x00000000#32) pads_S8192x256_S8192x896_000_5121280 h_S_)) (pad S8192x896 ![0, 0] ![0, 384] ![0, 0] A (constant S_ .f32 0x00000000#32) pads_S8192x512_S8192x896_000_03840 h_S_)) bitsLt_bf16_f32 : FVec Ideal S8192x896 .bf16) (ix2 a (Cert.KernelLatBIdeal.Prod.hi b)) = B (ix2 a b) := by
  pointwise []
  rw [dif_neg (by omega)]
  exact zero_add _
theorem part_kr (A : FVec Ideal S8192x512 .f32) (B : FVec Ideal S8192x256 .f32) (u : FVec Ideal S8192x128 .f32) (a : Fin 8192) (b : Fin 128) : (truncf .bf16 (addf (addf (pad S8192x896 ![0, 768] ![0, 0] ![0, 0] u (constant S_ .f32 0x00000000#32) pads_S8192x128_S8192x896_000_76800 h_S_) (pad S8192x896 ![0, 512] ![0, 128] ![0, 0] B (constant S_ .f32 0x00000000#32) pads_S8192x256_S8192x896_000_5121280 h_S_)) (pad S8192x896 ![0, 0] ![0, 384] ![0, 0] A (constant S_ .f32 0x00000000#32) pads_S8192x512_S8192x896_000_03840 h_S_)) bitsLt_bf16_f32 : FVec Ideal S8192x896 .bf16) (ix2 a (Cert.KernelLatBIdeal.Prod.kr b)) = u (ix2 a b) := by
  pointwise []
  rw [dif_neg (by omega), dif_neg (by omega)]
  exact (add_zero _).trans (add_zero _)

/-- The mean square of a row with the constant added. -/
theorem var512 (v : FVec Ideal S8192x896 .f32) (a : Fin 8192) : ((addf (Host.divf (broadcastInDim S8192x1 ![0] bcast_S8192_S8192x1_0 (Host.reduceAdd (mulf (extractStridedSlice S8192x512 ![0, 0] v slices_S8192x896_S8192x512_0_0) (extractStridedSlice S8192x512 ![0, 0] v slices_S8192x896_S8192x512_0_0)) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32))) : FVec Ideal S8192x1 .f32) (ix2 a 0) = (∑ k : Fin 512, v (ix2 a (Cert.KernelLatBIdeal.Prod.lo k)) * v (ix2 a (Cert.KernelLatBIdeal.Prod.lo k))) * (Ideal.ofBits .f32 0x3B000000#32) + (Ideal.ofBits .f32 0x358637BD#32) := by
  rw [← Cert.Dot.mean512]
  pointwise []
theorem raw512 (x : FVec Ideal S8192x512 .f32) (v : FVec Ideal S8192x896 .f32) (p : FVec Ideal S1x512 .f32) (w : FVec Ideal S8192x1 .f32) (a : Fin 8192) (b : Fin 512) :
    ((addf (addf (mulf (mulf x (broadcastInDim S8192x512 ![0, 1] bcast_S1x512_S8192x512_0_1 p)) (broadcastInDim S8192x512 ![0, 1] bcast_S8192x1_S8192x512_0_1 (Host.rsqrt w))) (mulf (extractStridedSlice S8192x512 ![0, 0] v slices_S8192x896_S8192x512_0_0) (broadcastInDim S8192x512 ![0] bcast_S8192_S8192x512_0 (Host.reduceAdd (Host.divf (mulf (shapeCast _ (Host.reduceAdd (mulf (extractStridedSlice S8192x512 ![0, 0] v slices_S8192x896_S8192x512_0_0) (mulf x (broadcastInDim S8192x512 ![0, 1] bcast_S1x512_S8192x512_0_1 p))) (constant S_ .f32 0x00000000#32) reducesTo_S8192x512_S8192_d1 h_S_) shapeCasts_S8192_S8192x1) (mulf (broadcastInDim S8192x1 ![] bcast_S_S8192x1 (constant S_ .f32 0xBF000000#32)) (Host.divf (Host.rsqrt w) w))) (broadcastInDim S8192x1 ![] bcast_S_S8192x1 (constant S_ .f32 0x44000000#32))) (constant S_ .f32 0x00000000#32) reducesTo_S8192x1_S8192_d1 h_S_)))) (mulf (broadcastInDim S8192x512 ![0] bcast_S8192_S8192x512_0 (Host.reduceAdd (Host.divf (mulf (shapeCast _ (Host.reduceAdd (mulf (extractStridedSlice S8192x512 ![0, 0] v slices_S8192x896_S8192x512_0_0) (mulf x (broadcastInDim S8192x512 ![0, 1] bcast_S1x512_S8192x512_0_1 p))) (constant S_ .f32 0x00000000#32) reducesTo_S8192x512_S8192_d1 h_S_) shapeCasts_S8192_S8192x1) (mulf (broadcastInDim S8192x1 ![] bcast_S_S8192x1 (constant S_ .f32 0xBF000000#32)) (Host.divf (Host.rsqrt w) w))) (broadcastInDim S8192x1 ![] bcast_S_S8192x1 (constant S_ .f32 0x44000000#32))) (constant S_ .f32 0x00000000#32) reducesTo_S8192x1_S8192_d1 h_S_)) (extractStridedSlice S8192x512 ![0, 0] v slices_S8192x896_S8192x512_0_0))) : FVec Ideal S8192x512 .f32) (ix2 a b) = x (ix2 a b) * p (ix2 0 b) * Ideal.rsqrt (w (ix2 a 0)) + v (ix2 a (Cert.KernelLatBIdeal.Prod.lo b)) * Ideal.div ((∑ k : Fin 512, v (ix2 a (Cert.KernelLatBIdeal.Prod.lo k)) * (x (ix2 a k) * p (ix2 0 k))) * (Ideal.ofBits .f32 0xBF000000#32 * Ideal.div (Ideal.rsqrt (w (ix2 a 0))) (w (ix2 a 0)))) (Ideal.ofBits .f32 0x44000000#32) + Ideal.div ((∑ k : Fin 512, v (ix2 a (Cert.KernelLatBIdeal.Prod.lo k)) * (x (ix2 a k) * p (ix2 0 k))) * (Ideal.ofBits .f32 0xBF000000#32 * Ideal.div (Ideal.rsqrt (w (ix2 a 0))) (w (ix2 a 0)))) (Ideal.ofBits .f32 0x44000000#32) * v (ix2 a (Cert.KernelLatBIdeal.Prod.lo b)) := by
  pointwise []
  simp only [Finset.univ_unique, Finset.sum_singleton]
  rfl
/-- An entry of one part of the reference's gradient of the latent. -/
theorem row512 (x : FVec Ideal S8192x512 .f32) (v : FVec Ideal S8192x896 .f32) (p : FVec Ideal S1x512 .f32) (a : Fin 8192) (b : Fin 512) :
    ((addf (addf (mulf (mulf x (broadcastInDim S8192x512 ![0, 1] bcast_S1x512_S8192x512_0_1 p)) (broadcastInDim S8192x512 ![0, 1] bcast_S8192x1_S8192x512_0_1 (Host.rsqrt (addf (Host.divf (broadcastInDim S8192x1 ![0] bcast_S8192_S8192x1_0 (Host.reduceAdd (mulf (extractStridedSlice S8192x512 ![0, 0] v slices_S8192x896_S8192x512_0_0) (extractStridedSlice S8192x512 ![0, 0] v slices_S8192x896_S8192x512_0_0)) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) (mulf (extractStridedSlice S8192x512 ![0, 0] v slices_S8192x896_S8192x512_0_0) (broadcastInDim S8192x512 ![0] bcast_S8192_S8192x512_0 (Host.reduceAdd (Host.divf (mulf (shapeCast _ (Host.reduceAdd (mulf (extractStridedSlice S8192x512 ![0, 0] v slices_S8192x896_S8192x512_0_0) (mulf x (broadcastInDim S8192x512 ![0, 1] bcast_S1x512_S8192x512_0_1 p))) (constant S_ .f32 0x00000000#32) reducesTo_S8192x512_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf (extractStridedSlice S8192x512 ![0, 0] v slices_S8192x896_S8192x512_0_0) (extractStridedSlice S8192x512 ![0, 0] v slices_S8192x896_S8192x512_0_0)) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))) (addf (Host.divf (broadcastInDim S8192x1 ![0] bcast_S8192_S8192x1_0 (Host.reduceAdd (mulf (extractStridedSlice S8192x512 ![0, 0] v slices_S8192x896_S8192x512_0_0) (extractStridedSlice S8192x512 ![0, 0] v slices_S8192x896_S8192x512_0_0)) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) (broadcastInDim S8192x1 ![] bcast_S_S8192x1 (constant S_ .f32 0x44000000#32))) (constant S_ .f32 0x00000000#32) reducesTo_S8192x1_S8192_d1 h_S_)))) (mulf (broadcastInDim S8192x512 ![0] bcast_S8192_S8192x512_0 (Host.reduceAdd (Host.divf (mulf (shapeCast _ (Host.reduceAdd (mulf (extractStridedSlice S8192x512 ![0, 0] v slices_S8192x896_S8192x512_0_0) (mulf x (broadcastInDim S8192x512 ![0, 1] bcast_S1x512_S8192x512_0_1 p))) (constant S_ .f32 0x00000000#32) reducesTo_S8192x512_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf (extractStridedSlice S8192x512 ![0, 0] v slices_S8192x896_S8192x512_0_0) (extractStridedSlice S8192x512 ![0, 0] v slices_S8192x896_S8192x512_0_0)) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))) (addf (Host.divf (broadcastInDim S8192x1 ![0] bcast_S8192_S8192x1_0 (Host.reduceAdd (mulf (extractStridedSlice S8192x512 ![0, 0] v slices_S8192x896_S8192x512_0_0) (extractStridedSlice S8192x512 ![0, 0] v slices_S8192x896_S8192x512_0_0)) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) (broadcastInDim S8192x1 ![] bcast_S_S8192x1 (constant S_ .f32 0x44000000#32))) (constant S_ .f32 0x00000000#32) reducesTo_S8192x1_S8192_d1 h_S_)) (extractStridedSlice S8192x512 ![0, 0] v slices_S8192x896_S8192x512_0_0))) : FVec Ideal S8192x512 .f32) (ix2 a b) = Cert.KernelLatBIdeal.Prod.gr (Ideal.ofBits .f32 0x3B000000#32) (fun k => v (ix2 a (Cert.KernelLatBIdeal.Prod.lo k))) (fun k => p (ix2 0 k)) (fun k => x (ix2 a k)) b := by
  rw [raw512 x v p (addf (Host.divf (broadcastInDim S8192x1 ![0] bcast_S8192_S8192x1_0 (Host.reduceAdd (mulf (extractStridedSlice S8192x512 ![0, 0] v slices_S8192x896_S8192x512_0_0) (extractStridedSlice S8192x512 ![0, 0] v slices_S8192x896_S8192x512_0_0)) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32))) a b, var512 v a]
  exact Cert.Dot.grad_row 512 (by norm_num) (Ideal.ofBits .f32 0x44000000#32) (Ideal.ofBits .f32 0x3B000000#32) Cert.Dot.width512 Cert.Dot.inv_width512
    (fun k => v (ix2 a (Cert.KernelLatBIdeal.Prod.lo k))) (fun k => p (ix2 0 k)) (fun k => x (ix2 a k)) b
/-- An entry of the reference's gradient of a weight. -/
theorem wt512 (x : FVec Ideal S8192x512 .f32) (v : FVec Ideal S8192x896 .f32) (b : Fin 512) :
    (shapeCast _ (Host.reduceAdd (mulf (mulf (extractStridedSlice S8192x512 ![0, 0] v slices_S8192x896_S8192x512_0_0) (broadcastInDim S8192x512 ![0, 1] bcast_S8192x1_S8192x512_0_1 (Host.rsqrt (addf (Host.divf (broadcastInDim S8192x1 ![0] bcast_S8192_S8192x1_0 (Host.reduceAdd (mulf (extractStridedSlice S8192x512 ![0, 0] v slices_S8192x896_S8192x512_0_0) (extractStridedSlice S8192x512 ![0, 0] v slices_S8192x896_S8192x512_0_0)) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) x) (constant S_ .f32 0x00000000#32) reducesTo_S8192x512_S512_d0 h_S_) shapeCasts_S512_S1x512 : FVec Ideal S1x512 .f32) (ix2 0 b) = ∑ a : Fin 8192, x (ix2 a b) * (v (ix2 a (Cert.KernelLatBIdeal.Prod.lo b)) * Cert.KernelLatBIdeal.Prod.rs (Ideal.ofBits .f32 0x3B000000#32) (fun k => v (ix2 a (Cert.KernelLatBIdeal.Prod.lo k)))) := by
  have e : ∀ w : FVec Ideal S8192x1 .f32, (shapeCast _ (Host.reduceAdd (mulf (mulf (extractStridedSlice S8192x512 ![0, 0] v slices_S8192x896_S8192x512_0_0) (broadcastInDim S8192x512 ![0, 1] bcast_S8192x1_S8192x512_0_1 (Host.rsqrt w))) x) (constant S_ .f32 0x00000000#32) reducesTo_S8192x512_S512_d0 h_S_) shapeCasts_S512_S1x512 : FVec Ideal S1x512 .f32) (ix2 0 b) = ∑ a : Fin 8192, v (ix2 a (Cert.KernelLatBIdeal.Prod.lo b)) * Ideal.rsqrt (w (ix2 a 0)) * x (ix2 a b) := fun w => by pointwise []
  rw [e]
  refine Finset.sum_congr rfl fun a _ => ?_
  rw [var512, mul_comm]

/-- The mean square of a row with the constant added. -/
theorem var256 (v : FVec Ideal S8192x896 .f32) (a : Fin 8192) : ((addf (Host.divf (broadcastInDim S8192x1 ![0] bcast_S8192_S8192x1_0 (Host.reduceAdd (mulf (extractStridedSlice S8192x256 ![0, 512] v slices_S8192x896_S8192x256_0_512) (extractStridedSlice S8192x256 ![0, 512] v slices_S8192x896_S8192x256_0_512)) (constant S_ .f32 0x00000000#32) reducesTo_S8192x256_S8192_d1 h_S_)) (broadcastInDim S8192x1 ![] bcast_S_S8192x1 (constant S_ .f32 0x43800000#32))) (broadcastInDim S8192x1 ![] bcast_S_S8192x1 (constant S_ .f32 0x358637BD#32))) : FVec Ideal S8192x1 .f32) (ix2 a 0) = (∑ k : Fin 256, v (ix2 a (Cert.KernelLatBIdeal.Prod.hi k)) * v (ix2 a (Cert.KernelLatBIdeal.Prod.hi k))) * (Ideal.ofBits .f32 0x3B800000#32) + (Ideal.ofBits .f32 0x358637BD#32) := by
  rw [← Cert.Dot.mean256]
  pointwise []
theorem raw256 (y : FVec Ideal S8192x256 .f32) (v : FVec Ideal S8192x896 .f32) (q : FVec Ideal S1x256 .f32) (w : FVec Ideal S8192x1 .f32) (a : Fin 8192) (b : Fin 256) :
    ((addf (addf (mulf (mulf y (broadcastInDim S8192x256 ![0, 1] bcast_S1x256_S8192x256_0_1 q)) (broadcastInDim S8192x256 ![0, 1] bcast_S8192x1_S8192x256_0_1 (Host.rsqrt w))) (mulf (extractStridedSlice S8192x256 ![0, 512] v slices_S8192x896_S8192x256_0_512) (broadcastInDim S8192x256 ![0] bcast_S8192_S8192x256_0 (Host.reduceAdd (Host.divf (mulf (shapeCast _ (Host.reduceAdd (mulf (extractStridedSlice S8192x256 ![0, 512] v slices_S8192x896_S8192x256_0_512) (mulf y (broadcastInDim S8192x256 ![0, 1] bcast_S1x256_S8192x256_0_1 q))) (constant S_ .f32 0x00000000#32) reducesTo_S8192x256_S8192_d1 h_S_) shapeCasts_S8192_S8192x1) (mulf (broadcastInDim S8192x1 ![] bcast_S_S8192x1 (constant S_ .f32 0xBF000000#32)) (Host.divf (Host.rsqrt w) w))) (broadcastInDim S8192x1 ![] bcast_S_S8192x1 (constant S_ .f32 0x43800000#32))) (constant S_ .f32 0x00000000#32) reducesTo_S8192x1_S8192_d1 h_S_)))) (mulf (broadcastInDim S8192x256 ![0] bcast_S8192_S8192x256_0 (Host.reduceAdd (Host.divf (mulf (shapeCast _ (Host.reduceAdd (mulf (extractStridedSlice S8192x256 ![0, 512] v slices_S8192x896_S8192x256_0_512) (mulf y (broadcastInDim S8192x256 ![0, 1] bcast_S1x256_S8192x256_0_1 q))) (constant S_ .f32 0x00000000#32) reducesTo_S8192x256_S8192_d1 h_S_) shapeCasts_S8192_S8192x1) (mulf (broadcastInDim S8192x1 ![] bcast_S_S8192x1 (constant S_ .f32 0xBF000000#32)) (Host.divf (Host.rsqrt w) w))) (broadcastInDim S8192x1 ![] bcast_S_S8192x1 (constant S_ .f32 0x43800000#32))) (constant S_ .f32 0x00000000#32) reducesTo_S8192x1_S8192_d1 h_S_)) (extractStridedSlice S8192x256 ![0, 512] v slices_S8192x896_S8192x256_0_512))) : FVec Ideal S8192x256 .f32) (ix2 a b) = y (ix2 a b) * q (ix2 0 b) * Ideal.rsqrt (w (ix2 a 0)) + v (ix2 a (Cert.KernelLatBIdeal.Prod.hi b)) * Ideal.div ((∑ k : Fin 256, v (ix2 a (Cert.KernelLatBIdeal.Prod.hi k)) * (y (ix2 a k) * q (ix2 0 k))) * (Ideal.ofBits .f32 0xBF000000#32 * Ideal.div (Ideal.rsqrt (w (ix2 a 0))) (w (ix2 a 0)))) (Ideal.ofBits .f32 0x43800000#32) + Ideal.div ((∑ k : Fin 256, v (ix2 a (Cert.KernelLatBIdeal.Prod.hi k)) * (y (ix2 a k) * q (ix2 0 k))) * (Ideal.ofBits .f32 0xBF000000#32 * Ideal.div (Ideal.rsqrt (w (ix2 a 0))) (w (ix2 a 0)))) (Ideal.ofBits .f32 0x43800000#32) * v (ix2 a (Cert.KernelLatBIdeal.Prod.hi b)) := by
  pointwise []
  simp only [Finset.univ_unique, Finset.sum_singleton]
  rfl
/-- An entry of one part of the reference's gradient of the latent. -/
theorem row256 (y : FVec Ideal S8192x256 .f32) (v : FVec Ideal S8192x896 .f32) (q : FVec Ideal S1x256 .f32) (a : Fin 8192) (b : Fin 256) :
    ((addf (addf (mulf (mulf y (broadcastInDim S8192x256 ![0, 1] bcast_S1x256_S8192x256_0_1 q)) (broadcastInDim S8192x256 ![0, 1] bcast_S8192x1_S8192x256_0_1 (Host.rsqrt (addf (Host.divf (broadcastInDim S8192x1 ![0] bcast_S8192_S8192x1_0 (Host.reduceAdd (mulf (extractStridedSlice S8192x256 ![0, 512] v slices_S8192x896_S8192x256_0_512) (extractStridedSlice S8192x256 ![0, 512] v slices_S8192x896_S8192x256_0_512)) (constant S_ .f32 0x00000000#32) reducesTo_S8192x256_S8192_d1 h_S_)) (broadcastInDim S8192x1 ![] bcast_S_S8192x1 (constant S_ .f32 0x43800000#32))) (broadcastInDim S8192x1 ![] bcast_S_S8192x1 (constant S_ .f32 0x358637BD#32)))))) (mulf (extractStridedSlice S8192x256 ![0, 512] v slices_S8192x896_S8192x256_0_512) (broadcastInDim S8192x256 ![0] bcast_S8192_S8192x256_0 (Host.reduceAdd (Host.divf (mulf (shapeCast _ (Host.reduceAdd (mulf (extractStridedSlice S8192x256 ![0, 512] v slices_S8192x896_S8192x256_0_512) (mulf y (broadcastInDim S8192x256 ![0, 1] bcast_S1x256_S8192x256_0_1 q))) (constant S_ .f32 0x00000000#32) reducesTo_S8192x256_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf (extractStridedSlice S8192x256 ![0, 512] v slices_S8192x896_S8192x256_0_512) (extractStridedSlice S8192x256 ![0, 512] v slices_S8192x896_S8192x256_0_512)) (constant S_ .f32 0x00000000#32) reducesTo_S8192x256_S8192_d1 h_S_)) (broadcastInDim S8192x1 ![] bcast_S_S8192x1 (constant S_ .f32 0x43800000#32))) (broadcastInDim S8192x1 ![] bcast_S_S8192x1 (constant S_ .f32 0x358637BD#32)))) (addf (Host.divf (broadcastInDim S8192x1 ![0] bcast_S8192_S8192x1_0 (Host.reduceAdd (mulf (extractStridedSlice S8192x256 ![0, 512] v slices_S8192x896_S8192x256_0_512) (extractStridedSlice S8192x256 ![0, 512] v slices_S8192x896_S8192x256_0_512)) (constant S_ .f32 0x00000000#32) reducesTo_S8192x256_S8192_d1 h_S_)) (broadcastInDim S8192x1 ![] bcast_S_S8192x1 (constant S_ .f32 0x43800000#32))) (broadcastInDim S8192x1 ![] bcast_S_S8192x1 (constant S_ .f32 0x358637BD#32)))))) (broadcastInDim S8192x1 ![] bcast_S_S8192x1 (constant S_ .f32 0x43800000#32))) (constant S_ .f32 0x00000000#32) reducesTo_S8192x1_S8192_d1 h_S_)))) (mulf (broadcastInDim S8192x256 ![0] bcast_S8192_S8192x256_0 (Host.reduceAdd (Host.divf (mulf (shapeCast _ (Host.reduceAdd (mulf (extractStridedSlice S8192x256 ![0, 512] v slices_S8192x896_S8192x256_0_512) (mulf y (broadcastInDim S8192x256 ![0, 1] bcast_S1x256_S8192x256_0_1 q))) (constant S_ .f32 0x00000000#32) reducesTo_S8192x256_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf (extractStridedSlice S8192x256 ![0, 512] v slices_S8192x896_S8192x256_0_512) (extractStridedSlice S8192x256 ![0, 512] v slices_S8192x896_S8192x256_0_512)) (constant S_ .f32 0x00000000#32) reducesTo_S8192x256_S8192_d1 h_S_)) (broadcastInDim S8192x1 ![] bcast_S_S8192x1 (constant S_ .f32 0x43800000#32))) (broadcastInDim S8192x1 ![] bcast_S_S8192x1 (constant S_ .f32 0x358637BD#32)))) (addf (Host.divf (broadcastInDim S8192x1 ![0] bcast_S8192_S8192x1_0 (Host.reduceAdd (mulf (extractStridedSlice S8192x256 ![0, 512] v slices_S8192x896_S8192x256_0_512) (extractStridedSlice S8192x256 ![0, 512] v slices_S8192x896_S8192x256_0_512)) (constant S_ .f32 0x00000000#32) reducesTo_S8192x256_S8192_d1 h_S_)) (broadcastInDim S8192x1 ![] bcast_S_S8192x1 (constant S_ .f32 0x43800000#32))) (broadcastInDim S8192x1 ![] bcast_S_S8192x1 (constant S_ .f32 0x358637BD#32)))))) (broadcastInDim S8192x1 ![] bcast_S_S8192x1 (constant S_ .f32 0x43800000#32))) (constant S_ .f32 0x00000000#32) reducesTo_S8192x1_S8192_d1 h_S_)) (extractStridedSlice S8192x256 ![0, 512] v slices_S8192x896_S8192x256_0_512))) : FVec Ideal S8192x256 .f32) (ix2 a b) = Cert.KernelLatBIdeal.Prod.gr (Ideal.ofBits .f32 0x3B800000#32) (fun k => v (ix2 a (Cert.KernelLatBIdeal.Prod.hi k))) (fun k => q (ix2 0 k)) (fun k => y (ix2 a k)) b := by
  rw [raw256 y v q (addf (Host.divf (broadcastInDim S8192x1 ![0] bcast_S8192_S8192x1_0 (Host.reduceAdd (mulf (extractStridedSlice S8192x256 ![0, 512] v slices_S8192x896_S8192x256_0_512) (extractStridedSlice S8192x256 ![0, 512] v slices_S8192x896_S8192x256_0_512)) (constant S_ .f32 0x00000000#32) reducesTo_S8192x256_S8192_d1 h_S_)) (broadcastInDim S8192x1 ![] bcast_S_S8192x1 (constant S_ .f32 0x43800000#32))) (broadcastInDim S8192x1 ![] bcast_S_S8192x1 (constant S_ .f32 0x358637BD#32))) a b, var256 v a]
  exact Cert.Dot.grad_row 256 (by norm_num) (Ideal.ofBits .f32 0x43800000#32) (Ideal.ofBits .f32 0x3B800000#32) Cert.Dot.width256 Cert.Dot.inv_width256
    (fun k => v (ix2 a (Cert.KernelLatBIdeal.Prod.hi k))) (fun k => q (ix2 0 k)) (fun k => y (ix2 a k)) b
/-- An entry of the reference's gradient of a weight. -/
theorem wt256 (y : FVec Ideal S8192x256 .f32) (v : FVec Ideal S8192x896 .f32) (b : Fin 256) :
    (shapeCast _ (Host.reduceAdd (mulf (mulf (extractStridedSlice S8192x256 ![0, 512] v slices_S8192x896_S8192x256_0_512) (broadcastInDim S8192x256 ![0, 1] bcast_S8192x1_S8192x256_0_1 (Host.rsqrt (addf (Host.divf (broadcastInDim S8192x1 ![0] bcast_S8192_S8192x1_0 (Host.reduceAdd (mulf (extractStridedSlice S8192x256 ![0, 512] v slices_S8192x896_S8192x256_0_512) (extractStridedSlice S8192x256 ![0, 512] v slices_S8192x896_S8192x256_0_512)) (constant S_ .f32 0x00000000#32) reducesTo_S8192x256_S8192_d1 h_S_)) (broadcastInDim S8192x1 ![] bcast_S_S8192x1 (constant S_ .f32 0x43800000#32))) (broadcastInDim S8192x1 ![] bcast_S_S8192x1 (constant S_ .f32 0x358637BD#32)))))) y) (constant S_ .f32 0x00000000#32) reducesTo_S8192x256_S256_d0 h_S_) shapeCasts_S256_S1x256 : FVec Ideal S1x256 .f32) (ix2 0 b) = ∑ a : Fin 8192, y (ix2 a b) * (v (ix2 a (Cert.KernelLatBIdeal.Prod.hi b)) * Cert.KernelLatBIdeal.Prod.rs (Ideal.ofBits .f32 0x3B800000#32) (fun k => v (ix2 a (Cert.KernelLatBIdeal.Prod.hi k)))) := by
  have e : ∀ w : FVec Ideal S8192x1 .f32, (shapeCast _ (Host.reduceAdd (mulf (mulf (extractStridedSlice S8192x256 ![0, 512] v slices_S8192x896_S8192x256_0_512) (broadcastInDim S8192x256 ![0, 1] bcast_S8192x1_S8192x256_0_1 (Host.rsqrt w))) y) (constant S_ .f32 0x00000000#32) reducesTo_S8192x256_S256_d0 h_S_) shapeCasts_S256_S1x256 : FVec Ideal S1x256 .f32) (ix2 0 b) = ∑ a : Fin 8192, v (ix2 a (Cert.KernelLatBIdeal.Prod.hi b)) * Ideal.rsqrt (w (ix2 a 0)) * y (ix2 a b) := fun w => by pointwise []
  rw [e]
  refine Finset.sum_congr rfl fun a _ => ?_
  rw [var256, mul_comm]

end Cert.ReferenceLatBIdeal.Prod

namespace Cert.LatB
open Idealize.ShloMosaic Idealize.SL.Sem Idealize.ShloMosaic.StableHlo Cert.KernelLatBIdeal.Prod

attribute [local instance] Cert.KernelLatB.Gen.facts Cert.KernelLatBIdeal.Gen.facts Cert.ReferenceLatBIdeal.Gen.facts

/-- A column of the latent lies in one of its three parts. -/
theorem column (b : Fin 896) : (∃ k, b = lo k) ∨ (∃ k, b = hi k) ∨ (∃ k, b = kr k) := by
  by_cases h : b.val < 512
  · exact .inl ⟨⟨b.val, h⟩, rfl⟩
  · by_cases h' : b.val < 768
    · exact .inr (.inl ⟨⟨b.val - 512, by omega⟩, Fin.ext (by simp only []; omega)⟩)
    · exact .inr (.inr ⟨⟨b.val - 768, by omega⟩, Fin.ext (by simp only []; omega)⟩)

set_option maxHeartbeats 2000000 in
/-- The ideal call and the ideal reference return the same three arrays, for all inputs. -/
theorem algebraic : Cert.algebraic_KernelLatBIdeal_ReferenceLatBIdeal := by
  intro m g m' g' _ ha
  refine ⟨fun c => (Cert.KernelLatBIdeal.Gen.dats m 0 c).arrAt 6 Cert.KernelLatBIdeal.cfg0.N, fun c => (Cert.KernelLatBIdeal.Gen.dats m 0 c).arrAt 7 Cert.KernelLatBIdeal.cfg0.N,
    fun c => (Cert.KernelLatBIdeal.Gen.dats m 0 c).arrAt 8 Cert.KernelLatBIdeal.cfg0.N, Cert.KernelLatBIdeal.Value.run_blocks m g, ?_⟩
  refine (θ_run _ _ _).mono (fun r h c => ?_) (Cert.ReferenceLatBIdeal.Value.run m' g')
  obtain ⟨h1, h2, h3, hk⟩ := h c
  obtain ⟨e0, e1, e2, e3, e4, e5⟩ := ha c
  unfold Cert.ReferenceLatBIdeal.Value.res_main_v76 at h1
  rw [e0, e1, e2, e3, e4, e5] at h1
  rw [e0, e3] at h2
  rw [e1, e3] at h3
  refine ⟨h1.trans (funext fun i => ?_), h2.trans (funext fun i => ?_), h3.trans (funext fun i => ?_), hk⟩
  · rw [eq_ix2 i]
    generalize i 0 = a
    generalize i 1 = b
    obtain ⟨k, rfl⟩ | ⟨k, rfl⟩ | ⟨k, rfl⟩ := column b
    · exact (Cert.ReferenceLatBIdeal.Prod.part_lo _ _ _ a k).trans ((Cert.ReferenceLatBIdeal.Prod.row512 (mdq m c) (mx m c) (mgq m c) a k).trans (arr_lo m c a k).symm)
    · exact (Cert.ReferenceLatBIdeal.Prod.part_hi _ _ _ a k).trans ((Cert.ReferenceLatBIdeal.Prod.row256 (mdk m c) (mx m c) (mgk m c) a k).trans (arr_hi m c a k).symm)
    · exact (Cert.ReferenceLatBIdeal.Prod.part_kr _ _ (mdr m c) a k).trans (arr_kr m c a k).symm
  · have h0 : i 0 = (0 : Fin 1) := Subsingleton.elim (α := Fin 1) _ _
    rw [eq_ix2 i, h0]
    exact (Cert.ReferenceLatBIdeal.Prod.wt512 (mdq m c) (mx m c) (i 1)).trans (arr7 m c (i 1)).symm
  · have h0 : i 0 = (0 : Fin 1) := Subsingleton.elim (α := Fin 1) _ _
    rw [eq_ix2 i, h0]
    exact (Cert.ReferenceLatBIdeal.Prod.wt256 (mdk m c) (mx m c) (i 1)).trans (arr8 m c (i 1)).symm

/-- The ideal reference keeps its arguments; it declares no semaphore. -/
theorem frameR : Cert.quiescent_ReferenceLatBIdeal := fun m g _ =>
  (θ_run _ _ _).mono (fun r h => ⟨fun c => (h c).2.2.2, sem_eq_zero_of_no_sems (by decide) r.2⟩) (Cert.ReferenceLatBIdeal.Value.run m g)

end Cert.LatB
end
-- ==== Proof.LatF.lean ====
module

public import proofs.«01_k».proof.Proof.Gen.KernelLatFIdeal.Value
public import proofs.«01_k».proof.Proof.Gen.ReferenceLatFIdeal.Run
public import proofs.«01_k».proof.Proof.Gen.KernelLatF.Frame
public import proofs.«01_k».proof.Defs
public import proofs.«01_k».proof.Proof.Grad
public import Idealize.ShloMosaic.Lib.Pipeline.ReadBack
public import Idealize.ShloMosaic.Lib.Pipeline.ValueKit

@[expose] public section

set_option maxRecDepth 16384

noncomputable section

namespace Cert.KernelLatFIdeal.Prod

open Cert.KernelLatFIdeal Cert.KernelLatFIdeal.Gen Idealize.ShloMosaic Idealize.ShloMosaic.TcCoe Idealize.SL.Sem

theorem idx0 : ∀ t : Fin cfg0.N, (cfg0.win 0).index t = ![t.val, 0] := by decide +kernel
theorem idx3 : ∀ t : Fin cfg0.N, (cfg0.win 3).index t = ![t.val, 0] := by decide +kernel
theorem idx4 : ∀ t : Fin cfg0.N, (cfg0.win 4).index t = ![t.val, 0] := by decide +kernel
theorem idx1 : ∀ t : Fin cfg0.N, (cfg0.win 1).index t = ![0, 0] := by decide +kernel
theorem idx2 : ∀ t : Fin cfg0.N, (cfg0.win 2).index t = ![0, 0] := by decide +kernel
theorem rb0 (X : FVec Ideal S8192x896 .f32) (t : Fin cfg0.N) (r : Fin 512) (l : Fin 896) (a : Fin 8192) (b : Fin 896) (ha : a.val = 512 * (t.val) + r) (hb : b.val = 896 * (0) + l) :
    ((cfg0.win 0).blk t).view.read (Elt Ideal) X (ix2 r l) = X (ix2 a b) := by
  have e := idx0 t
  blk_simp [e]
  refine congrArg X ?_
  blk_ext [e]
theorem rb3 (X : FVec Ideal S8192x512 .bf16) (t : Fin cfg0.N) (r : Fin 512) (l : Fin 512) (a : Fin 8192) (b : Fin 512) (ha : a.val = 512 * (t.val) + r) (hb : b.val = 512 * (0) + l) :
    ((cfg0.win 3).blk t).view.read (Elt Ideal) X (ix2 r l) = X (ix2 a b) := by
  have e := idx3 t
  blk_simp [e]
  refine congrArg X ?_
  blk_ext [e]
theorem rb4 (X : FVec Ideal S8192x256 .bf16) (t : Fin cfg0.N) (r : Fin 512) (l : Fin 256) (a : Fin 8192) (b : Fin 256) (ha : a.val = 512 * (t.val) + r) (hb : b.val = 256 * (0) + l) :
    ((cfg0.win 4).blk t).view.read (Elt Ideal) X (ix2 r l) = X (ix2 a b) := by
  have e := idx4 t
  blk_simp [e]
  refine congrArg X ?_
  blk_ext [e]
theorem rb1 (X : FVec Ideal S1x512 .f32) (t : Fin cfg0.N) (r : Fin 1) (l : Fin 512) (a : Fin 1) (b : Fin 512) (ha : a.val = 1 * (0) + r) (hb : b.val = 512 * (0) + l) :
    ((cfg0.win 1).blk t).view.read (Elt Ideal) X (ix2 r l) = X (ix2 a b) := by
  have e := idx1 t
  blk_simp [e]
  refine congrArg X ?_
  blk_ext [e]
theorem rb2 (X : FVec Ideal S1x256 .f32) (t : Fin cfg0.N) (r : Fin 1) (l : Fin 256) (a : Fin 1) (b : Fin 256) (ha : a.val = 1 * (0) + r) (hb : b.val = 256 * (0) + l) :
    ((cfg0.win 2).blk t).view.read (Elt Ideal) X (ix2 r l) = X (ix2 a b) := by
  have e := idx2 t
  blk_simp [e]
  refine congrArg X ?_
  blk_ext [e]
theorem fl3 : ∀ t : Fin cfg0.N, (cfg0.win 3).flush t = true := by decide +kernel
theorem ct3 (X : Vec Ideal S512x512 .bf16) (t : Fin cfg0.N) (r : Fin 512) (l : Fin 512) : (cfg0.win 3).cut (grid0.coords t) X (ix2 r l) = X (ix2 r l) := rfl
theorem fl4 : ∀ t : Fin cfg0.N, (cfg0.win 4).flush t = true := by decide +kernel
theorem ct4 (X : Vec Ideal S512x256 .bf16) (t : Fin cfg0.N) (r : Fin 512) (l : Fin 256) : (cfg0.win 4).cut (grid0.coords t) X (ix2 r l) = X (ix2 r l) := rfl

/-- The column of the query's part of the latent. -/
abbrev lo (k : Fin 512) : Fin 896 := ⟨k.val, by omega⟩
/-- The column of the key's part of the latent. -/
abbrev hi (k : Fin 256) : Fin 896 := ⟨512 + k.val, by omega⟩
/-- A normalised and scaled entry of a row with the width's inverse. -/
abbrev nrm {w : ℕ} (C : EReal) (x g : Fin w → EReal) (l : Fin w) : EReal := x l * Ideal.rsqrt ((∑ k, x k * x k) * C + Ideal.ofBits .f32 0x358637BD#32) * g l

/-- A block of a result from the input blocks. -/
theorem out3 (x : Vec Ideal S512x896 .f32) (g : Vec Ideal S1x512 .f32) (h : Vec Ideal S1x256 .f32) (r : Fin 512) (l : Fin 512) :
    out0_3 x g h (ix2 r l) = nrm (Ideal.ofBits .f32 0x3B000000#32) (fun k => x (ix2 r (lo k))) (fun k => g (ix2 0 k)) l := by
  have e : out0_3 x g h = k0_pay1 x g := by
    unfold out0_3
    frame_out
  rw [e]
  pointwise [k0_pay1]

/-- A block of a result from the input blocks. -/
theorem out4 (x : Vec Ideal S512x896 .f32) (g : Vec Ideal S1x512 .f32) (h : Vec Ideal S1x256 .f32) (r : Fin 512) (l : Fin 256) :
    out0_4 x g h (ix2 r l) = nrm (Ideal.ofBits .f32 0x3B800000#32) (fun k => x (ix2 r (hi k))) (fun k => h (ix2 0 k)) l := by
  have e : out0_4 x g h = k0_pay2 x h := by
    unfold out0_4
    frame_out
  rw [e]
  pointwise [k0_pay2]

variable (m : (ℓ : Loc nD τ sig) → Buf (Elt Ideal) ℓ) (c : Dev nD)

/-- The latent. -/
abbrev mx : FVec Ideal S8192x896 .f32 := m (c, Proc.devRef .tc main_arg0)
/-- The weight of the query's norm. -/
abbrev mg : FVec Ideal S1x512 .f32 := m (c, Proc.devRef .tc main_arg1)
/-- The weight of the key's norm. -/
abbrev mh : FVec Ideal S1x256 .f32 := m (c, Proc.devRef .tc main_arg2)
theorem ia0 (t : Fin cfg0.N) : iblk m c 0 t = ((cfg0.win 0).blk t).view.read (Elt Ideal) (mx m c) :=
  congrArg (fun X => ((cfg0.win 0).blk t).view.read (Elt Ideal) X) (V_main_arg0 m c)
theorem ia1 (t : Fin cfg0.N) : iblk m c 1 t = ((cfg0.win 1).blk t).view.read (Elt Ideal) (mg m c) :=
  congrArg (fun X => ((cfg0.win 1).blk t).view.read (Elt Ideal) X) (V_main_arg1 m c)
theorem ia2 (t : Fin cfg0.N) : iblk m c 2 t = ((cfg0.win 2).blk t).view.read (Elt Ideal) (mh m c) :=
  congrArg (fun X => ((cfg0.win 2).blk t).view.read (Elt Ideal) X) (V_main_arg2 m c)

/-- An entry of a result after the run. -/
theorem arr3 (a : Fin 8192) (b : Fin 512) : (dats m 0 c).arrAt 3 cfg0.N (ix2 a b) = nrm (Ideal.ofBits .f32 0x3B000000#32) (fun k => mx m c (ix2 a (lo k))) (fun k => mg m c (ix2 0 k)) b := by
  have hp : a.val / 512 < cfg0.N := by rw [show cfg0.N = 16 from N_0]; omega
  have ha : a.val = 512 * (a.val / 512) + a.val % 512 := by omega
  have e := congrFun (Value.blocks3 m c ⟨_, hp⟩ (fl3 _)) (ix2 ⟨a.val % 512, by omega⟩ b)
  rw [rb3 _ _ _ _ a b ha (by omega), Value.flushed3, ct3, out3, ia0, ia1] at e
  have e0 : (fun k : Fin 512 => ((cfg0.win 0).blk ⟨_, hp⟩).view.read (Elt Ideal) (mx m c) (ix2 (⟨a.val % 512, by omega⟩ : Fin 512) (lo k))) = fun k => mx m c (ix2 a (lo k)) := funext fun k => rb0 _ _ _ _ a _ ha (by simp)
  have e1 : (fun k : Fin 512 => ((cfg0.win 1).blk ⟨_, hp⟩).view.read (Elt Ideal) (mg m c) (ix2 (0 : Fin 1) k)) = fun k => mg m c (ix2 0 k) := funext fun k => rb1 _ _ _ _ 0 k (by simp) (by omega)
  rw [e, e0, e1]

/-- An entry of a result after the run. -/
theorem arr4 (a : Fin 8192) (b : Fin 256) : (dats m 0 c).arrAt 4 cfg0.N (ix2 a b) = nrm (Ideal.ofBits .f32 0x3B800000#32) (fun k => mx m c (ix2 a (hi k))) (fun k => mh m c (ix2 0 k)) b := by
  have hp : a.val / 512 < cfg0.N := by rw [show cfg0.N = 16 from N_0]; omega
  have ha : a.val = 512 * (a.val / 512) + a.val % 512 := by omega
  have e := congrFun (Value.blocks4 m c ⟨_, hp⟩ (fl4 _)) (ix2 ⟨a.val % 512, by omega⟩ b)
  rw [rb4 _ _ _ _ a b ha (by omega), Value.flushed4, ct4, out4, ia0, ia2] at e
  have e0 : (fun k : Fin 256 => ((cfg0.win 0).blk ⟨_, hp⟩).view.read (Elt Ideal) (mx m c) (ix2 (⟨a.val % 512, by omega⟩ : Fin 512) (hi k))) = fun k => mx m c (ix2 a (hi k)) := funext fun k => rb0 _ _ _ _ a _ ha (by simp)
  have e1 : (fun k : Fin 256 => ((cfg0.win 2).blk ⟨_, hp⟩).view.read (Elt Ideal) (mh m c) (ix2 (0 : Fin 1) k)) = fun k => mh m c (ix2 0 k) := funext fun k => rb2 _ _ _ _ 0 k (by simp) (by omega)
  rw [e, e0, e1]

end Cert.KernelLatFIdeal.Prod

namespace Cert.ReferenceLatFIdeal.Prod
open Cert.ReferenceLatFIdeal Cert.ReferenceLatFIdeal.Gen Idealize.ShloMosaic Idealize.ShloMosaic.TcCoe Idealize.SL.Sem

/-- An entry of a result of the reference. -/
theorem ref0 (x : FVec Ideal S8192x896 .f32) (y : FVec Ideal S1x512 .f32) (a : Fin 8192) (b : Fin 512) :
    (truncf .bf16 (mulf (mulf (extractStridedSlice S8192x512 ![0, 0] x slices_S8192x896_S8192x512_0_0) (broadcastInDim S8192x512 ![0, 1] bcast_S8192x1_S8192x512_0_1 (Host.rsqrt (addf (Host.divf (broadcastInDim S8192x1 ![0] bcast_S8192_S8192x1_0 (Host.reduceAdd (mulf (extractStridedSlice S8192x512 ![0, 0] x slices_S8192x896_S8192x512_0_0) (extractStridedSlice S8192x512 ![0, 0] x slices_S8192x896_S8192x512_0_0)) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) (broadcastInDim S8192x512 ![0, 1] bcast_S1x512_S8192x512_0_1 y)) bitsLt_bf16_f32 : FVec Ideal S8192x512 .bf16) (ix2 a b) = Cert.KernelLatFIdeal.Prod.nrm (Ideal.ofBits .f32 0x3B000000#32) (fun k => x (ix2 a (Cert.KernelLatFIdeal.Prod.lo k))) (fun k => y (ix2 0 k)) b := by
  unfold Cert.KernelLatFIdeal.Prod.nrm
  rw [← Cert.Dot.mean512]
  pointwise []

/-- An entry of a result of the reference. -/
theorem ref1 (x : FVec Ideal S8192x896 .f32) (u : FVec Ideal S1x256 .f32) (a : Fin 8192) (b : Fin 256) :
    (truncf .bf16 (mulf (mulf (extractStridedSlice S8192x256 ![0, 512] x slices_S8192x896_S8192x256_0_512) (broadcastInDim S8192x256 ![0, 1] bcast_S8192x1_S8192x256_0_1 (Host.rsqrt (addf (Host.divf (broadcastInDim S8192x1 ![0] bcast_S8192_S8192x1_0 (Host.reduceAdd (mulf (extractStridedSlice S8192x256 ![0, 512] x slices_S8192x896_S8192x256_0_512) (extractStridedSlice S8192x256 ![0, 512] x slices_S8192x896_S8192x256_0_512)) (constant S_ .f32 0x00000000#32) reducesTo_S8192x256_S8192_d1 h_S_)) (broadcastInDim S8192x1 ![] bcast_S_S8192x1 (constant S_ .f32 0x43800000#32))) (broadcastInDim S8192x1 ![] bcast_S_S8192x1 (constant S_ .f32 0x358637BD#32)))))) (broadcastInDim S8192x256 ![0, 1] bcast_S1x256_S8192x256_0_1 u)) bitsLt_bf16_f32 : FVec Ideal S8192x256 .bf16) (ix2 a b) = Cert.KernelLatFIdeal.Prod.nrm (Ideal.ofBits .f32 0x3B800000#32) (fun k => x (ix2 a (Cert.KernelLatFIdeal.Prod.hi k))) (fun k => u (ix2 0 k)) b := by
  unfold Cert.KernelLatFIdeal.Prod.nrm
  rw [← Cert.Dot.mean256]
  pointwise []

end Cert.ReferenceLatFIdeal.Prod

namespace Cert.LatF
open Idealize.ShloMosaic Idealize.SL.Sem Idealize.ShloMosaic.StableHlo Cert.KernelLatFIdeal.Prod

attribute [local instance] Cert.KernelLatF.Gen.facts Cert.KernelLatFIdeal.Gen.facts Cert.ReferenceLatFIdeal.Gen.facts

set_option maxHeartbeats 2000000 in
/-- The ideal call and the ideal reference return the same two arrays, for all inputs. -/
theorem algebraic : Cert.algebraic_KernelLatFIdeal_ReferenceLatFIdeal := by
  intro m g m' g' _ ha
  refine ⟨fun c => (Cert.KernelLatFIdeal.Gen.dats m 0 c).arrAt 3 Cert.KernelLatFIdeal.cfg0.N, fun c => (Cert.KernelLatFIdeal.Gen.dats m 0 c).arrAt 4 Cert.KernelLatFIdeal.cfg0.N,
    Cert.KernelLatFIdeal.Value.run_blocks m g, ?_⟩
  refine (θ_run _ _ _).mono (fun r h c => ?_) (Cert.ReferenceLatFIdeal.Value.run m' g')
  obtain ⟨h1, h2, hk⟩ := h c
  obtain ⟨e0, e1, e2⟩ := ha c
  rw [e0, e1] at h1
  rw [e0, e2] at h2
  refine ⟨h1.trans (funext fun i => ?_), h2.trans (funext fun i => ?_), hk⟩
  · rw [eq_ix2 i]
    exact (Cert.ReferenceLatFIdeal.Prod.ref0 (mx m c) (mg m c) (i 0) (i 1)).trans (arr3 m c (i 0) (i 1)).symm
  · rw [eq_ix2 i]
    exact (Cert.ReferenceLatFIdeal.Prod.ref1 (mx m c) (mh m c) (i 0) (i 1)).trans (arr4 m c (i 0) (i 1)).symm

/-- The ideal reference keeps its arguments; it declares no semaphore. -/
theorem frameR : Cert.quiescent_ReferenceLatFIdeal := fun m g _ =>
  (θ_run _ _ _).mono (fun r h => ⟨fun c => (h c).2.2, sem_eq_zero_of_no_sems (by decide) r.2⟩) (Cert.ReferenceLatFIdeal.Value.run m g)

end Cert.LatF
end
-- ==== Proof.RmsB.lean ====
module

public import proofs.«01_k».proof.Proof.Gen.KernelRmsBIdeal.Value
public import proofs.«01_k».proof.Proof.Gen.ReferenceRmsBIdeal.Run
public import proofs.«01_k».proof.Proof.Gen.KernelRmsB.Frame
public import proofs.«01_k».proof.Defs
public import proofs.«01_k».proof.Proof.Grad
public import Idealize.ShloMosaic.Lib.Pipeline.ReadBack
public import Idealize.ShloMosaic.Lib.Pipeline.ValueKit

@[expose] public section

set_option maxRecDepth 16384

noncomputable section

namespace Cert.KernelRmsBIdeal.Prod

open Cert.KernelRmsBIdeal Cert.KernelRmsBIdeal.Gen Idealize.ShloMosaic Idealize.ShloMosaic.TcCoe Idealize.SL.Sem

theorem idx0 : ∀ t : Fin cfg0.N, (cfg0.win 0).index t = ![t.val, 0] := by decide +kernel
theorem idx2 : ∀ t : Fin cfg0.N, (cfg0.win 2).index t = ![t.val, 0] := by decide +kernel
theorem idx3 : ∀ t : Fin cfg0.N, (cfg0.win 3).index t = ![t.val, 0] := by decide +kernel
theorem idx4 : ∀ t : Fin cfg0.N, (cfg0.win 4).index t = ![t.val, 0] := by decide +kernel
theorem idx5 : ∀ t : Fin cfg0.N, (cfg0.win 5).index t = ![t.val, 0] := by decide +kernel
theorem idx1 : ∀ t : Fin cfg0.N, (cfg0.win 1).index t = ![0, 0] := by decide +kernel
theorem idx6 : ∀ t : Fin cfg0.N, (cfg0.win 6).index t = ![0, 0] := by decide +kernel
theorem rb0 (X : FVec Ideal S8192x2048 .f32) (t : Fin cfg0.N) (r : Fin 256) (l : Fin 2048) (a : Fin 8192) (b : Fin 2048) (ha : a.val = 256 * (t.val) + r) (hb : b.val = 2048 * (0) + l) :
    ((cfg0.win 0).blk t).view.read (Elt Ideal) X (ix2 r l) = X (ix2 a b) := by
  have e := idx0 t
  blk_simp [e]
  refine congrArg X ?_
  blk_ext [e]
theorem rb2 (X : FVec Ideal S8192x2048 .f32) (t : Fin cfg0.N) (r : Fin 256) (l : Fin 2048) (a : Fin 8192) (b : Fin 2048) (ha : a.val = 256 * (t.val) + r) (hb : b.val = 2048 * (0) + l) :
    ((cfg0.win 2).blk t).view.read (Elt Ideal) X (ix2 r l) = X (ix2 a b) := by
  have e := idx2 t
  blk_simp [e]
  refine congrArg X ?_
  blk_ext [e]
theorem rb3 (X : FVec Ideal S8192x2048 .f32) (t : Fin cfg0.N) (r : Fin 256) (l : Fin 2048) (a : Fin 8192) (b : Fin 2048) (ha : a.val = 256 * (t.val) + r) (hb : b.val = 2048 * (0) + l) :
    ((cfg0.win 3).blk t).view.read (Elt Ideal) X (ix2 r l) = X (ix2 a b) := by
  have e := idx3 t
  blk_simp [e]
  refine congrArg X ?_
  blk_ext [e]
theorem rb4 (X : FVec Ideal S8192x2048 .f32) (t : Fin cfg0.N) (r : Fin 256) (l : Fin 2048) (a : Fin 8192) (b : Fin 2048) (ha : a.val = 256 * (t.val) + r) (hb : b.val = 2048 * (0) + l) :
    ((cfg0.win 4).blk t).view.read (Elt Ideal) X (ix2 r l) = X (ix2 a b) := by
  have e := idx4 t
  blk_simp [e]
  refine congrArg X ?_
  blk_ext [e]
theorem rb5 (X : FVec Ideal S8192x2048 .bf16) (t : Fin cfg0.N) (r : Fin 256) (l : Fin 2048) (a : Fin 8192) (b : Fin 2048) (ha : a.val = 256 * (t.val) + r) (hb : b.val = 2048 * (0) + l) :
    ((cfg0.win 5).blk t).view.read (Elt Ideal) X (ix2 r l) = X (ix2 a b) := by
  have e := idx5 t
  blk_simp [e]
  refine congrArg X ?_
  blk_ext [e]
theorem rb1 (X : FVec Ideal S1x2048 .f32) (t : Fin cfg0.N) (r : Fin 1) (l : Fin 2048) (a : Fin 1) (b : Fin 2048) (ha : a.val = 1 * (0) + r) (hb : b.val = 2048 * (0) + l) :
    ((cfg0.win 1).blk t).view.read (Elt Ideal) X (ix2 r l) = X (ix2 a b) := by
  have e := idx1 t
  blk_simp [e]
  refine congrArg X ?_
  blk_ext [e]
theorem rb6 (X : FVec Ideal S1x2048 .f32) (t : Fin cfg0.N) (r : Fin 1) (l : Fin 2048) (a : Fin 1) (b : Fin 2048) (ha : a.val = 1 * (0) + r) (hb : b.val = 2048 * (0) + l) :
    ((cfg0.win 6).blk t).view.read (Elt Ideal) X (ix2 r l) = X (ix2 a b) := by
  have e := idx6 t
  blk_simp [e]
  refine congrArg X ?_
  blk_ext [e]
theorem fl4 : ∀ t : Fin cfg0.N, (cfg0.win 4).flush t = true := by decide +kernel
theorem ct4 (X : Vec Ideal S256x2048 .f32) (t : Fin cfg0.N) (r : Fin 256) (l : Fin 2048) : (cfg0.win 4).cut (grid0.coords t) X (ix2 r l) = X (ix2 r l) := rfl
theorem fl5 : ∀ t : Fin cfg0.N, (cfg0.win 5).flush t = true := by decide +kernel
theorem ct5 (X : Vec Ideal S256x2048 .bf16) (t : Fin cfg0.N) (r : Fin 256) (l : Fin 2048) : (cfg0.win 5).cut (grid0.coords t) X (ix2 r l) = X (ix2 r l) := rfl
theorem ct6 (X : Vec Ideal S1x2048 .f32) (t : Fin cfg0.N) (r : Fin 1) (l : Fin 2048) : (cfg0.win 6).cut (grid0.coords t) X (ix2 r l) = X (ix2 r l) := rfl
theorem last6 : ∀ t : Fin cfg0.N, (cfg0.win 6).flush t = true → t.val = 31 := by decide +kernel
theorem fl6 : ∀ t : Fin cfg0.N, t.val = 31 → (cfg0.win 6).flush t = true := by decide +kernel

/-- The inverse root of a row's mean square, from the row's sum of squares. -/
abbrev rs (s : EReal) : EReal := Cert.Dot.rOf (Ideal.ofBits .f32 0x3A000000#32) (Ideal.ofBits .f32 0x358637BD#32) s
/-- One entry of the gradient of a row in closed form. -/
abbrev dxOf (x g d : Fin 2048 → EReal) (p : EReal) (l : Fin 2048) : EReal :=
  p + rs (∑ k, x k * x k) * (d l * g l - x l * rs (∑ k, x k * x k) * ((∑ k, x k * rs (∑ k, x k * x k) * (d k * g k)) * Ideal.ofBits .f32 0x3A000000#32))

theorem pay2_at (x : Vec Ideal S256x2048 .f32) (r : Fin 256) : k0_pay2 x (ix2 r 0) = rs (∑ k : Fin 2048, x (ix2 r k) * x (ix2 r k)) := by
  pointwise [k0_pay2]
theorem pay3_at (x : Vec Ideal S256x2048 .f32) (r : Fin 256) (l : Fin 2048) : k0_pay3 x (ix2 r l) = x (ix2 r l) * rs (∑ k : Fin 2048, x (ix2 r k) * x (ix2 r k)) := by
  pointwise [k0_pay3, pay2_at]
theorem pay1_at (v p : Vec Ideal S1x2048 .f32) (l : Fin 2048) : k0_pay1 v p (ix2 0 l) = p (ix2 0 l) + v (ix2 0 l) := by
  pointwise [k0_pay1]
/-- A tile's share of the weight's gradient. -/
theorem pay4_at (x d : Vec Ideal S256x2048 .f32) (l : Fin 2048) :
    k0_pay4 x d (ix2 0 l) = ∑ r : Fin 256, d (ix2 r l) * (x (ix2 r l) * rs (∑ k : Fin 2048, x (ix2 r k) * x (ix2 r k))) := by
  pointwise [k0_pay4, pay3_at]
/-- A tile of the gradient of the normalised array. -/
theorem pay5_at (x : Vec Ideal S256x2048 .f32) (g : Vec Ideal S1x2048 .f32) (d p : Vec Ideal S256x2048 .f32) (r : Fin 256) (l : Fin 2048) :
    k0_pay5 x g d p (ix2 r l) = dxOf (fun k => x (ix2 r k)) (fun k => g (ix2 0 k)) (fun k => d (ix2 r k)) (p (ix2 r l)) l := by
  pointwise [k0_pay5, pay3_at, pay2_at]

variable (m : (ℓ : Loc nD τ sig) → Buf (Elt Ideal) ℓ) (c : Dev nD)

/-- The array that was normalised. -/
abbrev mx : FVec Ideal S8192x2048 .f32 := m (c, Proc.devRef .tc main_arg0)
/-- The weight of the norm. -/
abbrev mg : FVec Ideal S1x2048 .f32 := m (c, Proc.devRef .tc main_arg1)
/-- The gradient of the norm's result. -/
abbrev md : FVec Ideal S8192x2048 .f32 := m (c, Proc.devRef .tc main_arg2)
/-- The gradient that comes past the norm. -/
abbrev mp : FVec Ideal S8192x2048 .f32 := m (c, Proc.devRef .tc main_arg3)
theorem ia0 (t : Fin cfg0.N) : iblk m c 0 t = ((cfg0.win 0).blk t).view.read (Elt Ideal) (mx m c) :=
  congrArg (fun X => ((cfg0.win 0).blk t).view.read (Elt Ideal) X) (V_main_arg0 m c)
theorem ia1 (t : Fin cfg0.N) : iblk m c 1 t = ((cfg0.win 1).blk t).view.read (Elt Ideal) (mg m c) :=
  congrArg (fun X => ((cfg0.win 1).blk t).view.read (Elt Ideal) X) (V_main_arg1 m c)
theorem ia2 (t : Fin cfg0.N) : iblk m c 2 t = ((cfg0.win 2).blk t).view.read (Elt Ideal) (md m c) :=
  congrArg (fun X => ((cfg0.win 2).blk t).view.read (Elt Ideal) X) (V_main_arg2 m c)
theorem ia3 (t : Fin cfg0.N) : iblk m c 3 t = ((cfg0.win 3).blk t).view.read (Elt Ideal) (mp m c) :=
  congrArg (fun X => ((cfg0.win 3).blk t).view.read (Elt Ideal) X) (V_main_arg3 m c)

/-- What a grid point leaves in the two tiles of the gradient. -/
theorem tile4 (t : Fin cfg0.N) : (outsAt0 m c t.val t.isLt).1 = k0_pay5 (iblk m c 0 t) (iblk m c 1 t) (iblk m c 2 t) (iblk m c 3 t) := by
  have hN : t.val < 32 := lt_of_lt_of_eq t.isLt N_0
  by_cases h : t.val = 0
  · rw [outsAt0_A m c t (by omega) (by omega)]
    dsimp only
    unfold out0_A_4
    frame_out
  · rw [outsAt0_B m c t (by omega) (by omega)]
    dsimp only
    unfold out0_B_4
    frame_out
theorem tile5 (t : Fin cfg0.N) : (outsAt0 m c t.val t.isLt).2.1 = k0_pay6 (iblk m c 0 t) (iblk m c 1 t) (iblk m c 2 t) (iblk m c 3 t) := by
  have hN : t.val < 32 := lt_of_lt_of_eq t.isLt N_0
  by_cases h : t.val = 0
  · rw [outsAt0_A m c t (by omega) (by omega)]
    dsimp only
    unfold out0_A_5
    frame_out
  · rw [outsAt0_B m c t (by omega) (by omega)]
    dsimp only
    unfold out0_B_5
    frame_out
/-- What the first grid point leaves in the weight's gradient. -/
theorem acc_zero (t : Fin cfg0.N) (h : t.val = 0) : (outsAt0 m c t.val t.isLt).2.2 = k0_pay4 (iblk m c 0 t) (iblk m c 2 t) := by
  rw [outsAt0_A m c t (by omega) (by omega)]
  dsimp only
  unfold out0_A_6
  frame_out
/-- What a later grid point leaves there. -/
theorem acc_succ (t : Fin cfg0.N) (h : 1 ≤ t.val) : (outsAt0 m c t.val t.isLt).2.2 = k0_pay1 (k0_pay4 (iblk m c 0 t) (iblk m c 2 t)) (outsAt0 m c (t.val - 1) (Nat.lt_of_le_of_lt (Nat.sub_le _ _) t.isLt)).2.2 := by
  have hN : t.val < 32 := lt_of_lt_of_eq t.isLt N_0
  rw [outsAt0_B m c t (by omega) h]
  dsimp only
  unfold out0_B_6
  frame_out

/-- One row's share of the weight's gradient. -/
abbrev wrow (l : Fin 2048) (a : ℕ) : EReal := if h : a < 8192 then
  md m c (ix2 ⟨a, h⟩ l) * (mx m c (ix2 ⟨a, h⟩ l) * rs (∑ k : Fin 2048, mx m c (ix2 ⟨a, h⟩ k) * mx m c (ix2 ⟨a, h⟩ k))) else 0
theorem tile_sum (t : Fin cfg0.N) (l : Fin 2048) : k0_pay4 (iblk m c 0 t) (iblk m c 2 t) (ix2 0 l) = ∑ r : Fin 256, wrow m c l (256 * t.val + r.val) := by
  have hN : t.val < 32 := lt_of_lt_of_eq t.isLt N_0
  rw [pay4_at]
  refine Finset.sum_congr rfl fun r _ => ?_
  have hr : 256 * t.val + r.val < 8192 := by omega
  rw [wrow, dif_pos hr, ia0, ia2, rb2 _ t r l ⟨_, hr⟩ l rfl (by omega), rb0 _ t r l ⟨_, hr⟩ l rfl (by omega)]
  refine congrArg (fun s => md m c (ix2 ⟨_, hr⟩ l) * (mx m c (ix2 ⟨_, hr⟩ l) * rs s)) (Finset.sum_congr rfl fun k _ => ?_)
  rw [rb0 _ t r k ⟨_, hr⟩ k rfl (by omega)]
/-- The weight's gradient after a number of tiles is the sum over their rows. -/
theorem acc_at (l : Fin 2048) : ∀ (n : ℕ) (hn : n < cfg0.N), (outsAt0 m c n hn).2.2 (ix2 0 l) = ∑ a ∈ Finset.range (256 * (n + 1)), wrow m c l a := by
  intro n
  induction n with
  | zero =>
    intro hn
    rw [acc_zero m c ⟨0, hn⟩ rfl, tile_sum, Cert.Dot.tiles]
    simp only [Nat.mul_zero, Finset.range_zero, Finset.sum_empty, zero_add]
  | succ n ih =>
    intro hn
    rw [acc_succ m c ⟨n + 1, hn⟩ (by dsimp only; omega), Cert.Dot.tiles _ _ (n + 1), ← ih (by omega), ← tile_sum m c ⟨n + 1, hn⟩]
    exact pay1_at _ _ l

/-- An entry of the gradient of the normalised array after the run. -/
theorem arr4 (a : Fin 8192) (b : Fin 2048) : (dats m 0 c).arrAt 4 cfg0.N (ix2 a b) = dxOf (fun k => mx m c (ix2 a k)) (fun k => mg m c (ix2 0 k)) (fun k => md m c (ix2 a k)) (mp m c (ix2 a b)) b := by
  have hp : a.val / 256 < cfg0.N := by rw [show cfg0.N = 32 from N_0]; omega
  have ha : a.val = 256 * (a.val / 256) + a.val % 256 := by omega
  have e := congrFun (Value.blocks4 m c ⟨_, hp⟩ (fl4 _)) (ix2 ⟨a.val % 256, by omega⟩ b)
  rw [rb4 _ _ _ _ a b ha (by omega), Value.flushed4, ct4, tile4, pay5_at, ia0, ia1, ia2, ia3] at e
  rw [e, rb3 _ _ _ _ a b ha (by omega)]
  have e0 : (fun k : Fin 2048 => ((cfg0.win 0).blk ⟨_, hp⟩).view.read (Elt Ideal) (mx m c) (ix2 (⟨a.val % 256, by omega⟩ : Fin 256) k)) = fun k => mx m c (ix2 a k) := funext fun k => rb0 _ _ _ _ a k ha (by omega)
  have e1 : (fun k : Fin 2048 => ((cfg0.win 1).blk ⟨_, hp⟩).view.read (Elt Ideal) (mg m c) (ix2 (0 : Fin 1) k)) = fun k => mg m c (ix2 0 k) := funext fun k => rb1 _ _ _ _ 0 k (by simp) (by omega)
  have e2 : (fun k : Fin 2048 => ((cfg0.win 2).blk ⟨_, hp⟩).view.read (Elt Ideal) (md m c) (ix2 (⟨a.val % 256, by omega⟩ : Fin 256) k)) = fun k => md m c (ix2 a k) := funext fun k => rb2 _ _ _ _ a k ha (by omega)
  rw [e0, e1, e2]
/-- The rounded copy holds the same entries. -/
theorem arr5 (a : Fin 8192) (b : Fin 2048) : (dats m 0 c).arrAt 5 cfg0.N (ix2 a b) = (dats m 0 c).arrAt 4 cfg0.N (ix2 a b) := by
  have hp : a.val / 256 < cfg0.N := by rw [show cfg0.N = 32 from N_0]; omega
  have ha : a.val = 256 * (a.val / 256) + a.val % 256 := by omega
  have e := congrFun (Value.blocks5 m c ⟨_, hp⟩ (fl5 _)) (ix2 ⟨a.val % 256, by omega⟩ b)
  have e' := congrFun (Value.blocks4 m c ⟨_, hp⟩ (fl4 _)) (ix2 ⟨a.val % 256, by omega⟩ b)
  rw [rb5 _ _ _ _ a b ha (by omega), Value.flushed5, ct5, tile5] at e
  rw [rb4 _ _ _ _ a b ha (by omega), Value.flushed4, ct4, tile4] at e'
  rw [e, e']
  rfl
/-- An entry of the weight's gradient after the run. -/
theorem arr6 (b : Fin 2048) : (dats m 0 c).arrAt 6 cfg0.N (ix2 0 b) = ∑ a : Fin 8192, md m c (ix2 a b) * (mx m c (ix2 a b) * rs (∑ k : Fin 2048, mx m c (ix2 a k) * mx m c (ix2 a k))) := by
  have hp : 31 < cfg0.N := by rw [show cfg0.N = 32 from N_0]; omega
  have e := congrFun ((dats m 0 c).read_blk_arrAt_eq_flushed 6 (fun t t' h h' hne => absurd (Fin.ext ((last6 t h).trans (last6 t' h').symm)) hne) cfg0.N ⟨31, hp⟩ hp (fl6 _ rfl)) (ix2 0 b)
  rw [rb6 _ _ _ _ 0 b (by simp) (by omega), Value.flushed6, ct6, acc_at] at e
  have s : ∑ a ∈ Finset.range 8192, wrow m c b a = ∑ a : Fin 8192, md m c (ix2 a b) * (mx m c (ix2 a b) * rs (∑ k : Fin 2048, mx m c (ix2 a k) * mx m c (ix2 a k))) :=
    (Finset.sum_range _).trans (Finset.sum_congr rfl fun a _ => dif_pos a.isLt)
  exact e.trans s

end Cert.KernelRmsBIdeal.Prod

namespace Cert.ReferenceRmsBIdeal.Prod
open Cert.ReferenceRmsBIdeal Cert.ReferenceRmsBIdeal.Gen Idealize.ShloMosaic Idealize.ShloMosaic.TcCoe Idealize.SL.Sem

/-- The mean square of a row with the constant added. -/
theorem var_at (x : FVec Ideal S8192x2048 .f32) (a : Fin 8192) :
    ((addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))) : FVec Ideal S8192x1 .f32) (ix2 a 0) = (∑ k : Fin 2048, x (ix2 a k) * x (ix2 a k)) * Ideal.ofBits .f32 0x3A000000#32 + Ideal.ofBits .f32 0x358637BD#32 := by
  rw [← Cert.Dot.mean]
  pointwise []
theorem raw0 (x : FVec Ideal S8192x2048 .f32) (y : FVec Ideal S1x2048 .f32) (u v : FVec Ideal S8192x2048 .f32) (w : FVec Ideal S8192x1 .f32) (a : Fin 8192) (b : Fin 2048) :
    (addf v (addf (addf (mulf (mulf u (broadcastInDim S8192x2048 ![0, 1] bcast_S1x2048_S8192x2048_0_1 y)) (broadcastInDim S8192x2048 ![0, 1] bcast_S8192x1_S8192x2048_0_1 (Host.rsqrt w))) (mulf x (broadcastInDim S8192x2048 ![0] bcast_S8192_S8192x2048_0 (Host.reduceAdd (Host.divf (mulf (shapeCast _ (Host.reduceAdd (mulf x (mulf u (broadcastInDim S8192x2048 ![0, 1] bcast_S1x2048_S8192x2048_0_1 y))) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt w) w))) (broadcastInDim S8192x1 ![] bcast_S_S8192x1 (constant S_ .f32 0x45000000#32))) (constant S_ .f32 0x00000000#32) reducesTo_S8192x1_S8192_d1 h_S_)))) (mulf (broadcastInDim S8192x2048 ![0] bcast_S8192_S8192x2048_0 (Host.reduceAdd (Host.divf (mulf (shapeCast _ (Host.reduceAdd (mulf x (mulf u (broadcastInDim S8192x2048 ![0, 1] bcast_S1x2048_S8192x2048_0_1 y))) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt w) w))) (broadcastInDim S8192x1 ![] bcast_S_S8192x1 (constant S_ .f32 0x45000000#32))) (constant S_ .f32 0x00000000#32) reducesTo_S8192x1_S8192_d1 h_S_)) x)) : FVec Ideal S8192x2048 .f32) (ix2 a b) = v (ix2 a b) + (u (ix2 a b) * y (ix2 0 b) * Ideal.rsqrt (w (ix2 a 0))
      + x (ix2 a b) * Ideal.div ((∑ k : Fin 2048, x (ix2 a k) * (u (ix2 a k) * y (ix2 0 k))) * (Ideal.ofBits .f32 0xBF000000#32 * Ideal.div (Ideal.rsqrt (w (ix2 a 0))) (w (ix2 a 0)))) (Ideal.ofBits .f32 0x45000000#32)
      + Ideal.div ((∑ k : Fin 2048, x (ix2 a k) * (u (ix2 a k) * y (ix2 0 k))) * (Ideal.ofBits .f32 0xBF000000#32 * Ideal.div (Ideal.rsqrt (w (ix2 a 0))) (w (ix2 a 0)))) (Ideal.ofBits .f32 0x45000000#32) * x (ix2 a b)) := by
  pointwise []
  simp only [Finset.univ_unique, Finset.sum_singleton]
  rfl
/-- An entry of the reference's gradient of the normalised array. -/
theorem ref0 (x : FVec Ideal S8192x2048 .f32) (y : FVec Ideal S1x2048 .f32) (u v : FVec Ideal S8192x2048 .f32) (a : Fin 8192) (b : Fin 2048) :
    (addf v (addf (addf (mulf (mulf u (broadcastInDim S8192x2048 ![0, 1] bcast_S1x2048_S8192x2048_0_1 y)) (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (mulf x (broadcastInDim S8192x2048 ![0] bcast_S8192_S8192x2048_0 (Host.reduceAdd (Host.divf (mulf (shapeCast _ (Host.reduceAdd (mulf x (mulf u (broadcastInDim S8192x2048 ![0, 1] bcast_S1x2048_S8192x2048_0_1 y))) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x1 ![] bcast_S_S8192x1 (constant S_ .f32 0x45000000#32))) (constant S_ .f32 0x00000000#32) reducesTo_S8192x1_S8192_d1 h_S_)))) (mulf (broadcastInDim S8192x2048 ![0] bcast_S8192_S8192x2048_0 (Host.reduceAdd (Host.divf (mulf (shapeCast _ (Host.reduceAdd (mulf x (mulf u (broadcastInDim S8192x2048 ![0, 1] bcast_S1x2048_S8192x2048_0_1 y))) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x1 ![] bcast_S_S8192x1 (constant S_ .f32 0x45000000#32))) (constant S_ .f32 0x00000000#32) reducesTo_S8192x1_S8192_d1 h_S_)) x)) : FVec Ideal S8192x2048 .f32) (ix2 a b) = Cert.KernelRmsBIdeal.Prod.dxOf (fun k => x (ix2 a k)) (fun k => y (ix2 0 k)) (fun k => u (ix2 a k)) (v (ix2 a b)) b := by
  rw [raw0 x y u v (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))) a b, var_at x a]
  exact congrArg (fun s => v (ix2 a b) + s) (Cert.Dot.grad_row 2048 (by norm_num) (Ideal.ofBits .f32 0x45000000#32) (Ideal.ofBits .f32 0x3A000000#32) Cert.Dot.width Cert.Dot.inv_width
    (fun k => x (ix2 a k)) (fun k => y (ix2 0 k)) (fun k => u (ix2 a k)) b)
/-- An entry of the reference's gradient of the weight. -/
theorem ref2 (x : FVec Ideal S8192x2048 .f32) (y : FVec Ideal S1x2048 .f32) (u v : FVec Ideal S8192x2048 .f32) (b : Fin 2048) :
    (shapeCast _ (Host.reduceAdd (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) u) (constant S_ .f32 0x00000000#32) reducesTo_S8192x2048_S2048_d0 h_S_) shapeCasts_S2048_S1x2048 : FVec Ideal S1x2048 .f32) (ix2 0 b) = ∑ a : Fin 8192, u (ix2 a b) * (x (ix2 a b) * Cert.KernelRmsBIdeal.Prod.rs (∑ k : Fin 2048, x (ix2 a k) * x (ix2 a k))) := by
  have e : ∀ w : FVec Ideal S8192x1 .f32, (shapeCast _ (Host.reduceAdd (mulf (mulf x (broadcastInDim S8192x2048 ![0, 1] bcast_S8192x1_S8192x2048_0_1 (Host.rsqrt w))) u) (constant S_ .f32 0x00000000#32) reducesTo_S8192x2048_S2048_d0 h_S_) shapeCasts_S2048_S1x2048 : FVec Ideal S1x2048 .f32) (ix2 0 b) = ∑ a : Fin 8192, x (ix2 a b) * Ideal.rsqrt (w (ix2 a 0)) * u (ix2 a b) := fun w => by pointwise []
  rw [e]
  refine Finset.sum_congr rfl fun a _ => ?_
  rw [var_at, mul_comm]

end Cert.ReferenceRmsBIdeal.Prod

namespace Cert.RmsB
open Idealize.ShloMosaic Idealize.SL.Sem Idealize.ShloMosaic.StableHlo Cert.KernelRmsBIdeal.Prod

attribute [local instance] Cert.KernelRmsB.Gen.facts Cert.KernelRmsBIdeal.Gen.facts Cert.ReferenceRmsBIdeal.Gen.facts

set_option maxHeartbeats 2000000 in
/-- The ideal call and the ideal reference return the same three arrays, for all inputs. -/
theorem algebraic : Cert.algebraic_KernelRmsBIdeal_ReferenceRmsBIdeal := by
  intro m g m' g' _ ha
  refine ⟨fun c => (Cert.KernelRmsBIdeal.Gen.dats m 0 c).arrAt 4 Cert.KernelRmsBIdeal.cfg0.N, fun c => (Cert.KernelRmsBIdeal.Gen.dats m 0 c).arrAt 5 Cert.KernelRmsBIdeal.cfg0.N,
    fun c => (Cert.KernelRmsBIdeal.Gen.dats m 0 c).arrAt 6 Cert.KernelRmsBIdeal.cfg0.N, Cert.KernelRmsBIdeal.Value.run_blocks m g, ?_⟩
  refine (θ_run _ _ _).mono (fun r h c => ?_) (Cert.ReferenceRmsBIdeal.Value.run m' g')
  obtain ⟨h1, h2, h3, hk⟩ := h c
  obtain ⟨e0, e1, e2, e3⟩ := ha c
  rw [e0, e1, e2, e3] at h1 h2
  rw [e0, e2] at h3
  refine ⟨h1.trans (funext fun i => ?_), h2.trans (funext fun i => ?_), h3.trans (funext fun i => ?_), hk⟩
  · rw [eq_ix2 i]
    exact (Cert.ReferenceRmsBIdeal.Prod.ref0 (mx m c) (mg m c) (md m c) (mp m c) (i 0) (i 1)).trans (arr4 m c (i 0) (i 1)).symm
  · rw [eq_ix2 i]
    exact (Cert.ReferenceRmsBIdeal.Prod.ref0 (mx m c) (mg m c) (md m c) (mp m c) (i 0) (i 1)).trans ((arr5 m c (i 0) (i 1)).trans (arr4 m c (i 0) (i 1))).symm
  · have h0 : i 0 = (0 : Fin 1) := Subsingleton.elim (α := Fin 1) _ _
    rw [eq_ix2 i, h0]
    exact (Cert.ReferenceRmsBIdeal.Prod.ref2 (mx m c) (mg m c) (md m c) (mp m c) (i 1)).trans (arr6 m c (i 1)).symm

/-- The ideal reference keeps its arguments; it declares no semaphore. -/
theorem frameR : Cert.quiescent_ReferenceRmsBIdeal := fun m g _ =>
  (θ_run _ _ _).mono (fun r h => ⟨fun c => (h c).2.2.2, sem_eq_zero_of_no_sems (by decide) r.2⟩) (Cert.ReferenceRmsBIdeal.Value.run m g)

end Cert.RmsB
end
-- ==== Proof.GBwd.lean ====
module

public import proofs.«01_k».proof.Proof.Gen.KernelGBwdIdeal.Value
public import proofs.«01_k».proof.Proof.Gen.ReferenceGBwdIdeal.Run
public import proofs.«01_k».proof.Proof.Gen.KernelGBwd.Frame
public import proofs.«01_k».proof.Defs
public import proofs.«01_k».proof.Proof.Sig
public import Idealize.ShloMosaic.Lib.Pipeline.ReadBack
public import Idealize.ShloMosaic.Lib.Pipeline.ValueKit

@[expose] public section

set_option maxRecDepth 16384

noncomputable section

namespace Cert.KernelGBwdIdeal.Prod

open Cert.KernelGBwdIdeal Cert.KernelGBwdIdeal.Gen Idealize.ShloMosaic Idealize.ShloMosaic.TcCoe Idealize.SL.Sem

theorem idx0 : ∀ t : Fin cfg0.N, (cfg0.win 0).index t = ![t.val, 0] := by decide +kernel
theorem idx1 : ∀ t : Fin cfg0.N, (cfg0.win 1).index t = ![t.val, 0] := by decide +kernel
theorem idx2 : ∀ t : Fin cfg0.N, (cfg0.win 2).index t = ![t.val, 0] := by decide +kernel
theorem idx3 : ∀ t : Fin cfg0.N, (cfg0.win 3).index t = ![t.val, 0] := by decide +kernel
theorem idx4 : ∀ t : Fin cfg0.N, (cfg0.win 4).index t = ![t.val, 0] := by decide +kernel
theorem idx5 : ∀ t : Fin cfg0.N, (cfg0.win 5).index t = ![t.val, 0] := by decide +kernel
theorem idx6 : ∀ t : Fin cfg0.N, (cfg0.win 6).index t = ![t.val, 0] := by decide +kernel
theorem rb0 (X : FVec Ideal S8192x2048 .f32) (t : Fin cfg0.N) (r : Fin 256) (l : Fin 2048) (a : Fin 8192) (b : Fin 2048) (ha : a.val = 256 * (t.val) + r) (hb : b.val = 2048 * (0) + l) :
    ((cfg0.win 0).blk t).view.read (Elt Ideal) X (ix2 r l) = X (ix2 a b) := by
  have e := idx0 t
  blk_simp [e]
  refine congrArg X ?_
  blk_ext [e]
theorem rb1 (X : FVec Ideal S8192x4096 .bf16) (t : Fin cfg0.N) (r : Fin 256) (l : Fin 4096) (a : Fin 8192) (b : Fin 4096) (ha : a.val = 256 * (t.val) + r) (hb : b.val = 4096 * (0) + l) :
    ((cfg0.win 1).blk t).view.read (Elt Ideal) X (ix2 r l) = X (ix2 a b) := by
  have e := idx1 t
  blk_simp [e]
  refine congrArg X ?_
  blk_ext [e]
theorem rb2 (X : FVec Ideal S8192x2048 .f32) (t : Fin cfg0.N) (r : Fin 256) (l : Fin 2048) (a : Fin 8192) (b : Fin 2048) (ha : a.val = 256 * (t.val) + r) (hb : b.val = 2048 * (0) + l) :
    ((cfg0.win 2).blk t).view.read (Elt Ideal) X (ix2 r l) = X (ix2 a b) := by
  have e := idx2 t
  blk_simp [e]
  refine congrArg X ?_
  blk_ext [e]
theorem rb3 (X : FVec Ideal S8192x2048 .f32) (t : Fin cfg0.N) (r : Fin 256) (l : Fin 2048) (a : Fin 8192) (b : Fin 2048) (ha : a.val = 256 * (t.val) + r) (hb : b.val = 2048 * (0) + l) :
    ((cfg0.win 3).blk t).view.read (Elt Ideal) X (ix2 r l) = X (ix2 a b) := by
  have e := idx3 t
  blk_simp [e]
  refine congrArg X ?_
  blk_ext [e]
theorem rb4 (X : FVec Ideal S8192x2048 .bf16) (t : Fin cfg0.N) (r : Fin 256) (l : Fin 2048) (a : Fin 8192) (b : Fin 2048) (ha : a.val = 256 * (t.val) + r) (hb : b.val = 2048 * (0) + l) :
    ((cfg0.win 4).blk t).view.read (Elt Ideal) X (ix2 r l) = X (ix2 a b) := by
  have e := idx4 t
  blk_simp [e]
  refine congrArg X ?_
  blk_ext [e]
theorem rb5 (X : FVec Ideal S8192x2048 .bf16) (t : Fin cfg0.N) (r : Fin 256) (l : Fin 2048) (a : Fin 8192) (b : Fin 2048) (ha : a.val = 256 * (t.val) + r) (hb : b.val = 2048 * (0) + l) :
    ((cfg0.win 5).blk t).view.read (Elt Ideal) X (ix2 r l) = X (ix2 a b) := by
  have e := idx5 t
  blk_simp [e]
  refine congrArg X ?_
  blk_ext [e]
theorem rb6 (X : FVec Ideal S8192x4096 .bf16) (t : Fin cfg0.N) (r : Fin 256) (l : Fin 4096) (a : Fin 8192) (b : Fin 4096) (ha : a.val = 256 * (t.val) + r) (hb : b.val = 4096 * (0) + l) :
    ((cfg0.win 6).blk t).view.read (Elt Ideal) X (ix2 r l) = X (ix2 a b) := by
  have e := idx6 t
  blk_simp [e]
  refine congrArg X ?_
  blk_ext [e]
theorem fl4 : ∀ t : Fin cfg0.N, (cfg0.win 4).flush t = true := by decide +kernel
theorem ct4 (X : Vec Ideal S256x2048 .bf16) (t : Fin cfg0.N) (r : Fin 256) (l : Fin 2048) : (cfg0.win 4).cut (grid0.coords t) X (ix2 r l) = X (ix2 r l) := rfl
theorem fl5 : ∀ t : Fin cfg0.N, (cfg0.win 5).flush t = true := by decide +kernel
theorem ct5 (X : Vec Ideal S256x2048 .bf16) (t : Fin cfg0.N) (r : Fin 256) (l : Fin 2048) : (cfg0.win 5).cut (grid0.coords t) X (ix2 r l) = X (ix2 r l) := rfl
theorem fl6 : ∀ t : Fin cfg0.N, (cfg0.win 6).flush t = true := by decide +kernel
theorem ct6 (X : Vec Ideal S256x4096 .bf16) (t : Fin cfg0.N) (r : Fin 256) (l : Fin 4096) : (cfg0.win 6).cut (grid0.coords t) X (ix2 r l) = X (ix2 r l) := rfl

/-- The gradient of a gate's argument from the result's gradient, the branch and the argument. -/
abbrev dgOf (d u g : EReal) : EReal := d * u * Ideal.logistic g * (1 - Ideal.logistic g)

/-- The first gate as the call computes it. -/
theorem s0 (g : Vec Ideal S256x4096 .bf16) (r : Fin 256) (l : Fin 2048) : k0_pay3 g (ix2 r l) = Ideal.logistic (g (ix2 r ⟨l.val, by omega⟩)) := by
  rw [← Cert.Dot.sig_bits]
  pointwise [k0_pay3, k0_pay2]

/-- A block of the first branch's gradient from the input blocks. -/
theorem out4 (x : Vec Ideal S256x2048 .f32) (g : Vec Ideal S256x4096 .bf16) (u v : Vec Ideal S256x2048 .f32) (r : Fin 256) (l : Fin 2048) :
    out0_4 x g u v (ix2 r l) = x (ix2 r l) * Ideal.logistic (g (ix2 r ⟨l.val, by omega⟩)) := by
  have e : out0_4 x g u v = k0_pay6 x g := by
    unfold out0_4
    frame_out
  have e1 : k0_pay6 x g (ix2 r l) = x (ix2 r l) * k0_pay3 g (ix2 r l) := by pointwise [k0_pay6]
  rw [e, e1, s0]

/-- A block of the first gate's gradient from the input blocks. -/
theorem out6_0 (x : Vec Ideal S256x2048 .f32) (g : Vec Ideal S256x4096 .bf16) (u v : Vec Ideal S256x2048 .f32) (r : Fin 256) (l : Fin 2048) :
    out0_6 x g u v (ix2 r ⟨l.val, by omega⟩) = dgOf (x (ix2 r l)) (u (ix2 r l)) (g (ix2 r ⟨l.val, by omega⟩)) := by
  have e : out0_6 x g u v = k0_pay1 (k0_pay5 x g u v) := by
    unfold out0_6
    frame_out
  have e1 : k0_pay1 (k0_pay5 x g u v) (ix2 r ⟨l.val, by omega⟩) = x (ix2 r l) * u (ix2 r l) * k0_pay3 g (ix2 r l) * (Ideal.ofBits .f32 0x3F800000#32 - k0_pay3 g (ix2 r l)) := by pointwise [k0_pay1, k0_pay5]
  rw [e, e1, s0, Cert.Dot.one]

/-- The second gate as the call computes it. -/
theorem s1 (g : Vec Ideal S256x4096 .bf16) (r : Fin 256) (l : Fin 2048) : k0_pay4 g (ix2 r l) = Ideal.logistic (g (ix2 r ⟨2048 + l.val, by omega⟩)) := by
  rw [← Cert.Dot.sig_bits]
  pointwise [k0_pay4, k0_pay2]

/-- A block of the second branch's gradient from the input blocks. -/
theorem out5 (x : Vec Ideal S256x2048 .f32) (g : Vec Ideal S256x4096 .bf16) (u v : Vec Ideal S256x2048 .f32) (r : Fin 256) (l : Fin 2048) :
    out0_5 x g u v (ix2 r l) = x (ix2 r l) * Ideal.logistic (g (ix2 r ⟨2048 + l.val, by omega⟩)) := by
  have e : out0_5 x g u v = k0_pay7 x g := by
    unfold out0_5
    frame_out
  have e1 : k0_pay7 x g (ix2 r l) = x (ix2 r l) * k0_pay4 g (ix2 r l) := by pointwise [k0_pay7]
  rw [e, e1, s1]

/-- A block of the second gate's gradient from the input blocks. -/
theorem out6_1 (x : Vec Ideal S256x2048 .f32) (g : Vec Ideal S256x4096 .bf16) (u v : Vec Ideal S256x2048 .f32) (r : Fin 256) (l : Fin 2048) :
    out0_6 x g u v (ix2 r ⟨2048 + l.val, by omega⟩) = dgOf (x (ix2 r l)) (v (ix2 r l)) (g (ix2 r ⟨2048 + l.val, by omega⟩)) := by
  have e : out0_6 x g u v = k0_pay1 (k0_pay5 x g u v) := by
    unfold out0_6
    frame_out
  have e1 : k0_pay1 (k0_pay5 x g u v) (ix2 r ⟨2048 + l.val, by omega⟩) = x (ix2 r l) * v (ix2 r l) * k0_pay4 g (ix2 r l) * (Ideal.ofBits .f32 0x3F800000#32 - k0_pay4 g (ix2 r l)) := by pointwise [k0_pay1, k0_pay5]
  rw [e, e1, s1, Cert.Dot.one]

/-- A block of the first branch's gradient from the arrays that its input blocks are cut from. -/
theorem blk4 (X : FVec Ideal S8192x2048 .f32) (G : FVec Ideal S8192x4096 .bf16) (U W : FVec Ideal S8192x2048 .f32) (t : Fin cfg0.N) (r : Fin 256) (a : Fin 8192) (b : Fin 2048)
    (ha : a.val = 256 * t.val + r.val) :
    out0_4 (((cfg0.win 0).blk t).view.read (Elt Ideal) X : Vec Ideal S256x2048 .f32) (((cfg0.win 1).blk t).view.read (Elt Ideal) G : Vec Ideal S256x4096 .bf16) (((cfg0.win 2).blk t).view.read (Elt Ideal) U : Vec Ideal S256x2048 .f32) (((cfg0.win 3).blk t).view.read (Elt Ideal) W : Vec Ideal S256x2048 .f32) (ix2 r b) = X (ix2 a b) * Ideal.logistic (G (ix2 a ⟨b.val, by omega⟩)) := by
  rw [out4, rb0 X t r b a b ha (by simp), rb1 G t r _ a ⟨b.val, by omega⟩ ha (by simp)]

/-- A block of the first gate's gradient from the arrays that its input blocks are cut from. -/
theorem blk6_0 (X : FVec Ideal S8192x2048 .f32) (G : FVec Ideal S8192x4096 .bf16) (U W : FVec Ideal S8192x2048 .f32) (t : Fin cfg0.N) (r : Fin 256) (a : Fin 8192) (b : Fin 2048)
    (ha : a.val = 256 * t.val + r.val) :
    out0_6 (((cfg0.win 0).blk t).view.read (Elt Ideal) X : Vec Ideal S256x2048 .f32) (((cfg0.win 1).blk t).view.read (Elt Ideal) G : Vec Ideal S256x4096 .bf16) (((cfg0.win 2).blk t).view.read (Elt Ideal) U : Vec Ideal S256x2048 .f32) (((cfg0.win 3).blk t).view.read (Elt Ideal) W : Vec Ideal S256x2048 .f32) (ix2 r ⟨b.val, by omega⟩) = dgOf (X (ix2 a b)) (U (ix2 a b)) (G (ix2 a ⟨b.val, by omega⟩)) := by
  rw [out6_0, rb0 X t r b a b ha (by simp), rb2 U t r b a b ha (by simp), rb1 G t r _ a ⟨b.val, by omega⟩ ha (by simp)]

/-- A block of the second branch's gradient from the arrays that its input blocks are cut from. -/
theorem blk5 (X : FVec Ideal S8192x2048 .f32) (G : FVec Ideal S8192x4096 .bf16) (U W : FVec Ideal S8192x2048 .f32) (t : Fin cfg0.N) (r : Fin 256) (a : Fin 8192) (b : Fin 2048)
    (ha : a.val = 256 * t.val + r.val) :
    out0_5 (((cfg0.win 0).blk t).view.read (Elt Ideal) X : Vec Ideal S256x2048 .f32) (((cfg0.win 1).blk t).view.read (Elt Ideal) G : Vec Ideal S256x4096 .bf16) (((cfg0.win 2).blk t).view.read (Elt Ideal) U : Vec Ideal S256x2048 .f32) (((cfg0.win 3).blk t).view.read (Elt Ideal) W : Vec Ideal S256x2048 .f32) (ix2 r b) = X (ix2 a b) * Ideal.logistic (G (ix2 a ⟨2048 + b.val, by omega⟩)) := by
  rw [out5, rb0 X t r b a b ha (by simp), rb1 G t r _ a ⟨2048 + b.val, by omega⟩ ha (by simp)]

/-- A block of the second gate's gradient from the arrays that its input blocks are cut from. -/
theorem blk6_1 (X : FVec Ideal S8192x2048 .f32) (G : FVec Ideal S8192x4096 .bf16) (U W : FVec Ideal S8192x2048 .f32) (t : Fin cfg0.N) (r : Fin 256) (a : Fin 8192) (b : Fin 2048)
    (ha : a.val = 256 * t.val + r.val) :
    out0_6 (((cfg0.win 0).blk t).view.read (Elt Ideal) X : Vec Ideal S256x2048 .f32) (((cfg0.win 1).blk t).view.read (Elt Ideal) G : Vec Ideal S256x4096 .bf16) (((cfg0.win 2).blk t).view.read (Elt Ideal) U : Vec Ideal S256x2048 .f32) (((cfg0.win 3).blk t).view.read (Elt Ideal) W : Vec Ideal S256x2048 .f32) (ix2 r ⟨2048 + b.val, by omega⟩) = dgOf (X (ix2 a b)) (W (ix2 a b)) (G (ix2 a ⟨2048 + b.val, by omega⟩)) := by
  rw [out6_1, rb0 X t r b a b ha (by simp), rb3 W t r b a b ha (by simp), rb1 G t r _ a ⟨2048 + b.val, by omega⟩ ha (by simp)]

variable (m : (ℓ : Loc nD τ sig) → Buf (Elt Ideal) ℓ) (c : Dev nD)

/-- The result's gradient on a device. -/
abbrev mx : FVec Ideal S8192x2048 .f32 := m (c, Proc.devRef .tc main_arg0)
/-- The gate arguments of a device. -/
abbrev mg : FVec Ideal S8192x4096 .f32 := m (c, Proc.devRef .tc main_arg1)
/-- The first branch of a device. -/
abbrev mu : FVec Ideal S8192x2048 .f32 := m (c, Proc.devRef .tc main_arg2)
/-- The second branch of a device. -/
abbrev mv : FVec Ideal S8192x2048 .f32 := m (c, Proc.devRef .tc main_arg3)
theorem v0 : V m c main_v0 = truncf .bf16 (mg m c) bitsLt_bf16_f32 := by
  unfold_abbrev_sides
  after_results
theorem ia0 (t : Fin cfg0.N) : iblk m c 0 t = ((cfg0.win 0).blk t).view.read (Elt Ideal) (mx m c) :=
  congrArg (fun X => ((cfg0.win 0).blk t).view.read (Elt Ideal) X) (V_main_arg0 m c)
theorem ia1 (t : Fin cfg0.N) : iblk m c 1 t = ((cfg0.win 1).blk t).view.read (Elt Ideal) (truncf .bf16 (mg m c) bitsLt_bf16_f32) :=
  congrArg (fun X => ((cfg0.win 1).blk t).view.read (Elt Ideal) X) (v0 m c)
theorem ia2 (t : Fin cfg0.N) : iblk m c 2 t = ((cfg0.win 2).blk t).view.read (Elt Ideal) (mu m c) :=
  congrArg (fun X => ((cfg0.win 2).blk t).view.read (Elt Ideal) X) (V_main_arg2 m c)
theorem ia3 (t : Fin cfg0.N) : iblk m c 3 t = ((cfg0.win 3).blk t).view.read (Elt Ideal) (mv m c) :=
  congrArg (fun X => ((cfg0.win 3).blk t).view.read (Elt Ideal) X) (V_main_arg3 m c)

/-- An entry of the first branch's gradient after the run. -/
theorem arr4 (a : Fin 8192) (b : Fin 2048) : (dats m 0 c).arrAt 4 cfg0.N (ix2 a b) = mx m c (ix2 a b) * Ideal.logistic (mg m c (ix2 a ⟨b.val, by omega⟩)) := by
  have hp : a.val / 256 < cfg0.N := by rw [show cfg0.N = 32 from N_0]; omega
  have ha : a.val = 256 * (a.val / 256) + a.val % 256 := by omega
  have e := congrFun (Value.blocks4 m c ⟨_, hp⟩ (fl4 _)) (ix2 ⟨a.val % 256, by omega⟩ b)
  rw [rb4 _ _ _ _ a b ha (by simp), Value.flushed4, ct4, ia0, ia1, ia2, ia3] at e
  refine e.trans ((blk4 _ _ _ _ _ _ a b ha).trans ?_)
  rfl

/-- An entry of the second branch's gradient after the run. -/
theorem arr5 (a : Fin 8192) (b : Fin 2048) : (dats m 0 c).arrAt 5 cfg0.N (ix2 a b) = mx m c (ix2 a b) * Ideal.logistic (mg m c (ix2 a ⟨2048 + b.val, by omega⟩)) := by
  have hp : a.val / 256 < cfg0.N := by rw [show cfg0.N = 32 from N_0]; omega
  have ha : a.val = 256 * (a.val / 256) + a.val % 256 := by omega
  have e := congrFun (Value.blocks5 m c ⟨_, hp⟩ (fl5 _)) (ix2 ⟨a.val % 256, by omega⟩ b)
  rw [rb5 _ _ _ _ a b ha (by simp), Value.flushed5, ct5, ia0, ia1, ia2, ia3] at e
  refine e.trans ((blk5 _ _ _ _ _ _ a b ha).trans ?_)
  rfl

/-- An entry of the first gate's gradient after the run. -/
theorem arr6_0 (a : Fin 8192) (b : Fin 2048) : (dats m 0 c).arrAt 6 cfg0.N (ix2 a ⟨b.val, by omega⟩) = dgOf (mx m c (ix2 a b)) (mu m c (ix2 a b)) (mg m c (ix2 a ⟨b.val, by omega⟩)) := by
  have hp : a.val / 256 < cfg0.N := by rw [show cfg0.N = 32 from N_0]; omega
  have ha : a.val = 256 * (a.val / 256) + a.val % 256 := by omega
  have e := congrFun (Value.blocks6 m c ⟨_, hp⟩ (fl6 _)) (ix2 ⟨a.val % 256, by omega⟩ ⟨b.val, by omega⟩)
  rw [rb6 _ _ _ _ a ⟨b.val, by omega⟩ ha (by simp), Value.flushed6, ct6, ia0, ia1, ia2, ia3] at e
  refine e.trans ((blk6_0 _ _ _ _ _ _ a b ha).trans ?_)
  rfl

/-- An entry of the second gate's gradient after the run. -/
theorem arr6_1 (a : Fin 8192) (b : Fin 2048) : (dats m 0 c).arrAt 6 cfg0.N (ix2 a ⟨2048 + b.val, by omega⟩) = dgOf (mx m c (ix2 a b)) (mv m c (ix2 a b)) (mg m c (ix2 a ⟨2048 + b.val, by omega⟩)) := by
  have hp : a.val / 256 < cfg0.N := by rw [show cfg0.N = 32 from N_0]; omega
  have ha : a.val = 256 * (a.val / 256) + a.val % 256 := by omega
  have e := congrFun (Value.blocks6 m c ⟨_, hp⟩ (fl6 _)) (ix2 ⟨a.val % 256, by omega⟩ ⟨2048 + b.val, by omega⟩)
  rw [rb6 _ _ _ _ a ⟨2048 + b.val, by omega⟩ ha (by simp), Value.flushed6, ct6, ia0, ia1, ia2, ia3] at e
  refine e.trans ((blk6_1 _ _ _ _ _ _ a b ha).trans ?_)
  rfl

end Cert.KernelGBwdIdeal.Prod

namespace Cert.ReferenceGBwdIdeal.Prod
open Cert.ReferenceGBwdIdeal Cert.ReferenceGBwdIdeal.Gen Idealize.ShloMosaic Idealize.ShloMosaic.TcCoe Idealize.SL.Sem

/-- The reference's first gate. -/
theorem sg0 (y : FVec Ideal S8192x4096 .f32) (a : Fin 8192) (b : Fin 2048) :
    (Host.divf (broadcastInDim S8192x2x2048 ![] bcast_S_S8192x2x2048 (constant S_ .f32 0x3F800000#32)) (addf (broadcastInDim S8192x2x2048 ![] bcast_S_S8192x2x2048 (constant S_ .f32 0x3F800000#32)) (Host.exp (Host.negf (shapeCast _ y shapeCasts_S8192x4096_S8192x2x2048)))) : FVec Ideal S8192x2x2048 .f32) (ix3 a 0 b) = Ideal.logistic (y (ix2 a ⟨b.val, by omega⟩)) := by
  rw [← Cert.Dot.logistic_bits]
  pointwise []

/-- The first branch's gradient from the gates. -/
theorem d0 (x : FVec Ideal S8192x2048 .f32) (s : FVec Ideal S8192x2x2048 .f32) (a : Fin 8192) (b : Fin 2048) :
    (truncf .bf16 (mulf (shapeCast _ (extractStridedSlice S8192x1x2048 ![0, 0, 0] s slices_S8192x2x2048_S8192x1x2048_0_0_0) shapeCasts_S8192x1x2048_S8192x2048) (shapeCast _ x shapeCasts_S8192x2048_S8192x2048)) bitsLt_bf16_f32 : FVec Ideal S8192x2048 .bf16) (ix2 a b) = s (ix3 a 0 b) * x (ix2 a b) := by
  pointwise []

/-- The first gate's gradient from the gates. -/
theorem g0 (x u v : FVec Ideal S8192x2048 .f32) (s : FVec Ideal S8192x2x2048 .f32) (a : Fin 8192) (b : Fin 2048) :
    (truncf .bf16 (shapeCast _ (mulf (addf (pad S8192x2x2048 ![0, 1, 0] ![0, 0, 0] ![0, 0, 0] (broadcastInDim S8192x1x2048 ![0, 2] bcast_S8192x2048_S8192x1x2048_0_2 (mulf (shapeCast _ x shapeCasts_S8192x2048_S8192x2048) v)) (constant S_ .f32 0x00000000#32) pads_S8192x1x2048_S8192x2x2048_000_100_000 h_S_) (pad S8192x2x2048 ![0, 0, 0] ![0, 1, 0] ![0, 0, 0] (broadcastInDim S8192x1x2048 ![0, 2] bcast_S8192x2048_S8192x1x2048_0_2 (mulf (shapeCast _ x shapeCasts_S8192x2048_S8192x2048) u)) (constant S_ .f32 0x00000000#32) pads_S8192x1x2048_S8192x2x2048_000_010_000 h_S_)) (mulf s (subf (broadcastInDim S8192x2x2048 ![] bcast_S_S8192x2x2048 (constant S_ .f32 0x3F800000#32)) s))) shapeCasts_S8192x2x2048_S8192x4096) bitsLt_bf16_f32 : FVec Ideal S8192x4096 .bf16) (ix2 a ⟨b.val, by omega⟩) = x (ix2 a b) * u (ix2 a b) * (s (ix3 a 0 b) * (Ideal.ofBits .f32 0x3F800000#32 - s (ix3 a 0 b))) := by
  pointwise []
  have e0 : b.val / 2048 = 0 := by omega
  have e1 : b.val % 2048 = b.val := by omega
  rw [dif_neg (by omega), dif_pos (by omega)]
  simp only [e0, e1, zero_add]
  rfl

/-- An entry of the reference's first branch's gradient. -/
theorem ref4 (x : FVec Ideal S8192x2048 .f32) (y : FVec Ideal S8192x4096 .f32) (a : Fin 8192) (b : Fin 2048) :
    (truncf .bf16 (mulf (shapeCast _ (extractStridedSlice S8192x1x2048 ![0, 0, 0] (Host.divf (broadcastInDim S8192x2x2048 ![] bcast_S_S8192x2x2048 (constant S_ .f32 0x3F800000#32)) (addf (broadcastInDim S8192x2x2048 ![] bcast_S_S8192x2x2048 (constant S_ .f32 0x3F800000#32)) (Host.exp (Host.negf (shapeCast _ y shapeCasts_S8192x4096_S8192x2x2048))))) slices_S8192x2x2048_S8192x1x2048_0_0_0) shapeCasts_S8192x1x2048_S8192x2048) (shapeCast _ x shapeCasts_S8192x2048_S8192x2048)) bitsLt_bf16_f32 : FVec Ideal S8192x2048 .bf16) (ix2 a b) = x (ix2 a b) * Ideal.logistic (y (ix2 a ⟨b.val, by omega⟩)) := by
  rw [d0, sg0, mul_comm]

/-- An entry of the reference's first gate's gradient. -/
theorem ref6_0 (x : FVec Ideal S8192x2048 .f32) (y : FVec Ideal S8192x4096 .f32) (u v : FVec Ideal S8192x2048 .f32) (a : Fin 8192) (b : Fin 2048) :
    (truncf .bf16 (shapeCast _ (mulf (addf (pad S8192x2x2048 ![0, 1, 0] ![0, 0, 0] ![0, 0, 0] (broadcastInDim S8192x1x2048 ![0, 2] bcast_S8192x2048_S8192x1x2048_0_2 (mulf (shapeCast _ x shapeCasts_S8192x2048_S8192x2048) v)) (constant S_ .f32 0x00000000#32) pads_S8192x1x2048_S8192x2x2048_000_100_000 h_S_) (pad S8192x2x2048 ![0, 0, 0] ![0, 1, 0] ![0, 0, 0] (broadcastInDim S8192x1x2048 ![0, 2] bcast_S8192x2048_S8192x1x2048_0_2 (mulf (shapeCast _ x shapeCasts_S8192x2048_S8192x2048) u)) (constant S_ .f32 0x00000000#32) pads_S8192x1x2048_S8192x2x2048_000_010_000 h_S_)) (mulf (Host.divf (broadcastInDim S8192x2x2048 ![] bcast_S_S8192x2x2048 (constant S_ .f32 0x3F800000#32)) (addf (broadcastInDim S8192x2x2048 ![] bcast_S_S8192x2x2048 (constant S_ .f32 0x3F800000#32)) (Host.exp (Host.negf (shapeCast _ y shapeCasts_S8192x4096_S8192x2x2048))))) (subf (broadcastInDim S8192x2x2048 ![] bcast_S_S8192x2x2048 (constant S_ .f32 0x3F800000#32)) (Host.divf (broadcastInDim S8192x2x2048 ![] bcast_S_S8192x2x2048 (constant S_ .f32 0x3F800000#32)) (addf (broadcastInDim S8192x2x2048 ![] bcast_S_S8192x2x2048 (constant S_ .f32 0x3F800000#32)) (Host.exp (Host.negf (shapeCast _ y shapeCasts_S8192x4096_S8192x2x2048)))))))) shapeCasts_S8192x2x2048_S8192x4096) bitsLt_bf16_f32 : FVec Ideal S8192x4096 .bf16) (ix2 a ⟨b.val, by omega⟩) = Cert.KernelGBwdIdeal.Prod.dgOf (x (ix2 a b)) (u (ix2 a b)) (y (ix2 a ⟨b.val, by omega⟩)) := by
  rw [g0, sg0, Cert.Dot.one, ← mul_assoc]

/-- The reference's second gate. -/
theorem sg1 (y : FVec Ideal S8192x4096 .f32) (a : Fin 8192) (b : Fin 2048) :
    (Host.divf (broadcastInDim S8192x2x2048 ![] bcast_S_S8192x2x2048 (constant S_ .f32 0x3F800000#32)) (addf (broadcastInDim S8192x2x2048 ![] bcast_S_S8192x2x2048 (constant S_ .f32 0x3F800000#32)) (Host.exp (Host.negf (shapeCast _ y shapeCasts_S8192x4096_S8192x2x2048)))) : FVec Ideal S8192x2x2048 .f32) (ix3 a 1 b) = Ideal.logistic (y (ix2 a ⟨2048 + b.val, by omega⟩)) := by
  rw [← Cert.Dot.logistic_bits]
  pointwise []

/-- The second branch's gradient from the gates. -/
theorem d1 (x : FVec Ideal S8192x2048 .f32) (s : FVec Ideal S8192x2x2048 .f32) (a : Fin 8192) (b : Fin 2048) :
    (truncf .bf16 (mulf (shapeCast _ (extractStridedSlice S8192x1x2048 ![0, 1, 0] s slices_S8192x2x2048_S8192x1x2048_0_1_0) shapeCasts_S8192x1x2048_S8192x2048) (shapeCast _ x shapeCasts_S8192x2048_S8192x2048)) bitsLt_bf16_f32 : FVec Ideal S8192x2048 .bf16) (ix2 a b) = s (ix3 a 1 b) * x (ix2 a b) := by
  pointwise []

/-- The second gate's gradient from the gates. -/
theorem g1 (x u v : FVec Ideal S8192x2048 .f32) (s : FVec Ideal S8192x2x2048 .f32) (a : Fin 8192) (b : Fin 2048) :
    (truncf .bf16 (shapeCast _ (mulf (addf (pad S8192x2x2048 ![0, 1, 0] ![0, 0, 0] ![0, 0, 0] (broadcastInDim S8192x1x2048 ![0, 2] bcast_S8192x2048_S8192x1x2048_0_2 (mulf (shapeCast _ x shapeCasts_S8192x2048_S8192x2048) v)) (constant S_ .f32 0x00000000#32) pads_S8192x1x2048_S8192x2x2048_000_100_000 h_S_) (pad S8192x2x2048 ![0, 0, 0] ![0, 1, 0] ![0, 0, 0] (broadcastInDim S8192x1x2048 ![0, 2] bcast_S8192x2048_S8192x1x2048_0_2 (mulf (shapeCast _ x shapeCasts_S8192x2048_S8192x2048) u)) (constant S_ .f32 0x00000000#32) pads_S8192x1x2048_S8192x2x2048_000_010_000 h_S_)) (mulf s (subf (broadcastInDim S8192x2x2048 ![] bcast_S_S8192x2x2048 (constant S_ .f32 0x3F800000#32)) s))) shapeCasts_S8192x2x2048_S8192x4096) bitsLt_bf16_f32 : FVec Ideal S8192x4096 .bf16) (ix2 a ⟨2048 + b.val, by omega⟩) = x (ix2 a b) * v (ix2 a b) * (s (ix3 a 1 b) * (Ideal.ofBits .f32 0x3F800000#32 - s (ix3 a 1 b))) := by
  pointwise []
  have e0 : (⟨(2048 + b.val) / 2048, by omega⟩ : Fin 2) = 1 := Fin.ext (by show (2048 + b.val) / 2048 = 1; omega)
  rw [dif_pos (by omega), dif_neg (by omega), e0, add_zero]

/-- An entry of the reference's second branch's gradient. -/
theorem ref5 (x : FVec Ideal S8192x2048 .f32) (y : FVec Ideal S8192x4096 .f32) (a : Fin 8192) (b : Fin 2048) :
    (truncf .bf16 (mulf (shapeCast _ (extractStridedSlice S8192x1x2048 ![0, 1, 0] (Host.divf (broadcastInDim S8192x2x2048 ![] bcast_S_S8192x2x2048 (constant S_ .f32 0x3F800000#32)) (addf (broadcastInDim S8192x2x2048 ![] bcast_S_S8192x2x2048 (constant S_ .f32 0x3F800000#32)) (Host.exp (Host.negf (shapeCast _ y shapeCasts_S8192x4096_S8192x2x2048))))) slices_S8192x2x2048_S8192x1x2048_0_1_0) shapeCasts_S8192x1x2048_S8192x2048) (shapeCast _ x shapeCasts_S8192x2048_S8192x2048)) bitsLt_bf16_f32 : FVec Ideal S8192x2048 .bf16) (ix2 a b) = x (ix2 a b) * Ideal.logistic (y (ix2 a ⟨2048 + b.val, by omega⟩)) := by
  rw [d1, sg1, mul_comm]

/-- An entry of the reference's second gate's gradient. -/
theorem ref6_1 (x : FVec Ideal S8192x2048 .f32) (y : FVec Ideal S8192x4096 .f32) (u v : FVec Ideal S8192x2048 .f32) (a : Fin 8192) (b : Fin 2048) :
    (truncf .bf16 (shapeCast _ (mulf (addf (pad S8192x2x2048 ![0, 1, 0] ![0, 0, 0] ![0, 0, 0] (broadcastInDim S8192x1x2048 ![0, 2] bcast_S8192x2048_S8192x1x2048_0_2 (mulf (shapeCast _ x shapeCasts_S8192x2048_S8192x2048) v)) (constant S_ .f32 0x00000000#32) pads_S8192x1x2048_S8192x2x2048_000_100_000 h_S_) (pad S8192x2x2048 ![0, 0, 0] ![0, 1, 0] ![0, 0, 0] (broadcastInDim S8192x1x2048 ![0, 2] bcast_S8192x2048_S8192x1x2048_0_2 (mulf (shapeCast _ x shapeCasts_S8192x2048_S8192x2048) u)) (constant S_ .f32 0x00000000#32) pads_S8192x1x2048_S8192x2x2048_000_010_000 h_S_)) (mulf (Host.divf (broadcastInDim S8192x2x2048 ![] bcast_S_S8192x2x2048 (constant S_ .f32 0x3F800000#32)) (addf (broadcastInDim S8192x2x2048 ![] bcast_S_S8192x2x2048 (constant S_ .f32 0x3F800000#32)) (Host.exp (Host.negf (shapeCast _ y shapeCasts_S8192x4096_S8192x2x2048))))) (subf (broadcastInDim S8192x2x2048 ![] bcast_S_S8192x2x2048 (constant S_ .f32 0x3F800000#32)) (Host.divf (broadcastInDim S8192x2x2048 ![] bcast_S_S8192x2x2048 (constant S_ .f32 0x3F800000#32)) (addf (broadcastInDim S8192x2x2048 ![] bcast_S_S8192x2x2048 (constant S_ .f32 0x3F800000#32)) (Host.exp (Host.negf (shapeCast _ y shapeCasts_S8192x4096_S8192x2x2048)))))))) shapeCasts_S8192x2x2048_S8192x4096) bitsLt_bf16_f32 : FVec Ideal S8192x4096 .bf16) (ix2 a ⟨2048 + b.val, by omega⟩) = Cert.KernelGBwdIdeal.Prod.dgOf (x (ix2 a b)) (v (ix2 a b)) (y (ix2 a ⟨2048 + b.val, by omega⟩)) := by
  rw [g1, sg1, Cert.Dot.one, ← mul_assoc]

end Cert.ReferenceGBwdIdeal.Prod

namespace Cert.GBwd
open Idealize.ShloMosaic Idealize.SL.Sem Idealize.ShloMosaic.StableHlo Cert.KernelGBwdIdeal.Prod

attribute [local instance] Cert.KernelGBwd.Gen.facts Cert.KernelGBwdIdeal.Gen.facts Cert.ReferenceGBwdIdeal.Gen.facts

set_option maxHeartbeats 2000000 in
/-- The ideal call and the ideal reference return the same three arrays, for all inputs. -/
theorem algebraic : Cert.algebraic_KernelGBwdIdeal_ReferenceGBwdIdeal := by
  intro m g m' g' _ ha
  refine ⟨fun c => (Cert.KernelGBwdIdeal.Gen.dats m 0 c).arrAt 4 Cert.KernelGBwdIdeal.cfg0.N, fun c => (Cert.KernelGBwdIdeal.Gen.dats m 0 c).arrAt 5 Cert.KernelGBwdIdeal.cfg0.N,
    fun c => (Cert.KernelGBwdIdeal.Gen.dats m 0 c).arrAt 6 Cert.KernelGBwdIdeal.cfg0.N, Cert.KernelGBwdIdeal.Value.run_blocks m g, ?_⟩
  refine (θ_run _ _ _).mono (fun r h c => ?_) (Cert.ReferenceGBwdIdeal.Value.run m' g')
  obtain ⟨h1, h2, h3, hk⟩ := h c
  obtain ⟨e0, e1, e2, e3⟩ := ha c
  rw [e0, e1] at h1 h2
  rw [e0, e1, e2, e3] at h3
  refine ⟨h1.trans (funext fun i => ?_), h2.trans (funext fun i => ?_), h3.trans (funext fun i => ?_), hk⟩
  · rw [eq_ix2 i]
    exact (Cert.ReferenceGBwdIdeal.Prod.ref4 (mx m c) (mg m c) (i 0) (i 1)).trans (arr4 m c (i 0) (i 1)).symm
  · rw [eq_ix2 i]
    exact (Cert.ReferenceGBwdIdeal.Prod.ref5 (mx m c) (mg m c) (i 0) (i 1)).trans (arr5 m c (i 0) (i 1)).symm
  · rw [eq_ix2 i]
    have hi : (i 1).val < 4096 := (i 1).isLt
    by_cases hb : (i 1).val < 2048
    · have q : i 1 = ⟨(⟨(i 1).val, hb⟩ : Fin 2048).val, hi⟩ := rfl
      rw [q]
      exact (Cert.ReferenceGBwdIdeal.Prod.ref6_0 (mx m c) (mg m c) (mu m c) (mv m c) (i 0) ⟨(i 1).val, hb⟩).trans (arr6_0 m c (i 0) ⟨(i 1).val, hb⟩).symm
    · have q : i 1 = ⟨2048 + (⟨(i 1).val - 2048, by omega⟩ : Fin 2048).val, by show 2048 + ((i 1).val - 2048) < 4096; omega⟩ := Fin.ext (by show (i 1).val = 2048 + ((i 1).val - 2048); omega)
      rw [q]
      exact (Cert.ReferenceGBwdIdeal.Prod.ref6_1 (mx m c) (mg m c) (mu m c) (mv m c) (i 0) ⟨(i 1).val - 2048, by omega⟩).trans (arr6_1 m c (i 0) ⟨(i 1).val - 2048, by omega⟩).symm

/-- The ideal reference keeps its arguments; it declares no semaphore. -/
theorem frameR : Cert.quiescent_ReferenceGBwdIdeal := fun m g _ =>
  (θ_run _ _ _).mono (fun r h => ⟨fun c => (h c).2.2.2, sem_eq_zero_of_no_sems (by decide) r.2⟩) (Cert.ReferenceGBwdIdeal.Value.run m g)

end Cert.GBwd
end
-- ==== Proof.GMerge.lean ====
module

public import proofs.«01_k».proof.Proof.Gen.KernelGMergeIdeal.Frame
public import Idealize.ShloMosaic.Lib.Pipeline.Value
public import proofs.«01_k».proof.Proof.Gen.ReferenceGMergeIdeal.Run
public import proofs.«01_k».proof.Proof.Gen.KernelGMerge.Frame
public import proofs.«01_k».proof.Defs
public import proofs.«01_k».proof.Proof.Sig
public import Idealize.ShloMosaic.Lib.Pipeline.ReadBack
public import Idealize.ShloMosaic.Lib.Pipeline.ValueKit

@[expose] public section

set_option maxRecDepth 16384

noncomputable section

namespace Cert.KernelGMergeIdeal.Prod

open Cert.KernelGMergeIdeal Cert.KernelGMergeIdeal.Gen Idealize.ShloMosaic Idealize.ShloMosaic.TcCoe Idealize.SL.Sem

open Idealize.ShloMosaic.Pipeline (Dat)

theorem idx0 : ∀ t : Fin cfg0.N, (cfg0.win 0).index t = ![t.val, 0] := by decide +kernel
theorem idx1 : ∀ t : Fin cfg0.N, (cfg0.win 1).index t = ![t.val, 0] := by decide +kernel
theorem idx2 : ∀ t : Fin cfg0.N, (cfg0.win 2).index t = ![t.val, 0] := by decide +kernel
theorem idx3 : ∀ t : Fin cfg0.N, (cfg0.win 3).index t = ![t.val, 0] := by decide +kernel
theorem rb0 (X : FVec Ideal S8192x4096 .bf16) (t : Fin cfg0.N) (r : Fin 256) (l : Fin 4096) (a : Fin 8192) (b : Fin 4096) (ha : a.val = 256 * (t.val) + r) (hb : b.val = 4096 * (0) + l) :
    ((cfg0.win 0).blk t).view.read (Elt Ideal) X (ix2 r l) = X (ix2 a b) := by
  have e := idx0 t
  blk_simp [e]
  refine congrArg X ?_
  blk_ext [e]
theorem rb1 (X : FVec Ideal S8192x2048 .f32) (t : Fin cfg0.N) (r : Fin 256) (l : Fin 2048) (a : Fin 8192) (b : Fin 2048) (ha : a.val = 256 * (t.val) + r) (hb : b.val = 2048 * (0) + l) :
    ((cfg0.win 1).blk t).view.read (Elt Ideal) X (ix2 r l) = X (ix2 a b) := by
  have e := idx1 t
  blk_simp [e]
  refine congrArg X ?_
  blk_ext [e]
theorem rb2 (X : FVec Ideal S8192x2048 .f32) (t : Fin cfg0.N) (r : Fin 256) (l : Fin 2048) (a : Fin 8192) (b : Fin 2048) (ha : a.val = 256 * (t.val) + r) (hb : b.val = 2048 * (0) + l) :
    ((cfg0.win 2).blk t).view.read (Elt Ideal) X (ix2 r l) = X (ix2 a b) := by
  have e := idx2 t
  blk_simp [e]
  refine congrArg X ?_
  blk_ext [e]
theorem rb3 (X : FVec Ideal S8192x2048 .bf16) (t : Fin cfg0.N) (r : Fin 256) (l : Fin 2048) (a : Fin 8192) (b : Fin 2048) (ha : a.val = 256 * (t.val) + r) (hb : b.val = 2048 * (0) + l) :
    ((cfg0.win 3).blk t).view.read (Elt Ideal) X (ix2 r l) = X (ix2 a b) := by
  have e := idx3 t
  blk_simp [e]
  refine congrArg X ?_
  blk_ext [e]
theorem fl3 : ∀ t : Fin cfg0.N, (cfg0.win 3).flush t = true := by decide +kernel
theorem ct3 (X : Vec Ideal S256x2048 .bf16) (t : Fin cfg0.N) (r : Fin 256) (l : Fin 2048) : (cfg0.win 3).cut (grid0.coords t) X (ix2 r l) = X (ix2 r l) := rfl

/-- A block of the result from the input blocks. -/
theorem out3 (x : Vec Ideal S256x4096 .bf16) (u v : Vec Ideal S256x2048 .f32) (r : Fin 256) (l : Fin 2048) : out0_3 x u v (ix2 r l) = (Ideal.logistic (x (ix2 r ⟨l.val, by omega⟩)) * u (ix2 r l) + Ideal.logistic (x (ix2 r ⟨2048 + l.val, by omega⟩)) * v (ix2 r l)) := by
  have e : out0_3 x u v = k0_pay1 x u v := by
    unfold out0_3
    frame_out
  rw [e, ← Cert.Dot.sig_bits, ← Cert.Dot.sig_bits]
  pointwise [k0_pay1]

/-- A block of the result from the arrays that its input blocks are cut from. -/
theorem blk3 (X : FVec Ideal S8192x4096 .bf16) (U W : FVec Ideal S8192x2048 .f32) (t : Fin cfg0.N) (r : Fin 256) (a : Fin 8192) (b : Fin 2048)
    (ha : a.val = 256 * t.val + r.val) :
    out0_3 (((cfg0.win 0).blk t).view.read (Elt Ideal) X : Vec Ideal S256x4096 .bf16) (((cfg0.win 1).blk t).view.read (Elt Ideal) U : Vec Ideal S256x2048 .f32) (((cfg0.win 2).blk t).view.read (Elt Ideal) W : Vec Ideal S256x2048 .f32) (ix2 r b) = (Ideal.logistic (X (ix2 a ⟨b.val, by omega⟩)) * U (ix2 a b) + Ideal.logistic (X (ix2 a ⟨2048 + b.val, by omega⟩)) * W (ix2 a b)) := by
  rw [out3, rb0 X t r _ a ⟨b.val, by omega⟩ ha (by simp), rb0 X t r _ a ⟨2048 + b.val, by omega⟩ ha (by simp), rb1 U t r b a b ha (by simp), rb2 W t r b a b ha (by simp)]

variable (m : (ℓ : Loc nD τ sig) → Buf (Elt Ideal) ℓ) (c : Dev nD)

/-- The gate arguments of a device. -/
abbrev mx : FVec Ideal S8192x4096 .f32 := m (c, Proc.devRef .tc main_arg0)
/-- The first branch of a device. -/
abbrev mu : FVec Ideal S8192x2048 .f32 := m (c, Proc.devRef .tc main_arg1)
/-- The second branch of a device. -/
abbrev mv : FVec Ideal S8192x2048 .f32 := m (c, Proc.devRef .tc main_arg2)
theorem v0 : V m c main_v0 = truncf .bf16 (mx m c) bitsLt_bf16_f32 := by
  unfold_abbrev_sides
  after_results
theorem ia0 (t : Fin cfg0.N) : iblk m c 0 t = ((cfg0.win 0).blk t).view.read (Elt Ideal) (truncf .bf16 (mx m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (mu m c) :=
  congrArg (fun X => ((cfg0.win 1).blk t).view.read (Elt Ideal) X) (V_main_arg1 m c)
theorem ia2 (t : Fin cfg0.N) : iblk m c 2 t = ((cfg0.win 2).blk t).view.read (Elt Ideal) (mv m c) :=
  congrArg (fun X => ((cfg0.win 2).blk t).view.read (Elt Ideal) X) (V_main_arg2 m c)

/-- What a point of the grid writes back is its block of the result. -/
theorem flushed3 (t : Fin cfg0.N) : (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

/-- Two points of the grid write different blocks. -/
theorem inj3 : ∀ t t' : Fin cfg0.N, win0_3.index t = win0_3.index t' → t = t' :=
  (by decide +kernel : ∀ t t' : Fin grid0.N, win0_3.index t = win0_3.index t' → t = t')

/-- A block of the result after the run is what its point of the grid wrote. -/
theorem blocks3 (t : Fin cfg0.N) : ((cfg0.win 3).blk t).view.read (Elt Ideal) ((dats m 0 c).arrAt 3 cfg0.N) = (dats m 0 c).flushed 3 t :=
  (dats m 0 c).read_blk_arrAt_eq_flushed 3 (fun t t' _ _ h => (cfg0.win 3).disjoint_blk fun e => h (inj3 t t' e)) cfg0.N t t.isLt (fl3 t)

/-- The run leaves the result in its array and the arguments as they were. -/
theorem run_blocks (g : Dev nD → PrngReg) : θ_run defs (onTc (τ := τ) (main (F := Ideal))) ⟨m, fun _ => 0, g⟩ fun r => ∀ c : Dev nD,
      r.2.mem ((c : Thread nD τ).loc main_v1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m g)

/-- An entry of the result after the run. -/
theorem arr3 (a : Fin 8192) (b : Fin 2048) : (dats m 0 c).arrAt 3 cfg0.N (ix2 a b) = (Ideal.logistic (mx m c (ix2 a ⟨b.val, by omega⟩)) * mu m c (ix2 a b) + Ideal.logistic (mx m c (ix2 a ⟨2048 + b.val, by omega⟩)) * mv m c (ix2 a b)) := by
  have hp : a.val / 256 < cfg0.N := by rw [show cfg0.N = 32 from N_0]; omega
  have ha : a.val = 256 * (a.val / 256) + a.val % 256 := by omega
  have e := congrFun (blocks3 m c ⟨_, hp⟩) (ix2 ⟨a.val % 256, by omega⟩ b)
  rw [rb3 _ _ _ _ a b ha (by omega), flushed3, ct3, ia0, ia1, ia2] at e
  refine e.trans ((blk3 _ _ _ _ _ a b ha).trans ?_)
  rfl

end Cert.KernelGMergeIdeal.Prod

namespace Cert.ReferenceGMergeIdeal.Prod
open Cert.ReferenceGMergeIdeal Cert.ReferenceGMergeIdeal.Gen Idealize.ShloMosaic Idealize.ShloMosaic.TcCoe Idealize.SL.Sem

/-- The reference's first gate. -/
theorem s0_at (x : FVec Ideal S8192x4096 .f32) (a : Fin 8192) (b : Fin 2048) :
    (shapeCast _ (extractStridedSlice S8192x1x2048 ![0, 0, 0] (Host.divf (broadcastInDim S8192x2x2048 ![] bcast_S_S8192x2x2048 (constant S_ .f32 0x3F800000#32)) (addf (broadcastInDim S8192x2x2048 ![] bcast_S_S8192x2x2048 (constant S_ .f32 0x3F800000#32)) (Host.exp (Host.negf (shapeCast _ x shapeCasts_S8192x4096_S8192x2x2048))))) slices_S8192x2x2048_S8192x1x2048_0_0_0) shapeCasts_S8192x1x2048_S8192x2048 : FVec Ideal S8192x2048 .f32) (ix2 a b) = Ideal.logistic (x (ix2 a ⟨b.val, by omega⟩)) := by
  rw [← Cert.Dot.logistic_bits]
  pointwise []

/-- The reference's second gate. -/
theorem s1_at (x : FVec Ideal S8192x4096 .f32) (a : Fin 8192) (b : Fin 2048) :
    (shapeCast _ (extractStridedSlice S8192x1x2048 ![0, 1, 0] (Host.divf (broadcastInDim S8192x2x2048 ![] bcast_S_S8192x2x2048 (constant S_ .f32 0x3F800000#32)) (addf (broadcastInDim S8192x2x2048 ![] bcast_S_S8192x2x2048 (constant S_ .f32 0x3F800000#32)) (Host.exp (Host.negf (shapeCast _ x shapeCasts_S8192x4096_S8192x2x2048))))) slices_S8192x2x2048_S8192x1x2048_0_1_0) shapeCasts_S8192x1x2048_S8192x2048 : FVec Ideal S8192x2048 .f32) (ix2 a b) = Ideal.logistic (x (ix2 a ⟨2048 + b.val, by omega⟩)) := by
  rw [← Cert.Dot.logistic_bits]
  pointwise []

/-- The reference's result from its gates. -/
theorem sum_at (s w y u : FVec Ideal S8192x2048 .f32) (i : S8192x2048.Idx) :
    (truncf .bf16 (addf (mulf s y) (mulf w u)) bitsLt_bf16_f32 : FVec Ideal S8192x2048 .bf16) i = s i * y i + w i * u i := by
  pointwise []

/-- An entry of the reference's result. -/
theorem ref_at (x : FVec Ideal S8192x4096 .f32) (y u : FVec Ideal S8192x2048 .f32) (a : Fin 8192) (b : Fin 2048) :
    (truncf .bf16 (addf (mulf (shapeCast _ (extractStridedSlice S8192x1x2048 ![0, 0, 0] (Host.divf (broadcastInDim S8192x2x2048 ![] bcast_S_S8192x2x2048 (constant S_ .f32 0x3F800000#32)) (addf (broadcastInDim S8192x2x2048 ![] bcast_S_S8192x2x2048 (constant S_ .f32 0x3F800000#32)) (Host.exp (Host.negf (shapeCast _ x shapeCasts_S8192x4096_S8192x2x2048))))) slices_S8192x2x2048_S8192x1x2048_0_0_0) shapeCasts_S8192x1x2048_S8192x2048) y) (mulf (shapeCast _ (extractStridedSlice S8192x1x2048 ![0, 1, 0] (Host.divf (broadcastInDim S8192x2x2048 ![] bcast_S_S8192x2x2048 (constant S_ .f32 0x3F800000#32)) (addf (broadcastInDim S8192x2x2048 ![] bcast_S_S8192x2x2048 (constant S_ .f32 0x3F800000#32)) (Host.exp (Host.negf (shapeCast _ x shapeCasts_S8192x4096_S8192x2x2048))))) slices_S8192x2x2048_S8192x1x2048_0_1_0) shapeCasts_S8192x1x2048_S8192x2048) u)) bitsLt_bf16_f32 : FVec Ideal S8192x2048 .bf16) (ix2 a b) = (Ideal.logistic (x (ix2 a ⟨b.val, by omega⟩)) * y (ix2 a b) + Ideal.logistic (x (ix2 a ⟨2048 + b.val, by omega⟩)) * u (ix2 a b)) := by
  rw [sum_at, s0_at, s1_at]

end Cert.ReferenceGMergeIdeal.Prod

namespace Cert.GMerge
open Idealize.ShloMosaic Idealize.SL.Sem Idealize.ShloMosaic.StableHlo Cert.KernelGMergeIdeal.Prod

attribute [local instance] Cert.KernelGMerge.Gen.facts Cert.KernelGMergeIdeal.Gen.facts Cert.ReferenceGMergeIdeal.Gen.facts

set_option maxHeartbeats 2000000 in
/-- The ideal call and the ideal reference return the same array, for all inputs. -/
theorem algebraic : Cert.algebraic_KernelGMergeIdeal_ReferenceGMergeIdeal := by
  intro m g m' g' _ ha
  refine ⟨fun c => (Cert.KernelGMergeIdeal.Gen.dats m 0 c).arrAt 3 Cert.KernelGMergeIdeal.cfg0.N,
    run_blocks m g, ?_⟩
  refine (θ_run _ _ _).mono (fun r h c => ?_) (Cert.ReferenceGMergeIdeal.Value.run m' g')
  obtain ⟨h1, hk⟩ := h c
  obtain ⟨e0, e1, e2⟩ := ha c
  rw [e0, e1, e2] at h1
  refine ⟨h1.trans (funext fun i => ?_), hk⟩
  rw [eq_ix2 i]
  exact (Cert.ReferenceGMergeIdeal.Prod.ref_at (mx m c) (mu m c) (mv m c) (i 0) (i 1)).trans (arr3 m c (i 0) (i 1)).symm

/-- The ideal reference keeps its arguments; it declares no semaphore. -/
theorem frameR : Cert.quiescent_ReferenceGMergeIdeal := fun m g _ =>
  (θ_run _ _ _).mono (fun r h => ⟨fun c => (h c).2, sem_eq_zero_of_no_sems (by decide) r.2⟩) (Cert.ReferenceGMergeIdeal.Value.run m g)

end Cert.GMerge
end
-- ==== Proof.Rms.lean ====
module

public import proofs.«01_k».proof.Proof.Gen.KernelRmsIdeal.Value
public import proofs.«01_k».proof.Proof.Gen.ReferenceRmsIdeal.Run
public import proofs.«01_k».proof.Proof.Gen.KernelRms.Frame
public import proofs.«01_k».proof.Defs
public import proofs.«01_k».proof.Proof.Mean
public import Idealize.ShloMosaic.Lib.Pipeline.ReadBack
public import Idealize.ShloMosaic.Lib.Pipeline.ValueKit

@[expose] public section

set_option maxRecDepth 16384

noncomputable section

namespace Cert.KernelRmsIdeal.Prod

open Cert.KernelRmsIdeal Cert.KernelRmsIdeal.Gen Idealize.ShloMosaic Idealize.ShloMosaic.TcCoe Idealize.SL.Sem

theorem idx0 : ∀ t : Fin cfg0.N, (cfg0.win 0).index t = ![t.val, 0] := by decide +kernel
theorem idx1 : ∀ t : Fin cfg0.N, (cfg0.win 1).index t = ![0, 0] := by decide +kernel
theorem idx2 : ∀ t : Fin cfg0.N, (cfg0.win 2).index t = ![t.val, 0] := by decide +kernel
theorem rb0 (X : FVec Ideal S8192x2048 .f32) (t : Fin cfg0.N) (r : Fin 512) (l : Fin 2048) (a : Fin 8192) (b : Fin 2048) (ha : a.val = 512 * (t.val) + r) (hb : b.val = 2048 * (0) + l) :
    ((cfg0.win 0).blk t).view.read (Elt Ideal) X (ix2 r l) = X (ix2 a b) := by
  have e := idx0 t
  blk_simp [e]
  refine congrArg X ?_
  blk_ext [e]
theorem rb1 (X : FVec Ideal S1x2048 .f32) (t : Fin cfg0.N) (r : Fin 1) (l : Fin 2048) (a : Fin 1) (b : Fin 2048) (ha : a.val = 1 * (0) + r) (hb : b.val = 2048 * (0) + l) :
    ((cfg0.win 1).blk t).view.read (Elt Ideal) X (ix2 r l) = X (ix2 a b) := by
  have e := idx1 t
  blk_simp [e]
  refine congrArg X ?_
  blk_ext [e]
theorem rb2 (X : FVec Ideal S8192x2048 .bf16) (t : Fin cfg0.N) (r : Fin 512) (l : Fin 2048) (a : Fin 8192) (b : Fin 2048) (ha : a.val = 512 * (t.val) + r) (hb : b.val = 2048 * (0) + l) :
    ((cfg0.win 2).blk t).view.read (Elt Ideal) X (ix2 r l) = X (ix2 a b) := by
  have e := idx2 t
  blk_simp [e]
  refine congrArg X ?_
  blk_ext [e]
theorem fl2 : ∀ t : Fin cfg0.N, (cfg0.win 2).flush t = true := by decide +kernel
theorem ct2 (X : Vec Ideal S512x2048 .bf16) (t : Fin cfg0.N) (r : Fin 512) (l : Fin 2048) : (cfg0.win 2).cut (grid0.coords t) X (ix2 r l) = X (ix2 r l) := rfl

/-- A normalised and scaled entry from its row's sum of squares. -/
abbrev rmsOf (s x g : EReal) : EReal := x * Ideal.rsqrt (s * Ideal.ofBits .f32 0x3A000000#32 + Ideal.ofBits .f32 0x358637BD#32) * g

/-- A block of the result from the input blocks. -/
theorem out2 (x : Vec Ideal S512x2048 .f32) (g : Vec Ideal S1x2048 .f32) (r : Fin 512) (l : Fin 2048) : out0_2 x g (ix2 r l) = rmsOf (∑ k : Fin 2048, x (ix2 r k) * x (ix2 r k)) (x (ix2 r l)) (g (ix2 0 l)) := by
  have e : out0_2 x g = k0_pay1 x g := by
    unfold out0_2
    frame_out
  rw [e]
  pointwise [k0_pay1]

/-- A block of the result from the arrays that its input blocks are cut from. -/
theorem blk2 (X : FVec Ideal S8192x2048 .f32) (Y : FVec Ideal S1x2048 .f32) (t : Fin cfg0.N) (r : Fin 512) (l : Fin 2048) (a : Fin 8192) (b : Fin 2048)
    (ha : a.val = 512 * t.val + r.val) (hb : b.val = 2048 * 0 + l.val) :
    out0_2 (((cfg0.win 0).blk t).view.read (Elt Ideal) X : Vec Ideal S512x2048 .f32) (((cfg0.win 1).blk t).view.read (Elt Ideal) Y : Vec Ideal S1x2048 .f32) (ix2 r l) = rmsOf (∑ k : Fin 2048, X (ix2 a k) * X (ix2 a k)) (X (ix2 a b)) (Y (ix2 0 b)) := by
  rw [out2, rb0 X t r l a b ha hb, rb1 Y t 0 l 0 b (by simp) hb]
  refine congrArg (fun d => rmsOf d (X (ix2 a b)) (Y (ix2 0 b))) (Finset.sum_congr rfl fun k _ => ?_)
  rw [rb0 X t r k a k ha (by omega)]

variable (m : (ℓ : Loc nD τ sig) → Buf (Elt Ideal) ℓ) (c : Dev nD)

/-- The first argument of a device. -/
abbrev mx : FVec Ideal S8192x2048 .f32 := m (c, Proc.devRef .tc main_arg0)
/-- The second argument of a device. -/
abbrev mg : FVec Ideal S1x2048 .f32 := m (c, Proc.devRef .tc main_arg1)
theorem ia0 (t : Fin cfg0.N) : iblk m c 0 t = ((cfg0.win 0).blk t).view.read (Elt Ideal) (mx m c) :=
  congrArg (fun X => ((cfg0.win 0).blk t).view.read (Elt Ideal) X) (V_main_arg0 m c)
theorem ia1 (t : Fin cfg0.N) : iblk m c 1 t = ((cfg0.win 1).blk t).view.read (Elt Ideal) (mg m c) :=
  congrArg (fun X => ((cfg0.win 1).blk t).view.read (Elt Ideal) X) (V_main_arg1 m c)

/-- An entry of the result after the run. -/
theorem arr2 (a : Fin 8192) (b : Fin 2048) : (dats m 0 c).arrAt 2 cfg0.N (ix2 a b) = rmsOf (∑ k : Fin 2048, mx m c (ix2 a k) * mx m c (ix2 a k)) (mx m c (ix2 a b)) (mg m c (ix2 0 b)) := by
  have hp : a.val / 512 < cfg0.N := by rw [show cfg0.N = 16 from N_0]; omega
  have ha : a.val = 512 * (a.val / 512) + a.val % 512 := by omega
  have e := congrFun (Value.blocks2 m c ⟨_, hp⟩ (fl2 _)) (ix2 ⟨a.val % 512, by omega⟩ b)
  rw [rb2 _ _ _ _ a b ha (by omega), Value.flushed2, ct2, ia0, ia1] at e
  exact e.trans (blk2 _ _ _ _ _ a b ha (by omega))

end Cert.KernelRmsIdeal.Prod

namespace Cert.ReferenceRmsIdeal.Prod
open Cert.ReferenceRmsIdeal Cert.ReferenceRmsIdeal.Gen Idealize.ShloMosaic Idealize.ShloMosaic.TcCoe Idealize.SL.Sem

/-- An entry of the reference's result. -/
theorem ref_at (x : FVec Ideal S8192x2048 .f32) (y : FVec Ideal S1x2048 .f32) (a : Fin 8192) (b : Fin 2048) :
    (truncf .bf16 (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 y)) bitsLt_bf16_f32 : FVec Ideal S8192x2048 .bf16) (ix2 a b) = Cert.KernelRmsIdeal.Prod.rmsOf (∑ k : Fin 2048, x (ix2 a k) * x (ix2 a k)) (x (ix2 a b)) (y (ix2 0 b)) := by
  show _ = x (ix2 a b) * Ideal.rsqrt ((∑ k : Fin 2048, x (ix2 a k) * x (ix2 a k)) * Ideal.ofBits .f32 0x3A000000#32 + Ideal.ofBits .f32 0x358637BD#32) * y (ix2 0 b)
  rw [← Cert.Dot.mean]
  pointwise []

end Cert.ReferenceRmsIdeal.Prod

namespace Cert.Rms
open Idealize.ShloMosaic Idealize.SL.Sem Idealize.ShloMosaic.StableHlo Cert.KernelRmsIdeal.Prod

attribute [local instance] Cert.KernelRms.Gen.facts Cert.KernelRmsIdeal.Gen.facts Cert.ReferenceRmsIdeal.Gen.facts

set_option maxHeartbeats 2000000 in
/-- The ideal call and the ideal reference return the same array, for all inputs. -/
theorem algebraic : Cert.algebraic_KernelRmsIdeal_ReferenceRmsIdeal := by
  intro m g m' g' _ ha
  refine ⟨fun c => (Cert.KernelRmsIdeal.Gen.dats m 0 c).arrAt 2 Cert.KernelRmsIdeal.cfg0.N,
    Cert.KernelRmsIdeal.Value.run_blocks m g, ?_⟩
  refine (θ_run _ _ _).mono (fun r h c => ?_) (Cert.ReferenceRmsIdeal.Value.run m' g')
  obtain ⟨h1, hk⟩ := h c
  obtain ⟨e0, e1⟩ := ha c
  rw [e0, e1] at h1
  refine ⟨h1.trans (funext fun i => ?_), hk⟩
  rw [eq_ix2 i]
  exact (Cert.ReferenceRmsIdeal.Prod.ref_at (mx m c) (mg m c) (i 0) (i 1)).trans (arr2 m c (i 0) (i 1)).symm

/-- The ideal reference keeps its arguments; it declares no semaphore. -/
theorem frameR : Cert.quiescent_ReferenceRmsIdeal := fun m g _ =>
  (θ_run _ _ _).mono (fun r h => ⟨fun c => (h c).2, sem_eq_zero_of_no_sems (by decide) r.2⟩) (Cert.ReferenceRmsIdeal.Value.run m g)

end Cert.Rms
end
-- ==== Proof.OMla.lean ====
module

public import proofs.«01_k».proof.Proof.Gen.KernelOMlaIdeal.Value
public import proofs.«01_k».proof.Proof.Gen.ReferenceOMlaIdeal.Run
public import proofs.«01_k».proof.Proof.Gen.KernelOMla.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelOMlaIdeal.Prod

open Cert.KernelOMlaIdeal Cert.KernelOMlaIdeal.Gen Idealize.ShloMosaic Idealize.ShloMosaic.TcCoe Idealize.SL.Sem
theorem idx0 : ∀ t : Fin cfg0.N, (cfg0.win 0).index t = ![t.val / 1, 0] := by decide +kernel
theorem idx1 : ∀ t : Fin cfg0.N, (cfg0.win 1).index t = ![t.val % 1, 0] := by decide +kernel

theorem rb0 (X : FVec Ideal S8192x2048 .bf16) (t : Fin cfg0.N) (r : Fin 1024) (l : Fin 2048) (a : Fin 8192) (b : Fin 2048) (ha : a.val = 1024 * (t.val / 1) + r) (hb : b.val = 2048 * (0) + l) :
    ((cfg0.win 0).blk t).view.read (Elt Ideal) X (ix2 r l) = X (ix2 a b) := by
  have e := idx0 t
  blk_simp [e]
  refine congrArg X ?_
  blk_ext [e]
theorem rb1 (X : FVec Ideal S1024x2048 .bf16) (t : Fin cfg0.N) (r : Fin 1024) (l : Fin 2048) (a : Fin 1024) (b : Fin 2048) (ha : a.val = 1024 * (t.val % 1) + r) (hb : b.val = 2048 * (0) + l) :
    ((cfg0.win 1).blk t).view.read (Elt Ideal) X (ix2 r l) = X (ix2 a b) := by
  have e := idx1 t
  blk_simp [e]
  refine congrArg X ?_
  blk_ext [e]
theorem idx2 : ∀ t : Fin cfg0.N, (cfg0.win 2).index t = ![t.val / 1, t.val % 1] := by decide +kernel
theorem fl : ∀ t : Fin cfg0.N, (cfg0.win 2).flush t = true := by decide +kernel
theorem rb2 (X : FVec Ideal S8192x1024 .bf16) (t : Fin cfg0.N) (r : Fin 1024) (l : Fin 1024) (a : Fin 8192) (b : Fin 1024) (ha : a.val = 1024 * (t.val / 1) + r) (hb : b.val = 1024 * (t.val % 1) + l) :
    ((cfg0.win 2).blk t).view.read (Elt Ideal) X (ix2 r l) = X (ix2 a b) := by
  have e := idx2 t
  blk_simp [e]
  refine congrArg X ?_
  blk_ext [e]
theorem ct (X : Vec Ideal S1024x1024 .bf16) (t : Fin cfg0.N) (r : Fin 1024) (l : Fin 1024) : (cfg0.win 2).cut (grid0.coords t) X (ix2 r l) = X (ix2 r l) := rfl

/-- One output block from its input blocks. -/
theorem out_at (x : Vec Ideal S1024x2048 .bf16) (y : Vec Ideal S1024x2048 .bf16) (r : Fin 1024) (l : Fin 1024) :
    out0_2 x y (ix2 r l) = ∑ k : Fin 2048, x (ix2 r k) * y (ix2 l k) := by
  have e : out0_2 x y = k0_pay1 x y := by
    unfold out0_2
    frame_out
  rw [e]
  pointwise [k0_pay1]

/-- One output block from the arrays that its input blocks are cut from. -/
theorem blk_at (X : FVec Ideal S8192x2048 .bf16) (Y : FVec Ideal S1024x2048 .bf16) (t : Fin cfg0.N) (r : Fin 1024) (l : Fin 1024) (a : Fin 8192) (b : Fin 1024)
    (ha : a.val = 1024 * (t.val / 1) + r.val) (hb : b.val = 1024 * (t.val % 1) + l.val) :
    out0_2 (((cfg0.win 0).blk t).view.read (Elt Ideal) X : Vec Ideal S1024x2048 .bf16) (((cfg0.win 1).blk t).view.read (Elt Ideal) Y : Vec Ideal S1024x2048 .bf16) (ix2 r l) = ∑ k : Fin 2048, X (ix2 a k) * Y (ix2 b k) := by
  rw [out_at]
  refine Finset.sum_congr rfl fun k _ => ?_
  rw [rb0 X t r k a k ha (by omega), rb1 Y t l k b k hb (by omega)]

variable (m : (ℓ : Loc nD τ sig) → Buf (Elt Ideal) ℓ) (c : Dev nD)

/-- The first argument of a device. -/
abbrev ma : FVec Ideal S8192x2048 .f32 := m (c, Proc.devRef .tc main_arg0)
/-- The second argument of a device. -/
abbrev mb : FVec Ideal S1024x2048 .f32 := m (c, Proc.devRef .tc main_arg1)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)

/-- An entry of the result after the run. -/
theorem arr_at (a : Fin 8192) (b : Fin 1024) :
    (dats m 0 c).arrAt 2 cfg0.N (ix2 a b) = ∑ k : Fin 2048, ma m c (ix2 a k) * mb m c (ix2 b k) := by
  have hp : 1 * (a.val / 1024) + b.val / 1024 < cfg0.N := by rw [show cfg0.N = 8 from N_0]; omega
  have ha : a.val = 1024 * ((1 * (a.val / 1024) + b.val / 1024) / 1) + a.val % 1024 := by omega
  have hb : b.val = 1024 * ((1 * (a.val / 1024) + b.val / 1024) % 1) + b.val % 1024 := by omega
  have e := congrFun (Value.blocks2 m c ⟨_, hp⟩ (fl _)) (ix2 ⟨a.val % 1024, by omega⟩ ⟨b.val % 1024, by omega⟩)
  rw [rb2 _ _ _ _ a b ha hb, Value.flushed2, ct, ia0, ia1] at e
  exact e.trans (blk_at _ _ _ _ _ a b ha hb)

end Cert.KernelOMlaIdeal.Prod

namespace Cert.ReferenceOMlaIdeal.Prod
open Cert.ReferenceOMlaIdeal Cert.ReferenceOMlaIdeal.Gen Idealize.ShloMosaic Idealize.ShloMosaic.TcCoe Idealize.SL.Sem

/-- An entry of the reference's result. -/
theorem ref_at (x : FVec Ideal S8192x2048 .f32) (y : FVec Ideal S1024x2048 .f32) (a : Fin 8192) (b : Fin 1024) :
    (truncf .bf16 (Host.dotGeneral dot_S8192x2048_S1024x2048_S8192x1024_1_1_0_0_n_n none x y) bitsLt_bf16_f32 : FVec Ideal S8192x1024 .bf16) (ix2 a b)
      = ∑ k : Fin 2048, x (ix2 a k) * y (ix2 b k) := by
  pointwise []

end Cert.ReferenceOMlaIdeal.Prod

namespace Cert.OMla
open Idealize.ShloMosaic Idealize.SL.Sem Idealize.ShloMosaic.StableHlo Cert.KernelOMlaIdeal.Prod

attribute [local instance] Cert.KernelOMla.Gen.facts Cert.KernelOMlaIdeal.Gen.facts Cert.ReferenceOMlaIdeal.Gen.facts

/-- An entry of the reference's result, at the call's arguments, is the call's. -/
theorem tie (m : (ℓ : Loc Cert.KernelOMlaIdeal.nD Cert.KernelOMlaIdeal.τ Cert.KernelOMlaIdeal.sig) → Buf (Elt Ideal) ℓ) (c : Dev Cert.KernelOMlaIdeal.nD) (a : Fin 8192) (b : Fin 1024) :
    ∑ k : Fin 2048, ma m c (ix2 a k) * mb m c (ix2 b k) = ∑ k : Fin 2048, ma m c (ix2 a k) * mb m c (ix2 b k) := by
  rfl

set_option maxHeartbeats 2000000 in
/-- The ideal call and the ideal reference return the same array. -/
theorem algebraic : Cert.algebraic_KernelOMlaIdeal_ReferenceOMlaIdeal := by
  intro m g m' g' _ ha
  refine ⟨fun c => (Cert.KernelOMlaIdeal.Gen.dats m 0 c).arrAt 2 Cert.KernelOMlaIdeal.cfg0.N, Cert.KernelOMlaIdeal.Value.run_blocks m g, ?_⟩
  refine (θ_run _ _ _).mono (fun r h c => ?_) (Cert.ReferenceOMlaIdeal.Value.run m' g')
  obtain ⟨h1, hk⟩ := h c
  obtain ⟨e0, e1⟩ := ha c
  rw [e0, e1] at h1
  refine ⟨h1.trans (funext fun i => ?_), hk⟩
  rw [eq_ix2 i]
  exact (Cert.ReferenceOMlaIdeal.Prod.ref_at (ma m c) (mb m c) (i 0) (i 1)).trans ((tie m c (i 0) (i 1)).trans (arr_at m c (i 0) (i 1)).symm)

/-- The ideal reference keeps its arguments; it declares no semaphore. -/
theorem frameR : Cert.quiescent_ReferenceOMlaIdeal := fun m g _ =>
  (θ_run _ _ _).mono (fun r h => ⟨fun c => (h c).2, sem_eq_zero_of_no_sems (by decide) r.2⟩) (Cert.ReferenceOMlaIdeal.Value.run m g)

end Cert.OMla
end
-- ==== Proof.Ckv.lean ====
module

public import proofs.«01_k».proof.Proof.Gen.KernelCkvIdeal.Value
public import proofs.«01_k».proof.Proof.Gen.ReferenceCkvIdeal.Run
public import proofs.«01_k».proof.Proof.Gen.KernelCkv.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelCkvIdeal.Prod

open Cert.KernelCkvIdeal Cert.KernelCkvIdeal.Gen Idealize.ShloMosaic Idealize.ShloMosaic.TcCoe Idealize.SL.Sem
theorem idx0 : ∀ t : Fin cfg0.N, (cfg0.win 0).index t = ![t.val / 1, 0] := by decide +kernel
theorem idx1 : ∀ t : Fin cfg0.N, (cfg0.win 1).index t = ![t.val % 1, 0] := by decide +kernel

theorem rb0 (X : FVec Ideal S8192x2048 .bf16) (t : Fin cfg0.N) (r : Fin 1024) (l : Fin 2048) (a : Fin 8192) (b : Fin 2048) (ha : a.val = 1024 * (t.val / 1) + r) (hb : b.val = 2048 * (0) + l) :
    ((cfg0.win 0).blk t).view.read (Elt Ideal) X (ix2 r l) = X (ix2 a b) := by
  have e := idx0 t
  blk_simp [e]
  refine congrArg X ?_
  blk_ext [e]
theorem rb1 (X : FVec Ideal S256x2048 .bf16) (t : Fin cfg0.N) (r : Fin 256) (l : Fin 2048) (a : Fin 256) (b : Fin 2048) (ha : a.val = 256 * (t.val % 1) + r) (hb : b.val = 2048 * (0) + l) :
    ((cfg0.win 1).blk t).view.read (Elt Ideal) X (ix2 r l) = X (ix2 a b) := by
  have e := idx1 t
  blk_simp [e]
  refine congrArg X ?_
  blk_ext [e]
theorem idx2 : ∀ t : Fin cfg0.N, (cfg0.win 2).index t = ![t.val / 1, t.val % 1] := by decide +kernel
theorem fl : ∀ t : Fin cfg0.N, (cfg0.win 2).flush t = true := by decide +kernel
theorem rb2 (X : FVec Ideal S8192x256 .f32) (t : Fin cfg0.N) (r : Fin 1024) (l : Fin 256) (a : Fin 8192) (b : Fin 256) (ha : a.val = 1024 * (t.val / 1) + r) (hb : b.val = 256 * (t.val % 1) + l) :
    ((cfg0.win 2).blk t).view.read (Elt Ideal) X (ix2 r l) = X (ix2 a b) := by
  have e := idx2 t
  blk_simp [e]
  refine congrArg X ?_
  blk_ext [e]
theorem ct (X : Vec Ideal S1024x256 .f32) (t : Fin cfg0.N) (r : Fin 1024) (l : Fin 256) : (cfg0.win 2).cut (grid0.coords t) X (ix2 r l) = X (ix2 r l) := rfl

/-- One output block from its input blocks. -/
theorem out_at (x : Vec Ideal S1024x2048 .bf16) (y : Vec Ideal S256x2048 .bf16) (r : Fin 1024) (l : Fin 256) :
    out0_2 x y (ix2 r l) = ∑ k : Fin 2048, x (ix2 r k) * y (ix2 l k) := by
  have e : out0_2 x y = k0_pay1 x y := by
    unfold out0_2
    frame_out
  rw [e]
  pointwise [k0_pay1]

/-- One output block from the arrays that its input blocks are cut from. -/
theorem blk_at (X : FVec Ideal S8192x2048 .bf16) (Y : FVec Ideal S256x2048 .bf16) (t : Fin cfg0.N) (r : Fin 1024) (l : Fin 256) (a : Fin 8192) (b : Fin 256)
    (ha : a.val = 1024 * (t.val / 1) + r.val) (hb : b.val = 256 * (t.val % 1) + l.val) :
    out0_2 (((cfg0.win 0).blk t).view.read (Elt Ideal) X : Vec Ideal S1024x2048 .bf16) (((cfg0.win 1).blk t).view.read (Elt Ideal) Y : Vec Ideal S256x2048 .bf16) (ix2 r l) = ∑ k : Fin 2048, X (ix2 a k) * Y (ix2 b k) := by
  rw [out_at]
  refine Finset.sum_congr rfl fun k _ => ?_
  rw [rb0 X t r k a k ha (by omega), rb1 Y t l k b k hb (by omega)]

variable (m : (ℓ : Loc nD τ sig) → Buf (Elt Ideal) ℓ) (c : Dev nD)

/-- The first argument of a device. -/
abbrev ma : FVec Ideal S8192x2048 .f32 := m (c, Proc.devRef .tc main_arg0)
/-- The second argument of a device. -/
abbrev mb : FVec Ideal S256x2048 .f32 := m (c, Proc.devRef .tc main_arg1)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)

/-- An entry of the result after the run. -/
theorem arr_at (a : Fin 8192) (b : Fin 256) :
    (dats m 0 c).arrAt 2 cfg0.N (ix2 a b) = ∑ k : Fin 2048, ma m c (ix2 a k) * mb m c (ix2 b k) := by
  have hp : 1 * (a.val / 1024) + b.val / 256 < cfg0.N := by rw [show cfg0.N = 8 from N_0]; omega
  have ha : a.val = 1024 * ((1 * (a.val / 1024) + b.val / 256) / 1) + a.val % 1024 := by omega
  have hb : b.val = 256 * ((1 * (a.val / 1024) + b.val / 256) % 1) + b.val % 256 := by omega
  have e := congrFun (Value.blocks2 m c ⟨_, hp⟩ (fl _)) (ix2 ⟨a.val % 1024, by omega⟩ ⟨b.val % 256, by omega⟩)
  rw [rb2 _ _ _ _ a b ha hb, Value.flushed2, ct, ia0, ia1] at e
  exact e.trans (blk_at _ _ _ _ _ a b ha hb)

end Cert.KernelCkvIdeal.Prod

namespace Cert.ReferenceCkvIdeal.Prod
open Cert.ReferenceCkvIdeal Cert.ReferenceCkvIdeal.Gen Idealize.ShloMosaic Idealize.ShloMosaic.TcCoe Idealize.SL.Sem

/-- An entry of the reference's result. -/
theorem ref_at (x : FVec Ideal S8192x2048 .f32) (y : FVec Ideal S256x2048 .f32) (a : Fin 8192) (b : Fin 256) :
    (Host.dotGeneral dot_S8192x2048_S256x2048_S8192x256_1_1_0_0_n_n none x y : FVec Ideal S8192x256 .f32) (ix2 a b)
      = ∑ k : Fin 2048, x (ix2 a k) * y (ix2 b k) := by
  pointwise []

end Cert.ReferenceCkvIdeal.Prod

namespace Cert.Ckv
open Idealize.ShloMosaic Idealize.SL.Sem Idealize.ShloMosaic.StableHlo Cert.KernelCkvIdeal.Prod

attribute [local instance] Cert.KernelCkv.Gen.facts Cert.KernelCkvIdeal.Gen.facts Cert.ReferenceCkvIdeal.Gen.facts

/-- An entry of the reference's result, at the call's arguments, is the call's. -/
theorem tie (m : (ℓ : Loc Cert.KernelCkvIdeal.nD Cert.KernelCkvIdeal.τ Cert.KernelCkvIdeal.sig) → Buf (Elt Ideal) ℓ) (c : Dev Cert.KernelCkvIdeal.nD) (a : Fin 8192) (b : Fin 256) :
    ∑ k : Fin 2048, ma m c (ix2 a k) * mb m c (ix2 b k) = ∑ k : Fin 2048, ma m c (ix2 a k) * mb m c (ix2 b k) := by
  rfl

set_option maxHeartbeats 2000000 in
/-- The ideal call and the ideal reference return the same array. -/
theorem algebraic : Cert.algebraic_KernelCkvIdeal_ReferenceCkvIdeal := by
  intro m g m' g' _ ha
  refine ⟨fun c => (Cert.KernelCkvIdeal.Gen.dats m 0 c).arrAt 2 Cert.KernelCkvIdeal.cfg0.N, Cert.KernelCkvIdeal.Value.run_blocks m g, ?_⟩
  refine (θ_run _ _ _).mono (fun r h c => ?_) (Cert.ReferenceCkvIdeal.Value.run m' g')
  obtain ⟨h1, hk⟩ := h c
  obtain ⟨e0, e1⟩ := ha c
  rw [e0, e1] at h1
  refine ⟨h1.trans (funext fun i => ?_), hk⟩
  rw [eq_ix2 i]
  exact (Cert.ReferenceCkvIdeal.Prod.ref_at (ma m c) (mb m c) (i 0) (i 1)).trans ((tie m c (i 0) (i 1)).trans (arr_at m c (i 0) (i 1)).symm)

/-- The ideal reference keeps its arguments; it declares no semaphore. -/
theorem frameR : Cert.quiescent_ReferenceCkvIdeal := fun m g _ =>
  (θ_run _ _ _).mono (fun r h => ⟨fun c => (h c).2, sem_eq_zero_of_no_sems (by decide) r.2⟩) (Cert.ReferenceCkvIdeal.Value.run m g)

end Cert.Ckv
end
-- ==== Proof.Cq.lean ====
module

public import proofs.«01_k».proof.Proof.Gen.KernelCqIdeal.Value
public import proofs.«01_k».proof.Proof.Gen.ReferenceCqIdeal.Run
public import proofs.«01_k».proof.Proof.Gen.KernelCq.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelCqIdeal.Prod

open Cert.KernelCqIdeal Cert.KernelCqIdeal.Gen Idealize.ShloMosaic Idealize.ShloMosaic.TcCoe Idealize.SL.Sem
theorem idx0 : ∀ t : Fin cfg0.N, (cfg0.win 0).index t = ![t.val / 1, 0] := by decide +kernel
theorem idx1 : ∀ t : Fin cfg0.N, (cfg0.win 1).index t = ![t.val % 1, 0] := by decide +kernel

theorem rb0 (X : FVec Ideal S8192x2048 .bf16) (t : Fin cfg0.N) (r : Fin 1024) (l : Fin 2048) (a : Fin 8192) (b : Fin 2048) (ha : a.val = 1024 * (t.val / 1) + r) (hb : b.val = 2048 * (0) + l) :
    ((cfg0.win 0).blk t).view.read (Elt Ideal) X (ix2 r l) = X (ix2 a b) := by
  have e := idx0 t
  blk_simp [e]
  refine congrArg X ?_
  blk_ext [e]
theorem rb1 (X : FVec Ideal S512x2048 .bf16) (t : Fin cfg0.N) (r : Fin 512) (l : Fin 2048) (a : Fin 512) (b : Fin 2048) (ha : a.val = 512 * (t.val % 1) + r) (hb : b.val = 2048 * (0) + l) :
    ((cfg0.win 1).blk t).view.read (Elt Ideal) X (ix2 r l) = X (ix2 a b) := by
  have e := idx1 t
  blk_simp [e]
  refine congrArg X ?_
  blk_ext [e]
theorem idx2 : ∀ t : Fin cfg0.N, (cfg0.win 2).index t = ![t.val / 1, t.val % 1] := by decide +kernel
theorem fl : ∀ t : Fin cfg0.N, (cfg0.win 2).flush t = true := by decide +kernel
theorem rb2 (X : FVec Ideal S8192x512 .f32) (t : Fin cfg0.N) (r : Fin 1024) (l : Fin 512) (a : Fin 8192) (b : Fin 512) (ha : a.val = 1024 * (t.val / 1) + r) (hb : b.val = 512 * (t.val % 1) + l) :
    ((cfg0.win 2).blk t).view.read (Elt Ideal) X (ix2 r l) = X (ix2 a b) := by
  have e := idx2 t
  blk_simp [e]
  refine congrArg X ?_
  blk_ext [e]
theorem ct (X : Vec Ideal S1024x512 .f32) (t : Fin cfg0.N) (r : Fin 1024) (l : Fin 512) : (cfg0.win 2).cut (grid0.coords t) X (ix2 r l) = X (ix2 r l) := rfl

/-- One output block from its input blocks. -/
theorem out_at (x : Vec Ideal S1024x2048 .bf16) (y : Vec Ideal S512x2048 .bf16) (r : Fin 1024) (l : Fin 512) :
    out0_2 x y (ix2 r l) = ∑ k : Fin 2048, x (ix2 r k) * y (ix2 l k) := by
  have e : out0_2 x y = k0_pay1 x y := by
    unfold out0_2
    frame_out
  rw [e]
  pointwise [k0_pay1]

/-- One output block from the arrays that its input blocks are cut from. -/
theorem blk_at (X : FVec Ideal S8192x2048 .bf16) (Y : FVec Ideal S512x2048 .bf16) (t : Fin cfg0.N) (r : Fin 1024) (l : Fin 512) (a : Fin 8192) (b : Fin 512)
    (ha : a.val = 1024 * (t.val / 1) + r.val) (hb : b.val = 512 * (t.val % 1) + l.val) :
    out0_2 (((cfg0.win 0).blk t).view.read (Elt Ideal) X : Vec Ideal S1024x2048 .bf16) (((cfg0.win 1).blk t).view.read (Elt Ideal) Y : Vec Ideal S512x2048 .bf16) (ix2 r l) = ∑ k : Fin 2048, X (ix2 a k) * Y (ix2 b k) := by
  rw [out_at]
  refine Finset.sum_congr rfl fun k _ => ?_
  rw [rb0 X t r k a k ha (by omega), rb1 Y t l k b k hb (by omega)]

variable (m : (ℓ : Loc nD τ sig) → Buf (Elt Ideal) ℓ) (c : Dev nD)

/-- The first argument of a device. -/
abbrev ma : FVec Ideal S8192x2048 .f32 := m (c, Proc.devRef .tc main_arg0)
/-- The second argument of a device. -/
abbrev mb : FVec Ideal S512x2048 .f32 := m (c, Proc.devRef .tc main_arg1)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)

/-- An entry of the result after the run. -/
theorem arr_at (a : Fin 8192) (b : Fin 512) :
    (dats m 0 c).arrAt 2 cfg0.N (ix2 a b) = ∑ k : Fin 2048, ma m c (ix2 a k) * mb m c (ix2 b k) := by
  have hp : 1 * (a.val / 1024) + b.val / 512 < cfg0.N := by rw [show cfg0.N = 8 from N_0]; omega
  have ha : a.val = 1024 * ((1 * (a.val / 1024) + b.val / 512) / 1) + a.val % 1024 := by omega
  have hb : b.val = 512 * ((1 * (a.val / 1024) + b.val / 512) % 1) + b.val % 512 := by omega
  have e := congrFun (Value.blocks2 m c ⟨_, hp⟩ (fl _)) (ix2 ⟨a.val % 1024, by omega⟩ ⟨b.val % 512, by omega⟩)
  rw [rb2 _ _ _ _ a b ha hb, Value.flushed2, ct, ia0, ia1] at e
  exact e.trans (blk_at _ _ _ _ _ a b ha hb)

end Cert.KernelCqIdeal.Prod

namespace Cert.ReferenceCqIdeal.Prod
open Cert.ReferenceCqIdeal Cert.ReferenceCqIdeal.Gen Idealize.ShloMosaic Idealize.ShloMosaic.TcCoe Idealize.SL.Sem

/-- An entry of the reference's result. -/
theorem ref_at (x : FVec Ideal S8192x2048 .f32) (y : FVec Ideal S512x2048 .f32) (a : Fin 8192) (b : Fin 512) :
    (Host.dotGeneral dot_S8192x2048_S512x2048_S8192x512_1_1_0_0_n_n none x y : FVec Ideal S8192x512 .f32) (ix2 a b)
      = ∑ k : Fin 2048, x (ix2 a k) * y (ix2 b k) := by
  pointwise []

end Cert.ReferenceCqIdeal.Prod

namespace Cert.Cq
open Idealize.ShloMosaic Idealize.SL.Sem Idealize.ShloMosaic.StableHlo Cert.KernelCqIdeal.Prod

attribute [local instance] Cert.KernelCq.Gen.facts Cert.KernelCqIdeal.Gen.facts Cert.ReferenceCqIdeal.Gen.facts

/-- An entry of the reference's result, at the call's arguments, is the call's. -/
theorem tie (m : (ℓ : Loc Cert.KernelCqIdeal.nD Cert.KernelCqIdeal.τ Cert.KernelCqIdeal.sig) → Buf (Elt Ideal) ℓ) (c : Dev Cert.KernelCqIdeal.nD) (a : Fin 8192) (b : Fin 512) :
    ∑ k : Fin 2048, ma m c (ix2 a k) * mb m c (ix2 b k) = ∑ k : Fin 2048, ma m c (ix2 a k) * mb m c (ix2 b k) := by
  rfl

set_option maxHeartbeats 2000000 in
/-- The ideal call and the ideal reference return the same array. -/
theorem algebraic : Cert.algebraic_KernelCqIdeal_ReferenceCqIdeal := by
  intro m g m' g' _ ha
  refine ⟨fun c => (Cert.KernelCqIdeal.Gen.dats m 0 c).arrAt 2 Cert.KernelCqIdeal.cfg0.N, Cert.KernelCqIdeal.Value.run_blocks m g, ?_⟩
  refine (θ_run _ _ _).mono (fun r h c => ?_) (Cert.ReferenceCqIdeal.Value.run m' g')
  obtain ⟨h1, hk⟩ := h c
  obtain ⟨e0, e1⟩ := ha c
  rw [e0, e1] at h1
  refine ⟨h1.trans (funext fun i => ?_), hk⟩
  rw [eq_ix2 i]
  exact (Cert.ReferenceCqIdeal.Prod.ref_at (ma m c) (mb m c) (i 0) (i 1)).trans ((tie m c (i 0) (i 1)).trans (arr_at m c (i 0) (i 1)).symm)

/-- The ideal reference keeps its arguments; it declares no semaphore. -/
theorem frameR : Cert.quiescent_ReferenceCqIdeal := fun m g _ =>
  (θ_run _ _ _).mono (fun r h => ⟨fun c => (h c).2, sem_eq_zero_of_no_sems (by decide) r.2⟩) (Cert.ReferenceCqIdeal.Value.run m g)

end Cert.Cq
end
-- ==== Proof.WUkv.lean ====
module

public import proofs.«01_k».proof.Proof.Gen.KernelWUkvIdeal.Value
public import proofs.«01_k».proof.Proof.Gen.ReferenceWUkvIdeal.Run
public import proofs.«01_k».proof.Proof.Gen.KernelWUkv.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelWUkvIdeal.Prod

open Cert.KernelWUkvIdeal Cert.KernelWUkvIdeal.Gen Idealize.ShloMosaic Idealize.ShloMosaic.TcCoe Idealize.SL.Sem
theorem idx0 : ∀ t : Fin cfg0.N, (cfg0.win 0).index t = ![0, t.val / 2] := by decide +kernel
theorem idx1 : ∀ t : Fin cfg0.N, (cfg0.win 1).index t = ![0, t.val % 2] := by decide +kernel

theorem rb0 (X : FVec Ideal S8192x256 .bf16) (t : Fin cfg0.N) (r : Fin 8192) (l : Fin 256) (a : Fin 8192) (b : Fin 256) (ha : a.val = 8192 * (0) + r) (hb : b.val = 256 * (t.val / 2) + l) :
    ((cfg0.win 0).blk t).view.read (Elt Ideal) X (ix2 r l) = X (ix2 a b) := by
  have e := idx0 t
  blk_simp [e]
  refine congrArg X ?_
  blk_ext [e]
theorem rb1 (X : FVec Ideal S8192x2048 .bf16) (t : Fin cfg0.N) (r : Fin 8192) (l : Fin 1024) (a : Fin 8192) (b : Fin 2048) (ha : a.val = 8192 * (0) + r) (hb : b.val = 1024 * (t.val % 2) + l) :
    ((cfg0.win 1).blk t).view.read (Elt Ideal) X (ix2 r l) = X (ix2 a b) := by
  have e := idx1 t
  blk_simp [e]
  refine congrArg X ?_
  blk_ext [e]
theorem idx2 : ∀ t : Fin cfg0.N, (cfg0.win 2).index t = ![t.val / 2, t.val % 2] := by decide +kernel
theorem fl : ∀ t : Fin cfg0.N, (cfg0.win 2).flush t = true := by decide +kernel
theorem rb2 (X : FVec Ideal S256x2048 .bf16) (t : Fin cfg0.N) (r : Fin 256) (l : Fin 1024) (a : Fin 256) (b : Fin 2048) (ha : a.val = 256 * (t.val / 2) + r) (hb : b.val = 1024 * (t.val % 2) + l) :
    ((cfg0.win 2).blk t).view.read (Elt Ideal) X (ix2 r l) = X (ix2 a b) := by
  have e := idx2 t
  blk_simp [e]
  refine congrArg X ?_
  blk_ext [e]
theorem ct (X : Vec Ideal S256x1024 .bf16) (t : Fin cfg0.N) (r : Fin 256) (l : Fin 1024) : (cfg0.win 2).cut (grid0.coords t) X (ix2 r l) = X (ix2 r l) := rfl

/-- One output block from its input blocks. -/
theorem out_at (x : Vec Ideal S8192x256 .bf16) (y : Vec Ideal S8192x1024 .bf16) (r : Fin 256) (l : Fin 1024) :
    out0_2 x y (ix2 r l) = ∑ k : Fin 8192, x (ix2 k r) * y (ix2 k l) := by
  have e : out0_2 x y = k0_pay1 x y := by
    unfold out0_2
    frame_out
  rw [e]
  pointwise [k0_pay1]

/-- One output block from the arrays that its input blocks are cut from. -/
theorem blk_at (X : FVec Ideal S8192x256 .bf16) (Y : FVec Ideal S8192x2048 .bf16) (t : Fin cfg0.N) (r : Fin 256) (l : Fin 1024) (a : Fin 256) (b : Fin 2048)
    (ha : a.val = 256 * (t.val / 2) + r.val) (hb : b.val = 1024 * (t.val % 2) + l.val) :
    out0_2 (((cfg0.win 0).blk t).view.read (Elt Ideal) X : Vec Ideal S8192x256 .bf16) (((cfg0.win 1).blk t).view.read (Elt Ideal) Y : Vec Ideal S8192x1024 .bf16) (ix2 r l) = ∑ k : Fin 8192, X (ix2 k a) * Y (ix2 k b) := by
  rw [out_at]
  refine Finset.sum_congr rfl fun k _ => ?_
  rw [rb0 X t k r k a (by omega) ha, rb1 Y t k l k b (by omega) hb]

variable (m : (ℓ : Loc nD τ sig) → Buf (Elt Ideal) ℓ) (c : Dev nD)

/-- The first argument of a device. -/
abbrev ma : FVec Ideal S8192x256 .f32 := m (c, Proc.devRef .tc main_arg0)
/-- The second argument of a device. -/
abbrev mb : FVec Ideal S8192x2048 .f32 := m (c, Proc.devRef .tc main_arg1)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)

/-- An entry of the result after the run. -/
theorem arr_at (a : Fin 256) (b : Fin 2048) :
    (dats m 0 c).arrAt 2 cfg0.N (ix2 a b) = ∑ k : Fin 8192, ma m c (ix2 k a) * mb m c (ix2 k b) := by
  have hp : 2 * (a.val / 256) + b.val / 1024 < cfg0.N := by rw [show cfg0.N = 2 from N_0]; omega
  have ha : a.val = 256 * ((2 * (a.val / 256) + b.val / 1024) / 2) + a.val % 256 := by omega
  have hb : b.val = 1024 * ((2 * (a.val / 256) + b.val / 1024) % 2) + b.val % 1024 := by omega
  have e := congrFun (Value.blocks2 m c ⟨_, hp⟩ (fl _)) (ix2 ⟨a.val % 256, by omega⟩ ⟨b.val % 1024, by omega⟩)
  rw [rb2 _ _ _ _ a b ha hb, Value.flushed2, ct, ia0, ia1] at e
  exact e.trans (blk_at _ _ _ _ _ a b ha hb)

end Cert.KernelWUkvIdeal.Prod

namespace Cert.ReferenceWUkvIdeal.Prod
open Cert.ReferenceWUkvIdeal Cert.ReferenceWUkvIdeal.Gen Idealize.ShloMosaic Idealize.ShloMosaic.TcCoe Idealize.SL.Sem

/-- An entry of the reference's result. -/
theorem ref_at (x : FVec Ideal S8192x256 .f32) (y : FVec Ideal S8192x2048 .f32) (a : Fin 256) (b : Fin 2048) :
    (truncf .bf16 (transpose S256x2048 [1, 0] (Host.dotGeneral dot_S8192x2048_S8192x256_S2048x256_0_0_1_1_n_n none y x) transposes_S2048x256_S256x2048_1_0) bitsLt_bf16_f32 : FVec Ideal S256x2048 .bf16) (ix2 a b)
      = ∑ k : Fin 8192, y (ix2 k b) * x (ix2 k a) := by
  pointwise []

end Cert.ReferenceWUkvIdeal.Prod

namespace Cert.WUkv
open Idealize.ShloMosaic Idealize.SL.Sem Idealize.ShloMosaic.StableHlo Cert.KernelWUkvIdeal.Prod

attribute [local instance] Cert.KernelWUkv.Gen.facts Cert.KernelWUkvIdeal.Gen.facts Cert.ReferenceWUkvIdeal.Gen.facts

/-- An entry of the reference's result, at the call's arguments, is the call's. -/
theorem tie (m : (ℓ : Loc Cert.KernelWUkvIdeal.nD Cert.KernelWUkvIdeal.τ Cert.KernelWUkvIdeal.sig) → Buf (Elt Ideal) ℓ) (c : Dev Cert.KernelWUkvIdeal.nD) (a : Fin 256) (b : Fin 2048) :
    ∑ k : Fin 8192, mb m c (ix2 k b) * ma m c (ix2 k a) = ∑ k : Fin 8192, ma m c (ix2 k a) * mb m c (ix2 k b) := by
  exact Finset.sum_congr rfl fun k _ => mul_comm _ _

set_option maxHeartbeats 2000000 in
/-- The ideal call and the ideal reference return the same array. -/
theorem algebraic : Cert.algebraic_KernelWUkvIdeal_ReferenceWUkvIdeal := by
  intro m g m' g' _ ha
  refine ⟨fun c => (Cert.KernelWUkvIdeal.Gen.dats m 0 c).arrAt 2 Cert.KernelWUkvIdeal.cfg0.N, Cert.KernelWUkvIdeal.Value.run_blocks m g, ?_⟩
  refine (θ_run _ _ _).mono (fun r h c => ?_) (Cert.ReferenceWUkvIdeal.Value.run m' g')
  obtain ⟨h1, hk⟩ := h c
  obtain ⟨e0, e1⟩ := ha c
  rw [e0, e1] at h1
  refine ⟨h1.trans (funext fun i => ?_), hk⟩
  rw [eq_ix2 i]
  exact (Cert.ReferenceWUkvIdeal.Prod.ref_at (ma m c) (mb m c) (i 0) (i 1)).trans ((tie m c (i 0) (i 1)).trans (arr_at m c (i 0) (i 1)).symm)

/-- The ideal reference keeps its arguments; it declares no semaphore. -/
theorem frameR : Cert.quiescent_ReferenceWUkvIdeal := fun m g _ =>
  (θ_run _ _ _).mono (fun r h => ⟨fun c => (h c).2, sem_eq_zero_of_no_sems (by decide) r.2⟩) (Cert.ReferenceWUkvIdeal.Value.run m g)

end Cert.WUkv
end
-- ==== Proof.WUq.lean ====
module

public import proofs.«01_k».proof.Proof.Gen.KernelWUqIdeal.Value
public import proofs.«01_k».proof.Proof.Gen.ReferenceWUqIdeal.Run
public import proofs.«01_k».proof.Proof.Gen.KernelWUq.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelWUqIdeal.Prod

open Cert.KernelWUqIdeal Cert.KernelWUqIdeal.Gen Idealize.ShloMosaic Idealize.ShloMosaic.TcCoe Idealize.SL.Sem
theorem idx0 : ∀ t : Fin cfg0.N, (cfg0.win 0).index t = ![0, t.val / 4] := by decide +kernel
theorem idx1 : ∀ t : Fin cfg0.N, (cfg0.win 1).index t = ![0, t.val % 4] := by decide +kernel

theorem rb0 (X : FVec Ideal S8192x512 .bf16) (t : Fin cfg0.N) (r : Fin 8192) (l : Fin 512) (a : Fin 8192) (b : Fin 512) (ha : a.val = 8192 * (0) + r) (hb : b.val = 512 * (t.val / 4) + l) :
    ((cfg0.win 0).blk t).view.read (Elt Ideal) X (ix2 r l) = X (ix2 a b) := by
  have e := idx0 t
  blk_simp [e]
  refine congrArg X ?_
  blk_ext [e]
theorem rb1 (X : FVec Ideal S8192x2048 .bf16) (t : Fin cfg0.N) (r : Fin 8192) (l : Fin 512) (a : Fin 8192) (b : Fin 2048) (ha : a.val = 8192 * (0) + r) (hb : b.val = 512 * (t.val % 4) + l) :
    ((cfg0.win 1).blk t).view.read (Elt Ideal) X (ix2 r l) = X (ix2 a b) := by
  have e := idx1 t
  blk_simp [e]
  refine congrArg X ?_
  blk_ext [e]
theorem idx2 : ∀ t : Fin cfg0.N, (cfg0.win 2).index t = ![t.val / 4, t.val % 4] := by decide +kernel
theorem fl : ∀ t : Fin cfg0.N, (cfg0.win 2).flush t = true := by decide +kernel
theorem rb2 (X : FVec Ideal S512x2048 .bf16) (t : Fin cfg0.N) (r : Fin 512) (l : Fin 512) (a : Fin 512) (b : Fin 2048) (ha : a.val = 512 * (t.val / 4) + r) (hb : b.val = 512 * (t.val % 4) + l) :
    ((cfg0.win 2).blk t).view.read (Elt Ideal) X (ix2 r l) = X (ix2 a b) := by
  have e := idx2 t
  blk_simp [e]
  refine congrArg X ?_
  blk_ext [e]
theorem ct (X : Vec Ideal S512x512 .bf16) (t : Fin cfg0.N) (r : Fin 512) (l : Fin 512) : (cfg0.win 2).cut (grid0.coords t) X (ix2 r l) = X (ix2 r l) := rfl

/-- One output block from its input blocks. -/
theorem out_at (x : Vec Ideal S8192x512 .bf16) (y : Vec Ideal S8192x512 .bf16) (r : Fin 512) (l : Fin 512) :
    out0_2 x y (ix2 r l) = ∑ k : Fin 8192, x (ix2 k r) * y (ix2 k l) := by
  have e : out0_2 x y = k0_pay1 x y := by
    unfold out0_2
    frame_out
  rw [e]
  pointwise [k0_pay1]

/-- One output block from the arrays that its input blocks are cut from. -/
theorem blk_at (X : FVec Ideal S8192x512 .bf16) (Y : FVec Ideal S8192x2048 .bf16) (t : Fin cfg0.N) (r : Fin 512) (l : Fin 512) (a : Fin 512) (b : Fin 2048)
    (ha : a.val = 512 * (t.val / 4) + r.val) (hb : b.val = 512 * (t.val % 4) + l.val) :
    out0_2 (((cfg0.win 0).blk t).view.read (Elt Ideal) X : Vec Ideal S8192x512 .bf16) (((cfg0.win 1).blk t).view.read (Elt Ideal) Y : Vec Ideal S8192x512 .bf16) (ix2 r l) = ∑ k : Fin 8192, X (ix2 k a) * Y (ix2 k b) := by
  rw [out_at]
  refine Finset.sum_congr rfl fun k _ => ?_
  rw [rb0 X t k r k a (by omega) ha, rb1 Y t k l k b (by omega) hb]

variable (m : (ℓ : Loc nD τ sig) → Buf (Elt Ideal) ℓ) (c : Dev nD)

/-- The first argument of a device. -/
abbrev ma : FVec Ideal S8192x512 .f32 := m (c, Proc.devRef .tc main_arg0)
/-- The second argument of a device. -/
abbrev mb : FVec Ideal S8192x2048 .f32 := m (c, Proc.devRef .tc main_arg1)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)

/-- An entry of the result after the run. -/
theorem arr_at (a : Fin 512) (b : Fin 2048) :
    (dats m 0 c).arrAt 2 cfg0.N (ix2 a b) = ∑ k : Fin 8192, ma m c (ix2 k a) * mb m c (ix2 k b) := by
  have hp : 4 * (a.val / 512) + b.val / 512 < cfg0.N := by rw [show cfg0.N = 4 from N_0]; omega
  have ha : a.val = 512 * ((4 * (a.val / 512) + b.val / 512) / 4) + a.val % 512 := by omega
  have hb : b.val = 512 * ((4 * (a.val / 512) + b.val / 512) % 4) + b.val % 512 := by omega
  have e := congrFun (Value.blocks2 m c ⟨_, hp⟩ (fl _)) (ix2 ⟨a.val % 512, by omega⟩ ⟨b.val % 512, by omega⟩)
  rw [rb2 _ _ _ _ a b ha hb, Value.flushed2, ct, ia0, ia1] at e
  exact e.trans (blk_at _ _ _ _ _ a b ha hb)

end Cert.KernelWUqIdeal.Prod

namespace Cert.ReferenceWUqIdeal.Prod
open Cert.ReferenceWUqIdeal Cert.ReferenceWUqIdeal.Gen Idealize.ShloMosaic Idealize.ShloMosaic.TcCoe Idealize.SL.Sem

/-- An entry of the reference's result. -/
theorem ref_at (x : FVec Ideal S8192x512 .f32) (y : FVec Ideal S8192x2048 .f32) (a : Fin 512) (b : Fin 2048) :
    (truncf .bf16 (transpose S512x2048 [1, 0] (Host.dotGeneral dot_S8192x2048_S8192x512_S2048x512_0_0_1_1_n_n none y x) transposes_S2048x512_S512x2048_1_0) bitsLt_bf16_f32 : FVec Ideal S512x2048 .bf16) (ix2 a b)
      = ∑ k : Fin 8192, y (ix2 k b) * x (ix2 k a) := by
  pointwise []

end Cert.ReferenceWUqIdeal.Prod

namespace Cert.WUq
open Idealize.ShloMosaic Idealize.SL.Sem Idealize.ShloMosaic.StableHlo Cert.KernelWUqIdeal.Prod

attribute [local instance] Cert.KernelWUq.Gen.facts Cert.KernelWUqIdeal.Gen.facts Cert.ReferenceWUqIdeal.Gen.facts

/-- An entry of the reference's result, at the call's arguments, is the call's. -/
theorem tie (m : (ℓ : Loc Cert.KernelWUqIdeal.nD Cert.KernelWUqIdeal.τ Cert.KernelWUqIdeal.sig) → Buf (Elt Ideal) ℓ) (c : Dev Cert.KernelWUqIdeal.nD) (a : Fin 512) (b : Fin 2048) :
    ∑ k : Fin 8192, mb m c (ix2 k b) * ma m c (ix2 k a) = ∑ k : Fin 8192, ma m c (ix2 k a) * mb m c (ix2 k b) := by
  exact Finset.sum_congr rfl fun k _ => mul_comm _ _

set_option maxHeartbeats 2000000 in
/-- The ideal call and the ideal reference return the same array. -/
theorem algebraic : Cert.algebraic_KernelWUqIdeal_ReferenceWUqIdeal := by
  intro m g m' g' _ ha
  refine ⟨fun c => (Cert.KernelWUqIdeal.Gen.dats m 0 c).arrAt 2 Cert.KernelWUqIdeal.cfg0.N, Cert.KernelWUqIdeal.Value.run_blocks m g, ?_⟩
  refine (θ_run _ _ _).mono (fun r h c => ?_) (Cert.ReferenceWUqIdeal.Value.run m' g')
  obtain ⟨h1, hk⟩ := h c
  obtain ⟨e0, e1⟩ := ha c
  rw [e0, e1] at h1
  refine ⟨h1.trans (funext fun i => ?_), hk⟩
  rw [eq_ix2 i]
  exact (Cert.ReferenceWUqIdeal.Prod.ref_at (ma m c) (mb m c) (i 0) (i 1)).trans ((tie m c (i 0) (i 1)).trans (arr_at m c (i 0) (i 1)).symm)

/-- The ideal reference keeps its arguments; it declares no semaphore. -/
theorem frameR : Cert.quiescent_ReferenceWUqIdeal := fun m g _ =>
  (θ_run _ _ _).mono (fun r h => ⟨fun c => (h c).2, sem_eq_zero_of_no_sems (by decide) r.2⟩) (Cert.ReferenceWUqIdeal.Value.run m g)

end Cert.WUq
end
-- ==== Proof.WLat.lean ====
module

public import proofs.«01_k».proof.Proof.Gen.KernelWLatIdeal.Value
public import proofs.«01_k».proof.Proof.Gen.ReferenceWLatIdeal.Run
public import proofs.«01_k».proof.Proof.Gen.KernelWLat.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelWLatIdeal.Prod

open Cert.KernelWLatIdeal Cert.KernelWLatIdeal.Gen Idealize.ShloMosaic Idealize.ShloMosaic.TcCoe Idealize.SL.Sem
theorem idx0 : ∀ t : Fin cfg0.N, (cfg0.win 0).index t = ![0, t.val / 7] := by decide +kernel
theorem idx1 : ∀ t : Fin cfg0.N, (cfg0.win 1).index t = ![0, t.val % 7] := by decide +kernel

theorem rb0 (X : FVec Ideal S8192x2048 .bf16) (t : Fin cfg0.N) (r : Fin 8192) (l : Fin 1024) (a : Fin 8192) (b : Fin 2048) (ha : a.val = 8192 * (0) + r) (hb : b.val = 1024 * (t.val / 7) + l) :
    ((cfg0.win 0).blk t).view.read (Elt Ideal) X (ix2 r l) = X (ix2 a b) := by
  have e := idx0 t
  blk_simp [e]
  refine congrArg X ?_
  blk_ext [e]
theorem rb1 (X : FVec Ideal S8192x896 .bf16) (t : Fin cfg0.N) (r : Fin 8192) (l : Fin 128) (a : Fin 8192) (b : Fin 896) (ha : a.val = 8192 * (0) + r) (hb : b.val = 128 * (t.val % 7) + l) :
    ((cfg0.win 1).blk t).view.read (Elt Ideal) X (ix2 r l) = X (ix2 a b) := by
  have e := idx1 t
  blk_simp [e]
  refine congrArg X ?_
  blk_ext [e]
theorem idx2 : ∀ t : Fin cfg0.N, (cfg0.win 2).index t = ![t.val / 7, t.val % 7] := by decide +kernel
theorem fl : ∀ t : Fin cfg0.N, (cfg0.win 2).flush t = true := by decide +kernel
theorem rb2 (X : FVec Ideal S2048x896 .bf16) (t : Fin cfg0.N) (r : Fin 1024) (l : Fin 128) (a : Fin 2048) (b : Fin 896) (ha : a.val = 1024 * (t.val / 7) + r) (hb : b.val = 128 * (t.val % 7) + l) :
    ((cfg0.win 2).blk t).view.read (Elt Ideal) X (ix2 r l) = X (ix2 a b) := by
  have e := idx2 t
  blk_simp [e]
  refine congrArg X ?_
  blk_ext [e]
theorem ct (X : Vec Ideal S1024x128 .bf16) (t : Fin cfg0.N) (r : Fin 1024) (l : Fin 128) : (cfg0.win 2).cut (grid0.coords t) X (ix2 r l) = X (ix2 r l) := rfl

/-- One output block from its input blocks. -/
theorem out_at (x : Vec Ideal S8192x1024 .bf16) (y : Vec Ideal S8192x128 .bf16) (r : Fin 1024) (l : Fin 128) :
    out0_2 x y (ix2 r l) = ∑ k : Fin 8192, x (ix2 k r) * y (ix2 k l) := by
  have e : out0_2 x y = k0_pay1 x y := by
    unfold out0_2
    frame_out
  rw [e]
  pointwise [k0_pay1]

/-- One output block from the arrays that its input blocks are cut from. -/
theorem blk_at (X : FVec Ideal S8192x2048 .bf16) (Y : FVec Ideal S8192x896 .bf16) (t : Fin cfg0.N) (r : Fin 1024) (l : Fin 128) (a : Fin 2048) (b : Fin 896)
    (ha : a.val = 1024 * (t.val / 7) + r.val) (hb : b.val = 128 * (t.val % 7) + l.val) :
    out0_2 (((cfg0.win 0).blk t).view.read (Elt Ideal) X : Vec Ideal S8192x1024 .bf16) (((cfg0.win 1).blk t).view.read (Elt Ideal) Y : Vec Ideal S8192x128 .bf16) (ix2 r l) = ∑ k : Fin 8192, X (ix2 k a) * Y (ix2 k b) := by
  rw [out_at]
  refine Finset.sum_congr rfl fun k _ => ?_
  rw [rb0 X t k r k a (by omega) ha, rb1 Y t k l k b (by omega) hb]

variable (m : (ℓ : Loc nD τ sig) → Buf (Elt Ideal) ℓ) (c : Dev nD)

/-- The first argument of a device. -/
abbrev ma : FVec Ideal S8192x2048 .f32 := m (c, Proc.devRef .tc main_arg0)
/-- The second argument of a device. -/
abbrev mb : FVec Ideal S8192x896 .f32 := m (c, Proc.devRef .tc main_arg1)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)

/-- An entry of the result after the run. -/
theorem arr_at (a : Fin 2048) (b : Fin 896) :
    (dats m 0 c).arrAt 2 cfg0.N (ix2 a b) = ∑ k : Fin 8192, ma m c (ix2 k a) * mb m c (ix2 k b) := by
  have hp : 7 * (a.val / 1024) + b.val / 128 < cfg0.N := by rw [show cfg0.N = 14 from N_0]; omega
  have ha : a.val = 1024 * ((7 * (a.val / 1024) + b.val / 128) / 7) + a.val % 1024 := by omega
  have hb : b.val = 128 * ((7 * (a.val / 1024) + b.val / 128) % 7) + b.val % 128 := by omega
  have e := congrFun (Value.blocks2 m c ⟨_, hp⟩ (fl _)) (ix2 ⟨a.val % 1024, by omega⟩ ⟨b.val % 128, by omega⟩)
  rw [rb2 _ _ _ _ a b ha hb, Value.flushed2, ct, ia0, ia1] at e
  exact e.trans (blk_at _ _ _ _ _ a b ha hb)

end Cert.KernelWLatIdeal.Prod

namespace Cert.ReferenceWLatIdeal.Prod
open Cert.ReferenceWLatIdeal Cert.ReferenceWLatIdeal.Gen Idealize.ShloMosaic Idealize.ShloMosaic.TcCoe Idealize.SL.Sem

/-- An entry of the reference's result. -/
theorem ref_at (x : FVec Ideal S8192x2048 .f32) (y : FVec Ideal S8192x896 .f32) (a : Fin 2048) (b : Fin 896) :
    (truncf .bf16 (transpose S2048x896 [1, 0] (Host.dotGeneral dot_S8192x896_S8192x2048_S896x2048_0_0_1_1_n_n none y x) transposes_S896x2048_S2048x896_1_0) bitsLt_bf16_f32 : FVec Ideal S2048x896 .bf16) (ix2 a b)
      = ∑ k : Fin 8192, y (ix2 k b) * x (ix2 k a) := by
  pointwise []

end Cert.ReferenceWLatIdeal.Prod

namespace Cert.WLat
open Idealize.ShloMosaic Idealize.SL.Sem Idealize.ShloMosaic.StableHlo Cert.KernelWLatIdeal.Prod

attribute [local instance] Cert.KernelWLat.Gen.facts Cert.KernelWLatIdeal.Gen.facts Cert.ReferenceWLatIdeal.Gen.facts

/-- An entry of the reference's result, at the call's arguments, is the call's. -/
theorem tie (m : (ℓ : Loc Cert.KernelWLatIdeal.nD Cert.KernelWLatIdeal.τ Cert.KernelWLatIdeal.sig) → Buf (Elt Ideal) ℓ) (c : Dev Cert.KernelWLatIdeal.nD) (a : Fin 2048) (b : Fin 896) :
    ∑ k : Fin 8192, mb m c (ix2 k b) * ma m c (ix2 k a) = ∑ k : Fin 8192, ma m c (ix2 k a) * mb m c (ix2 k b) := by
  exact Finset.sum_congr rfl fun k _ => mul_comm _ _

set_option maxHeartbeats 2000000 in
/-- The ideal call and the ideal reference return the same array. -/
theorem algebraic : Cert.algebraic_KernelWLatIdeal_ReferenceWLatIdeal := by
  intro m g m' g' _ ha
  refine ⟨fun c => (Cert.KernelWLatIdeal.Gen.dats m 0 c).arrAt 2 Cert.KernelWLatIdeal.cfg0.N, Cert.KernelWLatIdeal.Value.run_blocks m g, ?_⟩
  refine (θ_run _ _ _).mono (fun r h c => ?_) (Cert.ReferenceWLatIdeal.Value.run m' g')
  obtain ⟨h1, hk⟩ := h c
  obtain ⟨e0, e1⟩ := ha c
  rw [e0, e1] at h1
  refine ⟨h1.trans (funext fun i => ?_), hk⟩
  rw [eq_ix2 i]
  exact (Cert.ReferenceWLatIdeal.Prod.ref_at (ma m c) (mb m c) (i 0) (i 1)).trans ((tie m c (i 0) (i 1)).trans (arr_at m c (i 0) (i 1)).symm)

/-- The ideal reference keeps its arguments; it declares no semaphore. -/
theorem frameR : Cert.quiescent_ReferenceWLatIdeal := fun m g _ =>
  (θ_run _ _ _).mono (fun r h => ⟨fun c => (h c).2, sem_eq_zero_of_no_sems (by decide) r.2⟩) (Cert.ReferenceWLatIdeal.Value.run m g)

end Cert.WLat
end
-- ==== Proof.PleN.lean ====
module

public import proofs.«01_k».proof.Proof.Gen.KernelPleNIdeal.Value
public import proofs.«01_k».proof.Proof.Gen.ReferencePleNIdeal.Run
public import proofs.«01_k».proof.Proof.Gen.KernelPleN.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelPleNIdeal.Prod

open Cert.KernelPleNIdeal Cert.KernelPleNIdeal.Gen Idealize.ShloMosaic Idealize.ShloMosaic.TcCoe Idealize.SL.Sem
theorem idx0 : ∀ t : Fin cfg0.N, (cfg0.win 0).index t = ![t.val / 2, 0] := by decide +kernel
theorem idx1 : ∀ t : Fin cfg0.N, (cfg0.win 1).index t = ![t.val % 2, 0] := by decide +kernel

theorem rb0 (X : FVec Ideal S8192x2048 .bf16) (t : Fin cfg0.N) (r : Fin 1024) (l : Fin 2048) (a : Fin 8192) (b : Fin 2048) (ha : a.val = 1024 * (t.val / 2) + r) (hb : b.val = 2048 * (0) + l) :
    ((cfg0.win 0).blk t).view.read (Elt Ideal) X (ix2 r l) = X (ix2 a b) := by
  have e := idx0 t
  blk_simp [e]
  refine congrArg X ?_
  blk_ext [e]
theorem rb1 (X : FVec Ideal S2048x2048 .bf16) (t : Fin cfg0.N) (r : Fin 1024) (l : Fin 2048) (a : Fin 2048) (b : Fin 2048) (ha : a.val = 1024 * (t.val % 2) + r) (hb : b.val = 2048 * (0) + l) :
    ((cfg0.win 1).blk t).view.read (Elt Ideal) X (ix2 r l) = X (ix2 a b) := by
  have e := idx1 t
  blk_simp [e]
  refine congrArg X ?_
  blk_ext [e]
theorem idx2 : ∀ t : Fin cfg0.N, (cfg0.win 2).index t = ![t.val / 2, t.val % 2] := by decide +kernel
theorem fl : ∀ t : Fin cfg0.N, (cfg0.win 2).flush t = true := by decide +kernel
theorem rb2 (X : FVec Ideal S8192x2048 .f32) (t : Fin cfg0.N) (r : Fin 1024) (l : Fin 1024) (a : Fin 8192) (b : Fin 2048) (ha : a.val = 1024 * (t.val / 2) + r) (hb : b.val = 1024 * (t.val % 2) + l) :
    ((cfg0.win 2).blk t).view.read (Elt Ideal) X (ix2 r l) = X (ix2 a b) := by
  have e := idx2 t
  blk_simp [e]
  refine congrArg X ?_
  blk_ext [e]
theorem ct (X : Vec Ideal S1024x1024 .f32) (t : Fin cfg0.N) (r : Fin 1024) (l : Fin 1024) : (cfg0.win 2).cut (grid0.coords t) X (ix2 r l) = X (ix2 r l) := rfl

/-- One output block from its input blocks. -/
theorem out_at (x : Vec Ideal S1024x2048 .bf16) (y : Vec Ideal S1024x2048 .bf16) (r : Fin 1024) (l : Fin 1024) :
    out0_2 x y (ix2 r l) = ∑ k : Fin 2048, x (ix2 r k) * y (ix2 l k) := by
  have e : out0_2 x y = k0_pay1 x y := by
    unfold out0_2
    frame_out
  rw [e]
  pointwise [k0_pay1]

/-- One output block from the arrays that its input blocks are cut from. -/
theorem blk_at (X : FVec Ideal S8192x2048 .bf16) (Y : FVec Ideal S2048x2048 .bf16) (t : Fin cfg0.N) (r : Fin 1024) (l : Fin 1024) (a : Fin 8192) (b : Fin 2048)
    (ha : a.val = 1024 * (t.val / 2) + r.val) (hb : b.val = 1024 * (t.val % 2) + l.val) :
    out0_2 (((cfg0.win 0).blk t).view.read (Elt Ideal) X : Vec Ideal S1024x2048 .bf16) (((cfg0.win 1).blk t).view.read (Elt Ideal) Y : Vec Ideal S1024x2048 .bf16) (ix2 r l) = ∑ k : Fin 2048, X (ix2 a k) * Y (ix2 b k) := by
  rw [out_at]
  refine Finset.sum_congr rfl fun k _ => ?_
  rw [rb0 X t r k a k ha (by omega), rb1 Y t l k b k hb (by omega)]

variable (m : (ℓ : Loc nD τ sig) → Buf (Elt Ideal) ℓ) (c : Dev nD)

/-- The first argument of a device. -/
abbrev ma : FVec Ideal S8192x2048 .f32 := m (c, Proc.devRef .tc main_arg0)
/-- The second argument of a device. -/
abbrev mb : FVec Ideal S2048x2048 .f32 := m (c, Proc.devRef .tc main_arg1)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)

/-- An entry of the result after the run. -/
theorem arr_at (a : Fin 8192) (b : Fin 2048) :
    (dats m 0 c).arrAt 2 cfg0.N (ix2 a b) = ∑ k : Fin 2048, ma m c (ix2 a k) * mb m c (ix2 b k) := by
  have hp : 2 * (a.val / 1024) + b.val / 1024 < cfg0.N := by rw [show cfg0.N = 16 from N_0]; omega
  have ha : a.val = 1024 * ((2 * (a.val / 1024) + b.val / 1024) / 2) + a.val % 1024 := by omega
  have hb : b.val = 1024 * ((2 * (a.val / 1024) + b.val / 1024) % 2) + b.val % 1024 := by omega
  have e := congrFun (Value.blocks2 m c ⟨_, hp⟩ (fl _)) (ix2 ⟨a.val % 1024, by omega⟩ ⟨b.val % 1024, by omega⟩)
  rw [rb2 _ _ _ _ a b ha hb, Value.flushed2, ct, ia0, ia1] at e
  exact e.trans (blk_at _ _ _ _ _ a b ha hb)

end Cert.KernelPleNIdeal.Prod

namespace Cert.ReferencePleNIdeal.Prod
open Cert.ReferencePleNIdeal Cert.ReferencePleNIdeal.Gen Idealize.ShloMosaic Idealize.ShloMosaic.TcCoe Idealize.SL.Sem

/-- An entry of the reference's result. -/
theorem ref_at (x : FVec Ideal S8192x2048 .f32) (y : FVec Ideal S2048x2048 .f32) (a : Fin 8192) (b : Fin 2048) :
    (Host.dotGeneral dot_S8192x2048_S2048x2048_S8192x2048_1_1_0_0_n_n none x y : FVec Ideal S8192x2048 .f32) (ix2 a b)
      = ∑ k : Fin 2048, x (ix2 a k) * y (ix2 b k) := by
  pointwise []

end Cert.ReferencePleNIdeal.Prod

namespace Cert.PleN
open Idealize.ShloMosaic Idealize.SL.Sem Idealize.ShloMosaic.StableHlo Cert.KernelPleNIdeal.Prod

attribute [local instance] Cert.KernelPleN.Gen.facts Cert.KernelPleNIdeal.Gen.facts Cert.ReferencePleNIdeal.Gen.facts

/-- An entry of the reference's result, at the call's arguments, is the call's. -/
theorem tie (m : (ℓ : Loc Cert.KernelPleNIdeal.nD Cert.KernelPleNIdeal.τ Cert.KernelPleNIdeal.sig) → Buf (Elt Ideal) ℓ) (c : Dev Cert.KernelPleNIdeal.nD) (a : Fin 8192) (b : Fin 2048) :
    ∑ k : Fin 2048, ma m c (ix2 a k) * mb m c (ix2 b k) = ∑ k : Fin 2048, ma m c (ix2 a k) * mb m c (ix2 b k) := by
  rfl

set_option maxHeartbeats 2000000 in
/-- The ideal call and the ideal reference return the same array. -/
theorem algebraic : Cert.algebraic_KernelPleNIdeal_ReferencePleNIdeal := by
  intro m g m' g' _ ha
  refine ⟨fun c => (Cert.KernelPleNIdeal.Gen.dats m 0 c).arrAt 2 Cert.KernelPleNIdeal.cfg0.N, Cert.KernelPleNIdeal.Value.run_blocks m g, ?_⟩
  refine (θ_run _ _ _).mono (fun r h c => ?_) (Cert.ReferencePleNIdeal.Value.run m' g')
  obtain ⟨h1, hk⟩ := h c
  obtain ⟨e0, e1⟩ := ha c
  rw [e0, e1] at h1
  refine ⟨h1.trans (funext fun i => ?_), hk⟩
  rw [eq_ix2 i]
  exact (Cert.ReferencePleNIdeal.Prod.ref_at (ma m c) (mb m c) (i 0) (i 1)).trans ((tie m c (i 0) (i 1)).trans (arr_at m c (i 0) (i 1)).symm)

/-- The ideal reference keeps its arguments; it declares no semaphore. -/
theorem frameR : Cert.quiescent_ReferencePleNIdeal := fun m g _ =>
  (θ_run _ _ _).mono (fun r h => ⟨fun c => (h c).2, sem_eq_zero_of_no_sems (by decide) r.2⟩) (Cert.ReferencePleNIdeal.Value.run m g)

end Cert.PleN
end
-- ==== Proof.PleG.lean ====
module

public import proofs.«01_k».proof.Proof.Gen.KernelPleGIdeal.Value
public import proofs.«01_k».proof.Proof.Gen.ReferencePleGIdeal.Run
public import proofs.«01_k».proof.Proof.Gen.KernelPleG.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelPleGIdeal.Prod

open Cert.KernelPleGIdeal Cert.KernelPleGIdeal.Gen Idealize.ShloMosaic Idealize.ShloMosaic.TcCoe Idealize.SL.Sem
theorem idx0 : ∀ t : Fin cfg0.N, (cfg0.win 0).index t = ![t.val / 2, 0] := by decide +kernel
theorem idx1 : ∀ t : Fin cfg0.N, (cfg0.win 1).index t = ![0, t.val % 2] := by decide +kernel

theorem rb0 (X : FVec Ideal S8192x2048 .bf16) (t : Fin cfg0.N) (r : Fin 1024) (l : Fin 2048) (a : Fin 8192) (b : Fin 2048) (ha : a.val = 1024 * (t.val / 2) + r) (hb : b.val = 2048 * (0) + l) :
    ((cfg0.win 0).blk t).view.read (Elt Ideal) X (ix2 r l) = X (ix2 a b) := by
  have e := idx0 t
  blk_simp [e]
  refine congrArg X ?_
  blk_ext [e]
theorem rb1 (X : FVec Ideal S2048x2048 .bf16) (t : Fin cfg0.N) (r : Fin 2048) (l : Fin 1024) (a : Fin 2048) (b : Fin 2048) (ha : a.val = 2048 * (0) + r) (hb : b.val = 1024 * (t.val % 2) + l) :
    ((cfg0.win 1).blk t).view.read (Elt Ideal) X (ix2 r l) = X (ix2 a b) := by
  have e := idx1 t
  blk_simp [e]
  refine congrArg X ?_
  blk_ext [e]
theorem idx2 : ∀ t : Fin cfg0.N, (cfg0.win 2).index t = ![t.val / 2, t.val % 2] := by decide +kernel
theorem fl : ∀ t : Fin cfg0.N, (cfg0.win 2).flush t = true := by decide +kernel
theorem rb2 (X : FVec Ideal S8192x2048 .f32) (t : Fin cfg0.N) (r : Fin 1024) (l : Fin 1024) (a : Fin 8192) (b : Fin 2048) (ha : a.val = 1024 * (t.val / 2) + r) (hb : b.val = 1024 * (t.val % 2) + l) :
    ((cfg0.win 2).blk t).view.read (Elt Ideal) X (ix2 r l) = X (ix2 a b) := by
  have e := idx2 t
  blk_simp [e]
  refine congrArg X ?_
  blk_ext [e]
theorem ct (X : Vec Ideal S1024x1024 .f32) (t : Fin cfg0.N) (r : Fin 1024) (l : Fin 1024) : (cfg0.win 2).cut (grid0.coords t) X (ix2 r l) = X (ix2 r l) := rfl

/-- One output block from its input blocks. -/
theorem out_at (x : Vec Ideal S1024x2048 .bf16) (y : Vec Ideal S2048x1024 .bf16) (r : Fin 1024) (l : Fin 1024) :
    out0_2 x y (ix2 r l) = ∑ k : Fin 2048, x (ix2 r k) * y (ix2 k l) := by
  have e : out0_2 x y = k0_pay1 x y := by
    unfold out0_2
    frame_out
  rw [e]
  pointwise [k0_pay1]

/-- One output block from the arrays that its input blocks are cut from. -/
theorem blk_at (X : FVec Ideal S8192x2048 .bf16) (Y : FVec Ideal S2048x2048 .bf16) (t : Fin cfg0.N) (r : Fin 1024) (l : Fin 1024) (a : Fin 8192) (b : Fin 2048)
    (ha : a.val = 1024 * (t.val / 2) + r.val) (hb : b.val = 1024 * (t.val % 2) + l.val) :
    out0_2 (((cfg0.win 0).blk t).view.read (Elt Ideal) X : Vec Ideal S1024x2048 .bf16) (((cfg0.win 1).blk t).view.read (Elt Ideal) Y : Vec Ideal S2048x1024 .bf16) (ix2 r l) = ∑ k : Fin 2048, X (ix2 a k) * Y (ix2 k b) := by
  rw [out_at]
  refine Finset.sum_congr rfl fun k _ => ?_
  rw [rb0 X t r k a k ha (by omega), rb1 Y t k l k b (by omega) hb]

variable (m : (ℓ : Loc nD τ sig) → Buf (Elt Ideal) ℓ) (c : Dev nD)

/-- The first argument of a device. -/
abbrev ma : FVec Ideal S8192x2048 .f32 := m (c, Proc.devRef .tc main_arg0)
/-- The second argument of a device. -/
abbrev mb : FVec Ideal S2048x2048 .f32 := m (c, Proc.devRef .tc main_arg1)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)

/-- An entry of the result after the run. -/
theorem arr_at (a : Fin 8192) (b : Fin 2048) :
    (dats m 0 c).arrAt 2 cfg0.N (ix2 a b) = ∑ k : Fin 2048, ma m c (ix2 a k) * mb m c (ix2 k b) := by
  have hp : 2 * (a.val / 1024) + b.val / 1024 < cfg0.N := by rw [show cfg0.N = 16 from N_0]; omega
  have ha : a.val = 1024 * ((2 * (a.val / 1024) + b.val / 1024) / 2) + a.val % 1024 := by omega
  have hb : b.val = 1024 * ((2 * (a.val / 1024) + b.val / 1024) % 2) + b.val % 1024 := by omega
  have e := congrFun (Value.blocks2 m c ⟨_, hp⟩ (fl _)) (ix2 ⟨a.val % 1024, by omega⟩ ⟨b.val % 1024, by omega⟩)
  rw [rb2 _ _ _ _ a b ha hb, Value.flushed2, ct, ia0, ia1] at e
  exact e.trans (blk_at _ _ _ _ _ a b ha hb)

end Cert.KernelPleGIdeal.Prod

namespace Cert.ReferencePleGIdeal.Prod
open Cert.ReferencePleGIdeal Cert.ReferencePleGIdeal.Gen Idealize.ShloMosaic Idealize.ShloMosaic.TcCoe Idealize.SL.Sem

/-- An entry of the reference's result. -/
theorem ref_at (x : FVec Ideal S8192x2048 .f32) (y : FVec Ideal S2048x2048 .f32) (a : Fin 8192) (b : Fin 2048) :
    (Host.dotGeneral dot_S8192x2048_S2048x2048_S8192x2048_1_0_0_1_n_n none x y : FVec Ideal S8192x2048 .f32) (ix2 a b)
      = ∑ k : Fin 2048, x (ix2 a k) * y (ix2 k b) := by
  pointwise []

end Cert.ReferencePleGIdeal.Prod

namespace Cert.PleG
open Idealize.ShloMosaic Idealize.SL.Sem Idealize.ShloMosaic.StableHlo Cert.KernelPleGIdeal.Prod

attribute [local instance] Cert.KernelPleG.Gen.facts Cert.KernelPleGIdeal.Gen.facts Cert.ReferencePleGIdeal.Gen.facts

/-- An entry of the reference's result, at the call's arguments, is the call's. -/
theorem tie (m : (ℓ : Loc Cert.KernelPleGIdeal.nD Cert.KernelPleGIdeal.τ Cert.KernelPleGIdeal.sig) → Buf (Elt Ideal) ℓ) (c : Dev Cert.KernelPleGIdeal.nD) (a : Fin 8192) (b : Fin 2048) :
    ∑ k : Fin 2048, ma m c (ix2 a k) * mb m c (ix2 k b) = ∑ k : Fin 2048, ma m c (ix2 a k) * mb m c (ix2 k b) := by
  rfl

set_option maxHeartbeats 2000000 in
/-- The ideal call and the ideal reference return the same array. -/
theorem algebraic : Cert.algebraic_KernelPleGIdeal_ReferencePleGIdeal := by
  intro m g m' g' _ ha
  refine ⟨fun c => (Cert.KernelPleGIdeal.Gen.dats m 0 c).arrAt 2 Cert.KernelPleGIdeal.cfg0.N, Cert.KernelPleGIdeal.Value.run_blocks m g, ?_⟩
  refine (θ_run _ _ _).mono (fun r h c => ?_) (Cert.ReferencePleGIdeal.Value.run m' g')
  obtain ⟨h1, hk⟩ := h c
  obtain ⟨e0, e1⟩ := ha c
  rw [e0, e1] at h1
  refine ⟨h1.trans (funext fun i => ?_), hk⟩
  rw [eq_ix2 i]
  exact (Cert.ReferencePleGIdeal.Prod.ref_at (ma m c) (mb m c) (i 0) (i 1)).trans ((tie m c (i 0) (i 1)).trans (arr_at m c (i 0) (i 1)).symm)

/-- The ideal reference keeps its arguments; it declares no semaphore. -/
theorem frameR : Cert.quiescent_ReferencePleGIdeal := fun m g _ =>
  (θ_run _ _ _).mono (fun r h => ⟨fun c => (h c).2, sem_eq_zero_of_no_sems (by decide) r.2⟩) (Cert.ReferencePleGIdeal.Value.run m g)

end Cert.PleG
end
-- ==== Proof.KvUp.lean ====
module

public import proofs.«01_k».proof.Proof.Gen.KernelKvUpIdeal.Value
public import proofs.«01_k».proof.Proof.Gen.ReferenceKvUpIdeal.Run
public import proofs.«01_k».proof.Proof.Gen.KernelKvUp.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelKvUpIdeal.Prod

open Cert.KernelKvUpIdeal Cert.KernelKvUpIdeal.Gen Idealize.ShloMosaic Idealize.ShloMosaic.TcCoe Idealize.SL.Sem
theorem idx0 : ∀ t : Fin cfg0.N, (cfg0.win 0).index t = ![t.val / 2, 0] := by decide +kernel
theorem idx1 : ∀ t : Fin cfg0.N, (cfg0.win 1).index t = ![0, t.val % 2] := by decide +kernel

theorem rb0 (X : FVec Ideal S8192x256 .bf16) (t : Fin cfg0.N) (r : Fin 1024) (l : Fin 256) (a : Fin 8192) (b : Fin 256) (ha : a.val = 1024 * (t.val / 2) + r) (hb : b.val = 256 * (0) + l) :
    ((cfg0.win 0).blk t).view.read (Elt Ideal) X (ix2 r l) = X (ix2 a b) := by
  have e := idx0 t
  blk_simp [e]
  refine congrArg X ?_
  blk_ext [e]
theorem rb1 (X : FVec Ideal S256x2048 .bf16) (t : Fin cfg0.N) (r : Fin 256) (l : Fin 1024) (a : Fin 256) (b : Fin 2048) (ha : a.val = 256 * (0) + r) (hb : b.val = 1024 * (t.val % 2) + l) :
    ((cfg0.win 1).blk t).view.read (Elt Ideal) X (ix2 r l) = X (ix2 a b) := by
  have e := idx1 t
  blk_simp [e]
  refine congrArg X ?_
  blk_ext [e]
theorem idx2 : ∀ t : Fin cfg0.N, (cfg0.win 2).index t = ![t.val / 2, t.val % 2] := by decide +kernel
theorem fl : ∀ t : Fin cfg0.N, (cfg0.win 2).flush t = true := by decide +kernel
theorem rb2 (X : FVec Ideal S8192x2048 .f32) (t : Fin cfg0.N) (r : Fin 1024) (l : Fin 1024) (a : Fin 8192) (b : Fin 2048) (ha : a.val = 1024 * (t.val / 2) + r) (hb : b.val = 1024 * (t.val % 2) + l) :
    ((cfg0.win 2).blk t).view.read (Elt Ideal) X (ix2 r l) = X (ix2 a b) := by
  have e := idx2 t
  blk_simp [e]
  refine congrArg X ?_
  blk_ext [e]
theorem ct (X : Vec Ideal S1024x1024 .f32) (t : Fin cfg0.N) (r : Fin 1024) (l : Fin 1024) : (cfg0.win 2).cut (grid0.coords t) X (ix2 r l) = X (ix2 r l) := rfl

/-- One output block from its input blocks. -/
theorem out_at (x : Vec Ideal S1024x256 .bf16) (y : Vec Ideal S256x1024 .bf16) (r : Fin 1024) (l : Fin 1024) :
    out0_2 x y (ix2 r l) = ∑ k : Fin 256, x (ix2 r k) * y (ix2 k l) := by
  have e : out0_2 x y = k0_pay1 x y := by
    unfold out0_2
    frame_out
  rw [e]
  pointwise [k0_pay1]

/-- One output block from the arrays that its input blocks are cut from. -/
theorem blk_at (X : FVec Ideal S8192x256 .bf16) (Y : FVec Ideal S256x2048 .bf16) (t : Fin cfg0.N) (r : Fin 1024) (l : Fin 1024) (a : Fin 8192) (b : Fin 2048)
    (ha : a.val = 1024 * (t.val / 2) + r.val) (hb : b.val = 1024 * (t.val % 2) + l.val) :
    out0_2 (((cfg0.win 0).blk t).view.read (Elt Ideal) X : Vec Ideal S1024x256 .bf16) (((cfg0.win 1).blk t).view.read (Elt Ideal) Y : Vec Ideal S256x1024 .bf16) (ix2 r l) = ∑ k : Fin 256, X (ix2 a k) * Y (ix2 k b) := by
  rw [out_at]
  refine Finset.sum_congr rfl fun k _ => ?_
  rw [rb0 X t r k a k ha (by omega), rb1 Y t k l k b (by omega) hb]

variable (m : (ℓ : Loc nD τ sig) → Buf (Elt Ideal) ℓ) (c : Dev nD)

/-- The first argument of a device. -/
abbrev ma : FVec Ideal S8192x256 .f32 := m (c, Proc.devRef .tc main_arg0)
/-- The second argument of a device. -/
abbrev mb : FVec Ideal S256x2048 .f32 := m (c, Proc.devRef .tc main_arg1)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)

/-- An entry of the result after the run. -/
theorem arr_at (a : Fin 8192) (b : Fin 2048) :
    (dats m 0 c).arrAt 2 cfg0.N (ix2 a b) = ∑ k : Fin 256, ma m c (ix2 a k) * mb m c (ix2 k b) := by
  have hp : 2 * (a.val / 1024) + b.val / 1024 < cfg0.N := by rw [show cfg0.N = 16 from N_0]; omega
  have ha : a.val = 1024 * ((2 * (a.val / 1024) + b.val / 1024) / 2) + a.val % 1024 := by omega
  have hb : b.val = 1024 * ((2 * (a.val / 1024) + b.val / 1024) % 2) + b.val % 1024 := by omega
  have e := congrFun (Value.blocks2 m c ⟨_, hp⟩ (fl _)) (ix2 ⟨a.val % 1024, by omega⟩ ⟨b.val % 1024, by omega⟩)
  rw [rb2 _ _ _ _ a b ha hb, Value.flushed2, ct, ia0, ia1] at e
  exact e.trans (blk_at _ _ _ _ _ a b ha hb)

end Cert.KernelKvUpIdeal.Prod

namespace Cert.ReferenceKvUpIdeal.Prod
open Cert.ReferenceKvUpIdeal Cert.ReferenceKvUpIdeal.Gen Idealize.ShloMosaic Idealize.ShloMosaic.TcCoe Idealize.SL.Sem

/-- An entry of the reference's result. -/
theorem ref_at (x : FVec Ideal S8192x256 .f32) (y : FVec Ideal S256x2048 .f32) (a : Fin 8192) (b : Fin 2048) :
    (Host.dotGeneral dot_S8192x256_S256x2048_S8192x2048_1_0_0_1_n_n none x y : FVec Ideal S8192x2048 .f32) (ix2 a b)
      = ∑ k : Fin 256, x (ix2 a k) * y (ix2 k b) := by
  pointwise []

end Cert.ReferenceKvUpIdeal.Prod

namespace Cert.KvUp
open Idealize.ShloMosaic Idealize.SL.Sem Idealize.ShloMosaic.StableHlo Cert.KernelKvUpIdeal.Prod

attribute [local instance] Cert.KernelKvUp.Gen.facts Cert.KernelKvUpIdeal.Gen.facts Cert.ReferenceKvUpIdeal.Gen.facts

/-- An entry of the reference's result, at the call's arguments, is the call's. -/
theorem tie (m : (ℓ : Loc Cert.KernelKvUpIdeal.nD Cert.KernelKvUpIdeal.τ Cert.KernelKvUpIdeal.sig) → Buf (Elt Ideal) ℓ) (c : Dev Cert.KernelKvUpIdeal.nD) (a : Fin 8192) (b : Fin 2048) :
    ∑ k : Fin 256, ma m c (ix2 a k) * mb m c (ix2 k b) = ∑ k : Fin 256, ma m c (ix2 a k) * mb m c (ix2 k b) := by
  rfl

set_option maxHeartbeats 2000000 in
/-- The ideal call and the ideal reference return the same array. -/
theorem algebraic : Cert.algebraic_KernelKvUpIdeal_ReferenceKvUpIdeal := by
  intro m g m' g' _ ha
  refine ⟨fun c => (Cert.KernelKvUpIdeal.Gen.dats m 0 c).arrAt 2 Cert.KernelKvUpIdeal.cfg0.N, Cert.KernelKvUpIdeal.Value.run_blocks m g, ?_⟩
  refine (θ_run _ _ _).mono (fun r h c => ?_) (Cert.ReferenceKvUpIdeal.Value.run m' g')
  obtain ⟨h1, hk⟩ := h c
  obtain ⟨e0, e1⟩ := ha c
  rw [e0, e1] at h1
  refine ⟨h1.trans (funext fun i => ?_), hk⟩
  rw [eq_ix2 i]
  exact (Cert.ReferenceKvUpIdeal.Prod.ref_at (ma m c) (mb m c) (i 0) (i 1)).trans ((tie m c (i 0) (i 1)).trans (arr_at m c (i 0) (i 1)).symm)

/-- The ideal reference keeps its arguments; it declares no semaphore. -/
theorem frameR : Cert.quiescent_ReferenceKvUpIdeal := fun m g _ =>
  (θ_run _ _ _).mono (fun r h => ⟨fun c => (h c).2, sem_eq_zero_of_no_sems (by decide) r.2⟩) (Cert.ReferenceKvUpIdeal.Value.run m g)

end Cert.KvUp
end
-- ==== Proof.QUp.lean ====
module

public import proofs.«01_k».proof.Proof.Gen.KernelQUpIdeal.Value
public import proofs.«01_k».proof.Proof.Gen.ReferenceQUpIdeal.Run
public import proofs.«01_k».proof.Proof.Gen.KernelQUp.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelQUpIdeal.Prod

open Cert.KernelQUpIdeal Cert.KernelQUpIdeal.Gen Idealize.ShloMosaic Idealize.ShloMosaic.TcCoe Idealize.SL.Sem
theorem idx0 : ∀ t : Fin cfg0.N, (cfg0.win 0).index t = ![t.val / 2, 0] := by decide +kernel
theorem idx1 : ∀ t : Fin cfg0.N, (cfg0.win 1).index t = ![0, t.val % 2] := by decide +kernel

theorem rb0 (X : FVec Ideal S8192x512 .bf16) (t : Fin cfg0.N) (r : Fin 1024) (l : Fin 512) (a : Fin 8192) (b : Fin 512) (ha : a.val = 1024 * (t.val / 2) + r) (hb : b.val = 512 * (0) + l) :
    ((cfg0.win 0).blk t).view.read (Elt Ideal) X (ix2 r l) = X (ix2 a b) := by
  have e := idx0 t
  blk_simp [e]
  refine congrArg X ?_
  blk_ext [e]
theorem rb1 (X : FVec Ideal S512x2048 .bf16) (t : Fin cfg0.N) (r : Fin 512) (l : Fin 1024) (a : Fin 512) (b : Fin 2048) (ha : a.val = 512 * (0) + r) (hb : b.val = 1024 * (t.val % 2) + l) :
    ((cfg0.win 1).blk t).view.read (Elt Ideal) X (ix2 r l) = X (ix2 a b) := by
  have e := idx1 t
  blk_simp [e]
  refine congrArg X ?_
  blk_ext [e]
theorem idx2 : ∀ t : Fin cfg0.N, (cfg0.win 2).index t = ![t.val / 2, t.val % 2] := by decide +kernel
theorem fl : ∀ t : Fin cfg0.N, (cfg0.win 2).flush t = true := by decide +kernel
theorem rb2 (X : FVec Ideal S8192x2048 .f32) (t : Fin cfg0.N) (r : Fin 1024) (l : Fin 1024) (a : Fin 8192) (b : Fin 2048) (ha : a.val = 1024 * (t.val / 2) + r) (hb : b.val = 1024 * (t.val % 2) + l) :
    ((cfg0.win 2).blk t).view.read (Elt Ideal) X (ix2 r l) = X (ix2 a b) := by
  have e := idx2 t
  blk_simp [e]
  refine congrArg X ?_
  blk_ext [e]
theorem ct (X : Vec Ideal S1024x1024 .f32) (t : Fin cfg0.N) (r : Fin 1024) (l : Fin 1024) : (cfg0.win 2).cut (grid0.coords t) X (ix2 r l) = X (ix2 r l) := rfl

/-- One output block from its input blocks. -/
theorem out_at (x : Vec Ideal S1024x512 .bf16) (y : Vec Ideal S512x1024 .bf16) (r : Fin 1024) (l : Fin 1024) :
    out0_2 x y (ix2 r l) = ∑ k : Fin 512, x (ix2 r k) * y (ix2 k l) := by
  have e : out0_2 x y = k0_pay1 x y := by
    unfold out0_2
    frame_out
  rw [e]
  pointwise [k0_pay1]

/-- One output block from the arrays that its input blocks are cut from. -/
theorem blk_at (X : FVec Ideal S8192x512 .bf16) (Y : FVec Ideal S512x2048 .bf16) (t : Fin cfg0.N) (r : Fin 1024) (l : Fin 1024) (a : Fin 8192) (b : Fin 2048)
    (ha : a.val = 1024 * (t.val / 2) + r.val) (hb : b.val = 1024 * (t.val % 2) + l.val) :
    out0_2 (((cfg0.win 0).blk t).view.read (Elt Ideal) X : Vec Ideal S1024x512 .bf16) (((cfg0.win 1).blk t).view.read (Elt Ideal) Y : Vec Ideal S512x1024 .bf16) (ix2 r l) = ∑ k : Fin 512, X (ix2 a k) * Y (ix2 k b) := by
  rw [out_at]
  refine Finset.sum_congr rfl fun k _ => ?_
  rw [rb0 X t r k a k ha (by omega), rb1 Y t k l k b (by omega) hb]

variable (m : (ℓ : Loc nD τ sig) → Buf (Elt Ideal) ℓ) (c : Dev nD)

/-- The first argument of a device. -/
abbrev ma : FVec Ideal S8192x512 .f32 := m (c, Proc.devRef .tc main_arg0)
/-- The second argument of a device. -/
abbrev mb : FVec Ideal S512x2048 .f32 := m (c, Proc.devRef .tc main_arg1)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)

/-- An entry of the result after the run. -/
theorem arr_at (a : Fin 8192) (b : Fin 2048) :
    (dats m 0 c).arrAt 2 cfg0.N (ix2 a b) = ∑ k : Fin 512, ma m c (ix2 a k) * mb m c (ix2 k b) := by
  have hp : 2 * (a.val / 1024) + b.val / 1024 < cfg0.N := by rw [show cfg0.N = 16 from N_0]; omega
  have ha : a.val = 1024 * ((2 * (a.val / 1024) + b.val / 1024) / 2) + a.val % 1024 := by omega
  have hb : b.val = 1024 * ((2 * (a.val / 1024) + b.val / 1024) % 2) + b.val % 1024 := by omega
  have e := congrFun (Value.blocks2 m c ⟨_, hp⟩ (fl _)) (ix2 ⟨a.val % 1024, by omega⟩ ⟨b.val % 1024, by omega⟩)
  rw [rb2 _ _ _ _ a b ha hb, Value.flushed2, ct, ia0, ia1] at e
  exact e.trans (blk_at _ _ _ _ _ a b ha hb)

end Cert.KernelQUpIdeal.Prod

namespace Cert.ReferenceQUpIdeal.Prod
open Cert.ReferenceQUpIdeal Cert.ReferenceQUpIdeal.Gen Idealize.ShloMosaic Idealize.ShloMosaic.TcCoe Idealize.SL.Sem

/-- An entry of the reference's result. -/
theorem ref_at (x : FVec Ideal S8192x512 .f32) (y : FVec Ideal S512x2048 .f32) (a : Fin 8192) (b : Fin 2048) :
    (Host.dotGeneral dot_S8192x512_S512x2048_S8192x2048_1_0_0_1_n_n none x y : FVec Ideal S8192x2048 .f32) (ix2 a b)
      = ∑ k : Fin 512, x (ix2 a k) * y (ix2 k b) := by
  pointwise []

end Cert.ReferenceQUpIdeal.Prod

namespace Cert.QUp
open Idealize.ShloMosaic Idealize.SL.Sem Idealize.ShloMosaic.StableHlo Cert.KernelQUpIdeal.Prod

attribute [local instance] Cert.KernelQUp.Gen.facts Cert.KernelQUpIdeal.Gen.facts Cert.ReferenceQUpIdeal.Gen.facts

/-- An entry of the reference's result, at the call's arguments, is the call's. -/
theorem tie (m : (ℓ : Loc Cert.KernelQUpIdeal.nD Cert.KernelQUpIdeal.τ Cert.KernelQUpIdeal.sig) → Buf (Elt Ideal) ℓ) (c : Dev Cert.KernelQUpIdeal.nD) (a : Fin 8192) (b : Fin 2048) :
    ∑ k : Fin 512, ma m c (ix2 a k) * mb m c (ix2 k b) = ∑ k : Fin 512, ma m c (ix2 a k) * mb m c (ix2 k b) := by
  rfl

set_option maxHeartbeats 2000000 in
/-- The ideal call and the ideal reference return the same array. -/
theorem algebraic : Cert.algebraic_KernelQUpIdeal_ReferenceQUpIdeal := by
  intro m g m' g' _ ha
  refine ⟨fun c => (Cert.KernelQUpIdeal.Gen.dats m 0 c).arrAt 2 Cert.KernelQUpIdeal.cfg0.N, Cert.KernelQUpIdeal.Value.run_blocks m g, ?_⟩
  refine (θ_run _ _ _).mono (fun r h c => ?_) (Cert.ReferenceQUpIdeal.Value.run m' g')
  obtain ⟨h1, hk⟩ := h c
  obtain ⟨e0, e1⟩ := ha c
  rw [e0, e1] at h1
  refine ⟨h1.trans (funext fun i => ?_), hk⟩
  rw [eq_ix2 i]
  exact (Cert.ReferenceQUpIdeal.Prod.ref_at (ma m c) (mb m c) (i 0) (i 1)).trans ((tie m c (i 0) (i 1)).trans (arr_at m c (i 0) (i 1)).symm)

/-- The ideal reference keeps its arguments; it declares no semaphore. -/
theorem frameR : Cert.quiescent_ReferenceQUpIdeal := fun m g _ =>
  (θ_run _ _ _).mono (fun r h => ⟨fun c => (h c).2, sem_eq_zero_of_no_sems (by decide) r.2⟩) (Cert.ReferenceQUpIdeal.Value.run m g)

end Cert.QUp
end
-- ==== Proof.PLat.lean ====
module

public import proofs.«01_k».proof.Proof.Gen.KernelPLatIdeal.Value
public import proofs.«01_k».proof.Proof.Gen.ReferencePLatIdeal.Run
public import proofs.«01_k».proof.Proof.Gen.KernelPLat.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelPLatIdeal.Prod

open Cert.KernelPLatIdeal Cert.KernelPLatIdeal.Gen Idealize.ShloMosaic Idealize.ShloMosaic.TcCoe Idealize.SL.Sem
theorem idx0 : ∀ t : Fin cfg0.N, (cfg0.win 0).index t = ![t.val / 1, 0] := by decide +kernel
theorem idx1 : ∀ t : Fin cfg0.N, (cfg0.win 1).index t = ![0, t.val % 1] := by decide +kernel

theorem rb0 (X : FVec Ideal S8192x2048 .bf16) (t : Fin cfg0.N) (r : Fin 1024) (l : Fin 2048) (a : Fin 8192) (b : Fin 2048) (ha : a.val = 1024 * (t.val / 1) + r) (hb : b.val = 2048 * (0) + l) :
    ((cfg0.win 0).blk t).view.read (Elt Ideal) X (ix2 r l) = X (ix2 a b) := by
  have e := idx0 t
  blk_simp [e]
  refine congrArg X ?_
  blk_ext [e]
theorem rb1 (X : FVec Ideal S2048x896 .bf16) (t : Fin cfg0.N) (r : Fin 2048) (l : Fin 896) (a : Fin 2048) (b : Fin 896) (ha : a.val = 2048 * (0) + r) (hb : b.val = 896 * (t.val % 1) + l) :
    ((cfg0.win 1).blk t).view.read (Elt Ideal) X (ix2 r l) = X (ix2 a b) := by
  have e := idx1 t
  blk_simp [e]
  refine congrArg X ?_
  blk_ext [e]
theorem idx2 : ∀ t : Fin cfg0.N, (cfg0.win 2).index t = ![t.val / 1, t.val % 1] := by decide +kernel
theorem fl : ∀ t : Fin cfg0.N, (cfg0.win 2).flush t = true := by decide +kernel
theorem rb2 (X : FVec Ideal S8192x896 .f32) (t : Fin cfg0.N) (r : Fin 1024) (l : Fin 896) (a : Fin 8192) (b : Fin 896) (ha : a.val = 1024 * (t.val / 1) + r) (hb : b.val = 896 * (t.val % 1) + l) :
    ((cfg0.win 2).blk t).view.read (Elt Ideal) X (ix2 r l) = X (ix2 a b) := by
  have e := idx2 t
  blk_simp [e]
  refine congrArg X ?_
  blk_ext [e]
theorem ct (X : Vec Ideal S1024x896 .f32) (t : Fin cfg0.N) (r : Fin 1024) (l : Fin 896) : (cfg0.win 2).cut (grid0.coords t) X (ix2 r l) = X (ix2 r l) := rfl

/-- One output block from its input blocks. -/
theorem out_at (x : Vec Ideal S1024x2048 .bf16) (y : Vec Ideal S2048x896 .bf16) (r : Fin 1024) (l : Fin 896) :
    out0_2 x y (ix2 r l) = ∑ k : Fin 2048, x (ix2 r k) * y (ix2 k l) := by
  have e : out0_2 x y = k0_pay1 x y := by
    unfold out0_2
    frame_out
  rw [e]
  pointwise [k0_pay1]

/-- One output block from the arrays that its input blocks are cut from. -/
theorem blk_at (X : FVec Ideal S8192x2048 .bf16) (Y : FVec Ideal S2048x896 .bf16) (t : Fin cfg0.N) (r : Fin 1024) (l : Fin 896) (a : Fin 8192) (b : Fin 896)
    (ha : a.val = 1024 * (t.val / 1) + r.val) (hb : b.val = 896 * (t.val % 1) + l.val) :
    out0_2 (((cfg0.win 0).blk t).view.read (Elt Ideal) X : Vec Ideal S1024x2048 .bf16) (((cfg0.win 1).blk t).view.read (Elt Ideal) Y : Vec Ideal S2048x896 .bf16) (ix2 r l) = ∑ k : Fin 2048, X (ix2 a k) * Y (ix2 k b) := by
  rw [out_at]
  refine Finset.sum_congr rfl fun k _ => ?_
  rw [rb0 X t r k a k ha (by omega), rb1 Y t k l k b (by omega) hb]

variable (m : (ℓ : Loc nD τ sig) → Buf (Elt Ideal) ℓ) (c : Dev nD)

/-- The first argument of a device. -/
abbrev ma : FVec Ideal S8192x2048 .f32 := m (c, Proc.devRef .tc main_arg0)
/-- The second argument of a device. -/
abbrev mb : FVec Ideal S2048x896 .f32 := m (c, Proc.devRef .tc main_arg1)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)

/-- An entry of the result after the run. -/
theorem arr_at (a : Fin 8192) (b : Fin 896) :
    (dats m 0 c).arrAt 2 cfg0.N (ix2 a b) = ∑ k : Fin 2048, ma m c (ix2 a k) * mb m c (ix2 k b) := by
  have hp : 1 * (a.val / 1024) + b.val / 896 < cfg0.N := by rw [show cfg0.N = 8 from N_0]; omega
  have ha : a.val = 1024 * ((1 * (a.val / 1024) + b.val / 896) / 1) + a.val % 1024 := by omega
  have hb : b.val = 896 * ((1 * (a.val / 1024) + b.val / 896) % 1) + b.val % 896 := by omega
  have e := congrFun (Value.blocks2 m c ⟨_, hp⟩ (fl _)) (ix2 ⟨a.val % 1024, by omega⟩ ⟨b.val % 896, by omega⟩)
  rw [rb2 _ _ _ _ a b ha hb, Value.flushed2, ct, ia0, ia1] at e
  exact e.trans (blk_at _ _ _ _ _ a b ha hb)

end Cert.KernelPLatIdeal.Prod

namespace Cert.ReferencePLatIdeal.Prod
open Cert.ReferencePLatIdeal Cert.ReferencePLatIdeal.Gen Idealize.ShloMosaic Idealize.ShloMosaic.TcCoe Idealize.SL.Sem

/-- An entry of the reference's result. -/
theorem ref_at (x : FVec Ideal S8192x2048 .f32) (y : FVec Ideal S2048x896 .f32) (a : Fin 8192) (b : Fin 896) :
    (Host.dotGeneral dot_S8192x2048_S2048x896_S8192x896_1_0_0_1_n_n none x y : FVec Ideal S8192x896 .f32) (ix2 a b)
      = ∑ k : Fin 2048, x (ix2 a k) * y (ix2 k b) := by
  pointwise []

end Cert.ReferencePLatIdeal.Prod

namespace Cert.PLat
open Idealize.ShloMosaic Idealize.SL.Sem Idealize.ShloMosaic.StableHlo Cert.KernelPLatIdeal.Prod

attribute [local instance] Cert.KernelPLat.Gen.facts Cert.KernelPLatIdeal.Gen.facts Cert.ReferencePLatIdeal.Gen.facts

/-- An entry of the reference's result, at the call's arguments, is the call's. -/
theorem tie (m : (ℓ : Loc Cert.KernelPLatIdeal.nD Cert.KernelPLatIdeal.τ Cert.KernelPLatIdeal.sig) → Buf (Elt Ideal) ℓ) (c : Dev Cert.KernelPLatIdeal.nD) (a : Fin 8192) (b : Fin 896) :
    ∑ k : Fin 2048, ma m c (ix2 a k) * mb m c (ix2 k b) = ∑ k : Fin 2048, ma m c (ix2 a k) * mb m c (ix2 k b) := by
  rfl

set_option maxHeartbeats 2000000 in
/-- The ideal call and the ideal reference return the same array. -/
theorem algebraic : Cert.algebraic_KernelPLatIdeal_ReferencePLatIdeal := by
  intro m g m' g' _ ha
  refine ⟨fun c => (Cert.KernelPLatIdeal.Gen.dats m 0 c).arrAt 2 Cert.KernelPLatIdeal.cfg0.N, Cert.KernelPLatIdeal.Value.run_blocks m g, ?_⟩
  refine (θ_run _ _ _).mono (fun r h c => ?_) (Cert.ReferencePLatIdeal.Value.run m' g')
  obtain ⟨h1, hk⟩ := h c
  obtain ⟨e0, e1⟩ := ha c
  rw [e0, e1] at h1
  refine ⟨h1.trans (funext fun i => ?_), hk⟩
  rw [eq_ix2 i]
  exact (Cert.ReferencePLatIdeal.Prod.ref_at (ma m c) (mb m c) (i 0) (i 1)).trans ((tie m c (i 0) (i 1)).trans (arr_at m c (i 0) (i 1)).symm)

/-- The ideal reference keeps its arguments; it declares no semaphore. -/
theorem frameR : Cert.quiescent_ReferencePLatIdeal := fun m g _ =>
  (θ_run _ _ _).mono (fun r h => ⟨fun c => (h c).2, sem_eq_zero_of_no_sems (by decide) r.2⟩) (Cert.ReferencePLatIdeal.Value.run m g)

end Cert.PLat
end
-- ==== Proof.Down.lean ====
module

public import proofs.«01_k».proof.Proof.Gen.KernelDownIdeal.Value
public import proofs.«01_k».proof.Proof.Gen.ReferenceDownIdeal.Run
public import proofs.«01_k».proof.Proof.Gen.KernelDown.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelDownIdeal.Prod

open Cert.KernelDownIdeal Cert.KernelDownIdeal.Gen Idealize.ShloMosaic Idealize.ShloMosaic.TcCoe Idealize.SL.Sem
theorem idx0 : ∀ t : Fin cfg0.N, (cfg0.win 0).index t = ![t.val / 4, 0] := by decide +kernel
theorem idx1 : ∀ t : Fin cfg0.N, (cfg0.win 1).index t = ![0, t.val % 4] := by decide +kernel
theorem idx2 : ∀ t : Fin cfg0.N, (cfg0.win 2).index t = ![t.val / 4, t.val % 4] := by decide +kernel

theorem rb0 (X : FVec Ideal S8192x5632 .bf16) (t : Fin cfg0.N) (r : Fin 1024) (l : Fin 5632) (a : Fin 8192) (b : Fin 5632) (ha : a.val = 1024 * (t.val / 4) + r) (hb : b.val = 5632 * (0) + l) :
    ((cfg0.win 0).blk t).view.read (Elt Ideal) X (ix2 r l) = X (ix2 a b) := by
  have e := idx0 t
  blk_simp [e]
  refine congrArg X ?_
  blk_ext [e]
theorem rb1 (X : FVec Ideal S5632x2048 .bf16) (t : Fin cfg0.N) (r : Fin 5632) (l : Fin 512) (a : Fin 5632) (b : Fin 2048) (ha : a.val = 5632 * (0) + r) (hb : b.val = 512 * (t.val % 4) + l) :
    ((cfg0.win 1).blk t).view.read (Elt Ideal) X (ix2 r l) = X (ix2 a b) := by
  have e := idx1 t
  blk_simp [e]
  refine congrArg X ?_
  blk_ext [e]
theorem rb2 (X : FVec Ideal S8192x2048 .f32) (t : Fin cfg0.N) (r : Fin 1024) (l : Fin 512) (a : Fin 8192) (b : Fin 2048) (ha : a.val = 1024 * (t.val / 4) + r) (hb : b.val = 512 * (t.val % 4) + l) :
    ((cfg0.win 2).blk t).view.read (Elt Ideal) X (ix2 r l) = X (ix2 a b) := by
  have e := idx2 t
  blk_simp [e]
  refine congrArg X ?_
  blk_ext [e]
theorem idx3 : ∀ t : Fin cfg0.N, (cfg0.win 3).index t = ![t.val / 4, t.val % 4] := by decide +kernel
theorem fl : ∀ t : Fin cfg0.N, (cfg0.win 3).flush t = true := by decide +kernel
theorem rb3 (X : FVec Ideal S8192x2048 .f32) (t : Fin cfg0.N) (r : Fin 1024) (l : Fin 512) (a : Fin 8192) (b : Fin 2048) (ha : a.val = 1024 * (t.val / 4) + r) (hb : b.val = 512 * (t.val % 4) + l) :
    ((cfg0.win 3).blk t).view.read (Elt Ideal) X (ix2 r l) = X (ix2 a b) := by
  have e := idx3 t
  blk_simp [e]
  refine congrArg X ?_
  blk_ext [e]
theorem ct (X : Vec Ideal S1024x512 .f32) (t : Fin cfg0.N) (r : Fin 1024) (l : Fin 512) : (cfg0.win 3).cut (grid0.coords t) X (ix2 r l) = X (ix2 r l) := rfl

/-- One output block from its input blocks. -/
theorem out_at (x : Vec Ideal S1024x5632 .bf16) (y : Vec Ideal S5632x512 .bf16) (z : Vec Ideal S1024x512 .f32) (r : Fin 1024) (l : Fin 512) :
    out0_3 x y z (ix2 r l) = z (ix2 r l) + (∑ k : Fin 5632, x (ix2 r k) * y (ix2 k l)) * Ideal.ofBits .f32 0x3F000000#32 := by
  have e : out0_3 x y z = k0_pay1 x y z := by
    unfold out0_3
    frame_out
  rw [e]
  pointwise [k0_pay1]

/-- One output block from the arrays that its input blocks are cut from. -/
theorem blk_at (X : FVec Ideal S8192x5632 .bf16) (Y : FVec Ideal S5632x2048 .bf16) (Z : FVec Ideal S8192x2048 .f32) (t : Fin cfg0.N) (r : Fin 1024) (l : Fin 512) (a : Fin 8192) (b : Fin 2048)
    (ha : a.val = 1024 * (t.val / 4) + r.val) (hb : b.val = 512 * (t.val % 4) + l.val) :
    out0_3 (((cfg0.win 0).blk t).view.read (Elt Ideal) X : Vec Ideal S1024x5632 .bf16) (((cfg0.win 1).blk t).view.read (Elt Ideal) Y : Vec Ideal S5632x512 .bf16) (((cfg0.win 2).blk t).view.read (Elt Ideal) Z : Vec Ideal S1024x512 .f32) (ix2 r l) = Z (ix2 a b) + (∑ k : Fin 5632, X (ix2 a k) * Y (ix2 k b)) * Ideal.ofBits .f32 0x3F000000#32 := by
  rw [out_at, rb2 Z t r l a b ha hb]
  refine congrArg (_ + ·) (congrArg (· * _) (Finset.sum_congr rfl fun k _ => ?_))
  rw [rb0 X t r k a k ha (by omega), rb1 Y t k l k b (by omega) hb]

variable (m : (ℓ : Loc nD τ sig) → Buf (Elt Ideal) ℓ) (c : Dev nD)

/-- The first argument of a device. -/
abbrev ma : FVec Ideal S8192x5632 .f32 := m (c, Proc.devRef .tc main_arg0)
/-- The second argument of a device. -/
abbrev mb : FVec Ideal S5632x2048 .f32 := m (c, Proc.devRef .tc main_arg1)
/-- The third argument of a device. -/
abbrev mz : FVec Ideal S8192x2048 .f32 := m (c, Proc.devRef .tc main_arg2)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)
theorem ia2 (t : Fin cfg0.N) : iblk m c 2 t = ((cfg0.win 2).blk t).view.read (Elt Ideal) (mz m c) :=
  congrArg (fun X => ((cfg0.win 2).blk t).view.read (Elt Ideal) X) (V_main_arg2 m c)

/-- An entry of the result after the run. -/
theorem arr_at (a : Fin 8192) (b : Fin 2048) :
    (dats m 0 c).arrAt 3 cfg0.N (ix2 a b) = mz m c (ix2 a b) + (∑ k : Fin 5632, ma m c (ix2 a k) * mb m c (ix2 k b)) * Ideal.ofBits .f32 0x3F000000#32 := by
  have hp : 4 * (a.val / 1024) + b.val / 512 < cfg0.N := by rw [show cfg0.N = 32 from N_0]; omega
  have ha : a.val = 1024 * ((4 * (a.val / 1024) + b.val / 512) / 4) + a.val % 1024 := by omega
  have hb : b.val = 512 * ((4 * (a.val / 1024) + b.val / 512) % 4) + b.val % 512 := by omega
  have e := congrFun (Value.blocks3 m c ⟨_, hp⟩ (fl _)) (ix2 ⟨a.val % 1024, by omega⟩ ⟨b.val % 512, by omega⟩)
  rw [rb3 _ _ _ _ a b ha hb, Value.flushed3, ct, ia0, ia1, ia2] at e
  exact e.trans (blk_at _ _ _ _ _ _ a b ha hb)

end Cert.KernelDownIdeal.Prod

namespace Cert.ReferenceDownIdeal.Prod
open Cert.ReferenceDownIdeal Cert.ReferenceDownIdeal.Gen Idealize.ShloMosaic Idealize.ShloMosaic.TcCoe Idealize.SL.Sem

/-- An entry of the reference's result. -/
theorem ref_at (x : FVec Ideal S8192x5632 .f32) (y : FVec Ideal S5632x2048 .f32) (z : FVec Ideal S8192x2048 .f32) (a : Fin 8192) (b : Fin 2048) :
    (addf z (mulf (broadcastInDim S8192x2048 ![] bcast_S_S8192x2048 (constant S_ .f32 0x3F000000#32)) (Host.dotGeneral dot_S8192x5632_S5632x2048_S8192x2048_1_0_0_1_n_n none x y)) : FVec Ideal S8192x2048 .f32) (ix2 a b)
      = z (ix2 a b) + Ideal.ofBits .f32 0x3F000000#32 * ∑ k : Fin 5632, x (ix2 a k) * y (ix2 k b) := by
  pointwise []

end Cert.ReferenceDownIdeal.Prod

namespace Cert.Down
open Idealize.ShloMosaic Idealize.SL.Sem Idealize.ShloMosaic.StableHlo Cert.KernelDownIdeal.Prod

attribute [local instance] Cert.KernelDown.Gen.facts Cert.KernelDownIdeal.Gen.facts Cert.ReferenceDownIdeal.Gen.facts

/-- An entry of the reference's result, at the call's arguments, is the call's. -/
theorem tie (m : (ℓ : Loc Cert.KernelDownIdeal.nD Cert.KernelDownIdeal.τ Cert.KernelDownIdeal.sig) → Buf (Elt Ideal) ℓ) (c : Dev Cert.KernelDownIdeal.nD) (a : Fin 8192) (b : Fin 2048) :
    mz m c (ix2 a b) + Ideal.ofBits .f32 0x3F000000#32 * ∑ k : Fin 5632, ma m c (ix2 a k) * mb m c (ix2 k b) = mz m c (ix2 a b) + (∑ k : Fin 5632, ma m c (ix2 a k) * mb m c (ix2 k b)) * Ideal.ofBits .f32 0x3F000000#32 := by
  rw [mul_comm (Ideal.ofBits .f32 0x3F000000#32)]

set_option maxHeartbeats 2000000 in
/-- The ideal call and the ideal reference return the same array. -/
theorem algebraic : Cert.algebraic_KernelDownIdeal_ReferenceDownIdeal := by
  intro m g m' g' _ ha
  refine ⟨fun c => (Cert.KernelDownIdeal.Gen.dats m 0 c).arrAt 3 Cert.KernelDownIdeal.cfg0.N, Cert.KernelDownIdeal.Value.run_blocks m g, ?_⟩
  refine (θ_run _ _ _).mono (fun r h c => ?_) (Cert.ReferenceDownIdeal.Value.run m' g')
  obtain ⟨h1, hk⟩ := h c
  obtain ⟨e0, e1, e2⟩ := ha c
  rw [e0, e1, e2] at h1
  refine ⟨h1.trans (funext fun i => ?_), hk⟩
  rw [eq_ix2 i]
  exact (Cert.ReferenceDownIdeal.Prod.ref_at (ma m c) (mb m c) (mz m c) (i 0) (i 1)).trans ((tie m c (i 0) (i 1)).trans (arr_at m c (i 0) (i 1)).symm)

/-- The ideal reference keeps its arguments; it declares no semaphore. -/
theorem frameR : Cert.quiescent_ReferenceDownIdeal := fun m g _ =>
  (θ_run _ _ _).mono (fun r h => ⟨fun c => (h c).2, sem_eq_zero_of_no_sems (by decide) r.2⟩) (Cert.ReferenceDownIdeal.Value.run m g)

end Cert.Down
end
-- ==== Proof.Up.lean ====
module

public import proofs.«01_k».proof.Proof.Gen.KernelUpIdeal.Value
public import proofs.«01_k».proof.Proof.Gen.ReferenceUpIdeal.Run
public import proofs.«01_k».proof.Proof.Gen.KernelUp.Frame
public import proofs.«01_k».proof.Defs
public import proofs.«01_k».proof.Proof.Sig
public import Idealize.ShloMosaic.Lib.Pipeline.ReadBack
public import Idealize.ShloMosaic.Lib.Pipeline.ValueKit

@[expose] public section

set_option maxRecDepth 16384

noncomputable section

namespace Cert.KernelUpIdeal.Prod

open Cert.KernelUpIdeal Cert.KernelUpIdeal.Gen Idealize.ShloMosaic Idealize.ShloMosaic.TcCoe Idealize.SL.Sem

theorem idx0 : ∀ t : Fin cfg0.N, (cfg0.win 0).index t = ![t.val / 11, 0] := by decide +kernel
theorem idx1 : ∀ t : Fin cfg0.N, (cfg0.win 1).index t = ![0, t.val % 11] := by decide +kernel
theorem idx2 : ∀ t : Fin cfg0.N, (cfg0.win 2).index t = ![0, t.val % 11 + 11] := by decide +kernel
theorem idx3 : ∀ t : Fin cfg0.N, (cfg0.win 3).index t = ![t.val / 11, t.val % 11] := by decide +kernel
theorem idx4 : ∀ t : Fin cfg0.N, (cfg0.win 4).index t = ![t.val / 11, t.val % 11] := by decide +kernel
theorem idx5 : ∀ t : Fin cfg0.N, (cfg0.win 5).index t = ![t.val / 11, t.val % 11] := by decide +kernel
theorem rb0 (X : FVec Ideal S8192x2048 .bf16) (t : Fin cfg0.N) (r : Fin 1024) (l : Fin 2048) (a : Fin 8192) (b : Fin 2048) (ha : a.val = 1024 * (t.val / 11) + r) (hb : b.val = 2048 * (0) + l) :
    ((cfg0.win 0).blk t).view.read (Elt Ideal) X (ix2 r l) = X (ix2 a b) := by
  have e := idx0 t
  blk_simp [e]
  refine congrArg X ?_
  blk_ext [e]
theorem rb1 (X : FVec Ideal S2048x11264 .bf16) (t : Fin cfg0.N) (r : Fin 2048) (l : Fin 512) (a : Fin 2048) (b : Fin 11264) (ha : a.val = 2048 * (0) + r) (hb : b.val = 512 * (t.val % 11) + l) :
    ((cfg0.win 1).blk t).view.read (Elt Ideal) X (ix2 r l) = X (ix2 a b) := by
  have e := idx1 t
  blk_simp [e]
  refine congrArg X ?_
  blk_ext [e]
theorem rb2 (X : FVec Ideal S2048x11264 .bf16) (t : Fin cfg0.N) (r : Fin 2048) (l : Fin 512) (a : Fin 2048) (b : Fin 11264) (ha : a.val = 2048 * (0) + r) (hb : b.val = 512 * (t.val % 11 + 11) + l) :
    ((cfg0.win 2).blk t).view.read (Elt Ideal) X (ix2 r l) = X (ix2 a b) := by
  have e := idx2 t
  blk_simp [e]
  refine congrArg X ?_
  blk_ext [e]
theorem rb3 (X : FVec Ideal S8192x5632 .bf16) (t : Fin cfg0.N) (r : Fin 1024) (l : Fin 512) (a : Fin 8192) (b : Fin 5632) (ha : a.val = 1024 * (t.val / 11) + r) (hb : b.val = 512 * (t.val % 11) + l) :
    ((cfg0.win 3).blk t).view.read (Elt Ideal) X (ix2 r l) = X (ix2 a b) := by
  have e := idx3 t
  blk_simp [e]
  refine congrArg X ?_
  blk_ext [e]
theorem rb4 (X : FVec Ideal S8192x5632 .bf16) (t : Fin cfg0.N) (r : Fin 1024) (l : Fin 512) (a : Fin 8192) (b : Fin 5632) (ha : a.val = 1024 * (t.val / 11) + r) (hb : b.val = 512 * (t.val % 11) + l) :
    ((cfg0.win 4).blk t).view.read (Elt Ideal) X (ix2 r l) = X (ix2 a b) := by
  have e := idx4 t
  blk_simp [e]
  refine congrArg X ?_
  blk_ext [e]
theorem rb5 (X : FVec Ideal S8192x5632 .bf16) (t : Fin cfg0.N) (r : Fin 1024) (l : Fin 512) (a : Fin 8192) (b : Fin 5632) (ha : a.val = 1024 * (t.val / 11) + r) (hb : b.val = 512 * (t.val % 11) + l) :
    ((cfg0.win 5).blk t).view.read (Elt Ideal) X (ix2 r l) = X (ix2 a b) := by
  have e := idx5 t
  blk_simp [e]
  refine congrArg X ?_
  blk_ext [e]
theorem fl3 : ∀ t : Fin cfg0.N, (cfg0.win 3).flush t = true := by decide +kernel
theorem ct3 (X : Vec Ideal S1024x512 .bf16) (t : Fin cfg0.N) (r : Fin 1024) (l : Fin 512) : (cfg0.win 3).cut (grid0.coords t) X (ix2 r l) = X (ix2 r l) := rfl
theorem fl4 : ∀ t : Fin cfg0.N, (cfg0.win 4).flush t = true := by decide +kernel
theorem ct4 (X : Vec Ideal S1024x512 .bf16) (t : Fin cfg0.N) (r : Fin 1024) (l : Fin 512) : (cfg0.win 4).cut (grid0.coords t) X (ix2 r l) = X (ix2 r l) := rfl
theorem fl5 : ∀ t : Fin cfg0.N, (cfg0.win 5).flush t = true := by decide +kernel
theorem ct5 (X : Vec Ideal S1024x512 .bf16) (t : Fin cfg0.N) (r : Fin 1024) (l : Fin 512) : (cfg0.win 5).cut (grid0.coords t) X (ix2 r l) = X (ix2 r l) := rfl

/-- A block of one result from the input blocks. -/
theorem out3 (x : Vec Ideal S1024x2048 .bf16) (y z : Vec Ideal S2048x512 .bf16) (r : Fin 1024) (l : Fin 512) : out0_3 x y z (ix2 r l) = (∑ k : Fin 2048, x (ix2 r k) * y (ix2 k l)) := by
  have e : out0_3 x y z = k0_pay4 x y := by
    unfold out0_3
    frame_out
  rw [e]
  pointwise [k0_pay4, k0_pay2, k0_pay1]

/-- A block of one result from the input blocks. -/
theorem out4 (x : Vec Ideal S1024x2048 .bf16) (y z : Vec Ideal S2048x512 .bf16) (r : Fin 1024) (l : Fin 512) : out0_4 x y z (ix2 r l) = (∑ k : Fin 2048, x (ix2 r k) * z (ix2 k l)) := by
  have e : out0_4 x y z = k0_pay5 x z := by
    unfold out0_4
    frame_out
  rw [e]
  pointwise [k0_pay5, k0_pay3, k0_pay1]

/-- A block of one result from the input blocks. -/
theorem out5 (x : Vec Ideal S1024x2048 .bf16) (y z : Vec Ideal S2048x512 .bf16) (r : Fin 1024) (l : Fin 512) : out0_5 x y z (ix2 r l) = (∑ k : Fin 2048, x (ix2 r k) * y (ix2 k l)) * Ideal.logistic (∑ k : Fin 2048, x (ix2 r k) * y (ix2 k l)) * (∑ k : Fin 2048, x (ix2 r k) * z (ix2 k l)) := by
  have e : out0_5 x y z = k0_pay6 x y z := by
    unfold out0_5
    frame_out
  rw [e]
  have e6 : k0_pay6 x y z (ix2 r l) = k0_pay2 x y (ix2 r l) * (Ideal.ofBits .f32 0x3F000000#32 * Ideal.tanh (Ideal.ofBits .f32 0x3F000000#32 * k0_pay2 x y (ix2 r l)) + Ideal.ofBits .f32 0x3F000000#32) * k0_pay3 x z (ix2 r l) := by
    pointwise [k0_pay6]
  have e2 : k0_pay2 x y (ix2 r l) = (∑ k : Fin 2048, x (ix2 r k) * y (ix2 k l)) := by pointwise [k0_pay2, k0_pay1]
  have e3 : k0_pay3 x z (ix2 r l) = (∑ k : Fin 2048, x (ix2 r k) * z (ix2 k l)) := by pointwise [k0_pay3, k0_pay1]
  rw [e6, Cert.Dot.sig_bits, e2, e3]

/-- A block of one result from the arrays that its input blocks are cut from. -/
theorem blk3 (X : FVec Ideal S8192x2048 .bf16) (Y : FVec Ideal S2048x11264 .bf16) (t : Fin cfg0.N) (r : Fin 1024) (l : Fin 512) (a : Fin 8192) (b : Fin 5632)
    (ha : a.val = 1024 * (t.val / 11) + r.val) (hb : b.val = 512 * (t.val % 11) + l.val) :
    out0_3 (((cfg0.win 0).blk t).view.read (Elt Ideal) X : Vec Ideal S1024x2048 .bf16) (((cfg0.win 1).blk t).view.read (Elt Ideal) Y : Vec Ideal S2048x512 .bf16) (((cfg0.win 2).blk t).view.read (Elt Ideal) Y : Vec Ideal S2048x512 .bf16) (ix2 r l) = (∑ k : Fin 2048, X (ix2 a k) * Y (ix2 k ⟨b.val, by omega⟩)) := by
  rw [out3]
  exact Finset.sum_congr rfl fun k _ => by rw [rb0 X t r k a k ha (by omega), rb1 Y t k l k ⟨b.val, by omega⟩ (by omega) hb]

/-- A block of one result from the arrays that its input blocks are cut from. -/
theorem blk4 (X : FVec Ideal S8192x2048 .bf16) (Y : FVec Ideal S2048x11264 .bf16) (t : Fin cfg0.N) (r : Fin 1024) (l : Fin 512) (a : Fin 8192) (b : Fin 5632)
    (ha : a.val = 1024 * (t.val / 11) + r.val) (hb : b.val = 512 * (t.val % 11) + l.val) :
    out0_4 (((cfg0.win 0).blk t).view.read (Elt Ideal) X : Vec Ideal S1024x2048 .bf16) (((cfg0.win 1).blk t).view.read (Elt Ideal) Y : Vec Ideal S2048x512 .bf16) (((cfg0.win 2).blk t).view.read (Elt Ideal) Y : Vec Ideal S2048x512 .bf16) (ix2 r l) = (∑ k : Fin 2048, X (ix2 a k) * Y (ix2 k ⟨5632 + b.val, by omega⟩)) := by
  rw [out4]
  exact Finset.sum_congr rfl fun k _ => by rw [rb0 X t r k a k ha (by omega), rb2 Y t k l k ⟨5632 + b.val, by omega⟩ (by omega) (show 5632 + b.val = 512 * (t.val % 11 + 11) + l.val by omega)]

/-- A block of one result from the arrays that its input blocks are cut from. -/
theorem blk5 (X : FVec Ideal S8192x2048 .bf16) (Y : FVec Ideal S2048x11264 .bf16) (t : Fin cfg0.N) (r : Fin 1024) (l : Fin 512) (a : Fin 8192) (b : Fin 5632)
    (ha : a.val = 1024 * (t.val / 11) + r.val) (hb : b.val = 512 * (t.val % 11) + l.val) :
    out0_5 (((cfg0.win 0).blk t).view.read (Elt Ideal) X : Vec Ideal S1024x2048 .bf16) (((cfg0.win 1).blk t).view.read (Elt Ideal) Y : Vec Ideal S2048x512 .bf16) (((cfg0.win 2).blk t).view.read (Elt Ideal) Y : Vec Ideal S2048x512 .bf16) (ix2 r l) = (∑ k : Fin 2048, X (ix2 a k) * Y (ix2 k ⟨b.val, by omega⟩)) * Ideal.logistic (∑ k : Fin 2048, X (ix2 a k) * Y (ix2 k ⟨b.val, by omega⟩)) * (∑ k : Fin 2048, X (ix2 a k) * Y (ix2 k ⟨5632 + b.val, by omega⟩)) := by
  rw [out5]
  exact congrArg₂ (· * ·) (congrArg (fun s => s * Ideal.logistic s) (Finset.sum_congr rfl fun k _ => by rw [rb0 X t r k a k ha (by omega), rb1 Y t k l k ⟨b.val, by omega⟩ (by omega) hb])) (Finset.sum_congr rfl fun k _ => by rw [rb0 X t r k a k ha (by omega), rb2 Y t k l k ⟨5632 + b.val, by omega⟩ (by omega) (show 5632 + b.val = 512 * (t.val % 11 + 11) + l.val by omega)])

/-- The two weights side by side. -/
abbrev joined (u v : FVec Ideal S2048x5632 .f32) : FVec Ideal S2048x11264 .bf16 :=
  truncf .bf16 (concatenate S2048x11264 1 [⟨S2048x5632, u⟩, ⟨S2048x5632, v⟩] concatenates_S2048x5632_S2048x5632_S2048x11264_d1) bitsLt_bf16_f32

theorem joined_left (u v : FVec Ideal S2048x5632 .f32) (b : Fin 2048) (k : Fin 5632) (hk : k.val < 11264) : joined u v (ix2 b ⟨k.val, hk⟩) = u (ix2 b k) := by
  pointwise [joined]

theorem joined_right (u v : FVec Ideal S2048x5632 .f32) (b : Fin 2048) (k : Fin 5632) (hk : 5632 + k.val < 11264) : joined u v (ix2 b ⟨5632 + k.val, hk⟩) = v (ix2 b k) := by
  pointwise [joined]

variable (m : (ℓ : Loc nD τ sig) → Buf (Elt Ideal) ℓ) (c : Dev nD)

/-- The first argument of a device. -/
abbrev ma : FVec Ideal S8192x2048 .f32 := m (c, Proc.devRef .tc main_arg0)
/-- The second argument of a device. -/
abbrev mu : FVec Ideal S2048x5632 .f32 := m (c, Proc.devRef .tc main_arg1)
/-- The third argument of a device. -/
abbrev mv : FVec Ideal S2048x5632 .f32 := m (c, Proc.devRef .tc main_arg2)

theorem v0 : V m c main_v0 = truncf .bf16 (ma m c) bitsLt_bf16_f32 := by
  unfold_abbrev_sides
  after_results
theorem v2 : V m c main_v2 = joined (mu m c) (mv m c) := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (joined (mu m c) (mv m c)) :=
  congrArg (fun X => ((cfg0.win 1).blk t).view.read (Elt Ideal) X) (v2 m c)
theorem ia2 (t : Fin cfg0.N) : iblk m c 2 t = ((cfg0.win 2).blk t).view.read (Elt Ideal) (joined (mu m c) (mv m c)) :=
  congrArg (fun X => ((cfg0.win 2).blk t).view.read (Elt Ideal) X) (v2 m c)

/-- An entry of one result after the run. -/
theorem arr3 (a : Fin 8192) (b : Fin 5632) : (dats m 0 c).arrAt 3 cfg0.N (ix2 a b) = (∑ k : Fin 2048, ma m c (ix2 a k) * mu m c (ix2 k b)) := by
  have hp : 11 * (a.val / 1024) + b.val / 512 < cfg0.N := by rw [show cfg0.N = 88 from N_0]; omega
  have ha : a.val = 1024 * ((11 * (a.val / 1024) + b.val / 512) / 11) + a.val % 1024 := by omega
  have hb : b.val = 512 * ((11 * (a.val / 1024) + b.val / 512) % 11) + b.val % 512 := by omega
  have e := congrFun (Value.blocks3 m c ⟨_, hp⟩ (fl3 _)) (ix2 ⟨a.val % 1024, by omega⟩ ⟨b.val % 512, by omega⟩)
  rw [rb3 _ _ _ _ a b ha hb, Value.flushed3, ct3, ia0, ia1, ia2] at e
  refine e.trans ((blk3 _ _ _ _ _ a b ha hb).trans ?_)
  simp only [joined_left]
  rfl

/-- An entry of one result after the run. -/
theorem arr4 (a : Fin 8192) (b : Fin 5632) : (dats m 0 c).arrAt 4 cfg0.N (ix2 a b) = (∑ k : Fin 2048, ma m c (ix2 a k) * mv m c (ix2 k b)) := by
  have hp : 11 * (a.val / 1024) + b.val / 512 < cfg0.N := by rw [show cfg0.N = 88 from N_0]; omega
  have ha : a.val = 1024 * ((11 * (a.val / 1024) + b.val / 512) / 11) + a.val % 1024 := by omega
  have hb : b.val = 512 * ((11 * (a.val / 1024) + b.val / 512) % 11) + b.val % 512 := by omega
  have e := congrFun (Value.blocks4 m c ⟨_, hp⟩ (fl4 _)) (ix2 ⟨a.val % 1024, by omega⟩ ⟨b.val % 512, by omega⟩)
  rw [rb4 _ _ _ _ a b ha hb, Value.flushed4, ct4, ia0, ia1, ia2] at e
  refine e.trans ((blk4 _ _ _ _ _ a b ha hb).trans ?_)
  simp only [joined_right]
  rfl

/-- An entry of one result after the run. -/
theorem arr5 (a : Fin 8192) (b : Fin 5632) : (dats m 0 c).arrAt 5 cfg0.N (ix2 a b) = (∑ k : Fin 2048, ma m c (ix2 a k) * mu m c (ix2 k b)) * Ideal.logistic (∑ k : Fin 2048, ma m c (ix2 a k) * mu m c (ix2 k b)) * (∑ k : Fin 2048, ma m c (ix2 a k) * mv m c (ix2 k b)) := by
  have hp : 11 * (a.val / 1024) + b.val / 512 < cfg0.N := by rw [show cfg0.N = 88 from N_0]; omega
  have ha : a.val = 1024 * ((11 * (a.val / 1024) + b.val / 512) / 11) + a.val % 1024 := by omega
  have hb : b.val = 512 * ((11 * (a.val / 1024) + b.val / 512) % 11) + b.val % 512 := by omega
  have e := congrFun (Value.blocks5 m c ⟨_, hp⟩ (fl5 _)) (ix2 ⟨a.val % 1024, by omega⟩ ⟨b.val % 512, by omega⟩)
  rw [rb5 _ _ _ _ a b ha hb, Value.flushed5, ct5, ia0, ia1, ia2] at e
  refine e.trans ((blk5 _ _ _ _ _ a b ha hb).trans ?_)
  simp only [joined_left, joined_right]
  rfl

end Cert.KernelUpIdeal.Prod

namespace Cert.ReferenceUpIdeal.Prod
open Cert.ReferenceUpIdeal Cert.ReferenceUpIdeal.Gen Idealize.ShloMosaic Idealize.ShloMosaic.TcCoe Idealize.SL.Sem

/-- An entry of one result of the reference. -/
theorem ref3 (x : FVec Ideal S8192x2048 .f32) (y : FVec Ideal S2048x5632 .f32) (a : Fin 8192) (b : Fin 5632) :
    (truncf .bf16 (Host.dotGeneral dot_S8192x2048_S2048x5632_S8192x5632_1_0_0_1_n_n none x y) bitsLt_bf16_f32 : FVec Ideal S8192x5632 .bf16) (ix2 a b) = (∑ k : Fin 2048, x (ix2 a k) * y (ix2 k b)) := by
  pointwise []

/-- An entry of one result of the reference. -/
theorem ref4 (x : FVec Ideal S8192x2048 .f32) (u : FVec Ideal S2048x5632 .f32) (a : Fin 8192) (b : Fin 5632) :
    (truncf .bf16 (Host.dotGeneral dot_S8192x2048_S2048x5632_S8192x5632_1_0_0_1_n_n none x u) bitsLt_bf16_f32 : FVec Ideal S8192x5632 .bf16) (ix2 a b) = (∑ k : Fin 2048, x (ix2 a k) * u (ix2 k b)) := by
  pointwise []

/-- An entry of the gate of two arrays. -/
theorem gate_at (p q : FVec Ideal S8192x5632 .f32) (i : S8192x5632.Idx) :
    (truncf .bf16 (mulf (mulf p (Host.divf (broadcastInDim S8192x5632 ![] bcast_S_S8192x5632 (constant S_ .f32 0x3F800000#32)) (addf (broadcastInDim S8192x5632 ![] bcast_S_S8192x5632 (constant S_ .f32 0x3F800000#32)) (Host.exp (Host.negf p))))) q) bitsLt_bf16_f32 : FVec Ideal S8192x5632 .bf16) i = p i * Ideal.logistic (p i) * q i := by
  rw [← Cert.Dot.logistic_bits]
  pointwise []

/-- An entry of one result of the reference. -/
theorem ref5 (x : FVec Ideal S8192x2048 .f32) (y u : FVec Ideal S2048x5632 .f32) (a : Fin 8192) (b : Fin 5632) :
    (truncf .bf16 (mulf (mulf (Host.dotGeneral dot_S8192x2048_S2048x5632_S8192x5632_1_0_0_1_n_n none x y) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (Host.dotGeneral dot_S8192x2048_S2048x5632_S8192x5632_1_0_0_1_n_n none x y)))))) (Host.dotGeneral dot_S8192x2048_S2048x5632_S8192x5632_1_0_0_1_n_n none x u)) bitsLt_bf16_f32 : FVec Ideal S8192x5632 .bf16) (ix2 a b) = (∑ k : Fin 2048, x (ix2 a k) * y (ix2 k b)) * Ideal.logistic (∑ k : Fin 2048, x (ix2 a k) * y (ix2 k b)) * (∑ k : Fin 2048, x (ix2 a k) * u (ix2 k b)) := by
  have eA : (Host.dotGeneral dot_S8192x2048_S2048x5632_S8192x5632_1_0_0_1_n_n none x y : FVec Ideal S8192x5632 .f32) (ix2 a b) = (∑ k : Fin 2048, x (ix2 a k) * y (ix2 k b)) := by pointwise []
  have eB : (Host.dotGeneral dot_S8192x2048_S2048x5632_S8192x5632_1_0_0_1_n_n none x u : FVec Ideal S8192x5632 .f32) (ix2 a b) = (∑ k : Fin 2048, x (ix2 a k) * u (ix2 k b)) := by pointwise []
  rw [gate_at, eA, eB]

end Cert.ReferenceUpIdeal.Prod

namespace Cert.Up
open Idealize.ShloMosaic Idealize.SL.Sem Idealize.ShloMosaic.StableHlo Cert.KernelUpIdeal.Prod

attribute [local instance] Cert.KernelUp.Gen.facts Cert.KernelUpIdeal.Gen.facts Cert.ReferenceUpIdeal.Gen.facts

set_option maxHeartbeats 2000000 in
/-- The ideal call and the ideal reference return the same three arrays. -/
theorem algebraic : Cert.algebraic_KernelUpIdeal_ReferenceUpIdeal := by
  intro m g m' g' _ ha
  refine ⟨fun c => (Cert.KernelUpIdeal.Gen.dats m 0 c).arrAt 3 Cert.KernelUpIdeal.cfg0.N, fun c => (Cert.KernelUpIdeal.Gen.dats m 0 c).arrAt 4 Cert.KernelUpIdeal.cfg0.N,
    fun c => (Cert.KernelUpIdeal.Gen.dats m 0 c).arrAt 5 Cert.KernelUpIdeal.cfg0.N, Cert.KernelUpIdeal.Value.run_blocks m g, ?_⟩
  refine (θ_run _ _ _).mono (fun r h c => ?_) (Cert.ReferenceUpIdeal.Value.run m' g')
  obtain ⟨h1, h2, h3, hk⟩ := h c
  obtain ⟨e0, e1, e2⟩ := ha c
  rw [e0, e1] at h1
  rw [e0, e2] at h2
  rw [e0, e1, e2] at h3
  refine ⟨h1.trans (funext fun i => ?_), h2.trans (funext fun i => ?_), h3.trans (funext fun i => ?_), hk⟩
  · rw [eq_ix2 i]
    exact (Cert.ReferenceUpIdeal.Prod.ref3 (ma m c) (mu m c) (i 0) (i 1)).trans (arr3 m c (i 0) (i 1)).symm
  · rw [eq_ix2 i]
    exact (Cert.ReferenceUpIdeal.Prod.ref4 (ma m c) (mv m c) (i 0) (i 1)).trans (arr4 m c (i 0) (i 1)).symm
  · rw [eq_ix2 i]
    exact (Cert.ReferenceUpIdeal.Prod.ref5 (ma m c) (mu m c) (mv m c) (i 0) (i 1)).trans (arr5 m c (i 0) (i 1)).symm

/-- The ideal reference keeps its arguments; it declares no semaphore. -/
theorem frameR : Cert.quiescent_ReferenceUpIdeal := fun m g _ =>
  (θ_run _ _ _).mono (fun r h => ⟨fun c => (h c).2.2.2, sem_eq_zero_of_no_sems (by decide) r.2⟩) (Cert.ReferenceUpIdeal.Value.run m g)

end Cert.Up
end
-- ==== Proof.Br.lean ====
module

public import proofs.«01_k».proof.Proof.Gen.KernelBrIdeal.Value
public import proofs.«01_k».proof.Proof.Gen.ReferenceBrIdeal.Run
public import proofs.«01_k».proof.Proof.Gen.KernelBr.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelBrIdeal.Prod

open Cert.KernelBrIdeal Cert.KernelBrIdeal.Gen Idealize.ShloMosaic Idealize.ShloMosaic.TcCoe Idealize.SL.Sem
theorem idx0 : ∀ t : Fin cfg0.N, (cfg0.win 0).index t = ![t.val / 2, 0] := by decide +kernel
theorem idx1 : ∀ t : Fin cfg0.N, (cfg0.win 1).index t = ![0, t.val % 2] := by decide +kernel

theorem rb0 (X : FVec Ideal S8192x1024 .bf16) (t : Fin cfg0.N) (r : Fin 1024) (l : Fin 1024) (a : Fin 8192) (b : Fin 1024) (ha : a.val = 1024 * (t.val / 2) + r) (hb : b.val = 1024 * (0) + l) :
    ((cfg0.win 0).blk t).view.read (Elt Ideal) X (ix2 r l) = X (ix2 a b) := by
  have e := idx0 t
  blk_simp [e]
  refine congrArg X ?_
  blk_ext [e]
theorem rb1 (X : FVec Ideal S1024x2048 .bf16) (t : Fin cfg0.N) (r : Fin 1024) (l : Fin 1024) (a : Fin 1024) (b : Fin 2048) (ha : a.val = 1024 * (0) + r) (hb : b.val = 1024 * (t.val % 2) + l) :
    ((cfg0.win 1).blk t).view.read (Elt Ideal) X (ix2 r l) = X (ix2 a b) := by
  have e := idx1 t
  blk_simp [e]
  refine congrArg X ?_
  blk_ext [e]
theorem idx2 : ∀ t : Fin cfg0.N, (cfg0.win 2).index t = ![t.val / 2, t.val % 2] := by decide +kernel
theorem fl : ∀ t : Fin cfg0.N, (cfg0.win 2).flush t = true := by decide +kernel
theorem rb2 (X : FVec Ideal S8192x2048 .f32) (t : Fin cfg0.N) (r : Fin 1024) (l : Fin 1024) (a : Fin 8192) (b : Fin 2048) (ha : a.val = 1024 * (t.val / 2) + r) (hb : b.val = 1024 * (t.val % 2) + l) :
    ((cfg0.win 2).blk t).view.read (Elt Ideal) X (ix2 r l) = X (ix2 a b) := by
  have e := idx2 t
  blk_simp [e]
  refine congrArg X ?_
  blk_ext [e]
theorem ct (X : Vec Ideal S1024x1024 .f32) (t : Fin cfg0.N) (r : Fin 1024) (l : Fin 1024) : (cfg0.win 2).cut (grid0.coords t) X (ix2 r l) = X (ix2 r l) := rfl

/-- One output block from its input blocks. -/
theorem out_at (x : Vec Ideal S1024x1024 .bf16) (y : Vec Ideal S1024x1024 .bf16) (r : Fin 1024) (l : Fin 1024) :
    out0_2 x y (ix2 r l) = ∑ k : Fin 1024, x (ix2 r k) * y (ix2 k l) := by
  have e : out0_2 x y = k0_pay1 x y := by
    unfold out0_2
    frame_out
  rw [e]
  pointwise [k0_pay1]

/-- One output block from the arrays that its input blocks are cut from. -/
theorem blk_at (X : FVec Ideal S8192x1024 .bf16) (Y : FVec Ideal S1024x2048 .bf16) (t : Fin cfg0.N) (r : Fin 1024) (l : Fin 1024) (a : Fin 8192) (b : Fin 2048)
    (ha : a.val = 1024 * (t.val / 2) + r.val) (hb : b.val = 1024 * (t.val % 2) + l.val) :
    out0_2 (((cfg0.win 0).blk t).view.read (Elt Ideal) X : Vec Ideal S1024x1024 .bf16) (((cfg0.win 1).blk t).view.read (Elt Ideal) Y : Vec Ideal S1024x1024 .bf16) (ix2 r l) = ∑ k : Fin 1024, X (ix2 a k) * Y (ix2 k b) := by
  rw [out_at]
  refine Finset.sum_congr rfl fun k _ => ?_
  rw [rb0 X t r k a k ha (by omega), rb1 Y t k l k b (by omega) hb]

variable (m : (ℓ : Loc nD τ sig) → Buf (Elt Ideal) ℓ) (c : Dev nD)

/-- The first argument of a device. -/
abbrev ma : FVec Ideal S8192x1024 .f32 := m (c, Proc.devRef .tc main_arg0)
/-- The second argument of a device. -/
abbrev mb : FVec Ideal S1024x2048 .f32 := m (c, Proc.devRef .tc main_arg1)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)

/-- An entry of the result after the run. -/
theorem arr_at (a : Fin 8192) (b : Fin 2048) :
    (dats m 0 c).arrAt 2 cfg0.N (ix2 a b) = ∑ k : Fin 1024, ma m c (ix2 a k) * mb m c (ix2 k b) := by
  have hp : 2 * (a.val / 1024) + b.val / 1024 < cfg0.N := by rw [show cfg0.N = 16 from N_0]; omega
  have ha : a.val = 1024 * ((2 * (a.val / 1024) + b.val / 1024) / 2) + a.val % 1024 := by omega
  have hb : b.val = 1024 * ((2 * (a.val / 1024) + b.val / 1024) % 2) + b.val % 1024 := by omega
  have e := congrFun (Value.blocks2 m c ⟨_, hp⟩ (fl _)) (ix2 ⟨a.val % 1024, by omega⟩ ⟨b.val % 1024, by omega⟩)
  rw [rb2 _ _ _ _ a b ha hb, Value.flushed2, ct, ia0, ia1] at e
  exact e.trans (blk_at _ _ _ _ _ a b ha hb)

end Cert.KernelBrIdeal.Prod

namespace Cert.ReferenceBrIdeal.Prod
open Cert.ReferenceBrIdeal Cert.ReferenceBrIdeal.Gen Idealize.ShloMosaic Idealize.ShloMosaic.TcCoe Idealize.SL.Sem

/-- An entry of the reference's result. -/
theorem ref_at (x : FVec Ideal S8192x1024 .f32) (y : FVec Ideal S1024x2048 .f32) (a : Fin 8192) (b : Fin 2048) :
    (Host.dotGeneral dot_S8192x1024_S1024x2048_S8192x2048_1_0_0_1_n_n none x y : FVec Ideal S8192x2048 .f32) (ix2 a b)
      = ∑ k : Fin 1024, x (ix2 a k) * y (ix2 k b) := by
  pointwise []

end Cert.ReferenceBrIdeal.Prod

namespace Cert.Br
open Idealize.ShloMosaic Idealize.SL.Sem Idealize.ShloMosaic.StableHlo Cert.KernelBrIdeal.Prod

attribute [local instance] Cert.KernelBr.Gen.facts Cert.KernelBrIdeal.Gen.facts Cert.ReferenceBrIdeal.Gen.facts

/-- An entry of the reference's result, at the call's arguments, is the call's. -/
theorem tie (m : (ℓ : Loc Cert.KernelBrIdeal.nD Cert.KernelBrIdeal.τ Cert.KernelBrIdeal.sig) → Buf (Elt Ideal) ℓ) (c : Dev Cert.KernelBrIdeal.nD) (a : Fin 8192) (b : Fin 2048) :
    ∑ k : Fin 1024, ma m c (ix2 a k) * mb m c (ix2 k b) = ∑ k : Fin 1024, ma m c (ix2 a k) * mb m c (ix2 k b) := by
  rfl

set_option maxHeartbeats 2000000 in
/-- The ideal call and the ideal reference return the same array. -/
theorem algebraic : Cert.algebraic_KernelBrIdeal_ReferenceBrIdeal := by
  intro m g m' g' _ ha
  refine ⟨fun c => (Cert.KernelBrIdeal.Gen.dats m 0 c).arrAt 2 Cert.KernelBrIdeal.cfg0.N, Cert.KernelBrIdeal.Value.run_blocks m g, ?_⟩
  refine (θ_run _ _ _).mono (fun r h c => ?_) (Cert.ReferenceBrIdeal.Value.run m' g')
  obtain ⟨h1, hk⟩ := h c
  obtain ⟨e0, e1⟩ := ha c
  rw [e0, e1] at h1
  refine ⟨h1.trans (funext fun i => ?_), hk⟩
  rw [eq_ix2 i]
  exact (Cert.ReferenceBrIdeal.Prod.ref_at (ma m c) (mb m c) (i 0) (i 1)).trans ((tie m c (i 0) (i 1)).trans (arr_at m c (i 0) (i 1)).symm)

/-- The ideal reference keeps its arguments; it declares no semaphore. -/
theorem frameR : Cert.quiescent_ReferenceBrIdeal := fun m g _ =>
  (θ_run _ _ _).mono (fun r h => ⟨fun c => (h c).2, sem_eq_zero_of_no_sems (by decide) r.2⟩) (Cert.ReferenceBrIdeal.Value.run m g)

end Cert.Br
end
-- ==== Proof.OBr.lean ====
module

public import proofs.«01_k».proof.Proof.Gen.KernelOBrIdeal.Value
public import proofs.«01_k».proof.Proof.Gen.ReferenceOBrIdeal.Run
public import proofs.«01_k».proof.Proof.Gen.KernelOBr.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelOBrIdeal.Prod

open Cert.KernelOBrIdeal Cert.KernelOBrIdeal.Gen Idealize.ShloMosaic Idealize.ShloMosaic.TcCoe Idealize.SL.Sem
theorem idx0 : ∀ t : Fin cfg0.N, (cfg0.win 0).index t = ![t.val / 1, 0] := by decide +kernel
theorem idx1 : ∀ t : Fin cfg0.N, (cfg0.win 1).index t = ![t.val % 1, 0] := by decide +kernel

theorem rb0 (X : FVec Ideal S8192x2048 .bf16) (t : Fin cfg0.N) (r : Fin 1024) (l : Fin 2048) (a : Fin 8192) (b : Fin 2048) (ha : a.val = 1024 * (t.val / 1) + r) (hb : b.val = 2048 * (0) + l) :
    ((cfg0.win 0).blk t).view.read (Elt Ideal) X (ix2 r l) = X (ix2 a b) := by
  have e := idx0 t
  blk_simp [e]
  refine congrArg X ?_
  blk_ext [e]
theorem rb1 (X : FVec Ideal S1024x2048 .bf16) (t : Fin cfg0.N) (r : Fin 1024) (l : Fin 2048) (a : Fin 1024) (b : Fin 2048) (ha : a.val = 1024 * (t.val % 1) + r) (hb : b.val = 2048 * (0) + l) :
    ((cfg0.win 1).blk t).view.read (Elt Ideal) X (ix2 r l) = X (ix2 a b) := by
  have e := idx1 t
  blk_simp [e]
  refine congrArg X ?_
  blk_ext [e]
theorem idx2 : ∀ t : Fin cfg0.N, (cfg0.win 2).index t = ![t.val / 1, t.val % 1] := by decide +kernel
theorem fl : ∀ t : Fin cfg0.N, (cfg0.win 2).flush t = true := by decide +kernel
theorem rb2 (X : FVec Ideal S8192x1024 .f32) (t : Fin cfg0.N) (r : Fin 1024) (l : Fin 1024) (a : Fin 8192) (b : Fin 1024) (ha : a.val = 1024 * (t.val / 1) + r) (hb : b.val = 1024 * (t.val % 1) + l) :
    ((cfg0.win 2).blk t).view.read (Elt Ideal) X (ix2 r l) = X (ix2 a b) := by
  have e := idx2 t
  blk_simp [e]
  refine congrArg X ?_
  blk_ext [e]
theorem ct (X : Vec Ideal S1024x1024 .f32) (t : Fin cfg0.N) (r : Fin 1024) (l : Fin 1024) : (cfg0.win 2).cut (grid0.coords t) X (ix2 r l) = X (ix2 r l) := rfl

/-- One output block from its input blocks. -/
theorem out_at (x : Vec Ideal S1024x2048 .bf16) (y : Vec Ideal S1024x2048 .bf16) (r : Fin 1024) (l : Fin 1024) :
    out0_2 x y (ix2 r l) = ∑ k : Fin 2048, x (ix2 r k) * y (ix2 l k) := by
  have e : out0_2 x y = k0_pay1 x y := by
    unfold out0_2
    frame_out
  rw [e]
  pointwise [k0_pay1]

/-- One output block from the arrays that its input blocks are cut from. -/
theorem blk_at (X : FVec Ideal S8192x2048 .bf16) (Y : FVec Ideal S1024x2048 .bf16) (t : Fin cfg0.N) (r : Fin 1024) (l : Fin 1024) (a : Fin 8192) (b : Fin 1024)
    (ha : a.val = 1024 * (t.val / 1) + r.val) (hb : b.val = 1024 * (t.val % 1) + l.val) :
    out0_2 (((cfg0.win 0).blk t).view.read (Elt Ideal) X : Vec Ideal S1024x2048 .bf16) (((cfg0.win 1).blk t).view.read (Elt Ideal) Y : Vec Ideal S1024x2048 .bf16) (ix2 r l) = ∑ k : Fin 2048, X (ix2 a k) * Y (ix2 b k) := by
  rw [out_at]
  refine Finset.sum_congr rfl fun k _ => ?_
  rw [rb0 X t r k a k ha (by omega), rb1 Y t l k b k hb (by omega)]

variable (m : (ℓ : Loc nD τ sig) → Buf (Elt Ideal) ℓ) (c : Dev nD)

/-- The first argument of a device. -/
abbrev ma : FVec Ideal S8192x2048 .f32 := m (c, Proc.devRef .tc main_arg0)
/-- The second argument of a device. -/
abbrev mb : FVec Ideal S1024x2048 .f32 := m (c, Proc.devRef .tc main_arg1)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)

/-- An entry of the result after the run. -/
theorem arr_at (a : Fin 8192) (b : Fin 1024) :
    (dats m 0 c).arrAt 2 cfg0.N (ix2 a b) = ∑ k : Fin 2048, ma m c (ix2 a k) * mb m c (ix2 b k) := by
  have hp : 1 * (a.val / 1024) + b.val / 1024 < cfg0.N := by rw [show cfg0.N = 8 from N_0]; omega
  have ha : a.val = 1024 * ((1 * (a.val / 1024) + b.val / 1024) / 1) + a.val % 1024 := by omega
  have hb : b.val = 1024 * ((1 * (a.val / 1024) + b.val / 1024) % 1) + b.val % 1024 := by omega
  have e := congrFun (Value.blocks2 m c ⟨_, hp⟩ (fl _)) (ix2 ⟨a.val % 1024, by omega⟩ ⟨b.val % 1024, by omega⟩)
  rw [rb2 _ _ _ _ a b ha hb, Value.flushed2, ct, ia0, ia1] at e
  exact e.trans (blk_at _ _ _ _ _ a b ha hb)

end Cert.KernelOBrIdeal.Prod

namespace Cert.ReferenceOBrIdeal.Prod
open Cert.ReferenceOBrIdeal Cert.ReferenceOBrIdeal.Gen Idealize.ShloMosaic Idealize.ShloMosaic.TcCoe Idealize.SL.Sem

/-- An entry of the reference's result. -/
theorem ref_at (x : FVec Ideal S8192x2048 .f32) (y : FVec Ideal S1024x2048 .f32) (a : Fin 8192) (b : Fin 1024) :
    (Host.dotGeneral dot_S8192x2048_S1024x2048_S8192x1024_1_1_0_0_n_n none x y : FVec Ideal S8192x1024 .f32) (ix2 a b)
      = ∑ k : Fin 2048, x (ix2 a k) * y (ix2 b k) := by
  pointwise []

end Cert.ReferenceOBrIdeal.Prod

namespace Cert.OBr
open Idealize.ShloMosaic Idealize.SL.Sem Idealize.ShloMosaic.StableHlo Cert.KernelOBrIdeal.Prod

attribute [local instance] Cert.KernelOBr.Gen.facts Cert.KernelOBrIdeal.Gen.facts Cert.ReferenceOBrIdeal.Gen.facts

/-- An entry of the reference's result, at the call's arguments, is the call's. -/
theorem tie (m : (ℓ : Loc Cert.KernelOBrIdeal.nD Cert.KernelOBrIdeal.τ Cert.KernelOBrIdeal.sig) → Buf (Elt Ideal) ℓ) (c : Dev Cert.KernelOBrIdeal.nD) (a : Fin 8192) (b : Fin 1024) :
    ∑ k : Fin 2048, ma m c (ix2 a k) * mb m c (ix2 b k) = ∑ k : Fin 2048, ma m c (ix2 a k) * mb m c (ix2 b k) := by
  rfl

set_option maxHeartbeats 2000000 in
/-- The ideal call and the ideal reference return the same array. -/
theorem algebraic : Cert.algebraic_KernelOBrIdeal_ReferenceOBrIdeal := by
  intro m g m' g' _ ha
  refine ⟨fun c => (Cert.KernelOBrIdeal.Gen.dats m 0 c).arrAt 2 Cert.KernelOBrIdeal.cfg0.N, Cert.KernelOBrIdeal.Value.run_blocks m g, ?_⟩
  refine (θ_run _ _ _).mono (fun r h c => ?_) (Cert.ReferenceOBrIdeal.Value.run m' g')
  obtain ⟨h1, hk⟩ := h c
  obtain ⟨e0, e1⟩ := ha c
  rw [e0, e1] at h1
  refine ⟨h1.trans (funext fun i => ?_), hk⟩
  rw [eq_ix2 i]
  exact (Cert.ReferenceOBrIdeal.Prod.ref_at (ma m c) (mb m c) (i 0) (i 1)).trans ((tie m c (i 0) (i 1)).trans (arr_at m c (i 0) (i 1)).symm)

/-- The ideal reference keeps its arguments; it declares no semaphore. -/
theorem frameR : Cert.quiescent_ReferenceOBrIdeal := fun m g _ =>
  (θ_run _ _ _).mono (fun r h => ⟨fun c => (h c).2, sem_eq_zero_of_no_sems (by decide) r.2⟩) (Cert.ReferenceOBrIdeal.Value.run m g)

end Cert.OBr
end
-- ==== Proof.WBr.lean ====
module

public import proofs.«01_k».proof.Proof.Gen.KernelWBrIdeal.Value
public import proofs.«01_k».proof.Proof.Gen.ReferenceWBrIdeal.Run
public import proofs.«01_k».proof.Proof.Gen.KernelWBr.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelWBrIdeal.Prod

open Cert.KernelWBrIdeal Cert.KernelWBrIdeal.Gen Idealize.ShloMosaic Idealize.ShloMosaic.TcCoe Idealize.SL.Sem
theorem idx0 : ∀ t : Fin cfg0.N, (cfg0.win 0).index t = ![t.val % 2, t.val / 4] := by decide +kernel
theorem idx1 : ∀ t : Fin cfg0.N, (cfg0.win 1).index t = ![t.val % 2, t.val / 2 % 2] := by decide +kernel

theorem rb0 (X : FVec Ideal S8192x1024 .bf16) (t : Fin cfg0.N) (r : Fin 4096) (l : Fin 1024) (a : Fin 8192) (b : Fin 1024) (ha : a.val = 4096 * (t.val % 2) + r) (hb : b.val = 1024 * (t.val / 4) + l) :
    ((cfg0.win 0).blk t).view.read (Elt Ideal) X (ix2 r l) = X (ix2 a b) := by
  have e := idx0 t
  blk_simp [e]
  refine congrArg X ?_
  blk_ext [e]
theorem rb1 (X : FVec Ideal S8192x2048 .bf16) (t : Fin cfg0.N) (r : Fin 4096) (l : Fin 1024) (a : Fin 8192) (b : Fin 2048) (ha : a.val = 4096 * (t.val % 2) + r) (hb : b.val = 1024 * (t.val / 2 % 2) + l) :
    ((cfg0.win 1).blk t).view.read (Elt Ideal) X (ix2 r l) = X (ix2 a b) := by
  have e := idx1 t
  blk_simp [e]
  refine congrArg X ?_
  blk_ext [e]

/-- What the first of two steps leaves in the accumulator. -/
theorem first_step (c i a0 h0 a1 h1 a2 h2 a3 h3 p0 p1 p2) (x : Vec Ideal S4096x1024 .bf16) (y : Vec Ideal S4096x1024 .bf16) : sout0_A_0 (F := Ideal) c i a0 h0 a1 h1 a2 h2 a3 h3 p0 p1 p2 x y = k0_pay2 x y := by
  unfold sout0_A_0
  frame_out

/-- What the second of two steps writes out over the accumulator. -/
theorem second_step (c i a0 h0 a1 h1 a2 h2 a3 h3 p0 p1 p2) (x : Vec Ideal S4096x1024 .bf16) (y : Vec Ideal S4096x1024 .bf16) (s : Vec Ideal S1024x1024 .f32) : out0_B_2 (F := Ideal) c i a0 h0 a1 h1 a2 h2 a3 h3 p0 p1 p2 x y s = k0_pay4 (k0_pay3 x y s) := by
  unfold out0_B_2
  frame_out

/-- One output block from the input blocks of its two steps. -/
theorem two_steps (x : Vec Ideal S4096x1024 .bf16) (y : Vec Ideal S4096x1024 .bf16) (x' : Vec Ideal S4096x1024 .bf16) (y' : Vec Ideal S4096x1024 .bf16) (r : Fin 1024) (l : Fin 1024) :
    k0_pay4 (k0_pay3 x y (k0_pay2 x' y')) (ix2 r l) = (∑ k : Fin 4096, x' (ix2 k r) * y' (ix2 k l)) + ∑ k : Fin 4096, x (ix2 k r) * y (ix2 k l) := by
  pointwise [k0_pay4, k0_pay3, k0_pay2, k0_pay1]

/-- One output block from the arrays that its input blocks are cut from. -/
theorem blk_at (X : FVec Ideal S8192x1024 .bf16) (Y : FVec Ideal S8192x2048 .bf16) (t t' : Fin cfg0.N) (h : t'.val + 1 = t.val) (h1 : t.val % 2 = 1) (r : Fin 1024) (l : Fin 1024) (a : Fin 1024) (b : Fin 2048)
    (ha : a.val = 1024 * (t.val / 4) + r.val) (hb : b.val = 1024 * (t.val / 2 % 2) + l.val) :
    k0_pay4 (k0_pay3 (((cfg0.win 0).blk t).view.read (Elt Ideal) X : Vec Ideal S4096x1024 .bf16) (((cfg0.win 1).blk t).view.read (Elt Ideal) Y : Vec Ideal S4096x1024 .bf16) (k0_pay2 (((cfg0.win 0).blk t').view.read (Elt Ideal) X : Vec Ideal S4096x1024 .bf16) (((cfg0.win 1).blk t').view.read (Elt Ideal) Y : Vec Ideal S4096x1024 .bf16))) (ix2 r l) = ∑ k : Fin 8192, X (ix2 k a) * Y (ix2 k b) := by
  rw [two_steps]
  refine Eq.trans ?_ (Cert.Dot.two_halves (n := 4096) (N := 8192) rfl fun k => X (ix2 k a) * Y (ix2 k b))
  refine congrArg₂ (· + ·) (Finset.sum_congr rfl fun k _ => ?_) (Finset.sum_congr rfl fun k _ => ?_)
  · rw [rb0 X t' k r ⟨k.val, by omega⟩ a (show k.val = 4096 * _ + k.val by omega) (by omega), rb1 Y t' k l ⟨k.val, by omega⟩ b (show k.val = 4096 * _ + k.val by omega) (by omega)]
  · rw [rb0 X t k r ⟨4096 + k.val, by omega⟩ a (show 4096 + k.val = 4096 * _ + k.val by omega) ha, rb1 Y t k l ⟨4096 + k.val, by omega⟩ b (show 4096 + k.val = 4096 * _ + k.val by omega) hb]

variable (m : (ℓ : Loc nD τ sig) → Buf (Elt Ideal) ℓ) (c : Dev nD)

/-- The first argument of a device. -/
abbrev ma : FVec Ideal S8192x1024 .f32 := m (c, Proc.devRef .tc main_arg0)
/-- The second argument of a device. -/
abbrev mb : FVec Ideal S8192x2048 .f32 := m (c, Proc.devRef .tc main_arg1)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)

set_option maxHeartbeats 2000000 in
/-- What a block's second step writes out, from the two argument arrays. -/
theorem fin_at (t : Fin cfg0.N) (h1 : t.val % 2 = 1) (r : Fin 1024) (l : Fin 1024) (a : Fin 1024) (b : Fin 2048)
    (ha : a.val = 1024 * (t.val / 4) + r.val) (hb : b.val = 1024 * (t.val / 2 % 2) + l.val) :
    (outsAt0 m c t.val t.isLt).1 (ix2 r l) = ∑ k : Fin 8192, ma m c (ix2 k a) * mb m c (ix2 k b) := by
  have hN : cfg0.N = 4 := N_0
  have hq : t.val - 1 < cfg0.N := by have := t.isLt; omega
  have e2 : (outsAt0 m c (t.val - 1) hq).2 = k0_pay2 (iblk m c 0 ⟨t.val - 1, hq⟩) (iblk m c 1 ⟨t.val - 1, hq⟩) := by
    rw [outsAt0_A m c ⟨t.val - 1, hq⟩ (by dsimp only; omega) (by dsimp only; omega) (by dsimp only; omega)]
    dsimp only
    rw [first_step]
  have e1 : (outsAt0 m c t.val t.isLt).1 = k0_pay4 (k0_pay3 (iblk m c 0 t) (iblk m c 1 t) (outsAt0 m c (t.val - 1) hq).2) := by
    rw [outsAt0_B m c t (by omega) h1 h1]
    dsimp only
    rw [second_step]
  rw [e1, e2, ia0, ia1, ia0, ia1]
  exact blk_at _ _ t ⟨t.val - 1, hq⟩ (by dsimp only; omega) h1 r l a b ha hb

/-- An entry of the result after the run. -/
theorem arr_at (a : Fin 1024) (b : Fin 2048) : Value.G2 m c (ix2 a b) = ∑ k : Fin 8192, ma m c (ix2 k a) * mb m c (ix2 k b) := by
  have hp : 2 * (2 * (a.val / 1024) + b.val / 1024) + 1 < cfg0.N := by rw [show cfg0.N = 4 from N_0]; omega
  have hp' : Value.pt2Of (ix2 a b) < cfg0.N := by
    show 2 * (2 * (a.val / 1024 - 0) + 1 * (b.val / 1024 - 0)) + 1 < cfg0.N
    simpa only [Nat.sub_zero, one_mul] using hp
  have hl : Value.loc2Of (ix2 a b) = ix2 ⟨a.val % 1024, by omega⟩ ⟨b.val % 1024, by omega⟩ := eq_ix2 _
  unfold Value.G2
  rw [dif_pos hp', ← Value.outsAt0_sweep m c _ hp', hl]
  have ht : Value.pt2Of (ix2 a b) = 2 * (2 * (a.val / 1024) + b.val / 1024) + 1 := by
    show 2 * (2 * (a.val / 1024 - 0) + 1 * (b.val / 1024 - 0)) + 1 = _
    omega
  exact fin_at m c ⟨_, hp'⟩ (by dsimp only; rw [ht]; omega) _ _ a b (by dsimp only; rw [ht]; omega) (by dsimp only; rw [ht]; omega)

end Cert.KernelWBrIdeal.Prod

namespace Cert.ReferenceWBrIdeal.Prod
open Cert.ReferenceWBrIdeal Cert.ReferenceWBrIdeal.Gen Idealize.ShloMosaic Idealize.ShloMosaic.TcCoe Idealize.SL.Sem

/-- An entry of the reference's result. -/
theorem ref_at (x : FVec Ideal S8192x1024 .f32) (y : FVec Ideal S8192x2048 .f32) (a : Fin 1024) (b : Fin 2048) :
    (truncf .bf16 (transpose S1024x2048 [1, 0] (Host.dotGeneral dot_S8192x2048_S8192x1024_S2048x1024_0_0_1_1_n_n none y x) transposes_S2048x1024_S1024x2048_1_0) bitsLt_bf16_f32 : FVec Ideal S1024x2048 .bf16) (ix2 a b)
      = ∑ k : Fin 8192, y (ix2 k b) * x (ix2 k a) := by
  pointwise []

end Cert.ReferenceWBrIdeal.Prod

namespace Cert.WBr
open Idealize.ShloMosaic Idealize.SL.Sem Idealize.ShloMosaic.StableHlo Cert.KernelWBrIdeal.Prod

attribute [local instance] Cert.KernelWBr.Gen.facts Cert.KernelWBrIdeal.Gen.facts Cert.ReferenceWBrIdeal.Gen.facts

/-- An entry of the reference's result, at the call's arguments, is the call's. -/
theorem tie (m : (ℓ : Loc Cert.KernelWBrIdeal.nD Cert.KernelWBrIdeal.τ Cert.KernelWBrIdeal.sig) → Buf (Elt Ideal) ℓ) (c : Dev Cert.KernelWBrIdeal.nD) (a : Fin 1024) (b : Fin 2048) :
    ∑ k : Fin 8192, mb m c (ix2 k b) * ma m c (ix2 k a) = ∑ k : Fin 8192, ma m c (ix2 k a) * mb m c (ix2 k b) := by
  exact Finset.sum_congr rfl fun k _ => mul_comm _ _

set_option maxHeartbeats 2000000 in
/-- The ideal call and the ideal reference return the same array. -/
theorem algebraic : Cert.algebraic_KernelWBrIdeal_ReferenceWBrIdeal := by
  intro m g m' g' _ ha
  refine ⟨fun c => Cert.KernelWBrIdeal.Value.G2 m c, Cert.KernelWBrIdeal.Value.run m g, ?_⟩
  refine (θ_run _ _ _).mono (fun r h c => ?_) (Cert.ReferenceWBrIdeal.Value.run m' g')
  obtain ⟨h1, hk⟩ := h c
  obtain ⟨e0, e1⟩ := ha c
  rw [e0, e1] at h1
  refine ⟨h1.trans (funext fun i => ?_), hk⟩
  rw [eq_ix2 i]
  exact (Cert.ReferenceWBrIdeal.Prod.ref_at (ma m c) (mb m c) (i 0) (i 1)).trans ((tie m c (i 0) (i 1)).trans (arr_at m c (i 0) (i 1)).symm)

/-- The ideal reference keeps its arguments; it declares no semaphore. -/
theorem frameR : Cert.quiescent_ReferenceWBrIdeal := fun m g _ =>
  (θ_run _ _ _).mono (fun r h => ⟨fun c => (h c).2, sem_eq_zero_of_no_sems (by decide) r.2⟩) (Cert.ReferenceWBrIdeal.Value.run m g)

end Cert.WBr
end
-- ==== Proof.Out.lean ====
module

public import proofs.«01_k».proof.Proof.Gen.KernelOutIdeal.Value
public import proofs.«01_k».proof.Proof.Gen.ReferenceOutIdeal.Run
public import proofs.«01_k».proof.Proof.Gen.KernelOut.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelOutIdeal.Prod

open Cert.KernelOutIdeal Cert.KernelOutIdeal.Gen Idealize.ShloMosaic Idealize.ShloMosaic.TcCoe Idealize.SL.Sem
theorem idx0 : ∀ t : Fin cfg0.N, (cfg0.win 0).index t = ![t.val / 2, 0] := by decide +kernel
theorem idx1 : ∀ t : Fin cfg0.N, (cfg0.win 1).index t = ![0, t.val % 2] := by decide +kernel
theorem idx2 : ∀ t : Fin cfg0.N, (cfg0.win 2).index t = ![t.val / 2, t.val % 2] := by decide +kernel

theorem rb0 (X : FVec Ideal S8192x2048 .bf16) (t : Fin cfg0.N) (r : Fin 1024) (l : Fin 2048) (a : Fin 8192) (b : Fin 2048) (ha : a.val = 1024 * (t.val / 2) + r) (hb : b.val = 2048 * (0) + l) :
    ((cfg0.win 0).blk t).view.read (Elt Ideal) X (ix2 r l) = X (ix2 a b) := by
  have e := idx0 t
  blk_simp [e]
  refine congrArg X ?_
  blk_ext [e]
theorem rb1 (X : FVec Ideal S2048x2048 .bf16) (t : Fin cfg0.N) (r : Fin 2048) (l : Fin 1024) (a : Fin 2048) (b : Fin 2048) (ha : a.val = 2048 * (0) + r) (hb : b.val = 1024 * (t.val % 2) + l) :
    ((cfg0.win 1).blk t).view.read (Elt Ideal) X (ix2 r l) = X (ix2 a b) := by
  have e := idx1 t
  blk_simp [e]
  refine congrArg X ?_
  blk_ext [e]
theorem rb2 (X : FVec Ideal S8192x2048 .f32) (t : Fin cfg0.N) (r : Fin 1024) (l : Fin 1024) (a : Fin 8192) (b : Fin 2048) (ha : a.val = 1024 * (t.val / 2) + r) (hb : b.val = 1024 * (t.val % 2) + l) :
    ((cfg0.win 2).blk t).view.read (Elt Ideal) X (ix2 r l) = X (ix2 a b) := by
  have e := idx2 t
  blk_simp [e]
  refine congrArg X ?_
  blk_ext [e]
theorem idx3 : ∀ t : Fin cfg0.N, (cfg0.win 3).index t = ![t.val / 2, t.val % 2] := by decide +kernel
theorem fl : ∀ t : Fin cfg0.N, (cfg0.win 3).flush t = true := by decide +kernel
theorem rb3 (X : FVec Ideal S8192x2048 .f32) (t : Fin cfg0.N) (r : Fin 1024) (l : Fin 1024) (a : Fin 8192) (b : Fin 2048) (ha : a.val = 1024 * (t.val / 2) + r) (hb : b.val = 1024 * (t.val % 2) + l) :
    ((cfg0.win 3).blk t).view.read (Elt Ideal) X (ix2 r l) = X (ix2 a b) := by
  have e := idx3 t
  blk_simp [e]
  refine congrArg X ?_
  blk_ext [e]
theorem ct (X : Vec Ideal S1024x1024 .f32) (t : Fin cfg0.N) (r : Fin 1024) (l : Fin 1024) : (cfg0.win 3).cut (grid0.coords t) X (ix2 r l) = X (ix2 r l) := rfl

/-- One output block from its input blocks. -/
theorem out_at (x : Vec Ideal S1024x2048 .bf16) (y : Vec Ideal S2048x1024 .bf16) (z : Vec Ideal S1024x1024 .f32) (r : Fin 1024) (l : Fin 1024) :
    out0_3 x y z (ix2 r l) = z (ix2 r l) + (∑ k : Fin 2048, x (ix2 r k) * y (ix2 k l)) := by
  have e : out0_3 x y z = k0_pay1 x y z := by
    unfold out0_3
    frame_out
  rw [e]
  pointwise [k0_pay1]

/-- One output block from the arrays that its input blocks are cut from. -/
theorem blk_at (X : FVec Ideal S8192x2048 .bf16) (Y : FVec Ideal S2048x2048 .bf16) (Z : FVec Ideal S8192x2048 .f32) (t : Fin cfg0.N) (r : Fin 1024) (l : Fin 1024) (a : Fin 8192) (b : Fin 2048)
    (ha : a.val = 1024 * (t.val / 2) + r.val) (hb : b.val = 1024 * (t.val % 2) + l.val) :
    out0_3 (((cfg0.win 0).blk t).view.read (Elt Ideal) X : Vec Ideal S1024x2048 .bf16) (((cfg0.win 1).blk t).view.read (Elt Ideal) Y : Vec Ideal S2048x1024 .bf16) (((cfg0.win 2).blk t).view.read (Elt Ideal) Z : Vec Ideal S1024x1024 .f32) (ix2 r l) = Z (ix2 a b) + ∑ k : Fin 2048, X (ix2 a k) * Y (ix2 k b) := by
  rw [out_at, rb2 Z t r l a b ha hb]
  refine congrArg (_ + ·) (Finset.sum_congr rfl fun k _ => ?_)
  rw [rb0 X t r k a k ha (by omega), rb1 Y t k l k b (by omega) hb]

variable (m : (ℓ : Loc nD τ sig) → Buf (Elt Ideal) ℓ) (c : Dev nD)

/-- The first argument of a device. -/
abbrev ma : FVec Ideal S8192x2048 .f32 := m (c, Proc.devRef .tc main_arg0)
/-- The second argument of a device. -/
abbrev mb : FVec Ideal S2048x2048 .f32 := m (c, Proc.devRef .tc main_arg1)
/-- The third argument of a device. -/
abbrev mz : FVec Ideal S8192x2048 .f32 := m (c, Proc.devRef .tc main_arg2)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)
theorem ia2 (t : Fin cfg0.N) : iblk m c 2 t = ((cfg0.win 2).blk t).view.read (Elt Ideal) (mz m c) :=
  congrArg (fun X => ((cfg0.win 2).blk t).view.read (Elt Ideal) X) (V_main_arg2 m c)

/-- An entry of the result after the run. -/
theorem arr_at (a : Fin 8192) (b : Fin 2048) :
    (dats m 0 c).arrAt 3 cfg0.N (ix2 a b) = mz m c (ix2 a b) + ∑ k : Fin 2048, ma m c (ix2 a k) * mb m c (ix2 k b) := by
  have hp : 2 * (a.val / 1024) + b.val / 1024 < cfg0.N := by rw [show cfg0.N = 16 from N_0]; omega
  have ha : a.val = 1024 * ((2 * (a.val / 1024) + b.val / 1024) / 2) + a.val % 1024 := by omega
  have hb : b.val = 1024 * ((2 * (a.val / 1024) + b.val / 1024) % 2) + b.val % 1024 := by omega
  have e := congrFun (Value.blocks3 m c ⟨_, hp⟩ (fl _)) (ix2 ⟨a.val % 1024, by omega⟩ ⟨b.val % 1024, by omega⟩)
  rw [rb3 _ _ _ _ a b ha hb, Value.flushed3, ct, ia0, ia1, ia2] at e
  exact e.trans (blk_at _ _ _ _ _ _ a b ha hb)

end Cert.KernelOutIdeal.Prod

namespace Cert.ReferenceOutIdeal.Prod
open Cert.ReferenceOutIdeal Cert.ReferenceOutIdeal.Gen Idealize.ShloMosaic Idealize.ShloMosaic.TcCoe Idealize.SL.Sem

/-- An entry of the reference's result. -/
theorem ref_at (x : FVec Ideal S8192x2048 .f32) (y : FVec Ideal S2048x2048 .f32) (z : FVec Ideal S8192x2048 .f32) (a : Fin 8192) (b : Fin 2048) :
    (addf z (Host.dotGeneral dot_S8192x2048_S2048x2048_S8192x2048_1_0_0_1_n_n none x y) : FVec Ideal S8192x2048 .f32) (ix2 a b)
      = z (ix2 a b) + ∑ k : Fin 2048, x (ix2 a k) * y (ix2 k b) := by
  pointwise []

end Cert.ReferenceOutIdeal.Prod

namespace Cert.Out
open Idealize.ShloMosaic Idealize.SL.Sem Idealize.ShloMosaic.StableHlo Cert.KernelOutIdeal.Prod

attribute [local instance] Cert.KernelOut.Gen.facts Cert.KernelOutIdeal.Gen.facts Cert.ReferenceOutIdeal.Gen.facts

/-- An entry of the reference's result, at the call's arguments, is the call's. -/
theorem tie (m : (ℓ : Loc Cert.KernelOutIdeal.nD Cert.KernelOutIdeal.τ Cert.KernelOutIdeal.sig) → Buf (Elt Ideal) ℓ) (c : Dev Cert.KernelOutIdeal.nD) (a : Fin 8192) (b : Fin 2048) :
    mz m c (ix2 a b) + ∑ k : Fin 2048, ma m c (ix2 a k) * mb m c (ix2 k b) = mz m c (ix2 a b) + ∑ k : Fin 2048, ma m c (ix2 a k) * mb m c (ix2 k b) := by
  rfl

set_option maxHeartbeats 2000000 in
/-- The ideal call and the ideal reference return the same array. -/
theorem algebraic : Cert.algebraic_KernelOutIdeal_ReferenceOutIdeal := by
  intro m g m' g' _ ha
  refine ⟨fun c => (Cert.KernelOutIdeal.Gen.dats m 0 c).arrAt 3 Cert.KernelOutIdeal.cfg0.N, Cert.KernelOutIdeal.Value.run_blocks m g, ?_⟩
  refine (θ_run _ _ _).mono (fun r h c => ?_) (Cert.ReferenceOutIdeal.Value.run m' g')
  obtain ⟨h1, hk⟩ := h c
  obtain ⟨e0, e1, e2⟩ := ha c
  rw [e0, e1, e2] at h1
  refine ⟨h1.trans (funext fun i => ?_), hk⟩
  rw [eq_ix2 i]
  exact (Cert.ReferenceOutIdeal.Prod.ref_at (ma m c) (mb m c) (mz m c) (i 0) (i 1)).trans ((tie m c (i 0) (i 1)).trans (arr_at m c (i 0) (i 1)).symm)

/-- The ideal reference keeps its arguments; it declares no semaphore. -/
theorem frameR : Cert.quiescent_ReferenceOutIdeal := fun m g _ =>
  (θ_run _ _ _).mono (fun r h => ⟨fun c => (h c).2, sem_eq_zero_of_no_sems (by decide) r.2⟩) (Cert.ReferenceOutIdeal.Value.run m g)

end Cert.Out
end
-- ==== Proof.WO.lean ====
module

public import proofs.«01_k».proof.Proof.Gen.KernelWOIdeal.Value
public import proofs.«01_k».proof.Proof.Gen.ReferenceWOIdeal.Run
public import proofs.«01_k».proof.Proof.Gen.KernelWO.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelWOIdeal.Prod

open Cert.KernelWOIdeal Cert.KernelWOIdeal.Gen Idealize.ShloMosaic Idealize.ShloMosaic.TcCoe Idealize.SL.Sem
theorem idx0 : ∀ t : Fin cfg0.N, (cfg0.win 0).index t = ![t.val % 2, t.val / 4] := by decide +kernel
theorem idx1 : ∀ t : Fin cfg0.N, (cfg0.win 1).index t = ![t.val % 2, t.val / 2 % 2] := by decide +kernel

theorem rb0 (X : FVec Ideal S8192x2048 .bf16) (t : Fin cfg0.N) (r : Fin 4096) (l : Fin 1024) (a : Fin 8192) (b : Fin 2048) (ha : a.val = 4096 * (t.val % 2) + r) (hb : b.val = 1024 * (t.val / 4) + l) :
    ((cfg0.win 0).blk t).view.read (Elt Ideal) X (ix2 r l) = X (ix2 a b) := by
  have e := idx0 t
  blk_simp [e]
  refine congrArg X ?_
  blk_ext [e]
theorem rb1 (X : FVec Ideal S8192x2048 .bf16) (t : Fin cfg0.N) (r : Fin 4096) (l : Fin 1024) (a : Fin 8192) (b : Fin 2048) (ha : a.val = 4096 * (t.val % 2) + r) (hb : b.val = 1024 * (t.val / 2 % 2) + l) :
    ((cfg0.win 1).blk t).view.read (Elt Ideal) X (ix2 r l) = X (ix2 a b) := by
  have e := idx1 t
  blk_simp [e]
  refine congrArg X ?_
  blk_ext [e]

/-- What the first of two steps leaves in the accumulator. -/
theorem first_step (c i a0 h0 a1 h1 a2 h2 a3 h3 p0 p1 p2) (x : Vec Ideal S4096x1024 .bf16) (y : Vec Ideal S4096x1024 .bf16) : sout0_A_0 (F := Ideal) c i a0 h0 a1 h1 a2 h2 a3 h3 p0 p1 p2 x y = k0_pay2 x y := by
  unfold sout0_A_0
  frame_out

/-- What the second of two steps writes out over the accumulator. -/
theorem second_step (c i a0 h0 a1 h1 a2 h2 a3 h3 p0 p1 p2) (x : Vec Ideal S4096x1024 .bf16) (y : Vec Ideal S4096x1024 .bf16) (s : Vec Ideal S1024x1024 .f32) : out0_B_2 (F := Ideal) c i a0 h0 a1 h1 a2 h2 a3 h3 p0 p1 p2 x y s = k0_pay4 (k0_pay3 x y s) := by
  unfold out0_B_2
  frame_out

/-- One output block from the input blocks of its two steps. -/
theorem two_steps (x : Vec Ideal S4096x1024 .bf16) (y : Vec Ideal S4096x1024 .bf16) (x' : Vec Ideal S4096x1024 .bf16) (y' : Vec Ideal S4096x1024 .bf16) (r : Fin 1024) (l : Fin 1024) :
    k0_pay4 (k0_pay3 x y (k0_pay2 x' y')) (ix2 r l) = (∑ k : Fin 4096, x' (ix2 k r) * y' (ix2 k l)) + ∑ k : Fin 4096, x (ix2 k r) * y (ix2 k l) := by
  pointwise [k0_pay4, k0_pay3, k0_pay2, k0_pay1]

/-- One output block from the arrays that its input blocks are cut from. -/
theorem blk_at (X : FVec Ideal S8192x2048 .bf16) (Y : FVec Ideal S8192x2048 .bf16) (t t' : Fin cfg0.N) (h : t'.val + 1 = t.val) (h1 : t.val % 2 = 1) (r : Fin 1024) (l : Fin 1024) (a : Fin 2048) (b : Fin 2048)
    (ha : a.val = 1024 * (t.val / 4) + r.val) (hb : b.val = 1024 * (t.val / 2 % 2) + l.val) :
    k0_pay4 (k0_pay3 (((cfg0.win 0).blk t).view.read (Elt Ideal) X : Vec Ideal S4096x1024 .bf16) (((cfg0.win 1).blk t).view.read (Elt Ideal) Y : Vec Ideal S4096x1024 .bf16) (k0_pay2 (((cfg0.win 0).blk t').view.read (Elt Ideal) X : Vec Ideal S4096x1024 .bf16) (((cfg0.win 1).blk t').view.read (Elt Ideal) Y : Vec Ideal S4096x1024 .bf16))) (ix2 r l) = ∑ k : Fin 8192, X (ix2 k a) * Y (ix2 k b) := by
  rw [two_steps]
  refine Eq.trans ?_ (Cert.Dot.two_halves (n := 4096) (N := 8192) rfl fun k => X (ix2 k a) * Y (ix2 k b))
  refine congrArg₂ (· + ·) (Finset.sum_congr rfl fun k _ => ?_) (Finset.sum_congr rfl fun k _ => ?_)
  · rw [rb0 X t' k r ⟨k.val, by omega⟩ a (show k.val = 4096 * _ + k.val by omega) (by omega), rb1 Y t' k l ⟨k.val, by omega⟩ b (show k.val = 4096 * _ + k.val by omega) (by omega)]
  · rw [rb0 X t k r ⟨4096 + k.val, by omega⟩ a (show 4096 + k.val = 4096 * _ + k.val by omega) ha, rb1 Y t k l ⟨4096 + k.val, by omega⟩ b (show 4096 + k.val = 4096 * _ + k.val by omega) hb]

variable (m : (ℓ : Loc nD τ sig) → Buf (Elt Ideal) ℓ) (c : Dev nD)

/-- The first argument of a device. -/
abbrev ma : FVec Ideal S8192x2048 .f32 := m (c, Proc.devRef .tc main_arg0)
/-- The second argument of a device. -/
abbrev mb : FVec Ideal S8192x2048 .f32 := m (c, Proc.devRef .tc main_arg1)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)

set_option maxHeartbeats 2000000 in
/-- What a block's second step writes out, from the two argument arrays. -/
theorem fin_at (t : Fin cfg0.N) (h1 : t.val % 2 = 1) (r : Fin 1024) (l : Fin 1024) (a : Fin 2048) (b : Fin 2048)
    (ha : a.val = 1024 * (t.val / 4) + r.val) (hb : b.val = 1024 * (t.val / 2 % 2) + l.val) :
    (outsAt0 m c t.val t.isLt).1 (ix2 r l) = ∑ k : Fin 8192, ma m c (ix2 k a) * mb m c (ix2 k b) := by
  have hN : cfg0.N = 8 := N_0
  have hq : t.val - 1 < cfg0.N := by have := t.isLt; omega
  have e2 : (outsAt0 m c (t.val - 1) hq).2 = k0_pay2 (iblk m c 0 ⟨t.val - 1, hq⟩) (iblk m c 1 ⟨t.val - 1, hq⟩) := by
    rw [outsAt0_A m c ⟨t.val - 1, hq⟩ (by dsimp only; omega) (by dsimp only; omega) (by dsimp only; omega)]
    dsimp only
    rw [first_step]
  have e1 : (outsAt0 m c t.val t.isLt).1 = k0_pay4 (k0_pay3 (iblk m c 0 t) (iblk m c 1 t) (outsAt0 m c (t.val - 1) hq).2) := by
    rw [outsAt0_B m c t (by omega) h1 h1]
    dsimp only
    rw [second_step]
  rw [e1, e2, ia0, ia1, ia0, ia1]
  exact blk_at _ _ t ⟨t.val - 1, hq⟩ (by dsimp only; omega) h1 r l a b ha hb

/-- An entry of the result after the run. -/
theorem arr_at (a : Fin 2048) (b : Fin 2048) : Value.G2 m c (ix2 a b) = ∑ k : Fin 8192, ma m c (ix2 k a) * mb m c (ix2 k b) := by
  have hp : 2 * (2 * (a.val / 1024) + b.val / 1024) + 1 < cfg0.N := by rw [show cfg0.N = 8 from N_0]; omega
  have hp' : Value.pt2Of (ix2 a b) < cfg0.N := by
    show 2 * (2 * (a.val / 1024 - 0) + 1 * (b.val / 1024 - 0)) + 1 < cfg0.N
    simpa only [Nat.sub_zero, one_mul] using hp
  have hl : Value.loc2Of (ix2 a b) = ix2 ⟨a.val % 1024, by omega⟩ ⟨b.val % 1024, by omega⟩ := eq_ix2 _
  unfold Value.G2
  rw [dif_pos hp', ← Value.outsAt0_sweep m c _ hp', hl]
  have ht : Value.pt2Of (ix2 a b) = 2 * (2 * (a.val / 1024) + b.val / 1024) + 1 := by
    show 2 * (2 * (a.val / 1024 - 0) + 1 * (b.val / 1024 - 0)) + 1 = _
    omega
  exact fin_at m c ⟨_, hp'⟩ (by dsimp only; rw [ht]; omega) _ _ a b (by dsimp only; rw [ht]; omega) (by dsimp only; rw [ht]; omega)

end Cert.KernelWOIdeal.Prod

namespace Cert.ReferenceWOIdeal.Prod
open Cert.ReferenceWOIdeal Cert.ReferenceWOIdeal.Gen Idealize.ShloMosaic Idealize.ShloMosaic.TcCoe Idealize.SL.Sem

/-- An entry of the reference's result. -/
theorem ref_at (x : FVec Ideal S8192x2048 .f32) (y : FVec Ideal S8192x2048 .f32) (a : Fin 2048) (b : Fin 2048) :
    (truncf .bf16 (transpose S2048x2048 [1, 0] (Host.dotGeneral dot_S8192x2048_S8192x2048_S2048x2048_0_0_1_1_n_n none y x) transposes_S2048x2048_S2048x2048_1_0) bitsLt_bf16_f32 : FVec Ideal S2048x2048 .bf16) (ix2 a b)
      = ∑ k : Fin 8192, y (ix2 k b) * x (ix2 k a) := by
  pointwise []

end Cert.ReferenceWOIdeal.Prod

namespace Cert.WO
open Idealize.ShloMosaic Idealize.SL.Sem Idealize.ShloMosaic.StableHlo Cert.KernelWOIdeal.Prod

attribute [local instance] Cert.KernelWO.Gen.facts Cert.KernelWOIdeal.Gen.facts Cert.ReferenceWOIdeal.Gen.facts

/-- An entry of the reference's result, at the call's arguments, is the call's. -/
theorem tie (m : (ℓ : Loc Cert.KernelWOIdeal.nD Cert.KernelWOIdeal.τ Cert.KernelWOIdeal.sig) → Buf (Elt Ideal) ℓ) (c : Dev Cert.KernelWOIdeal.nD) (a : Fin 2048) (b : Fin 2048) :
    ∑ k : Fin 8192, mb m c (ix2 k b) * ma m c (ix2 k a) = ∑ k : Fin 8192, ma m c (ix2 k a) * mb m c (ix2 k b) := by
  exact Finset.sum_congr rfl fun k _ => mul_comm _ _

set_option maxHeartbeats 2000000 in
/-- The ideal call and the ideal reference return the same array. -/
theorem algebraic : Cert.algebraic_KernelWOIdeal_ReferenceWOIdeal := by
  intro m g m' g' _ ha
  refine ⟨fun c => Cert.KernelWOIdeal.Value.G2 m c, Cert.KernelWOIdeal.Value.run m g, ?_⟩
  refine (θ_run _ _ _).mono (fun r h c => ?_) (Cert.ReferenceWOIdeal.Value.run m' g')
  obtain ⟨h1, hk⟩ := h c
  obtain ⟨e0, e1⟩ := ha c
  rw [e0, e1] at h1
  refine ⟨h1.trans (funext fun i => ?_), hk⟩
  rw [eq_ix2 i]
  exact (Cert.ReferenceWOIdeal.Prod.ref_at (ma m c) (mb m c) (i 0) (i 1)).trans ((tie m c (i 0) (i 1)).trans (arr_at m c (i 0) (i 1)).symm)

/-- The ideal reference keeps its arguments; it declares no semaphore. -/
theorem frameR : Cert.quiescent_ReferenceWOIdeal := fun m g _ =>
  (θ_run _ _ _).mono (fun r h => ⟨fun c => (h c).2, sem_eq_zero_of_no_sems (by decide) r.2⟩) (Cert.ReferenceWOIdeal.Value.run m g)

end Cert.WO
end
-- ==== Proof.PGate.lean ====
module

public import proofs.«01_k».proof.Proof.Gen.KernelPGateIdeal.Value
public import proofs.«01_k».proof.Proof.Gen.ReferencePGateIdeal.Run
public import proofs.«01_k».proof.Proof.Gen.KernelPGate.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelPGateIdeal.Prod

open Cert.KernelPGateIdeal Cert.KernelPGateIdeal.Gen Idealize.ShloMosaic Idealize.ShloMosaic.TcCoe Idealize.SL.Sem
theorem idx0 : ∀ t : Fin cfg0.N, (cfg0.win 0).index t = ![t.val / 4, 0] := by decide +kernel
theorem idx1 : ∀ t : Fin cfg0.N, (cfg0.win 1).index t = ![0, t.val % 4] := by decide +kernel

theorem rb0 (X : FVec Ideal S8192x2048 .bf16) (t : Fin cfg0.N) (r : Fin 1024) (l : Fin 2048) (a : Fin 8192) (b : Fin 2048) (ha : a.val = 1024 * (t.val / 4) + r) (hb : b.val = 2048 * (0) + l) :
    ((cfg0.win 0).blk t).view.read (Elt Ideal) X (ix2 r l) = X (ix2 a b) := by
  have e := idx0 t
  blk_simp [e]
  refine congrArg X ?_
  blk_ext [e]
theorem rb1 (X : FVec Ideal S2048x4096 .bf16) (t : Fin cfg0.N) (r : Fin 2048) (l : Fin 1024) (a : Fin 2048) (b : Fin 4096) (ha : a.val = 2048 * (0) + r) (hb : b.val = 1024 * (t.val % 4) + l) :
    ((cfg0.win 1).blk t).view.read (Elt Ideal) X (ix2 r l) = X (ix2 a b) := by
  have e := idx1 t
  blk_simp [e]
  refine congrArg X ?_
  blk_ext [e]
theorem idx2 : ∀ t : Fin cfg0.N, (cfg0.win 2).index t = ![t.val / 4, t.val % 4] := by decide +kernel
theorem fl : ∀ t : Fin cfg0.N, (cfg0.win 2).flush t = true := by decide +kernel
theorem rb2 (X : FVec Ideal S8192x4096 .bf16) (t : Fin cfg0.N) (r : Fin 1024) (l : Fin 1024) (a : Fin 8192) (b : Fin 4096) (ha : a.val = 1024 * (t.val / 4) + r) (hb : b.val = 1024 * (t.val % 4) + l) :
    ((cfg0.win 2).blk t).view.read (Elt Ideal) X (ix2 r l) = X (ix2 a b) := by
  have e := idx2 t
  blk_simp [e]
  refine congrArg X ?_
  blk_ext [e]
theorem ct (X : Vec Ideal S1024x1024 .bf16) (t : Fin cfg0.N) (r : Fin 1024) (l : Fin 1024) : (cfg0.win 2).cut (grid0.coords t) X (ix2 r l) = X (ix2 r l) := rfl

/-- One output block from its input blocks. -/
theorem out_at (x : Vec Ideal S1024x2048 .bf16) (y : Vec Ideal S2048x1024 .bf16) (r : Fin 1024) (l : Fin 1024) :
    out0_2 x y (ix2 r l) = ∑ k : Fin 2048, x (ix2 r k) * y (ix2 k l) := by
  have e : out0_2 x y = k0_pay1 x y := by
    unfold out0_2
    frame_out
  rw [e]
  pointwise [k0_pay1]

/-- One output block from the arrays that its input blocks are cut from. -/
theorem blk_at (X : FVec Ideal S8192x2048 .bf16) (Y : FVec Ideal S2048x4096 .bf16) (t : Fin cfg0.N) (r : Fin 1024) (l : Fin 1024) (a : Fin 8192) (b : Fin 4096)
    (ha : a.val = 1024 * (t.val / 4) + r.val) (hb : b.val = 1024 * (t.val % 4) + l.val) :
    out0_2 (((cfg0.win 0).blk t).view.read (Elt Ideal) X : Vec Ideal S1024x2048 .bf16) (((cfg0.win 1).blk t).view.read (Elt Ideal) Y : Vec Ideal S2048x1024 .bf16) (ix2 r l) = ∑ k : Fin 2048, X (ix2 a k) * Y (ix2 k b) := by
  rw [out_at]
  refine Finset.sum_congr rfl fun k _ => ?_
  rw [rb0 X t r k a k ha (by omega), rb1 Y t k l k b (by omega) hb]

variable (m : (ℓ : Loc nD τ sig) → Buf (Elt Ideal) ℓ) (c : Dev nD)

/-- The first argument of a device. -/
abbrev ma : FVec Ideal S8192x2048 .f32 := m (c, Proc.devRef .tc main_arg0)
/-- The second argument of a device. -/
abbrev mb : FVec Ideal S2048x4096 .f32 := m (c, Proc.devRef .tc main_arg1)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)

/-- An entry of the result after the run. -/
theorem arr_at (a : Fin 8192) (b : Fin 4096) :
    (dats m 0 c).arrAt 2 cfg0.N (ix2 a b) = ∑ k : Fin 2048, ma m c (ix2 a k) * mb m c (ix2 k b) := by
  have hp : 4 * (a.val / 1024) + b.val / 1024 < cfg0.N := by rw [show cfg0.N = 32 from N_0]; omega
  have ha : a.val = 1024 * ((4 * (a.val / 1024) + b.val / 1024) / 4) + a.val % 1024 := by omega
  have hb : b.val = 1024 * ((4 * (a.val / 1024) + b.val / 1024) % 4) + b.val % 1024 := by omega
  have e := congrFun (Value.blocks2 m c ⟨_, hp⟩ (fl _)) (ix2 ⟨a.val % 1024, by omega⟩ ⟨b.val % 1024, by omega⟩)
  rw [rb2 _ _ _ _ a b ha hb, Value.flushed2, ct, ia0, ia1] at e
  exact e.trans (blk_at _ _ _ _ _ a b ha hb)

end Cert.KernelPGateIdeal.Prod

namespace Cert.ReferencePGateIdeal.Prod
open Cert.ReferencePGateIdeal Cert.ReferencePGateIdeal.Gen Idealize.ShloMosaic Idealize.ShloMosaic.TcCoe Idealize.SL.Sem

/-- An entry of the reference's result. -/
theorem ref_at (x : FVec Ideal S8192x2048 .f32) (y : FVec Ideal S2048x4096 .f32) (a : Fin 8192) (b : Fin 4096) :
    (truncf .bf16 (Host.dotGeneral dot_S8192x2048_S2048x4096_S8192x4096_1_0_0_1_n_n none x y) bitsLt_bf16_f32 : FVec Ideal S8192x4096 .bf16) (ix2 a b)
      = ∑ k : Fin 2048, x (ix2 a k) * y (ix2 k b) := by
  pointwise []

end Cert.ReferencePGateIdeal.Prod

namespace Cert.PGate
open Idealize.ShloMosaic Idealize.SL.Sem Idealize.ShloMosaic.StableHlo Cert.KernelPGateIdeal.Prod

attribute [local instance] Cert.KernelPGate.Gen.facts Cert.KernelPGateIdeal.Gen.facts Cert.ReferencePGateIdeal.Gen.facts

/-- An entry of the reference's result, at the call's arguments, is the call's. -/
theorem tie (m : (ℓ : Loc Cert.KernelPGateIdeal.nD Cert.KernelPGateIdeal.τ Cert.KernelPGateIdeal.sig) → Buf (Elt Ideal) ℓ) (c : Dev Cert.KernelPGateIdeal.nD) (a : Fin 8192) (b : Fin 4096) :
    ∑ k : Fin 2048, ma m c (ix2 a k) * mb m c (ix2 k b) = ∑ k : Fin 2048, ma m c (ix2 a k) * mb m c (ix2 k b) := by
  rfl

set_option maxHeartbeats 2000000 in
/-- The ideal call and the ideal reference return the same array. -/
theorem algebraic : Cert.algebraic_KernelPGateIdeal_ReferencePGateIdeal := by
  intro m g m' g' _ ha
  refine ⟨fun c => (Cert.KernelPGateIdeal.Gen.dats m 0 c).arrAt 2 Cert.KernelPGateIdeal.cfg0.N, Cert.KernelPGateIdeal.Value.run_blocks m g, ?_⟩
  refine (θ_run _ _ _).mono (fun r h c => ?_) (Cert.ReferencePGateIdeal.Value.run m' g')
  obtain ⟨h1, hk⟩ := h c
  obtain ⟨e0, e1⟩ := ha c
  rw [e0, e1] at h1
  refine ⟨h1.trans (funext fun i => ?_), hk⟩
  rw [eq_ix2 i]
  exact (Cert.ReferencePGateIdeal.Prod.ref_at (ma m c) (mb m c) (i 0) (i 1)).trans ((tie m c (i 0) (i 1)).trans (arr_at m c (i 0) (i 1)).symm)

/-- The ideal reference keeps its arguments; it declares no semaphore. -/
theorem frameR : Cert.quiescent_ReferencePGateIdeal := fun m g _ =>
  (θ_run _ _ _).mono (fun r h => ⟨fun c => (h c).2, sem_eq_zero_of_no_sems (by decide) r.2⟩) (Cert.ReferencePGateIdeal.Value.run m g)

end Cert.PGate
end
-- ==== Proof.HGate.lean ====
module

public import proofs.«01_k».proof.Proof.Gen.KernelHGateIdeal.Value
public import proofs.«01_k».proof.Proof.Gen.ReferenceHGateIdeal.Run
public import proofs.«01_k».proof.Proof.Gen.KernelHGate.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelHGateIdeal.Prod

open Cert.KernelHGateIdeal Cert.KernelHGateIdeal.Gen Idealize.ShloMosaic Idealize.ShloMosaic.TcCoe Idealize.SL.Sem
theorem idx0 : ∀ t : Fin cfg0.N, (cfg0.win 0).index t = ![t.val / 2, 0] := by decide +kernel
theorem idx1 : ∀ t : Fin cfg0.N, (cfg0.win 1).index t = ![t.val % 2, 0] := by decide +kernel

theorem rb0 (X : FVec Ideal S8192x4096 .bf16) (t : Fin cfg0.N) (r : Fin 1024) (l : Fin 4096) (a : Fin 8192) (b : Fin 4096) (ha : a.val = 1024 * (t.val / 2) + r) (hb : b.val = 4096 * (0) + l) :
    ((cfg0.win 0).blk t).view.read (Elt Ideal) X (ix2 r l) = X (ix2 a b) := by
  have e := idx0 t
  blk_simp [e]
  refine congrArg X ?_
  blk_ext [e]
theorem rb1 (X : FVec Ideal S2048x4096 .bf16) (t : Fin cfg0.N) (r : Fin 1024) (l : Fin 4096) (a : Fin 2048) (b : Fin 4096) (ha : a.val = 1024 * (t.val % 2) + r) (hb : b.val = 4096 * (0) + l) :
    ((cfg0.win 1).blk t).view.read (Elt Ideal) X (ix2 r l) = X (ix2 a b) := by
  have e := idx1 t
  blk_simp [e]
  refine congrArg X ?_
  blk_ext [e]
theorem idx2 : ∀ t : Fin cfg0.N, (cfg0.win 2).index t = ![t.val / 2, t.val % 2] := by decide +kernel
theorem fl : ∀ t : Fin cfg0.N, (cfg0.win 2).flush t = true := by decide +kernel
theorem rb2 (X : FVec Ideal S8192x2048 .f32) (t : Fin cfg0.N) (r : Fin 1024) (l : Fin 1024) (a : Fin 8192) (b : Fin 2048) (ha : a.val = 1024 * (t.val / 2) + r) (hb : b.val = 1024 * (t.val % 2) + l) :
    ((cfg0.win 2).blk t).view.read (Elt Ideal) X (ix2 r l) = X (ix2 a b) := by
  have e := idx2 t
  blk_simp [e]
  refine congrArg X ?_
  blk_ext [e]
theorem ct (X : Vec Ideal S1024x1024 .f32) (t : Fin cfg0.N) (r : Fin 1024) (l : Fin 1024) : (cfg0.win 2).cut (grid0.coords t) X (ix2 r l) = X (ix2 r l) := rfl

/-- One output block from its input blocks. -/
theorem out_at (x : Vec Ideal S1024x4096 .bf16) (y : Vec Ideal S1024x4096 .bf16) (r : Fin 1024) (l : Fin 1024) :
    out0_2 x y (ix2 r l) = ∑ k : Fin 4096, x (ix2 r k) * y (ix2 l k) := by
  have e : out0_2 x y = k0_pay1 x y := by
    unfold out0_2
    frame_out
  rw [e]
  pointwise [k0_pay1]

/-- One output block from the arrays that its input blocks are cut from. -/
theorem blk_at (X : FVec Ideal S8192x4096 .bf16) (Y : FVec Ideal S2048x4096 .bf16) (t : Fin cfg0.N) (r : Fin 1024) (l : Fin 1024) (a : Fin 8192) (b : Fin 2048)
    (ha : a.val = 1024 * (t.val / 2) + r.val) (hb : b.val = 1024 * (t.val % 2) + l.val) :
    out0_2 (((cfg0.win 0).blk t).view.read (Elt Ideal) X : Vec Ideal S1024x4096 .bf16) (((cfg0.win 1).blk t).view.read (Elt Ideal) Y : Vec Ideal S1024x4096 .bf16) (ix2 r l) = ∑ k : Fin 4096, X (ix2 a k) * Y (ix2 b k) := by
  rw [out_at]
  refine Finset.sum_congr rfl fun k _ => ?_
  rw [rb0 X t r k a k ha (by omega), rb1 Y t l k b k hb (by omega)]

variable (m : (ℓ : Loc nD τ sig) → Buf (Elt Ideal) ℓ) (c : Dev nD)

/-- The first argument of a device. -/
abbrev ma : FVec Ideal S8192x4096 .f32 := m (c, Proc.devRef .tc main_arg0)
/-- The second argument of a device. -/
abbrev mb : FVec Ideal S2048x4096 .f32 := m (c, Proc.devRef .tc main_arg1)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)

/-- An entry of the result after the run. -/
theorem arr_at (a : Fin 8192) (b : Fin 2048) :
    (dats m 0 c).arrAt 2 cfg0.N (ix2 a b) = ∑ k : Fin 4096, ma m c (ix2 a k) * mb m c (ix2 b k) := by
  have hp : 2 * (a.val / 1024) + b.val / 1024 < cfg0.N := by rw [show cfg0.N = 16 from N_0]; omega
  have ha : a.val = 1024 * ((2 * (a.val / 1024) + b.val / 1024) / 2) + a.val % 1024 := by omega
  have hb : b.val = 1024 * ((2 * (a.val / 1024) + b.val / 1024) % 2) + b.val % 1024 := by omega
  have e := congrFun (Value.blocks2 m c ⟨_, hp⟩ (fl _)) (ix2 ⟨a.val % 1024, by omega⟩ ⟨b.val % 1024, by omega⟩)
  rw [rb2 _ _ _ _ a b ha hb, Value.flushed2, ct, ia0, ia1] at e
  exact e.trans (blk_at _ _ _ _ _ a b ha hb)

end Cert.KernelHGateIdeal.Prod

namespace Cert.ReferenceHGateIdeal.Prod
open Cert.ReferenceHGateIdeal Cert.ReferenceHGateIdeal.Gen Idealize.ShloMosaic Idealize.ShloMosaic.TcCoe Idealize.SL.Sem

/-- An entry of the reference's result. -/
theorem ref_at (x : FVec Ideal S8192x4096 .f32) (y : FVec Ideal S2048x4096 .f32) (a : Fin 8192) (b : Fin 2048) :
    (Host.dotGeneral dot_S8192x4096_S2048x4096_S8192x2048_1_1_0_0_n_n none x y : FVec Ideal S8192x2048 .f32) (ix2 a b)
      = ∑ k : Fin 4096, x (ix2 a k) * y (ix2 b k) := by
  pointwise []

end Cert.ReferenceHGateIdeal.Prod

namespace Cert.HGate
open Idealize.ShloMosaic Idealize.SL.Sem Idealize.ShloMosaic.StableHlo Cert.KernelHGateIdeal.Prod

attribute [local instance] Cert.KernelHGate.Gen.facts Cert.KernelHGateIdeal.Gen.facts Cert.ReferenceHGateIdeal.Gen.facts

/-- An entry of the reference's result, at the call's arguments, is the call's. -/
theorem tie (m : (ℓ : Loc Cert.KernelHGateIdeal.nD Cert.KernelHGateIdeal.τ Cert.KernelHGateIdeal.sig) → Buf (Elt Ideal) ℓ) (c : Dev Cert.KernelHGateIdeal.nD) (a : Fin 8192) (b : Fin 2048) :
    ∑ k : Fin 4096, ma m c (ix2 a k) * mb m c (ix2 b k) = ∑ k : Fin 4096, ma m c (ix2 a k) * mb m c (ix2 b k) := by
  rfl

set_option maxHeartbeats 2000000 in
/-- The ideal call and the ideal reference return the same array. -/
theorem algebraic : Cert.algebraic_KernelHGateIdeal_ReferenceHGateIdeal := by
  intro m g m' g' _ ha
  refine ⟨fun c => (Cert.KernelHGateIdeal.Gen.dats m 0 c).arrAt 2 Cert.KernelHGateIdeal.cfg0.N, Cert.KernelHGateIdeal.Value.run_blocks m g, ?_⟩
  refine (θ_run _ _ _).mono (fun r h c => ?_) (Cert.ReferenceHGateIdeal.Value.run m' g')
  obtain ⟨h1, hk⟩ := h c
  obtain ⟨e0, e1⟩ := ha c
  rw [e0, e1] at h1
  refine ⟨h1.trans (funext fun i => ?_), hk⟩
  rw [eq_ix2 i]
  exact (Cert.ReferenceHGateIdeal.Prod.ref_at (ma m c) (mb m c) (i 0) (i 1)).trans ((tie m c (i 0) (i 1)).trans (arr_at m c (i 0) (i 1)).symm)

/-- The ideal reference keeps its arguments; it declares no semaphore. -/
theorem frameR : Cert.quiescent_ReferenceHGateIdeal := fun m g _ =>
  (θ_run _ _ _).mono (fun r h => ⟨fun c => (h c).2, sem_eq_zero_of_no_sems (by decide) r.2⟩) (Cert.ReferenceHGateIdeal.Value.run m g)

end Cert.HGate
end
-- ==== Proof.WGin.lean ====
module

public import proofs.«01_k».proof.Proof.Gen.KernelWGinIdeal.Value
public import proofs.«01_k».proof.Proof.Gen.ReferenceWGinIdeal.Run
public import proofs.«01_k».proof.Proof.Gen.KernelWGin.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelWGinIdeal.Prod

open Cert.KernelWGinIdeal Cert.KernelWGinIdeal.Gen Idealize.ShloMosaic Idealize.ShloMosaic.TcCoe Idealize.SL.Sem
theorem idx0 : ∀ t : Fin cfg0.N, (cfg0.win 0).index t = ![t.val % 2, t.val / 8] := by decide +kernel
theorem idx1 : ∀ t : Fin cfg0.N, (cfg0.win 1).index t = ![t.val % 2, t.val / 2 % 4] := by decide +kernel

theorem rb0 (X : FVec Ideal S8192x2048 .bf16) (t : Fin cfg0.N) (r : Fin 4096) (l : Fin 1024) (a : Fin 8192) (b : Fin 2048) (ha : a.val = 4096 * (t.val % 2) + r) (hb : b.val = 1024 * (t.val / 8) + l) :
    ((cfg0.win 0).blk t).view.read (Elt Ideal) X (ix2 r l) = X (ix2 a b) := by
  have e := idx0 t
  blk_simp [e]
  refine congrArg X ?_
  blk_ext [e]
theorem rb1 (X : FVec Ideal S8192x4096 .bf16) (t : Fin cfg0.N) (r : Fin 4096) (l : Fin 1024) (a : Fin 8192) (b : Fin 4096) (ha : a.val = 4096 * (t.val % 2) + r) (hb : b.val = 1024 * (t.val / 2 % 4) + l) :
    ((cfg0.win 1).blk t).view.read (Elt Ideal) X (ix2 r l) = X (ix2 a b) := by
  have e := idx1 t
  blk_simp [e]
  refine congrArg X ?_
  blk_ext [e]

/-- What the first of two steps leaves in the accumulator. -/
theorem first_step (c i a0 h0 a1 h1 a2 h2 a3 h3 p0 p1 p2) (x : Vec Ideal S4096x1024 .bf16) (y : Vec Ideal S4096x1024 .bf16) : sout0_A_0 (F := Ideal) c i a0 h0 a1 h1 a2 h2 a3 h3 p0 p1 p2 x y = k0_pay2 x y := by
  unfold sout0_A_0
  frame_out

/-- What the second of two steps writes out over the accumulator. -/
theorem second_step (c i a0 h0 a1 h1 a2 h2 a3 h3 p0 p1 p2) (x : Vec Ideal S4096x1024 .bf16) (y : Vec Ideal S4096x1024 .bf16) (s : Vec Ideal S1024x1024 .f32) : out0_B_2 (F := Ideal) c i a0 h0 a1 h1 a2 h2 a3 h3 p0 p1 p2 x y s = k0_pay4 (k0_pay3 x y s) := by
  unfold out0_B_2
  frame_out

/-- One output block from the input blocks of its two steps. -/
theorem two_steps (x : Vec Ideal S4096x1024 .bf16) (y : Vec Ideal S4096x1024 .bf16) (x' : Vec Ideal S4096x1024 .bf16) (y' : Vec Ideal S4096x1024 .bf16) (r : Fin 1024) (l : Fin 1024) :
    k0_pay4 (k0_pay3 x y (k0_pay2 x' y')) (ix2 r l) = (∑ k : Fin 4096, x' (ix2 k r) * y' (ix2 k l)) + ∑ k : Fin 4096, x (ix2 k r) * y (ix2 k l) := by
  pointwise [k0_pay4, k0_pay3, k0_pay2, k0_pay1]

/-- One output block from the arrays that its input blocks are cut from. -/
theorem blk_at (X : FVec Ideal S8192x2048 .bf16) (Y : FVec Ideal S8192x4096 .bf16) (t t' : Fin cfg0.N) (h : t'.val + 1 = t.val) (h1 : t.val % 2 = 1) (r : Fin 1024) (l : Fin 1024) (a : Fin 2048) (b : Fin 4096)
    (ha : a.val = 1024 * (t.val / 8) + r.val) (hb : b.val = 1024 * (t.val / 2 % 4) + l.val) :
    k0_pay4 (k0_pay3 (((cfg0.win 0).blk t).view.read (Elt Ideal) X : Vec Ideal S4096x1024 .bf16) (((cfg0.win 1).blk t).view.read (Elt Ideal) Y : Vec Ideal S4096x1024 .bf16) (k0_pay2 (((cfg0.win 0).blk t').view.read (Elt Ideal) X : Vec Ideal S4096x1024 .bf16) (((cfg0.win 1).blk t').view.read (Elt Ideal) Y : Vec Ideal S4096x1024 .bf16))) (ix2 r l) = ∑ k : Fin 8192, X (ix2 k a) * Y (ix2 k b) := by
  rw [two_steps]
  refine Eq.trans ?_ (Cert.Dot.two_halves (n := 4096) (N := 8192) rfl fun k => X (ix2 k a) * Y (ix2 k b))
  refine congrArg₂ (· + ·) (Finset.sum_congr rfl fun k _ => ?_) (Finset.sum_congr rfl fun k _ => ?_)
  · rw [rb0 X t' k r ⟨k.val, by omega⟩ a (show k.val = 4096 * _ + k.val by omega) (by omega), rb1 Y t' k l ⟨k.val, by omega⟩ b (show k.val = 4096 * _ + k.val by omega) (by omega)]
  · rw [rb0 X t k r ⟨4096 + k.val, by omega⟩ a (show 4096 + k.val = 4096 * _ + k.val by omega) ha, rb1 Y t k l ⟨4096 + k.val, by omega⟩ b (show 4096 + k.val = 4096 * _ + k.val by omega) hb]

variable (m : (ℓ : Loc nD τ sig) → Buf (Elt Ideal) ℓ) (c : Dev nD)

/-- The first argument of a device. -/
abbrev ma : FVec Ideal S8192x2048 .f32 := m (c, Proc.devRef .tc main_arg0)
/-- The second argument of a device. -/
abbrev mb : FVec Ideal S8192x4096 .f32 := m (c, Proc.devRef .tc main_arg1)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)

set_option maxHeartbeats 2000000 in
/-- What a block's second step writes out, from the two argument arrays. -/
theorem fin_at (t : Fin cfg0.N) (h1 : t.val % 2 = 1) (r : Fin 1024) (l : Fin 1024) (a : Fin 2048) (b : Fin 4096)
    (ha : a.val = 1024 * (t.val / 8) + r.val) (hb : b.val = 1024 * (t.val / 2 % 4) + l.val) :
    (outsAt0 m c t.val t.isLt).1 (ix2 r l) = ∑ k : Fin 8192, ma m c (ix2 k a) * mb m c (ix2 k b) := by
  have hN : cfg0.N = 16 := N_0
  have hq : t.val - 1 < cfg0.N := by have := t.isLt; omega
  have e2 : (outsAt0 m c (t.val - 1) hq).2 = k0_pay2 (iblk m c 0 ⟨t.val - 1, hq⟩) (iblk m c 1 ⟨t.val - 1, hq⟩) := by
    rw [outsAt0_A m c ⟨t.val - 1, hq⟩ (by dsimp only; omega) (by dsimp only; omega) (by dsimp only; omega)]
    dsimp only
    rw [first_step]
  have e1 : (outsAt0 m c t.val t.isLt).1 = k0_pay4 (k0_pay3 (iblk m c 0 t) (iblk m c 1 t) (outsAt0 m c (t.val - 1) hq).2) := by
    rw [outsAt0_B m c t (by omega) h1 h1]
    dsimp only
    rw [second_step]
  rw [e1, e2, ia0, ia1, ia0, ia1]
  exact blk_at _ _ t ⟨t.val - 1, hq⟩ (by dsimp only; omega) h1 r l a b ha hb

/-- An entry of the result after the run. -/
theorem arr_at (a : Fin 2048) (b : Fin 4096) : Value.G2 m c (ix2 a b) = ∑ k : Fin 8192, ma m c (ix2 k a) * mb m c (ix2 k b) := by
  have hp : 2 * (4 * (a.val / 1024) + b.val / 1024) + 1 < cfg0.N := by rw [show cfg0.N = 16 from N_0]; omega
  have hp' : Value.pt2Of (ix2 a b) < cfg0.N := by
    show 2 * (4 * (a.val / 1024 - 0) + 1 * (b.val / 1024 - 0)) + 1 < cfg0.N
    simpa only [Nat.sub_zero, one_mul] using hp
  have hl : Value.loc2Of (ix2 a b) = ix2 ⟨a.val % 1024, by omega⟩ ⟨b.val % 1024, by omega⟩ := eq_ix2 _
  unfold Value.G2
  rw [dif_pos hp', ← Value.outsAt0_sweep m c _ hp', hl]
  have ht : Value.pt2Of (ix2 a b) = 2 * (4 * (a.val / 1024) + b.val / 1024) + 1 := by
    show 2 * (4 * (a.val / 1024 - 0) + 1 * (b.val / 1024 - 0)) + 1 = _
    omega
  exact fin_at m c ⟨_, hp'⟩ (by dsimp only; rw [ht]; omega) _ _ a b (by dsimp only; rw [ht]; omega) (by dsimp only; rw [ht]; omega)

end Cert.KernelWGinIdeal.Prod

namespace Cert.ReferenceWGinIdeal.Prod
open Cert.ReferenceWGinIdeal Cert.ReferenceWGinIdeal.Gen Idealize.ShloMosaic Idealize.ShloMosaic.TcCoe Idealize.SL.Sem

/-- An entry of the reference's result. -/
theorem ref_at (x : FVec Ideal S8192x2048 .f32) (y : FVec Ideal S8192x4096 .f32) (a : Fin 2048) (b : Fin 4096) :
    (truncf .bf16 (transpose S2048x4096 [1, 0] (Host.dotGeneral dot_S8192x4096_S8192x2048_S4096x2048_0_0_1_1_n_n none y x) transposes_S4096x2048_S2048x4096_1_0) bitsLt_bf16_f32 : FVec Ideal S2048x4096 .bf16) (ix2 a b)
      = ∑ k : Fin 8192, y (ix2 k b) * x (ix2 k a) := by
  pointwise []

end Cert.ReferenceWGinIdeal.Prod

namespace Cert.WGin
open Idealize.ShloMosaic Idealize.SL.Sem Idealize.ShloMosaic.StableHlo Cert.KernelWGinIdeal.Prod

attribute [local instance] Cert.KernelWGin.Gen.facts Cert.KernelWGinIdeal.Gen.facts Cert.ReferenceWGinIdeal.Gen.facts

/-- An entry of the reference's result, at the call's arguments, is the call's. -/
theorem tie (m : (ℓ : Loc Cert.KernelWGinIdeal.nD Cert.KernelWGinIdeal.τ Cert.KernelWGinIdeal.sig) → Buf (Elt Ideal) ℓ) (c : Dev Cert.KernelWGinIdeal.nD) (a : Fin 2048) (b : Fin 4096) :
    ∑ k : Fin 8192, mb m c (ix2 k b) * ma m c (ix2 k a) = ∑ k : Fin 8192, ma m c (ix2 k a) * mb m c (ix2 k b) := by
  exact Finset.sum_congr rfl fun k _ => mul_comm _ _

set_option maxHeartbeats 2000000 in
/-- The ideal call and the ideal reference return the same array. -/
theorem algebraic : Cert.algebraic_KernelWGinIdeal_ReferenceWGinIdeal := by
  intro m g m' g' _ ha
  refine ⟨fun c => Cert.KernelWGinIdeal.Value.G2 m c, Cert.KernelWGinIdeal.Value.run m g, ?_⟩
  refine (θ_run _ _ _).mono (fun r h c => ?_) (Cert.ReferenceWGinIdeal.Value.run m' g')
  obtain ⟨h1, hk⟩ := h c
  obtain ⟨e0, e1⟩ := ha c
  rw [e0, e1] at h1
  refine ⟨h1.trans (funext fun i => ?_), hk⟩
  rw [eq_ix2 i]
  exact (Cert.ReferenceWGinIdeal.Prod.ref_at (ma m c) (mb m c) (i 0) (i 1)).trans ((tie m c (i 0) (i 1)).trans (arr_at m c (i 0) (i 1)).symm)

/-- The ideal reference keeps its arguments; it declares no semaphore. -/
theorem frameR : Cert.quiescent_ReferenceWGinIdeal := fun m g _ =>
  (θ_run _ _ _).mono (fun r h => ⟨fun c => (h c).2, sem_eq_zero_of_no_sems (by decide) r.2⟩) (Cert.ReferenceWGinIdeal.Value.run m g)

end Cert.WGin
end
-- ==== Proof.PDil.lean ====
module

public import proofs.«01_k».proof.Proof.Gen.KernelPDilIdeal.Value
public import proofs.«01_k».proof.Proof.Gen.ReferencePDilIdeal.Run
public import proofs.«01_k».proof.Proof.Gen.KernelPDil.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelPDilIdeal.Prod

open Cert.KernelPDilIdeal Cert.KernelPDilIdeal.Gen Idealize.ShloMosaic Idealize.ShloMosaic.TcCoe Idealize.SL.Sem
theorem idx0 : ∀ t : Fin cfg0.N, (cfg0.win 0).index t = ![t.val / 6, 0] := by decide +kernel
theorem idx1 : ∀ t : Fin cfg0.N, (cfg0.win 1).index t = ![0, t.val % 6] := by decide +kernel

theorem rb0 (X : FVec Ideal S8192x2048 .bf16) (t : Fin cfg0.N) (r : Fin 1024) (l : Fin 2048) (a : Fin 8192) (b : Fin 2048) (ha : a.val = 1024 * (t.val / 6) + r) (hb : b.val = 2048 * (0) + l) :
    ((cfg0.win 0).blk t).view.read (Elt Ideal) X (ix2 r l) = X (ix2 a b) := by
  have e := idx0 t
  blk_simp [e]
  refine congrArg X ?_
  blk_ext [e]
theorem rb1 (X : FVec Ideal S2048x9216 .bf16) (t : Fin cfg0.N) (r : Fin 2048) (l : Fin 1536) (a : Fin 2048) (b : Fin 9216) (ha : a.val = 2048 * (0) + r) (hb : b.val = 1536 * (t.val % 6) + l) :
    ((cfg0.win 1).blk t).view.read (Elt Ideal) X (ix2 r l) = X (ix2 a b) := by
  have e := idx1 t
  blk_simp [e]
  refine congrArg X ?_
  blk_ext [e]
theorem idx2 : ∀ t : Fin cfg0.N, (cfg0.win 2).index t = ![t.val / 6, t.val % 6] := by decide +kernel
theorem fl : ∀ t : Fin cfg0.N, (cfg0.win 2).flush t = true := by decide +kernel
theorem rb2 (X : FVec Ideal S8192x9216 .bf16) (t : Fin cfg0.N) (r : Fin 1024) (l : Fin 1536) (a : Fin 8192) (b : Fin 9216) (ha : a.val = 1024 * (t.val / 6) + r) (hb : b.val = 1536 * (t.val % 6) + l) :
    ((cfg0.win 2).blk t).view.read (Elt Ideal) X (ix2 r l) = X (ix2 a b) := by
  have e := idx2 t
  blk_simp [e]
  refine congrArg X ?_
  blk_ext [e]
theorem ct (X : Vec Ideal S1024x1536 .bf16) (t : Fin cfg0.N) (r : Fin 1024) (l : Fin 1536) : (cfg0.win 2).cut (grid0.coords t) X (ix2 r l) = X (ix2 r l) := rfl

/-- One output block from its input blocks. -/
theorem out_at (x : Vec Ideal S1024x2048 .bf16) (y : Vec Ideal S2048x1536 .bf16) (r : Fin 1024) (l : Fin 1536) :
    out0_2 x y (ix2 r l) = ∑ k : Fin 2048, x (ix2 r k) * y (ix2 k l) := by
  have e : out0_2 x y = k0_pay1 x y := by
    unfold out0_2
    frame_out
  rw [e]
  pointwise [k0_pay1]

/-- One output block from the arrays that its input blocks are cut from. -/
theorem blk_at (X : FVec Ideal S8192x2048 .bf16) (Y : FVec Ideal S2048x9216 .bf16) (t : Fin cfg0.N) (r : Fin 1024) (l : Fin 1536) (a : Fin 8192) (b : Fin 9216)
    (ha : a.val = 1024 * (t.val / 6) + r.val) (hb : b.val = 1536 * (t.val % 6) + l.val) :
    out0_2 (((cfg0.win 0).blk t).view.read (Elt Ideal) X : Vec Ideal S1024x2048 .bf16) (((cfg0.win 1).blk t).view.read (Elt Ideal) Y : Vec Ideal S2048x1536 .bf16) (ix2 r l) = ∑ k : Fin 2048, X (ix2 a k) * Y (ix2 k b) := by
  rw [out_at]
  refine Finset.sum_congr rfl fun k _ => ?_
  rw [rb0 X t r k a k ha (by omega), rb1 Y t k l k b (by omega) hb]

variable (m : (ℓ : Loc nD τ sig) → Buf (Elt Ideal) ℓ) (c : Dev nD)

/-- The first argument of a device. -/
abbrev ma : FVec Ideal S8192x2048 .f32 := m (c, Proc.devRef .tc main_arg0)
/-- The second argument of a device. -/
abbrev mb : FVec Ideal S2048x9216 .f32 := m (c, Proc.devRef .tc main_arg1)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)

/-- An entry of the result after the run. -/
theorem arr_at (a : Fin 8192) (b : Fin 9216) :
    (dats m 0 c).arrAt 2 cfg0.N (ix2 a b) = ∑ k : Fin 2048, ma m c (ix2 a k) * mb m c (ix2 k b) := by
  have hp : 6 * (a.val / 1024) + b.val / 1536 < cfg0.N := by rw [show cfg0.N = 48 from N_0]; omega
  have ha : a.val = 1024 * ((6 * (a.val / 1024) + b.val / 1536) / 6) + a.val % 1024 := by omega
  have hb : b.val = 1536 * ((6 * (a.val / 1024) + b.val / 1536) % 6) + b.val % 1536 := by omega
  have e := congrFun (Value.blocks2 m c ⟨_, hp⟩ (fl _)) (ix2 ⟨a.val % 1024, by omega⟩ ⟨b.val % 1536, by omega⟩)
  rw [rb2 _ _ _ _ a b ha hb, Value.flushed2, ct, ia0, ia1] at e
  exact e.trans (blk_at _ _ _ _ _ a b ha hb)

end Cert.KernelPDilIdeal.Prod

namespace Cert.ReferencePDilIdeal.Prod
open Cert.ReferencePDilIdeal Cert.ReferencePDilIdeal.Gen Idealize.ShloMosaic Idealize.ShloMosaic.TcCoe Idealize.SL.Sem

/-- An entry of the reference's result. -/
theorem ref_at (x : FVec Ideal S8192x2048 .f32) (y : FVec Ideal S2048x9216 .f32) (a : Fin 8192) (b : Fin 9216) :
    (truncf .bf16 (Host.dotGeneral dot_S8192x2048_S2048x9216_S8192x9216_1_0_0_1_n_n none x y) bitsLt_bf16_f32 : FVec Ideal S8192x9216 .bf16) (ix2 a b)
      = ∑ k : Fin 2048, x (ix2 a k) * y (ix2 k b) := by
  pointwise []

end Cert.ReferencePDilIdeal.Prod

namespace Cert.PDil
open Idealize.ShloMosaic Idealize.SL.Sem Idealize.ShloMosaic.StableHlo Cert.KernelPDilIdeal.Prod

attribute [local instance] Cert.KernelPDil.Gen.facts Cert.KernelPDilIdeal.Gen.facts Cert.ReferencePDilIdeal.Gen.facts

/-- An entry of the reference's result, at the call's arguments, is the call's. -/
theorem tie (m : (ℓ : Loc Cert.KernelPDilIdeal.nD Cert.KernelPDilIdeal.τ Cert.KernelPDilIdeal.sig) → Buf (Elt Ideal) ℓ) (c : Dev Cert.KernelPDilIdeal.nD) (a : Fin 8192) (b : Fin 9216) :
    ∑ k : Fin 2048, ma m c (ix2 a k) * mb m c (ix2 k b) = ∑ k : Fin 2048, ma m c (ix2 a k) * mb m c (ix2 k b) := by
  rfl

set_option maxHeartbeats 2000000 in
/-- The ideal call and the ideal reference return the same array. -/
theorem algebraic : Cert.algebraic_KernelPDilIdeal_ReferencePDilIdeal := by
  intro m g m' g' _ ha
  refine ⟨fun c => (Cert.KernelPDilIdeal.Gen.dats m 0 c).arrAt 2 Cert.KernelPDilIdeal.cfg0.N, Cert.KernelPDilIdeal.Value.run_blocks m g, ?_⟩
  refine (θ_run _ _ _).mono (fun r h c => ?_) (Cert.ReferencePDilIdeal.Value.run m' g')
  obtain ⟨h1, hk⟩ := h c
  obtain ⟨e0, e1⟩ := ha c
  rw [e0, e1] at h1
  refine ⟨h1.trans (funext fun i => ?_), hk⟩
  rw [eq_ix2 i]
  exact (Cert.ReferencePDilIdeal.Prod.ref_at (ma m c) (mb m c) (i 0) (i 1)).trans ((tie m c (i 0) (i 1)).trans (arr_at m c (i 0) (i 1)).symm)

/-- The ideal reference keeps its arguments; it declares no semaphore. -/
theorem frameR : Cert.quiescent_ReferencePDilIdeal := fun m g _ =>
  (θ_run _ _ _).mono (fun r h => ⟨fun c => (h c).2, sem_eq_zero_of_no_sems (by decide) r.2⟩) (Cert.ReferencePDilIdeal.Value.run m g)

end Cert.PDil
end
-- ==== Proof.HDil.lean ====
module

public import proofs.«01_k».proof.Proof.Gen.KernelHDilIdeal.Value
public import proofs.«01_k».proof.Proof.Gen.ReferenceHDilIdeal.Run
public import proofs.«01_k».proof.Proof.Gen.KernelHDil.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelHDilIdeal.Prod

open Cert.KernelHDilIdeal Cert.KernelHDilIdeal.Gen Idealize.ShloMosaic Idealize.ShloMosaic.TcCoe Idealize.SL.Sem
theorem idx0 : ∀ t : Fin cfg0.N, (cfg0.win 0).index t = ![t.val / 8, t.val % 2] := by decide +kernel
theorem idx1 : ∀ t : Fin cfg0.N, (cfg0.win 1).index t = ![t.val / 2 % 4, t.val % 2] := by decide +kernel
theorem idx2 : ∀ t : Fin cfg0.N, (cfg0.win 2).index t = ![t.val / 8, t.val / 2 % 4] := by decide +kernel

theorem rb0 (X : FVec Ideal S8192x9216 .bf16) (t : Fin cfg0.N) (r : Fin 1024) (l : Fin 4608) (a : Fin 8192) (b : Fin 9216) (ha : a.val = 1024 * (t.val / 8) + r) (hb : b.val = 4608 * (t.val % 2) + l) :
    ((cfg0.win 0).blk t).view.read (Elt Ideal) X (ix2 r l) = X (ix2 a b) := by
  have e := idx0 t
  blk_simp [e]
  refine congrArg X ?_
  blk_ext [e]
theorem rb1 (X : FVec Ideal S2048x9216 .bf16) (t : Fin cfg0.N) (r : Fin 512) (l : Fin 4608) (a : Fin 2048) (b : Fin 9216) (ha : a.val = 512 * (t.val / 2 % 4) + r) (hb : b.val = 4608 * (t.val % 2) + l) :
    ((cfg0.win 1).blk t).view.read (Elt Ideal) X (ix2 r l) = X (ix2 a b) := by
  have e := idx1 t
  blk_simp [e]
  refine congrArg X ?_
  blk_ext [e]
theorem rb2 (X : FVec Ideal S8192x2048 .f32) (t : Fin cfg0.N) (r : Fin 1024) (l : Fin 512) (a : Fin 8192) (b : Fin 2048) (ha : a.val = 1024 * (t.val / 8) + r) (hb : b.val = 512 * (t.val / 2 % 4) + l) :
    ((cfg0.win 2).blk t).view.read (Elt Ideal) X (ix2 r l) = X (ix2 a b) := by
  have e := idx2 t
  blk_simp [e]
  refine congrArg X ?_
  blk_ext [e]

/-- What the first of two steps leaves in the accumulator. -/
theorem first_step (c i a0 h0 a1 h1 a2 h2 a3 h3 a4 h4 p0 p1 p2) (x : Vec Ideal S1024x4608 .bf16) (y : Vec Ideal S512x4608 .bf16) (z : Vec Ideal S1024x512 .f32) : sout0_A_0 (F := Ideal) c i a0 h0 a1 h1 a2 h2 a3 h3 a4 h4 p0 p1 p2 x y z = k0_pay2 x y := by
  unfold sout0_A_0
  frame_out

/-- What the second of two steps writes out over the accumulator. -/
theorem second_step (c i a0 h0 a1 h1 a2 h2 a3 h3 a4 h4 p0 p1 p2) (x : Vec Ideal S1024x4608 .bf16) (y : Vec Ideal S512x4608 .bf16) (z : Vec Ideal S1024x512 .f32) (s : Vec Ideal S1024x512 .f32) : out0_B_3 (F := Ideal) c i a0 h0 a1 h1 a2 h2 a3 h3 a4 h4 p0 p1 p2 x y z s = k0_pay4 (k0_pay3 x y s) z := by
  unfold out0_B_3
  frame_out

/-- One output block from the input blocks of its two steps. -/
theorem two_steps (x : Vec Ideal S1024x4608 .bf16) (y : Vec Ideal S512x4608 .bf16) (z : Vec Ideal S1024x512 .f32) (x' : Vec Ideal S1024x4608 .bf16) (y' : Vec Ideal S512x4608 .bf16) (r : Fin 1024) (l : Fin 512) :
    k0_pay4 (k0_pay3 x y (k0_pay2 x' y')) z (ix2 r l) = z (ix2 r l) + ((∑ k : Fin 4608, x' (ix2 r k) * y' (ix2 l k)) + ∑ k : Fin 4608, x (ix2 r k) * y (ix2 l k)) := by
  pointwise [k0_pay4, k0_pay3, k0_pay2, k0_pay1]

/-- One output block from the arrays that its input blocks are cut from. -/
theorem blk_at (X : FVec Ideal S8192x9216 .bf16) (Y : FVec Ideal S2048x9216 .bf16) (Z : FVec Ideal S8192x2048 .f32) (t t' : Fin cfg0.N) (h : t'.val + 1 = t.val) (h1 : t.val % 2 = 1) (r : Fin 1024) (l : Fin 512) (a : Fin 8192) (b : Fin 2048)
    (ha : a.val = 1024 * (t.val / 8) + r.val) (hb : b.val = 512 * (t.val / 2 % 4) + l.val) :
    k0_pay4 (k0_pay3 (((cfg0.win 0).blk t).view.read (Elt Ideal) X : Vec Ideal S1024x4608 .bf16) (((cfg0.win 1).blk t).view.read (Elt Ideal) Y : Vec Ideal S512x4608 .bf16) (k0_pay2 (((cfg0.win 0).blk t').view.read (Elt Ideal) X : Vec Ideal S1024x4608 .bf16) (((cfg0.win 1).blk t').view.read (Elt Ideal) Y : Vec Ideal S512x4608 .bf16))) (((cfg0.win 2).blk t).view.read (Elt Ideal) Z : Vec Ideal S1024x512 .f32) (ix2 r l) = Z (ix2 a b) + ∑ k : Fin 9216, X (ix2 a k) * Y (ix2 b k) := by
  rw [two_steps, rb2 Z t r l a b ha hb]
  refine congrArg (_ + ·) (Eq.trans ?_ (Cert.Dot.two_halves (n := 4608) (N := 9216) rfl fun k => X (ix2 a k) * Y (ix2 b k)))
  refine congrArg₂ (· + ·) (Finset.sum_congr rfl fun k _ => ?_) (Finset.sum_congr rfl fun k _ => ?_)
  · rw [rb0 X t' r k a ⟨k.val, by omega⟩ (by omega) (show k.val = 4608 * _ + k.val by omega), rb1 Y t' l k b ⟨k.val, by omega⟩ (by omega) (show k.val = 4608 * _ + k.val by omega)]
  · rw [rb0 X t r k a ⟨4608 + k.val, by omega⟩ ha (show 4608 + k.val = 4608 * _ + k.val by omega), rb1 Y t l k b ⟨4608 + k.val, by omega⟩ hb (show 4608 + k.val = 4608 * _ + k.val by omega)]

variable (m : (ℓ : Loc nD τ sig) → Buf (Elt Ideal) ℓ) (c : Dev nD)

/-- The first argument of a device. -/
abbrev ma : FVec Ideal S8192x9216 .f32 := m (c, Proc.devRef .tc main_arg0)
/-- The second argument of a device. -/
abbrev mb : FVec Ideal S2048x9216 .f32 := m (c, Proc.devRef .tc main_arg1)
/-- The third argument of a device. -/
abbrev mz : FVec Ideal S8192x2048 .f32 := m (c, Proc.devRef .tc main_arg2)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)
theorem ia2 (t : Fin cfg0.N) : iblk m c 2 t = ((cfg0.win 2).blk t).view.read (Elt Ideal) (mz m c) :=
  congrArg (fun X => ((cfg0.win 2).blk t).view.read (Elt Ideal) X) (V_main_arg2 m c)

set_option maxHeartbeats 2000000 in
/-- What a block's second step writes out, from the two argument arrays. -/
theorem fin_at (t : Fin cfg0.N) (h1 : t.val % 2 = 1) (r : Fin 1024) (l : Fin 512) (a : Fin 8192) (b : Fin 2048)
    (ha : a.val = 1024 * (t.val / 8) + r.val) (hb : b.val = 512 * (t.val / 2 % 4) + l.val) :
    (outsAt0 m c t.val t.isLt).1 (ix2 r l) = mz m c (ix2 a b) + ∑ k : Fin 9216, ma m c (ix2 a k) * mb m c (ix2 b k) := by
  have hN : cfg0.N = 64 := N_0
  have hq : t.val - 1 < cfg0.N := by have := t.isLt; omega
  have e2 : (outsAt0 m c (t.val - 1) hq).2 = k0_pay2 (iblk m c 0 ⟨t.val - 1, hq⟩) (iblk m c 1 ⟨t.val - 1, hq⟩) := by
    rw [outsAt0_A m c ⟨t.val - 1, hq⟩ (by dsimp only; omega) (by dsimp only; omega) (by dsimp only; omega)]
    dsimp only
    rw [first_step]
  have e1 : (outsAt0 m c t.val t.isLt).1 = k0_pay4 (k0_pay3 (iblk m c 0 t) (iblk m c 1 t) (outsAt0 m c (t.val - 1) hq).2) (iblk m c 2 t) := by
    rw [outsAt0_B m c t (by omega) h1 h1]
    dsimp only
    rw [second_step]
  rw [e1, e2, ia0, ia1, ia2, ia0, ia1]
  exact blk_at _ _ _ t ⟨t.val - 1, hq⟩ (by dsimp only; omega) h1 r l a b ha hb

/-- An entry of the result after the run. -/
theorem arr_at (a : Fin 8192) (b : Fin 2048) : Value.G3 m c (ix2 a b) = mz m c (ix2 a b) + ∑ k : Fin 9216, ma m c (ix2 a k) * mb m c (ix2 b k) := by
  have hp : 2 * (4 * (a.val / 1024) + b.val / 512) + 1 < cfg0.N := by rw [show cfg0.N = 64 from N_0]; omega
  have hp' : Value.pt3Of (ix2 a b) < cfg0.N := by
    show 2 * (4 * (a.val / 1024 - 0) + 1 * (b.val / 512 - 0)) + 1 < cfg0.N
    simpa only [Nat.sub_zero, one_mul] using hp
  have hl : Value.loc3Of (ix2 a b) = ix2 ⟨a.val % 1024, by omega⟩ ⟨b.val % 512, by omega⟩ := eq_ix2 _
  unfold Value.G3
  rw [dif_pos hp', ← Value.outsAt0_sweep m c _ hp', hl]
  have ht : Value.pt3Of (ix2 a b) = 2 * (4 * (a.val / 1024) + b.val / 512) + 1 := by
    show 2 * (4 * (a.val / 1024 - 0) + 1 * (b.val / 512 - 0)) + 1 = _
    omega
  exact fin_at m c ⟨_, hp'⟩ (by dsimp only; rw [ht]; omega) _ _ a b (by dsimp only; rw [ht]; omega) (by dsimp only; rw [ht]; omega)

end Cert.KernelHDilIdeal.Prod

namespace Cert.ReferenceHDilIdeal.Prod
open Cert.ReferenceHDilIdeal Cert.ReferenceHDilIdeal.Gen Idealize.ShloMosaic Idealize.ShloMosaic.TcCoe Idealize.SL.Sem

/-- An entry of the reference's result. -/
theorem ref_at (x : FVec Ideal S8192x9216 .f32) (y : FVec Ideal S2048x9216 .f32) (z : FVec Ideal S8192x2048 .f32) (a : Fin 8192) (b : Fin 2048) :
    (addf z (Host.dotGeneral dot_S8192x9216_S2048x9216_S8192x2048_1_1_0_0_n_n none x y) : FVec Ideal S8192x2048 .f32) (ix2 a b)
      = z (ix2 a b) + ∑ k : Fin 9216, x (ix2 a k) * y (ix2 b k) := by
  pointwise []

end Cert.ReferenceHDilIdeal.Prod

namespace Cert.HDil
open Idealize.ShloMosaic Idealize.SL.Sem Idealize.ShloMosaic.StableHlo Cert.KernelHDilIdeal.Prod

attribute [local instance] Cert.KernelHDil.Gen.facts Cert.KernelHDilIdeal.Gen.facts Cert.ReferenceHDilIdeal.Gen.facts

/-- An entry of the reference's result, at the call's arguments, is the call's. -/
theorem tie (m : (ℓ : Loc Cert.KernelHDilIdeal.nD Cert.KernelHDilIdeal.τ Cert.KernelHDilIdeal.sig) → Buf (Elt Ideal) ℓ) (c : Dev Cert.KernelHDilIdeal.nD) (a : Fin 8192) (b : Fin 2048) :
    mz m c (ix2 a b) + ∑ k : Fin 9216, ma m c (ix2 a k) * mb m c (ix2 b k) = mz m c (ix2 a b) + ∑ k : Fin 9216, ma m c (ix2 a k) * mb m c (ix2 b k) := by
  rfl

set_option maxHeartbeats 2000000 in
/-- The ideal call and the ideal reference return the same array. -/
theorem algebraic : Cert.algebraic_KernelHDilIdeal_ReferenceHDilIdeal := by
  intro m g m' g' _ ha
  refine ⟨fun c => Cert.KernelHDilIdeal.Value.G3 m c, Cert.KernelHDilIdeal.Value.run m g, ?_⟩
  refine (θ_run _ _ _).mono (fun r h c => ?_) (Cert.ReferenceHDilIdeal.Value.run m' g')
  obtain ⟨h1, hk⟩ := h c
  obtain ⟨e0, e1, e2⟩ := ha c
  rw [e0, e1, e2] at h1
  refine ⟨h1.trans (funext fun i => ?_), hk⟩
  rw [eq_ix2 i]
  exact (Cert.ReferenceHDilIdeal.Prod.ref_at (ma m c) (mb m c) (mz m c) (i 0) (i 1)).trans ((tie m c (i 0) (i 1)).trans (arr_at m c (i 0) (i 1)).symm)

/-- The ideal reference keeps its arguments; it declares no semaphore. -/
theorem frameR : Cert.quiescent_ReferenceHDilIdeal := fun m g _ =>
  (θ_run _ _ _).mono (fun r h => ⟨fun c => (h c).2, sem_eq_zero_of_no_sems (by decide) r.2⟩) (Cert.ReferenceHDilIdeal.Value.run m g)

end Cert.HDil
end
-- ==== Proof.WDil.lean ====
module

public import proofs.«01_k».proof.Proof.Gen.KernelWDilIdeal.Value
public import proofs.«01_k».proof.Proof.Gen.ReferenceWDilIdeal.Run
public import proofs.«01_k».proof.Proof.Gen.KernelWDil.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelWDilIdeal.Prod

open Cert.KernelWDilIdeal Cert.KernelWDilIdeal.Gen Idealize.ShloMosaic Idealize.ShloMosaic.TcCoe Idealize.SL.Sem
theorem idx0 : ∀ t : Fin cfg0.N, (cfg0.win 0).index t = ![t.val % 2, t.val / 18] := by decide +kernel
theorem idx1 : ∀ t : Fin cfg0.N, (cfg0.win 1).index t = ![t.val % 2, t.val / 2 % 9] := by decide +kernel

theorem rb0 (X : FVec Ideal S8192x2048 .bf16) (t : Fin cfg0.N) (r : Fin 4096) (l : Fin 1024) (a : Fin 8192) (b : Fin 2048) (ha : a.val = 4096 * (t.val % 2) + r) (hb : b.val = 1024 * (t.val / 18) + l) :
    ((cfg0.win 0).blk t).view.read (Elt Ideal) X (ix2 r l) = X (ix2 a b) := by
  have e := idx0 t
  blk_simp [e]
  refine congrArg X ?_
  blk_ext [e]
theorem rb1 (X : FVec Ideal S8192x9216 .bf16) (t : Fin cfg0.N) (r : Fin 4096) (l : Fin 1024) (a : Fin 8192) (b : Fin 9216) (ha : a.val = 4096 * (t.val % 2) + r) (hb : b.val = 1024 * (t.val / 2 % 9) + l) :
    ((cfg0.win 1).blk t).view.read (Elt Ideal) X (ix2 r l) = X (ix2 a b) := by
  have e := idx1 t
  blk_simp [e]
  refine congrArg X ?_
  blk_ext [e]

/-- What the first of two steps leaves in the accumulator. -/
theorem first_step (c i a0 h0 a1 h1 a2 h2 a3 h3 p0 p1 p2) (x : Vec Ideal S4096x1024 .bf16) (y : Vec Ideal S4096x1024 .bf16) : sout0_A_0 (F := Ideal) c i a0 h0 a1 h1 a2 h2 a3 h3 p0 p1 p2 x y = k0_pay2 x y := by
  unfold sout0_A_0
  frame_out

/-- What the second of two steps writes out over the accumulator. -/
theorem second_step (c i a0 h0 a1 h1 a2 h2 a3 h3 p0 p1 p2) (x : Vec Ideal S4096x1024 .bf16) (y : Vec Ideal S4096x1024 .bf16) (s : Vec Ideal S1024x1024 .f32) : out0_B_2 (F := Ideal) c i a0 h0 a1 h1 a2 h2 a3 h3 p0 p1 p2 x y s = k0_pay4 (k0_pay3 x y s) := by
  unfold out0_B_2
  frame_out

/-- One output block from the input blocks of its two steps. -/
theorem two_steps (x : Vec Ideal S4096x1024 .bf16) (y : Vec Ideal S4096x1024 .bf16) (x' : Vec Ideal S4096x1024 .bf16) (y' : Vec Ideal S4096x1024 .bf16) (r : Fin 1024) (l : Fin 1024) :
    k0_pay4 (k0_pay3 x y (k0_pay2 x' y')) (ix2 r l) = (∑ k : Fin 4096, x' (ix2 k r) * y' (ix2 k l)) + ∑ k : Fin 4096, x (ix2 k r) * y (ix2 k l) := by
  pointwise [k0_pay4, k0_pay3, k0_pay2, k0_pay1]

/-- One output block from the arrays that its input blocks are cut from. -/
theorem blk_at (X : FVec Ideal S8192x2048 .bf16) (Y : FVec Ideal S8192x9216 .bf16) (t t' : Fin cfg0.N) (h : t'.val + 1 = t.val) (h1 : t.val % 2 = 1) (r : Fin 1024) (l : Fin 1024) (a : Fin 2048) (b : Fin 9216)
    (ha : a.val = 1024 * (t.val / 18) + r.val) (hb : b.val = 1024 * (t.val / 2 % 9) + l.val) :
    k0_pay4 (k0_pay3 (((cfg0.win 0).blk t).view.read (Elt Ideal) X : Vec Ideal S4096x1024 .bf16) (((cfg0.win 1).blk t).view.read (Elt Ideal) Y : Vec Ideal S4096x1024 .bf16) (k0_pay2 (((cfg0.win 0).blk t').view.read (Elt Ideal) X : Vec Ideal S4096x1024 .bf16) (((cfg0.win 1).blk t').view.read (Elt Ideal) Y : Vec Ideal S4096x1024 .bf16))) (ix2 r l) = ∑ k : Fin 8192, X (ix2 k a) * Y (ix2 k b) := by
  rw [two_steps]
  refine Eq.trans ?_ (Cert.Dot.two_halves (n := 4096) (N := 8192) rfl fun k => X (ix2 k a) * Y (ix2 k b))
  refine congrArg₂ (· + ·) (Finset.sum_congr rfl fun k _ => ?_) (Finset.sum_congr rfl fun k _ => ?_)
  · rw [rb0 X t' k r ⟨k.val, by omega⟩ a (show k.val = 4096 * _ + k.val by omega) (by omega), rb1 Y t' k l ⟨k.val, by omega⟩ b (show k.val = 4096 * _ + k.val by omega) (by omega)]
  · rw [rb0 X t k r ⟨4096 + k.val, by omega⟩ a (show 4096 + k.val = 4096 * _ + k.val by omega) ha, rb1 Y t k l ⟨4096 + k.val, by omega⟩ b (show 4096 + k.val = 4096 * _ + k.val by omega) hb]

variable (m : (ℓ : Loc nD τ sig) → Buf (Elt Ideal) ℓ) (c : Dev nD)

/-- The first argument of a device. -/
abbrev ma : FVec Ideal S8192x2048 .f32 := m (c, Proc.devRef .tc main_arg0)
/-- The second argument of a device. -/
abbrev mb : FVec Ideal S8192x9216 .f32 := m (c, Proc.devRef .tc main_arg1)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)

set_option maxHeartbeats 2000000 in
/-- What a block's second step writes out, from the two argument arrays. -/
theorem fin_at (t : Fin cfg0.N) (h1 : t.val % 2 = 1) (r : Fin 1024) (l : Fin 1024) (a : Fin 2048) (b : Fin 9216)
    (ha : a.val = 1024 * (t.val / 18) + r.val) (hb : b.val = 1024 * (t.val / 2 % 9) + l.val) :
    (outsAt0 m c t.val t.isLt).1 (ix2 r l) = ∑ k : Fin 8192, ma m c (ix2 k a) * mb m c (ix2 k b) := by
  have hN : cfg0.N = 36 := N_0
  have hq : t.val - 1 < cfg0.N := by have := t.isLt; omega
  have e2 : (outsAt0 m c (t.val - 1) hq).2 = k0_pay2 (iblk m c 0 ⟨t.val - 1, hq⟩) (iblk m c 1 ⟨t.val - 1, hq⟩) := by
    rw [outsAt0_A m c ⟨t.val - 1, hq⟩ (by dsimp only; omega) (by dsimp only; omega) (by dsimp only; omega)]
    dsimp only
    rw [first_step]
  have e1 : (outsAt0 m c t.val t.isLt).1 = k0_pay4 (k0_pay3 (iblk m c 0 t) (iblk m c 1 t) (outsAt0 m c (t.val - 1) hq).2) := by
    rw [outsAt0_B m c t (by omega) h1 h1]
    dsimp only
    rw [second_step]
  rw [e1, e2, ia0, ia1, ia0, ia1]
  exact blk_at _ _ t ⟨t.val - 1, hq⟩ (by dsimp only; omega) h1 r l a b ha hb

/-- An entry of the result after the run. -/
theorem arr_at (a : Fin 2048) (b : Fin 9216) : Value.G2 m c (ix2 a b) = ∑ k : Fin 8192, ma m c (ix2 k a) * mb m c (ix2 k b) := by
  have hp : 2 * (9 * (a.val / 1024) + b.val / 1024) + 1 < cfg0.N := by rw [show cfg0.N = 36 from N_0]; omega
  have hp' : Value.pt2Of (ix2 a b) < cfg0.N := by
    show 2 * (9 * (a.val / 1024 - 0) + 1 * (b.val / 1024 - 0)) + 1 < cfg0.N
    simpa only [Nat.sub_zero, one_mul] using hp
  have hl : Value.loc2Of (ix2 a b) = ix2 ⟨a.val % 1024, by omega⟩ ⟨b.val % 1024, by omega⟩ := eq_ix2 _
  unfold Value.G2
  rw [dif_pos hp', ← Value.outsAt0_sweep m c _ hp', hl]
  have ht : Value.pt2Of (ix2 a b) = 2 * (9 * (a.val / 1024) + b.val / 1024) + 1 := by
    show 2 * (9 * (a.val / 1024 - 0) + 1 * (b.val / 1024 - 0)) + 1 = _
    omega
  exact fin_at m c ⟨_, hp'⟩ (by dsimp only; rw [ht]; omega) _ _ a b (by dsimp only; rw [ht]; omega) (by dsimp only; rw [ht]; omega)

end Cert.KernelWDilIdeal.Prod

namespace Cert.ReferenceWDilIdeal.Prod
open Cert.ReferenceWDilIdeal Cert.ReferenceWDilIdeal.Gen Idealize.ShloMosaic Idealize.ShloMosaic.TcCoe Idealize.SL.Sem

/-- An entry of the reference's result. -/
theorem ref_at (x : FVec Ideal S8192x2048 .f32) (y : FVec Ideal S8192x9216 .f32) (a : Fin 2048) (b : Fin 9216) :
    (truncf .bf16 (transpose S2048x9216 [1, 0] (Host.dotGeneral dot_S8192x9216_S8192x2048_S9216x2048_0_0_1_1_n_n none y x) transposes_S9216x2048_S2048x9216_1_0) bitsLt_bf16_f32 : FVec Ideal S2048x9216 .bf16) (ix2 a b)
      = ∑ k : Fin 8192, y (ix2 k b) * x (ix2 k a) := by
  pointwise []

end Cert.ReferenceWDilIdeal.Prod

namespace Cert.WDil
open Idealize.ShloMosaic Idealize.SL.Sem Idealize.ShloMosaic.StableHlo Cert.KernelWDilIdeal.Prod

attribute [local instance] Cert.KernelWDil.Gen.facts Cert.KernelWDilIdeal.Gen.facts Cert.ReferenceWDilIdeal.Gen.facts

/-- An entry of the reference's result, at the call's arguments, is the call's. -/
theorem tie (m : (ℓ : Loc Cert.KernelWDilIdeal.nD Cert.KernelWDilIdeal.τ Cert.KernelWDilIdeal.sig) → Buf (Elt Ideal) ℓ) (c : Dev Cert.KernelWDilIdeal.nD) (a : Fin 2048) (b : Fin 9216) :
    ∑ k : Fin 8192, mb m c (ix2 k b) * ma m c (ix2 k a) = ∑ k : Fin 8192, ma m c (ix2 k a) * mb m c (ix2 k b) := by
  exact Finset.sum_congr rfl fun k _ => mul_comm _ _

set_option maxHeartbeats 2000000 in
/-- The ideal call and the ideal reference return the same array. -/
theorem algebraic : Cert.algebraic_KernelWDilIdeal_ReferenceWDilIdeal := by
  intro m g m' g' _ ha
  refine ⟨fun c => Cert.KernelWDilIdeal.Value.G2 m c, Cert.KernelWDilIdeal.Value.run m g, ?_⟩
  refine (θ_run _ _ _).mono (fun r h c => ?_) (Cert.ReferenceWDilIdeal.Value.run m' g')
  obtain ⟨h1, hk⟩ := h c
  obtain ⟨e0, e1⟩ := ha c
  rw [e0, e1] at h1
  refine ⟨h1.trans (funext fun i => ?_), hk⟩
  rw [eq_ix2 i]
  exact (Cert.ReferenceWDilIdeal.Prod.ref_at (ma m c) (mb m c) (i 0) (i 1)).trans ((tie m c (i 0) (i 1)).trans (arr_at m c (i 0) (i 1)).symm)

/-- The ideal reference keeps its arguments; it declares no semaphore. -/
theorem frameR : Cert.quiescent_ReferenceWDilIdeal := fun m g _ =>
  (θ_run _ _ _).mono (fun r h => ⟨fun c => (h c).2, sem_eq_zero_of_no_sems (by decide) r.2⟩) (Cert.ReferenceWDilIdeal.Value.run m g)

end Cert.WDil
end
-- ==== Proof.Norm.lean ====
module

public import proofs.«01_k».proof.Proof.Gen.KernelNormIdeal.Value
public import proofs.«01_k».proof.Proof.Gen.ReferenceNormIdeal.Run
public import proofs.«01_k».proof.Proof.Gen.KernelNorm.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelNormIdeal.Prod

open Cert.KernelNormIdeal Cert.KernelNormIdeal.Gen Idealize.ShloMosaic Idealize.ShloMosaic.TcCoe Idealize.SL.Sem

theorem idx0 : ∀ t : Fin cfg0.N, (cfg0.win 0).index t = ![t.val / 8, t.val % 2] := by decide +kernel
theorem idx1 : ∀ t : Fin cfg0.N, (cfg0.win 1).index t = ![t.val / 2 % 4, t.val % 2] := by decide +kernel
theorem idx2 : ∀ t : Fin cfg0.N, (cfg0.win 2).index t = ![t.val / 8, t.val % 2] := by decide +kernel
theorem idx3 : ∀ t : Fin cfg0.N, (cfg0.win 3).index t = ![t.val / 2 % 4, t.val % 2 + 2] := by decide +kernel

theorem rb0 (X : FVec Ideal S8192x5632 .bf16) (t : Fin cfg0.N) (r : Fin 1024) (l : Fin 2816) (a : Fin 8192) (b : Fin 5632) (ha : a.val = 1024 * (t.val / 8) + r) (hb : b.val = 2816 * (t.val % 2) + l) :
    ((cfg0.win 0).blk t).view.read (Elt Ideal) X (ix2 r l) = X (ix2 a b) := by
  have e := idx0 t
  blk_simp [e]
  refine congrArg X ?_
  blk_ext [e]
theorem rb1 (X : FVec Ideal S2048x11264 .bf16) (t : Fin cfg0.N) (r : Fin 512) (l : Fin 2816) (a : Fin 2048) (b : Fin 11264) (ha : a.val = 512 * (t.val / 2 % 4) + r) (hb : b.val = 2816 * (t.val % 2) + l) :
    ((cfg0.win 1).blk t).view.read (Elt Ideal) X (ix2 r l) = X (ix2 a b) := by
  have e := idx1 t
  blk_simp [e]
  refine congrArg X ?_
  blk_ext [e]
theorem rb2 (X : FVec Ideal S8192x5632 .bf16) (t : Fin cfg0.N) (r : Fin 1024) (l : Fin 2816) (a : Fin 8192) (b : Fin 5632) (ha : a.val = 1024 * (t.val / 8) + r) (hb : b.val = 2816 * (t.val % 2) + l) :
    ((cfg0.win 2).blk t).view.read (Elt Ideal) X (ix2 r l) = X (ix2 a b) := by
  have e := idx2 t
  blk_simp [e]
  refine congrArg X ?_
  blk_ext [e]
theorem rb3 (X : FVec Ideal S2048x11264 .bf16) (t : Fin cfg0.N) (r : Fin 512) (l : Fin 2816) (a : Fin 2048) (b : Fin 11264) (ha : a.val = 512 * (t.val / 2 % 4) + r) (hb : b.val = 2816 * (t.val % 2 + 2) + l) :
    ((cfg0.win 3).blk t).view.read (Elt Ideal) X (ix2 r l) = X (ix2 a b) := by
  have e := idx3 t
  blk_simp [e]
  refine congrArg X ?_
  blk_ext [e]

/-- What the first of two steps leaves in the accumulator. -/
theorem first_step (c i a0 h0 a1 h1 a2 h2 a3 h3 a4 h4 a5 h5 p0 p1 p2) (x z : Vec Ideal S1024x2816 .bf16) (y w : Vec Ideal S512x2816 .bf16) : sout0_A_0 (F := Ideal) c i a0 h0 a1 h1 a2 h2 a3 h3 a4 h4 a5 h5 p0 p1 p2 x y z w = k0_pay2 x y z w := by
  unfold sout0_A_0
  frame_out

/-- What the second of two steps writes out over the accumulator. -/
theorem second_step (c i a0 h0 a1 h1 a2 h2 a3 h3 a4 h4 a5 h5 p0 p1 p2) (x z : Vec Ideal S1024x2816 .bf16) (y w : Vec Ideal S512x2816 .bf16) (s : Vec Ideal S1024x512 .f32) : out0_B_4 (F := Ideal) c i a0 h0 a1 h1 a2 h2 a3 h3 a4 h4 a5 h5 p0 p1 p2 x y z w s = k0_pay3 x y z w s := by
  unfold out0_B_4
  frame_out

/-- One output block from the input blocks of its two steps, each step adding two products. -/
theorem two_steps (x z : Vec Ideal S1024x2816 .bf16) (y w : Vec Ideal S512x2816 .bf16) (x' z' : Vec Ideal S1024x2816 .bf16) (y' w' : Vec Ideal S512x2816 .bf16) (r : Fin 1024) (l : Fin 512) :
    k0_pay3 x y z w (k0_pay2 x' y' z' w') (ix2 r l)
      = ((∑ k : Fin 2816, x' (ix2 r k) * y' (ix2 l k)) + ∑ k : Fin 2816, z' (ix2 r k) * w' (ix2 l k)) + ((∑ k : Fin 2816, x (ix2 r k) * y (ix2 l k)) + ∑ k : Fin 2816, z (ix2 r k) * w (ix2 l k)) := by
  pointwise [k0_pay3, k0_pay2, k0_pay1]

/-- One output block from the arrays that its input blocks are cut from. -/
theorem blk_at (X Z : FVec Ideal S8192x5632 .bf16) (Y : FVec Ideal S2048x11264 .bf16) (t t' : Fin cfg0.N) (h : t'.val + 1 = t.val) (h1 : t.val % 2 = 1) (r : Fin 1024) (l : Fin 512) (a : Fin 8192) (b : Fin 2048)
    (ha : a.val = 1024 * (t.val / 8) + r.val) (hb : b.val = 512 * (t.val / 2 % 4) + l.val) :
    k0_pay3 (((cfg0.win 0).blk t).view.read (Elt Ideal) X : Vec Ideal S1024x2816 .bf16) (((cfg0.win 1).blk t).view.read (Elt Ideal) Y : Vec Ideal S512x2816 .bf16) (((cfg0.win 2).blk t).view.read (Elt Ideal) Z : Vec Ideal S1024x2816 .bf16) (((cfg0.win 3).blk t).view.read (Elt Ideal) Y : Vec Ideal S512x2816 .bf16) (k0_pay2 (((cfg0.win 0).blk t').view.read (Elt Ideal) X : Vec Ideal S1024x2816 .bf16) (((cfg0.win 1).blk t').view.read (Elt Ideal) Y : Vec Ideal S512x2816 .bf16) (((cfg0.win 2).blk t').view.read (Elt Ideal) Z : Vec Ideal S1024x2816 .bf16) (((cfg0.win 3).blk t').view.read (Elt Ideal) Y : Vec Ideal S512x2816 .bf16)) (ix2 r l)
      = (∑ k : Fin 5632, X (ix2 a k) * Y (ix2 b ⟨k.val, by omega⟩)) + ∑ k : Fin 5632, Z (ix2 a k) * Y (ix2 b ⟨5632 + k.val, by omega⟩) := by
  rw [two_steps, add_add_add_comm]
  refine congrArg₂ (· + ·) (Eq.trans ?_ (Cert.Dot.two_halves (n := 2816) (N := 5632) rfl fun k => X (ix2 a k) * Y (ix2 b ⟨k.val, by omega⟩)))
    (Eq.trans ?_ (Cert.Dot.two_halves (n := 2816) (N := 5632) rfl fun k => Z (ix2 a k) * Y (ix2 b ⟨5632 + k.val, by omega⟩)))
  · refine congrArg₂ (· + ·) (Finset.sum_congr rfl fun k _ => ?_) (Finset.sum_congr rfl fun k _ => ?_)
    · rw [rb0 X t' r k a ⟨k.val, by omega⟩ (by omega) (show k.val = 2816 * _ + k.val by omega), rb1 Y t' l k b ⟨k.val, by omega⟩ (by omega) (show k.val = 2816 * _ + k.val by omega)]
    · rw [rb0 X t r k a ⟨2816 + k.val, by omega⟩ ha (show 2816 + k.val = 2816 * _ + k.val by omega), rb1 Y t l k b ⟨2816 + k.val, by omega⟩ hb (show 2816 + k.val = 2816 * _ + k.val by omega)]
  · refine congrArg₂ (· + ·) (Finset.sum_congr rfl fun k _ => ?_) (Finset.sum_congr rfl fun k _ => ?_)
    · rw [rb2 Z t' r k a ⟨k.val, by omega⟩ (by omega) (show k.val = 2816 * _ + k.val by omega), rb3 Y t' l k b ⟨5632 + k.val, by omega⟩ (by omega) (show 5632 + k.val = 2816 * _ + k.val by omega)]
    · rw [rb2 Z t r k a ⟨2816 + k.val, by omega⟩ ha (show 2816 + k.val = 2816 * _ + k.val by omega), rb3 Y t l k b ⟨5632 + (2816 + k.val), by omega⟩ hb (show 5632 + (2816 + k.val) = 2816 * _ + k.val by omega)]

/-- The two weights side by side. -/
abbrev joined (u v : FVec Ideal S2048x5632 .f32) : FVec Ideal S2048x11264 .bf16 :=
  truncf .bf16 (concatenate S2048x11264 1 [⟨S2048x5632, u⟩, ⟨S2048x5632, v⟩] concatenates_S2048x5632_S2048x5632_S2048x11264_d1) bitsLt_bf16_f32

theorem joined_left (u v : FVec Ideal S2048x5632 .f32) (b : Fin 2048) (k : Fin 5632) (hk : k.val < 11264) : joined u v (ix2 b ⟨k.val, hk⟩) = u (ix2 b k) := by
  pointwise [joined]

theorem joined_right (u v : FVec Ideal S2048x5632 .f32) (b : Fin 2048) (k : Fin 5632) (hk : 5632 + k.val < 11264) : joined u v (ix2 b ⟨5632 + k.val, hk⟩) = v (ix2 b k) := by
  pointwise [joined]

variable (m : (ℓ : Loc nD τ sig) → Buf (Elt Ideal) ℓ) (c : Dev nD)

/-- The first argument of a device. -/
abbrev ma : FVec Ideal S8192x5632 .f32 := m (c, Proc.devRef .tc main_arg0)
/-- The second argument of a device. -/
abbrev mb : FVec Ideal S8192x5632 .f32 := m (c, Proc.devRef .tc main_arg1)
/-- The third argument of a device. -/
abbrev mu : FVec Ideal S2048x5632 .f32 := m (c, Proc.devRef .tc main_arg2)
/-- The fourth argument of a device. -/
abbrev mv : FVec Ideal S2048x5632 .f32 := m (c, Proc.devRef .tc main_arg3)

theorem v1 : V m c main_v1 = joined (mu m c) (mv m c) := by
  unfold_abbrev_sides
  after_results
theorem v2 : V m c main_v2 = truncf .bf16 (ma m c) bitsLt_bf16_f32 := by
  unfold_abbrev_sides
  after_results
theorem v3 : V m c main_v3 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v2 m c)
theorem ia1 (t : Fin cfg0.N) : iblk m c 1 t = ((cfg0.win 1).blk t).view.read (Elt Ideal) (joined (mu m c) (mv m c)) :=
  congrArg (fun X => ((cfg0.win 1).blk t).view.read (Elt Ideal) X) (v1 m c)
theorem ia2 (t : Fin cfg0.N) : iblk m c 2 t = ((cfg0.win 2).blk t).view.read (Elt Ideal) (truncf .bf16 (mb m c) bitsLt_bf16_f32) :=
  congrArg (fun X => ((cfg0.win 2).blk t).view.read (Elt Ideal) X) (v3 m c)
theorem ia3 (t : Fin cfg0.N) : iblk m c 3 t = ((cfg0.win 3).blk t).view.read (Elt Ideal) (joined (mu m c) (mv m c)) :=
  congrArg (fun X => ((cfg0.win 3).blk t).view.read (Elt Ideal) X) (v1 m c)

set_option maxHeartbeats 2000000 in
/-- What a block's second step writes out, from the four argument arrays. -/
theorem fin_at (t : Fin cfg0.N) (h1 : t.val % 2 = 1) (r : Fin 1024) (l : Fin 512) (a : Fin 8192) (b : Fin 2048)
    (ha : a.val = 1024 * (t.val / 8) + r.val) (hb : b.val = 512 * (t.val / 2 % 4) + l.val) :
    (outsAt0 m c t.val t.isLt).1 (ix2 r l) = (∑ k : Fin 5632, ma m c (ix2 a k) * mu m c (ix2 b k)) + ∑ k : Fin 5632, mb m c (ix2 a k) * mv m c (ix2 b k) := by
  have hN : cfg0.N = 64 := N_0
  have hq : t.val - 1 < cfg0.N := by have := t.isLt; omega
  have e2 : (outsAt0 m c (t.val - 1) hq).2 = k0_pay2 (iblk m c 0 ⟨t.val - 1, hq⟩) (iblk m c 1 ⟨t.val - 1, hq⟩) (iblk m c 2 ⟨t.val - 1, hq⟩) (iblk m c 3 ⟨t.val - 1, hq⟩) := by
    rw [outsAt0_A m c ⟨t.val - 1, hq⟩ (by dsimp only; omega) (by dsimp only; omega) (by dsimp only; omega)]
    dsimp only
    rw [first_step]
  have e1 : (outsAt0 m c t.val t.isLt).1 = k0_pay3 (iblk m c 0 t) (iblk m c 1 t) (iblk m c 2 t) (iblk m c 3 t) (outsAt0 m c (t.val - 1) hq).2 := by
    rw [outsAt0_B m c t (by omega) h1 h1]
    dsimp only
    rw [second_step]
  rw [e1, e2, ia0, ia1, ia2, ia3, ia0, ia1, ia2, ia3]
  refine (blk_at _ _ _ t ⟨t.val - 1, hq⟩ (by dsimp only; omega) h1 r l a b ha hb).trans ?_
  simp only [joined_left, joined_right]
  rfl

/-- An entry of the result after the run. -/
theorem arr_at (a : Fin 8192) (b : Fin 2048) : Value.G4 m c (ix2 a b) = (∑ k : Fin 5632, ma m c (ix2 a k) * mu m c (ix2 b k)) + ∑ k : Fin 5632, mb m c (ix2 a k) * mv m c (ix2 b k) := by
  have hp : 2 * (4 * (a.val / 1024) + b.val / 512) + 1 < cfg0.N := by rw [show cfg0.N = 64 from N_0]; omega
  have hp' : Value.pt4Of (ix2 a b) < cfg0.N := by
    show 2 * (4 * (a.val / 1024 - 0) + 1 * (b.val / 512 - 0)) + 1 < cfg0.N
    simpa only [Nat.sub_zero, one_mul] using hp
  have hl : Value.loc4Of (ix2 a b) = ix2 ⟨a.val % 1024, by omega⟩ ⟨b.val % 512, by omega⟩ := eq_ix2 _
  unfold Value.G4
  rw [dif_pos hp', ← Value.outsAt0_sweep m c _ hp', hl]
  have ht : Value.pt4Of (ix2 a b) = 2 * (4 * (a.val / 1024) + b.val / 512) + 1 := by
    show 2 * (4 * (a.val / 1024 - 0) + 1 * (b.val / 512 - 0)) + 1 = _
    omega
  exact fin_at m c ⟨_, hp'⟩ (by dsimp only; rw [ht]; omega) _ _ a b (by dsimp only; rw [ht]; omega) (by dsimp only; rw [ht]; omega)

end Cert.KernelNormIdeal.Prod

namespace Cert.ReferenceNormIdeal.Prod
open Cert.ReferenceNormIdeal Cert.ReferenceNormIdeal.Gen Idealize.ShloMosaic Idealize.ShloMosaic.TcCoe Idealize.SL.Sem

/-- An entry of the reference's result. -/
theorem ref_at (x y : FVec Ideal S8192x5632 .f32) (u v : FVec Ideal S2048x5632 .f32) (a : Fin 8192) (b : Fin 2048) :
    (addf (Host.dotGeneral dot_S8192x5632_S2048x5632_S8192x2048_1_1_0_0_n_n none y v) (Host.dotGeneral dot_S8192x5632_S2048x5632_S8192x2048_1_1_0_0_n_n none x u) : FVec Ideal S8192x2048 .f32) (ix2 a b)
      = (∑ k : Fin 5632, y (ix2 a k) * v (ix2 b k)) + ∑ k : Fin 5632, x (ix2 a k) * u (ix2 b k) := by
  pointwise []

end Cert.ReferenceNormIdeal.Prod

namespace Cert.Norm
open Idealize.ShloMosaic Idealize.SL.Sem Idealize.ShloMosaic.StableHlo Cert.KernelNormIdeal.Prod

attribute [local instance] Cert.KernelNorm.Gen.facts Cert.KernelNormIdeal.Gen.facts Cert.ReferenceNormIdeal.Gen.facts

set_option maxHeartbeats 2000000 in
/-- The ideal call and the ideal reference return the same array. -/
theorem algebraic : Cert.algebraic_KernelNormIdeal_ReferenceNormIdeal := by
  intro m g m' g' _ ha
  refine ⟨fun c => Cert.KernelNormIdeal.Value.G4 m c, Cert.KernelNormIdeal.Value.run m g, ?_⟩
  refine (θ_run _ _ _).mono (fun r h c => ?_) (Cert.ReferenceNormIdeal.Value.run m' g')
  obtain ⟨h1, hk⟩ := h c
  obtain ⟨e0, e1, e2, e3⟩ := ha c
  rw [e0, e1, e2, e3] at h1
  refine ⟨h1.trans (funext fun i => ?_), hk⟩
  rw [eq_ix2 i]
  exact (Cert.ReferenceNormIdeal.Prod.ref_at (ma m c) (mb m c) (mu m c) (mv m c) (i 0) (i 1)).trans ((add_comm _ _).trans (arr_at m c (i 0) (i 1)).symm)

/-- The ideal reference keeps its arguments; it declares no semaphore. -/
theorem frameR : Cert.quiescent_ReferenceNormIdeal := fun m g _ =>
  (θ_run _ _ _).mono (fun r h => ⟨fun c => (h c).2, sem_eq_zero_of_no_sems (by decide) r.2⟩) (Cert.ReferenceNormIdeal.Value.run m g)

end Cert.Norm
end
-- ==== Proof.WGate.lean ====
module

public import proofs.«01_k».proof.Proof.Gen.KernelWGateIdeal.Value
public import proofs.«01_k».proof.Proof.Gen.ReferenceWGateIdeal.Run
public import proofs.«01_k».proof.Proof.Gen.KernelWGate.Frame
public import proofs.«01_k».proof.Defs
public import proofs.«01_k».proof.Proof.Dot
public import Idealize.ShloMosaic.Lib.Pipeline.ReadBack
public import Idealize.ShloMosaic.Lib.Pipeline.ValueKit

@[expose] public section

set_option maxRecDepth 16384

noncomputable section

namespace Cert.KernelWGateIdeal.Prod

open Cert.KernelWGateIdeal Cert.KernelWGateIdeal.Gen Idealize.ShloMosaic Idealize.ShloMosaic.TcCoe Idealize.SL.Sem
theorem idx0 : ∀ t : Fin cfg0.N, (cfg0.win 0).index t = ![t.val % 2, t.val / 22] := by decide +kernel
theorem idx1 : ∀ t : Fin cfg0.N, (cfg0.win 1).index t = ![t.val % 2, t.val / 2 % 11] := by decide +kernel

theorem rb0 (X : FVec Ideal S8192x2048 .bf16) (t : Fin cfg0.N) (r : Fin 4096) (l : Fin 1024) (a : Fin 8192) (b : Fin 2048) (ha : a.val = 4096 * (t.val % 2) + r) (hb : b.val = 1024 * (t.val / 22) + l) :
    ((cfg0.win 0).blk t).view.read (Elt Ideal) X (ix2 r l) = X (ix2 a b) := by
  have e := idx0 t
  blk_simp [e]
  refine congrArg X ?_
  blk_ext [e]
theorem rb1 (X : FVec Ideal S8192x5632 .bf16) (t : Fin cfg0.N) (r : Fin 4096) (l : Fin 512) (a : Fin 8192) (b : Fin 5632) (ha : a.val = 4096 * (t.val % 2) + r) (hb : b.val = 512 * (t.val / 2 % 11) + l) :
    ((cfg0.win 1).blk t).view.read (Elt Ideal) X (ix2 r l) = X (ix2 a b) := by
  have e := idx1 t
  blk_simp [e]
  refine congrArg X ?_
  blk_ext [e]

/-- What the first of two steps leaves in the accumulator. -/
theorem first_step (c i a0 h0 a1 h1 a2 h2 a3 h3 p0 p1 p2) (x : Vec Ideal S4096x1024 .bf16) (y : Vec Ideal S4096x512 .bf16) : sout0_A_0 (F := Ideal) c i a0 h0 a1 h1 a2 h2 a3 h3 p0 p1 p2 x y = k0_pay2 x y := by
  unfold sout0_A_0
  frame_out

/-- What the second of two steps writes out over the accumulator. -/
theorem second_step (c i a0 h0 a1 h1 a2 h2 a3 h3 p0 p1 p2) (x : Vec Ideal S4096x1024 .bf16) (y : Vec Ideal S4096x512 .bf16) (s : Vec Ideal S1024x512 .f32) : out0_B_2 (F := Ideal) c i a0 h0 a1 h1 a2 h2 a3 h3 p0 p1 p2 x y s = k0_pay4 (k0_pay3 x y s) := by
  unfold out0_B_2
  frame_out

/-- One output block from the input blocks of its two steps. -/
theorem two_steps (x : Vec Ideal S4096x1024 .bf16) (y : Vec Ideal S4096x512 .bf16) (x' : Vec Ideal S4096x1024 .bf16) (y' : Vec Ideal S4096x512 .bf16) (r : Fin 1024) (l : Fin 512) :
    k0_pay4 (k0_pay3 x y (k0_pay2 x' y')) (ix2 r l) = (∑ k : Fin 4096, x' (ix2 k r) * y' (ix2 k l)) + ∑ k : Fin 4096, x (ix2 k r) * y (ix2 k l) := by
  pointwise [k0_pay4, k0_pay3, k0_pay2, k0_pay1]

/-- One output block from the arrays that its input blocks are cut from. -/
theorem blk_at (X : FVec Ideal S8192x2048 .bf16) (Y : FVec Ideal S8192x5632 .bf16) (t t' : Fin cfg0.N) (h : t'.val + 1 = t.val) (h1 : t.val % 2 = 1) (r : Fin 1024) (l : Fin 512) (a : Fin 2048) (b : Fin 5632)
    (ha : a.val = 1024 * (t.val / 22) + r.val) (hb : b.val = 512 * (t.val / 2 % 11) + l.val) :
    k0_pay4 (k0_pay3 (((cfg0.win 0).blk t).view.read (Elt Ideal) X : Vec Ideal S4096x1024 .bf16) (((cfg0.win 1).blk t).view.read (Elt Ideal) Y : Vec Ideal S4096x512 .bf16) (k0_pay2 (((cfg0.win 0).blk t').view.read (Elt Ideal) X : Vec Ideal S4096x1024 .bf16) (((cfg0.win 1).blk t').view.read (Elt Ideal) Y : Vec Ideal S4096x512 .bf16))) (ix2 r l) = ∑ k : Fin 8192, X (ix2 k a) * Y (ix2 k b) := by
  rw [two_steps]
  refine Eq.trans ?_ (Cert.Dot.two_halves (n := 4096) (N := 8192) rfl fun k => X (ix2 k a) * Y (ix2 k b))
  refine congrArg₂ (· + ·) (Finset.sum_congr rfl fun k _ => ?_) (Finset.sum_congr rfl fun k _ => ?_)
  · rw [rb0 X t' k r ⟨k.val, by omega⟩ a (show k.val = 4096 * _ + k.val by omega) (by omega), rb1 Y t' k l ⟨k.val, by omega⟩ b (show k.val = 4096 * _ + k.val by omega) (by omega)]
  · rw [rb0 X t k r ⟨4096 + k.val, by omega⟩ a (show 4096 + k.val = 4096 * _ + k.val by omega) ha, rb1 Y t k l ⟨4096 + k.val, by omega⟩ b (show 4096 + k.val = 4096 * _ + k.val by omega) hb]

variable (m : (ℓ : Loc nD τ sig) → Buf (Elt Ideal) ℓ) (c : Dev nD)

/-- The first argument of a device. -/
abbrev ma : FVec Ideal S8192x2048 .f32 := m (c, Proc.devRef .tc main_arg0)
/-- The second argument of a device. -/
abbrev mb : FVec Ideal S8192x5632 .f32 := m (c, Proc.devRef .tc main_arg1)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)

set_option maxHeartbeats 2000000 in
/-- What a block's second step writes out, from the two argument arrays. -/
theorem fin_at (t : Fin cfg0.N) (h1 : t.val % 2 = 1) (r : Fin 1024) (l : Fin 512) (a : Fin 2048) (b : Fin 5632)
    (ha : a.val = 1024 * (t.val / 22) + r.val) (hb : b.val = 512 * (t.val / 2 % 11) + l.val) :
    (outsAt0 m c t.val t.isLt).1 (ix2 r l) = ∑ k : Fin 8192, ma m c (ix2 k a) * mb m c (ix2 k b) := by
  have hN : cfg0.N = 44 := N_0
  have hq : t.val - 1 < cfg0.N := by have := t.isLt; omega
  have e2 : (outsAt0 m c (t.val - 1) hq).2 = k0_pay2 (iblk m c 0 ⟨t.val - 1, hq⟩) (iblk m c 1 ⟨t.val - 1, hq⟩) := by
    rw [outsAt0_A m c ⟨t.val - 1, hq⟩ (by dsimp only; omega) (by dsimp only; omega) (by dsimp only; omega)]
    dsimp only
    rw [first_step]
  have e1 : (outsAt0 m c t.val t.isLt).1 = k0_pay4 (k0_pay3 (iblk m c 0 t) (iblk m c 1 t) (outsAt0 m c (t.val - 1) hq).2) := by
    rw [outsAt0_B m c t (by omega) h1 h1]
    dsimp only
    rw [second_step]
  rw [e1, e2, ia0, ia1, ia0, ia1]
  exact blk_at _ _ t ⟨t.val - 1, hq⟩ (by dsimp only; omega) h1 r l a b ha hb

/-- An entry of the result after the run. -/
theorem arr_at (a : Fin 2048) (b : Fin 5632) : Value.G2 m c (ix2 a b) = ∑ k : Fin 8192, ma m c (ix2 k a) * mb m c (ix2 k b) := by
  have hp : 2 * (11 * (a.val / 1024) + b.val / 512) + 1 < cfg0.N := by rw [show cfg0.N = 44 from N_0]; omega
  have hp' : Value.pt2Of (ix2 a b) < cfg0.N := by
    show 2 * (11 * (a.val / 1024 - 0) + 1 * (b.val / 512 - 0)) + 1 < cfg0.N
    simpa only [Nat.sub_zero, one_mul] using hp
  have hl : Value.loc2Of (ix2 a b) = ix2 ⟨a.val % 1024, by omega⟩ ⟨b.val % 512, by omega⟩ := eq_ix2 _
  unfold Value.G2
  rw [dif_pos hp', ← Value.outsAt0_sweep m c _ hp', hl]
  have ht : Value.pt2Of (ix2 a b) = 2 * (11 * (a.val / 1024) + b.val / 512) + 1 := by
    show 2 * (11 * (a.val / 1024 - 0) + 1 * (b.val / 512 - 0)) + 1 = _
    omega
  exact fin_at m c ⟨_, hp'⟩ (by dsimp only; rw [ht]; omega) _ _ a b (by dsimp only; rw [ht]; omega) (by dsimp only; rw [ht]; omega)

end Cert.KernelWGateIdeal.Prod

namespace Cert.ReferenceWGateIdeal.Prod
open Cert.ReferenceWGateIdeal Cert.ReferenceWGateIdeal.Gen Idealize.ShloMosaic Idealize.ShloMosaic.TcCoe Idealize.SL.Sem

/-- An entry of the reference's result. -/
theorem ref_at (x : FVec Ideal S8192x2048 .f32) (y : FVec Ideal S8192x5632 .f32) (a : Fin 2048) (b : Fin 5632) :
    (truncf .bf16 (transpose S2048x5632 [1, 0] (Host.dotGeneral dot_S8192x5632_S8192x2048_S5632x2048_0_0_1_1_n_n none y x) transposes_S5632x2048_S2048x5632_1_0) bitsLt_bf16_f32 : FVec Ideal S2048x5632 .bf16) (ix2 a b)
      = ∑ k : Fin 8192, y (ix2 k b) * x (ix2 k a) := by
  pointwise []

end Cert.ReferenceWGateIdeal.Prod

namespace Cert.WGate
open Idealize.ShloMosaic Idealize.SL.Sem Idealize.ShloMosaic.StableHlo Cert.KernelWGateIdeal.Prod

attribute [local instance] Cert.KernelWGate.Gen.facts Cert.KernelWGateIdeal.Gen.facts Cert.ReferenceWGateIdeal.Gen.facts

/-- An entry of the reference's result, at the call's arguments, is the call's. -/
theorem tie (m : (ℓ : Loc Cert.KernelWGateIdeal.nD Cert.KernelWGateIdeal.τ Cert.KernelWGateIdeal.sig) → Buf (Elt Ideal) ℓ) (c : Dev Cert.KernelWGateIdeal.nD) (a : Fin 2048) (b : Fin 5632) :
    ∑ k : Fin 8192, mb m c (ix2 k b) * ma m c (ix2 k a) = ∑ k : Fin 8192, ma m c (ix2 k a) * mb m c (ix2 k b) := by
  exact Finset.sum_congr rfl fun k _ => mul_comm _ _

set_option maxHeartbeats 2000000 in
/-- The ideal call and the ideal reference return the same array. -/
theorem algebraic : Cert.algebraic_KernelWGateIdeal_ReferenceWGateIdeal := by
  intro m g m' g' _ ha
  refine ⟨fun c => Cert.KernelWGateIdeal.Value.G2 m c, Cert.KernelWGateIdeal.Value.run m g, ?_⟩
  refine (θ_run _ _ _).mono (fun r h c => ?_) (Cert.ReferenceWGateIdeal.Value.run m' g')
  obtain ⟨h1, hk⟩ := h c
  obtain ⟨e0, e1⟩ := ha c
  rw [e0, e1] at h1
  refine ⟨h1.trans (funext fun i => ?_), hk⟩
  rw [eq_ix2 i]
  exact (Cert.ReferenceWGateIdeal.Prod.ref_at (ma m c) (mb m c) (i 0) (i 1)).trans ((tie m c (i 0) (i 1)).trans (arr_at m c (i 0) (i 1)).symm)

/-- The ideal reference keeps its arguments; it declares no semaphore. -/
theorem frameR : Cert.quiescent_ReferenceWGateIdeal := fun m g _ =>
  (θ_run _ _ _).mono (fun r h => ⟨fun c => (h c).2, sem_eq_zero_of_no_sems (by decide) r.2⟩) (Cert.ReferenceWGateIdeal.Value.run m g)

end Cert.WGate
end
-- ==== Proof.RealAct.lean ====
module

public import proofs.«01_k».proof.Proof.Gen.Pre_finite_act
public import proofs.«01_k».proof.Proof.Real

@[expose] public section

noncomputable section

namespace Cert.Pre_finite_act.Real

open Cert.Pre_finite_act Cert.Pre_finite.Real Idealize.ShloMosaic

/-- Where the stated check holds, every entry of the three arrays it reads is a real number. -/
theorem reals [hf : Facts] {x : FVec Ideal S8192x2048 .f32} {y : FVec Ideal S5632x2048 .f32} {u v : FVec Ideal S8192x5632 .f32} (h : fn (F := Ideal) x y u v = fun _ => 1#1) :
    (∀ i, ∃ r : ℝ, x i = (r : EReal)) ∧ (∀ i, ∃ r : ℝ, y i = (r : EReal)) ∧ (∀ i, ∃ r : ℝ, v i = (r : EReal)) := by
  have e := congrFun h (fun a => a.elim0)
  dsimp only [fn] at e
  obtain ⟨e, h2⟩ := both e
  obtain ⟨h0, h1⟩ := both e
  haveI : Subsingleton S_.Idx := ⟨fun a b => funext fun x => x.elim0⟩
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i)⟩

end Cert.Pre_finite_act.Real

end
-- ==== Proof.Act.lean ====
module

public import proofs.«01_k».proof.Proof.Gen.KernelActIdeal.Value
public import proofs.«01_k».proof.Proof.Gen.ReferenceActIdeal.Run
public import proofs.«01_k».proof.Proof.Gen.KernelAct.Frame
public import proofs.«01_k».proof.Defs
public import proofs.«01_k».proof.Proof.Sig
public import proofs.«01_k».proof.Proof.RealAct
public import Idealize.ShloMosaic.Lib.Pipeline.ReadBack
public import Idealize.ShloMosaic.Lib.Pipeline.ValueKit

@[expose] public section

set_option maxRecDepth 16384

noncomputable section

namespace Cert.KernelActIdeal.Prod

open Cert.KernelActIdeal Cert.KernelActIdeal.Gen Idealize.ShloMosaic Idealize.ShloMosaic.TcCoe Idealize.SL.Sem

theorem idx0 : ∀ t : Fin cfg0.N, (cfg0.win 0).index t = ![t.val / 11, 0] := by decide +kernel
theorem idx1 : ∀ t : Fin cfg0.N, (cfg0.win 1).index t = ![t.val % 11, 0] := by decide +kernel
theorem idx2 : ∀ t : Fin cfg0.N, (cfg0.win 2).index t = ![t.val / 11, t.val % 11] := by decide +kernel
theorem idx3 : ∀ t : Fin cfg0.N, (cfg0.win 3).index t = ![t.val / 11, t.val % 11] := by decide +kernel
theorem idx4 : ∀ t : Fin cfg0.N, (cfg0.win 4).index t = ![t.val / 11, t.val % 11] := by decide +kernel
theorem idx5 : ∀ t : Fin cfg0.N, (cfg0.win 5).index t = ![t.val / 11, t.val % 11] := by decide +kernel
theorem rb0 (X : FVec Ideal S8192x2048 .bf16) (t : Fin cfg0.N) (r : Fin 1024) (l : Fin 2048) (a : Fin 8192) (b : Fin 2048) (ha : a.val = 1024 * (t.val / 11) + r) (hb : b.val = 2048 * (0) + l) :
    ((cfg0.win 0).blk t).view.read (Elt Ideal) X (ix2 r l) = X (ix2 a b) := by
  have e := idx0 t
  blk_simp [e]
  refine congrArg X ?_
  blk_ext [e]
theorem rb1 (X : FVec Ideal S5632x2048 .bf16) (t : Fin cfg0.N) (r : Fin 512) (l : Fin 2048) (a : Fin 5632) (b : Fin 2048) (ha : a.val = 512 * (t.val % 11) + r) (hb : b.val = 2048 * (0) + l) :
    ((cfg0.win 1).blk t).view.read (Elt Ideal) X (ix2 r l) = X (ix2 a b) := by
  have e := idx1 t
  blk_simp [e]
  refine congrArg X ?_
  blk_ext [e]
theorem rb2 (X : FVec Ideal S8192x5632 .bf16) (t : Fin cfg0.N) (r : Fin 1024) (l : Fin 512) (a : Fin 8192) (b : Fin 5632) (ha : a.val = 1024 * (t.val / 11) + r) (hb : b.val = 512 * (t.val % 11) + l) :
    ((cfg0.win 2).blk t).view.read (Elt Ideal) X (ix2 r l) = X (ix2 a b) := by
  have e := idx2 t
  blk_simp [e]
  refine congrArg X ?_
  blk_ext [e]
theorem rb3 (X : FVec Ideal S8192x5632 .bf16) (t : Fin cfg0.N) (r : Fin 1024) (l : Fin 512) (a : Fin 8192) (b : Fin 5632) (ha : a.val = 1024 * (t.val / 11) + r) (hb : b.val = 512 * (t.val % 11) + l) :
    ((cfg0.win 3).blk t).view.read (Elt Ideal) X (ix2 r l) = X (ix2 a b) := by
  have e := idx3 t
  blk_simp [e]
  refine congrArg X ?_
  blk_ext [e]
theorem rb4 (X : FVec Ideal S8192x5632 .bf16) (t : Fin cfg0.N) (r : Fin 1024) (l : Fin 512) (a : Fin 8192) (b : Fin 5632) (ha : a.val = 1024 * (t.val / 11) + r) (hb : b.val = 512 * (t.val % 11) + l) :
    ((cfg0.win 4).blk t).view.read (Elt Ideal) X (ix2 r l) = X (ix2 a b) := by
  have e := idx4 t
  blk_simp [e]
  refine congrArg X ?_
  blk_ext [e]
theorem rb5 (X : FVec Ideal S8192x5632 .bf16) (t : Fin cfg0.N) (r : Fin 1024) (l : Fin 512) (a : Fin 8192) (b : Fin 5632) (ha : a.val = 1024 * (t.val / 11) + r) (hb : b.val = 512 * (t.val % 11) + l) :
    ((cfg0.win 5).blk t).view.read (Elt Ideal) X (ix2 r l) = X (ix2 a b) := by
  have e := idx5 t
  blk_simp [e]
  refine congrArg X ?_
  blk_ext [e]
theorem fl4 : ∀ t : Fin cfg0.N, (cfg0.win 4).flush t = true := by decide +kernel
theorem ct4 (X : Vec Ideal S1024x512 .bf16) (t : Fin cfg0.N) (r : Fin 1024) (l : Fin 512) : (cfg0.win 4).cut (grid0.coords t) X (ix2 r l) = X (ix2 r l) := rfl
theorem fl5 : ∀ t : Fin cfg0.N, (cfg0.win 5).flush t = true := by decide +kernel
theorem ct5 (X : Vec Ideal S1024x512 .bf16) (t : Fin cfg0.N) (r : Fin 1024) (l : Fin 512) : (cfg0.win 5).cut (grid0.coords t) X (ix2 r l) = X (ix2 r l) := rfl

/-- The first result from the product, the gate's argument and the gated factor. -/
abbrev daOf (d a b : EReal) : EReal := Ideal.ofBits .f32 0x3F000000#32 * d * b * (Ideal.logistic a * (1 + a * (1 - Ideal.logistic a)))
/-- The second result from the product and the gate's argument. -/
abbrev dbOf (d a : EReal) : EReal := Ideal.ofBits .f32 0x3F000000#32 * d * (a * Ideal.logistic a)

/-- The logistic function as the call computes it. -/
theorem sg_at (a : Vec Ideal S1024x512 .bf16) (r : Fin 1024) (l : Fin 512) : k0_pay3 a (ix2 r l) = Ideal.logistic (a (ix2 r l)) := by
  rw [← Cert.Dot.sig_bits]
  pointwise [k0_pay3, k0_pay2]

/-- The product as the call computes it. -/
theorem d_at (x : Vec Ideal S1024x2048 .bf16) (y : Vec Ideal S512x2048 .bf16) (r : Fin 1024) (l : Fin 512) : k0_pay1 x y (ix2 r l) = Ideal.ofBits .f32 0x3F000000#32 * (∑ k : Fin 2048, x (ix2 r k) * y (ix2 l k)) := by
  pointwise [k0_pay1]

/-- A block of one result from the input blocks. -/
theorem out4 (x : Vec Ideal S1024x2048 .bf16) (y : Vec Ideal S512x2048 .bf16) (a b : Vec Ideal S1024x512 .bf16) (r : Fin 1024) (l : Fin 512) : out0_4 x y a b (ix2 r l) = daOf (∑ k : Fin 2048, x (ix2 r k) * y (ix2 l k)) (a (ix2 r l)) (b (ix2 r l)) := by
  have e : out0_4 x y a b = k0_pay4 x y a b := by
    unfold out0_4
    frame_out
  have e1 : k0_pay4 x y a b (ix2 r l) = k0_pay1 x y (ix2 r l) * b (ix2 r l) * (k0_pay3 a (ix2 r l) * (Ideal.ofBits .f32 0x3F800000#32 + a (ix2 r l) * (Ideal.ofBits .f32 0x3F800000#32 - k0_pay3 a (ix2 r l)))) := by
    pointwise [k0_pay4, k0_pay2]
  rw [e, e1, sg_at, d_at, Cert.Dot.one]

/-- A block of one result from the input blocks. -/
theorem out5 (x : Vec Ideal S1024x2048 .bf16) (y : Vec Ideal S512x2048 .bf16) (a b : Vec Ideal S1024x512 .bf16) (r : Fin 1024) (l : Fin 512) : out0_5 x y a b (ix2 r l) = dbOf (∑ k : Fin 2048, x (ix2 r k) * y (ix2 l k)) (a (ix2 r l)) := by
  have e : out0_5 x y a b = k0_pay5 x y a := by
    unfold out0_5
    frame_out
  have e1 : k0_pay5 x y a (ix2 r l) = k0_pay1 x y (ix2 r l) * (a (ix2 r l) * k0_pay3 a (ix2 r l)) := by
    pointwise [k0_pay5, k0_pay2]
  rw [e, e1, sg_at, d_at]

/-- A block of one result from the arrays that its input blocks are cut from. -/
theorem blk4 (X : FVec Ideal S8192x2048 .bf16) (Y : FVec Ideal S5632x2048 .bf16) (A B : FVec Ideal S8192x5632 .bf16) (t : Fin cfg0.N) (r : Fin 1024) (l : Fin 512) (a : Fin 8192) (b : Fin 5632)
    (ha : a.val = 1024 * (t.val / 11) + r.val) (hb : b.val = 512 * (t.val % 11) + l.val) :
    out0_4 (((cfg0.win 0).blk t).view.read (Elt Ideal) X : Vec Ideal S1024x2048 .bf16) (((cfg0.win 1).blk t).view.read (Elt Ideal) Y : Vec Ideal S512x2048 .bf16) (((cfg0.win 2).blk t).view.read (Elt Ideal) A : Vec Ideal S1024x512 .bf16) (((cfg0.win 3).blk t).view.read (Elt Ideal) B : Vec Ideal S1024x512 .bf16) (ix2 r l) = daOf (∑ k : Fin 2048, X (ix2 a k) * Y (ix2 b k)) (A (ix2 a b)) (B (ix2 a b)) := by
  rw [out4, rb2 A t r l a b ha hb, rb3 B t r l a b ha hb]
  refine congrArg (fun d => daOf d (A (ix2 a b)) (B (ix2 a b))) (Finset.sum_congr rfl fun k _ => ?_)
  rw [rb0 X t r k a k ha (by omega), rb1 Y t l k b k hb (by omega)]

/-- A block of one result from the arrays that its input blocks are cut from. -/
theorem blk5 (X : FVec Ideal S8192x2048 .bf16) (Y : FVec Ideal S5632x2048 .bf16) (A B : FVec Ideal S8192x5632 .bf16) (t : Fin cfg0.N) (r : Fin 1024) (l : Fin 512) (a : Fin 8192) (b : Fin 5632)
    (ha : a.val = 1024 * (t.val / 11) + r.val) (hb : b.val = 512 * (t.val % 11) + l.val) :
    out0_5 (((cfg0.win 0).blk t).view.read (Elt Ideal) X : Vec Ideal S1024x2048 .bf16) (((cfg0.win 1).blk t).view.read (Elt Ideal) Y : Vec Ideal S512x2048 .bf16) (((cfg0.win 2).blk t).view.read (Elt Ideal) A : Vec Ideal S1024x512 .bf16) (((cfg0.win 3).blk t).view.read (Elt Ideal) B : Vec Ideal S1024x512 .bf16) (ix2 r l) = dbOf (∑ k : Fin 2048, X (ix2 a k) * Y (ix2 b k)) (A (ix2 a b)) := by
  rw [out5, rb2 A t r l a b ha hb]
  refine congrArg (fun d => dbOf d (A (ix2 a b))) (Finset.sum_congr rfl fun k _ => ?_)
  rw [rb0 X t r k a k ha (by omega), rb1 Y t l k b k hb (by omega)]

variable (m : (ℓ : Loc nD τ sig) → Buf (Elt Ideal) ℓ) (c : Dev nD)

/-- The first argument of a device. -/
abbrev ma : FVec Ideal S8192x2048 .f32 := m (c, Proc.devRef .tc main_arg0)
/-- The second argument of a device. -/
abbrev mw : FVec Ideal S5632x2048 .f32 := m (c, Proc.devRef .tc main_arg1)
/-- The third argument of a device. -/
abbrev mg : FVec Ideal S8192x5632 .f32 := m (c, Proc.devRef .tc main_arg2)
/-- The fourth argument of a device. -/
abbrev mb : FVec Ideal S8192x5632 .f32 := m (c, Proc.devRef .tc main_arg3)
theorem v0 : V m c main_v0 = truncf .bf16 (ma m c) bitsLt_bf16_f32 := by
  unfold_abbrev_sides
  after_results
theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem v1 : V m c main_v1 = truncf .bf16 (mw m c) bitsLt_bf16_f32 := by
  unfold_abbrev_sides
  after_results
theorem ia1 (t : Fin cfg0.N) : iblk m c 1 t = ((cfg0.win 1).blk t).view.read (Elt Ideal) (truncf .bf16 (mw m c) bitsLt_bf16_f32) :=
  congrArg (fun X => ((cfg0.win 1).blk t).view.read (Elt Ideal) X) (v1 m c)
theorem v2 : V m c main_v2 = truncf .bf16 (mg m c) bitsLt_bf16_f32 := by
  unfold_abbrev_sides
  after_results
theorem ia2 (t : Fin cfg0.N) : iblk m c 2 t = ((cfg0.win 2).blk t).view.read (Elt Ideal) (truncf .bf16 (mg m c) bitsLt_bf16_f32) :=
  congrArg (fun X => ((cfg0.win 2).blk t).view.read (Elt Ideal) X) (v2 m c)
theorem v3 : V m c main_v3 = truncf .bf16 (mb m c) bitsLt_bf16_f32 := by
  unfold_abbrev_sides
  after_results
theorem ia3 (t : Fin cfg0.N) : iblk m c 3 t = ((cfg0.win 3).blk t).view.read (Elt Ideal) (truncf .bf16 (mb m c) bitsLt_bf16_f32) :=
  congrArg (fun X => ((cfg0.win 3).blk t).view.read (Elt Ideal) X) (v3 m c)

/-- An entry of one result after the run. -/
theorem arr4 (a : Fin 8192) (b : Fin 5632) : (dats m 0 c).arrAt 4 cfg0.N (ix2 a b) = daOf (∑ k : Fin 2048, ma m c (ix2 a k) * mw m c (ix2 b k)) (mg m c (ix2 a b)) (mb m c (ix2 a b)) := by
  have hp : 11 * (a.val / 1024) + b.val / 512 < cfg0.N := by rw [show cfg0.N = 88 from N_0]; omega
  have ha : a.val = 1024 * ((11 * (a.val / 1024) + b.val / 512) / 11) + a.val % 1024 := by omega
  have hb : b.val = 512 * ((11 * (a.val / 1024) + b.val / 512) % 11) + b.val % 512 := by omega
  have e := congrFun (Value.blocks4 m c ⟨_, hp⟩ (fl4 _)) (ix2 ⟨a.val % 1024, by omega⟩ ⟨b.val % 512, by omega⟩)
  rw [rb4 _ _ _ _ a b ha hb, Value.flushed4, ct4, ia0, ia1, ia2, ia3] at e
  refine e.trans ((blk4 _ _ _ _ _ _ _ a b ha hb).trans ?_)
  rfl

/-- An entry of one result after the run. -/
theorem arr5 (a : Fin 8192) (b : Fin 5632) : (dats m 0 c).arrAt 5 cfg0.N (ix2 a b) = dbOf (∑ k : Fin 2048, ma m c (ix2 a k) * mw m c (ix2 b k)) (mg m c (ix2 a b)) := by
  have hp : 11 * (a.val / 1024) + b.val / 512 < cfg0.N := by rw [show cfg0.N = 88 from N_0]; omega
  have ha : a.val = 1024 * ((11 * (a.val / 1024) + b.val / 512) / 11) + a.val % 1024 := by omega
  have hb : b.val = 512 * ((11 * (a.val / 1024) + b.val / 512) % 11) + b.val % 512 := by omega
  have e := congrFun (Value.blocks5 m c ⟨_, hp⟩ (fl5 _)) (ix2 ⟨a.val % 1024, by omega⟩ ⟨b.val % 512, by omega⟩)
  rw [rb5 _ _ _ _ a b ha hb, Value.flushed5, ct5, ia0, ia1, ia2, ia3] at e
  refine e.trans ((blk5 _ _ _ _ _ _ _ a b ha hb).trans ?_)
  rfl

end Cert.KernelActIdeal.Prod

namespace Cert.ReferenceActIdeal.Prod
open Cert.ReferenceActIdeal Cert.ReferenceActIdeal.Gen Idealize.ShloMosaic Idealize.ShloMosaic.TcCoe Idealize.SL.Sem

/-- The reference's product. -/
theorem dot_at (x : FVec Ideal S8192x2048 .f32) (y : FVec Ideal S5632x2048 .f32) (a : Fin 8192) (b : Fin 5632) :
    (Host.dotGeneral dot_S8192x2048_S5632x2048_S8192x5632_1_1_0_0_n_n none (mulf (broadcastInDim S8192x2048 ![] bcast_S_S8192x2048 (constant S_ .f32 0x3F000000#32)) x) y : FVec Ideal S8192x5632 .f32) (ix2 a b) = Ideal.ofBits .f32 0x3F000000#32 * ∑ k : Fin 2048, x (ix2 a k) * y (ix2 b k) := by
  have e : (Host.dotGeneral dot_S8192x2048_S5632x2048_S8192x5632_1_1_0_0_n_n none (mulf (broadcastInDim S8192x2048 ![] bcast_S_S8192x2048 (constant S_ .f32 0x3F000000#32)) x) y : FVec Ideal S8192x5632 .f32) (ix2 a b) = (∑ k : Fin 2048, Ideal.ofBits .f32 0x3F000000#32 * x (ix2 a k) * y (ix2 b k)) := by pointwise []
  rw [e, mul_comm (Ideal.ofBits .f32 0x3F000000#32) (∑ k : Fin 2048, x (ix2 a k) * y (ix2 b k)), Cert.Dot.sum_scale]
  exact Finset.sum_congr rfl fun k _ => by rw [mul_assoc, mul_comm]

/-- The reference's logistic function. -/
theorem sig_at (u : FVec Ideal S8192x5632 .f32) (i : S8192x5632.Idx) :
    (Host.divf (broadcastInDim S8192x5632 ![] bcast_S_S8192x5632 (constant S_ .f32 0x3F800000#32)) (addf (broadcastInDim S8192x5632 ![] bcast_S_S8192x5632 (constant S_ .f32 0x3F800000#32)) (Host.exp (Host.negf u))) : FVec Ideal S8192x5632 .f32) i = Ideal.logistic (u i) := by
  rw [← Cert.Dot.logistic_bits]
  pointwise []

/-- The first result from the product and the logistic function. -/
theorem da_at (p s u v : FVec Ideal S8192x5632 .f32) (i : S8192x5632.Idx) :
    (truncf .bf16 (addf (mulf (mulf p v) s) (mulf (mulf u (mulf p v)) (mulf s (subf (broadcastInDim S8192x5632 ![] bcast_S_S8192x5632 (constant S_ .f32 0x3F800000#32)) s)))) bitsLt_bf16_f32 : FVec Ideal S8192x5632 .bf16) i = p i * v i * s i + u i * (p i * v i) * (s i * (Ideal.ofBits .f32 0x3F800000#32 - s i)) := by
  pointwise []

/-- The second result from the product and the logistic function. -/
theorem db_at (p s u : FVec Ideal S8192x5632 .f32) (i : S8192x5632.Idx) :
    (truncf .bf16 (mulf (mulf u s) p) bitsLt_bf16_f32 : FVec Ideal S8192x5632 .bf16) i = u i * s i * p i := by
  pointwise []

/-- An entry of the reference's first result, where the arguments but the gate's are real. -/
theorem ref4 (x : FVec Ideal S8192x2048 .f32) (y : FVec Ideal S5632x2048 .f32) (u v : FVec Ideal S8192x5632 .f32) (a : Fin 8192) (b : Fin 5632)
    (hx : ∀ i, ∃ r : ℝ, x i = (r : EReal)) (hy : ∀ i, ∃ r : ℝ, y i = (r : EReal)) (hv : ∀ i, ∃ r : ℝ, v i = (r : EReal)) :
    (truncf .bf16 (addf (mulf (mulf (Host.dotGeneral dot_S8192x2048_S5632x2048_S8192x5632_1_1_0_0_n_n none (mulf (broadcastInDim S8192x2048 ![] bcast_S_S8192x2048 (constant S_ .f32 0x3F000000#32)) x) y) v) (Host.divf (broadcastInDim S8192x5632 ![] bcast_S_S8192x5632 (constant S_ .f32 0x3F800000#32)) (addf (broadcastInDim S8192x5632 ![] bcast_S_S8192x5632 (constant S_ .f32 0x3F800000#32)) (Host.exp (Host.negf u))))) (mulf (mulf u (mulf (Host.dotGeneral dot_S8192x2048_S5632x2048_S8192x5632_1_1_0_0_n_n none (mulf (broadcastInDim S8192x2048 ![] bcast_S_S8192x2048 (constant S_ .f32 0x3F000000#32)) x) y) v)) (mulf (Host.divf (broadcastInDim S8192x5632 ![] bcast_S_S8192x5632 (constant S_ .f32 0x3F800000#32)) (addf (broadcastInDim S8192x5632 ![] bcast_S_S8192x5632 (constant S_ .f32 0x3F800000#32)) (Host.exp (Host.negf u)))) (subf (broadcastInDim S8192x5632 ![] bcast_S_S8192x5632 (constant S_ .f32 0x3F800000#32)) (Host.divf (broadcastInDim S8192x5632 ![] bcast_S_S8192x5632 (constant S_ .f32 0x3F800000#32)) (addf (broadcastInDim S8192x5632 ![] bcast_S_S8192x5632 (constant S_ .f32 0x3F800000#32)) (Host.exp (Host.negf u)))))))) bitsLt_bf16_f32 : FVec Ideal S8192x5632 .bf16) (ix2 a b) = Cert.KernelActIdeal.Prod.daOf (∑ k : Fin 2048, x (ix2 a k) * y (ix2 b k)) (u (ix2 a b)) (v (ix2 a b)) := by
  obtain ⟨d, hd⟩ := Cert.Dot.sum_real (fun k : Fin 2048 => x (ix2 a k)) (fun k => y (ix2 b k)) (fun k => hx _) (fun k => hy _)
  obtain ⟨e, he⟩ := hv (ix2 a b)
  rw [da_at, dot_at, sig_at, hd, he, Cert.Dot.half, Cert.Dot.one]
  show ((1 / 2 : ℝ) : EReal) * (d : EReal) * (e : EReal) * Ideal.logistic (u (ix2 a b)) + u (ix2 a b) * (((1 / 2 : ℝ) : EReal) * (d : EReal) * (e : EReal)) * (Ideal.logistic (u (ix2 a b)) * (1 - Ideal.logistic (u (ix2 a b))))
    = Ideal.ofBits .f32 0x3F000000#32 * (d : EReal) * (e : EReal) * (Ideal.logistic (u (ix2 a b)) * (1 + u (ix2 a b) * (1 - Ideal.logistic (u (ix2 a b)))))
  rw [Cert.Dot.half, ← EReal.coe_mul, ← EReal.coe_mul]
  exact (Cert.Dot.silu_slope _ _).symm

/-- An entry of the reference's second result. -/
theorem ref5 (x : FVec Ideal S8192x2048 .f32) (y : FVec Ideal S5632x2048 .f32) (u : FVec Ideal S8192x5632 .f32) (a : Fin 8192) (b : Fin 5632) :
    (truncf .bf16 (mulf (mulf u (Host.divf (broadcastInDim S8192x5632 ![] bcast_S_S8192x5632 (constant S_ .f32 0x3F800000#32)) (addf (broadcastInDim S8192x5632 ![] bcast_S_S8192x5632 (constant S_ .f32 0x3F800000#32)) (Host.exp (Host.negf u))))) (Host.dotGeneral dot_S8192x2048_S5632x2048_S8192x5632_1_1_0_0_n_n none (mulf (broadcastInDim S8192x2048 ![] bcast_S_S8192x2048 (constant S_ .f32 0x3F000000#32)) x) y)) bitsLt_bf16_f32 : FVec Ideal S8192x5632 .bf16) (ix2 a b) = Cert.KernelActIdeal.Prod.dbOf (∑ k : Fin 2048, x (ix2 a k) * y (ix2 b k)) (u (ix2 a b)) := by
  rw [db_at, dot_at, sig_at]
  exact mul_comm _ _

end Cert.ReferenceActIdeal.Prod

namespace Cert.Act
open Idealize.ShloMosaic Idealize.SL.Sem Idealize.ShloMosaic.StableHlo Cert.KernelActIdeal.Prod

attribute [local instance] Cert.KernelAct.Gen.facts Cert.KernelActIdeal.Gen.facts Cert.ReferenceActIdeal.Gen.facts Cert.Pre_finite_act.Gen.facts

set_option maxHeartbeats 2000000 in
/-- Where the arguments but the gate's are finite, the ideal call and the ideal reference return the same two arrays. -/
theorem algebraic : Cert.algebraic_KernelActIdeal_ReferenceActIdeal_pre_finite_act := by
  intro m g m' g' hp ha
  refine ⟨fun c => (Cert.KernelActIdeal.Gen.dats m 0 c).arrAt 4 Cert.KernelActIdeal.cfg0.N, fun c => (Cert.KernelActIdeal.Gen.dats m 0 c).arrAt 5 Cert.KernelActIdeal.cfg0.N,
    Cert.KernelActIdeal.Value.run_blocks m g, ?_⟩
  refine (θ_run _ _ _).mono (fun r h c => ?_) (Cert.ReferenceActIdeal.Value.run m' g')
  obtain ⟨h1, h2, hk⟩ := h c
  obtain ⟨rx, ry, rv⟩ := Cert.Pre_finite_act.Real.reals (hp c)
  obtain ⟨e0, e1, e2, e3⟩ := ha c
  rw [e0, e1, e2, e3] at h1
  rw [e0, e1, e2] at h2
  refine ⟨h1.trans (funext fun i => ?_), h2.trans (funext fun i => ?_), hk⟩
  · rw [eq_ix2 i]
    exact (Cert.ReferenceActIdeal.Prod.ref4 (ma m c) (mw m c) (mg m c) (mb m c) (i 0) (i 1) rx ry rv).trans (arr4 m c (i 0) (i 1)).symm
  · rw [eq_ix2 i]
    exact (Cert.ReferenceActIdeal.Prod.ref5 (ma m c) (mw m c) (mg m c) (i 0) (i 1)).trans (arr5 m c (i 0) (i 1)).symm

/-- The ideal reference keeps its arguments; it declares no semaphore. -/
theorem frameR : Cert.quiescent_ReferenceActIdeal := fun m g _ =>
  (θ_run _ _ _).mono (fun r h => ⟨fun c => (h c).2.2, sem_eq_zero_of_no_sems (by decide) r.2⟩) (Cert.ReferenceActIdeal.Value.run m g)

end Cert.Act
end
-- ==== Proof.WDown.lean ====
module

public import proofs.«01_k».proof.Proof.Gen.KernelWDownIdeal.Value
public import proofs.«01_k».proof.Proof.Gen.ReferenceWDownIdeal.Run
public import proofs.«01_k».proof.Proof.Gen.KernelWDown.Frame
public import proofs.«01_k».proof.Defs
public import proofs.«01_k».proof.Proof.Dot
public import Idealize.ShloMosaic.Lib.Pipeline.ReadBack
public import Idealize.ShloMosaic.Lib.Pipeline.ValueKit
public import Idealize.ShloMosaic.Lib.Pointwise

@[expose] public section

set_option maxRecDepth 16384

noncomputable section

namespace Cert.KernelWDownIdeal.Prod

open Cert.KernelWDownIdeal Cert.KernelWDownIdeal.Gen Idealize.ShloMosaic Idealize.ShloMosaic.TcCoe Idealize.SL.Sem

/-- One output block: the product of the two input blocks over the tokens, times one half. -/
theorem out_at (x : Vec Ideal S8192x512 .bf16) (y : Vec Ideal S8192x512 .bf16) (r l : Fin 512) :
    out0_2 x y (ix2 r l) = (∑ k : Fin 8192, x (ix2 k r) * y (ix2 k l)) * Ideal.ofBits .f32 0x3F000000#32 := by
  have e : out0_2 x y = k0_pay1 x y := by
    unfold out0_2
    frame_out
  rw [e]
  pointwise [k0_pay1]

theorem idx0 : ∀ t : Fin cfg0.N, (cfg0.win 0).index t = ![0, (grid0.coords t 0).val] := by decide +kernel
theorem idx1 : ∀ t : Fin cfg0.N, (cfg0.win 1).index t = ![0, (grid0.coords t 1).val] := by decide +kernel
theorem idx2 : ∀ t : Fin cfg0.N, (cfg0.win 2).index t = ![(grid0.coords t 0).val, (grid0.coords t 1).val] := by decide +kernel
theorem fl2 : ∀ t : Fin cfg0.N, (cfg0.win 2).flush t = true := by decide +kernel

theorem rb0 (X : FVec Ideal S8192x5632 .bf16) (t : Fin cfg0.N) (r : Fin 8192) (l : Fin 512) (b : Fin 5632) (hb : b.val = 512 * (grid0.coords t 0).val + l) :
    ((cfg0.win 0).blk t).view.read (Elt Ideal) X (ix2 r l) = X (ix2 r b) := by
  have e := idx0 t
  blk_simp [e]
  refine congrArg X ?_
  blk_ext [e]
theorem rb1 (X : FVec Ideal S8192x2048 .bf16) (t : Fin cfg0.N) (r : Fin 8192) (l : Fin 512) (b : Fin 2048) (hb : b.val = 512 * (grid0.coords t 1).val + l) :
    ((cfg0.win 1).blk t).view.read (Elt Ideal) X (ix2 r l) = X (ix2 r b) := by
  have e := idx1 t
  blk_simp [e]
  refine congrArg X ?_
  blk_ext [e]
theorem rb2 (X : FVec Ideal S5632x2048 .bf16) (t : Fin cfg0.N) (r l : Fin 512) (a : Fin 5632) (b : Fin 2048) (ha : a.val = 512 * (grid0.coords t 0).val + r) (hb : b.val = 512 * (grid0.coords t 1).val + l) :
    ((cfg0.win 2).blk t).view.read (Elt Ideal) X (ix2 r l) = X (ix2 a b) := by
  have e := idx2 t
  blk_simp [e]
  refine congrArg X ?_
  blk_ext [e]
theorem ct2 (X : Vec Ideal S512x512 .bf16) (t : Fin cfg0.N) (r l : Fin 512) : (cfg0.win 2).cut (grid0.coords t) X (ix2 r l) = X (ix2 r l) := rfl
theorem point : ∀ (n : Fin 11) (h : Fin 4), ∃ t : Fin cfg0.N, (grid0.coords t 0).val = n.val ∧ (grid0.coords t 1).val = h.val := by decide +kernel

variable (m : (ℓ : Loc nD τ sig) → Buf (Elt Ideal) ℓ) (c : Dev nD)

/-- The first argument of a device. -/
abbrev ma : FVec Ideal S8192x5632 .f32 := m (c, Proc.devRef .tc main_arg0)
/-- The second argument of a device. -/
abbrev mb : FVec Ideal S8192x2048 .f32 := m (c, Proc.devRef .tc main_arg1)

theorem v0 : V m c main_v0 = truncf .bf16 (ma m c) bitsLt_bf16_f32 := by
  unfold_abbrev_sides
  after_results
theorem v1 : V m c main_v1 = truncf .bf16 (mb m c) bitsLt_bf16_f32 := by
  unfold_abbrev_sides
  after_results

theorem ia0 (t : Fin cfg0.N) : iblk m c 0 t = ((cfg0.win 0).blk t).view.read (Elt Ideal) (truncf .bf16 (ma m c) bitsLt_bf16_f32) :=
  congrArg (fun X => ((cfg0.win 0).blk t).view.read (Elt Ideal) X) (v0 m c)
theorem ia1 (t : Fin cfg0.N) : iblk m c 1 t = ((cfg0.win 1).blk t).view.read (Elt Ideal) (truncf .bf16 (mb m c) bitsLt_bf16_f32) :=
  congrArg (fun X => ((cfg0.win 1).blk t).view.read (Elt Ideal) X) (v1 m c)

/-- A block of the result from the two argument arrays. -/
theorem blk_at (X : FVec Ideal S8192x5632 .bf16) (Y : FVec Ideal S8192x2048 .bf16) (t : Fin cfg0.N) (r l : Fin 512) (a : Fin 5632) (b : Fin 2048)
    (ha : a.val = 512 * (grid0.coords t 0).val + r) (hb : b.val = 512 * (grid0.coords t 1).val + l) :
    out0_2 (((cfg0.win 0).blk t).view.read (Elt Ideal) X) (((cfg0.win 1).blk t).view.read (Elt Ideal) Y) (ix2 r l)
      = (∑ k : Fin 8192, X (ix2 k a) * Y (ix2 k b)) * Ideal.ofBits .f32 0x3F000000#32 := by
  rw [out_at]
  refine congrArg (· * _) (Finset.sum_congr rfl fun k _ => ?_)
  rw [rb0 X t k r a ha, rb1 Y t k l b hb]

/-- An entry of the result after the run. -/
theorem arr_at (a : Fin 5632) (b : Fin 2048) :
    (dats m 0 c).arrAt 2 cfg0.N (ix2 a b) = (∑ k : Fin 8192, ma m c (ix2 k a) * mb m c (ix2 k b)) * Ideal.ofBits .f32 0x3F000000#32 := by
  obtain ⟨p, hn, hh⟩ := point ⟨a.val / 512, by omega⟩ ⟨b.val / 512, by omega⟩
  have ha : a.val = 512 * (grid0.coords p 0).val + a.val % 512 := by rw [hn]; show _ = 512 * (a.val / 512) + _; omega
  have hb : b.val = 512 * (grid0.coords p 1).val + b.val % 512 := by rw [hh]; show _ = 512 * (b.val / 512) + _; omega
  have e := congrFun (Value.blocks2 m c p (fl2 p)) (ix2 ⟨a.val % 512, by omega⟩ ⟨b.val % 512, by omega⟩)
  rw [rb2 _ p _ _ a b ha hb, Value.flushed2, ct2, ia0, ia1] at e
  exact e.trans (blk_at _ _ p _ _ a b ha hb)

end Cert.KernelWDownIdeal.Prod

namespace Cert.ReferenceWDownIdeal.Prod
open Cert.ReferenceWDownIdeal Cert.ReferenceWDownIdeal.Gen Idealize.ShloMosaic Idealize.ShloMosaic.TcCoe Idealize.SL.Sem

/-- An entry of the reference's result. -/
theorem ref_at (x : FVec Ideal S8192x5632 .f32) (y : FVec Ideal S8192x2048 .f32) (a : Fin 5632) (b : Fin 2048) :
    truncf .bf16 (transpose S5632x2048 [1, 0] (Host.dotGeneral dot_S8192x2048_S8192x5632_S2048x5632_0_0_1_1_n_n none (mulf (broadcastInDim S8192x2048 ![] bcast_S_S8192x2048 (constant S_ .f32 0x3F000000#32)) y) x) transposes_S2048x5632_S5632x2048_1_0) bitsLt_bf16_f32 (ix2 a b)
      = ∑ k : Fin 8192, (Ideal.ofBits .f32 0x3F000000#32 * y (ix2 k b)) * x (ix2 k a) := by
  pointwise []

end Cert.ReferenceWDownIdeal.Prod

namespace Cert.WDown
open Idealize.ShloMosaic Idealize.SL.Sem Idealize.ShloMosaic.StableHlo Cert.KernelWDownIdeal.Prod

attribute [local instance] Cert.KernelWDown.Gen.facts Cert.KernelWDownIdeal.Gen.facts Cert.ReferenceWDownIdeal.Gen.facts

set_option maxHeartbeats 2000000 in
/-- The ideal call and the ideal reference return the same array. -/
theorem algebraic : Cert.algebraic_KernelWDownIdeal_ReferenceWDownIdeal := by
  intro m g m' g' _ ha
  refine ⟨fun c => (Cert.KernelWDownIdeal.Gen.dats m 0 c).arrAt 2 Cert.KernelWDownIdeal.cfg0.N, Cert.KernelWDownIdeal.Value.run_blocks m g, ?_⟩
  refine (θ_run _ _ _).mono (fun r h c => ?_) (Cert.ReferenceWDownIdeal.Value.run m' g')
  obtain ⟨h1, hk⟩ := h c
  obtain ⟨e0, e1⟩ := ha c
  rw [e0, e1] at h1
  refine ⟨h1.trans (funext fun i => ?_), hk⟩
  rw [eq_ix2 i]
  refine (Cert.ReferenceWDownIdeal.Prod.ref_at (ma m c) (mb m c) (i 0) (i 1)).trans (Eq.trans ?_ (arr_at m c (i 0) (i 1)).symm)
  rw [Cert.Dot.sum_scale]
  exact Finset.sum_congr rfl fun k _ => Cert.Dot.swap _ _ _

/-- The ideal reference keeps its arguments; it declares no semaphore. -/
theorem frameR : Cert.quiescent_ReferenceWDownIdeal := fun m g _ =>
  (θ_run _ _ _).mono (fun r h => ⟨fun c => (h c).2, sem_eq_zero_of_no_sems (by decide) r.2⟩) (Cert.ReferenceWDownIdeal.Value.run m g)

end Cert.WDown
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Pre_finite_act
public import proofs.«01_k».proof.Proof.Gen.KernelIdeal.Value
public import proofs.«01_k».proof.Proof.Gen.ReferenceIdeal.Run
public import proofs.«01_k».proof.Proof.Tie
public import proofs.«01_k».proof.Proof.Gains
public import proofs.«01_k».proof.Proof.DMerge
public import proofs.«01_k».proof.Proof.Delta
public import proofs.«01_k».proof.Proof.Ple
public import proofs.«01_k».proof.Proof.LatB
public import proofs.«01_k».proof.Proof.LatF
public import proofs.«01_k».proof.Proof.RmsB
public import proofs.«01_k».proof.Proof.GBwd
public import proofs.«01_k».proof.Proof.GMerge
public import proofs.«01_k».proof.Proof.Rms
public import proofs.«01_k».proof.Proof.OMla
public import proofs.«01_k».proof.Proof.Ckv
public import proofs.«01_k».proof.Proof.Cq
public import proofs.«01_k».proof.Proof.WUkv
public import proofs.«01_k».proof.Proof.WUq
public import proofs.«01_k».proof.Proof.WLat
public import proofs.«01_k».proof.Proof.PleN
public import proofs.«01_k».proof.Proof.PleG
public import proofs.«01_k».proof.Proof.KvUp
public import proofs.«01_k».proof.Proof.QUp
public import proofs.«01_k».proof.Proof.PLat
public import proofs.«01_k».proof.Proof.Down
public import proofs.«01_k».proof.Proof.Up
public import proofs.«01_k».proof.Proof.Br
public import proofs.«01_k».proof.Proof.OBr
public import proofs.«01_k».proof.Proof.WBr
public import proofs.«01_k».proof.Proof.Out
public import proofs.«01_k».proof.Proof.WO
public import proofs.«01_k».proof.Proof.PGate
public import proofs.«01_k».proof.Proof.HGate
public import proofs.«01_k».proof.Proof.WGin
public import proofs.«01_k».proof.Proof.PDil
public import proofs.«01_k».proof.Proof.HDil
public import proofs.«01_k».proof.Proof.WDil
public import proofs.«01_k».proof.Proof.Norm
public import proofs.«01_k».proof.Proof.WGate
public import proofs.«01_k».proof.Proof.Act
public import proofs.«01_k».proof.Proof.WDown
public import Idealize.ShloMosaic.Adequacy
public import Idealize.ShloMosaic.Init

@[expose] public section

noncomputable section

namespace Cert.Proof

open Idealize.ShloMosaic Idealize.SL.Sem Cert.Kernel

/-- Every stated claim: frames, the ideal programs' relation to the programs, and the equality of each call with its reference. -/
theorem claim : Cert.Claim := ⟨
  Cert.Kernel.Gen.facts, Cert.KernelIdeal.Gen.facts, Cert.ReferenceIdeal.Gen.facts, Cert.KernelWDown.Gen.facts, Cert.KernelWDownIdeal.Gen.facts,
  Cert.ReferenceWDownIdeal.Gen.facts, Cert.KernelAct.Gen.facts, Cert.KernelActIdeal.Gen.facts, Cert.ReferenceActIdeal.Gen.facts,
  Cert.KernelWGate.Gen.facts, Cert.KernelWGateIdeal.Gen.facts, Cert.ReferenceWGateIdeal.Gen.facts, Cert.KernelNorm.Gen.facts,
  Cert.KernelNormIdeal.Gen.facts, Cert.ReferenceNormIdeal.Gen.facts, Cert.KernelWDil.Gen.facts, Cert.KernelWDilIdeal.Gen.facts,
  Cert.ReferenceWDilIdeal.Gen.facts, Cert.KernelHDil.Gen.facts, Cert.KernelHDilIdeal.Gen.facts, Cert.ReferenceHDilIdeal.Gen.facts,
  Cert.KernelPDil.Gen.facts, Cert.KernelPDilIdeal.Gen.facts, Cert.ReferencePDilIdeal.Gen.facts, Cert.KernelWGin.Gen.facts,
  Cert.KernelWGinIdeal.Gen.facts, Cert.ReferenceWGinIdeal.Gen.facts, Cert.KernelHGate.Gen.facts, Cert.KernelHGateIdeal.Gen.facts,
  Cert.ReferenceHGateIdeal.Gen.facts, Cert.KernelPGate.Gen.facts, Cert.KernelPGateIdeal.Gen.facts, Cert.ReferencePGateIdeal.Gen.facts,
  Cert.KernelWO.Gen.facts, Cert.KernelWOIdeal.Gen.facts, Cert.ReferenceWOIdeal.Gen.facts, Cert.KernelOut.Gen.facts, Cert.KernelOutIdeal.Gen.facts,
  Cert.ReferenceOutIdeal.Gen.facts, Cert.KernelWBr.Gen.facts, Cert.KernelWBrIdeal.Gen.facts, Cert.ReferenceWBrIdeal.Gen.facts,
  Cert.KernelOBr.Gen.facts, Cert.KernelOBrIdeal.Gen.facts, Cert.ReferenceOBrIdeal.Gen.facts, Cert.KernelBr.Gen.facts, Cert.KernelBrIdeal.Gen.facts,
  Cert.ReferenceBrIdeal.Gen.facts, Cert.KernelUp.Gen.facts, Cert.KernelUpIdeal.Gen.facts, Cert.ReferenceUpIdeal.Gen.facts, Cert.KernelDown.Gen.facts,
  Cert.KernelDownIdeal.Gen.facts, Cert.ReferenceDownIdeal.Gen.facts, Cert.KernelPLat.Gen.facts, Cert.KernelPLatIdeal.Gen.facts,
  Cert.ReferencePLatIdeal.Gen.facts, Cert.KernelQUp.Gen.facts, Cert.KernelQUpIdeal.Gen.facts, Cert.ReferenceQUpIdeal.Gen.facts,
  Cert.KernelKvUp.Gen.facts, Cert.KernelKvUpIdeal.Gen.facts, Cert.ReferenceKvUpIdeal.Gen.facts, Cert.KernelPleG.Gen.facts,
  Cert.KernelPleGIdeal.Gen.facts, Cert.ReferencePleGIdeal.Gen.facts, Cert.KernelPleN.Gen.facts, Cert.KernelPleNIdeal.Gen.facts,
  Cert.ReferencePleNIdeal.Gen.facts, Cert.KernelWLat.Gen.facts, Cert.KernelWLatIdeal.Gen.facts, Cert.ReferenceWLatIdeal.Gen.facts,
  Cert.KernelWUq.Gen.facts, Cert.KernelWUqIdeal.Gen.facts, Cert.ReferenceWUqIdeal.Gen.facts, Cert.KernelWUkv.Gen.facts, Cert.KernelWUkvIdeal.Gen.facts,
  Cert.ReferenceWUkvIdeal.Gen.facts, Cert.KernelCq.Gen.facts, Cert.KernelCqIdeal.Gen.facts, Cert.ReferenceCqIdeal.Gen.facts, Cert.KernelCkv.Gen.facts,
  Cert.KernelCkvIdeal.Gen.facts, Cert.ReferenceCkvIdeal.Gen.facts, Cert.KernelOMla.Gen.facts, Cert.KernelOMlaIdeal.Gen.facts,
  Cert.ReferenceOMlaIdeal.Gen.facts, Cert.KernelRms.Gen.facts, Cert.KernelRmsIdeal.Gen.facts, Cert.ReferenceRmsIdeal.Gen.facts,
  Cert.KernelGMerge.Gen.facts, Cert.KernelGMergeIdeal.Gen.facts, Cert.ReferenceGMergeIdeal.Gen.facts, Cert.KernelGBwd.Gen.facts,
  Cert.KernelGBwdIdeal.Gen.facts, Cert.ReferenceGBwdIdeal.Gen.facts, Cert.KernelRmsB.Gen.facts, Cert.KernelRmsBIdeal.Gen.facts,
  Cert.ReferenceRmsBIdeal.Gen.facts, Cert.KernelLatF.Gen.facts, Cert.KernelLatFIdeal.Gen.facts, Cert.ReferenceLatFIdeal.Gen.facts,
  Cert.KernelLatB.Gen.facts, Cert.KernelLatBIdeal.Gen.facts, Cert.ReferenceLatBIdeal.Gen.facts, Cert.KernelPle.Gen.facts,
  Cert.KernelPleIdeal.Gen.facts, Cert.ReferencePleIdeal.Gen.facts, Cert.KernelDelta.Gen.facts, Cert.KernelDeltaIdeal.Gen.facts,
  Cert.ReferenceDeltaIdeal.Gen.facts, Cert.KernelDMerge.Gen.facts, Cert.KernelDMergeIdeal.Gen.facts, Cert.ReferenceDMergeIdeal.Gen.facts,
  Cert.KernelGains.Gen.facts, Cert.KernelGainsIdeal.Gen.facts, Cert.ReferenceGainsIdeal.Gen.facts, Cert.Pre_finite.Gen.facts,
  Cert.Pre_finite_act.Gen.facts, fun m ρ _ => Cert.Kernel.Gen.frame m ρ, fun m ρ _ => Cert.KernelIdeal.Gen.frame m ρ,
  fun m ρ _ => Cert.KernelIdeal.Gen.frame m ρ, Cert.Tie.frameR, fun m ρ _ => Cert.Tie.frameR m ρ trivial, fun m ρ _ => Cert.KernelWDown.Gen.frame m ρ,
  fun m ρ _ => Cert.KernelWDownIdeal.Gen.frame m ρ, Cert.WDown.frameR, fun m ρ _ => Cert.KernelAct.Gen.frame m ρ,
  fun m ρ _ => Cert.KernelActIdeal.Gen.frame m ρ, fun m ρ _ => Cert.KernelActIdeal.Gen.frame m ρ, Cert.Act.frameR,
  fun m ρ _ => Cert.Act.frameR m ρ trivial, fun m ρ _ => Cert.KernelWGate.Gen.frame m ρ, fun m ρ _ => Cert.KernelWGateIdeal.Gen.frame m ρ,
  Cert.WGate.frameR, fun m ρ _ => Cert.KernelNorm.Gen.frame m ρ, fun m ρ _ => Cert.KernelNormIdeal.Gen.frame m ρ, Cert.Norm.frameR,
  fun m ρ _ => Cert.KernelWDil.Gen.frame m ρ, fun m ρ _ => Cert.KernelWDilIdeal.Gen.frame m ρ, Cert.WDil.frameR,
  fun m ρ _ => Cert.KernelHDil.Gen.frame m ρ, fun m ρ _ => Cert.KernelHDilIdeal.Gen.frame m ρ, Cert.HDil.frameR,
  fun m ρ _ => Cert.KernelPDil.Gen.frame m ρ, fun m ρ _ => Cert.KernelPDilIdeal.Gen.frame m ρ, Cert.PDil.frameR,
  fun m ρ _ => Cert.KernelWGin.Gen.frame m ρ, fun m ρ _ => Cert.KernelWGinIdeal.Gen.frame m ρ, Cert.WGin.frameR,
  fun m ρ _ => Cert.KernelHGate.Gen.frame m ρ, fun m ρ _ => Cert.KernelHGateIdeal.Gen.frame m ρ, Cert.HGate.frameR,
  fun m ρ _ => Cert.KernelPGate.Gen.frame m ρ, fun m ρ _ => Cert.KernelPGateIdeal.Gen.frame m ρ, Cert.PGate.frameR,
  fun m ρ _ => Cert.KernelWO.Gen.frame m ρ, fun m ρ _ => Cert.KernelWOIdeal.Gen.frame m ρ, Cert.WO.frameR, fun m ρ _ => Cert.KernelOut.Gen.frame m ρ,
  fun m ρ _ => Cert.KernelOutIdeal.Gen.frame m ρ, Cert.Out.frameR, fun m ρ _ => Cert.KernelWBr.Gen.frame m ρ,
  fun m ρ _ => Cert.KernelWBrIdeal.Gen.frame m ρ, Cert.WBr.frameR, fun m ρ _ => Cert.KernelOBr.Gen.frame m ρ,
  fun m ρ _ => Cert.KernelOBrIdeal.Gen.frame m ρ, Cert.OBr.frameR, fun m ρ _ => Cert.KernelBr.Gen.frame m ρ,
  fun m ρ _ => Cert.KernelBrIdeal.Gen.frame m ρ, Cert.Br.frameR, fun m ρ _ => Cert.KernelUp.Gen.frame m ρ,
  fun m ρ _ => Cert.KernelUpIdeal.Gen.frame m ρ, Cert.Up.frameR, fun m ρ _ => Cert.KernelDown.Gen.frame m ρ,
  fun m ρ _ => Cert.KernelDownIdeal.Gen.frame m ρ, Cert.Down.frameR, fun m ρ _ => Cert.KernelPLat.Gen.frame m ρ,
  fun m ρ _ => Cert.KernelPLatIdeal.Gen.frame m ρ, Cert.PLat.frameR, fun m ρ _ => Cert.KernelQUp.Gen.frame m ρ,
  fun m ρ _ => Cert.KernelQUpIdeal.Gen.frame m ρ, Cert.QUp.frameR, fun m ρ _ => Cert.KernelKvUp.Gen.frame m ρ,
  fun m ρ _ => Cert.KernelKvUpIdeal.Gen.frame m ρ, Cert.KvUp.frameR, fun m ρ _ => Cert.KernelPleG.Gen.frame m ρ,
  fun m ρ _ => Cert.KernelPleGIdeal.Gen.frame m ρ, Cert.PleG.frameR, fun m ρ _ => Cert.KernelPleN.Gen.frame m ρ,
  fun m ρ _ => Cert.KernelPleNIdeal.Gen.frame m ρ, Cert.PleN.frameR, fun m ρ _ => Cert.KernelWLat.Gen.frame m ρ,
  fun m ρ _ => Cert.KernelWLatIdeal.Gen.frame m ρ, Cert.WLat.frameR, fun m ρ _ => Cert.KernelWUq.Gen.frame m ρ,
  fun m ρ _ => Cert.KernelWUqIdeal.Gen.frame m ρ, Cert.WUq.frameR, fun m ρ _ => Cert.KernelWUkv.Gen.frame m ρ,
  fun m ρ _ => Cert.KernelWUkvIdeal.Gen.frame m ρ, Cert.WUkv.frameR, fun m ρ _ => Cert.KernelCq.Gen.frame m ρ,
  fun m ρ _ => Cert.KernelCqIdeal.Gen.frame m ρ, Cert.Cq.frameR, fun m ρ _ => Cert.KernelCkv.Gen.frame m ρ,
  fun m ρ _ => Cert.KernelCkvIdeal.Gen.frame m ρ, Cert.Ckv.frameR, fun m ρ _ => Cert.KernelOMla.Gen.frame m ρ,
  fun m ρ _ => Cert.KernelOMlaIdeal.Gen.frame m ρ, Cert.OMla.frameR, fun m ρ _ => Cert.KernelRms.Gen.frame m ρ,
  fun m ρ _ => Cert.KernelRmsIdeal.Gen.frame m ρ, Cert.Rms.frameR, fun m ρ _ => Cert.KernelGMerge.Gen.frame m ρ,
  fun m ρ _ => Cert.KernelGMergeIdeal.Gen.frame m ρ, Cert.GMerge.frameR, fun m ρ _ => Cert.KernelGBwd.Gen.frame m ρ,
  fun m ρ _ => Cert.KernelGBwdIdeal.Gen.frame m ρ, Cert.GBwd.frameR, fun m ρ _ => Cert.KernelRmsB.Gen.frame m ρ,
  fun m ρ _ => Cert.KernelRmsBIdeal.Gen.frame m ρ, Cert.RmsB.frameR, fun m ρ _ => Cert.KernelLatF.Gen.frame m ρ,
  fun m ρ _ => Cert.KernelLatFIdeal.Gen.frame m ρ, Cert.LatF.frameR, fun m ρ _ => Cert.KernelLatB.Gen.frame m ρ,
  fun m ρ _ => Cert.KernelLatBIdeal.Gen.frame m ρ, Cert.LatB.frameR, fun m ρ _ => Cert.KernelPle.Gen.frame m ρ,
  fun m ρ _ => Cert.KernelPleIdeal.Gen.frame m ρ, Cert.Ple.frameR, fun m ρ _ => Cert.KernelDelta.Gen.frame m ρ,
  fun m ρ _ => Cert.KernelDeltaIdeal.Gen.frame m ρ, Cert.Delta.frameR, fun m ρ _ => Cert.KernelDMerge.Gen.frame m ρ,
  fun m ρ _ => Cert.KernelDMergeIdeal.Gen.frame m ρ, Cert.DMerge.frameR, fun m ρ _ => Cert.KernelGains.Gen.frame m ρ,
  fun m ρ _ => Cert.KernelGainsIdeal.Gen.frame m ρ, Cert.Gains.frameR, Cert.Tie.mask, Cert.Tie.algebraic, trivial, Cert.WDown.algebraic, trivial,
  Cert.Act.algebraic, trivial, Cert.WGate.algebraic, trivial, Cert.Norm.algebraic, trivial, Cert.WDil.algebraic, trivial, Cert.HDil.algebraic, trivial,
  Cert.PDil.algebraic, trivial, Cert.WGin.algebraic, trivial, Cert.HGate.algebraic, trivial, Cert.PGate.algebraic, trivial, Cert.WO.algebraic, trivial,
  Cert.Out.algebraic, trivial, Cert.WBr.algebraic, trivial, Cert.OBr.algebraic, trivial, Cert.Br.algebraic, trivial, Cert.Up.algebraic, trivial,
  Cert.Down.algebraic, trivial, Cert.PLat.algebraic, trivial, Cert.QUp.algebraic, trivial, Cert.KvUp.algebraic, trivial, Cert.PleG.algebraic, trivial,
  Cert.PleN.algebraic, trivial, Cert.WLat.algebraic, trivial, Cert.WUq.algebraic, trivial, Cert.WUkv.algebraic, trivial, Cert.Cq.algebraic, trivial,
  Cert.Ckv.algebraic, trivial, Cert.OMla.algebraic, trivial, Cert.Rms.algebraic, trivial, Cert.GMerge.algebraic, trivial, Cert.GBwd.algebraic, trivial,
  Cert.RmsB.algebraic, trivial, Cert.LatF.algebraic, trivial, Cert.LatB.algebraic, trivial, Cert.Ple.algebraic, trivial, Cert.Delta.algebraic, trivial,
  Cert.DMerge.algebraic, trivial, Cert.Gains.algebraic⟩

end Cert.Proof

end
